-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_pre2 [hPre_pre2 : Cert.Pre_pre2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_pre2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_pre2 [hPre_pre2 : Cert.Pre_pre2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_pre2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_pre2 [hKernel2Ideal : Cert.Kernel2Ideal.Facts] [hPre_pre2 : Cert.Pre_pre2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_pre2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_pre2 [hReference2Ideal : Cert.Reference2Ideal.Facts] [hPre_pre2 : Cert.Pre_pre2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_pre2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "gelu_cubic" .f32 0x3D372713#32 ((8943 / 200000 : ℝ) : EReal)
  ∧ IdealRules.named_const.Statement Cert.KernelIdeal.κ "gelu_cubic3" .f32 0x3E095D4F#32 ((26829 / 200000 : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)) (v6 : (c : Dev Cert.KernelIdeal.nD) → Buf (Elt Ideal) ((c.tc : Thread Cert.KernelIdeal.nD Cert.KernelIdeal.τ).loc Cert.KernelIdeal.main_v1_6)) (v7 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_v1_6) = v6 c
          ∧ r.2.mem ((c.tc : Thread Cert.KernelIdeal.nD Cert.KernelIdeal.τ).loc Cert.KernelIdeal.main_v0_1) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_v112) = v4 c
          ∧ r.2.mem ((c.tc : Thread Cert.ReferenceIdeal.nD Cert.ReferenceIdeal.τ).loc Cert.ReferenceIdeal.main_v109) = v5 c
          ∧ r.2.mem ((c.tc : Thread Cert.ReferenceIdeal.nD Cert.ReferenceIdeal.τ).loc Cert.ReferenceIdeal.main_v104) = v6 c
          ∧ r.2.mem ((c.tc : Thread Cert.ReferenceIdeal.nD Cert.ReferenceIdeal.τ).loc Cert.ReferenceIdeal.main_v116) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_pre2 [hKernel2Ideal : Cert.Kernel2Ideal.Facts] [hReference2Ideal : Cert.Reference2Ideal.Facts] [hPre_pre2 : Cert.Pre_pre2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_pre2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v4)) (v3 : (c : Dev Cert.Kernel2Ideal.nD) → Buf (Elt Ideal) ((c.tc : Thread Cert.Kernel2Ideal.nD Cert.Kernel2Ideal.τ).loc Cert.Kernel2Ideal.main_v6)) (v4 : (c : Dev Cert.Kernel2Ideal.nD) → Buf (Elt Ideal) ((c.tc : Thread Cert.Kernel2Ideal.nD Cert.Kernel2Ideal.τ).loc Cert.Kernel2Ideal.main_v7_0)) (v5 : (c : Dev Cert.Kernel2Ideal.nD) → Buf (Elt Ideal) ((c.tc : Thread Cert.Kernel2Ideal.nD Cert.Kernel2Ideal.τ).loc Cert.Kernel2Ideal.main_v7_1)) (v6 : (c : Dev Cert.Kernel2Ideal.nD) → Buf (Elt Ideal) ((c.tc : Thread Cert.Kernel2Ideal.nD Cert.Kernel2Ideal.τ).loc Cert.Kernel2Ideal.main_v8)) (v7 : (c : Dev Cert.Kernel2Ideal.nD) → Buf (Elt Ideal) ((c.tc : Thread Cert.Kernel2Ideal.nD Cert.Kernel2Ideal.τ).loc Cert.Kernel2Ideal.main_v9)) (v8 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v4) = v2 c
          ∧ r.2.mem ((c.tc : Thread Cert.Kernel2Ideal.nD Cert.Kernel2Ideal.τ).loc Cert.Kernel2Ideal.main_v6) = v3 c
          ∧ r.2.mem ((c.tc : Thread Cert.Kernel2Ideal.nD Cert.Kernel2Ideal.τ).loc Cert.Kernel2Ideal.main_v7_0) = v4 c
          ∧ r.2.mem ((c.tc : Thread Cert.Kernel2Ideal.nD Cert.Kernel2Ideal.τ).loc Cert.Kernel2Ideal.main_v7_1) = v5 c
          ∧ r.2.mem ((c.tc : Thread Cert.Kernel2Ideal.nD Cert.Kernel2Ideal.τ).loc Cert.Kernel2Ideal.main_v8) = v6 c
          ∧ r.2.mem ((c.tc : Thread Cert.Kernel2Ideal.nD Cert.Kernel2Ideal.τ).loc Cert.Kernel2Ideal.main_v9) = v7 c
          ∧ r.2.mem ((c.tc : Thread Cert.Kernel2Ideal.nD Cert.Kernel2Ideal.τ).loc Cert.Kernel2Ideal.main_v10) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_v79) = v1 c
          ∧ r.2.mem ((c.tc : Thread Cert.Reference2Ideal.nD Cert.Reference2Ideal.τ).loc Cert.Reference2Ideal.main_v80) = v2 c
          ∧ r.2.mem ((c.tc : Thread Cert.Reference2Ideal.nD Cert.Reference2Ideal.τ).loc Cert.Reference2Ideal.main_v81) = v3 c
          ∧ r.2.mem ((c.tc : Thread Cert.Reference2Ideal.nD Cert.Reference2Ideal.τ).loc Cert.Reference2Ideal.main_v61) = v4 c
          ∧ r.2.mem ((c.tc : Thread Cert.Reference2Ideal.nD Cert.Reference2Ideal.τ).loc Cert.Reference2Ideal.main_v82) = v5 c
          ∧ r.2.mem ((c.tc : Thread Cert.Reference2Ideal.nD Cert.Reference2Ideal.τ).loc Cert.Reference2Ideal.main_v44) = v6 c
          ∧ r.2.mem ((c.tc : Thread Cert.Reference2Ideal.nD Cert.Reference2Ideal.τ).loc Cert.Reference2Ideal.main_v83) = v7 c
          ∧ r.2.mem ((c.tc : Thread Cert.Reference2Ideal.nD Cert.Reference2Ideal.τ).loc Cert.Reference2Ideal.main_v64) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v0)) (v1 : (c : Dev Cert.Kernel3Ideal.nD) → Buf (Elt Ideal) ((c.tc : Thread Cert.Kernel3Ideal.nD Cert.Kernel3Ideal.τ).loc Cert.Kernel3Ideal.main_v10)) (v2 : (c : Dev Cert.Kernel3Ideal.nD) → Buf (Elt Ideal) ((c.tc : Thread Cert.Kernel3Ideal.nD Cert.Kernel3Ideal.τ).loc Cert.Kernel3Ideal.main_v2_0)) (v3 : (c : Dev Cert.Kernel3Ideal.nD) → Buf (Elt Ideal) ((c.tc : Thread Cert.Kernel3Ideal.nD Cert.Kernel3Ideal.τ).loc Cert.Kernel3Ideal.main_v3_0)) (v4 : (c : Dev Cert.Kernel3Ideal.nD) → Buf (Elt Ideal) ((c.tc : Thread Cert.Kernel3Ideal.nD Cert.Kernel3Ideal.τ).loc Cert.Kernel3Ideal.main_v3_1)) (v5 : (c : Dev Cert.Kernel3Ideal.nD) → Buf (Elt Ideal) ((c.tc : Thread Cert.Kernel3Ideal.nD Cert.Kernel3Ideal.τ).loc Cert.Kernel3Ideal.main_v4_1)) (v6 : (c : Dev Cert.Kernel3Ideal.nD) → Buf (Elt Ideal) ((c.tc : Thread Cert.Kernel3Ideal.nD Cert.Kernel3Ideal.τ).loc Cert.Kernel3Ideal.main_v5_1)) (v7 : (c : Dev Cert.Kernel3Ideal.nD) → Buf (Elt Ideal) ((c.tc : Thread Cert.Kernel3Ideal.nD Cert.Kernel3Ideal.τ).loc Cert.Kernel3Ideal.main_v5_2)) (v8 : (c : Dev Cert.Kernel3Ideal.nD) → Buf (Elt Ideal) ((c.tc : Thread Cert.Kernel3Ideal.nD Cert.Kernel3Ideal.τ).loc Cert.Kernel3Ideal.main_v7)) (v9 : (c : Dev Cert.Kernel3Ideal.nD) → Buf (Elt Ideal) ((c.tc : Thread Cert.Kernel3Ideal.nD Cert.Kernel3Ideal.τ).loc Cert.Kernel3Ideal.main_v8_0)) (v10 : (c : Dev Cert.Kernel3Ideal.nD) → Buf (Elt Ideal) ((c.tc : Thread Cert.Kernel3Ideal.nD Cert.Kernel3Ideal.τ).loc Cert.Kernel3Ideal.main_v8_1)) (v11 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_v10) = v1 c
          ∧ r.2.mem ((c.tc : Thread Cert.Kernel3Ideal.nD Cert.Kernel3Ideal.τ).loc Cert.Kernel3Ideal.main_v2_0) = v2 c
          ∧ r.2.mem ((c.tc : Thread Cert.Kernel3Ideal.nD Cert.Kernel3Ideal.τ).loc Cert.Kernel3Ideal.main_v3_0) = v3 c
          ∧ r.2.mem ((c.tc : Thread Cert.Kernel3Ideal.nD Cert.Kernel3Ideal.τ).loc Cert.Kernel3Ideal.main_v3_1) = v4 c
          ∧ r.2.mem ((c.tc : Thread Cert.Kernel3Ideal.nD Cert.Kernel3Ideal.τ).loc Cert.Kernel3Ideal.main_v4_1) = v5 c
          ∧ r.2.mem ((c.tc : Thread Cert.Kernel3Ideal.nD Cert.Kernel3Ideal.τ).loc Cert.Kernel3Ideal.main_v5_1) = v6 c
          ∧ r.2.mem ((c.tc : Thread Cert.Kernel3Ideal.nD Cert.Kernel3Ideal.τ).loc Cert.Kernel3Ideal.main_v5_2) = v7 c
          ∧ r.2.mem ((c.tc : Thread Cert.Kernel3Ideal.nD Cert.Kernel3Ideal.τ).loc Cert.Kernel3Ideal.main_v7) = v8 c
          ∧ r.2.mem ((c.tc : Thread Cert.Kernel3Ideal.nD Cert.Kernel3Ideal.τ).loc Cert.Kernel3Ideal.main_v8_0) = v9 c
          ∧ r.2.mem ((c.tc : Thread Cert.Kernel3Ideal.nD Cert.Kernel3Ideal.τ).loc Cert.Kernel3Ideal.main_v8_1) = v10 c
          ∧ r.2.mem ((c.tc : Thread Cert.Kernel3Ideal.nD Cert.Kernel3Ideal.τ).loc Cert.Kernel3Ideal.main_v9) = v11 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v152) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_v48) = v2 c
          ∧ r.2.mem ((c.tc : Thread Cert.Reference3Ideal.nD Cert.Reference3Ideal.τ).loc Cert.Reference3Ideal.main_v57) = v3 c
          ∧ r.2.mem ((c.tc : Thread Cert.Reference3Ideal.nD Cert.Reference3Ideal.τ).loc Cert.Reference3Ideal.main_v59) = v4 c
          ∧ r.2.mem ((c.tc : Thread Cert.Reference3Ideal.nD Cert.Reference3Ideal.τ).loc Cert.Reference3Ideal.main_v153) = v5 c
          ∧ r.2.mem ((c.tc : Thread Cert.Reference3Ideal.nD Cert.Reference3Ideal.τ).loc Cert.Reference3Ideal.main_v107) = v6 c
          ∧ r.2.mem ((c.tc : Thread Cert.Reference3Ideal.nD Cert.Reference3Ideal.τ).loc Cert.Reference3Ideal.main_v100) = v7 c
          ∧ r.2.mem ((c.tc : Thread Cert.Reference3Ideal.nD Cert.Reference3Ideal.τ).loc Cert.Reference3Ideal.main_v154) = v8 c
          ∧ r.2.mem ((c.tc : Thread Cert.Reference3Ideal.nD Cert.Reference3Ideal.τ).loc Cert.Reference3Ideal.main_v139) = v9 c
          ∧ r.2.mem ((c.tc : Thread Cert.Reference3Ideal.nD Cert.Reference3Ideal.τ).loc Cert.Reference3Ideal.main_v155) = v10 c
          ∧ r.2.mem ((c.tc : Thread Cert.Reference3Ideal.nD Cert.Reference3Ideal.τ).loc Cert.Reference3Ideal.main_v122) = v11 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1)) (v1 : (c : Dev Cert.Kernel4Ideal.nD) → Buf (Elt Ideal) ((c.tc : Thread Cert.Kernel4Ideal.nD Cert.Kernel4Ideal.τ).loc Cert.Kernel4Ideal.main_v2)) (v2 : (c : Dev Cert.Kernel4Ideal.nD) → Buf (Elt Ideal) ((c.tc : Thread Cert.Kernel4Ideal.nD Cert.Kernel4Ideal.τ).loc Cert.Kernel4Ideal.main_v3_0)) (v3 : (c : Dev Cert.Kernel4Ideal.nD) → Buf (Elt Ideal) ((c.tc : Thread Cert.Kernel4Ideal.nD Cert.Kernel4Ideal.τ).loc Cert.Kernel4Ideal.main_v3_1)) (v4 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_v2) = v1 c
          ∧ r.2.mem ((c.tc : Thread Cert.Kernel4Ideal.nD Cert.Kernel4Ideal.τ).loc Cert.Kernel4Ideal.main_v3_0) = v2 c
          ∧ r.2.mem ((c.tc : Thread Cert.Kernel4Ideal.nD Cert.Kernel4Ideal.τ).loc Cert.Kernel4Ideal.main_v3_1) = v3 c
          ∧ r.2.mem ((c.tc : Thread Cert.Kernel4Ideal.nD Cert.Kernel4Ideal.τ).loc Cert.Kernel4Ideal.main_v4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_v44) = v1 c
          ∧ r.2.mem ((c.tc : Thread Cert.Reference4Ideal.nD Cert.Reference4Ideal.τ).loc Cert.Reference4Ideal.main_v40) = v2 c
          ∧ r.2.mem ((c.tc : Thread Cert.Reference4Ideal.nD Cert.Reference4Ideal.τ).loc Cert.Reference4Ideal.main_v45) = v3 c
          ∧ r.2.mem ((c.tc : Thread Cert.Reference4Ideal.nD Cert.Reference4Ideal.τ).loc Cert.Reference4Ideal.main_v23) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_pre : Cert.Pre_pre.Facts) (hPre_pre2 : Cert.Pre_pre2.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ quiescent_Kernel2 (hKernel2 := hKernel2)
    ∧ quiescent_Kernel2Ideal (hKernel2Ideal := hKernel2Ideal)
    ∧ quiescent_Kernel2Ideal_pre_pre2 (hKernel2Ideal := hKernel2Ideal) (hPre_pre2 := hPre_pre2)
    ∧ quiescent_Reference2Ideal (hReference2Ideal := hReference2Ideal)
    ∧ quiescent_Reference2Ideal_pre_pre2 (hReference2Ideal := hReference2Ideal) (hPre_pre2 := hPre_pre2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_pre (hKernelIdeal := hKernelIdeal) (hReferenceIdeal := hReferenceIdeal) (hPre_pre := hPre_pre)
    ∧ preserves_Kernel2_Kernel2Ideal
    ∧ algebraic_Kernel2Ideal_Reference2Ideal_pre_pre2 (hKernel2Ideal := hKernel2Ideal) (hReference2Ideal := hReference2Ideal) (hPre_pre2 := hPre_pre2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_pre.lean ====
abbrev S2048x1024 : Shape := ⟨2, ![2048, 1024]⟩
abbrev S2048x2048 : Shape := ⟨2, ![2048, 2048]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S2048x1024 .f32) (main_arg5 : FVec F S1x1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  main_v28

def fn {F : FTy → Type} [FloatOps F] (main_arg0 : FVec F S2048x1024 .f32) (main_arg1 : FVec F S2048x2048 .f32) (main_arg2 : FVec F S2048x1024 .f32) (main_arg3 : FVec F S2048x1024 .f32) (main_arg4 : FVec F S2048x1024 .f32) (main_arg5 : FVec F S1x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_v13 main_v16
-- ==== Pre_pre2.lean ====
abbrev S2048x1024 : Shape := ⟨2, ![2048, 1024]⟩
abbrev S1024x1024 : Shape := ⟨2, ![1024, 1024]⟩
abbrev S1x1024 : Shape := ⟨2, ![1, 1024]⟩
abbrev S4x1024x1408 : Shape := ⟨3, ![4, 1024, 1408]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S4x1024x1408 : S_.BroadcastsInDim S4x1024x1408 (![] : Fin 0 → Fin S4x1024x1408.rank)
  reducesTo_S4x1024x1408_S_d0_1_2 : S4x1024x1408.ReducesTo [0, 1, 2] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg7 : FVec F S2048x1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  main_v38

def fn_part1 {F : FTy → Type} [FloatOps F] (main_arg4 : FVec F S4x1024x1408 .bf16) (main_arg5 : FVec F S2816x1024 .bf16) (main_arg6 : FVec F S1x1024 .f32) (main_arg7 : FVec F S2048x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S4x1024x1408 .bf16 := Host.absf main_arg4
  let main_cst_6 : FVec F S_ .bf16 := constant S_ .bf16 0x7F80#16
  let main_v20 : FVec F S4x1024x1408 .bf16 := broadcastInDim S4x1024x1408 ![] bcast_S_S4x1024x1408 main_cst_6
  let main_v21 : IVec S4x1024x1408 1 := cmpf .olt main_v19 main_v20
  let main_c_7 : IVec S_ 1 := constantI S_ 1 1#1
  let main_v22 : IVec S_ 1 := (fun x v => Host.reduce IntOp.andi x v reducesTo_S4x1024x1408_S_d0_1_2 h_S_) main_v21 main_c_7
  let main_v23 : IVec S_ 1 := andi main_v18 main_v22
  let main_v24 : FVec F S2816x1024 .bf16 := Host.absf main_arg5
  let main_cst_8 : FVec F S_ .bf16 := constant S_ .bf16 0x7F80#16
  let main_v25 : FVec F S2816x1024 .bf16 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_v33

def fn {F : FTy → Type} [FloatOps F] (main_arg0 : FVec F S2048x1024 .bf16) (main_arg1 : FVec F S2048x1024 .f32) (main_arg2 : FVec F S1024x1024 .bf16) (main_arg3 : FVec F S1x1024 .f32) (main_arg4 : FVec F S4x1024x1408 .bf16) (main_arg5 : FVec F S2816x1024 .bf16) (main_arg6 : FVec F S1x1024 .f32) (main_arg7 : FVec F S2048x1024 .f32) : IVec S_ 1 :=
  let main_v0 : FVec F S2048x1024 .bf16 := Host.absf main_arg0
  let main_cst : FVec F S_ .bf16 := constant S_ .bf16 0x7F80#16
  let main_v1 : FVec F S2048x1024 .bf16 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024x1024 .bf16 := Host.absf main_arg2
  let main_cst_2 : FVec F S_ .bf16 := constant S_ .bf16 0x7F80#16
  let main_v10 : FVec F S1024x1024 .bf16 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_v13 main_v16
-- ==== Kernel.lean ====
abbrev S2048x1024 : Shape := ⟨2, ![2048, 1024]⟩
abbrev S2048x2048 : Shape := ⟨2, ![2048, 2048]⟩
abbrev S1x1024 : Shape := ⟨2, ![1, 1024]⟩
abbrev S2048x256 : Shape := ⟨2, ![2048, 256]⟩
abbrev S1x256 : Shape := ⟨2, ![1, 256]⟩
abbrev S64x256 : Shape := ⟨2, ![64, 256]⟩
abbrev S8x256 : Shape := ⟨2, ![8, 256]⟩
abbrev S256 : Shape := ⟨1, ![256]⟩

abbrev nBuf : Space → Nat
  | .hbm => 15
  | .vmem => 42
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S2048x1024, .f32⟩
  | .hbm, ⟨12, _⟩ => ⟨S1x1024, .f32⟩
  | .hbm, ⟨13, _⟩ => ⟨S1x1024, .f32⟩
  | .hbm, ⟨14, _⟩ => ⟨S1x1024, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S1x256, .f32⟩
  | .local _ .vmem, ⟨9, _⟩ => ⟨S1x256, .f32⟩
  | .local _ .vmem, ⟨10, _⟩ => ⟨S2048x256, .f32⟩
  | .local _ .vmem, ⟨11, _⟩ => ⟨S2048x256, .f32⟩
  | .local _ .vmem, ⟨12, _⟩ => ⟨S2048x256, .bf16⟩
  | .local _ .vmem, ⟨13, _⟩ => ⟨S2048x256, .bf16⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S2048x256, .f32⟩
  | .local _ .vmem, ⟨23, _⟩ => ⟨S2048x256, .f32⟩
  | .local _ .vmem, ⟨24, _⟩ => ⟨S2048x256, .f32⟩
  | .local _ .vmem, ⟨25, _⟩ => ⟨S2048x256, .f32⟩
  | .local _ .vmem, ⟨26, _⟩ => ⟨S1x256, .f32⟩
  | .local _ .vmem, ⟨27, _⟩ => ⟨S1x256, .f32⟩
  | .local _ .vmem, ⟨28, _⟩ => ⟨S2048x256, .bf16⟩
  | .local _ .vmem, ⟨29, _⟩ => ⟨S2048x256, .bf16⟩
  | .local _ .vmem, ⟨30, _⟩ => ⟨S2048x256, .bf16⟩
  | .local _ .vmem, ⟨31, _⟩ => ⟨S2048x256, .bf16⟩
  | .local _ .vmem, ⟨32, _⟩ => ⟨S2048x256, .bf16⟩
  | .local _ .vmem, ⟨33, _⟩ => ⟨S2048x256, .bf16⟩
  | .local _ .vmem, ⟨34, _⟩ => ⟨S2048x256, .f32⟩
  | .local _ .vmem, ⟨35, _⟩ => ⟨S2048x256, .f32⟩
  | .local _ .vmem, ⟨36, _⟩ => ⟨S1x256, .f32⟩
  | .local _ .vmem, ⟨37, _⟩ => ⟨S1x256, .f32⟩
  | .local _ .vmem, ⟨38, _⟩ => ⟨S1x256, .f32⟩
  | .local _ .vmem, ⟨39, _⟩ => ⟨S1x256, .f32⟩
  | .local _ .vmem, ⟨40, _⟩ => ⟨S1x256, .f32⟩
  | .local _ .vmem, ⟨41, _⟩ => ⟨S1x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc1_stg11_0 : Ref sig .tc := ⟨.vmem, 36, rfl⟩
abbrev cc1_stg11_1 : Ref sig .tc := ⟨.vmem, 37, rfl⟩
abbrev cc1_stg12_0 : Ref sig .tc := ⟨.vmem, 38, rfl⟩
abbrev cc1_stg12_1 : Ref sig .tc := ⟨.vmem, 39, rfl⟩
abbrev cc1_stg13_0 : Ref sig .tc := ⟨.vmem, 40, rfl⟩
abbrev cc1_stg13_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37
abbrev cc1_sem12_0 : DmaSem sig := 38
abbrev cc1_sem12_1 : DmaSem sig := 39
abbrev cc1_sem13_0 : DmaSem sig := 40
abbrev cc1_sem13_1 : DmaSem sig := 41

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c32_i32 : BitVec 32 := 32#32
  let v14 : BitVec 32 := Scalar.addi c0_i32 c32_i32
  let c1_i32 : BitVec 32 := 1#32
  ⟨c0_i32, v14, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c64_i32 : BitVec 32 := 64#32
  let v16 : BitVec 32 := Scalar.muli arg8 c64_i32
  v16
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c64_i32 : BitVec 32 := 64#32
  let v16 : BitVec 32 := Scalar.muli arg8 c64_i32
  let v17 : BitVec 32 := v16
  let v18 : Index := Scalar.indexCast v17
  let c0_6 : Index := 0#32
  ![v18.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

@[reducible] def k1_t1_loop : Scf.Loop 32 :=
  let c0_i32 : BitVec 32 := 0#32
  let c32_i32 : BitVec 32 := 32#32
  let v15 : BitVec 32 := Scalar.addi c0_i32 c32_i32
  let c1_i32 : BitVec 32 := 1#32
  ⟨c0_i32, v15, c1_i32⟩
def k1_mult1 (k1_t1 : Fin k1_t1_loop.trips) : BitVec 32 :=
  let c31_i32 : BitVec 32 := 31#32
  let c0_i32 : BitVec 32 := 0#32
  let c1_i32 : BitVec 32 := 1#32
  let arg15 : BitVec 32 := Scf.iv c0_i32 c1_i32 k1_t1
  let v40 : BitVec 32 := Scalar.subi c31_i32 arg15
  let c64_i32 : BitVec 32 := 64#32
  let v41 : BitVec 32 := Scalar.muli v40 c64_i32
  v41
def k1_off1 (k1_t1 : Fin k1_t1_loop.trips) : Fin 2 → Nat :=
  let c31_i32 : BitVec 32 := 31#32
  let c0_i32 : BitVec 32 := 0#32
  let c1_i32 : BitVec 32 := 1#32
  let arg15 : BitVec 32 := Scf.iv c0_i32 c1_i32 k1_t1
  let v40 : BitVec 32 := Scalar.subi c31_i32 arg15
  let c64_i32 : BitVec 32 := 64#32
  let v41 : BitVec 32 := Scalar.muli v40 c64_i32
  let v42 : BitVec 32 := v41
  let v43 : Index := Scalar.indexCast v42
  let c0_18 : Index := 0#32
  ![v43.toNat, 0]
def k1_mult2 (k1_t1 : Fin k1_t1_loop.trips) : BitVec 32 :=
  let c31_i32 : BitVec 32 := 31#32
  let c0_i32 : BitVec 32 := 0#32
  let c1_i32 : BitVec 32 := 1#32
  let arg15 : BitVec 32 := Scf.iv c0_i32 c1_i32 k1_t1
  let v40 : BitVec 32 := Scalar.subi c31_i32 arg15
  let c64_i32 : BitVec 32 := 64#32
  let v41 : BitVec 32 := Scalar.muli v40 c64_i32
  let v42 : BitVec 32 := v41
  let c8_i32_55 : BitVec 32 := 8#32
  let v223 : BitVec 32 := Scalar.subi v42 c8_i32_55
  let c0_i32_56 : BitVec 32 := 0#32
  let v224 : BitVec 32 := Scalar.maxsi v223 c0_i32_56
  v224
def k1_off2 (k1_t1 : Fin k1_t1_loop.trips) : Fin 2 → Nat :=
  let c31_i32 : BitVec 32 := 31#32
  let c0_i32 : BitVec 32 := 0#32
  let c1_i32 : BitVec 32 := 1#32
  let arg15 : BitVec 32 := Scf.iv c0_i32 c1_i32 k1_t1
  let v40 : BitVec 32 := Scalar.subi c31_i32 arg15
  let c64_i32 : BitVec 32 := 64#32
  let v41 : BitVec 32 := Scalar.muli v40 c64_i32
  let v42 : BitVec 32 := v41
  let c8_i32_55 : BitVec 32 := 8#32
  let v223 : BitVec 32 := Scalar.subi v42 c8_i32_55
  let c0_i32_56 : BitVec 32 := 0#32
  let v224 : BitVec 32 := Scalar.maxsi v223 c0_i32_56
  let v225 : BitVec 32 := v224
  let v226 : Index := Scalar.indexCast v225
  let c0_57 : Index := 0#32
  ![v226.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2048x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2048x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2048x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2048x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x256 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== KernelIdeal.lean ====
variable {F : FTy → Type} [FloatOps F] [Named F]
def κ : String → Option EReal := fun
  | "gelu_cubic" => some ((8943 / 200000 : ℝ) : EReal)
  | "gelu_cubic3" => some ((26829 / 200000 : ℝ) : EReal)
  | _ => none
-- ==== ReferenceIdeal.lean ====
abbrev S2048x1024 : Shape := ⟨2, ![2048, 1024]⟩
abbrev S2048x2048 : Shape := ⟨2, ![2048, 2048]⟩
abbrev S1x1024 : Shape := ⟨2, ![1, 1024]⟩
abbrev S_ : Shape := ⟨0, ![]⟩
abbrev S1024 : Shape := ⟨1, ![1024]⟩

abbrev nBuf : Space → Nat
  | .hbm => 257
  | .vmem => 0
  | .smem => 0
  | _ => 0

abbrev hbmTy0_0 (i : Nat) : BufTy := match i % 128 with
  | 0 => ⟨S2048x1024, .f32⟩
  | 1 => ⟨S2048x2048, .f32⟩
  | 2 => ⟨S2048x1024, .f32⟩
  | 3 => ⟨S2048x1024, .f32⟩
  | 4 => ⟨S2048x1024, .f32⟩
  | 5 => ⟨S1x1024, .f32⟩
  | 6 => ⟨S2048x1024, .f32⟩
  | 7 => ⟨S_, .f32⟩
  | 8 => ⟨S1x1024, .f32⟩
  | 9 => ⟨S2048x1024, .f32⟩
  | 10 => ⟨S2048x1024, .f32⟩
  | 11 => ⟨S2048x1024, .f32⟩
  | 12 => ⟨S2048x1024, .f32⟩
  | 13 => ⟨S_, .f32⟩
  | 14 => ⟨S2048x1024, .f32⟩
  | 15 => ⟨S2048x1024, .f32⟩
  | 16 => ⟨S_, .f32⟩
  | 17 => ⟨S2048x1024, .f32⟩
  | 18 => ⟨S2048x1024, .f32⟩
  | 19 => ⟨S_, .f32⟩
  | 20 => ⟨S2048x1024, .f32⟩
  | 21 => ⟨S2048x1024, .f32⟩
  | 22 => ⟨S2048x1024, .f32⟩
  | 23 => ⟨S2048x1024, .f32⟩
  | 24 => ⟨S2048x1024, .f32⟩
  | 25 => ⟨S2048x1024, .f32⟩
  | 26 => ⟨S2048x1024, .f32⟩
  | 27 => ⟨S_, .f32⟩
  | 28 => ⟨S2048x1024, .f32⟩
  | 29 => ⟨S2048x1024, .f32⟩
  | 30 => ⟨S_, .f32⟩
  | 31 => ⟨S2048x1024, .f32⟩
  | 32 => ⟨S2048x1024, .f32⟩
  | 33 => ⟨S_, .f32⟩
  | 34 => ⟨S2048x1024, .f32⟩
  | 35 => ⟨S2048x1024, .f32⟩
  | 36 => ⟨S2048x1024, .f32⟩
  | 37 => ⟨S_, .f32⟩
  | 38 => ⟨S2048x1024, .f32⟩
  | 39 => ⟨S2048x1024, .f32⟩
  | 40 => ⟨S1x1024, .f32⟩
  | 41 => ⟨S_, .f32⟩
  | 42 => ⟨S1x1024, .f32⟩
  | 43 => ⟨S1x1024, .f32⟩
  | 44 => ⟨S1x1024, .f32⟩
  | 45 => ⟨S1x1024, .f32⟩
  | 46 => ⟨S1x1024, .i1⟩
  | 47 => ⟨S1x1024, .f32⟩
  | 48 => ⟨S1x1024, .f32⟩
  | 49 => ⟨S1x1024, .f32⟩
  | 50 => ⟨S1x1024, .f32⟩
  | 51 => ⟨S1x1024, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .i1⟩
  | 58 => ⟨S_, .f32⟩
  | 59 => ⟨S1x1024, .f32⟩
  | 60 => ⟨S1x1024, .f32⟩
  | 61 => ⟨S_, .f32⟩
  | 62 => ⟨S1x1024, .f32⟩
  | 63 => ⟨S1x1024, .i1⟩
  | 64 => ⟨S_, .f32⟩
  | 65 => ⟨S1x1024, .f32⟩
  | 66 => ⟨S1x1024, .f32⟩
  | 67 => ⟨S1x1024, .f32⟩
  | 68 => ⟨S1x1024, .f32⟩
  | 69 => ⟨S_, .f32⟩
  | 70 => ⟨S_, .f32⟩
  | 71 => ⟨S_, .i1⟩
  | 72 => ⟨S_, .f32⟩
  | 73 => ⟨S_, .f32⟩
  | 74 => ⟨S_, .f32⟩
  | 75 => ⟨S_, .f32⟩
  | 76 => ⟨S1x1024, .f32⟩
  | 77 => ⟨S1x1024, .i1⟩
  | 78 => ⟨S_, .f32⟩
  | 79 => ⟨S1x1024, .f32⟩
  | 80 => ⟨S1x1024, .f32⟩
  | 81 => ⟨S1x1024, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S2048x1024, .f32⟩
  | 88 => ⟨S2048x1024, .f32⟩
  | 89 => ⟨S2048x1024, .f32⟩
  | 90 => ⟨S_, .f32⟩
  | 91 => ⟨S2048x1024, .f32⟩
  | 92 => ⟨S2048x1024, .f32⟩
  | 93 => ⟨S2048x1024, .f32⟩
  | 94 => ⟨S2048x1024, .f32⟩
  | 95 => ⟨S2048x1024, .f32⟩
  | 96 => ⟨S2048x1024, .f32⟩
  | 97 => ⟨S_, .f32⟩
  | 98 => ⟨S2048x1024, .f32⟩
  | 99 => ⟨S2048x1024, .f32⟩
  | 100 => ⟨S2048x1024, .f32⟩
  | 101 => ⟨S2048x1024, .f32⟩
  | 102 => ⟨S_, .f32⟩
  | 103 => ⟨S1024, .f32⟩
  | 104 => ⟨S_, .f32⟩
  | 105 => ⟨S2048x1024, .f32⟩
  | 106 => ⟨S_, .f32⟩
  | 107 => ⟨S2048x1024, .f32⟩
  | 108 => ⟨S_, .i32⟩
  | 109 => ⟨S2048x1024, .f32⟩
  | 110 => ⟨S2048x1024, .f32⟩
  | 111 => ⟨S_, .i32⟩
  | 112 => ⟨S1024, .f32⟩
  | 113 => ⟨S2048x1024, .f32⟩
  | 114 => ⟨S2048x1024, .f32⟩
  | 115 => ⟨S_, .i32⟩
  | 116 => ⟨S_, .i1⟩
  | 117 => ⟨S_, .i32⟩
  | 118 => ⟨S1x1024, .f32⟩
  | 119 => ⟨S1024, .f32⟩
  | 120 => ⟨S_, .i32⟩
  | 121 => ⟨S1x1024, .f32⟩
  | 122 => ⟨S1024, .f32⟩
  | 123 => ⟨S1024, .f32⟩
  | 124 => ⟨S1024, .f32⟩
  | 125 => ⟨S1x1024, .f32⟩
  | 126 => ⟨S_, .i32⟩
  | 127 => ⟨S2048x1024, .f32⟩
  | _ => ⟨S2048x1024, .f32⟩

abbrev hbmTy0_1 (i : Nat) : BufTy := match i % 128 with
  | 0 => ⟨S1x1024, .f32⟩
  | 1 => ⟨S_, .i32⟩
  | 2 => ⟨S2048x1024, .f32⟩
  | 3 => ⟨S_, .i32⟩
  | 4 => ⟨S_, .i32⟩
  | 5 => ⟨S_, .f32⟩
  | 6 => ⟨S_, .f32⟩
  | 7 => ⟨S_, .f32⟩
  | 8 => ⟨S2048x1024, .f32⟩
  | 9 => ⟨S2048x1024, .f32⟩
  | 10 => ⟨S2048x1024, .f32⟩
  | 11 => ⟨S_, .f32⟩
  | 12 => ⟨S2048x1024, .f32⟩
  | 13 => ⟨S2048x1024, .f32⟩
  | 14 => ⟨S2048x1024, .f32⟩
  | 15 => ⟨S2048x1024, .f32⟩
  | 16 => ⟨S2048x1024, .f32⟩
  | 17 => ⟨S_, .f32⟩
  | 18 => ⟨S2048x1024, .f32⟩
  | 19 => ⟨S2048x1024, .f32⟩
  | 20 => ⟨S2048x1024, .f32⟩
  | 21 => ⟨S_, .f32⟩
  | 22 => ⟨S2048x1024, .f32⟩
  | 23 => ⟨S2048x1024, .f32⟩
  | 24 => ⟨S_, .f32⟩
  | 25 => ⟨S2048x1024, .f32⟩
  | 26 => ⟨S2048x1024, .f32⟩
  | 27 => ⟨S2048x1024, .f32⟩
  | 28 => ⟨S_, .f32⟩
  | 29 => ⟨S2048x1024, .f32⟩
  | 30 => ⟨S2048x1024, .f32⟩
  | 31 => ⟨S_, .f32⟩
  | 32 => ⟨S2048x1024, .f32⟩
  | 33 => ⟨S2048x1024, .f32⟩
  | 34 => ⟨S2048x1024, .f32⟩
  | 35 => ⟨S2048x1024, .f32⟩
  | 36 => ⟨S_, .f32⟩
  | 37 => ⟨S1024, .f32⟩
  | 38 => ⟨S2048x1024, .f32⟩
  | 39 => ⟨S2048x1024, .f32⟩
  | 40 => ⟨S2048x1024, .f32⟩
  | 41 => ⟨S2048x1024, .f32⟩
  | 42 => ⟨S_, .f32⟩
  | 43 => ⟨S2048x1024, .f32⟩
  | 44 => ⟨S2048x1024, .f32⟩
  | 45 => ⟨S2048x1024, .f32⟩
  | 46 => ⟨S_, .f32⟩
  | 47 => ⟨S2048x1024, .f32⟩
  | 48 => ⟨S2048x1024, .f32⟩
  | 49 => ⟨S2048x1024, .f32⟩
  | 50 => ⟨S2048x1024, .f32⟩
  | 51 => ⟨S2048x1024, .f32⟩
  | 52 => ⟨S2048x1024, .f32⟩
  | 53 => ⟨S2048x1024, .f32⟩
  | 54 => ⟨S_, .f32⟩
  | 55 => ⟨S1024, .f32⟩
  | 56 => ⟨S_, .f32⟩
  | 57 => ⟨S2048x1024, .f32⟩
  | 58 => ⟨S_, .f32⟩
  | 59 => ⟨S2048x1024, .f32⟩
  | 60 => ⟨S_, .i32⟩
  | 61 => ⟨S2048x1024, .f32⟩
  | 62 => ⟨S2048x1024, .f32⟩
  | 63 => ⟨S2048x1024, .f32⟩
  | 64 => ⟨S_, .i32⟩
  | 65 => ⟨S1024, .f32⟩
  | 66 => ⟨S2048x1024, .f32⟩
  | 67 => ⟨S2048x1024, .f32⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S_, .i32⟩
  | 75 => ⟨S1x1024, .f32⟩
  | 76 => ⟨S1024, .f32⟩
  | 77 => ⟨S_, .i32⟩
  | 78 => ⟨S1x1024, .f32⟩
  | 79 => ⟨S1024, .f32⟩
  | 80 => ⟨S_, .i32⟩
  | 81 => ⟨S1x1024, .f32⟩
  | 82 => ⟨S1024, .f32⟩
  | 83 => ⟨S1024, .f32⟩
  | 84 => ⟨S1024, .f32⟩
  | 85 => ⟨S1024, .f32⟩
  | 86 => ⟨S1x1024, .f32⟩
  | 87 => ⟨S_, .i32⟩
  | 88 => ⟨S2048x1024, .f32⟩
  | 89 => ⟨S1x1024, .f32⟩
  | 90 => ⟨S_, .i32⟩
  | 91 => ⟨S2048x1024, .f32⟩
  | 92 => ⟨S_, .i32⟩
  | 93 => ⟨S_, .i32⟩
  | 94 => ⟨S2048x1024, .f32⟩
  | 95 => ⟨S2048x1024, .f32⟩
  | 96 => ⟨S2048x1024, .f32⟩
  | 97 => ⟨S2048x1024, .f32⟩
  | 98 => ⟨S2048x1024, .f32⟩
  | 99 => ⟨S2048x1024, .f32⟩
  | 100 => ⟨S2048x1024, .f32⟩
  | 101 => ⟨S_, .f32⟩
  | 102 => ⟨S2048x1024, .f32⟩
  | 103 => ⟨S2048x1024, .f32⟩
  | 104 => ⟨S2048x1024, .f32⟩
  | 105 => ⟨S2048x1024, .f32⟩
  | 106 => ⟨S2048x1024, .f32⟩
  | 107 => ⟨S_, .f32⟩
  | 108 => ⟨S1024, .f32⟩
  | 109 => ⟨S1x1024, .f32⟩
  | 110 => ⟨S2048x1024, .f32⟩
  | 111 => ⟨S2048x1024, .f32⟩
  | 112 => ⟨S1x1024, .f32⟩
  | 113 => ⟨S1x1024, .f32⟩
  | 114 => ⟨S_, .f32⟩
  | 115 => ⟨S2048x1024, .f32⟩
  | 116 => ⟨S2048x1024, .f32⟩
  | 117 => ⟨S2048x1024, .f32⟩
  | 118 => ⟨S_, .f32⟩
  | 119 => ⟨S1024, .f32⟩
  | 120 => ⟨S1x1024, .f32⟩
  | 121 => ⟨S2048x1024, .f32⟩
  | 122 => ⟨S_, .f32⟩
  | 123 => ⟨S1024, .f32⟩
  | 124 => ⟨S1x1024, .f32⟩
  | 125 => ⟨S2048x1024, .bf16⟩
  | 126 => ⟨S2048x1024, .bf16⟩
  | 127 => ⟨S2048x1024, .bf16⟩
  | _ => ⟨S2048x1024, .f32⟩

abbrev hbmTy0_2 (i : Nat) : BufTy := match i % 128 with
  | 0 => ⟨S2048x1024, .bf16⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_v27_0 : Ref sig .tc := ⟨.hbm, 54, rfl⟩
abbrev main_call0_cst_0 : Ref sig .tc := ⟨.hbm, 55, rfl⟩
abbrev main_call0_v13 : Ref sig .tc := ⟨.hbm, 56, rfl⟩
abbrev main_call0_v14 : Ref sig .tc := ⟨.hbm, 57, rfl⟩
abbrev main_call0_cst_1 : Ref sig .tc := ⟨.hbm, 58, rfl⟩
abbrev main_call0_v15 : Ref sig .tc := ⟨.hbm, 59, rfl⟩
abbrev main_call0_v16 : Ref sig .tc := ⟨.hbm, 60, rfl⟩
abbrev main_call0_cst_2 : Ref sig .tc := ⟨.hbm, 61, rfl⟩
abbrev main_call0_v17 : Ref sig .tc := ⟨.hbm, 62, rfl⟩
abbrev main_call0_v18 : Ref sig .tc := ⟨.hbm, 63, rfl⟩
abbrev main_call0_cst_3 : Ref sig .tc := ⟨.hbm, 64, rfl⟩
abbrev main_call0_v19 : Ref sig .tc := ⟨.hbm, 65, rfl⟩
abbrev main_call0_v20 : Ref sig .tc := ⟨.hbm, 66, rfl⟩
abbrev main_call0_v21 : Ref sig .tc := ⟨.hbm, 67, rfl⟩
abbrev main_v27_1 : Ref sig .tc := ⟨.hbm, 68, rfl⟩
abbrev main_call0_cst_4 : Ref sig .tc := ⟨.hbm, 69, rfl⟩
abbrev main_call0_cst_5 : Ref sig .tc := ⟨.hbm, 70, rfl⟩
abbrev main_call0_v23 : Ref sig .tc := ⟨.hbm, 71, rfl⟩
abbrev main_call0_cst_6 : Ref sig .tc := ⟨.hbm, 72, rfl⟩
abbrev main_call0_cst_7 : Ref sig .tc := ⟨.hbm, 73, rfl⟩
abbrev main_call0_v24 : Ref sig .tc := ⟨.hbm, 74, rfl⟩
abbrev main_call0_cst_8 : Ref sig .tc := ⟨.hbm, 75, rfl⟩
abbrev main_call0_v25 : Ref sig .tc := ⟨.hbm, 76, rfl⟩
abbrev main_call0_v26 : Ref sig .tc := ⟨.hbm, 77, rfl⟩
abbrev main_call0_cst_9 : Ref sig .tc := ⟨.hbm, 78, rfl⟩
abbrev main_call0_v27 : Ref sig .tc := ⟨.hbm, 79, rfl⟩
abbrev main_call0_v28 : Ref sig .tc := ⟨.hbm, 80, rfl⟩
abbrev main_call0_v29 : Ref sig .tc := ⟨.hbm, 81, rfl⟩
abbrev main_call0_v30 : Ref sig .tc := ⟨.hbm, 82, rfl⟩
abbrev main_call0_v31 : Ref sig .tc := ⟨.hbm, 83, rfl⟩
abbrev main_call0_cst_10 : Ref sig .tc := ⟨.hbm, 84, rfl⟩
abbrev main_call0_v32 : Ref sig .tc := ⟨.hbm, 85, rfl⟩
abbrev main_v27_2 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_cst_7 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_cst_8 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_cst_9 : Ref sig .tc := ⟨.hbm, 102, rfl⟩
abbrev main_v41 : Ref sig .tc := ⟨.hbm, 103, rfl⟩
abbrev main_cst_10 : Ref sig .tc := ⟨.hbm, 104, rfl⟩
abbrev main_v42 : Ref sig .tc := ⟨.hbm, 105, rfl⟩
abbrev main_cst_11 : Ref sig .tc := ⟨.hbm, 106, rfl⟩
abbrev main_v43 : Ref sig .tc := ⟨.hbm, 107, rfl⟩
abbrev main_c : Ref sig .tc := ⟨.hbm, 108, rfl⟩
abbrev main_v44_0 : Ref sig .tc := ⟨.hbm, 109, rfl⟩
abbrev main_v44_1 : Ref sig .tc := ⟨.hbm, 110, rfl⟩
abbrev main_v44_2 : Ref sig .tc := ⟨.hbm, 111, rfl⟩
abbrev main_v44_3 : Ref sig .tc := ⟨.hbm, 112, rfl⟩
abbrev main_v44_4 : Ref sig .tc := ⟨.hbm, 113, rfl⟩
abbrev main_v44_5 : Ref sig .tc := ⟨.hbm, 114, rfl⟩
abbrev main_while0c_c_37 : Ref sig .tc := ⟨.hbm, 115, rfl⟩
abbrev main_while0c_v117 : Ref sig .tc := ⟨.hbm, 116, rfl⟩
abbrev main_while0b_call1_c : Ref sig .tc := ⟨.hbm, 117, rfl⟩
abbrev main_while0b_call1_v0 : Ref sig .tc := ⟨.hbm, 118, rfl⟩
abbrev main_while0b_v117 : Ref sig .tc := ⟨.hbm, 119, rfl⟩
abbrev main_while0b_call2_c : Ref sig .tc := ⟨.hbm, 120, rfl⟩
abbrev main_while0b_call2_v0 : Ref sig .tc := ⟨.hbm, 121, rfl⟩
abbrev main_while0b_v118 : Ref sig .tc := ⟨.hbm, 122, rfl⟩
abbrev main_while0b_v119 : Ref sig .tc := ⟨.hbm, 123, rfl⟩
abbrev main_while0b_v120 : Ref sig .tc := ⟨.hbm, 124, rfl⟩
abbrev main_while0b_call3_v0 : Ref sig .tc := ⟨.hbm, 125, rfl⟩
abbrev main_while0b_call3_c : Ref sig .tc := ⟨.hbm, 126, rfl⟩
abbrev main_while0b_v121 : Ref sig .tc := ⟨.hbm, 127, rfl⟩
abbrev main_while0b_call4_v0 : Ref sig .tc := ⟨.hbm, 128, rfl⟩
abbrev main_while0b_call4_c : Ref sig .tc := ⟨.hbm, 129, rfl⟩
abbrev main_while0b_v122 : Ref sig .tc := ⟨.hbm, 130, rfl⟩
abbrev main_while0b_c_37 : Ref sig .tc := ⟨.hbm, 131, rfl⟩
abbrev main_while0b_v123 : Ref sig .tc := ⟨.hbm, 132, rfl⟩
abbrev main_cst_12 : Ref sig .tc := ⟨.hbm, 133, rfl⟩
abbrev main_cst_13 : Ref sig .tc := ⟨.hbm, 134, rfl⟩
abbrev main_v45 : Ref sig .tc := ⟨.hbm, 135, rfl⟩
abbrev main_v46 : Ref sig .tc := ⟨.hbm, 136, rfl⟩
abbrev main_v47 : Ref sig .tc := ⟨.hbm, 137, rfl⟩
abbrev main_v48 : Ref sig .tc := ⟨.hbm, 138, rfl⟩
abbrev main_cst_14 : Ref sig .tc := ⟨.hbm, 139, rfl⟩
abbrev main_v49 : Ref sig .tc := ⟨.hbm, 140, rfl⟩
abbrev main_v50 : Ref sig .tc := ⟨.hbm, 141, rfl⟩
abbrev main_v51 : Ref sig .tc := ⟨.hbm, 142, rfl⟩
abbrev main_v52 : Ref sig .tc := ⟨.hbm, 143, rfl⟩
abbrev main_v53 : Ref sig .tc := ⟨.hbm, 144, rfl⟩
abbrev main_cst_15 : Ref sig .tc := ⟨.hbm, 145, rfl⟩
abbrev main_v54 : Ref sig .tc := ⟨.hbm, 146, rfl⟩
abbrev main_v55 : Ref sig .tc := ⟨.hbm, 147, rfl⟩
abbrev main_v56 : Ref sig .tc := ⟨.hbm, 148, rfl⟩
abbrev main_cst_16 : Ref sig .tc := ⟨.hbm, 149, rfl⟩
abbrev main_v57 : Ref sig .tc := ⟨.hbm, 150, rfl⟩
abbrev main_v58 : Ref sig .tc := ⟨.hbm, 151, rfl⟩
abbrev main_cst_17 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_cst_18 : Ref sig .tc := ⟨.hbm, 156, rfl⟩
abbrev main_v62 : Ref sig .tc := ⟨.hbm, 157, rfl⟩
abbrev main_v63 : Ref sig .tc := ⟨.hbm, 158, rfl⟩
abbrev main_cst_19 : Ref sig .tc := ⟨.hbm, 159, rfl⟩
abbrev main_v64 : Ref sig .tc := ⟨.hbm, 160, rfl⟩
abbrev main_v65 : Ref sig .tc := ⟨.hbm, 161, rfl⟩
abbrev main_v66 : Ref sig .tc := ⟨.hbm, 162, rfl⟩
abbrev main_v67 : Ref sig .tc := ⟨.hbm, 163, rfl⟩
abbrev main_cst_20 : Ref sig .tc := ⟨.hbm, 164, rfl⟩
abbrev main_v68 : Ref sig .tc := ⟨.hbm, 165, rfl⟩
abbrev main_v69 : Ref sig .tc := ⟨.hbm, 166, rfl⟩
abbrev main_v70 : Ref sig .tc := ⟨.hbm, 167, rfl⟩
abbrev main_v71 : Ref sig .tc := ⟨.hbm, 168, rfl⟩
abbrev main_v72 : Ref sig .tc := ⟨.hbm, 169, rfl⟩
abbrev main_cst_21 : Ref sig .tc := ⟨.hbm, 170, rfl⟩
abbrev main_v73 : Ref sig .tc := ⟨.hbm, 171, rfl⟩
abbrev main_v74 : Ref sig .tc := ⟨.hbm, 172, rfl⟩
abbrev main_v75 : Ref sig .tc := ⟨.hbm, 173, rfl⟩
abbrev main_cst_22 : Ref sig .tc := ⟨.hbm, 174, rfl⟩
abbrev main_v76 : Ref sig .tc := ⟨.hbm, 175, rfl⟩
abbrev main_v77 : Ref sig .tc := ⟨.hbm, 176, rfl⟩
abbrev main_v78 : Ref sig .tc := ⟨.hbm, 177, rfl⟩
abbrev main_v79 : Ref sig .tc := ⟨.hbm, 178, rfl⟩
abbrev main_v80 : Ref sig .tc := ⟨.hbm, 179, rfl⟩
abbrev main_v81 : Ref sig .tc := ⟨.hbm, 180, rfl⟩
abbrev main_v82 : Ref sig .tc := ⟨.hbm, 181, rfl⟩
abbrev main_cst_23 : Ref sig .tc := ⟨.hbm, 182, rfl⟩
abbrev main_v83 : Ref sig .tc := ⟨.hbm, 183, rfl⟩
abbrev main_cst_24 : Ref sig .tc := ⟨.hbm, 184, rfl⟩
abbrev main_v84 : Ref sig .tc := ⟨.hbm, 185, rfl⟩
abbrev main_cst_25 : Ref sig .tc := ⟨.hbm, 186, rfl⟩
abbrev main_v85 : Ref sig .tc := ⟨.hbm, 187, rfl⟩
abbrev main_c_26 : Ref sig .tc := ⟨.hbm, 188, rfl⟩
abbrev main_v86_0 : Ref sig .tc := ⟨.hbm, 189, rfl⟩
abbrev main_v86_1 : Ref sig .tc := ⟨.hbm, 190, rfl⟩
abbrev main_v86_2 : Ref sig .tc := ⟨.hbm, 191, rfl⟩
abbrev main_v86_3 : Ref sig .tc := ⟨.hbm, 192, rfl⟩
abbrev main_v86_4 : Ref sig .tc := ⟨.hbm, 193, rfl⟩
abbrev main_v86_5 : Ref sig .tc := ⟨.hbm, 194, rfl⟩
abbrev main_v86_6 : Ref sig .tc := ⟨.hbm, 195, rfl⟩
abbrev main_while1c_c_38 : Ref sig .tc := ⟨.hbm, 196, rfl⟩
abbrev main_while1c_v117 : Ref sig .tc := ⟨.hbm, 197, rfl⟩
abbrev main_while1b_c_38 : Ref sig .tc := ⟨.hbm, 198, rfl⟩
abbrev main_while1b_v117 : Ref sig .tc := ⟨.hbm, 199, rfl⟩
abbrev main_while1b_c_39 : Ref sig .tc := ⟨.hbm, 200, rfl⟩
abbrev main_while1b_v118 : Ref sig .tc := ⟨.hbm, 201, rfl⟩
abbrev main_while1b_call5_c : Ref sig .tc := ⟨.hbm, 202, rfl⟩
abbrev main_while1b_call5_v0 : Ref sig .tc := ⟨.hbm, 203, rfl⟩
abbrev main_while1b_v119 : Ref sig .tc := ⟨.hbm, 204, rfl⟩
abbrev main_while1b_call6_c : Ref sig .tc := ⟨.hbm, 205, rfl⟩
abbrev main_while1b_call6_v0 : Ref sig .tc := ⟨.hbm, 206, rfl⟩
abbrev main_while1b_v120 : Ref sig .tc := ⟨.hbm, 207, rfl⟩
abbrev main_while1b_call7_c : Ref sig .tc := ⟨.hbm, 208, rfl⟩
abbrev main_while1b_call7_v0 : Ref sig .tc := ⟨.hbm, 209, rfl⟩
abbrev main_while1b_v121 : Ref sig .tc := ⟨.hbm, 210, rfl⟩
abbrev main_while1b_v122 : Ref sig .tc := ⟨.hbm, 211, rfl⟩
abbrev main_while1b_v123 : Ref sig .tc := ⟨.hbm, 212, rfl⟩
abbrev main_while1b_v124 : Ref sig .tc := ⟨.hbm, 213, rfl⟩
abbrev main_while1b_call8_v0 : Ref sig .tc := ⟨.hbm, 214, rfl⟩
abbrev main_while1b_call8_c : Ref sig .tc := ⟨.hbm, 215, rfl⟩
abbrev main_while1b_v125 : Ref sig .tc := ⟨.hbm, 216, rfl⟩
abbrev main_while1b_call9_v0 : Ref sig .tc := ⟨.hbm, 217, rfl⟩
abbrev main_while1b_call9_c : Ref sig .tc := ⟨.hbm, 218, rfl⟩
abbrev main_while1b_v126 : Ref sig .tc := ⟨.hbm, 219, rfl⟩
abbrev main_while1b_c_40 : Ref sig .tc := ⟨.hbm, 220, rfl⟩
abbrev main_while1b_v127 : Ref sig .tc := ⟨.hbm, 221, rfl⟩
abbrev main_v87 : Ref sig .tc := ⟨.hbm, 222, rfl⟩
abbrev main_v88 : Ref sig .tc := ⟨.hbm, 223, rfl⟩
abbrev main_v89 : Ref sig .tc := ⟨.hbm, 224, rfl⟩
abbrev main_v90 : Ref sig .tc := ⟨.hbm, 225, rfl⟩
abbrev main_v91 : Ref sig .tc := ⟨.hbm, 226, rfl⟩
abbrev main_v92 : Ref sig .tc := ⟨.hbm, 227, rfl⟩
abbrev main_v93 : Ref sig .tc := ⟨.hbm, 228, rfl⟩
abbrev main_cst_27 : Ref sig .tc := ⟨.hbm, 229, rfl⟩
abbrev main_v94 : Ref sig .tc := ⟨.hbm, 230, rfl⟩
abbrev main_v95 : Ref sig .tc := ⟨.hbm, 231, rfl⟩
abbrev main_v96 : Ref sig .tc := ⟨.hbm, 232, rfl⟩
abbrev main_v97 : Ref sig .tc := ⟨.hbm, 233, rfl⟩
abbrev main_v98 : Ref sig .tc := ⟨.hbm, 234, rfl⟩
abbrev main_cst_28 : Ref sig .tc := ⟨.hbm, 235, rfl⟩
abbrev main_v99 : Ref sig .tc := ⟨.hbm, 236, rfl⟩
abbrev main_v100 : Ref sig .tc := ⟨.hbm, 237, rfl⟩
abbrev main_v101 : Ref sig .tc := ⟨.hbm, 238, rfl⟩
abbrev main_v102 : Ref sig .tc := ⟨.hbm, 239, rfl⟩
abbrev main_v103 : Ref sig .tc := ⟨.hbm, 240, rfl⟩
abbrev main_v104 : Ref sig .tc := ⟨.hbm, 241, rfl⟩
abbrev main_cst_29 : Ref sig .tc := ⟨.hbm, 242, rfl⟩
abbrev main_v105 : Ref sig .tc := ⟨.hbm, 243, rfl⟩
abbrev main_v106 : Ref sig .tc := ⟨.hbm, 244, rfl⟩
abbrev main_v107 : Ref sig .tc := ⟨.hbm, 245, rfl⟩
abbrev main_cst_30 : Ref sig .tc := ⟨.hbm, 246, rfl⟩
abbrev main_v108 : Ref sig .tc := ⟨.hbm, 247, rfl⟩
abbrev main_v109 : Ref sig .tc := ⟨.hbm, 248, rfl⟩
abbrev main_v110 : Ref sig .tc := ⟨.hbm, 249, rfl⟩
abbrev main_cst_31 : Ref sig .tc := ⟨.hbm, 250, rfl⟩
abbrev main_v111 : Ref sig .tc := ⟨.hbm, 251, rfl⟩
abbrev main_v112 : Ref sig .tc := ⟨.hbm, 252, rfl⟩
abbrev main_v113 : Ref sig .tc := ⟨.hbm, 253, rfl⟩
abbrev main_v114 : Ref sig .tc := ⟨.hbm, 254, rfl⟩
abbrev main_v115 : Ref sig .tc := ⟨.hbm, 255, rfl⟩
abbrev main_v116 : Ref sig .tc := ⟨.hbm, 256, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== Kernel2.lean ====
abbrev S2048x1024 : Shape := ⟨2, ![2048, 1024]⟩
abbrev S1024x1024 : Shape := ⟨2, ![1024, 1024]⟩
abbrev S1x1024 : Shape := ⟨2, ![1, 1024]⟩
abbrev S4x1024x1408 : Shape := ⟨3, ![4, 1024, 1408]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S2x2048x2816 : Shape := ⟨3, ![2, 2048, 2816]⟩
abbrev S2048x2816 : Shape := ⟨2, ![2048, 2816]⟩
abbrev S1x1024x1408 : Shape := ⟨3, ![1, 1024, 1408]⟩
abbrev S2x512x1408 : Shape := ⟨3, ![2, 512, 1408]⟩
abbrev S512x1408 : Shape := ⟨2, ![512, 1408]⟩
abbrev S1024x1408 : Shape := ⟨2, ![1024, 1408]⟩
abbrev S1x512x1408 : Shape := ⟨3, ![1, 512, 1408]⟩
abbrev S512x2816 : Shape := ⟨2, ![512, 2816]⟩
abbrev S2048x256 : Shape := ⟨2, ![2048, 256]⟩
abbrev S256x1024 : Shape := ⟨2, ![256, 1024]⟩
abbrev S1408x1024 : Shape := ⟨2, ![1408, 1024]⟩
abbrev S1x2048x1408 : Shape := ⟨3, ![1, 2048, 1408]⟩
abbrev S2048x1408 : Shape := ⟨2, ![2048, 1408]⟩
abbrev S8x1x1024 : Shape := ⟨3, ![8, 1, 1024]⟩
abbrev S1x256x1408 : Shape := ⟨3, ![1, 256, 1408]⟩
abbrev S1x1x1024 : Shape := ⟨3, ![1, 1, 1024]⟩
abbrev S256x1408 : Shape := ⟨2, ![256, 1408]⟩
abbrev S256 : Shape := ⟨1, ![256]⟩
abbrev S256x1 : Shape := ⟨2, ![256, 1]⟩
abbrev S1024 : Shape := ⟨1, ![1024]⟩
abbrev S_ : Shape := ⟨0, ![]⟩
abbrev S2048x512 : Shape := ⟨2, ![2048, 512]⟩

abbrev nBuf : Space → Nat
  | .hbm => 25
  | .vmem => 81
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .hbm, ⟨3, _⟩ => ⟨S1x1024, .f32⟩
  | .hbm, ⟨4, _⟩ => ⟨S4x1024x1408, .bf16⟩
  | .hbm, ⟨5, _⟩ => ⟨S2816x1024, .bf16⟩
  | .hbm, ⟨6, _⟩ => ⟨S1x1024, .f32⟩
  | .hbm, ⟨7, _⟩ => ⟨S2048x1024, .f32⟩
  | .hbm, ⟨8, _⟩ => ⟨S2048x1024, .bf16⟩
  | .hbm, ⟨9, _⟩ => ⟨S2048x1024, .f32⟩
  | .hbm, ⟨10, _⟩ => ⟨S2048x1024, .bf16⟩
  | .hbm, ⟨11, _⟩ => ⟨S2x2048x2816, .bf16⟩
  | .hbm, ⟨12, _⟩ => ⟨S2048x2816, .bf16⟩
  | .hbm, ⟨13, _⟩ => ⟨S2048x1024, .f32⟩
  | .hbm, ⟨14, _⟩ => ⟨S2048x1024, .bf16⟩
  | .hbm, ⟨15, _⟩ => ⟨S2816x1024, .bf16⟩
  | .hbm, ⟨16, _⟩ => ⟨S2x2048x2816, .bf16⟩
  | .hbm, ⟨17, _⟩ => ⟨S4x1024x1408, .bf16⟩
  | .hbm, ⟨18, _⟩ => ⟨S2048x1024, .f32⟩
  | .hbm, ⟨19, _⟩ => ⟨S2048x1024, .bf16⟩
  | .hbm, ⟨20, _⟩ => ⟨S8x1x1024, .f32⟩
  | .hbm, ⟨21, _⟩ => ⟨S_, .f32⟩
  | .hbm, ⟨22, _⟩ => ⟨S1x1024, .f32⟩
  | .hbm, ⟨23, _⟩ => ⟨S1024x1024, .bf16⟩
  | .hbm, ⟨24, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1024x1408, .bf16⟩
  | .local _ .vmem, ⟨13, _⟩ => ⟨S1x1024x1408, .bf16⟩
  | .local _ .vmem, ⟨14, _⟩ => ⟨S1x1024x1408, .bf16⟩
  | .local _ .vmem, ⟨15, _⟩ => ⟨S1x1024x1408, .bf16⟩
  | .local _ .vmem, ⟨16, _⟩ => ⟨S2x512x1408, .bf16⟩
  | .local _ .vmem, ⟨17, _⟩ => ⟨S2x512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x2816, .bf16⟩
  | .local _ .vmem, ⟨21, _⟩ => ⟨S512x2816, .bf16⟩
  | .local _ .vmem, ⟨22, _⟩ => ⟨S2816x1024, .bf16⟩
  | .local _ .vmem, ⟨23, _⟩ => ⟨S512x1024, .f32⟩
  | .local _ .vmem, ⟨24, _⟩ => ⟨S512x1024, .f32⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .bf16⟩
  | .local _ .vmem, ⟨29, _⟩ => ⟨S512x1024, .bf16⟩
  | .local _ .vmem, ⟨30, _⟩ => ⟨S2048x256, .bf16⟩
  | .local _ .vmem, ⟨31, _⟩ => ⟨S2048x256, .bf16⟩
  | .local _ .vmem, ⟨32, _⟩ => ⟨S2048x1024, .bf16⟩
  | .local _ .vmem, ⟨33, _⟩ => ⟨S256x1024, .bf16⟩
  | .local _ .vmem, ⟨34, _⟩ => ⟨S256x1024, .bf16⟩
  | .local _ .vmem, ⟨35, _⟩ => ⟨S512x1024, .bf16⟩
  | .local _ .vmem, ⟨36, _⟩ => ⟨S512x1024, .bf16⟩
  | .local _ .vmem, ⟨37, _⟩ => ⟨S1408x1024, .bf16⟩
  | .local _ .vmem, ⟨38, _⟩ => ⟨S1408x1024, .bf16⟩
  | .local _ .vmem, ⟨39, _⟩ => ⟨S2x512x1408, .bf16⟩
  | .local _ .vmem, ⟨40, _⟩ => ⟨S2x512x1408, .bf16⟩
  | .local _ .vmem, ⟨41, _⟩ => ⟨S2x512x1408, .bf16⟩
  | .local _ .vmem, ⟨42, _⟩ => ⟨S2x512x1408, .bf16⟩
  | .local _ .vmem, ⟨43, _⟩ => ⟨S2048x1024, .bf16⟩
  | .local _ .vmem, ⟨44, _⟩ => ⟨S1x2048x1408, .bf16⟩
  | .local _ .vmem, ⟨45, _⟩ => ⟨S1x2048x1408, .bf16⟩
  | .local _ .vmem, ⟨46, _⟩ => ⟨S1x1024x1408, .bf16⟩
  | .local _ .vmem, ⟨47, _⟩ => ⟨S1x1024x1408, .bf16⟩
  | .local _ .vmem, ⟨48, _⟩ => ⟨S1x256x1408, .bf16⟩
  | .local _ .vmem, ⟨49, _⟩ => ⟨S1x256x1408, .bf16⟩
  | .local _ .vmem, ⟨50, _⟩ => ⟨S1x256x1408, .bf16⟩
  | .local _ .vmem, ⟨51, _⟩ => ⟨S1x256x1408, .bf16⟩
  | .local _ .vmem, ⟨52, _⟩ => ⟨S1x256x1408, .bf16⟩
  | .local _ .vmem, ⟨53, _⟩ => ⟨S1x256x1408, .bf16⟩
  | .local _ .vmem, ⟨54, _⟩ => ⟨S1x256x1408, .bf16⟩
  | .local _ .vmem, ⟨55, _⟩ => ⟨S1x256x1408, .bf16⟩
  | .local _ .vmem, ⟨56, _⟩ => ⟨S1x1024x1408, .bf16⟩
  | .local _ .vmem, ⟨57, _⟩ => ⟨S1x1024x1408, .bf16⟩
  | .local _ .vmem, ⟨58, _⟩ => ⟨S1x1024x1408, .bf16⟩
  | .local _ .vmem, ⟨59, _⟩ => ⟨S1x1024x1408, .bf16⟩
  | .local _ .vmem, ⟨60, _⟩ => ⟨S256x1024, .f32⟩
  | .local _ .vmem, ⟨61, _⟩ => ⟨S256x1024, .f32⟩
  | .local _ .vmem, ⟨62, _⟩ => ⟨S1x1024, .f32⟩
  | .local _ .vmem, ⟨63, _⟩ => ⟨S256x1024, .f32⟩
  | .local _ .vmem, ⟨64, _⟩ => ⟨S256x1024, .f32⟩
  | .local _ .vmem, ⟨65, _⟩ => ⟨S256x1024, .f32⟩
  | .local _ .vmem, ⟨66, _⟩ => ⟨S256x1024, .f32⟩
  | .local _ .vmem, ⟨67, _⟩ => ⟨S256x1024, .bf16⟩
  | .local _ .vmem, ⟨68, _⟩ => ⟨S256x1024, .bf16⟩
  | .local _ .vmem, ⟨69, _⟩ => ⟨S1x1x1024, .f32⟩
  | .local _ .vmem, ⟨70, _⟩ => ⟨S1x1x1024, .f32⟩
  | .local _ .vmem, ⟨71, _⟩ => ⟨S2048x512, .bf16⟩
  | .local _ .vmem, ⟨72, _⟩ => ⟨S2048x512, .bf16⟩
  | .local _ .vmem, ⟨73, _⟩ => ⟨S2048x1024, .bf16⟩
  | .local _ .vmem, ⟨74, _⟩ => ⟨S512x1024, .bf16⟩
  | .local _ .vmem, ⟨75, _⟩ => ⟨S512x1024, .bf16⟩
  | .local _ .vmem, ⟨76, _⟩ => ⟨S512x1024, .bf16⟩
  | .local _ .vmem, ⟨77, _⟩ => ⟨S512x1024, .bf16⟩
  | .local _ .vmem, ⟨78, _⟩ => ⟨S1024x1024, .bf16⟩
  | .local _ .vmem, ⟨79, _⟩ => ⟨S512x1024, .f32⟩
  | .local _ .vmem, ⟨80, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | _, _ => false

abbrev semScoped : Fin 0 → Bool
  | ⟨_, h⟩ => absurd h (Nat.not_lt_zero _)

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  ofTc nBuf bufTy 0 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v2_0 : Ref sig .tc := ⟨.hbm, 11, rfl⟩
abbrev main_v2_1 : Ref sig .tc := ⟨.hbm, 12, rfl⟩
abbrev main_v3_0 : Ref sig .tc := ⟨.hbm, 13, rfl⟩
abbrev main_v3_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg2_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg3_1 : Ref sig .tc := ⟨.vmem, 42, rfl⟩
abbrev cc5_stg0_0 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc6_stg3_0 : Ref sig .tc := ⟨.vmem, 54, rfl⟩
abbrev cc6_stg3_1 : Ref sig .tc := ⟨.vmem, 55, rfl⟩
abbrev cc6_stg4_0 : Ref sig .tc := ⟨.vmem, 56, rfl⟩
abbrev cc6_stg5_0 : Ref sig .tc := ⟨.vmem, 57, rfl⟩
abbrev cc6_stg6_0 : Ref sig .tc := ⟨.vmem, 58, rfl⟩
abbrev cc6_stg7_0 : Ref sig .tc := ⟨.vmem, 59, rfl⟩
abbrev cc6_stg8_0 : Ref sig .tc := ⟨.vmem, 60, rfl⟩
abbrev cc6_stg8_1 : Ref sig .tc := ⟨.vmem, 61, rfl⟩
abbrev cc6_stg9_0 : Ref sig .tc := ⟨.vmem, 62, rfl⟩
abbrev cc6_stg10_0 : Ref sig .tc := ⟨.vmem, 63, rfl⟩
abbrev cc6_stg10_1 : Ref sig .tc := ⟨.vmem, 64, rfl⟩
abbrev cc6_stg11_0 : Ref sig .tc := ⟨.vmem, 65, rfl⟩
abbrev cc6_stg11_1 : Ref sig .tc := ⟨.vmem, 66, rfl⟩
abbrev cc6_stg12_0 : Ref sig .tc := ⟨.vmem, 67, rfl⟩
abbrev cc6_stg12_1 : Ref sig .tc := ⟨.vmem, 68, rfl⟩
abbrev cc6_stg13_0 : Ref sig .tc := ⟨.vmem, 69, rfl⟩
abbrev cc6_stg13_1 : Ref sig .tc := ⟨.vmem, 70, rfl⟩
abbrev cc7_stg0_0 : Ref sig .tc := ⟨.vmem, 71, rfl⟩
abbrev cc7_stg0_1 : Ref sig .tc := ⟨.vmem, 72, rfl⟩
abbrev cc7_stg1_0 : Ref sig .tc := ⟨.vmem, 73, rfl⟩
abbrev cc7_stg2_0 : Ref sig .tc := ⟨.vmem, 74, rfl⟩
abbrev cc7_stg2_1 : Ref sig .tc := ⟨.vmem, 75, rfl⟩
abbrev cc8_stg0_0 : Ref sig .tc := ⟨.vmem, 76, rfl⟩
abbrev cc8_stg0_1 : Ref sig .tc := ⟨.vmem, 77, rfl⟩
abbrev cc8_stg1_0 : Ref sig .tc := ⟨.vmem, 78, rfl⟩
abbrev cc8_stg2_0 : Ref sig .tc := ⟨.vmem, 79, rfl⟩
abbrev cc8_stg2_1 : Ref sig .tc := ⟨.vmem, 80, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem2_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem2_1 : DmaSem sig := 40
abbrev cc4_sem3_0 : DmaSem sig := 41
abbrev cc4_sem3_1 : DmaSem sig := 42
abbrev cc5_sem0_0 : DmaSem sig := 43
abbrev cc5_sem1_0 : DmaSem sig := 44
abbrev cc5_sem1_1 : DmaSem sig := 45
abbrev cc5_sem2_0 : DmaSem sig := 46
abbrev cc5_sem2_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53
abbrev cc6_sem3_0 : DmaSem sig := 54
abbrev cc6_sem3_1 : DmaSem sig := 55
abbrev cc6_sem4_0 : DmaSem sig := 56
abbrev cc6_sem5_0 : DmaSem sig := 57
abbrev cc6_sem6_0 : DmaSem sig := 58
abbrev cc6_sem7_0 : DmaSem sig := 59
abbrev cc6_sem8_0 : DmaSem sig := 60
abbrev cc6_sem8_1 : DmaSem sig := 61
abbrev cc6_sem9_0 : DmaSem sig := 62
abbrev cc6_sem10_0 : DmaSem sig := 63
abbrev cc6_sem10_1 : DmaSem sig := 64
abbrev cc6_sem11_0 : DmaSem sig := 65
abbrev cc6_sem11_1 : DmaSem sig := 66
abbrev cc6_sem12_0 : DmaSem sig := 67
abbrev cc6_sem12_1 : DmaSem sig := 68
abbrev cc6_sem13_0 : DmaSem sig := 69
abbrev cc6_sem13_1 : DmaSem sig := 70
abbrev cc7_sem0_0 : DmaSem sig := 71
abbrev cc7_sem0_1 : DmaSem sig := 72
abbrev cc7_sem1_0 : DmaSem sig := 73
abbrev cc7_sem2_0 : DmaSem sig := 74
abbrev cc7_sem2_1 : DmaSem sig := 75
abbrev cc8_sem0_0 : DmaSem sig := 76
abbrev cc8_sem0_1 : DmaSem sig := 77
abbrev cc8_sem1_0 : DmaSem sig := 78
abbrev cc8_sem2_0 : DmaSem sig := 79
abbrev cc8_sem2_1 : DmaSem sig := 80

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1024x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2x512x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S512x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![11, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S256x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1408x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S2x512x1408 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S2x512x1408 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![1, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

abbrev stage5_0 : Fin 1 → Memref sig .tc .vmem S2048x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, false]

abbrev stage5_1 : Fin 2 → Memref sig .tc .vmem S1x2048x1408 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1x1024x1408 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev grid6 : Pipeline.Grid := ⟨2, ![8, 1], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, arg0.toNat, c1_i32.toNat]

def cc6_transform_2 (i : grid6.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc6_transform_3 (i : grid6.Coords) : Fin 3 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  ![c1_i32.toNat, arg0.toNat, c1_i32_0.toNat]

def cc6_transform_4 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_5 (i : grid6.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc6_transform_6 (i : grid6.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc6_transform_7 (i : grid6.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc6_transform_8 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_9 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_11 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_12 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_13 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x256x1408 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S1x256x1408 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S1x256x1408 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S1x256x1408 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev stage6_4 : Fin 1 → Memref sig .tc .vmem S1x1024x1408 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false, false]

abbrev stage6_5 : Fin 1 → Memref sig .tc .vmem S1x1024x1408 .bf16 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false, false]

abbrev stage6_6 : Fin 1 → Memref sig .tc .vmem S1x1024x1408 .bf16 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false, false]

abbrev stage6_7 : Fin 1 → Memref sig .tc .vmem S1x1024x1408 .bf16 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false, false]

abbrev stage6_8 : Fin 2 → Memref sig .tc .vmem S256x1024 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true, false]

abbrev stage6_9 : Fin 1 → Memref sig .tc .vmem S1x1024 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false, false]

abbrev stage6_10 : Fin 2 → Memref sig .tc .vmem S256x1024 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true, false]

abbrev stage6_11 : Fin 2 → Memref sig .tc .vmem S256x1024 .f32 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true, false]

abbrev stage6_12 : Fin 2 → Memref sig .tc .vmem S256x1024 .bf16 := fun | 0 => Memref.whole cc6_stg12_0 | 1 => Memref.whole cc6_stg12_1 | ⟨_ + 2, h⟩ => absurd h (Nat.not_lt.2 (Nat.le_add_left _ _))
abbrev sem6_12 : Fin 2 → DmaSem sig := fun | 0 => cc6_sem12_0 | 1 => cc6_sem12_1 | ⟨_ + 2, h⟩ => absurd h (Nat.not_lt.2 (Nat.le_add_left _ _))
abbrev reads6_12 : Fin grid6.rank → Bool := ![true, false]

abbrev stage6_13 : Fin 2 → Memref sig .tc .vmem S1x1x1024 .f32 := fun | 0 => Memref.whole cc6_stg13_0 | 1 => Memref.whole cc6_stg13_1 | ⟨_ + 2, h⟩ => absurd h (Nat.not_lt.2 (Nat.le_add_left _ _))
abbrev sem6_13 : Fin 2 → DmaSem sig := fun | 0 => cc6_sem13_0 | 1 => cc6_sem13_1 | ⟨_ + 2, h⟩ => absurd h (Nat.not_lt.2 (Nat.le_add_left _ _))
abbrev reads6_13 : Fin grid6.rank → Bool := ![true, false]

abbrev grid7 : Pipeline.Grid := ⟨2, ![2, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S2048x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 1 → Memref sig .tc .vmem S2048x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true]

abbrev stage7_2 : Fin 2 → Memref sig .tc .vmem S512x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨3, ![4, 1, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S512x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 1 → Memref sig .tc .vmem S1024x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true, true]

abbrev stage8_2 : Fin 2 → Memref sig .tc .vmem S512x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]
-- ==== Reference2Ideal.lean ====
abbrev S2048x1024 : Shape := ⟨2, ![2048, 1024]⟩
abbrev S1024x1024 : Shape := ⟨2, ![1024, 1024]⟩
abbrev S1x1024 : Shape := ⟨2, ![1, 1024]⟩
abbrev S4x1024x1408 : Shape := ⟨3, ![4, 1024, 1408]⟩
abbrev S2816x1024 : Shape := ⟨2, ![2816, 1024]⟩
abbrev S1024x4x1408 : Shape := ⟨3, ![1024, 4, 1408]⟩
abbrev S1024x5632 : Shape := ⟨2, ![1024, 5632]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x2816 : Shape := ⟨2, ![2048, 2816]⟩
abbrev S1024x2816 : Shape := ⟨2, ![1024, 2816]⟩
abbrev S5632x1024 : Shape := ⟨2, ![5632, 1024]⟩
abbrev S1024 : Shape := ⟨1, ![1024]⟩

abbrev nBuf : Space → Nat
  | .hbm => 118
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .hbm, ⟨3, _⟩ => ⟨S1x1024, .f32⟩
  | .hbm, ⟨4, _⟩ => ⟨S4x1024x1408, .bf16⟩
  | .hbm, ⟨5, _⟩ => ⟨S2816x1024, .bf16⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S1024x1024, .f32⟩
  | .hbm, ⟨10, _⟩ => ⟨S4x1024x1408, .f32⟩
  | .hbm, ⟨11, _⟩ => ⟨S2816x1024, .f32⟩
  | .hbm, ⟨12, _⟩ => ⟨S1024x4x1408, .f32⟩
  | .hbm, ⟨13, _⟩ => ⟨S1024x5632, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x5632, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S_, .f32⟩
  | .hbm, ⟨41, _⟩ => ⟨S2048x2816, .f32⟩
  | .hbm, ⟨42, _⟩ => ⟨S2048x2816, .f32⟩
  | .hbm, ⟨43, _⟩ => ⟨S_, .f32⟩
  | .hbm, ⟨44, _⟩ => ⟨S2048x2816, .f32⟩
  | .hbm, ⟨45, _⟩ => ⟨S2048x2816, .f32⟩
  | .hbm, ⟨46, _⟩ => ⟨S_, .f32⟩
  | .hbm, ⟨47, _⟩ => ⟨S2048x2816, .f32⟩
  | .hbm, ⟨48, _⟩ => ⟨S2048x2816, .f32⟩
  | .hbm, ⟨49, _⟩ => ⟨S2048x2816, .f32⟩
  | .hbm, ⟨50, _⟩ => ⟨S2048x2816, .f32⟩
  | .hbm, ⟨51, _⟩ => ⟨S2048x2816, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S1024x2816, .f32⟩
  | .hbm, ⟨57, _⟩ => ⟨S2816x1024, .f32⟩
  | .hbm, ⟨58, _⟩ => ⟨S2048x2816, .f32⟩
  | .hbm, ⟨59, _⟩ => ⟨S2048x2816, .f32⟩
  | .hbm, ⟨60, _⟩ => ⟨S2048x2816, .f32⟩
  | .hbm, ⟨61, _⟩ => ⟨S2048x2816, .f32⟩
  | .hbm, ⟨62, _⟩ => ⟨S2048x2816, .f32⟩
  | .hbm, ⟨63, _⟩ => ⟨S2048x2816, .f32⟩
  | .hbm, ⟨64, _⟩ => ⟨S2048x2816, .f32⟩
  | .hbm, ⟨65, _⟩ => ⟨S2048x5632, .f32⟩
  | .hbm, ⟨66, _⟩ => ⟨S5632x1024, .f32⟩
  | .hbm, ⟨67, _⟩ => ⟨S1024x5632, .f32⟩
  | .hbm, ⟨68, _⟩ => ⟨S2048x1024, .f32⟩
  | .hbm, ⟨69, _⟩ => ⟨S2048x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S_, .f32⟩
  | .hbm, ⟨77, _⟩ => ⟨S2048, .f32⟩
  | .hbm, ⟨78, _⟩ => ⟨S2048x1, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x1, .f32⟩
  | .hbm, ⟨83, _⟩ => ⟨S_, .f32⟩
  | .hbm, ⟨84, _⟩ => ⟨S2048x1, .f32⟩
  | .hbm, ⟨85, _⟩ => ⟨S2048x1, .f32⟩
  | .hbm, ⟨86, _⟩ => ⟨S_, .f32⟩
  | .hbm, ⟨87, _⟩ => ⟨S2048, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S1024x1024, .f32⟩
  | .hbm, ⟨94, _⟩ => ⟨S1024x1024, .f32⟩
  | .hbm, ⟨95, _⟩ => ⟨S2048x1024, .f32⟩
  | .hbm, ⟨96, _⟩ => ⟨S1024x4x1408, .f32⟩
  | .hbm, ⟨97, _⟩ => ⟨S4x1024x1408, .f32⟩
  | .hbm, ⟨98, _⟩ => ⟨S2048x1024, .f32⟩
  | .hbm, ⟨99, _⟩ => ⟨S_, .f32⟩
  | .hbm, ⟨100, _⟩ => ⟨S2048, .f32⟩
  | .hbm, ⟨101, _⟩ => ⟨S2048x1, .f32⟩
  | .hbm, ⟨102, _⟩ => ⟨S_, .f32⟩
  | .hbm, ⟨103, _⟩ => ⟨S2048x1, .f32⟩
  | .hbm, ⟨104, _⟩ => ⟨S2048x1, .f32⟩
  | .hbm, ⟨105, _⟩ => ⟨S_, .f32⟩
  | .hbm, ⟨106, _⟩ => ⟨S2048x1, .f32⟩
  | .hbm, ⟨107, _⟩ => ⟨S2048x1, .f32⟩
  | .hbm, ⟨108, _⟩ => ⟨S2048x1, .f32⟩
  | .hbm, ⟨109, _⟩ => ⟨S2048x1024, .f32⟩
  | .hbm, ⟨110, _⟩ => ⟨S2048x1024, .f32⟩
  | .hbm, ⟨111, _⟩ => ⟨S2048x1024, .f32⟩
  | .hbm, ⟨112, _⟩ => ⟨S2048x1024, .f32⟩
  | .hbm, ⟨113, _⟩ => ⟨S2048x1024, .bf16⟩
  | .hbm, ⟨114, _⟩ => ⟨S2816x1024, .bf16⟩
  | .hbm, ⟨115, _⟩ => ⟨S4x1024x1408, .bf16⟩
  | .hbm, ⟨116, _⟩ => ⟨S2048x1024, .bf16⟩
  | .hbm, ⟨117, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v26_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v26_1 : Ref sig .tc := ⟨.hbm, 49, rfl⟩
abbrev main_v26_0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_3 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_4 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_5 : Ref sig .tc := ⟨.hbm, 83, rfl⟩
abbrev main_v54 : Ref sig .tc := ⟨.hbm, 84, rfl⟩
abbrev main_v55 : Ref sig .tc := ⟨.hbm, 85, rfl⟩
abbrev main_cst_6 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_7 : Ref sig .tc := ⟨.hbm, 99, rfl⟩
abbrev main_v68 : Ref sig .tc := ⟨.hbm, 100, rfl⟩
abbrev main_v69 : Ref sig .tc := ⟨.hbm, 101, rfl⟩
abbrev main_cst_8 : Ref sig .tc := ⟨.hbm, 102, rfl⟩
abbrev main_v70 : Ref sig .tc := ⟨.hbm, 103, rfl⟩
abbrev main_v71 : Ref sig .tc := ⟨.hbm, 104, rfl⟩
abbrev main_cst_9 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩

abbrev nD : Nat := 1
abbrev τ : Topo := Topo.v7x

variable {F : FTy → Type} [FloatOps F]
-- ==== Kernel3.lean ====
abbrev S2048x1024 : Shape := ⟨2, ![2048, 1024]⟩
abbrev S1x1024 : Shape := ⟨2, ![1, 1024]⟩
abbrev S4x1024x512 : Shape := ⟨3, ![4, 1024, 512]⟩
abbrev S4x1024 : Shape := ⟨2, ![4, 1024]⟩
abbrev S4x256x512 : Shape := ⟨3, ![4, 256, 512]⟩
abbrev S4x1x512 : Shape := ⟨3, ![4, 1, 512]⟩
abbrev S256x1024 : Shape := ⟨2, ![256, 1024]⟩
abbrev S256 : Shape := ⟨1, ![256]⟩
abbrev S256x1 : Shape := ⟨2, ![256, 1]⟩
abbrev S2048x2048 : Shape := ⟨2, ![2048, 2048]⟩
abbrev S1x1024x512 : Shape := ⟨3, ![1, 1024, 512]⟩
abbrev S2048x512 : Shape := ⟨2, ![2048, 512]⟩
abbrev S1024x512 : Shape := ⟨2, ![1024, 512]⟩
abbrev S2048x256 : Shape := ⟨2, ![2048, 256]⟩
abbrev S4x256 : Shape := ⟨2, ![4, 256]⟩
abbrev S1x256 : Shape := ⟨2, ![1, 256]⟩
abbrev S1x256x512 : Shape := ⟨3, ![1, 256, 512]⟩
abbrev S1x1x512 : Shape := ⟨3, ![1, 1, 512]⟩
abbrev S256x512 : Shape := ⟨2, ![256, 512]⟩
abbrev S1x512 : Shape := ⟨2, ![1, 512]⟩
abbrev S256x256 : Shape := ⟨2, ![256, 256]⟩
abbrev S1x256x256 : Shape := ⟨3, ![1, 256, 256]⟩
abbrev S8x1x1024 : Shape := ⟨3, ![8, 1, 1024]⟩
abbrev S1x1x1024 : Shape := ⟨3, ![1, 1, 1024]⟩
abbrev S1024 : Shape := ⟨1, ![1024]⟩
abbrev S_ : Shape := ⟨0, ![]⟩

abbrev nBuf : Space → Nat
  | .hbm => 31
  | .vmem => 84
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S4x1024x512, .bf16⟩
  | .hbm, ⟨3, _⟩ => ⟨S4x1024, .f32⟩
  | .hbm, ⟨4, _⟩ => ⟨S1x1024, .f32⟩
  | .hbm, ⟨5, _⟩ => ⟨S4x256x512, .bf16⟩
  | .hbm, ⟨6, _⟩ => ⟨S4x1x512, .f32⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S2048x1024, .f32⟩
  | .hbm, ⟨11, _⟩ => ⟨S2048x1024, .f32⟩
  | .hbm, ⟨12, _⟩ => ⟨S2048x1024, .bf16⟩
  | .hbm, ⟨13, _⟩ => ⟨S2048x2048, .f32⟩
  | .hbm, ⟨14, _⟩ => ⟨S2048x1024, .f32⟩
  | .hbm, ⟨15, _⟩ => ⟨S2048x1024, .bf16⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S4x256x512, .bf16⟩
  | .hbm, ⟨20, _⟩ => ⟨S2048x1024, .bf16⟩
  | .hbm, ⟨21, _⟩ => ⟨S4x1024, .f32⟩
  | .hbm, ⟨22, _⟩ => ⟨S1x1024, .f32⟩
  | .hbm, ⟨23, _⟩ => ⟨S2048x2048, .bf16⟩
  | .hbm, ⟨24, _⟩ => ⟨S4x1024x512, .bf16⟩
  | .hbm, ⟨25, _⟩ => ⟨S2048x1024, .f32⟩
  | .hbm, ⟨26, _⟩ => ⟨S2048x1024, .bf16⟩
  | .hbm, ⟨27, _⟩ => ⟨S8x1x1024, .f32⟩
  | .hbm, ⟨28, _⟩ => ⟨S_, .f32⟩
  | .hbm, ⟨29, _⟩ => ⟨S1x1024, .f32⟩
  | .hbm, ⟨30, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S2048x1024, .bf16⟩
  | .local _ .vmem, ⟨6, _⟩ => ⟨S1x1024x512, .bf16⟩
  | .local _ .vmem, ⟨7, _⟩ => ⟨S1x1024x512, .bf16⟩
  | .local _ .vmem, ⟨8, _⟩ => ⟨S2048x512, .f32⟩
  | .local _ .vmem, ⟨9, _⟩ => ⟨S2048x512, .f32⟩
  | .local _ .vmem, ⟨10, _⟩ => ⟨S2048x256, .f32⟩
  | .local _ .vmem, ⟨11, _⟩ => ⟨S2048x256, .f32⟩
  | .local _ .vmem, ⟨12, _⟩ => ⟨S4x256, .f32⟩
  | .local _ .vmem, ⟨13, _⟩ => ⟨S4x256, .f32⟩
  | .local _ .vmem, ⟨14, _⟩ => ⟨S1x256, .f32⟩
  | .local _ .vmem, ⟨15, _⟩ => ⟨S1x256, .f32⟩
  | .local _ .vmem, ⟨16, _⟩ => ⟨S2048x256, .f32⟩
  | .local _ .vmem, ⟨17, _⟩ => ⟨S2048x256, .f32⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S1x256x512, .bf16⟩
  | .local _ .vmem, ⟨23, _⟩ => ⟨S1x256x512, .bf16⟩
  | .local _ .vmem, ⟨24, _⟩ => ⟨S1x1x512, .f32⟩
  | .local _ .vmem, ⟨25, _⟩ => ⟨S1x1x512, .f32⟩
  | .local _ .vmem, ⟨26, _⟩ => ⟨S2048x256, .f32⟩
  | .local _ .vmem, ⟨27, _⟩ => ⟨S2048x256, .f32⟩
  | .local _ .vmem, ⟨28, _⟩ => ⟨S2048x256, .f32⟩
  | .local _ .vmem, ⟨29, _⟩ => ⟨S2048x256, .f32⟩
  | .local _ .vmem, ⟨30, _⟩ => ⟨S2048x256, .bf16⟩
  | .local _ .vmem, ⟨31, _⟩ => ⟨S2048x256, .bf16⟩
  | .local _ .vmem, ⟨32, _⟩ => ⟨S2048x256, .bf16⟩
  | .local _ .vmem, ⟨33, _⟩ => ⟨S2048x256, .bf16⟩
  | .local _ .vmem, ⟨34, _⟩ => ⟨S2048x256, .bf16⟩
  | .local _ .vmem, ⟨35, _⟩ => ⟨S2048x256, .bf16⟩
  | .local _ .vmem, ⟨36, _⟩ => ⟨S1x256x512, .bf16⟩
  | .local _ .vmem, ⟨37, _⟩ => ⟨S1x256x512, .bf16⟩
  | .local _ .vmem, ⟨38, _⟩ => ⟨S2048x256, .f32⟩
  | .local _ .vmem, ⟨39, _⟩ => ⟨S2048x256, .f32⟩
  | .local _ .vmem, ⟨40, _⟩ => ⟨S2048x256, .f32⟩
  | .local _ .vmem, ⟨41, _⟩ => ⟨S2048x256, .f32⟩
  | .local _ .vmem, ⟨42, _⟩ => ⟨S1x256x512, .bf16⟩
  | .local _ .vmem, ⟨43, _⟩ => ⟨S1x256x512, .bf16⟩
  | .local _ .vmem, ⟨44, _⟩ => ⟨S2048x256, .f32⟩
  | .local _ .vmem, ⟨45, _⟩ => ⟨S2048x256, .f32⟩
  | .local _ .vmem, ⟨46, _⟩ => ⟨S2048x256, .f32⟩
  | .local _ .vmem, ⟨47, _⟩ => ⟨S2048x256, .f32⟩
  | .local _ .vmem, ⟨48, _⟩ => ⟨S4x256, .f32⟩
  | .local _ .vmem, ⟨49, _⟩ => ⟨S4x256, .f32⟩
  | .local _ .vmem, ⟨50, _⟩ => ⟨S2048x256, .bf16⟩
  | .local _ .vmem, ⟨51, _⟩ => ⟨S2048x256, .bf16⟩
  | .local _ .vmem, ⟨52, _⟩ => ⟨S4x256, .f32⟩
  | .local _ .vmem, ⟨53, _⟩ => ⟨S4x256, .f32⟩
  | .local _ .vmem, ⟨54, _⟩ => ⟨S1x256, .f32⟩
  | .local _ .vmem, ⟨55, _⟩ => ⟨S1x256, .f32⟩
  | .local _ .vmem, ⟨56, _⟩ => ⟨S2048x1024, .bf16⟩
  | .local _ .vmem, ⟨57, _⟩ => ⟨S2048x512, .bf16⟩
  | .local _ .vmem, ⟨58, _⟩ => ⟨S2048x512, .bf16⟩
  | .local _ .vmem, ⟨59, _⟩ => ⟨S1x1024x512, .bf16⟩
  | .local _ .vmem, ⟨60, _⟩ => ⟨S1x1024x512, .bf16⟩
  | .local _ .vmem, ⟨61, _⟩ => ⟨S256x512, .bf16⟩
  | .local _ .vmem, ⟨62, _⟩ => ⟨S256x512, .bf16⟩
  | .local _ .vmem, ⟨63, _⟩ => ⟨S256x512, .bf16⟩
  | .local _ .vmem, ⟨64, _⟩ => ⟨S256x512, .bf16⟩
  | .local _ .vmem, ⟨65, _⟩ => ⟨S256x512, .bf16⟩
  | .local _ .vmem, ⟨66, _⟩ => ⟨S256x512, .bf16⟩
  | .local _ .vmem, ⟨67, _⟩ => ⟨S256x512, .bf16⟩
  | .local _ .vmem, ⟨68, _⟩ => ⟨S256x512, .bf16⟩
  | .local _ .vmem, ⟨69, _⟩ => ⟨S1x1024x512, .bf16⟩
  | .local _ .vmem, ⟨70, _⟩ => ⟨S1x1024x512, .bf16⟩
  | .local _ .vmem, ⟨71, _⟩ => ⟨S1x1024x512, .bf16⟩
  | .local _ .vmem, ⟨72, _⟩ => ⟨S1x1024x512, .bf16⟩
  | .local _ .vmem, ⟨73, _⟩ => ⟨S256x1024, .f32⟩
  | .local _ .vmem, ⟨74, _⟩ => ⟨S256x1024, .f32⟩
  | .local _ .vmem, ⟨75, _⟩ => ⟨S1x1024, .f32⟩
  | .local _ .vmem, ⟨76, _⟩ => ⟨S256x1024, .f32⟩
  | .local _ .vmem, ⟨77, _⟩ => ⟨S256x1024, .f32⟩
  | .local _ .vmem, ⟨78, _⟩ => ⟨S256x1024, .f32⟩
  | .local _ .vmem, ⟨79, _⟩ => ⟨S256x1024, .f32⟩
  | .local _ .vmem, ⟨80, _⟩ => ⟨S256x1024, .bf16⟩
  | .local _ .vmem, ⟨81, _⟩ => ⟨S256x1024, .bf16⟩
  | .local _ .vmem, ⟨82, _⟩ => ⟨S1x1x1024, .f32⟩
  | .local _ .vmem, ⟨83, _⟩ => ⟨S1x1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v3_0 : Ref sig .tc := ⟨.hbm, 16, rfl⟩
abbrev main_v3_1 : Ref sig .tc := ⟨.hbm, 17, rfl⟩
abbrev main_v4_0 : Ref sig .tc := ⟨.hbm, 18, rfl⟩
abbrev main_v4_1 : Ref sig .tc := ⟨.hbm, 19, rfl⟩
abbrev main_v5_0 : Ref sig .tc := ⟨.hbm, 20, rfl⟩
abbrev main_v5_1 : Ref sig .tc := ⟨.hbm, 21, rfl⟩
abbrev main_v5_2 : Ref sig .tc := ⟨.hbm, 22, rfl⟩
abbrev main_v6 : Ref sig .tc := ⟨.hbm, 23, rfl⟩
abbrev main_v7 : Ref sig .tc := ⟨.hbm, 24, rfl⟩
abbrev main_v8_0 : Ref sig .tc := ⟨.hbm, 25, rfl⟩
abbrev main_v8_1 : Ref sig .tc := ⟨.hbm, 26, rfl⟩
abbrev main_v8_2 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg4_1 : Ref sig .tc := ⟨.vmem, 39, rfl⟩
abbrev cc4_stg5_0 : Ref sig .tc := ⟨.vmem, 40, rfl⟩
abbrev cc4_stg5_1 : Ref sig .tc := ⟨.vmem, 41, rfl⟩
abbrev cc4_stg6_0 : Ref sig .tc := ⟨.vmem, 42, rfl⟩
abbrev cc4_stg6_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg2_1 : Ref sig .tc := ⟨.vmem, 49, rfl⟩
abbrev cc5_stg3_0 : Ref sig .tc := ⟨.vmem, 50, rfl⟩
abbrev cc5_stg3_1 : Ref sig .tc := ⟨.vmem, 51, rfl⟩
abbrev cc5_stg4_0 : Ref sig .tc := ⟨.vmem, 52, rfl⟩
abbrev cc5_stg4_1 : Ref sig .tc := ⟨.vmem, 53, rfl⟩
abbrev cc5_stg5_0 : Ref sig .tc := ⟨.vmem, 54, rfl⟩
abbrev cc5_stg5_1 : Ref sig .tc := ⟨.vmem, 55, rfl⟩
abbrev cc6_stg0_0 : Ref sig .tc := ⟨.vmem, 56, rfl⟩
abbrev cc6_stg1_0 : Ref sig .tc := ⟨.vmem, 57, rfl⟩
abbrev cc6_stg1_1 : Ref sig .tc := ⟨.vmem, 58, rfl⟩
abbrev cc6_stg2_0 : Ref sig .tc := ⟨.vmem, 59, rfl⟩
abbrev cc6_stg2_1 : Ref sig .tc := ⟨.vmem, 60, rfl⟩
abbrev cc7_stg0_0 : Ref sig .tc := ⟨.vmem, 61, rfl⟩
abbrev cc7_stg0_1 : Ref sig .tc := ⟨.vmem, 62, rfl⟩
abbrev cc7_stg1_0 : Ref sig .tc := ⟨.vmem, 63, rfl⟩
abbrev cc7_stg1_1 : Ref sig .tc := ⟨.vmem, 64, rfl⟩
abbrev cc7_stg2_0 : Ref sig .tc := ⟨.vmem, 65, rfl⟩
abbrev cc7_stg2_1 : Ref sig .tc := ⟨.vmem, 66, rfl⟩
abbrev cc7_stg3_0 : Ref sig .tc := ⟨.vmem, 67, rfl⟩
abbrev cc7_stg3_1 : Ref sig .tc := ⟨.vmem, 68, rfl⟩
abbrev cc7_stg4_0 : Ref sig .tc := ⟨.vmem, 69, rfl⟩
abbrev cc7_stg5_0 : Ref sig .tc := ⟨.vmem, 70, rfl⟩
abbrev cc7_stg6_0 : Ref sig .tc := ⟨.vmem, 71, rfl⟩
abbrev cc7_stg7_0 : Ref sig .tc := ⟨.vmem, 72, rfl⟩
abbrev cc7_stg8_0 : Ref sig .tc := ⟨.vmem, 73, rfl⟩
abbrev cc7_stg8_1 : Ref sig .tc := ⟨.vmem, 74, rfl⟩
abbrev cc7_stg9_0 : Ref sig .tc := ⟨.vmem, 75, rfl⟩
abbrev cc7_stg10_0 : Ref sig .tc := ⟨.vmem, 76, rfl⟩
abbrev cc7_stg10_1 : Ref sig .tc := ⟨.vmem, 77, rfl⟩
abbrev cc7_stg11_0 : Ref sig .tc := ⟨.vmem, 78, rfl⟩
abbrev cc7_stg11_1 : Ref sig .tc := ⟨.vmem, 79, rfl⟩
abbrev cc7_stg12_0 : Ref sig .tc := ⟨.vmem, 80, rfl⟩
abbrev cc7_stg12_1 : Ref sig .tc := ⟨.vmem, 81, rfl⟩
abbrev cc7_stg13_0 : Ref sig .tc := ⟨.vmem, 82, rfl⟩
abbrev cc7_stg13_1 : Ref sig .tc := ⟨.vmem, 83, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem3_1 : DmaSem sig := 37
abbrev cc4_sem4_0 : DmaSem sig := 38
abbrev cc4_sem4_1 : DmaSem sig := 39
abbrev cc4_sem5_0 : DmaSem sig := 40
abbrev cc4_sem5_1 : DmaSem sig := 41
abbrev cc4_sem6_0 : DmaSem sig := 42
abbrev cc4_sem6_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem2_1 : DmaSem sig := 49
abbrev cc5_sem3_0 : DmaSem sig := 50
abbrev cc5_sem3_1 : DmaSem sig := 51
abbrev cc5_sem4_0 : DmaSem sig := 52
abbrev cc5_sem4_1 : DmaSem sig := 53
abbrev cc5_sem5_0 : DmaSem sig := 54
abbrev cc5_sem5_1 : DmaSem sig := 55
abbrev cc6_sem0_0 : DmaSem sig := 56
abbrev cc6_sem1_0 : DmaSem sig := 57
abbrev cc6_sem1_1 : DmaSem sig := 58
abbrev cc6_sem2_0 : DmaSem sig := 59
abbrev cc6_sem2_1 : DmaSem sig := 60
abbrev cc7_sem0_0 : DmaSem sig := 61
abbrev cc7_sem0_1 : DmaSem sig := 62
abbrev cc7_sem1_0 : DmaSem sig := 63
abbrev cc7_sem1_1 : DmaSem sig := 64
abbrev cc7_sem2_0 : DmaSem sig := 65
abbrev cc7_sem2_1 : DmaSem sig := 66
abbrev cc7_sem3_0 : DmaSem sig := 67
abbrev cc7_sem3_1 : DmaSem sig := 68
abbrev cc7_sem4_0 : DmaSem sig := 69
abbrev cc7_sem5_0 : DmaSem sig := 70
abbrev cc7_sem6_0 : DmaSem sig := 71
abbrev cc7_sem7_0 : DmaSem sig := 72
abbrev cc7_sem8_0 : DmaSem sig := 73
abbrev cc7_sem8_1 : DmaSem sig := 74
abbrev cc7_sem9_0 : DmaSem sig := 75
abbrev cc7_sem10_0 : DmaSem sig := 76
abbrev cc7_sem10_1 : DmaSem sig := 77
abbrev cc7_sem11_0 : DmaSem sig := 78
abbrev cc7_sem11_1 : DmaSem sig := 79
abbrev cc7_sem12_0 : DmaSem sig := 80
abbrev cc7_sem12_1 : DmaSem sig := 81
abbrev cc7_sem13_0 : DmaSem sig := 82
abbrev cc7_sem13_1 : DmaSem sig := 83

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev grid2 : Pipeline.Grid := ⟨1, ![4], ![false]⟩

def cc2_transform_0 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2048x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S2048x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x256x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2048x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2048x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S2048x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2048x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x256x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2048x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2048x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1x256x512 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 2 → Memref sig .tc .vmem S2048x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2048x256 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S4x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S1x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨2, ![1, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

abbrev stage6_0 : Fin 1 → Memref sig .tc .vmem S2048x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false, false]

abbrev stage6_1 : Fin 2 → Memref sig .tc .vmem S2048x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1x1024x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev grid7 : Pipeline.Grid := ⟨2, ![8, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc7_transform_2 (i : grid7.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc7_transform_3 (i : grid7.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc7_transform_4 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_5 (i : grid7.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc7_transform_6 (i : grid7.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc7_transform_7 (i : grid7.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc7_transform_8 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_9 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_11 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_12 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_13 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S256x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S256x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S256x512 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 2 → Memref sig .tc .vmem S256x512 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev stage7_4 : Fin 1 → Memref sig .tc .vmem S1x1024x512 .bf16 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false, false]

abbrev stage7_5 : Fin 1 → Memref sig .tc .vmem S1x1024x512 .bf16 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false, false]

abbrev stage7_6 : Fin 1 → Memref sig .tc .vmem S1x1024x512 .bf16 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false, false]

abbrev stage7_7 : Fin 1 → Memref sig .tc .vmem S1x1024x512 .bf16 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false, false]

abbrev stage7_8 : Fin 2 → Memref sig .tc .vmem S256x1024 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true, false]

abbrev stage7_9 : Fin 1 → Memref sig .tc .vmem S1x1024 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false, false]

abbrev stage7_10 : Fin 2 → Memref sig .tc .vmem S256x1024 .f32 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true, false]

abbrev stage7_11 : Fin 2 → Memref sig .tc .vmem S256x1024 .f32 := fun | 0 => Memref.whole cc7_stg11_0 | 1 => Memref.whole cc7_stg11_1 | ⟨_ + 2, h⟩ => absurd h (Nat.not_lt.2 (Nat.le_add_left _ _))
abbrev sem7_11 : Fin 2 → DmaSem sig := fun | 0 => cc7_sem11_0 | 1 => cc7_sem11_1 | ⟨_ + 2, h⟩ => absurd h (Nat.not_lt.2 (Nat.le_add_left _ _))
abbrev reads7_11 : Fin grid7.rank → Bool := ![true, false]

abbrev stage7_12 : Fin 2 → Memref sig .tc .vmem S256x1024 .bf16 := fun | 0 => Memref.whole cc7_stg12_0 | 1 => Memref.whole cc7_stg12_1 | ⟨_ + 2, h⟩ => absurd h (Nat.not_lt.2 (Nat.le_add_left _ _))
abbrev sem7_12 : Fin 2 → DmaSem sig := fun | 0 => cc7_sem12_0 | 1 => cc7_sem12_1 | ⟨_ + 2, h⟩ => absurd h (Nat.not_lt.2 (Nat.le_add_left _ _))
abbrev reads7_12 : Fin grid7.rank → Bool := ![true, false]

abbrev stage7_13 : Fin 2 → Memref sig .tc .vmem S1x1x1024 .f32 := fun | 0 => Memref.whole cc7_stg13_0 | 1 => Memref.whole cc7_stg13_1 | ⟨_ + 2, h⟩ => absurd h (Nat.not_lt.2 (Nat.le_add_left _ _))
abbrev sem7_13 : Fin 2 → DmaSem sig := fun | 0 => cc7_sem13_0 | 1 => cc7_sem13_1 | ⟨_ + 2, h⟩ => absurd h (Nat.not_lt.2 (Nat.le_add_left _ _))
abbrev reads7_13 : Fin grid7.rank → Bool := ![true, false]
-- ==== Reference3Ideal.lean ====
abbrev S2048x1024 : Shape := ⟨2, ![2048, 1024]⟩
abbrev S1x1024 : Shape := ⟨2, ![1, 1024]⟩
abbrev S4x1024x512 : Shape := ⟨3, ![4, 1024, 512]⟩
abbrev S4x1024 : Shape := ⟨2, ![4, 1024]⟩
abbrev S4x256x512 : Shape := ⟨3, ![4, 256, 512]⟩
abbrev S4x1x512 : Shape := ⟨3, ![4, 1, 512]⟩
abbrev S_ : Shape := ⟨0, ![]⟩
abbrev S2048 : Shape := ⟨1, ![2048]⟩
abbrev S2048x1 : Shape := ⟨2, ![2048, 1]⟩
abbrev S1024x4x512 : Shape := ⟨3, ![1024, 4, 512]⟩
abbrev S1024x2048 : Shape := ⟨2, ![1024, 2048]⟩
abbrev S2048x2048 : Shape := ⟨2, ![2048, 2048]⟩
abbrev S3x1024 : Shape := ⟨2, ![3, 1024]⟩
abbrev S2051x1024 : Shape := ⟨2, ![2051, 1024]⟩
abbrev S2048x4x256 : Shape := ⟨3, ![2048, 4, 256]⟩
abbrev S4x512x2048 : Shape := ⟨3, ![4, 512, 2048]⟩
abbrev S2048x4x512 : Shape := ⟨3, ![2048, 4, 512]⟩
abbrev S4x512 : Shape := ⟨2, ![4, 512]⟩
abbrev S1x4x512 : Shape := ⟨3, ![1, 4, 512]⟩
abbrev S4x2048x256 : Shape := ⟨3, ![4, 2048, 256]⟩
abbrev S4x512x256 : Shape := ⟨3, ![4, 512, 256]⟩
abbrev S1024 : Shape := ⟨1, ![1024]⟩

abbrev nBuf : Space → Nat
  | .hbm => 198
  | .vmem => 0
  | .smem => 0
  | _ => 0

abbrev hbmTy0_0 (i : Nat) : BufTy := match i % 128 with
  | 0 => ⟨S2048x1024, .f32⟩
  | 1 => ⟨S1x1024, .f32⟩
  | 2 => ⟨S4x1024x512, .bf16⟩
  | 3 => ⟨S4x1024, .f32⟩
  | 4 => ⟨S1x1024, .f32⟩
  | 5 => ⟨S4x256x512, .bf16⟩
  | 6 => ⟨S4x1x512, .f32⟩
  | 7 => ⟨S2048x1024, .bf16⟩
  | 8 => ⟨S2048x1024, .bf16⟩
  | 9 => ⟨S2048x1024, .bf16⟩
  | 10 => ⟨S2048x1024, .f32⟩
  | 11 => ⟨S2048x1024, .f32⟩
  | 12 => ⟨S4x1024x512, .f32⟩
  | 13 => ⟨S4x256x512, .f32⟩
  | 14 => ⟨S2048x1024, .f32⟩
  | 15 => ⟨S2048x1024, .f32⟩
  | 16 => ⟨S2048x1024, .f32⟩
  | 17 => ⟨S2048x1024, .f32⟩
  | 18 => ⟨S_, .f32⟩
  | 19 => ⟨S2048, .f32⟩
  | 20 => ⟨S2048x1, .f32⟩
  | 21 => ⟨S_, .f32⟩
  | 22 => ⟨S2048x1, .f32⟩
  | 23 => ⟨S2048x1, .f32⟩
  | 24 => ⟨S_, .f32⟩
  | 25 => ⟨S2048x1, .f32⟩
  | 26 => ⟨S2048x1, .f32⟩
  | 27 => ⟨S2048x1, .f32⟩
  | 28 => ⟨S2048x1, .f32⟩
  | 29 => ⟨S_, .f32⟩
  | 30 => ⟨S2048x1, .f32⟩
  | 31 => ⟨S2048x1, .f32⟩
  | 32 => ⟨S2048x1024, .f32⟩
  | 33 => ⟨S2048x1024, .f32⟩
  | 34 => ⟨S2048x1024, .f32⟩
  | 35 => ⟨S2048x1024, .f32⟩
  | 36 => ⟨S1024x4x512, .f32⟩
  | 37 => ⟨S1024x2048, .f32⟩
  | 38 => ⟨S2048x2048, .f32⟩
  | 39 => ⟨S2048x1024, .f32⟩
  | 40 => ⟨S2048x1024, .f32⟩
  | 41 => ⟨S_, .f32⟩
  | 42 => ⟨S3x1024, .f32⟩
  | 43 => ⟨S2051x1024, .f32⟩
  | 44 => ⟨S_, .f32⟩
  | 45 => ⟨S3x1024, .f32⟩
  | 46 => ⟨S2048x1024, .f32⟩
  | 47 => ⟨S1x1024, .f32⟩
  | 48 => ⟨S2048x1024, .f32⟩
  | 49 => ⟨S2048x1024, .f32⟩
  | 50 => ⟨S2048x1024, .f32⟩
  | 51 => ⟨S2048x1024, .f32⟩
  | 52 => ⟨S2048x1024, .f32⟩
  | 53 => ⟨S1x1024, .f32⟩
  | 54 => ⟨S2048x1024, .f32⟩
  | 55 => ⟨S2048x1024, .f32⟩
  | 56 => ⟨S2048x1024, .f32⟩
  | 57 => ⟨S2048x1024, .f32⟩
  | 58 => ⟨S1x1024, .f32⟩
  | 59 => ⟨S2048x1024, .f32⟩
  | 60 => ⟨S2048x1024, .f32⟩
  | 61 => ⟨S2048x1024, .f32⟩
  | 62 => ⟨S2048x1024, .f32⟩
  | 63 => ⟨S1x1024, .f32⟩
  | 64 => ⟨S2048x1024, .f32⟩
  | 65 => ⟨S2048x1024, .f32⟩
  | 66 => ⟨S2048x1024, .f32⟩
  | 67 => ⟨S2048x4x256, .f32⟩
  | 68 => ⟨S4x512x2048, .f32⟩
  | 69 => ⟨S2048x4x512, .f32⟩
  | 70 => ⟨S4x512, .f32⟩
  | 71 => ⟨S1x4x512, .f32⟩
  | 72 => ⟨S2048x4x512, .f32⟩
  | 73 => ⟨S2048x4x512, .f32⟩
  | 74 => ⟨S2048x4x256, .f32⟩
  | 75 => ⟨S2048x1024, .f32⟩
  | 76 => ⟨S2048x4x256, .f32⟩
  | 77 => ⟨S2048x1024, .f32⟩
  | 78 => ⟨S2048x4x256, .f32⟩
  | 79 => ⟨S_, .f32⟩
  | 80 => ⟨S2048x4x512, .f32⟩
  | 81 => ⟨S2048x4x256, .f32⟩
  | 82 => ⟨S_, .f32⟩
  | 83 => ⟨S2048x4x512, .f32⟩
  | 84 => ⟨S2048x4x512, .f32⟩
  | 85 => ⟨S4x512x2048, .f32⟩
  | 86 => ⟨S4x2048x256, .f32⟩
  | 87 => ⟨S2048x4x256, .f32⟩
  | 88 => ⟨S4x512x256, .f32⟩
  | 89 => ⟨S4x256x512, .f32⟩
  | 90 => ⟨S2048x1024, .f32⟩
  | 91 => ⟨S2048x1024, .f32⟩
  | 92 => ⟨S2048x1024, .f32⟩
  | 93 => ⟨S2048x1024, .f32⟩
  | 94 => ⟨S2048x1024, .f32⟩
  | 95 => ⟨S_, .f32⟩
  | 96 => ⟨S1024, .f32⟩
  | 97 => ⟨S1x1024, .f32⟩
  | 98 => ⟨S2048x1024, .f32⟩
  | 99 => ⟨S2048x1024, .f32⟩
  | 100 => ⟨S_, .f32⟩
  | 101 => ⟨S4x1024, .f32⟩
  | 102 => ⟨S_, .f32⟩
  | 103 => ⟨S2051x1024, .f32⟩
  | 104 => ⟨S2048x1024, .f32⟩
  | 105 => ⟨S_, .f32⟩
  | 106 => ⟨S1024, .f32⟩
  | 107 => ⟨S1x1024, .f32⟩
  | 108 => ⟨S2048x1024, .f32⟩
  | 109 => ⟨S2048x1024, .f32⟩
  | 110 => ⟨S_, .f32⟩
  | 111 => ⟨S4x1024, .f32⟩
  | 112 => ⟨S4x1024, .f32⟩
  | 113 => ⟨S_, .f32⟩
  | 114 => ⟨S2051x1024, .f32⟩
  | 115 => ⟨S2051x1024, .f32⟩
  | 116 => ⟨S2048x1024, .f32⟩
  | 117 => ⟨S_, .f32⟩
  | 118 => ⟨S1024, .f32⟩
  | 119 => ⟨S1x1024, .f32⟩
  | 120 => ⟨S2048x1024, .f32⟩
  | 121 => ⟨S2048x1024, .f32⟩
  | 122 => ⟨S_, .f32⟩
  | 123 => ⟨S4x1024, .f32⟩
  | 124 => ⟨S4x1024, .f32⟩
  | 125 => ⟨S_, .f32⟩
  | 126 => ⟨S2051x1024, .f32⟩
  | 127 => ⟨S2051x1024, .f32⟩
  | _ => ⟨S2048x1024, .f32⟩

abbrev hbmTy0_1 (i : Nat) : BufTy := match i % 128 with
  | 0 => ⟨S_, .f32⟩
  | 1 => ⟨S1024, .f32⟩
  | 2 => ⟨S1x1024, .f32⟩
  | 3 => ⟨S2048x1024, .f32⟩
  | 4 => ⟨S_, .f32⟩
  | 5 => ⟨S1024, .f32⟩
  | 6 => ⟨S1x1024, .f32⟩
  | 7 => ⟨S2048x1024, .f32⟩
  | 8 => ⟨S2048x1024, .f32⟩
  | 9 => ⟨S_, .f32⟩
  | 10 => ⟨S4x1024, .f32⟩
  | 11 => ⟨S4x1024, .f32⟩
  | 12 => ⟨S_, .f32⟩
  | 13 => ⟨S2051x1024, .f32⟩
  | 14 => ⟨S2051x1024, .f32⟩
  | 15 => ⟨S3x1024, .f32⟩
  | 16 => ⟨S2048x1024, .f32⟩
  | 17 => ⟨S_, .f32⟩
  | 18 => ⟨S2048x2048, .f32⟩
  | 19 => ⟨S_, .f32⟩
  | 20 => ⟨S2048x2048, .f32⟩
  | 21 => ⟨S2048x2048, .f32⟩
  | 22 => ⟨S2048x1024, .f32⟩
  | 23 => ⟨S1024x2048, .f32⟩
  | 24 => ⟨S2048x1024, .f32⟩
  | 25 => ⟨S1024x4x512, .f32⟩
  | 26 => ⟨S4x1024x512, .f32⟩
  | 27 => ⟨S2048x1024, .f32⟩
  | 28 => ⟨S_, .f32⟩
  | 29 => ⟨S1024, .f32⟩
  | 30 => ⟨S1x1024, .f32⟩
  | 31 => ⟨S2048x1024, .f32⟩
  | 32 => ⟨S2048x1024, .f32⟩
  | 33 => ⟨S2048x1024, .f32⟩
  | 34 => ⟨S_, .f32⟩
  | 35 => ⟨S2048, .f32⟩
  | 36 => ⟨S2048x1, .f32⟩
  | 37 => ⟨S2048x1024, .f32⟩
  | 38 => ⟨S2048x1024, .f32⟩
  | 39 => ⟨S2048x1, .f32⟩
  | 40 => ⟨S_, .f32⟩
  | 41 => ⟨S2048x1, .f32⟩
  | 42 => ⟨S2048x1, .f32⟩
  | 43 => ⟨S_, .f32⟩
  | 44 => ⟨S2048, .f32⟩
  | 45 => ⟨S2048x1024, .f32⟩
  | 46 => ⟨S2048x1024, .f32⟩
  | 47 => ⟨S2048x1024, .f32⟩
  | 48 => ⟨S2048x1024, .f32⟩
  | 49 => ⟨S2048x1024, .f32⟩
  | 50 => ⟨S2048x1024, .f32⟩
  | 51 => ⟨S2048x1024, .f32⟩
  | 52 => ⟨S_, .f32⟩
  | 53 => ⟨S2048, .f32⟩
  | 54 => ⟨S2048x1, .f32⟩
  | 55 => ⟨S_, .f32⟩
  | 56 => ⟨S2048x1, .f32⟩
  | 57 => ⟨S2048x1, .f32⟩
  | 58 => ⟨S_, .f32⟩
  | 59 => ⟨S2048x1, .f32⟩
  | 60 => ⟨S2048x1, .f32⟩
  | 61 => ⟨S2048x1, .f32⟩
  | 62 => ⟨S2048x1024, .f32⟩
  | 63 => ⟨S2048x1024, .f32⟩
  | 64 => ⟨S2048x1024, .f32⟩
  | 65 => ⟨S2048x1024, .f32⟩
  | 66 => ⟨S2048x1024, .bf16⟩
  | 67 => ⟨S4x256x512, .bf16⟩
  | 68 => ⟨S4x1024x512, .bf16⟩
  | 69 => ⟨S2048x1024, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_5 : Ref sig .tc := ⟨.hbm, 79, rfl⟩
abbrev main_v61 : Ref sig .tc := ⟨.hbm, 80, rfl⟩
abbrev main_v62 : Ref sig .tc := ⟨.hbm, 81, rfl⟩
abbrev main_cst_6 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_7 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_8 : Ref sig .tc := ⟨.hbm, 100, rfl⟩
abbrev main_v79 : Ref sig .tc := ⟨.hbm, 101, rfl⟩
abbrev main_cst_9 : Ref sig .tc := ⟨.hbm, 102, rfl⟩
abbrev main_v80 : Ref sig .tc := ⟨.hbm, 103, rfl⟩
abbrev main_v81 : Ref sig .tc := ⟨.hbm, 104, rfl⟩
abbrev main_cst_10 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_11 : Ref sig .tc := ⟨.hbm, 110, rfl⟩
abbrev main_v86 : Ref sig .tc := ⟨.hbm, 111, rfl⟩
abbrev main_v87 : Ref sig .tc := ⟨.hbm, 112, rfl⟩
abbrev main_cst_12 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_13 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_14 : Ref sig .tc := ⟨.hbm, 122, rfl⟩
abbrev main_v95 : Ref sig .tc := ⟨.hbm, 123, rfl⟩
abbrev main_v96 : Ref sig .tc := ⟨.hbm, 124, rfl⟩
abbrev main_cst_15 : Ref sig .tc := ⟨.hbm, 125, rfl⟩
abbrev main_v97 : Ref sig .tc := ⟨.hbm, 126, rfl⟩
abbrev main_v98 : Ref sig .tc := ⟨.hbm, 127, rfl⟩
abbrev main_cst_16 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_17 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_18 : Ref sig .tc := ⟨.hbm, 137, rfl⟩
abbrev main_v106 : Ref sig .tc := ⟨.hbm, 138, rfl⟩
abbrev main_v107 : Ref sig .tc := ⟨.hbm, 139, rfl⟩
abbrev main_cst_19 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_20 : Ref sig .tc := ⟨.hbm, 145, rfl⟩
abbrev main_v112 : Ref sig .tc := ⟨.hbm, 146, rfl⟩
abbrev main_cst_21 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_cst_22 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_cst_23 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_24 : Ref sig .tc := ⟨.hbm, 168, rfl⟩
abbrev main_v131 : Ref sig .tc := ⟨.hbm, 169, rfl⟩
abbrev main_v132 : Ref sig .tc := ⟨.hbm, 170, rfl⟩
abbrev main_cst_25 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_cst_26 : Ref sig .tc := ⟨.hbm, 180, rfl⟩
abbrev main_v141 : Ref sig .tc := ⟨.hbm, 181, rfl⟩
abbrev main_v142 : Ref sig .tc := ⟨.hbm, 182, rfl⟩
abbrev main_cst_27 : Ref sig .tc := ⟨.hbm, 183, rfl⟩
abbrev main_v143 : Ref sig .tc := ⟨.hbm, 184, rfl⟩
abbrev main_v144 : Ref sig .tc := ⟨.hbm, 185, rfl⟩
abbrev main_cst_28 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩

abbrev nD : Nat := 1
abbrev τ : Topo := Topo.v7x

variable {F : FTy → Type} [FloatOps F]
-- ==== Kernel4.lean ====
abbrev S2048x1024 : Shape := ⟨2, ![2048, 1024]⟩
abbrev S1x1024 : Shape := ⟨2, ![1, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S2048x512 : Shape := ⟨2, ![2048, 512]⟩
abbrev S512x1024 : Shape := ⟨2, ![512, 1024]⟩
abbrev S4x1x1024 : Shape := ⟨3, ![4, 1, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩
abbrev S_ : Shape := ⟨0, ![]⟩

abbrev nBuf : Space → Nat
  | .hbm => 13
  | .vmem => 29
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x1024, .bf16⟩
  | .hbm, ⟨3, _⟩ => ⟨S2048x1024, .bf16⟩
  | .hbm, ⟨4, _⟩ => ⟨S2048x1024, .f32⟩
  | .hbm, ⟨5, _⟩ => ⟨S2048x1024, .bf16⟩
  | .hbm, ⟨6, _⟩ => ⟨S2048x1024, .bf16⟩
  | .hbm, ⟨7, _⟩ => ⟨S1024x1024, .bf16⟩
  | .hbm, ⟨8, _⟩ => ⟨S2048x1024, .f32⟩
  | .hbm, ⟨9, _⟩ => ⟨S2048x1024, .bf16⟩
  | .hbm, ⟨10, _⟩ => ⟨S4x1x1024, .f32⟩
  | .hbm, ⟨11, _⟩ => ⟨S_, .f32⟩
  | .hbm, ⟨12, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S2048x512, .bf16⟩
  | .local _ .vmem, ⟨11, _⟩ => ⟨S2048x512, .bf16⟩
  | .local _ .vmem, ⟨12, _⟩ => ⟨S2048x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .bf16⟩
  | .local _ .vmem, ⟨27, _⟩ => ⟨S1x1x1024, .f32⟩
  | .local _ .vmem, ⟨28, _⟩ => ⟨S1x1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_cst : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg4_1 : Ref sig .tc := ⟨.vmem, 22, rfl⟩
abbrev cc3_stg5_0 : Ref sig .tc := ⟨.vmem, 23, rfl⟩
abbrev cc3_stg5_1 : Ref sig .tc := ⟨.vmem, 24, rfl⟩
abbrev cc3_stg6_0 : Ref sig .tc := ⟨.vmem, 25, rfl⟩
abbrev cc3_stg6_1 : Ref sig .tc := ⟨.vmem, 26, rfl⟩
abbrev cc3_stg7_0 : Ref sig .tc := ⟨.vmem, 27, rfl⟩
abbrev cc3_stg7_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem4_0 : DmaSem sig := 21
abbrev cc3_sem4_1 : DmaSem sig := 22
abbrev cc3_sem5_0 : DmaSem sig := 23
abbrev cc3_sem5_1 : DmaSem sig := 24
abbrev cc3_sem6_0 : DmaSem sig := 25
abbrev cc3_sem6_1 : DmaSem sig := 26
abbrev cc3_sem7_0 : DmaSem sig := 27
abbrev cc3_sem7_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_6 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_7 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false, false]

abbrev stage3_4 : Fin 2 → Memref sig .tc .vmem S512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev stage3_5 : Fin 2 → Memref sig .tc .vmem S512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

abbrev stage3_6 : Fin 2 → Memref sig .tc .vmem S512x1024 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true, false]

abbrev stage3_7 : Fin 2 → Memref sig .tc .vmem S1x1x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false, false]
-- ==== Reference4Ideal.lean ====
abbrev S2048x1024 : Shape := ⟨2, ![2048, 1024]⟩
abbrev S1x1024 : Shape := ⟨2, ![1, 1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x1024, .bf16⟩
  | .hbm, ⟨3, _⟩ => ⟨S2048x1024, .bf16⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S1024x1024, .f32⟩
  | .hbm, ⟨28, _⟩ => ⟨S1024x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S2048x1024, .f32⟩
  | .hbm, ⟨56, _⟩ => ⟨S2048x1024, .f32⟩
  | .hbm, ⟨57, _⟩ => ⟨S2048x1024, .bf16⟩
  | .hbm, ⟨58, _⟩ => ⟨S1024x1024, .bf16⟩
  | .hbm, ⟨59, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Proof.RefOps.lean ====
/- The reference's operations, stretch by stretch, and the run of a program of two counted host loops' launch set-up: @main and the
   two loop bodies as chains of their items. Hand-kept beside the generated side conditions of `ReferenceIdeal`. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.RefRun

open Idealize.ShloMosaic Idealize.ShloMosaic.TcCoe Idealize.ShloMosaic.StableHlo
open Idealize.ShloMosaic.StableHlo renaming unary_bufs_sub → us, binary_bufs_sub → bs, nullary_bufs_sub → ns, ternary_bufs_sub → ts, reshape_bufs_sub → rs
open Idealize.SL Idealize.SL.RA Idealize.SL.BI
open scoped Idealize.SL.BI
open Idealize.SL.BI.BIBase Idealize.SL.Sem
open Cert.ReferenceIdeal Cert.ReferenceIdeal.Gen

/-- The contents of a buffer of 32-bit floats. -/
abbrev Fv (F : FTy → Type) (s : Shape) : Type := (⟨s, .f32⟩ : BufTy).Contents (Elt F)

/-- The contents of a buffer of 16-bit floats. -/
abbrev Hv (F : FTy → Type) (s : Shape) : Type := (⟨s, .bf16⟩ : BufTy).Contents (Elt F)

/-- Maps of one array, and of two, of the shape. -/
abbrev Un (F : FTy → Type) (s : Shape) : Type := Fv F s → Fv F s
abbrev Bin (F : FTy → Type) (s : Shape) : Type := Fv F s → Fv F s → Fv F s

variable {F : FTy → Type} [FloatOps F]

/-- The lines of a program. -/
abbrev Ops (F : FTy → Type) [FloatOps F] := List (HloOp τ sig (Elt F))

/-- Every line's buffers are the core's; no line names a new one; the buffers written are among `W`. -/
abbrev Subs (l : Ops F) : Prop := l.Forall fun op => op.bufs ⊆ tcRefs τ sig
abbrev Fresh (l : Ops F) : Prop := ∀ op ∈ l, op.fresh = ∅
abbrev Writes (l : Ops F) (W : List (Ref sig .tc)) : Prop := l.Forall fun op => op.writes ⊆ (W.map (Proc.devRef (τ := τ) .tc)).toFinset

/-- The labels and effects @main and its loops run over. -/
abbrev MainProg (F : FTy → Type) [FloatOps F] : Type 1 :=
  Prog (TpuEff nD τ sig (Elt F) (HostLoop.Sig (Pipeline.Sig Λ₀ (Fin 0) fun p => (pcfgs (F := F) p).Adm) 2) .tc) PUnit

abbrev p00 : Ops F :=
  ( unary main_arg1 main_v0 ((extractStridedSlice S2048x1024 ![0, 0] · slices_S2048x2048_S2048x1024_0_0) : Fv F S2048x2048 → Fv F S2048x1024)
  :: nullary main_cst (constant S_ .f32 0x00000000#32)
  :: unary main_cst main_v1 (broadcastInDim S1x1024 ![] bcast_S_S1x1024 : Fv F S_ → Fv F S1x1024)
  :: unary main_v1 main_v2 (broadcastInDim S2048x1024 ![0, 1] bcast_S1x1024_S2048x1024_0_1 : Fv F S1x1024 → Fv F S2048x1024)
  :: binary main_arg3 main_v2 main_v3 (addf : Bin F S2048x1024)
  :: unary main_v3 main_v4 (Host.negf : Un F S2048x1024)
  :: unary main_v4 main_v5 (Host.exp : Un F S2048x1024)
  :: nullary main_cst_0 (constant S_ .f32 0x3F800000#32)
  :: unary main_cst_0 main_v6 (broadcastInDim S2048x1024 ![] bcast_S_S2048x1024 : Fv F S_ → Fv F S2048x1024)
  :: binary main_v6 main_v5 main_v7 (addf : Bin F S2048x1024)
  :: nullary main_cst_1 (constant S_ .f32 0x3F800000#32)
  :: unary main_cst_1 main_v8 (broadcastInDim S2048x1024 ![] bcast_S_S2048x1024 : Fv F S_ → Fv F S2048x1024)
  :: binary main_v8 main_v7 main_v9 (Host.divf : Bin F S2048x1024)
  :: nullary main_cst_2 (constant S_ .f32 0x3F800000#32)
  :: unary main_cst_2 main_v10 (broadcastInDim S2048x1024 ![] bcast_S_S2048x1024 : Fv F S_ → Fv F S2048x1024)
  :: binary main_v10 main_v9 main_v11 (subf : Bin F S2048x1024)
  :: binary main_v9 main_v11 main_v12 (mulf : Bin F S2048x1024)
  :: unary main_v1 main_v13 (broadcastInDim S2048x1024 ![0, 1] bcast_S1x1024_S2048x1024_0_1 : Fv F S1x1024 → Fv F S2048x1024)
  :: binary main_arg4 main_v13 main_v14 (addf : Bin F S2048x1024)
  :: unary main_v14 main_v15 (Host.negf : Un F S2048x1024)
  :: unary main_v15 main_v16 (Host.exp : Un F S2048x1024)
  :: nullary main_cst_3 (constant S_ .f32 0x3F800000#32)
  :: unary main_cst_3 main_v17 (broadcastInDim S2048x1024 ![] bcast_S_S2048x1024 : Fv F S_ → Fv F S2048x1024)
  :: binary main_v17 main_v16 main_v18 (addf : Bin F S2048x1024)
  :: nullary main_cst_4 (constant S_ .f32 0x3F800000#32)
  :: unary main_cst_4 main_v19 (broadcastInDim S2048x1024 ![] bcast_S_S2048x1024 : Fv F S_ → Fv F S2048x1024)
  :: binary main_v19 main_v18 main_v20 (Host.divf : Bin F S2048x1024)
  :: nullary main_cst_5 (constant S_ .f32 0x3F800000#32)
  :: unary main_cst_5 main_v21 (broadcastInDim S2048x1024 ![] bcast_S_S2048x1024 : Fv F S_ → Fv F S2048x1024)
  :: binary main_v21 main_v20 main_v22 (subf : Bin F S2048x1024)
  :: binary main_v20 main_v22 main_v23 (mulf : Bin F S2048x1024)
  :: nullary main_cst_6 (constant S_ .f32 0xC1000000#32)
  :: unary main_cst_6 main_v24 (broadcastInDim S2048x1024 ![] bcast_S_S2048x1024 : Fv F S_ → Fv F S2048x1024)
  :: binary main_v24 main_v20 main_v25 (mulf : Bin F S2048x1024)
  :: unary main_arg5 main_v26 (Host.negf : Un F S1x1024)
  :: [] )
theorem p00_sub : Subs (F := F) p00 :=
  ⟨us .., ns .., us .., us .., bs .., us .., us .., ns .., us .., bs .., ns .., us .., bs .., ns .., us .., bs .., bs .., us .., bs .., us .., us .., ns .., us .., bs .., ns .., us .., bs .., ns .., us .., bs .., bs .., ns .., us .., bs .., us ..⟩
theorem p00_fresh : Fresh (F := F) p00 := List.map_inj_left.mp rfl
abbrev p00_W : List (Ref sig .tc) :=
  [main_v0, main_cst, main_v1, main_v2, main_v3, main_v4, main_v5, main_cst_0, main_v6, main_v7, main_cst_1, main_v8, main_v9, main_cst_2, main_v10, main_v11, main_v12, main_v13, main_v14, main_v15, main_v16, main_cst_3, main_v17, main_v18, main_cst_4, main_v19, main_v20, main_cst_5, main_v21, main_v22, main_v23, main_cst_6, main_v24, main_v25, main_v26]
theorem p00_writes : Writes (F := F) p00 p00_W := forall_writes_sub_of_map rfl

abbrev p01 : Ops F :=
  ( TRef.nullary (.of main_call0_cst : TRef sig ⟨S_, .f32⟩) (constant S_ .f32 0x00000000#32)
  :: TRef.unary (.of main_call0_cst : TRef sig ⟨S_, .f32⟩) (.of main_call0_v0 : TRef sig ⟨S1x1024, .f32⟩) (broadcastInDim S1x1024 ![] bcast_S_S1x1024)
  :: TRef.binary (.of main_v26 : TRef sig ⟨S1x1024, .f32⟩) (.of main_call0_v0 : TRef sig ⟨S1x1024, .f32⟩) (.of main_call0_v1 : TRef sig ⟨S1x1024, .f32⟩) maximumf
  :: TRef.unary (.of main_call0_cst : TRef sig ⟨S_, .f32⟩) (.of main_call0_v2 : TRef sig ⟨S1x1024, .f32⟩) (broadcastInDim S1x1024 ![] bcast_S_S1x1024)
  :: TRef.binary (.of main_v26 : TRef sig ⟨S1x1024, .f32⟩) (.of main_call0_v2 : TRef sig ⟨S1x1024, .f32⟩) (.of main_call0_v3 : TRef sig ⟨S1x1024, .f32⟩) subf
  :: TRef.binary (.of main_call0_v3 : TRef sig ⟨S1x1024, .f32⟩) (.of main_call0_v3 : TRef sig ⟨S1x1024, .f32⟩) (.of main_call0_v4 : TRef sig ⟨S1x1024, .i1⟩) (cmpf .une)
  :: TRef.unary (.of main_call0_cst : TRef sig ⟨S_, .f32⟩) (.of main_call0_v5 : TRef sig ⟨S1x1024, .f32⟩) (broadcastInDim S1x1024 ![] bcast_S_S1x1024)
  :: TRef.binary (.of main_v26 : TRef sig ⟨S1x1024, .f32⟩) (.of main_call0_v5 : TRef sig ⟨S1x1024, .f32⟩) (.of main_call0_v6 : TRef sig ⟨S1x1024, .f32⟩) addf
  :: TRef.unary (.of main_call0_v3 : TRef sig ⟨S1x1024, .f32⟩) (.of main_call0_v7 : TRef sig ⟨S1x1024, .f32⟩) Host.absf
  :: TRef.unary (.of main_call0_v7 : TRef sig ⟨S1x1024, .f32⟩) (.of main_call0_v8 : TRef sig ⟨S1x1024, .f32⟩) Host.negf
  :: TRef.unary (.of main_call0_v8 : TRef sig ⟨S1x1024, .f32⟩) (.of main_call0_v9 : TRef sig ⟨S1x1024, .f32⟩) Host.exp
  :: TRef.unary (.of main_call0_v9 : TRef sig ⟨S1x1024, .f32⟩) (.of main_call0_v10 : TRef sig ⟨S1x1024, .f32⟩) Host.log1p
  :: TRef.binary (.of main_call0_v1 : TRef sig ⟨S1x1024, .f32⟩) (.of main_call0_v10 : TRef sig ⟨S1x1024, .f32⟩) (.of main_call0_v11 : TRef sig ⟨S1x1024, .f32⟩) addf
  :: TRef.ternary (.of main_call0_v4 : TRef sig ⟨S1x1024, .i1⟩) (.of main_call0_v6 : TRef sig ⟨S1x1024, .f32⟩) (.of main_call0_v11 : TRef sig ⟨S1x1024, .f32⟩) (.of main_v27_0 : TRef sig ⟨S1x1024, .f32⟩) select
  :: TRef.nullary (.of main_call0_cst_0 : TRef sig ⟨S_, .f32⟩) (constant S_ .f32 0x7F800000#32)
  :: TRef.unary (.of main_call0_cst_0 : TRef sig ⟨S_, .f32⟩) (.of main_call0_v13 : TRef sig ⟨S1x1024, .f32⟩) (broadcastInDim S1x1024 ![] bcast_S_S1x1024)
  :: TRef.binary (.of main_v26 : TRef sig ⟨S1x1024, .f32⟩) (.of main_call0_v13 : TRef sig ⟨S1x1024, .f32⟩) (.of main_call0_v14 : TRef sig ⟨S1x1024, .i1⟩) (cmpf .oeq)
  :: TRef.nullary (.of main_call0_cst_1 : TRef sig ⟨S_, .f32⟩) (constant S_ .f32 0x00000000#32)
  :: TRef.unary (.of main_call0_cst_1 : TRef sig ⟨S_, .f32⟩) (.of main_call0_v15 : TRef sig ⟨S1x1024, .f32⟩) (broadcastInDim S1x1024 ![] bcast_S_S1x1024)
  :: TRef.ternary (.of main_call0_v14 : TRef sig ⟨S1x1024, .i1⟩) (.of main_call0_v15 : TRef sig ⟨S1x1024, .f32⟩) (.of main_v26 : TRef sig ⟨S1x1024, .f32⟩) (.of main_call0_v16 : TRef sig ⟨S1x1024, .f32⟩) select
  :: TRef.nullary (.of main_call0_cst_2 : TRef sig ⟨S_, .f32⟩) (constant S_ .f32 0x7F800000#32)
  :: TRef.unary (.of main_call0_cst_2 : TRef sig ⟨S_, .f32⟩) (.of main_call0_v17 : TRef sig ⟨S1x1024, .f32⟩) (broadcastInDim S1x1024 ![] bcast_S_S1x1024)
  :: TRef.binary (.of main_v27_0 : TRef sig ⟨S1x1024, .f32⟩) (.of main_call0_v17 : TRef sig ⟨S1x1024, .f32⟩) (.of main_call0_v18 : TRef sig ⟨S1x1024, .i1⟩) (cmpf .oeq)
  :: TRef.nullary (.of main_call0_cst_3 : TRef sig ⟨S_, .f32⟩) (constant S_ .f32 0x00000000#32)
  :: TRef.unary (.of main_call0_cst_3 : TRef sig ⟨S_, .f32⟩) (.of main_call0_v19 : TRef sig ⟨S1x1024, .f32⟩) (broadcastInDim S1x1024 ![] bcast_S_S1x1024)
  :: TRef.ternary (.of main_call0_v18 : TRef sig ⟨S1x1024, .i1⟩) (.of main_call0_v19 : TRef sig ⟨S1x1024, .f32⟩) (.of main_v27_0 : TRef sig ⟨S1x1024, .f32⟩) (.of main_call0_v20 : TRef sig ⟨S1x1024, .f32⟩) select
  :: TRef.binary (.of main_call0_v16 : TRef sig ⟨S1x1024, .f32⟩) (.of main_call0_v20 : TRef sig ⟨S1x1024, .f32⟩) (.of main_call0_v21 : TRef sig ⟨S1x1024, .f32⟩) subf
  :: TRef.unary (.of main_call0_v21 : TRef sig ⟨S1x1024, .f32⟩) (.of main_v27_1 : TRef sig ⟨S1x1024, .f32⟩) Host.exp
  :: TRef.nullary (.of main_call0_cst_4 : TRef sig ⟨S_, .f32⟩) (constant S_ .f32 0x00000000#32)
  :: TRef.nullary (.of main_call0_cst_5 : TRef sig ⟨S_, .f32⟩) (constant S_ .f32 0x7F800000#32)
  :: TRef.binary (.of main_call0_cst_4 : TRef sig ⟨S_, .f32⟩) (.of main_call0_cst_5 : TRef sig ⟨S_, .f32⟩) (.of main_call0_v23 : TRef sig ⟨S_, .i1⟩) (cmpf .oeq)
  :: TRef.nullary (.of main_call0_cst_6 : TRef sig ⟨S_, .f32⟩) (constant S_ .f32 0x00000000#32)
  :: TRef.nullary (.of main_call0_cst_7 : TRef sig ⟨S_, .f32⟩) (constant S_ .f32 0x00000000#32)
  :: TRef.ternary (.of main_call0_v23 : TRef sig ⟨S_, .i1⟩) (.of main_call0_cst_7 : TRef sig ⟨S_, .f32⟩) (.of main_call0_cst_6 : TRef sig ⟨S_, .f32⟩) (.of main_call0_v24 : TRef sig ⟨S_, .f32⟩) select
  :: TRef.nullary (.of main_call0_cst_8 : TRef sig ⟨S_, .f32⟩) (constant S_ .f32 0x7F800000#32)
  :: TRef.unary (.of main_call0_cst_8 : TRef sig ⟨S_, .f32⟩) (.of main_call0_v25 : TRef sig ⟨S1x1024, .f32⟩) (broadcastInDim S1x1024 ![] bcast_S_S1x1024)
  :: TRef.binary (.of main_v27_0 : TRef sig ⟨S1x1024, .f32⟩) (.of main_call0_v25 : TRef sig ⟨S1x1024, .f32⟩) (.of main_call0_v26 : TRef sig ⟨S1x1024, .i1⟩) (cmpf .oeq)
  :: TRef.nullary (.of main_call0_cst_9 : TRef sig ⟨S_, .f32⟩) (constant S_ .f32 0x00000000#32)
  :: TRef.unary (.of main_call0_cst_9 : TRef sig ⟨S_, .f32⟩) (.of main_call0_v27 : TRef sig ⟨S1x1024, .f32⟩) (broadcastInDim S1x1024 ![] bcast_S_S1x1024)
  :: TRef.ternary (.of main_call0_v26 : TRef sig ⟨S1x1024, .i1⟩) (.of main_call0_v27 : TRef sig ⟨S1x1024, .f32⟩) (.of main_v27_0 : TRef sig ⟨S1x1024, .f32⟩) (.of main_call0_v28 : TRef sig ⟨S1x1024, .f32⟩) select
  :: TRef.unary (.of main_call0_v24 : TRef sig ⟨S_, .f32⟩) (.of main_call0_v29 : TRef sig ⟨S1x1024, .f32⟩) (broadcastInDim S1x1024 ![] bcast_S_S1x1024)
  :: TRef.binary (.of main_call0_v29 : TRef sig ⟨S1x1024, .f32⟩) (.of main_call0_v28 : TRef sig ⟨S1x1024, .f32⟩) (.of main_call0_v30 : TRef sig ⟨S1x1024, .f32⟩) subf
  :: TRef.unary (.of main_call0_v30 : TRef sig ⟨S1x1024, .f32⟩) (.of main_call0_v31 : TRef sig ⟨S1x1024, .f32⟩) Host.exp
  :: TRef.nullary (.of main_call0_cst_10 : TRef sig ⟨S_, .f32⟩) (constant S_ .f32 0x00000000#32)
  :: TRef.unary (.of main_call0_cst_10 : TRef sig ⟨S_, .f32⟩) (.of main_call0_v32 : TRef sig ⟨S1x1024, .f32⟩) (broadcastInDim S1x1024 ![] bcast_S_S1x1024)
  :: TRef.binary (.of main_call0_v32 : TRef sig ⟨S1x1024, .f32⟩) (.of main_call0_v31 : TRef sig ⟨S1x1024, .f32⟩) (.of main_v27_2 : TRef sig ⟨S1x1024, .f32⟩) mulf
  :: [] )
theorem p01_sub : Subs (F := F) p01 :=
  ⟨ns .., us .., bs .., us .., bs .., bs .., us .., bs .., us .., us .., us .., us .., bs .., ts .., ns .., us .., bs .., ns .., us .., ts .., ns .., us .., bs .., ns .., us .., ts .., bs .., us .., ns .., ns .., bs .., ns .., ns .., ts .., ns .., us .., bs .., ns .., us .., ts .., us .., bs .., us .., ns .., us .., bs ..⟩
theorem p01_fresh : Fresh (F := F) p01 := List.map_inj_left.mp rfl
abbrev p01_W : List (Ref sig .tc) :=
  [main_call0_cst, main_call0_v0, main_call0_v1, main_call0_v2, main_call0_v3, main_call0_v4, main_call0_v5, main_call0_v6, main_call0_v7, main_call0_v8, main_call0_v9, main_call0_v10, main_call0_v11, main_v27_0, main_call0_cst_0, main_call0_v13, main_call0_v14, main_call0_cst_1, main_call0_v15, main_call0_v16, main_call0_cst_2, main_call0_v17, main_call0_v18, main_call0_cst_3, main_call0_v19, main_call0_v20, main_call0_v21, main_v27_1, main_call0_cst_4, main_call0_cst_5, main_call0_v23, main_call0_cst_6, main_call0_cst_7, main_call0_v24, main_call0_cst_8, main_call0_v25, main_call0_v26, main_call0_cst_9, main_call0_v27, main_call0_v28, main_call0_v29, main_call0_v30, main_call0_v31, main_call0_cst_10, main_call0_v32, main_v27_2]
theorem p01_writes : Writes (F := F) p01 p01_W := forall_writes_sub_of_map rfl

abbrev p02 : Ops F :=
  [ unary main_v27_0 main_v28 (broadcastInDim S2048x1024 ![0, 1] bcast_S1x1024_S2048x1024_0_1 : Fv F S1x1024 → Fv F S2048x1024),
    binary main_v25 main_v28 main_v29 (mulf : Bin F S2048x1024),
    unary main_v29 main_v30 (Host.exp : Un F S2048x1024),
    nullary main_cst_7 (constant S_ .f32 0x40000000#32),
    unary main_cst_7 main_v31 (broadcastInDim S2048x1024 ![] bcast_S_S2048x1024 : Fv F S_ → Fv F S2048x1024),
    binary main_v31 main_v29 main_v32 (mulf : Bin F S2048x1024),
    unary main_v32 main_v33 (Host.expm1 : Un F S2048x1024),
    unary main_v32 main_v34 (Host.exp : Un F S2048x1024),
    unary main_v33 main_v35 (Host.negf : Un F S2048x1024),
    unary main_v35 main_v36 (Host.sqrt : Un F S2048x1024),
    nullary main_cst_8 (constant S_ .f32 0x3F000000#32),
    unary main_cst_8 main_v37 (broadcastInDim S2048x1024 ![] bcast_S_S2048x1024 : Fv F S_ → Fv F S2048x1024),
    binary main_v37 main_v36 main_v38 (Host.divf : Bin F S2048x1024),
    binary main_arg2 main_v9 main_v39 (mulf : Bin F S2048x1024),
    binary main_v39 main_v36 main_v40 (mulf : Bin F S2048x1024),
    nullary main_cst_9 (constant S_ .f32 0x00000000#32),
    unary main_cst_9 main_v41 (broadcastInDim S1024 ![] bcast_S_S1024 : Fv F S_ → Fv F S1024),
    nullary main_cst_10 (constant S_ .f32 0x00000000#32),
    unary main_cst_10 main_v42 (broadcastInDim S2048x1024 ![] bcast_S_S2048x1024 : Fv F S_ → Fv F S2048x1024),
    nullary main_cst_11 (constant S_ .f32 0x00000000#32),
    unary main_cst_11 main_v43 (broadcastInDim S2048x1024 ![] bcast_S_S2048x1024 : Fv F S_ → Fv F S2048x1024),
    nullary main_c (constantI S_ 32 0#32),
    unary main_v30 main_v44_0 id,
    unary main_v40 main_v44_1 id ]
theorem p02_sub : Subs (F := F) p02 :=
  ⟨us .., bs .., us .., ns .., us .., bs .., us .., us .., us .., us .., ns .., us .., bs .., bs .., bs .., ns .., us .., ns .., us .., ns .., us .., ns .., us .., us ..⟩
theorem p02_fresh : Fresh (F := F) p02 := List.map_inj_left.mp rfl
abbrev p02_W : List (Ref sig .tc) :=
  [main_v28, main_v29, main_v30, main_cst_7, main_v31, main_v32, main_v33, main_v34, main_v35, main_v36, main_cst_8, main_v37, main_v38, main_v39, main_v40, main_cst_9, main_v41, main_cst_10, main_v42, main_cst_11, main_v43, main_c, main_v44_0, main_v44_1]
theorem p02_writes : Writes (F := F) p02 p02_W := forall_writes_sub_of_map rfl

abbrev p10 : Ops F :=
  [ unary main_c main_v44_2 id,
    unary main_v41 main_v44_3 id,
    unary main_v42 main_v44_4 id,
    unary main_v43 main_v44_5 id ]
theorem p10_sub : Subs (F := F) p10 :=
  ⟨us .., us .., us .., us ..⟩
theorem p10_fresh : Fresh (F := F) p10 := List.map_inj_left.mp rfl
abbrev p10_W : List (Ref sig .tc) :=
  [main_v44_2, main_v44_3, main_v44_4, main_v44_5]
theorem p10_writes : Writes (F := F) p10 p10_W := forall_writes_sub_of_map rfl

abbrev p11 : Ops F :=
  ( nullary main_cst_12 (constant S_ .f32 0x472EAB00#32)
  :: nullary main_cst_13 (constant S_ .f32 0x49742400#32)
  :: binary main_cst_12 main_cst_13 main_v45 (Host.divf : Bin F S_)
  :: binary main_v0 main_v0 main_v46 (mulf : Bin F S2048x1024)
  :: binary main_v46 main_v0 main_v47 (mulf : Bin F S2048x1024)
  :: binary main_v0 main_v0 main_v48 (mulf : Bin F S2048x1024)
  :: nullary main_cst_14 (constant S_ .f32 0x40400000#32)
  :: unary main_cst_14 main_v49 (broadcastInDim S2048x1024 ![] bcast_S_S2048x1024 : Fv F S_ → Fv F S2048x1024)
  :: binary main_v49 main_v48 main_v50 (mulf : Bin F S2048x1024)
  :: unary main_v45 main_v51 (broadcastInDim S2048x1024 ![] bcast_S_S2048x1024 : Fv F S_ → Fv F S2048x1024)
  :: binary main_v51 main_v47 main_v52 (mulf : Bin F S2048x1024)
  :: binary main_v0 main_v52 main_v53 (addf : Bin F S2048x1024)
  :: nullary main_cst_15 (constant S_ .f32 0x3F4C422A#32)
  :: unary main_cst_15 main_v54 (broadcastInDim S2048x1024 ![] bcast_S_S2048x1024 : Fv F S_ → Fv F S2048x1024)
  :: binary main_v54 main_v53 main_v55 (mulf : Bin F S2048x1024)
  :: unary main_v55 main_v56 (Host.tanh : Un F S2048x1024)
  :: nullary main_cst_16 (constant S_ .f32 0x3F800000#32)
  :: unary main_cst_16 main_v57 (broadcastInDim S2048x1024 ![] bcast_S_S2048x1024 : Fv F S_ → Fv F S2048x1024)
  :: binary main_v57 main_v56 main_v58 (addf : Bin F S2048x1024)
  :: nullary main_cst_17 (constant S_ .f32 0x3F800000#32)
  :: unary main_cst_17 main_v59 (broadcastInDim S2048x1024 ![] bcast_S_S2048x1024 : Fv F S_ → Fv F S2048x1024)
  :: binary main_v59 main_v56 main_v60 (subf : Bin F S2048x1024)
  :: binary main_v58 main_v60 main_v61 (mulf : Bin F S2048x1024)
  :: nullary main_cst_18 (constant S_ .f32 0x3F800000#32)
  :: unary main_cst_18 main_v62 (broadcastInDim S2048x1024 ![] bcast_S_S2048x1024 : Fv F S_ → Fv F S2048x1024)
  :: binary main_v62 main_v56 main_v63 (addf : Bin F S2048x1024)
  :: nullary main_cst_19 (constant S_ .f32 0x3F000000#32)
  :: unary main_cst_19 main_v64 (broadcastInDim S2048x1024 ![] bcast_S_S2048x1024 : Fv F S_ → Fv F S2048x1024)
  :: binary main_v64 main_v63 main_v65 (mulf : Bin F S2048x1024)
  :: binary main_v0 main_v65 main_v66 (mulf : Bin F S2048x1024)
  :: binary main_v66 main_v44_4 main_v67 (mulf : Bin F S2048x1024)
  :: nullary main_cst_20 (constant S_ .f32 0x00000000#32)
  :: unary main_cst_20 main_v68 (broadcastInDim S1024 ![] bcast_S_S1024 : Fv F S_ → Fv F S1024)
  :: binary main_v66 main_arg0 main_v69 (mulf : Bin F S2048x1024)
  :: binary main_arg0 main_v44_4 main_v70 (mulf : Bin F S2048x1024)
  :: binary main_v0 main_v70 main_v71 (mulf : Bin F S2048x1024)
  :: binary main_v70 main_v65 main_v72 (mulf : Bin F S2048x1024)
  :: nullary main_cst_21 (constant S_ .f32 0x3F000000#32)
  :: unary main_cst_21 main_v73 (broadcastInDim S2048x1024 ![] bcast_S_S2048x1024 : Fv F S_ → Fv F S2048x1024)
  :: binary main_v73 main_v71 main_v74 (mulf : Bin F S2048x1024)
  :: binary main_v74 main_v61 main_v75 (mulf : Bin F S2048x1024)
  :: nullary main_cst_22 (constant S_ .f32 0x3F4C422A#32)
  :: unary main_cst_22 main_v76 (broadcastInDim S2048x1024 ![] bcast_S_S2048x1024 : Fv F S_ → Fv F S2048x1024)
  :: binary main_v76 main_v75 main_v77 (mulf : Bin F S2048x1024)
  :: binary main_v72 main_v77 main_v78 (addf : Bin F S2048x1024)
  :: unary main_v45 main_v79 (broadcastInDim S2048x1024 ![] bcast_S_S2048x1024 : Fv F S_ → Fv F S2048x1024)
  :: binary main_v79 main_v77 main_v80 (mulf : Bin F S2048x1024)
  :: binary main_v80 main_v50 main_v81 (mulf : Bin F S2048x1024)
  :: binary main_v78 main_v81 main_v82 (addf : Bin F S2048x1024)
  :: nullary main_cst_23 (constant S_ .f32 0x00000000#32)
  :: unary main_cst_23 main_v83 (broadcastInDim S1024 ![] bcast_S_S1024 : Fv F S_ → Fv F S1024)
  :: nullary main_cst_24 (constant S_ .f32 0x00000000#32)
  :: unary main_cst_24 main_v84 (broadcastInDim S2048x1024 ![] bcast_S_S2048x1024 : Fv F S_ → Fv F S2048x1024)
  :: nullary main_cst_25 (constant S_ .f32 0x00000000#32)
  :: unary main_cst_25 main_v85 (broadcastInDim S2048x1024 ![] bcast_S_S2048x1024 : Fv F S_ → Fv F S2048x1024)
  :: [] )
theorem p11_sub : Subs (F := F) p11 :=
  ⟨ns .., ns .., bs .., bs .., bs .., bs .., ns .., us .., bs .., us .., bs .., bs .., ns .., us .., bs .., us .., ns .., us .., bs .., ns .., us .., bs .., bs .., ns .., us .., bs .., ns .., us .., bs .., bs .., bs .., ns .., us .., bs .., bs .., bs .., bs .., ns .., us .., bs .., bs .., ns .., us .., bs .., bs .., us .., bs .., bs .., bs .., ns .., us .., ns .., us .., ns .., us ..⟩
theorem p11_fresh : Fresh (F := F) p11 := List.map_inj_left.mp rfl
abbrev p11_W : List (Ref sig .tc) :=
  [main_cst_12, main_cst_13, main_v45, main_v46, main_v47, main_v48, main_cst_14, main_v49, main_v50, main_v51, main_v52, main_v53, main_cst_15, main_v54, main_v55, main_v56, main_cst_16, main_v57, main_v58, main_cst_17, main_v59, main_v60, main_v61, main_cst_18, main_v62, main_v63, main_cst_19, main_v64, main_v65, main_v66, main_v67, main_cst_20, main_v68, main_v69, main_v70, main_v71, main_v72, main_cst_21, main_v73, main_v74, main_v75, main_cst_22, main_v76, main_v77, main_v78, main_v79, main_v80, main_v81, main_v82, main_cst_23, main_v83, main_cst_24, main_v84, main_cst_25, main_v85]
theorem p11_writes : Writes (F := F) p11 p11_W := forall_writes_sub_of_map rfl

abbrev p20 : Ops F :=
  [ nullary main_c_26 (constantI S_ 32 0#32),
    unary main_v69 main_v86_0 id,
    unary main_v44_5 main_v86_1 id,
    unary main_v30 main_v86_2 id,
    unary main_c_26 main_v86_3 id,
    unary main_v83 main_v86_4 id,
    unary main_v84 main_v86_5 id,
    unary main_v85 main_v86_6 id ]
theorem p20_sub : Subs (F := F) p20 :=
  ⟨ns .., us .., us .., us .., us .., us .., us .., us ..⟩
theorem p20_fresh : Fresh (F := F) p20 := List.map_inj_left.mp rfl
abbrev p20_W : List (Ref sig .tc) :=
  [main_c_26, main_v86_0, main_v86_1, main_v86_2, main_v86_3, main_v86_4, main_v86_5, main_v86_6]
theorem p20_writes : Writes (F := F) p20 p20_W := forall_writes_sub_of_map rfl

abbrev p21 : Ops F :=
  [ binary main_v39 main_v86_6 main_v87 (mulf : Bin F S2048x1024),
    binary main_v86_6 main_v36 main_v88 (mulf : Bin F S2048x1024),
    binary main_arg2 main_v88 main_v89 (mulf : Bin F S2048x1024),
    binary main_v88 main_v9 main_v90 (mulf : Bin F S2048x1024),
    binary main_v87 main_v38 main_v91 (mulf : Bin F S2048x1024),
    unary main_v91 main_v92 (Host.negf : Un F S2048x1024),
    binary main_v92 main_v34 main_v93 (mulf : Bin F S2048x1024),
    nullary main_cst_27 (constant S_ .f32 0x40000000#32),
    unary main_cst_27 main_v94 (broadcastInDim S2048x1024 ![] bcast_S_S2048x1024 : Fv F S_ → Fv F S2048x1024),
    binary main_v94 main_v93 main_v95 (mulf : Bin F S2048x1024),
    binary main_v86_5 main_v30 main_v96 (mulf : Bin F S2048x1024),
    binary main_v95 main_v96 main_v97 (addf : Bin F S2048x1024),
    binary main_v25 main_v97 main_v98 (mulf : Bin F S2048x1024),
    nullary main_cst_28 (constant S_ .f32 0x00000000#32),
    binary main_v98 main_cst_28 main_v99 ((fun x v => Host.reduceAdd x v reducesTo_S2048x1024_S1024_d0 h_S_) : Fv F S2048x1024 → Fv F S_ → Fv F S1024),
    reshape main_v99 main_v100 (rfl : (.f32 : EltTy) = .f32) shapeCasts_S1024_S1x1024,
    unary main_v27_0 main_v101 (broadcastInDim S2048x1024 ![0, 1] bcast_S1x1024_S2048x1024_0_1 : Fv F S1x1024 → Fv F S2048x1024),
    binary main_v97 main_v101 main_v102 (mulf : Bin F S2048x1024) ]
theorem p21_sub : Subs (F := F) p21 :=
  ⟨bs .., bs .., bs .., bs .., bs .., us .., bs .., ns .., us .., bs .., bs .., bs .., bs .., ns .., bs .., rs .., us .., bs ..⟩
theorem p21_fresh : Fresh (F := F) p21 := List.map_inj_left.mp rfl
abbrev p21_W : List (Ref sig .tc) :=
  [main_v87, main_v88, main_v89, main_v90, main_v91, main_v92, main_v93, main_cst_27, main_v94, main_v95, main_v96, main_v97, main_v98, main_cst_28, main_v99, main_v100, main_v101, main_v102]
theorem p21_writes : Writes (F := F) p21 p21_W := forall_writes_sub_of_map rfl

abbrev p22 : Ops F :=
  [ TRef.binary (.of main_v100 : TRef sig ⟨S1x1024, .f32⟩) (.of main_v27_1 : TRef sig ⟨S1x1024, .f32⟩) (.of main_v103 : TRef sig ⟨S1x1024, .f32⟩) mulf ]
theorem p22_sub : Subs (F := F) p22 :=
  bs ..
theorem p22_fresh : Fresh (F := F) p22 := List.map_inj_left.mp rfl
abbrev p22_W : List (Ref sig .tc) :=
  [main_v103]
theorem p22_writes : Writes (F := F) p22 p22_W := forall_writes_sub_of_map rfl

abbrev p23 : Ops F :=
  [ unary main_v103 main_v104 (Host.negf : Un F S1x1024),
    nullary main_cst_29 (constant S_ .f32 0xC1000000#32),
    unary main_cst_29 main_v105 (broadcastInDim S2048x1024 ![] bcast_S_S2048x1024 : Fv F S_ → Fv F S2048x1024),
    binary main_v105 main_v102 main_v106 (mulf : Bin F S2048x1024),
    binary main_v106 main_v23 main_v107 (mulf : Bin F S2048x1024),
    nullary main_cst_30 (constant S_ .f32 0x00000000#32),
    binary main_v107 main_cst_30 main_v108 ((fun x v => Host.reduceAdd x v reducesTo_S2048x1024_S1024_d0 h_S_) : Fv F S2048x1024 → Fv F S_ → Fv F S1024),
    reshape main_v108 main_v109 (rfl : (.f32 : EltTy) = .f32) shapeCasts_S1024_S1x1024,
    binary main_v89 main_v12 main_v110 (mulf : Bin F S2048x1024),
    nullary main_cst_31 (constant S_ .f32 0x00000000#32),
    binary main_v110 main_cst_31 main_v111 ((fun x v => Host.reduceAdd x v reducesTo_S2048x1024_S1024_d0 h_S_) : Fv F S2048x1024 → Fv F S_ → Fv F S1024),
    reshape main_v111 main_v112 (rfl : (.f32 : EltTy) = .f32) shapeCasts_S1024_S1x1024,
    unary main_v82 main_v113 ((truncf .bf16 · bitsLt_bf16_f32) : Fv F S2048x1024 → Hv F S2048x1024),
    unary main_v110 main_v114 ((truncf .bf16 · bitsLt_bf16_f32) : Fv F S2048x1024 → Hv F S2048x1024),
    unary main_v107 main_v115 ((truncf .bf16 · bitsLt_bf16_f32) : Fv F S2048x1024 → Hv F S2048x1024),
    unary main_v67 main_v116 ((truncf .bf16 · bitsLt_bf16_f32) : Fv F S2048x1024 → Hv F S2048x1024) ]
theorem p23_sub : Subs (F := F) p23 :=
  ⟨us .., ns .., us .., bs .., bs .., ns .., bs .., rs .., bs .., ns .., bs .., rs .., us .., us .., us .., us ..⟩
theorem p23_fresh : Fresh (F := F) p23 := List.map_inj_left.mp rfl
abbrev p23_W : List (Ref sig .tc) :=
  [main_v104, main_cst_29, main_v105, main_v106, main_v107, main_cst_30, main_v108, main_v109, main_v110, main_cst_31, main_v111, main_v112, main_v113, main_v114, main_v115, main_v116]
theorem p23_writes : Writes (F := F) p23 p23_W := forall_writes_sub_of_map rfl

abbrev b00 : Ops F :=
  [ TRef.nullary (.of main_while0b_call1_c : TRef sig ⟨S_, .i32⟩) (constantI S_ 32 0#32),
    TRef.unaryIndexed (.of main_v44_0 : TRef sig ⟨S2048x1024, .f32⟩) ![(.of main_v44_2 : TRef sig ⟨S_, .i32⟩), (.of main_while0b_call1_c : TRef sig ⟨S_, .i32⟩)] (.of main_while0b_call1_v0 : TRef sig ⟨S1x1024, .f32⟩) (fun x i => Host.dynamicSlice S1x1024 x (fun k => (i k (Shape.Idx.first h_S_)).toInt) sliceFits_S2048x1024_S1x1024),
    TRef.reshape (.of main_while0b_call1_v0 : TRef sig ⟨S1x1024, .f32⟩) (.of main_while0b_v117 : TRef sig ⟨S1024, .f32⟩) (rfl : (.f32 : EltTy) = .f32) shapeCasts_S1x1024_S1024 ]
theorem b00_sub : Subs (F := F) b00 :=
  ⟨ns .., unaryIndexed_bufs_sub .., rs ..⟩
theorem b00_fresh : Fresh (F := F) b00 := List.map_inj_left.mp rfl
abbrev b00_W : List (Ref sig .tc) :=
  [main_while0b_call1_c, main_while0b_call1_v0, main_while0b_v117]
theorem b00_writes : Writes (F := F) b00 b00_W := forall_writes_sub_of_map rfl

abbrev b01 : Ops F :=
  [ TRef.nullary (.of main_while0b_call2_c : TRef sig ⟨S_, .i32⟩) (constantI S_ 32 0#32),
    TRef.unaryIndexed (.of main_v44_1 : TRef sig ⟨S2048x1024, .f32⟩) ![(.of main_v44_2 : TRef sig ⟨S_, .i32⟩), (.of main_while0b_call2_c : TRef sig ⟨S_, .i32⟩)] (.of main_while0b_call2_v0 : TRef sig ⟨S1x1024, .f32⟩) (fun x i => Host.dynamicSlice S1x1024 x (fun k => (i k (Shape.Idx.first h_S_)).toInt) sliceFits_S2048x1024_S1x1024),
    TRef.reshape (.of main_while0b_call2_v0 : TRef sig ⟨S1x1024, .f32⟩) (.of main_while0b_v118 : TRef sig ⟨S1024, .f32⟩) (rfl : (.f32 : EltTy) = .f32) shapeCasts_S1x1024_S1024 ]
theorem b01_sub : Subs (F := F) b01 :=
  ⟨ns .., unaryIndexed_bufs_sub .., rs ..⟩
theorem b01_fresh : Fresh (F := F) b01 := List.map_inj_left.mp rfl
abbrev b01_W : List (Ref sig .tc) :=
  [main_while0b_call2_c, main_while0b_call2_v0, main_while0b_v118]
theorem b01_writes : Writes (F := F) b01 b01_W := forall_writes_sub_of_map rfl

abbrev b02 : Ops F :=
  [ binary main_while0b_v117 main_v44_3 main_while0b_v119 (mulf : Bin F S1024),
    binary main_while0b_v119 main_while0b_v118 main_while0b_v120 (addf : Bin F S1024) ]
theorem b02_sub : Subs (F := F) b02 :=
  ⟨bs .., bs ..⟩
theorem b02_fresh : Fresh (F := F) b02 := List.map_inj_left.mp rfl
abbrev b02_W : List (Ref sig .tc) :=
  [main_while0b_v119, main_while0b_v120]
theorem b02_writes : Writes (F := F) b02 b02_W := forall_writes_sub_of_map rfl

abbrev b03 : Ops F :=
  [ TRef.unary (.of main_while0b_v120 : TRef sig ⟨S1024, .f32⟩) (.of main_while0b_call3_v0 : TRef sig ⟨S1x1024, .f32⟩) (broadcastInDim S1x1024 ![1] bcast_S1024_S1x1024_1),
    TRef.nullary (.of main_while0b_call3_c : TRef sig ⟨S_, .i32⟩) (constantI S_ 32 0#32),
    TRef.binaryIndexed (.of main_v44_4 : TRef sig ⟨S2048x1024, .f32⟩) (.of main_while0b_call3_v0 : TRef sig ⟨S1x1024, .f32⟩) ![(.of main_v44_2 : TRef sig ⟨S_, .i32⟩), (.of main_while0b_call3_c : TRef sig ⟨S_, .i32⟩)] (.of main_while0b_v121 : TRef sig ⟨S2048x1024, .f32⟩) (fun x u i => Host.dynamicUpdateSlice x u (fun k => (i k (Shape.Idx.first h_S_)).toInt) updateFits_S2048x1024_S1x1024) ]
theorem b03_sub : Subs (F := F) b03 :=
  ⟨us .., ns .., binaryIndexed_bufs_sub ..⟩
theorem b03_fresh : Fresh (F := F) b03 := List.map_inj_left.mp rfl
abbrev b03_W : List (Ref sig .tc) :=
  [main_while0b_call3_v0, main_while0b_call3_c, main_while0b_v121]
theorem b03_writes : Writes (F := F) b03 b03_W := forall_writes_sub_of_map rfl

abbrev b04 : Ops F :=
  [ TRef.unary (.of main_v44_3 : TRef sig ⟨S1024, .f32⟩) (.of main_while0b_call4_v0 : TRef sig ⟨S1x1024, .f32⟩) (broadcastInDim S1x1024 ![1] bcast_S1024_S1x1024_1),
    TRef.nullary (.of main_while0b_call4_c : TRef sig ⟨S_, .i32⟩) (constantI S_ 32 0#32),
    TRef.binaryIndexed (.of main_v44_5 : TRef sig ⟨S2048x1024, .f32⟩) (.of main_while0b_call4_v0 : TRef sig ⟨S1x1024, .f32⟩) ![(.of main_v44_2 : TRef sig ⟨S_, .i32⟩), (.of main_while0b_call4_c : TRef sig ⟨S_, .i32⟩)] (.of main_while0b_v122 : TRef sig ⟨S2048x1024, .f32⟩) (fun x u i => Host.dynamicUpdateSlice x u (fun k => (i k (Shape.Idx.first h_S_)).toInt) updateFits_S2048x1024_S1x1024) ]
theorem b04_sub : Subs (F := F) b04 :=
  ⟨us .., ns .., binaryIndexed_bufs_sub ..⟩
theorem b04_fresh : Fresh (F := F) b04 := List.map_inj_left.mp rfl
abbrev b04_W : List (Ref sig .tc) :=
  [main_while0b_call4_v0, main_while0b_call4_c, main_while0b_v122]
theorem b04_writes : Writes (F := F) b04 b04_W := forall_writes_sub_of_map rfl

abbrev b05 : Ops F :=
  [ nullary main_while0b_c_37 (constantI S_ 32 1#32),
    binary main_v44_2 main_while0b_c_37 main_while0b_v123 (addi : (⟨S_, .i32⟩ : BufTy).Contents (Elt F) → (⟨S_, .i32⟩ : BufTy).Contents (Elt F) → (⟨S_, .i32⟩ : BufTy).Contents (Elt F)),
    unary main_while0b_v123 main_v44_2 id,
    unary main_while0b_v120 main_v44_3 id,
    unary main_while0b_v121 main_v44_4 id,
    unary main_while0b_v122 main_v44_5 id ]
theorem b05_sub : Subs (F := F) b05 :=
  ⟨ns .., bs .., us .., us .., us .., us ..⟩
theorem b05_fresh : Fresh (F := F) b05 := List.map_inj_left.mp rfl
abbrev b05_W : List (Ref sig .tc) :=
  [main_while0b_c_37, main_while0b_v123, main_v44_2, main_v44_3, main_v44_4, main_v44_5]
theorem b05_writes : Writes (F := F) b05 b05_W := forall_writes_sub_of_map rfl

abbrev b10 : Ops F :=
  [ nullary main_while1b_c_38 (constantI S_ 32 2048#32),
    binary main_while1b_c_38 main_v86_3 main_while1b_v117 (subi : (⟨S_, .i32⟩ : BufTy).Contents (Elt F) → (⟨S_, .i32⟩ : BufTy).Contents (Elt F) → (⟨S_, .i32⟩ : BufTy).Contents (Elt F)),
    nullary main_while1b_c_39 (constantI S_ 32 1#32),
    binary main_while1b_v117 main_while1b_c_39 main_while1b_v118 (subi : (⟨S_, .i32⟩ : BufTy).Contents (Elt F) → (⟨S_, .i32⟩ : BufTy).Contents (Elt F) → (⟨S_, .i32⟩ : BufTy).Contents (Elt F)) ]
theorem b10_sub : Subs (F := F) b10 :=
  ⟨ns .., bs .., ns .., bs ..⟩
theorem b10_fresh : Fresh (F := F) b10 := List.map_inj_left.mp rfl
abbrev b10_W : List (Ref sig .tc) :=
  [main_while1b_c_38, main_while1b_v117, main_while1b_c_39, main_while1b_v118]
theorem b10_writes : Writes (F := F) b10 b10_W := forall_writes_sub_of_map rfl

abbrev b11 : Ops F :=
  [ TRef.nullary (.of main_while1b_call5_c : TRef sig ⟨S_, .i32⟩) (constantI S_ 32 0#32),
    TRef.unaryIndexed (.of main_v86_0 : TRef sig ⟨S2048x1024, .f32⟩) ![(.of main_while1b_v118 : TRef sig ⟨S_, .i32⟩), (.of main_while1b_call5_c : TRef sig ⟨S_, .i32⟩)] (.of main_while1b_call5_v0 : TRef sig ⟨S1x1024, .f32⟩) (fun x i => Host.dynamicSlice S1x1024 x (fun k => (i k (Shape.Idx.first h_S_)).toInt) sliceFits_S2048x1024_S1x1024),
    TRef.reshape (.of main_while1b_call5_v0 : TRef sig ⟨S1x1024, .f32⟩) (.of main_while1b_v119 : TRef sig ⟨S1024, .f32⟩) (rfl : (.f32 : EltTy) = .f32) shapeCasts_S1x1024_S1024 ]
theorem b11_sub : Subs (F := F) b11 :=
  ⟨ns .., unaryIndexed_bufs_sub .., rs ..⟩
theorem b11_fresh : Fresh (F := F) b11 := List.map_inj_left.mp rfl
abbrev b11_W : List (Ref sig .tc) :=
  [main_while1b_call5_c, main_while1b_call5_v0, main_while1b_v119]
theorem b11_writes : Writes (F := F) b11 b11_W := forall_writes_sub_of_map rfl

abbrev b12 : Ops F :=
  [ TRef.nullary (.of main_while1b_call6_c : TRef sig ⟨S_, .i32⟩) (constantI S_ 32 0#32),
    TRef.unaryIndexed (.of main_v86_1 : TRef sig ⟨S2048x1024, .f32⟩) ![(.of main_while1b_v118 : TRef sig ⟨S_, .i32⟩), (.of main_while1b_call6_c : TRef sig ⟨S_, .i32⟩)] (.of main_while1b_call6_v0 : TRef sig ⟨S1x1024, .f32⟩) (fun x i => Host.dynamicSlice S1x1024 x (fun k => (i k (Shape.Idx.first h_S_)).toInt) sliceFits_S2048x1024_S1x1024),
    TRef.reshape (.of main_while1b_call6_v0 : TRef sig ⟨S1x1024, .f32⟩) (.of main_while1b_v120 : TRef sig ⟨S1024, .f32⟩) (rfl : (.f32 : EltTy) = .f32) shapeCasts_S1x1024_S1024 ]
theorem b12_sub : Subs (F := F) b12 :=
  ⟨ns .., unaryIndexed_bufs_sub .., rs ..⟩
theorem b12_fresh : Fresh (F := F) b12 := List.map_inj_left.mp rfl
abbrev b12_W : List (Ref sig .tc) :=
  [main_while1b_call6_c, main_while1b_call6_v0, main_while1b_v120]
theorem b12_writes : Writes (F := F) b12 b12_W := forall_writes_sub_of_map rfl

abbrev b13 : Ops F :=
  [ TRef.nullary (.of main_while1b_call7_c : TRef sig ⟨S_, .i32⟩) (constantI S_ 32 0#32),
    TRef.unaryIndexed (.of main_v86_2 : TRef sig ⟨S2048x1024, .f32⟩) ![(.of main_while1b_v118 : TRef sig ⟨S_, .i32⟩), (.of main_while1b_call7_c : TRef sig ⟨S_, .i32⟩)] (.of main_while1b_call7_v0 : TRef sig ⟨S1x1024, .f32⟩) (fun x i => Host.dynamicSlice S1x1024 x (fun k => (i k (Shape.Idx.first h_S_)).toInt) sliceFits_S2048x1024_S1x1024),
    TRef.reshape (.of main_while1b_call7_v0 : TRef sig ⟨S1x1024, .f32⟩) (.of main_while1b_v121 : TRef sig ⟨S1024, .f32⟩) (rfl : (.f32 : EltTy) = .f32) shapeCasts_S1x1024_S1024 ]
theorem b13_sub : Subs (F := F) b13 :=
  ⟨ns .., unaryIndexed_bufs_sub .., rs ..⟩
theorem b13_fresh : Fresh (F := F) b13 := List.map_inj_left.mp rfl
abbrev b13_W : List (Ref sig .tc) :=
  [main_while1b_call7_c, main_while1b_call7_v0, main_while1b_v121]
theorem b13_writes : Writes (F := F) b13 b13_W := forall_writes_sub_of_map rfl

abbrev b14 : Ops F :=
  [ binary main_v86_4 main_while1b_v119 main_while1b_v122 (addf : Bin F S1024),
    binary main_while1b_v121 main_while1b_v122 main_while1b_v123 (mulf : Bin F S1024),
    binary main_while1b_v122 main_while1b_v120 main_while1b_v124 (mulf : Bin F S1024) ]
theorem b14_sub : Subs (F := F) b14 :=
  ⟨bs .., bs .., bs ..⟩
theorem b14_fresh : Fresh (F := F) b14 := List.map_inj_left.mp rfl
abbrev b14_W : List (Ref sig .tc) :=
  [main_while1b_v122, main_while1b_v123, main_while1b_v124]
theorem b14_writes : Writes (F := F) b14 b14_W := forall_writes_sub_of_map rfl

abbrev b15 : Ops F :=
  [ TRef.unary (.of main_while1b_v124 : TRef sig ⟨S1024, .f32⟩) (.of main_while1b_call8_v0 : TRef sig ⟨S1x1024, .f32⟩) (broadcastInDim S1x1024 ![1] bcast_S1024_S1x1024_1),
    TRef.nullary (.of main_while1b_call8_c : TRef sig ⟨S_, .i32⟩) (constantI S_ 32 0#32),
    TRef.binaryIndexed (.of main_v86_5 : TRef sig ⟨S2048x1024, .f32⟩) (.of main_while1b_call8_v0 : TRef sig ⟨S1x1024, .f32⟩) ![(.of main_while1b_v118 : TRef sig ⟨S_, .i32⟩), (.of main_while1b_call8_c : TRef sig ⟨S_, .i32⟩)] (.of main_while1b_v125 : TRef sig ⟨S2048x1024, .f32⟩) (fun x u i => Host.dynamicUpdateSlice x u (fun k => (i k (Shape.Idx.first h_S_)).toInt) updateFits_S2048x1024_S1x1024) ]
theorem b15_sub : Subs (F := F) b15 :=
  ⟨us .., ns .., binaryIndexed_bufs_sub ..⟩
theorem b15_fresh : Fresh (F := F) b15 := List.map_inj_left.mp rfl
abbrev b15_W : List (Ref sig .tc) :=
  [main_while1b_call8_v0, main_while1b_call8_c, main_while1b_v125]
theorem b15_writes : Writes (F := F) b15 b15_W := forall_writes_sub_of_map rfl

abbrev b16 : Ops F :=
  [ TRef.unary (.of main_while1b_v122 : TRef sig ⟨S1024, .f32⟩) (.of main_while1b_call9_v0 : TRef sig ⟨S1x1024, .f32⟩) (broadcastInDim S1x1024 ![1] bcast_S1024_S1x1024_1),
    TRef.nullary (.of main_while1b_call9_c : TRef sig ⟨S_, .i32⟩) (constantI S_ 32 0#32),
    TRef.binaryIndexed (.of main_v86_6 : TRef sig ⟨S2048x1024, .f32⟩) (.of main_while1b_call9_v0 : TRef sig ⟨S1x1024, .f32⟩) ![(.of main_while1b_v118 : TRef sig ⟨S_, .i32⟩), (.of main_while1b_call9_c : TRef sig ⟨S_, .i32⟩)] (.of main_while1b_v126 : TRef sig ⟨S2048x1024, .f32⟩) (fun x u i => Host.dynamicUpdateSlice x u (fun k => (i k (Shape.Idx.first h_S_)).toInt) updateFits_S2048x1024_S1x1024) ]
theorem b16_sub : Subs (F := F) b16 :=
  ⟨us .., ns .., binaryIndexed_bufs_sub ..⟩
theorem b16_fresh : Fresh (F := F) b16 := List.map_inj_left.mp rfl
abbrev b16_W : List (Ref sig .tc) :=
  [main_while1b_call9_v0, main_while1b_call9_c, main_while1b_v126]
theorem b16_writes : Writes (F := F) b16 b16_W := forall_writes_sub_of_map rfl

abbrev b17 : Ops F :=
  [ nullary main_while1b_c_40 (constantI S_ 32 1#32),
    binary main_v86_3 main_while1b_c_40 main_while1b_v127 (addi : (⟨S_, .i32⟩ : BufTy).Contents (Elt F) → (⟨S_, .i32⟩ : BufTy).Contents (Elt F) → (⟨S_, .i32⟩ : BufTy).Contents (Elt F)),
    unary main_while1b_v127 main_v86_3 id,
    unary main_while1b_v123 main_v86_4 id,
    unary main_while1b_v125 main_v86_5 id,
    unary main_while1b_v126 main_v86_6 id ]
theorem b17_sub : Subs (F := F) b17 :=
  ⟨ns .., bs .., us .., us .., us .., us ..⟩
theorem b17_fresh : Fresh (F := F) b17 := List.map_inj_left.mp rfl
abbrev b17_W : List (Ref sig .tc) :=
  [main_while1b_c_40, main_while1b_v127, main_v86_3, main_v86_4, main_v86_5, main_v86_6]
theorem b17_writes : Writes (F := F) b17 b17_W := forall_writes_sub_of_map rfl

theorem main_part0_chain (c : Dev nD) : main_part0 (F := F) c = (Pipeline.chainK
  [ seq p00,
    seq p01 ]
  (seq p02) : MainProg F) := by
  rewrite [chainK_seq_cons, Pipeline.chainK_cons]
  chain_rfl

theorem main_part1_chain (c : Dev nD) : main_part1 (F := F) c = (Pipeline.chainK
  [ seq p10,
    HostLoop.enter 0 ]
  (seq p11) : MainProg F) := by
  rewrite [chainK_seq_cons, Pipeline.chainK_cons]
  chain_rfl

theorem main_part2_chain (c : Dev nD) : main_part2 (F := F) c = (Pipeline.chain
  [ seq p20,
    HostLoop.enter 1,
    seq p21,
    seq p22,
    seq p23 ] : MainProg F) := by
  rewrite [chain_seq_cons, Pipeline.chain_cons, chain_seq_cons, Pipeline.chain_cons, chain_seq_cons]
  chain_rfl

theorem main_windows (c : Dev nD) : main (F := F) c = (Pipeline.chain
  [ seq p00,
    seq p01,
    seq p02,
    seq p10,
    HostLoop.enter 0,
    seq p11,
    seq p20,
    HostLoop.enter 1,
    seq p21,
    seq p22,
    seq p23 ] : MainProg F) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

theorem body0_chain : main_while0_body (F := F) = (Pipeline.chain
  [ seq b00,
    seq b01,
    seq b02,
    seq b03,
    seq b04,
    seq b05 ] : MainProg F) := by
  rewrite [Pipeline.chain_cons, Pipeline.chain_cons, chain_seq_cons, Pipeline.chain_cons, Pipeline.chain_cons, chain_seq_cons]
  chain_rfl

theorem body1_chain : main_while1_body (F := F) = (Pipeline.chain
  [ seq b10,
    seq b11,
    seq b12,
    seq b13,
    seq b14,
    seq b15,
    seq b16,
    seq b17 ] : MainProg F) := by
  rewrite [chain_seq_cons, Pipeline.chain_cons, Pipeline.chain_cons, Pipeline.chain_cons, chain_seq_cons, Pipeline.chain_cons, Pipeline.chain_cons, chain_seq_cons]
  chain_rfl

end Cert.RefRun

end
-- ==== Proof.RefRun.lean ====
/- The run of the reference: stretches of host operations, a counted loop of 2048 trips (the recurrence forwards), more stretches, a
   second counted loop of 2048 trips (the recurrence's gradient, last row first), and the stretches after it. Every buffer ends at the fold `endV`;
   every argument ends unchanged and every counter at zero. -/
module

public import proofs.«01_k».proof.Proof.RefOps
public import Idealize.ShloMosaic.Lib.StableHlo.RunClose

@[expose] public section

noncomputable section

namespace Cert.RefRun

open Idealize.ShloMosaic Idealize.ShloMosaic.TcCoe Idealize.ShloMosaic.StableHlo
open Idealize.ShloMosaic.Pipeline (CSeg Ticket PCfg ucRefs unscopedBufs_held sub_ucRefs)
open Idealize.SL Idealize.SL.RA Idealize.SL.BI
open scoped Idealize.SL.BI
open Idealize.SL.BI.BIBase Idealize.SL.BI.Laws Idealize.SL.ProofMode Idealize.SL.Sem
open Idealize.ShloMosaic.StableHlo renaming after_of_writes_sub → keep
open Cert.ReferenceIdeal Cert.ReferenceIdeal.Gen

variable {F : FTy → Type} [FloatOps F]

abbrev preI : List (Ops F) := [p00, p01, p02, p10]
abbrev midI : List (Ops F) := [p11, p20]
abbrev postI : List (Ops F) := [p21, p22, p23]
abbrev bodyI0 : List (Ops F) := [b00, b01, b02, b03, b04, b05]
abbrev bodyI1 : List (Ops F) := [b10, b11, b12, b13, b14, b15, b16, b17]

/-- The two operations of each loop's condition: the bound, and the comparison with the counter. -/
abbrev cond0 : Ops F :=
  [ nullary main_while0c_c_37 (constantI S_ 32 2048#32),
    binary main_v44_2 main_while0c_c_37 main_while0c_v117 (cmpi .slt : (⟨S_, .i32⟩ : BufTy).Contents (Elt F) → (⟨S_, .i32⟩ : BufTy).Contents (Elt F) → (⟨S_, .i1⟩ : BufTy).Contents (Elt F)) ]
abbrev cond1 : Ops F :=
  [ nullary main_while1c_c_38 (constantI S_ 32 2048#32),
    binary main_v86_3 main_while1c_c_38 main_while1c_v117 (cmpi .slt : (⟨S_, .i32⟩ : BufTy).Contents (Elt F) → (⟨S_, .i32⟩ : BufTy).Contents (Elt F) → (⟨S_, .i1⟩ : BufTy).Contents (Elt F)) ]
abbrev cond0_W : List (Ref sig .tc) := [main_while0c_c_37, main_while0c_v117]
abbrev cond1_W : List (Ref sig .tc) := [main_while1c_c_38, main_while1c_v117]
theorem cond0_writes : Writes (F := F) cond0 cond0_W :=
  forall_writes_sub_of_map rfl
theorem cond1_writes : Writes (F := F) cond1 cond1_W :=
  forall_writes_sub_of_map rfl

theorem preI_plain : Plain (preI : List (Ops F)) :=
  Plain.cons p00_sub (Plain.cons p01_sub (Plain.cons p02_sub (Plain.cons p10_sub Plain.nil p10_fresh) p02_fresh) p01_fresh) p00_fresh
theorem midI_plain : Plain (midI : List (Ops F)) :=
  Plain.cons p11_sub (Plain.cons p20_sub Plain.nil p20_fresh) p11_fresh
theorem postI_plain : Plain (postI : List (Ops F)) :=
  Plain.cons p21_sub (Plain.cons p22_sub (Plain.cons p23_sub Plain.nil p23_fresh) p22_fresh) p21_fresh
theorem bodyI0_plain : Plain (bodyI0 : List (Ops F)) :=
  Plain.cons b00_sub (Plain.cons b01_sub (Plain.cons b02_sub (Plain.cons b03_sub (Plain.cons b04_sub (Plain.cons b05_sub Plain.nil b05_fresh) b04_fresh) b03_fresh) b02_fresh) b01_fresh) b00_fresh
theorem bodyI1_plain : Plain (bodyI1 : List (Ops F)) :=
  Plain.cons b10_sub (Plain.cons b11_sub (Plain.cons b12_sub (Plain.cons b13_sub (Plain.cons b14_sub (Plain.cons b15_sub (Plain.cons b16_sub (Plain.cons b17_sub Plain.nil b17_fresh) b16_fresh) b15_fresh) b14_fresh) b13_fresh) b12_fresh) b11_fresh) b10_fresh

/-! ## A buffer none of the lists writes -/

/-- A buffer outside the write lists of a list of stretches keeps its contents. -/
theorem afterL_keep {r : Ref sig .tc} : ∀ (items : List (Ops F)) (Ws : List (List (Ref sig .tc))),
    List.Forall₂ (fun (ops : Ops F) (W : List (Ref sig .tc)) => ops.Forall fun op => op.writes ⊆ (W.map (Proc.devRef (τ := τ) .tc)).toFinset) items Ws →
    (∀ W ∈ Ws, r ∉ W) → ∀ V : Valuation τ sig (Elt F), afterL items V (Proc.devRef .tc r) = V (Proc.devRef .tc r)
  | _, _, .nil, _, _ => rfl
  | _, _, .cons h t, hr, V => by
    rw [afterL_cons, afterL_keep _ _ t (fun W hW => hr W (List.mem_cons_of_mem _ hW)), keep _ V h (hr _ List.mem_cons_self)]

/-- A buffer neither the condition nor the body writes keeps its contents through every trip. -/
theorem atTrip_keep {r : Ref sig .tc} {cond : Ops F} {body : List (Ops F)} (W₀ : Dev nD → Valuation τ sig (Elt F))
    (hc : ∀ V : Valuation τ sig (Elt F), after cond V (Proc.devRef .tc r) = V (Proc.devRef .tc r))
    (hb : ∀ V : Valuation τ sig (Elt F), afterL body V (Proc.devRef .tc r) = V (Proc.devRef .tc r)) (c : Dev nD) :
    ∀ k, atTrip cond body W₀ k c (Proc.devRef .tc r) = W₀ c (Proc.devRef .tc r)
  | 0 => rfl
  | k + 1 => by rw [atTrip_succ, hb, hc, atTrip_keep W₀ hc hb c k]

abbrev preI_Ws : List (List (Ref sig .tc)) := [p00_W, p01_W, p02_W, p10_W]
theorem preI_keep {r : Ref sig .tc} (h : ∀ W ∈ preI_Ws, r ∉ W) (V : Valuation τ sig (Elt F)) :
    afterL preI V (Proc.devRef .tc r) = V (Proc.devRef .tc r) :=
  afterL_keep _ preI_Ws (.cons p00_writes (.cons p01_writes (.cons p02_writes (.cons p10_writes .nil)))) h V
abbrev midI_Ws : List (List (Ref sig .tc)) := [p11_W, p20_W]
theorem midI_keep {r : Ref sig .tc} (h : ∀ W ∈ midI_Ws, r ∉ W) (V : Valuation τ sig (Elt F)) :
    afterL midI V (Proc.devRef .tc r) = V (Proc.devRef .tc r) :=
  afterL_keep _ midI_Ws (.cons p11_writes (.cons p20_writes .nil)) h V
abbrev postI_Ws : List (List (Ref sig .tc)) := [p21_W, p22_W, p23_W]
theorem postI_keep {r : Ref sig .tc} (h : ∀ W ∈ postI_Ws, r ∉ W) (V : Valuation τ sig (Elt F)) :
    afterL postI V (Proc.devRef .tc r) = V (Proc.devRef .tc r) :=
  afterL_keep _ postI_Ws (.cons p21_writes (.cons p22_writes (.cons p23_writes .nil))) h V
abbrev bodyI0_Ws : List (List (Ref sig .tc)) := [b00_W, b01_W, b02_W, b03_W, b04_W, b05_W]
theorem bodyI0_keep {r : Ref sig .tc} (h : ∀ W ∈ bodyI0_Ws, r ∉ W) (V : Valuation τ sig (Elt F)) :
    afterL bodyI0 V (Proc.devRef .tc r) = V (Proc.devRef .tc r) :=
  afterL_keep _ bodyI0_Ws (.cons b00_writes (.cons b01_writes (.cons b02_writes (.cons b03_writes (.cons b04_writes (.cons b05_writes .nil)))))) h V
abbrev bodyI1_Ws : List (List (Ref sig .tc)) := [b10_W, b11_W, b12_W, b13_W, b14_W, b15_W, b16_W, b17_W]
theorem bodyI1_keep {r : Ref sig .tc} (h : ∀ W ∈ bodyI1_Ws, r ∉ W) (V : Valuation τ sig (Elt F)) :
    afterL bodyI1 V (Proc.devRef .tc r) = V (Proc.devRef .tc r) :=
  afterL_keep _ bodyI1_Ws (.cons b10_writes (.cons b11_writes (.cons b12_writes (.cons b13_writes (.cons b14_writes (.cons b15_writes (.cons b16_writes (.cons b17_writes .nil)))))))) h V
theorem cond0_keep {r : Ref sig .tc} (h : r ∉ cond0_W) (V : Valuation τ sig (Elt F)) : after cond0 V (Proc.devRef .tc r) = V (Proc.devRef .tc r) :=
  keep _ V cond0_writes h
theorem cond1_keep {r : Ref sig .tc} (h : r ∉ cond1_W) (V : Valuation τ sig (Elt F)) : after cond1 V (Proc.devRef .tc r) = V (Proc.devRef .tc r) :=
  keep _ V cond1_writes h

/-! ## The contents at each point of @main -/

variable (m : (ℓ : Loc nD τ sig) → Buf (Elt F) ℓ)

/-- At the first loop's entry. -/
abbrev in0 (c : Dev nD) : Valuation τ sig (Elt F) := afterL preI (launchContents m c)
/-- Before the `k`-th run of the first loop's condition. -/
abbrev at0 (k : ℕ) (c : Dev nD) : Valuation τ sig (Elt F) := atTrip cond0 bodyI0 (in0 m) k c
/-- After the first loop. -/
abbrev out0 (c : Dev nD) : Valuation τ sig (Elt F) := after cond0 (at0 m 2048 c)
/-- At the second loop's entry. -/
abbrev in1 (c : Dev nD) : Valuation τ sig (Elt F) := afterL midI (out0 m c)
abbrev at1 (k : ℕ) (c : Dev nD) : Valuation τ sig (Elt F) := atTrip cond1 bodyI1 (in1 m) k c
abbrev out1 (c : Dev nD) : Valuation τ sig (Elt F) := after cond1 (at1 m 2048 c)
/-- At @main's end. -/
abbrev endV (c : Dev nD) : Valuation τ sig (Elt F) := afterL postI (out1 m c)

/-! ### Loop 0's counter and condition -/

set_option maxRecDepth 100000 in
theorem ctr0_step (X : Valuation τ sig (Elt F)) :
    after b05 X (Proc.devRef .tc main_v44_2) = addi (X (Proc.devRef .tc main_v44_2)) (constantI S_ 32 1#32) := by
  after_results
  rfl

theorem ctr0_entry (c : Dev nD) : in0 m c (Proc.devRef .tc main_v44_2) = fun _ => (0#32 : BitVec 32) := by
  simp only [in0, afterL_cons, afterL_nil]
  after_reads_simp
  rfl

theorem at0_ctr (c : Dev nD) : ∀ k, at0 m k c (Proc.devRef .tc main_v44_2) = fun _ => Scf.iv 0#32 1#32 k
  | 0 => by rw [show at0 m 0 c = in0 m c from rfl, ctr0_entry, Scf.iv_zero]
  | k + 1 => by
    rw [show at0 m (k + 1) c = afterL bodyI0 (after cond0 (at0 m k c)) from rfl]
    simp only [afterL_cons, afterL_nil]
    rw [ctr0_step, keep b04 _ b04_writes (by decide +kernel), keep b03 _ b03_writes (by decide +kernel), keep b02 _ b02_writes (by decide +kernel), keep b01 _ b01_writes (by decide +kernel), keep b00 _ b00_writes (by decide +kernel),
      cond0_keep (by decide +kernel), at0_ctr c k, Scf.iv_succ]
    rfl

set_option backward.isDefEq.respectTransparency.types false in
theorem cond_spec0 : CondSpec (pcfgs (F := F)) defs₀ loops (main_while0_cond (F := F)) cond0 bodyI0 (in0 m) 2048 := by
  intro k hk c bd
  have hctr := at0_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 m k c) main_v44_2 HostLoop.idx0)
        (HloOp.result _ (at0 m k c) main_while0c_c_37 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  rw [after_cons, after_cons, after_nil]; iexact Hh

/-! ### Loop 1's counter and condition -/

set_option maxRecDepth 100000 in
theorem ctr1_step (X : Valuation τ sig (Elt F)) :
    after b17 X (Proc.devRef .tc main_v86_3) = addi (X (Proc.devRef .tc main_v86_3)) (constantI S_ 32 1#32) := by
  after_results
  rfl

theorem ctr1_entry (c : Dev nD) : in1 m c (Proc.devRef .tc main_v86_3) = fun _ => (0#32 : BitVec 32) := by
  simp only [in1, afterL_cons, afterL_nil]
  after_reads_simp
  rfl

theorem at1_ctr (c : Dev nD) : ∀ k, at1 m k c (Proc.devRef .tc main_v86_3) = fun _ => Scf.iv 0#32 1#32 k
  | 0 => by rw [show at1 m 0 c = in1 m c from rfl, ctr1_entry, Scf.iv_zero]
  | k + 1 => by
    rw [show at1 m (k + 1) c = afterL bodyI1 (after cond1 (at1 m k c)) from rfl]
    simp only [afterL_cons, afterL_nil]
    rw [ctr1_step, keep b16 _ b16_writes (by decide +kernel), keep b15 _ b15_writes (by decide +kernel), keep b14 _ b14_writes (by decide +kernel), keep b13 _ b13_writes (by decide +kernel), keep b12 _ b12_writes (by decide +kernel), keep b11 _ b11_writes (by decide +kernel), keep b10 _ b10_writes (by decide +kernel),
      cond1_keep (by decide +kernel), at1_ctr c k, Scf.iv_succ]
    rfl

set_option backward.isDefEq.respectTransparency.types false in
theorem cond_spec1 : CondSpec (pcfgs (F := F)) defs₀ loops (main_while1_cond (F := F)) cond1 bodyI1 (in1 m) 2048 := by
  intro k hk c bd
  have hctr := at1_ctr m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 m k c) main_v86_3 HostLoop.idx0)
        (HloOp.result _ (at1 m k c) main_while1c_c_38 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  rw [after_cons, after_cons, after_nil]; iexact Hh

/-! ## The run -/

-- no pipeline: nothing admitted, no ticket, no level
abbrev noAdm : (p : Fin 0) → (pcfgs (F := F) p).Adm := fun p => p.elim0
abbrev noTk : Fin 0 → Ticket (Ix := Unit) (Name := ℕ) (U := Option PUnit) (Lvl := ℕ) (nD := nD) (τ := τ) (pcfgs (F := F)) noAdm := fun j => j.elim0
abbrev noL : GSem nD τ sig → Finset Unit := fun _ => ∅
abbrev noLv : GSem nD τ sig → Unit → ℕ := fun _ _ => 0
local notation "𝕄" => MT nD τ sig Unit (Elt F) ℕ (Option PUnit) ℕ

theorem noCell_inj : Function.Injective (Pipeline.cellOf (nD := nD) (τ := τ) (Pipeline.pin (pcfgs (F := F)) noAdm)) :=
  fun k => k.1.elim0

/-- What rides along beside the buffers. -/
abbrev owed (c : Dev nD) : sProp 𝕄 := iprop(∃ W, owes (c : Thread nD τ) (0 : CellTallies nD τ sig Unit) W)

/-- A condition's specification with the core's `owes` framed through it. -/
theorem loopCond_of_spec {cond : Prog (TpuEff nD τ sig (Elt F) (HostLoop.Sig (Pipeline.Sig Λ₀ (Fin 0) fun p => (pcfgs (F := F) p).Adm) 2) .tc) (Elt F .i1)}
    {condOps : Ops F} {bodyI : List (Ops F)} {W₀ : Dev nD → Valuation τ sig (Elt F)} {n : ℕ}
    (h : CondSpec (pcfgs (F := F)) defs₀ loops cond condOps bodyI W₀ n) :
    LoopCond (pcfgs (F := F)) defs₀ Variants.none loops owed cond condOps bodyI W₀ n := fun k hk c bd => by
  have step := (sep_mono_left (Q := owed c) (h k hk c bd)).trans (wp_frame_r _ _ _)
  refine BIBase.Entails.trans ?_ (step.trans (wp_mono _ _ _ fun v => ?_))
  · iintro ⟨H1, H2, H3⟩
    isplitl [H1 H2]; · isplitl [H1] <;> iassumption
    iexact H3
  · iintro ⟨⟨%hv, H1, H2⟩, H3⟩
    isplitr; · ipureintro; exact hv
    isplitl [H1]; · iexact H1
    isplitl [H2] <;> iassumption

/-- @main's segments. -/
def segs : List (CSeg (pcfgs (F := F)) noAdm defs₀ Variants.none noL noLv loops noTk) :=
  segsOf _ _ _ _ _ _ _ _ owed preI preI_plain (launchContents m)
    ++ loopSeg _ _ _ _ _ _ _ _ 0 main_while0_cond main_while0_body rfl cond0 bodyI0 bodyI0_plain (by rw [body0_chain]; rfl) 2048 (in0 m) owed (loopCond_of_spec (cond_spec0 m))
      :: (segsOf _ _ _ _ _ _ _ _ owed midI midI_plain (out0 m)
        ++ loopSeg _ _ _ _ _ _ _ _ 1 main_while1_cond main_while1_body rfl cond1 bodyI1 bodyI1_plain (by rw [body1_chain]; rfl) 2048 (in1 m) owed (loopCond_of_spec (cond_spec1 m))
          :: segsOf _ _ _ _ _ _ _ _ owed postI postI_plain (out1 m))

theorem segs_prog : (segs m).map CSeg.prog =
    ([seq p00, seq p01, seq p02, seq p10, HostLoop.enter 0, seq p11, seq p20, HostLoop.enter 1, seq p21, seq p22, seq p23] : List (MainProg F)) := by
  unfold segs
  rw [List.map_append, List.map_cons, List.map_append, List.map_cons, segsOf_prog, segsOf_prog, segsOf_prog]
  rfl

theorem segs_chains : CSeg.Chains (fun c => iprop(held (c : Thread nD τ) (ucRefs τ sig) (launchContents m c) ∗ owed c)) (segs m)
    (fun c => iprop(iprop(held (c : Thread nD τ) (ucRefs τ sig) (endV m c)) ∗ ∃ W, owes (c : Thread nD τ) (0 : CellTallies nD τ sig Unit) W)) := by
  unfold segs
  exact CSeg.Chains.append (segsOf_chains _ _ _ _ _ _ _ _ owed preI preI_plain _) ⟨fun _ => .rfl,
    CSeg.Chains.append (segsOf_chains _ _ _ _ _ _ _ _ owed midI midI_plain _) ⟨fun _ => .rfl, segsOf_chains _ _ _ _ _ _ _ _ owed postI postI_plain _⟩⟩

/-- Every weakly fair execution from zero counters ends with every buffer at the fold and every counter at zero. -/
theorem run (ρ : Dev nD → PrngReg) [∀ e, Nonempty (Elt F e)] : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = endV m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) noAdm noCell_inj defs₀ Variants.none noL noLv loops noTk m ρ main (segs m)
    (fun c Q => by
      unfold CSeg.runL
      rw [segs_prog m, ← main_windows c])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ owed c))
    (Tₙ := fun c => iprop(held (c : Thread nD τ) (ucRefs τ sig) (endV m c)))
    (hch := segs_chains m)
    (hinit := by
      refine Pipeline.initEach noL noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = endV m c b)
    (hfin := fun c s' => by
      unfold held
      iintro ⟨Hh, HSI⟩
      ihave Hr := (pointsTo_read_all (ucRefs τ sig) (fun b => ((c : Dev nD), b)) (fun b => endV m c b) s') $$ [Hh HSI]
      · isplitl [Hh] <;> iassumption
      icases Hr with ⟨%h, HSI⟩
      imodintro
      isplitr; · ipureintro; exact h
      iexact HSI)
    (hQ := fun s h hs => ⟨fun c b hb => h c _ (devRef_mem_ucRefs b hb), funext fun g' => hs g' (by
      by_cases h2 : g'.1.2 = .tc
      · right; rcases g' with ⟨t, s | s⟩ <;> exact s.elim0
      · exact Or.inl h2)⟩)

theorem end_arg0 (c : Dev nD) : endV m c (Proc.devRef .tc main_arg0) = m ((c.tc : Thread nD τ).loc main_arg0) := by
  rw [endV, postI_keep (by decide +kernel), out1, cond1_keep (by decide +kernel), at1, atTrip_keep (in1 m) (cond1_keep (by decide +kernel)) (bodyI1_keep (by decide +kernel)),
    in1, midI_keep (by decide +kernel), out0, cond0_keep (by decide +kernel), at0, atTrip_keep (in0 m) (cond0_keep (by decide +kernel)) (bodyI0_keep (by decide +kernel)),
    in0, preI_keep (by decide +kernel)]

theorem end_arg1 (c : Dev nD) : endV m c (Proc.devRef .tc main_arg1) = m ((c.tc : Thread nD τ).loc main_arg1) := by
  rw [endV, postI_keep (by decide +kernel), out1, cond1_keep (by decide +kernel), at1, atTrip_keep (in1 m) (cond1_keep (by decide +kernel)) (bodyI1_keep (by decide +kernel)),
    in1, midI_keep (by decide +kernel), out0, cond0_keep (by decide +kernel), at0, atTrip_keep (in0 m) (cond0_keep (by decide +kernel)) (bodyI0_keep (by decide +kernel)),
    in0, preI_keep (by decide +kernel)]

theorem end_arg2 (c : Dev nD) : endV m c (Proc.devRef .tc main_arg2) = m ((c.tc : Thread nD τ).loc main_arg2) := by
  rw [endV, postI_keep (by decide +kernel), out1, cond1_keep (by decide +kernel), at1, atTrip_keep (in1 m) (cond1_keep (by decide +kernel)) (bodyI1_keep (by decide +kernel)),
    in1, midI_keep (by decide +kernel), out0, cond0_keep (by decide +kernel), at0, atTrip_keep (in0 m) (cond0_keep (by decide +kernel)) (bodyI0_keep (by decide +kernel)),
    in0, preI_keep (by decide +kernel)]

theorem end_arg3 (c : Dev nD) : endV m c (Proc.devRef .tc main_arg3) = m ((c.tc : Thread nD τ).loc main_arg3) := by
  rw [endV, postI_keep (by decide +kernel), out1, cond1_keep (by decide +kernel), at1, atTrip_keep (in1 m) (cond1_keep (by decide +kernel)) (bodyI1_keep (by decide +kernel)),
    in1, midI_keep (by decide +kernel), out0, cond0_keep (by decide +kernel), at0, atTrip_keep (in0 m) (cond0_keep (by decide +kernel)) (bodyI0_keep (by decide +kernel)),
    in0, preI_keep (by decide +kernel)]

theorem end_arg4 (c : Dev nD) : endV m c (Proc.devRef .tc main_arg4) = m ((c.tc : Thread nD τ).loc main_arg4) := by
  rw [endV, postI_keep (by decide +kernel), out1, cond1_keep (by decide +kernel), at1, atTrip_keep (in1 m) (cond1_keep (by decide +kernel)) (bodyI1_keep (by decide +kernel)),
    in1, midI_keep (by decide +kernel), out0, cond0_keep (by decide +kernel), at0, atTrip_keep (in0 m) (cond0_keep (by decide +kernel)) (bodyI0_keep (by decide +kernel)),
    in0, preI_keep (by decide +kernel)]

theorem end_arg5 (c : Dev nD) : endV m c (Proc.devRef .tc main_arg5) = m ((c.tc : Thread nD τ).loc main_arg5) := by
  rw [endV, postI_keep (by decide +kernel), out1, cond1_keep (by decide +kernel), at1, atTrip_keep (in1 m) (cond1_keep (by decide +kernel)) (bodyI1_keep (by decide +kernel)),
    in1, midI_keep (by decide +kernel), out0, cond0_keep (by decide +kernel), at0, atTrip_keep (in0 m) (cond0_keep (by decide +kernel)) (bodyI0_keep (by decide +kernel)),
    in0, preI_keep (by decide +kernel)]

end Cert.RefRun

end
-- ==== Proof.Spec.lean ====
/- The layer's recurrence and its gradient over the reals, column by column, and the identities between the two ways it is written. -/
module

public import Mathlib.Analysis.SpecialFunctions.Trigonometric.Basic
public import Mathlib.Analysis.SpecialFunctions.Log.Basic
public import Mathlib.Analysis.SpecialFunctions.Pow.Real
public import Mathlib.Tactic.FieldSimp
public import Mathlib.Tactic.LinearCombination
public import Mathlib.Tactic.Linarith
public import Mathlib.Tactic.Positivity
public import Mathlib.Tactic.Ring

@[expose] public section

noncomputable section

namespace Cert.Spec

/-- The cubic coefficient of the gelu. -/
def kc : ℝ := 44715 / 1000000

/-- The gelu's constant, `√(2/π)` rounded. -/
def gc : ℝ := 13386282 / 16777216

/-- The logistic function. -/
def sg (x : ℝ) : ℝ := 1 / (1 + Real.exp (-x))

/-- `softplus (-x)`. -/
def spl (x : ℝ) : ℝ := max (-x) 0 + Real.log (1 + Real.exp (-|x|))

/-- The gelu's inner hyperbolic tangent. -/
def th (x : ℝ) : ℝ := Real.tanh (gc * (x + kc * (x * x * x)))

def gel (x : ℝ) : ℝ := x * (1 / 2 * (1 + th x))

def dgel (x : ℝ) : ℝ := 1 / 2 * (1 + th x) + 1 / 2 * x * (1 - th x * th x) * gc * (1 + 3 * kc * x * x)

/-- The inputs, by row and column. -/
structure In where
  dm : ℕ → ℕ → ℝ
  gb : ℕ → ℕ → ℝ
  rc : ℕ → ℕ → ℝ
  gip : ℕ → ℕ → ℝ
  grp : ℕ → ℕ → ℝ
  l : ℕ → ℝ

variable (I : In)

def In.sp (j : ℕ) : ℝ := spl (I.l j)
def In.gi (i j : ℕ) : ℝ := sg (I.gip i j)
def In.gr (i j : ℕ) : ℝ := sg (I.grp i j)
def In.la (i j : ℕ) : ℝ := -8 * I.gr i j * I.sp j
def In.a (i j : ℕ) : ℝ := Real.exp (I.la i j)
def In.mult (i j : ℕ) : ℝ := Real.sqrt (1 - I.a i j * I.a i j)
def In.u (i j : ℕ) : ℝ := I.rc i j * I.gi i j * I.mult i j

/-- The state before row `i`. -/
def In.hs : ℕ → ℕ → ℝ
  | 0, _ => 0
  | i + 1, j => I.a i j * In.hs i j + I.u i j

def In.dh (i j : ℕ) : ℝ := I.dm i j * gel (I.gb i j)

/-- What comes back to row `2047 - k` from the rows after it. -/
def In.ms : ℕ → ℕ → ℝ
  | 0, _ => 0
  | k + 1, j => I.a (2047 - k) j * (I.dh (2047 - k) j + In.ms k j)

def In.lam (i j : ℕ) : ℝ := I.dh i j + I.ms (2047 - i) j

def In.dla (i j : ℕ) : ℝ :=
  I.lam i j * I.hs i j * I.a i j - I.lam i j * I.rc i j * I.gi i j * (I.a i j * I.a i j) / I.mult i j

def In.dgb (i j : ℕ) : ℝ := I.dm i j * I.hs (i + 1) j * dgel (I.gb i j)
/-- The recurrence's value: the gate branch's gelu times the state after row `i`. -/
def In.m (i j : ℕ) : ℝ := gel (I.gb i j) * I.hs (i + 1) j
def In.dgr (i j : ℕ) : ℝ := I.dla i j * (-8 * I.sp j) * I.gr i j * (1 - I.gr i j)
def In.dgi (i j : ℕ) : ℝ := I.lam i j * I.rc i j * I.mult i j * I.gi i j * (1 - I.gi i j)
def In.drc (i j : ℕ) : ℝ := I.lam i j * I.gi i j * I.mult i j
def In.dbi (j : ℕ) : ℝ := ∑ i ∈ Finset.range 2048, I.dgi i j
def In.dbr (j : ℕ) : ℝ := ∑ i ∈ Finset.range 2048, I.dgr i j
def In.dl (j : ℕ) : ℝ := -8 * (∑ i ∈ Finset.range 2048, I.dla i j * I.gr i j) * -sg (-I.l j)

theorem sg_tanh (x : ℝ) : 1 / 2 * Real.tanh (1 / 2 * x) + 1 / 2 = sg x := by
  unfold sg
  rw [Real.tanh_eq_sinh_div_cosh, Real.sinh_eq, Real.cosh_eq]
  have h : Real.exp (-x) = Real.exp (-(1 / 2 * x)) * Real.exp (-(1 / 2 * x)) := by rw [← Real.exp_add]; congr 1; ring
  have h1 : Real.exp (1 / 2 * x) * Real.exp (-(1 / 2 * x)) = 1 := by rw [← Real.exp_add]; simp
  rw [h]
  set p := Real.exp (1 / 2 * x)
  set q := Real.exp (-(1 / 2 * x))
  have hp : 0 < p := Real.exp_pos _
  have hq : 0 < q := Real.exp_pos _
  have : p + q ≠ 0 := by positivity
  have : 1 + q * q ≠ 0 := by positivity
  field_simp
  linear_combination (2 * q) * h1

theorem sg_pos (x : ℝ) : 0 < sg x := by unfold sg; positivity

theorem spl_pos (x : ℝ) : 0 < spl x := by
  unfold spl
  have : 0 < Real.log (1 + Real.exp (-|x|)) := Real.log_pos (by linarith [Real.exp_pos (-|x|)])
  linarith [le_max_right (-x) 0]

theorem la_neg (i j : ℕ) : I.la i j < 0 := by
  unfold In.la In.gr In.sp
  have := mul_pos (sg_pos (I.grp i j)) (spl_pos (I.l j))
  linarith

theorem om_pos (i j : ℕ) : 0 < 1 - I.a i j * I.a i j := by
  have h : I.a i j < 1 := by unfold In.a; rw [Real.exp_lt_one_iff]; exact la_neg I i j
  have h0 : 0 < I.a i j := Real.exp_pos _
  nlinarith

theorem mult_pos (i j : ℕ) : 0 < I.mult i j := Real.sqrt_pos.mpr (om_pos I i j)

theorem exp_two_la (i j : ℕ) : Real.exp (2 * I.la i j) = I.a i j * I.a i j := by
  unfold In.a; rw [← Real.exp_add]; congr 1; ring

theorem tanh_om (x : ℝ) : (0 - Real.tanh x) * (Real.exp x * Real.exp x + 1) = 1 - Real.exp x * Real.exp x := by
  rw [Real.tanh_eq_sinh_div_cosh, Real.sinh_eq, Real.cosh_eq]
  have h1 : Real.exp x * Real.exp (-x) = 1 := by rw [← Real.exp_add]; simp
  set p := Real.exp x
  set q := Real.exp (-x)
  have hp : 0 < p := Real.exp_pos _
  have hq : 0 < q := Real.exp_pos _
  have : p + q ≠ 0 := by positivity
  field_simp
  linear_combination (2 * p) * h1

/-- The derivative of the softplus, written as an exponential of a difference. -/
theorem exp_sub_spl (x : ℝ) : Real.exp (-x - spl x) = sg (-x) := by
  unfold spl sg
  rcases le_total 0 x with h | h
  · rw [max_eq_right (by linarith), abs_of_nonneg h, zero_add, Real.exp_sub, Real.exp_log (by positivity), neg_neg]
    have h1 : Real.exp x * Real.exp (-x) = 1 := by rw [← Real.exp_add]; simp
    have := Real.exp_pos x; have := Real.exp_pos (-x)
    field_simp
    linear_combination h1
  · rw [max_eq_left (by linarith), abs_of_nonpos h, neg_neg,
      show -x - (-x + Real.log (1 + Real.exp x)) = -Real.log (1 + Real.exp x) by ring, Real.exp_neg,
      Real.exp_log (by positivity), one_div]

end Cert.Spec
-- ==== Proof.Base.lean ====
/- Vectors of extended reals that hold real numbers: what every operation of the two programs does to them, and the literals as reals. -/
module

public import Idealize.ShloMosaic.PureOps
public import Idealize.ShloMosaic.PureOps.Ideal
public import Idealize.ShloMosaic.Lib.StableHlo
public import Idealize.ShloMosaic.Lib.Pointwise
public import proofs.«01_k».proof.Proof.Spec

@[expose] public section

noncomputable section

namespace Cert.Base

open Idealize.ShloMosaic

/-- A matrix whose entry at row `i`, column `j` is the real `f i j`. -/
def Rp (m n : ℕ) (v : (⟨2, ![m, n]⟩ : Shape).Idx → EReal) (f : ℕ → ℕ → ℝ) : Prop :=
  ∀ (i : Fin m) (j : Fin n), v (ix2 i j) = ((f i j : ℝ) : EReal)

/-- A row whose entry at column `j` is the real `f j`. -/
def R1 (n : ℕ) (v : (⟨1, ![n]⟩ : Shape).Idx → EReal) (f : ℕ → ℝ) : Prop :=
  ∀ j : Fin n, v (ix1 j) = ((f j : ℝ) : EReal)

/-- A scalar that is the real `x`. -/
def R0 (v : (⟨0, ![]⟩ : Shape).Idx → EReal) (x : ℝ) : Prop := ∀ i, v i = ((x : ℝ) : EReal)

/-- A lane mask that is set exactly where `P` holds. -/
def Mk (m n : ℕ) (v : (⟨2, ![m, n]⟩ : Shape).Idx → BitVec 1) (P : ℕ → ℕ → Prop) : Prop :=
  ∀ (i : Fin m) (j : Fin n), (v (ix2 i j) = 1#1 ∧ P i j) ∨ (v (ix2 i j) = 0#1 ∧ ¬ P i j)

section
variable {m n : ℕ} {a b : (⟨2, ![m, n]⟩ : Shape).Idx → EReal} {f g : ℕ → ℕ → ℝ}

theorem Rp.of_eq (h : Rp m n a f) (e : ∀ i j, i < m → j < n → f i j = g i j) : Rp m n a g := fun i j => by
  rw [h i j, e i j i.2 j.2]

theorem Rp.mul (ha : Rp m n a f) (hb : Rp m n b g) :
    Rp m n (mulf (F := Ideal) (φ := .f32) a b) (fun i j => f i j * g i j) := fun i j => by
  show a _ * b _ = _; rw [ha i j, hb i j, EReal.coe_mul]

theorem Rp.add (ha : Rp m n a f) (hb : Rp m n b g) :
    Rp m n (addf (F := Ideal) (φ := .f32) a b) (fun i j => f i j + g i j) := fun i j => by
  show a _ + b _ = _; rw [ha i j, hb i j, EReal.coe_add]

theorem Rp.sub (ha : Rp m n a f) (hb : Rp m n b g) :
    Rp m n (subf (F := Ideal) (φ := .f32) a b) (fun i j => f i j - g i j) := fun i j => by
  show a _ - b _ = _; rw [ha i j, hb i j, EReal.coe_sub]

theorem div_real {x y : ℝ} (h : y ≠ 0) : Ideal.div (x : EReal) (y : EReal) = ((x / y : ℝ) : EReal) := by
  rw [Ideal.div_coe h, ← EReal.coe_mul]; congr 1; ring

theorem Rp.div (ha : Rp m n a f) (hb : Rp m n b g) (h : ∀ i j, i < m → j < n → g i j ≠ 0) :
    Rp m n (divf (F := Ideal) (φ := .f32) a b) (fun i j => f i j / g i j) := fun i j => by
  show Ideal.div (a _) (b _) = _; rw [ha i j, hb i j, div_real (h i j i.2 j.2)]

theorem Rp.hdiv (ha : Rp m n a f) (hb : Rp m n b g) (h : ∀ i j, i < m → j < n → g i j ≠ 0) :
    Rp m n (Host.divf (F := Ideal) (φ := .f32) a b) (fun i j => f i j / g i j) := fun i j => by
  show Ideal.div (a _) (b _) = _; rw [ha i j, hb i j, div_real (h i j i.2 j.2)]

theorem Rp.max (ha : Rp m n a f) (hb : Rp m n b g) :
    Rp m n (maximumf (F := Ideal) (φ := .f32) a b) (fun i j => Max.max (f i j) (g i j)) := fun i j => by
  show Max.max (a _) (b _) = _; rw [ha i j, hb i j]; exact (EReal.coe_strictMono.monotone.map_max).symm

theorem Rp.hneg (ha : Rp m n a f) : Rp m n (Host.negf (F := Ideal) (φ := .f32) a) (fun i j => -(f i j)) := fun i j => by
  show -(a _) = _; rw [ha i j, EReal.coe_neg]

theorem abs_real (x : ℝ) : Max.max (x : EReal) (-(x : EReal)) = ((|x| : ℝ) : EReal) := by
  rw [← EReal.coe_neg, abs]; exact (EReal.coe_strictMono.monotone.map_max).symm

theorem Rp.abs (ha : Rp m n a f) : Rp m n (absf (F := Ideal) (φ := .f32) a) (fun i j => |f i j|) := fun i j => by
  show Max.max (a _) (-(a _)) = _; rw [ha i j, abs_real]

theorem Rp.habs (ha : Rp m n a f) : Rp m n (Host.absf (F := Ideal) (φ := .f32) a) (fun i j => |f i j|) := fun i j => by
  show Max.max (a _) (-(a _)) = _; rw [ha i j, abs_real]

theorem Rp.exp (ha : Rp m n a f) : Rp m n (Idealize.ShloMosaic.exp (F := Ideal) (φ := .f32) a) (fun i j => Real.exp (f i j)) :=
  fun i j => by show Ideal.exp (a _) = _; rw [ha i j, Ideal.exp_coe]

theorem Rp.hexp (ha : Rp m n a f) : Rp m n (Host.exp (F := Ideal) (φ := .f32) a) (fun i j => Real.exp (f i j)) :=
  fun i j => by show Ideal.exp (a _) = _; rw [ha i j, Ideal.exp_coe]

theorem Rp.tanh (ha : Rp m n a f) : Rp m n (Idealize.ShloMosaic.tanh (F := Ideal) (φ := .f32) a) (fun i j => Real.tanh (f i j)) :=
  fun i j => by show Ideal.tanh (a _) = _; rw [ha i j, Ideal.tanh_coe]

theorem Rp.htanh (ha : Rp m n a f) : Rp m n (Host.tanh (F := Ideal) (φ := .f32) a) (fun i j => Real.tanh (f i j)) :=
  fun i j => by show Ideal.tanh (a _) = _; rw [ha i j, Ideal.tanh_coe]

theorem Rp.hexpm1 (ha : Rp m n a f) : Rp m n (Host.expm1 (F := Ideal) (φ := .f32) a) (fun i j => Real.exp (f i j) - 1) :=
  fun i j => by
    show Ideal.exp (a _) - 1 = _
    rw [ha i j, Ideal.exp_coe, EReal.coe_sub, EReal.coe_one]

theorem Rp.log (ha : Rp m n a f) (h : ∀ i j, i < m → j < n → 0 < f i j) :
    Rp m n (Idealize.ShloMosaic.log (F := Ideal) (φ := .f32) a) (fun i j => Real.log (f i j)) := fun i j => by
  show Ideal.log (a _) = _; rw [ha i j, Ideal.log_coe, if_neg (not_le.mpr (h i j i.2 j.2))]

theorem Rp.hlog1p (ha : Rp m n a f) (h : ∀ i j, i < m → j < n → 0 < 1 + f i j) :
    Rp m n (Host.log1p (F := Ideal) (φ := .f32) a) (fun i j => Real.log (1 + f i j)) := fun i j => by
  show Ideal.log (1 + a _) = _
  rw [ha i j, ← EReal.coe_one, ← EReal.coe_add, Ideal.log_coe, if_neg (not_le.mpr (h i j i.2 j.2))]

theorem Rp.sqrt (ha : Rp m n a f) (h : ∀ i j, i < m → j < n → 0 ≤ f i j) :
    Rp m n (Idealize.ShloMosaic.sqrt (F := Ideal) (φ := .f32) a) (fun i j => Real.sqrt (f i j)) := fun i j => by
  show Ideal.sqrt (a _) = _; rw [ha i j, Ideal.sqrt_coe, if_neg (not_lt.mpr (h i j i.2 j.2))]

theorem Rp.hsqrt (ha : Rp m n a f) (h : ∀ i j, i < m → j < n → 0 ≤ f i j) :
    Rp m n (Host.sqrt (F := Ideal) (φ := .f32) a) (fun i j => Real.sqrt (f i j)) := fun i j => by
  show Ideal.sqrt (a _) = _; rw [ha i j, Ideal.sqrt_coe, if_neg (not_lt.mpr (h i j i.2 j.2))]

theorem Rp.trunc (ha : Rp m n a f) (h : FTy.bf16.bits < FTy.f32.bits) :
    Rp m n (Idealize.ShloMosaic.truncf (F := Ideal) .bf16 (φ := .f32) a h) f := fun i j => ha i j

theorem Rp.cst {c : EReal} {x : ℝ} (h : c = (x : EReal)) : Rp m n (broadcast ⟨2, ![m, n]⟩ c) (fun _ _ => x) := fun _ _ => h

theorem Rp.select {c : (⟨2, ![m, n]⟩ : Shape).Idx → BitVec 1} {P : ℕ → ℕ → Prop} [∀ i j, Decidable (P i j)]
    (hc : Mk m n c P) (ha : Rp m n a f) (hb : Rp m n b g) :
    Rp m n (Idealize.ShloMosaic.select c a b) (fun i j => if P i j then f i j else g i j) := fun i j => by
  show (if c _ = 1#1 then a _ else b _) = _
  rcases hc i j with ⟨h, p⟩ | ⟨h, p⟩
  · rw [if_pos h]; dsimp only; rw [if_pos p, ha i j]
  · rw [if_neg (by rw [h]; decide)]; dsimp only; rw [if_neg p, hb i j]

theorem Rp.at (ha : Rp m n a f) (x : (⟨2, ![m, n]⟩ : Shape).Idx) : a x = ((f (x 0 : Fin m) (x 1 : Fin n) : ℝ) : EReal) := by
  rw [eq_ix2 x]; exact ha _ _

theorem Rp.rowAt {r : (⟨2, ![1, n]⟩ : Shape).Idx → EReal} {q : ℕ → ℕ → ℝ} (hr : Rp 1 n r q) (x : (⟨2, ![1, n]⟩ : Shape).Idx) :
    r x = ((q 0 (x 1 : Fin n) : ℝ) : EReal) := by
  have e : ∀ k : Fin 1, (k : ℕ) = 0 := fun k => by omega
  exact (hr.at x).trans (by rw [e (x 0)])

theorem Rp.bcRow {r : (⟨2, ![1, n]⟩ : Shape).Idx → EReal} {q : ℕ → ℕ → ℝ} (h : (⟨2, ![1, n]⟩ : Shape).Broadcasts ⟨2, ![m, n]⟩)
    (hr : Rp 1 n r q) : Rp m n (broadcastTo ⟨2, ![m, n]⟩ r h) (fun _ j => q 0 j) := fun i j => by
  pointwise
  rw [Shape.Idx.norm_def, hr.rowAt]
  congr 2
  by_cases h1 : n = 1
  · subst h1; simp
  · simp [h1]

theorem Rp.hbcRow {r : (⟨2, ![1, n]⟩ : Shape).Idx → EReal} {q : ℕ → ℕ → ℝ}
    (h : (⟨2, ![1, n]⟩ : Shape).BroadcastsInDim ⟨2, ![m, n]⟩ ![0, 1])
    (hr : Rp 1 n r q) : Rp m n (broadcastInDim ⟨2, ![m, n]⟩ ![0, 1] h r) (fun _ j => q 0 j) := fun i j => by
  pointwise
  rw [Shape.Idx.norm_def, hr.rowAt]
  congr 2
  by_cases h1 : n = 1
  · subst h1; simp
  · simp [h1]

theorem Rp.hcst {c : (⟨0, ![]⟩ : Shape).Idx → EReal} {x : ℝ} (h : (⟨0, ![]⟩ : Shape).BroadcastsInDim ⟨2, ![m, n]⟩ ![])
    (hc : R0 c x) : Rp m n (broadcastInDim ⟨2, ![m, n]⟩ ![] h c) (fun _ _ => x) := fun i j => hc _

theorem Rp.castSelf (h : (⟨2, ![m, n]⟩ : Shape).ShapeCasts ⟨2, ![m, n]⟩) (ha : Rp m n a f) :
    Rp m n (shapeCast ⟨2, ![m, n]⟩ a h) f := fun i j => by
  pointwise; exact ha i j

theorem Rp.slice {p q : ℕ} (o w : ℕ) (h : (⟨2, ![m, n]⟩ : Shape).Slices ![o, w] ⟨2, ![p, q]⟩) (ha : Rp m n a f) :
    Rp p q (extractStridedSlice ⟨2, ![p, q]⟩ ![o, w] a h) (fun i j => f (o + i) (w + j)) := fun i j => by
  pointwise
  rw [Shape.Idx.norm_def, ha.at]; rfl

theorem Rp.rot {k : BitVec 32} (h : (⟨2, ![m, n]⟩ : Shape).Rotates 0 none) (ha : Rp m n a f) :
    Rp m n (dynamicRotate 0 k none a h) (fun i j => f ((i + m - k.toNat % m) % m) j) := fun i j => by
  pointwise
  rw [Shape.Idx.norm_def, ha.at]; rfl

end

theorem R0.cst {x : ℝ} {b : BitVec 32} (h : Ideal.ofBits .f32 b = ((x : ℝ) : EReal)) : R0 (constant (F := Ideal) ⟨0, ![]⟩ .f32 b) x :=
  fun _ => h

theorem lit_half : Ideal.ofBits .f32 0x3F000000#32 = ((1 / 2 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_zero : Ideal.ofBits .f32 0x00000000#32 = ((0 : ℝ) : EReal) := by
  simp [Ideal.ofBits, Ideal.ieee, -EReal.coe_mul]
theorem lit_m8 : Ideal.ofBits .f32 0xC1000000#32 = ((-8 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_three : Ideal.ofBits .f32 0x40400000#32 = ((3 : ℝ) : EReal) := by
  simp [Ideal.ofBits, Ideal.ieee, -EReal.coe_mul]; norm_num
theorem lit_gc : Ideal.ofBits .f32 0x3F4C422A#32 = ((Spec.gc : ℝ) : EReal) := by
  unfold Spec.gc; simp [Ideal.ofBits, Ideal.ieee, -EReal.coe_mul]; norm_num
theorem lit_num : Ideal.ofBits .f32 0x472EAB00#32 = ((44715 : ℝ) : EReal) := by
  simp [Ideal.ofBits, Ideal.ieee, -EReal.coe_mul]; norm_num
theorem lit_den : Ideal.ofBits .f32 0x49742400#32 = ((1000000 : ℝ) : EReal) := by
  simp [Ideal.ofBits, Ideal.ieee, -EReal.coe_mul]; norm_num
theorem lit_top : Ideal.ofBits .f32 0x7F800000#32 = ⊤ := by
  simp [Ideal.ofBits, Ideal.ieee]

section
variable {m n : ℕ} {a b : (⟨2, ![m, n]⟩ : Shape).Idx → EReal} {f g : ℕ → ℕ → ℝ}

theorem Mk.une_self : Mk m n (cmpf (F := Ideal) (φ := .f32) .une a a) (fun _ _ => False) := fun i j => by
  refine Or.inr ⟨?_, id⟩
  show Ideal.cmp .une (a _) (a _) = 0#1
  simp [Ideal.cmp]

theorem Mk.eq_top (ha : Rp m n a f) (h : (⟨0, ![]⟩ : Shape).BroadcastsInDim ⟨2, ![m, n]⟩ ![]) :
    Mk m n (cmpf (F := Ideal) (φ := .f32) .oeq a
      (broadcastInDim ⟨2, ![m, n]⟩ ![] h (constant (F := Ideal) ⟨0, ![]⟩ .f32 0x7F800000#32))) (fun _ _ => False) := fun i j => by
  refine Or.inr ⟨?_, id⟩
  show Ideal.cmp .oeq (a _) (Ideal.ofBits .f32 0x7F800000#32) = 0#1
  rw [ha i j, lit_top]
  simp [Ideal.cmp]

theorem coe_sum {ι : Type} (s : Finset ι) (f : ι → ℝ) : ∑ i ∈ s, ((f i : ℝ) : EReal) = ((∑ i ∈ s, f i : ℝ) : EReal) := by
  classical
  induction s using Finset.induction_on with
  | empty => simp
  | insert x s hx ih => rw [Finset.sum_insert hx, Finset.sum_insert hx, ih, EReal.coe_add]

theorem R1.hsum {c : (⟨0, ![]⟩ : Shape).Idx → EReal} (h : (⟨2, ![m, n]⟩ : Shape).ReducesTo [0] ⟨1, ![n]⟩) (h0 : 0 < (⟨0, ![]⟩ : Shape).numel)
    (ha : Rp m n a f) (hc : R0 c 0) :
    R1 n (Host.reduceAdd (F := Ideal) (φ := .f32) a c h h0) (fun j => ∑ i ∈ Finset.range m, f i j) := fun j => by
  pointwise
  rw [hc]
  have e : ∀ k : Fin m, a (ix2 k j) = ((f k j : ℝ) : EReal) := fun k => ha k j
  simp only [e, coe_sum, EReal.coe_zero, zero_add, ← Fin.sum_univ_eq_sum_range (fun i => f i j) m]

theorem Rp.ofRow {r : (⟨1, ![1024]⟩ : Shape).Idx → EReal} {q : ℕ → ℝ} (h : (⟨1, ![1024]⟩ : Shape).ShapeCasts ⟨2, ![1, 1024]⟩)
    (hr : R1 1024 r q) : Rp 1 1024 (shapeCast ⟨2, ![1, 1024]⟩ r h) (fun _ j => q j) := fun i j => by
  pointwise
  exact hr j

theorem Rp.ofRow256 {r : (⟨1, ![256]⟩ : Shape).Idx → EReal} {q : ℕ → ℝ} (h : (⟨1, ![256]⟩ : Shape).ShapeCasts ⟨2, ![1, 256]⟩)
    (hr : R1 256 r q) : Rp 1 256 (shapeCast ⟨2, ![1, 256]⟩ r h) (fun _ j => q j) := fun i j => by
  pointwise
  exact hr j

theorem R1.toRow {r : (⟨2, ![1, 1024]⟩ : Shape).Idx → EReal} {q : ℕ → ℕ → ℝ} (h : (⟨2, ![1, 1024]⟩ : Shape).ShapeCasts ⟨1, ![1024]⟩)
    (hr : Rp 1 1024 r q) : R1 1024 (shapeCast ⟨1, ![1024]⟩ r h) (fun j => q 0 j) := fun j => by
  pointwise
  exact hr 0 j

theorem R1.hcst {c : (⟨0, ![]⟩ : Shape).Idx → EReal} {x : ℝ} (h : (⟨0, ![]⟩ : Shape).BroadcastsInDim ⟨1, ![n]⟩ ![])
    (hc : R0 c x) : R1 n (broadcastInDim ⟨1, ![n]⟩ ![] h c) (fun _ => x) := fun j => hc _

theorem R1.mul {a b : (⟨1, ![n]⟩ : Shape).Idx → EReal} {f g : ℕ → ℝ} (ha : R1 n a f) (hb : R1 n b g) :
    R1 n (mulf (F := Ideal) (φ := .f32) a b) (fun j => f j * g j) := fun j => by
  show a _ * b _ = _; rw [ha j, hb j, EReal.coe_mul]

theorem R1.add {a b : (⟨1, ![n]⟩ : Shape).Idx → EReal} {f g : ℕ → ℝ} (ha : R1 n a f) (hb : R1 n b g) :
    R1 n (addf (F := Ideal) (φ := .f32) a b) (fun j => f j + g j) := fun j => by
  show a _ + b _ = _; rw [ha j, hb j, EReal.coe_add]

theorem R1.of_eq {a : (⟨1, ![n]⟩ : Shape).Idx → EReal} {f g : ℕ → ℝ} (h : R1 n a f) (e : ∀ j, j < n → f j = g j) : R1 n a g := fun j => by
  rw [h j, e j j.2]

theorem R0.hdiv {a b : (⟨0, ![]⟩ : Shape).Idx → EReal} {x y : ℝ} (ha : R0 a x) (hb : R0 b y) (h : y ≠ 0) :
    R0 (Host.divf (F := Ideal) (φ := .f32) a b) (x / y) := fun i => by
  show Ideal.div (a _) (b _) = _; rw [ha i, hb i, div_real h]

end

end Cert.Base
-- ==== Proof.Scan.lean ====
/- The kernel's scan of a block of 64 rows: the doubling within groups of eight rows and the chain of the eight groups, over the reals. -/
module

public import proofs.«01_k».proof.Proof.Base
public import proofs.«01_k».proof.Proof.Gen.KernelIdeal.Skeleton

@[expose] public section

noncomputable section

namespace Cert.KerVal

open Idealize.ShloMosaic Idealize.ShloMosaic.TcCoe Cert.KernelIdeal Cert.KernelIdeal.Gen Cert.Base Cert.Spec

/-- `A`, `B` carry the state over the rows of a window of `w` inside the row's group of eight. -/
def Fwd (w : ℕ) (H A B : ℕ → ℕ → ℝ) : Prop :=
  ∀ r j, r < 64 → A r j * H (r + 1 - min w (r % 8 + 1)) j + B r j = H (r + 1) j

theorem fwd_double {H A B : ℕ → ℕ → ℝ} (d : ℕ) (hd : d = 1 ∨ d = 2 ∨ d = 4) (h : Fwd d H A B) :
    Fwd (2 * d) H (fun r j => if d ≤ r % 8 then A r j * A ((r + 64 - d) % 64) j else A r j)
      (fun r j => if d ≤ r % 8 then A r j * B ((r + 64 - d) % 64) j + B r j else B r j) := fun r j hr => by
  have h1 := h r j hr
  dsimp only
  by_cases hm : d ≤ r % 8
  · rw [if_pos hm, if_pos hm]
    have e : (r + 64 - d) % 64 = r - d := by rcases hd with rfl | rfl | rfl <;> omega
    have h2 := h (r - d) j (by omega)
    rw [e]
    have e1 : r + 1 - min (2 * d) (r % 8 + 1) = r - d + 1 - min d ((r - d) % 8 + 1) := by rcases hd with rfl | rfl | rfl <;> omega
    have e2 : r + 1 - min d (r % 8 + 1) = r - d + 1 := by rcases hd with rfl | rfl | rfl <;> omega
    rw [e2, ← h2] at h1
    rw [e1, ← h1]; ring
  · rw [if_neg hm, if_neg hm]
    have e1 : r + 1 - min (2 * d) (r % 8 + 1) = r + 1 - min d (r % 8 + 1) := by rcases hd with rfl | rfl | rfl <;> omega
    rw [e1, h1]

/-- The same from below: `M r` is what row `r` hands to the row above it. -/
def Bwd (w : ℕ) (M A B : ℕ → ℕ → ℝ) : Prop :=
  ∀ r j, r < 64 → A r j * M (r + min w (8 - r % 8)) j + B r j = M r j

theorem bwd_double {M A B : ℕ → ℕ → ℝ} (d : ℕ) (hd : d = 1 ∨ d = 2 ∨ d = 4) (h : Bwd d M A B) :
    Bwd (2 * d) M (fun r j => if r % 8 < 8 - d then A r j * A ((r + d) % 64) j else A r j)
      (fun r j => if r % 8 < 8 - d then A r j * B ((r + d) % 64) j + B r j else B r j) := fun r j hr => by
  have h1 := h r j hr
  dsimp only
  by_cases hm : r % 8 < 8 - d
  · rw [if_pos hm, if_pos hm]
    have e : (r + d) % 64 = r + d := by rcases hd with rfl | rfl | rfl <;> omega
    have h2 := h (r + d) j (by rcases hd with rfl | rfl | rfl <;> omega)
    rw [e]
    have e1 : r + min (2 * d) (8 - r % 8) = r + d + min d (8 - (r + d) % 8) := by rcases hd with rfl | rfl | rfl <;> omega
    have e2 : r + min d (8 - r % 8) = r + d := by rcases hd with rfl | rfl | rfl <;> omega
    rw [e2, ← h2] at h1
    rw [e1, ← h1]; ring
  · rw [if_neg hm, if_neg hm]
    have e1 : r + min (2 * d) (8 - r % 8) = r + min d (8 - r % 8) := by rcases hd with rfl | rfl | rfl <;> omega
    rw [e1, h1]

theorem rotd {v : S64x256.Idx → EReal} {f : ℕ → ℕ → ℝ} {k : BitVec 32} (d : ℕ) (hk : k.toNat % 64 = 64 - d) (hd : d ≤ 64)
    (h : S64x256.Rotates 0 none) (ha : Rp 64 256 v f) :
    Rp 64 256 (dynamicRotate 0 k none v h) (fun i j => f ((i + d) % 64) j) :=
  (Rp.rot h ha).of_eq fun i j _ _ => by rw [hk]; congr 2; omega

theorem rotu {v : S64x256.Idx → EReal} {f : ℕ → ℕ → ℝ} {k : BitVec 32} (d : ℕ) (hk : k.toNat % 64 = d)
    (h : S64x256.Rotates 0 none) (ha : Rp 64 256 v f) :
    Rp 64 256 (dynamicRotate 0 k none v h) (fun i j => f ((i + 64 - d) % 64) j) :=
  (Rp.rot h ha).of_eq fun i j _ _ => by rw [hk]

/-- A group of eight rows from the pair at those rows and the row carried in. -/
theorem group {vA vB : S64x256.Idx → EReal} {A B : ℕ → ℕ → ℝ} {vc : S1x256.Idx → EReal} {C : ℕ → ℕ → ℝ} (o : ℕ)
    (h1 h2 : S64x256.Slices ![o, 0] S8x256) (hb : S1x256.Broadcasts S8x256)
    (hA : Rp 64 256 vA A) (hB : Rp 64 256 vB B) (hc : Rp 1 256 vc C) :
    Rp 8 256 (addf (F := Ideal) (φ := .f32) (mulf (F := Ideal) (φ := .f32) (extractStridedSlice S8x256 ![o, 0] vA h1) (broadcastTo S8x256 vc hb))
      (extractStridedSlice S8x256 ![o, 0] vB h2)) (fun r j => A (o + r) j * C 0 j + B (o + r) j) :=
  (Rp.add (Rp.mul (Rp.slice o 0 h1 hA) (Rp.bcRow hb hc)) (Rp.slice o 0 h2 hB)).of_eq fun i j _ _ => by simp only [zero_add]

theorem rowOf {v : S8x256.Idx → EReal} {f : ℕ → ℕ → ℝ} (o : ℕ) (h : S8x256.Slices ![o, 0] S1x256) (hv : Rp 8 256 v f) :
    Rp 1 256 (extractStridedSlice S1x256 ![o, 0] v h) (fun _ j => f o j) :=
  (Rp.slice o 0 h hv).of_eq fun i j hi _ => by rw [show i = 0 by omega, zero_add, add_zero]

theorem concat8 {v0 v1 v2 v3 v4 v5 v6 v7 : S8x256.Idx → EReal} {f : ℕ → ℕ → ℝ}
    (h : Shape.Concatenates [S8x256, S8x256, S8x256, S8x256, S8x256, S8x256, S8x256, S8x256] S64x256 0)
    (h0 : Rp 8 256 v0 (fun r j => f (0 + r) j)) (h1 : Rp 8 256 v1 (fun r j => f (8 + r) j)) (h2 : Rp 8 256 v2 (fun r j => f (16 + r) j))
    (h3 : Rp 8 256 v3 (fun r j => f (24 + r) j)) (h4 : Rp 8 256 v4 (fun r j => f (32 + r) j)) (h5 : Rp 8 256 v5 (fun r j => f (40 + r) j))
    (h6 : Rp 8 256 v6 (fun r j => f (48 + r) j)) (h7 : Rp 8 256 v7 (fun r j => f (56 + r) j)) :
    Rp 64 256 (concatenate S64x256 0 [⟨S8x256, v0⟩, ⟨S8x256, v1⟩, ⟨S8x256, v2⟩, ⟨S8x256, v3⟩, ⟨S8x256, v4⟩, ⟨S8x256, v5⟩, ⟨S8x256, v6⟩, ⟨S8x256, v7⟩] h) f := fun i j => by
  pointwise
  by_cases c0 : (i : ℕ) < 8
  · rw [dif_pos c0]; refine (h0 ⟨_, c0⟩ j).trans (congrArg (fun x => ((f x j : ℝ) : EReal)) ?_); show 0 + ((i : ℕ)) = (i : ℕ); omega
  rw [dif_neg c0]
  by_cases c1 : (i : ℕ) - 8 < 8
  · rw [dif_pos c1]; refine (h1 ⟨_, c1⟩ j).trans (congrArg (fun x => ((f x j : ℝ) : EReal)) ?_); show 8 + ((i : ℕ) - 8) = (i : ℕ); omega
  rw [dif_neg c1]
  by_cases c2 : (i : ℕ) - 8 - 8 < 8
  · rw [dif_pos c2]; refine (h2 ⟨_, c2⟩ j).trans (congrArg (fun x => ((f x j : ℝ) : EReal)) ?_); show 16 + ((i : ℕ) - 8 - 8) = (i : ℕ); omega
  rw [dif_neg c2]
  by_cases c3 : (i : ℕ) - 8 - 8 - 8 < 8
  · rw [dif_pos c3]; refine (h3 ⟨_, c3⟩ j).trans (congrArg (fun x => ((f x j : ℝ) : EReal)) ?_); show 24 + ((i : ℕ) - 8 - 8 - 8) = (i : ℕ); omega
  rw [dif_neg c3]
  by_cases c4 : (i : ℕ) - 8 - 8 - 8 - 8 < 8
  · rw [dif_pos c4]; refine (h4 ⟨_, c4⟩ j).trans (congrArg (fun x => ((f x j : ℝ) : EReal)) ?_); show 32 + ((i : ℕ) - 8 - 8 - 8 - 8) = (i : ℕ); omega
  rw [dif_neg c4]
  by_cases c5 : (i : ℕ) - 8 - 8 - 8 - 8 - 8 < 8
  · rw [dif_pos c5]; refine (h5 ⟨_, c5⟩ j).trans (congrArg (fun x => ((f x j : ℝ) : EReal)) ?_); show 40 + ((i : ℕ) - 8 - 8 - 8 - 8 - 8) = (i : ℕ); omega
  rw [dif_neg c5]
  by_cases c6 : (i : ℕ) - 8 - 8 - 8 - 8 - 8 - 8 < 8
  · rw [dif_pos c6]; refine (h6 ⟨_, c6⟩ j).trans (congrArg (fun x => ((f x j : ℝ) : EReal)) ?_); show 48 + ((i : ℕ) - 8 - 8 - 8 - 8 - 8 - 8) = (i : ℕ); omega
  rw [dif_neg c6]
  have := i.2
  refine (h7 ⟨_, by omega⟩ j).trans (congrArg (fun x => ((f x j : ℝ) : EReal)) ?_); show 56 + ((i : ℕ) - 8 - 8 - 8 - 8 - 8 - 8 - 8) = (i : ℕ); omega

/-! ## The masks -/

theorem row8_0 (i : Fin 64) (j : Fin 256) : k0_pay8 8#32 k0_pay7 0#32 (ix2 i j) = BitVec.ofNat 32 (i % 8) := by
  unfold k0_pay8 k0_pay7
  pointwise
  revert i; decide +kernel

theorem row8_1 (i : Fin 64) (j : Fin 256) : k1_pay12 (iota .tc S64x256 32 [0] iota_S64x256_d0_w32) 8#32 (ix2 i j) = BitVec.ofNat 32 (i % 8) := by
  unfold k1_pay12
  pointwise
  revert i; decide +kernel

theorem mk_ge {v : IVec S64x256 32} (hv : ∀ (i : Fin 64) (j : Fin 256), v (ix2 i j) = BitVec.ofNat 32 (i % 8)) (d : ℕ) (hd : d = 1 ∨ d = 2 ∨ d = 4) :
    Mk 64 256 (cmpi .sge v (broadcast S64x256 (BitVec.ofNat 32 d))) (fun i _ => d ≤ i % 8) := fun i j => by
  show (IntOp.cmpi .sge (v _) (BitVec.ofNat 32 d) = 1#1 ∧ _) ∨ (IntOp.cmpi .sge (v _) (BitVec.ofNat 32 d) = 0#1 ∧ _)
  rw [hv]
  clear hv
  rcases hd with rfl | rfl | rfl <;> dsimp only <;> clear j <;> revert i <;> decide +kernel

theorem mk_lt {v : IVec S64x256 32} (hv : ∀ (i : Fin 64) (j : Fin 256), v (ix2 i j) = BitVec.ofNat 32 (i % 8)) (d : ℕ) (hd : d = 1 ∨ d = 2 ∨ d = 4) :
    Mk 64 256 (cmpi .slt v (broadcast S64x256 (BitVec.ofNat 32 (8 - d)))) (fun i _ => i % 8 < 8 - d) := fun i j => by
  show (IntOp.cmpi .slt (v _) (BitVec.ofNat 32 (8 - d)) = 1#1 ∧ _) ∨ (IntOp.cmpi .slt (v _) (BitVec.ofNat 32 (8 - d)) = 0#1 ∧ _)
  rw [hv]
  clear hv
  rcases hd with rfl | rfl | rfl <;> dsimp only <;> clear j <;> revert i <;> decide +kernel

end Cert.KerVal
-- ==== Proof.Ker0Pay.lean ====
/- The forward kernel's values over the reals: one block of 64 rows from the rows it reads and the state carried in. -/
module

public import proofs.«01_k».proof.Proof.Scan

@[expose] public section

noncomputable section

namespace Cert.KerVal

open Idealize.ShloMosaic Idealize.ShloMosaic.TcCoe Cert.KernelIdeal Cert.KernelIdeal.Gen Cert.Base Cert.Spec

theorem named_cubic : (Named.named κ "gelu_cubic" 0x3D372713#32 : Ideal .f32) = ((kc : ℝ) : EReal) := by
  show ((8943 / 200000 : ℝ) : EReal) = _
  unfold kc; congr 1; norm_num

variable (I : In)

theorem pay_sp {v0 : S1x256.Idx → EReal} (w : ℕ) (h : Rp 1 256 v0 (fun _ j => I.l (w + j))) :
    Rp 1 256 (k0_pay1 (F := Ideal) v0) (fun _ j => I.sp (w + j)) := by
  unfold k0_pay1
  refine Rp.of_eq (Rp.add (Rp.max (Rp.sub (Rp.cst lit_zero) h) (Rp.cst lit_zero))
    (Rp.log (Rp.add (Rp.cst lit_one) (Rp.exp (Rp.sub (Rp.cst lit_zero) (Rp.abs (Rp.sub (Rp.cst lit_zero) h))))) ?_)) ?_
  · intro i j _ _; positivity
  · intro i j _ _; simp only [In.sp, spl, zero_sub, abs_neg]

variable (o w : ℕ)

theorem pay_la {sp : S1x256.Idx → EReal} {g : S64x256.Idx → EReal} (hs : Rp 1 256 sp (fun _ j => I.sp (w + j)))
    (hg : Rp 64 256 g (fun r j => I.grp (o + r) (w + j))) : Rp 64 256 (k0_pay4 (F := Ideal) sp g) (fun r j => I.la (o + r) (w + j)) := by
  unfold k0_pay4
  refine Rp.of_eq (Rp.mul (Rp.mul (Rp.cst lit_m8) (Rp.add (Rp.mul (Rp.cst lit_half) (Rp.tanh (Rp.mul (Rp.cst lit_half) hg))) (Rp.cst lit_half))) (Rp.bcRow _ hs)) ?_
  intro i j _ _; simp only [In.la, In.gr, sg_tanh]

theorem pay_a {sp : S1x256.Idx → EReal} {g : S64x256.Idx → EReal} (hs : Rp 1 256 sp (fun _ j => I.sp (w + j)))
    (hg : Rp 64 256 g (fun r j => I.grp (o + r) (w + j))) : Rp 64 256 (k0_pay5 (F := Ideal) sp g) (fun r j => I.a (o + r) (w + j)) := by
  unfold k0_pay5
  exact Rp.exp (pay_la I o w hs hg)

theorem pay_u {sp : S1x256.Idx → EReal} {c p g : S64x256.Idx → EReal} (hs : Rp 1 256 sp (fun _ j => I.sp (w + j)))
    (hc : Rp 64 256 c (fun r j => I.rc (o + r) (w + j))) (hp : Rp 64 256 p (fun r j => I.gip (o + r) (w + j)))
    (hg : Rp 64 256 g (fun r j => I.grp (o + r) (w + j))) : Rp 64 256 (k0_pay6 (F := Ideal) sp c p g) (fun r j => I.u (o + r) (w + j)) := by
  unfold k0_pay6
  refine Rp.of_eq (Rp.mul (Rp.mul hc (Rp.add (Rp.mul (Rp.cst lit_half) (Rp.tanh (Rp.mul (Rp.cst lit_half) hp))) (Rp.cst lit_half)))
    (Rp.sqrt (Rp.mul (Rp.sub (Rp.cst lit_zero) (Rp.tanh (pay_la I o w hs hg))) (Rp.add (Rp.mul (pay_a I o w hs hg) (pay_a I o w hs hg)) (Rp.cst lit_one))) ?_)) ?_
  · intro i j _ _
    simp only [In.a, tanh_om]
    exact (om_pos I _ _).le
  · intro i j _ _
    simp only [In.u, In.mult, In.gi, In.a, sg_tanh, tanh_om]

/-- The pair after the three doublings. -/
theorem pay_scan {va vu : S64x256.Idx → EReal} (ha : Rp 64 256 va (fun r j => I.a (o + r) (w + j))) (hu : Rp 64 256 vu (fun r j => I.u (o + r) (w + j))) :
    ∃ A B : ℕ → ℕ → ℝ, Rp 64 256 (k0_pay15 (F := Ideal) va 8#32 k0_pay7 0#32) A ∧ Rp 64 256 (k0_pay14 (F := Ideal) va vu 8#32 k0_pay7 0#32) B ∧
      Fwd 8 (fun r j => I.hs (o + r) (w + j)) A B := by
  have f1 : Fwd 1 (fun r j => I.hs (o + r) (w + j)) (fun r j => I.a (o + r) (w + j)) (fun r j => I.u (o + r) (w + j)) := fun r j hr => by
    rw [show r + 1 - min 1 (r % 8 + 1) = r by omega]; rfl
  have m1 := mk_ge row8_0 1 (by decide)
  have m2 := mk_ge row8_0 2 (by decide)
  have m4 := mk_ge row8_0 4 (by decide)
  have a1 := Rp.select m1 (Rp.mul ha (rotu (k := 1#32) 1 rfl rotates_S64x256_d0 ha)) ha
  have b1 := Rp.select m1 (Rp.add (Rp.mul ha (rotu (k := 1#32) 1 rfl rotates_S64x256_d0 hu)) hu) hu
  have f2 := fwd_double 1 (by decide) f1
  have a2 := Rp.select m2 (Rp.mul a1 (rotu (k := 2#32) 2 rfl rotates_S64x256_d0 a1)) a1
  have b2 := Rp.select m2 (Rp.add (Rp.mul a1 (rotu (k := 2#32) 2 rfl rotates_S64x256_d0 b1)) b1) b1
  have f4 := fwd_double 2 (by decide) f2
  have a4 := Rp.select m4 (Rp.mul a2 (rotu (k := 4#32) 4 rfl rotates_S64x256_d0 a2)) a2
  have b4 := Rp.select m4 (Rp.add (Rp.mul a2 (rotu (k := 4#32) 4 rfl rotates_S64x256_d0 b2)) b2) b2
  have f8 := fwd_double 4 (by decide) f4
  exact ⟨_, _, a4, b4, f8⟩

variable {va vu : S64x256.Idx → EReal} {vc : S1x256.Idx → EReal}

/-- One group of eight rows. -/
theorem fwd_group {H A B : ℕ → ℕ → ℝ} (f : Fwd 8 H A B) {vA vB : S64x256.Idx → EReal} {vc : S1x256.Idx → EReal} (o : ℕ) (ho : o % 8 = 0) (ho2 : o < 64)
    (h1 h2 : S64x256.Slices ![o, 0] S8x256) (hb : S1x256.Broadcasts S8x256)
    (hA : Rp 64 256 vA A) (hB : Rp 64 256 vB B) (hc : Rp 1 256 vc (fun _ j => H o j)) :
    Rp 8 256 (addf (F := Ideal) (φ := .f32) (mulf (F := Ideal) (φ := .f32) (extractStridedSlice S8x256 ![o, 0] vA h1) (broadcastTo S8x256 vc hb))
      (extractStridedSlice S8x256 ![o, 0] vB h2)) (fun r j => H (o + r + 1) j) :=
  (group o h1 h2 hb hA hB hc).of_eq fun r j hr _ => by
    rw [← f (o + r) j (by omega), show o + r + 1 - min 8 ((o + r) % 8 + 1) = o by omega]

theorem fwd_last {H : ℕ → ℕ → ℝ} {v : S8x256.Idx → EReal} (o o2 : ℕ) (ho : o2 = o + 8) (h : S8x256.Slices ![7, 0] S1x256)
    (hv : Rp 8 256 v (fun r j => H (o + r + 1) j)) : Rp 1 256 (extractStridedSlice S1x256 ![7, 0] v h) (fun _ j => H o2 j) := by
  subst ho; exact rowOf 7 h hv

/-- The block's states and the state carried out. -/
theorem pay_block {acc : S1x256.Idx → EReal} (ha : Rp 64 256 va (fun r j => I.a (o + r) (w + j))) (hu : Rp 64 256 vu (fun r j => I.u (o + r) (w + j)))
    (hc : Rp 1 256 acc (fun _ j => I.hs o (w + j))) :
    Rp 1 256 (k0_pay26 (F := Ideal) (k0_pay14 va vu 8#32 k0_pay7 0#32) (k0_pay15 va 8#32 k0_pay7 0#32) (k0_pay17 acc va vu 8#32 k0_pay7 0#32)
      (k0_pay18 va vu 8#32 k0_pay7 0#32)) (fun _ j => I.hs (o + 64) (w + j)) ∧
    Rp 64 256 (k0_pay27 (F := Ideal) (k0_pay14 va vu 8#32 k0_pay7 0#32) (k0_pay15 va 8#32 k0_pay7 0#32) (k0_pay16 acc va vu 8#32 k0_pay7 0#32)
      (k0_pay17 acc va vu 8#32 k0_pay7 0#32) (k0_pay18 va vu 8#32 k0_pay7 0#32)) (fun r j => I.hs (o + r + 1) (w + j)) := by
  obtain ⟨A, B, hA, hB, f⟩ := pay_scan I o w ha hu
  have g0 : Rp 8 256 (k0_pay16 (F := Ideal) acc va vu 8#32 k0_pay7 0#32) _ := fwd_group f 0 (by decide) (by decide) _ _ _ hA hB hc
  have g1 : Rp 8 256 (k0_pay19 (F := Ideal) (k0_pay17 acc va vu 8#32 k0_pay7 0#32) (k0_pay18 va vu 8#32 k0_pay7 0#32)) _ :=
    fwd_group f 8 (by decide) (by decide) slices_S64x256_o8_0_S8x256 slices_S64x256_o8_0_S8x256 broadcasts_S1x256_S8x256 hA hB (fwd_last (H := fun r j => I.hs (o + r) (w + j)) 0 8 rfl slices_S8x256_o7_0_S1x256 g0)
  have g2 : Rp 8 256 (k0_pay20 (F := Ideal) (k0_pay14 va vu 8#32 k0_pay7 0#32) (k0_pay15 va 8#32 k0_pay7 0#32) (k0_pay17 acc va vu 8#32 k0_pay7 0#32) (k0_pay18 va vu 8#32 k0_pay7 0#32)) _ :=
    fwd_group f 16 (by decide) (by decide) slices_S64x256_o16_0_S8x256 slices_S64x256_o16_0_S8x256 broadcasts_S1x256_S8x256 hA hB (fwd_last (H := fun r j => I.hs (o + r) (w + j)) 8 16 rfl slices_S8x256_o7_0_S1x256 g1)
  have g3 : Rp 8 256 (k0_pay21 (F := Ideal) (k0_pay14 va vu 8#32 k0_pay7 0#32) (k0_pay15 va 8#32 k0_pay7 0#32) (k0_pay17 acc va vu 8#32 k0_pay7 0#32) (k0_pay18 va vu 8#32 k0_pay7 0#32)) _ :=
    fwd_group f 24 (by decide) (by decide) slices_S64x256_o24_0_S8x256 slices_S64x256_o24_0_S8x256 broadcasts_S1x256_S8x256 hA hB (fwd_last (H := fun r j => I.hs (o + r) (w + j)) 16 24 rfl slices_S8x256_o7_0_S1x256 g2)
  have g4 : Rp 8 256 (k0_pay22 (F := Ideal) (k0_pay14 va vu 8#32 k0_pay7 0#32) (k0_pay15 va 8#32 k0_pay7 0#32) (k0_pay17 acc va vu 8#32 k0_pay7 0#32) (k0_pay18 va vu 8#32 k0_pay7 0#32)) _ :=
    fwd_group f 32 (by decide) (by decide) slices_S64x256_o32_0_S8x256 slices_S64x256_o32_0_S8x256 broadcasts_S1x256_S8x256 hA hB (fwd_last (H := fun r j => I.hs (o + r) (w + j)) 24 32 rfl slices_S8x256_o7_0_S1x256 g3)
  have g5 : Rp 8 256 (k0_pay23 (F := Ideal) (k0_pay14 va vu 8#32 k0_pay7 0#32) (k0_pay15 va 8#32 k0_pay7 0#32) (k0_pay17 acc va vu 8#32 k0_pay7 0#32) (k0_pay18 va vu 8#32 k0_pay7 0#32)) _ :=
    fwd_group f 40 (by decide) (by decide) slices_S64x256_o40_0_S8x256 slices_S64x256_o40_0_S8x256 broadcasts_S1x256_S8x256 hA hB (fwd_last (H := fun r j => I.hs (o + r) (w + j)) 32 40 rfl slices_S8x256_o7_0_S1x256 g4)
  have g6 : Rp 8 256 (k0_pay24 (F := Ideal) (k0_pay14 va vu 8#32 k0_pay7 0#32) (k0_pay15 va 8#32 k0_pay7 0#32) (k0_pay17 acc va vu 8#32 k0_pay7 0#32) (k0_pay18 va vu 8#32 k0_pay7 0#32)) _ :=
    fwd_group f 48 (by decide) (by decide) slices_S64x256_o48_0_S8x256 slices_S64x256_o48_0_S8x256 broadcasts_S1x256_S8x256 hA hB (fwd_last (H := fun r j => I.hs (o + r) (w + j)) 40 48 rfl slices_S8x256_o7_0_S1x256 g5)
  have g7 : Rp 8 256 (k0_pay25 (F := Ideal) (k0_pay14 va vu 8#32 k0_pay7 0#32) (k0_pay15 va 8#32 k0_pay7 0#32) (k0_pay17 acc va vu 8#32 k0_pay7 0#32) (k0_pay18 va vu 8#32 k0_pay7 0#32)) _ :=
    fwd_group f 56 (by decide) (by decide) slices_S64x256_o56_0_S8x256 slices_S64x256_o56_0_S8x256 broadcasts_S1x256_S8x256 hA hB (fwd_last (H := fun r j => I.hs (o + r) (w + j)) 48 56 rfl slices_S8x256_o7_0_S1x256 g6)
  refine ⟨fwd_last (H := fun r j => I.hs (o + r) (w + j)) 56 64 rfl slices_S8x256_o7_0_S1x256 g7, ?_⟩
  exact concat8 (f := fun r j => I.hs (o + (r + 1)) (w + j))
    concatenates_S8x256_S8x256_S8x256_S8x256_S8x256_S8x256_S8x256_S8x256_S64x256_d0 g0 g1 g2 g3 g4 g5 g6 g7

/-- The block of the recurrence's value. -/
theorem pay_m {gb h : S64x256.Idx → EReal} (hg : Rp 64 256 gb (fun r j => I.gb (o + r) (w + j))) (hh : Rp 64 256 h (fun r j => I.hs (o + r + 1) (w + j))) :
    Rp 64 256 (k0_pay3 (F := Ideal) h gb (k0_pay29 gb) k0_pay30) (fun r j => I.m (o + r) (w + j)) := by
  unfold k0_pay3 k0_pay29 k0_pay30
  refine Rp.castSelf _ (Rp.trunc (Rp.of_eq (Rp.mul (Rp.mul (Rp.mul (Rp.cst lit_half) hg) (Rp.add (Rp.cst lit_one) (Rp.tanh (Rp.mul (Rp.cst lit_gc)
    (Rp.add hg (Rp.mul (Rp.mul (Rp.mul (Rp.cst named_cubic) hg) hg) hg)))))) hh) fun i j _ _ => ?_) _)
  simp only [In.m, gel, th]; ring_nf

end Cert.KerVal
-- ==== Proof.Ker0Trip.lean ====
/- The forward kernel's loop: what a trip yields and stores as the payloads of the blocks it reads, and the state before every trip. -/
module

public import proofs.«01_k».proof.Proof.Ker0Pay
public import proofs.«01_k».proof.Proof.Gen.KernelIdeal.Frame

@[expose] public section

noncomputable section

namespace Cert.KerVal

open Idealize.ShloMosaic Idealize.ShloMosaic.TcCoe Cert.KernelIdeal Cert.KernelIdeal.Gen Cert.Base Cert.Spec

/-- The block of 64 rows trip `k` reads of a window. -/
abbrev blk0 (arg : Memref sig .tc .vmem S2048x256 .f32) (X : BufTy.Contents (Elt Ideal) arg.view.ty) (k : Fin k0_t1_loop.trips) : Vec Ideal S64x256 .f32 :=
  View.readAt (Elt Ideal) arg.view (Rect.unit (s := S2048x256) (k0_off1 k) S64x256.size (k0_off1_inb k)).toLoadRect X

variable (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .bf16) (harg7 : arg7.IsWhole) (v0 : Vec Ideal S1x256 .f32) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (k : Fin k0_t1_loop.trips) (acc : FVec Ideal S1x256 .f32)

theorem trip0_R :
    (trip_k0_t1 (F := Ideal) 𝒱 c bd i arg1 harg1 arg2 harg2 arg3 harg3 arg4 harg4 arg5 harg5 arg6 harg6 arg7 harg7 v0 X_arg1 X_arg2 X_arg3 X_arg4 k).1 acc =
      (let va := k0_pay5 (k0_pay1 v0) (blk0 arg4 X_arg4 k)
       let vu := k0_pay6 (k0_pay1 v0) (blk0 arg2 X_arg2 k) (blk0 arg3 X_arg3 k) (blk0 arg4 X_arg4 k)
       k0_pay26 (k0_pay14 va vu 8#32 k0_pay7 0#32) (k0_pay15 va 8#32 k0_pay7 0#32) (k0_pay17 acc va vu 8#32 k0_pay7 0#32) (k0_pay18 va vu 8#32 k0_pay7 0#32)) := by
  unfold trip_k0_t1
  rfl

theorem trip0_L :
    (trip_k0_t1 (F := Ideal) 𝒱 c bd i arg1 harg1 arg2 harg2 arg3 harg3 arg4 harg4 arg5 harg5 arg6 harg6 arg7 harg7 v0 X_arg1 X_arg2 X_arg3 X_arg4 k).2.1 acc =
      (let va := k0_pay5 (k0_pay1 v0) (blk0 arg4 X_arg4 k)
       let vu := k0_pay6 (k0_pay1 v0) (blk0 arg2 X_arg2 k) (blk0 arg3 X_arg3 k) (blk0 arg4 X_arg4 k)
       [⟨Rect.unit (s := S2048x256) (k0_off1 k) S64x256.size (k0_off1_inb k), k0_pay28 (k0_pay14 va vu 8#32 k0_pay7 0#32) (k0_pay15 va 8#32 k0_pay7 0#32) (k0_pay16 acc va vu 8#32 k0_pay7 0#32)
         (k0_pay17 acc va vu 8#32 k0_pay7 0#32) (k0_pay18 va vu 8#32 k0_pay7 0#32)⟩]) := by
  unfold trip_k0_t1
  rfl

theorem trip0_M :
    (trip_k0_t1 (F := Ideal) 𝒱 c bd i arg1 harg1 arg2 harg2 arg3 harg3 arg4 harg4 arg5 harg5 arg6 harg6 arg7 harg7 v0 X_arg1 X_arg2 X_arg3 X_arg4 k).2.2.1 acc =
      (let va := k0_pay5 (k0_pay1 v0) (blk0 arg4 X_arg4 k)
       let vu := k0_pay6 (k0_pay1 v0) (blk0 arg2 X_arg2 k) (blk0 arg3 X_arg3 k) (blk0 arg4 X_arg4 k)
       [⟨Rect.unit (s := S2048x256) (k0_off1 k) S64x256.size (k0_off1_inb k), k0_pay3 (k0_pay27 (k0_pay14 va vu 8#32 k0_pay7 0#32) (k0_pay15 va 8#32 k0_pay7 0#32) (k0_pay16 acc va vu 8#32 k0_pay7 0#32)
         (k0_pay17 acc va vu 8#32 k0_pay7 0#32) (k0_pay18 va vu 8#32 k0_pay7 0#32)) (blk0 arg1 X_arg1 k) (k0_pay29 (blk0 arg1 X_arg1 k)) k0_pay30⟩]) := by
  unfold trip_k0_t1
  rfl

end Cert.KerVal
-- ==== Proof.Ker0Val.lean ====
/- The forward kernel's value: the state before every trip, what the body leaves in its first output's block. -/
module

public import proofs.«01_k».proof.Proof.Ker0Trip
public import Idealize.ShloMosaic.Lib.WritesUnit

@[expose] public section

noncomputable section

namespace Cert.KerVal

open Idealize.ShloMosaic Idealize.ShloMosaic.TcCoe Cert.KernelIdeal Cert.KernelIdeal.Gen Cert.Base Cert.Spec

/-- Over any prior contents, the writes leave `g` at every row that satisfies `P`. -/
def Part {sp : Space} {e : EltTy} (v : View sig .tc sp S2048x256 e) (L : List (View.Piece (Elt Ideal) S2048x256 e)) (P : ℕ → Prop)
    (g : ℕ → ℕ → Elt Ideal e) : Prop :=
  ∀ (f : v.ty.Contents (Elt Ideal)) (i : Fin 2048) (j : Fin 256), P i → v.read (Elt Ideal) (v.writes (Elt Ideal) f L) (ix2 i j) = g i j

theorem Part.cons {sp : Space} {e : EltTy} {v : View sig .tc sp S2048x256 e} {L : List (View.Piece (Elt Ideal) S2048x256 e)} {P Q : ℕ → Prop}
    {g : ℕ → ℕ → Elt Ideal e} (o : ℕ) {off : Fin 2 → ℕ} (inb : ∀ a : Fin 2, off a + S64x256.size a ≤ S2048x256.size a) (hoff : off = ![o, 0])
    {w : S64x256.Idx → Elt Ideal e} (hw : ∀ (r : Fin 64) (j : Fin 256), w (ix2 r j) = g (o + r) j) (hL : Part v L P g)
    (hQ : ∀ i, Q i → (o ≤ i ∧ i < o + 64) ∨ P i) :
    Part v ((⟨Rect.unit (s := S2048x256) off S64x256.size inb, w⟩ : View.Piece (Elt Ideal) S2048x256 e) :: L) Q g := fun f i j h => by
  by_cases c : o ≤ (i : ℕ) ∧ (i : ℕ) < o + 64
  · have hr : (i : ℕ) - o < 64 := by omega
    refine (View.read_writes_cons_rows_of_mem (o := o) v f inb w L (ix2 i j) (ix2 (⟨(i : ℕ) - o, hr⟩ : Fin 64) j) hoff ?_ rfl).trans ?_
    · show (i : ℕ) = o + ((i : ℕ) - o); omega
    · refine (hw ⟨(i : ℕ) - o, hr⟩ j).trans ?_
      show g (o + ((i : ℕ) - o)) j = _
      rw [show o + ((i : ℕ) - o) = i by omega]
  · refine (View.read_writes_cons_rows_of_not_mem (o := o) (W := 64) v f inb w L (ix2 i j) hoff rfl ?_).trans ?_
    · show (i : ℕ) < o ∨ o + 64 ≤ (i : ℕ); omega
    · exact hL f i j ((hQ i h).resolve_left c)

/-- A block of 64 rows read out of a whole window. -/
theorem rowsAt {arg : Memref sig .tc .vmem S2048x256 .f32} (harg : arg.IsWhole) {x : Vec Ideal S2048x256 .f32} {f : ℕ → ℕ → ℝ}
    (hx : Rp 2048 256 x f) {off : Fin 2 → ℕ} (inb : ∀ a, off a + S64x256.size a ≤ S2048x256.size a) (o : ℕ) (ho : o + 64 ≤ 2048) (hoff : off = ![o, 0]) :
    Rp 64 256 (View.readAt (Elt Ideal) arg.view (Rect.unit (s := S2048x256) off S64x256.size inb).toLoadRect (harg.unread x)) (fun r j => f (o + r) j) := fun r j => by
  subst hoff
  rw [View.readAt_eq_ld, Memref.IsWhole.read_unread]
  refine Eq.trans ?_ (hx ⟨o + r, by omega⟩ j)
  refine congrArg x ?_
  refine (eq_ix2 _).trans ?_
  refine congrArg₂ ix2 (Fin.ext ?_) (Fin.ext ?_)
  · show o + 1 * (r : ℕ) = o + r; omega
  · show 0 + 1 * (j : ℕ) = j; omega

theorem off1_0 : ∀ k : Fin k0_t1_loop.trips, k0_off1 k = ![64 * k.val, 0] := by decide +kernel

section
variable (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .bf16) (harg7 : arg7.IsWhole) (v0 : Vec Ideal S1x256 .f32)
  (x1 : Vec Ideal S2048x256 .f32) (x2 : Vec Ideal S2048x256 .f32) (x3 : Vec Ideal S2048x256 .f32) (x4 : Vec Ideal S2048x256 .f32)

/-- The state before trip `k` at windows whose contents are `x1 … x4`. -/
abbrev st0 (k : ℕ) := st_k0_t1 (F := Ideal) 𝒱 c bd i arg1 harg1 arg2 harg2 arg3 harg3 arg4 harg4 arg5 harg5 arg6 harg6 arg7 harg7 v0 (harg1.unread x1) (harg2.unread x2) (harg3.unread x3) (harg4.unread x4) k0_pay2 k

theorem st0_all (I : In) (w : ℕ) (hv : Rp 1 256 v0 (fun _ j => I.l (w + j))) (h1 : Rp 2048 256 x1 (fun r j => I.gb r (w + j))) (h2 : Rp 2048 256 x2 (fun r j => I.rc r (w + j)))
    (h3 : Rp 2048 256 x3 (fun r j => I.gip r (w + j))) (h4 : Rp 2048 256 x4 (fun r j => I.grp r (w + j))) {sp : Space} (v : View sig .tc sp S2048x256 .f32) (u : View sig .tc sp S2048x256 .bf16) :
    ∀ k : ℕ, k ≤ 32 → Rp 1 256 (st0 𝒱 c bd i arg1 harg1 arg2 harg2 arg3 harg3 arg4 harg4 arg5 harg5 arg6 harg6 arg7 harg7 v0 x1 x2 x3 x4 k).1 (fun _ j => I.hs (64 * k) (w + j)) ∧
      Part v (st0 𝒱 c bd i arg1 harg1 arg2 harg2 arg3 harg3 arg4 harg4 arg5 harg5 arg6 harg6 arg7 harg7 v0 x1 x2 x3 x4 k).2.1 (fun r => r < 64 * k) (fun r j => ((I.hs (r + 1) (w + j) : ℝ) : EReal)) ∧
      Part u (st0 𝒱 c bd i arg1 harg1 arg2 harg2 arg3 harg3 arg4 harg4 arg5 harg5 arg6 harg6 arg7 harg7 v0 x1 x2 x3 x4 k).2.2 (fun r => r < 64 * k) (fun r j => ((I.m r (w + j) : ℝ) : EReal)) := by
  intro k
  induction k with
  | zero =>
    intro _
    refine ⟨fun r j => ?_, fun f r j h => absurd h (by omega), fun f r j h => absurd h (by omega)⟩
    show Ideal.ofBits .f32 0x00000000#32 = _
    rw [lit_zero]; rfl
  | succ k ih =>
    intro hk
    obtain ⟨hc, hL, hM⟩ := ih (by omega)
    have b1 := rowsAt harg1 h1 (k0_off1_inb ⟨k, hk⟩) (64 * k) (by omega) (off1_0 ⟨k, hk⟩)
    have b2 := rowsAt harg2 h2 (k0_off1_inb ⟨k, hk⟩) (64 * k) (by omega) (off1_0 ⟨k, hk⟩)
    have b3 := rowsAt harg3 h3 (k0_off1_inb ⟨k, hk⟩) (64 * k) (by omega) (off1_0 ⟨k, hk⟩)
    have b4 := rowsAt harg4 h4 (k0_off1_inb ⟨k, hk⟩) (64 * k) (by omega) (off1_0 ⟨k, hk⟩)
    have hsp := pay_sp I w hv
    have ha := pay_a I (64 * k) w hsp b4
    have hu := pay_u I (64 * k) w hsp b2 b3 b4
    have hb := pay_block I (64 * k) w ha hu hc
    have e : st0 𝒱 c bd i arg1 harg1 arg2 harg2 arg3 harg3 arg4 harg4 arg5 harg5 arg6 harg6 arg7 harg7 v0 x1 x2 x3 x4 (k + 1) = _ := st_k0_t1_succ (F := Ideal) 𝒱 c bd i arg1 harg1 arg2 harg2 arg3 harg3 arg4 harg4 arg5 harg5 arg6 harg6 arg7 harg7 v0 (harg1.unread x1) (harg2.unread x2) (harg3.unread x3) (harg4.unread x4) k0_pay2 ⟨k, hk⟩
    rw [e]
    unfold tripR_k0_t1 tripL_k0_t1
    dsimp only
    rw [trip0_R, trip0_L, trip0_M]
    refine ⟨?_, ?_, ?_⟩
    · exact hb.1
    · exact Part.cons (64 * k) _ (off1_0 ⟨k, hk⟩) ((Rp.castSelf _ hb.2).of_eq fun a b _ _ => rfl) hL (fun a h => by omega)
    · exact Part.cons (64 * k) _ (off1_0 ⟨k, hk⟩) (pay_m I (64 * k) w b1 hb.2) hM (fun a h => by omega)
end

end Cert.KerVal
-- ==== Proof.Ker1Pay.lean ====
/- What the backward kernel's payloads are at the reals: the gradient's terms of a block, the doubling scan of the co-state, and the sums it carries. -/
module

public import proofs.«01_k».proof.Proof.Ker0Pay

@[expose] public section

noncomputable section

namespace Cert.KerVal

open Idealize.ShloMosaic Idealize.ShloMosaic.TcCoe Cert.KernelIdeal Cert.KernelIdeal.Gen Cert.Base Cert.Spec

theorem named_cubic3 : (Named.named κ "gelu_cubic3" 0x3E095D4F#32 : Ideal .f32) = ((3 * kc : ℝ) : EReal) := by
  show ((26829 / 200000 : ℝ) : EReal) = _
  unfold kc; congr 1; norm_num

variable (I : In) (o w : ℕ)

theorem pay1_sp {v0 : S1x256.Idx → EReal} (h : Rp 1 256 v0 (fun _ j => I.l (w + j))) :
    Rp 1 256 (k1_pay39 (F := Ideal) v0) (fun _ j => I.sp (w + j)) := by
  unfold k1_pay39
  refine Rp.of_eq (Rp.add (Rp.max (Rp.sub (Rp.cst lit_zero) h) (Rp.cst lit_zero))
    (Rp.log (Rp.add (Rp.cst lit_one) (Rp.exp (Rp.sub (Rp.cst lit_zero) (Rp.abs (Rp.sub (Rp.cst lit_zero) h))))) ?_)) ?_
  · intro i j _ _; positivity
  · intro i j _ _; simp only [In.sp, spl, zero_sub, abs_neg]

variable {sp : S1x256.Idx → EReal} {rc gip grp gb dm h : S64x256.Idx → EReal} {I o w}
variable (hs : Rp 1 256 sp (fun _ j => I.sp (w + j))) (hrc : Rp 64 256 rc (fun r j => I.rc (o + r) (w + j)))
  (hgip : Rp 64 256 gip (fun r j => I.gip (o + r) (w + j))) (hgrp : Rp 64 256 grp (fun r j => I.grp (o + r) (w + j)))
  (hgb : Rp 64 256 gb (fun r j => I.gb (o + r) (w + j))) (hdm : Rp 64 256 dm (fun r j => I.dm (o + r) (w + j)))
  (hh : Rp 64 256 h (fun r j => I.hs (o + r + 1) (w + j)))

section
include hgip
theorem pay1_gi : Rp 64 256 (k1_pay2 (F := Ideal) gip) (fun r j => I.gi (o + r) (w + j)) := by
  unfold k1_pay2
  exact Rp.of_eq (Rp.add (Rp.mul (Rp.cst lit_half) (Rp.tanh (Rp.mul (Rp.cst lit_half) hgip))) (Rp.cst lit_half)) fun i j _ _ => by simp only [In.gi, sg_tanh]
end

section
include hgrp
theorem pay1_gr : Rp 64 256 (k1_pay3 (F := Ideal) grp) (fun r j => I.gr (o + r) (w + j)) := by
  unfold k1_pay3
  exact Rp.of_eq (Rp.add (Rp.mul (Rp.cst lit_half) (Rp.tanh (Rp.mul (Rp.cst lit_half) hgrp))) (Rp.cst lit_half)) fun i j _ _ => by simp only [In.gr, sg_tanh]

include hs
theorem pay1_la : Rp 64 256 (k1_pay4 (F := Ideal) sp grp) (fun r j => I.la (o + r) (w + j)) := by
  unfold k1_pay4
  exact Rp.mul (Rp.mul (Rp.cst lit_m8) (pay1_gr hgrp)) (Rp.bcRow _ hs)

theorem pay1_a : Rp 64 256 (k1_pay5 (F := Ideal) sp grp) (fun r j => I.a (o + r) (w + j)) := by
  unfold k1_pay5
  exact Rp.exp (pay1_la hs hgrp)

theorem pay1_mult : Rp 64 256 (k1_pay6 (F := Ideal) sp grp) (fun r j => I.mult (o + r) (w + j)) := by
  unfold k1_pay6
  refine Rp.of_eq (Rp.sqrt (Rp.mul (Rp.sub (Rp.cst lit_zero) (Rp.tanh (pay1_la hs hgrp))) (Rp.add (Rp.mul (pay1_a hs hgrp) (pay1_a hs hgrp)) (Rp.cst lit_one))) ?_) ?_
  · intro i j _ _
    simp only [In.a, tanh_om]
    exact (om_pos I _ _).le
  · intro i j _ _
    simp only [In.mult, In.a, tanh_om]
end

section
include hgb
theorem pay1_in : Rp 64 256 (k1_pay7 (F := Ideal) gb) (fun r j => I.gb (o + r) (w + j) + kc * I.gb (o + r) (w + j) * I.gb (o + r) (w + j) * I.gb (o + r) (w + j)) := by
  unfold k1_pay7
  exact Rp.add hgb (Rp.mul (Rp.mul (Rp.mul (Rp.cst named_cubic) hgb) hgb) hgb)

theorem pay1_th : Rp 64 256 (k1_pay8 (F := Ideal) (k1_pay7 gb)) (fun r j => th (I.gb (o + r) (w + j))) := by
  unfold k1_pay8
  exact Rp.of_eq (Rp.tanh (Rp.mul (Rp.cst lit_gc) (pay1_in hgb))) fun i j _ _ => by
    unfold th; congr 1; ring

include hdm
theorem pay1_dh : Rp 64 256 (k1_pay10 (F := Ideal) gb (k1_pay7 gb) dm) (fun r j => I.dh (o + r) (w + j)) := by
  unfold k1_pay10
  exact Rp.of_eq (Rp.mul hdm (Rp.mul (Rp.mul (Rp.cst lit_half) hgb) (Rp.add (Rp.cst lit_one) (pay1_th hgb)))) fun i j _ _ => by
    unfold In.dh gel; ring

include hh
theorem pay1_dgb : Rp 64 256 (k1_pay9 (F := Ideal) gb (k1_pay7 gb) dm h) (fun r j => I.dgb (o + r) (w + j)) := by
  unfold k1_pay9
  refine Rp.castSelf _ (Rp.trunc ?_ _)
  refine Rp.of_eq (Rp.mul (Rp.mul hdm hh) (Rp.add (Rp.mul (Rp.cst lit_half) (Rp.add (Rp.cst lit_one) (pay1_th hgb)))
    (Rp.mul (Rp.mul (Rp.mul (Rp.mul (Rp.cst lit_half) hgb) (Rp.sub (Rp.cst lit_one) (Rp.mul (pay1_th hgb) (pay1_th hgb)))) (Rp.cst lit_gc))
      (Rp.add (Rp.cst lit_one) (Rp.mul (Rp.mul (Rp.cst named_cubic3) hgb) hgb))))) ?_
  intro i j _ _
  unfold In.dgb dgel; ring
end

/-- The pair after the three doublings, from the last row up. -/
theorem pay1_scan {va vb : S64x256.Idx → EReal} (ho : o + 64 ≤ 2048) (ha : Rp 64 256 va (fun r j => I.a (o + r) (w + j)))
    (hb : Rp 64 256 vb (fun r j => I.a (o + r) (w + j) * I.dh (o + r) (w + j))) :
    ∃ A B : ℕ → ℕ → ℝ, Rp 64 256 (k1_pay19 (F := Ideal) va (iota .tc S64x256 32 [0] iota_S64x256_d0_w32) 8#32) A ∧
      Rp 64 256 (k1_pay18 (F := Ideal) va vb (iota .tc S64x256 32 [0] iota_S64x256_d0_w32) 8#32) B ∧
      Bwd 8 (fun r j => I.ms (2048 - (o + r)) (w + j)) A B := by
  have f1 : Bwd 1 (fun r j => I.ms (2048 - (o + r)) (w + j)) (fun r j => I.a (o + r) (w + j)) (fun r j => I.a (o + r) (w + j) * I.dh (o + r) (w + j)) := fun r j hr => by
    dsimp only
    rw [show r + min 1 (8 - r % 8) = r + 1 by omega, show 2048 - (o + (r + 1)) = 2047 - (o + r) by omega,
      show 2048 - (o + r) = (2047 - (o + r)) + 1 by omega]
    show _ = I.a (2047 - (2047 - (o + r))) (w + j) * (I.dh (2047 - (2047 - (o + r))) (w + j) + I.ms (2047 - (o + r)) (w + j))
    rw [show 2047 - (2047 - (o + r)) = o + r by omega]; ring
  have m1 := mk_lt row8_1 1 (by decide)
  have m2 := mk_lt row8_1 2 (by decide)
  have m4 := mk_lt row8_1 4 (by decide)
  have a1 := Rp.select m1 (Rp.mul ha (rotd (k := 63#32) 1 rfl (by decide) rotates_S64x256_d0 ha)) ha
  have b1 := Rp.select m1 (Rp.add (Rp.mul ha (rotd (k := 63#32) 1 rfl (by decide) rotates_S64x256_d0 hb)) hb) hb
  have f2 := bwd_double 1 (by decide) f1
  have a2 := Rp.select m2 (Rp.mul a1 (rotd (k := 62#32) 2 rfl (by decide) rotates_S64x256_d0 a1)) a1
  have b2 := Rp.select m2 (Rp.add (Rp.mul a1 (rotd (k := 62#32) 2 rfl (by decide) rotates_S64x256_d0 b1)) b1) b1
  have f4 := bwd_double 2 (by decide) f2
  have a4 := Rp.select m4 (Rp.mul a2 (rotd (k := 60#32) 4 rfl (by decide) rotates_S64x256_d0 a2)) a2
  have b4 := Rp.select m4 (Rp.add (Rp.mul a2 (rotd (k := 60#32) 4 rfl (by decide) rotates_S64x256_d0 b2)) b2) b2
  have f8 := bwd_double 4 (by decide) f4
  exact ⟨_, _, a4, b4, f8⟩

/-- One group of eight rows. -/
theorem bwd_group {M A B : ℕ → ℕ → ℝ} (f : Bwd 8 M A B) {vA vB : S64x256.Idx → EReal} {vc : S1x256.Idx → EReal} (o o2 : ℕ) (ho : o % 8 = 0) (ho2 : o < 64)
    (ho3 : o2 = o + 8) (h1 h2 : S64x256.Slices ![o, 0] S8x256) (hb : S1x256.Broadcasts S8x256)
    (hA : Rp 64 256 vA A) (hB : Rp 64 256 vB B) (hc : Rp 1 256 vc (fun _ j => M o2 j)) :
    Rp 8 256 (addf (F := Ideal) (φ := .f32) (mulf (F := Ideal) (φ := .f32) (extractStridedSlice S8x256 ![o, 0] vA h1) (broadcastTo S8x256 vc hb))
      (extractStridedSlice S8x256 ![o, 0] vB h2)) (fun r j => M (o + r) j) :=
  (group o h1 h2 hb hA hB hc).of_eq fun r j hr _ => by
    rw [← f (o + r) j (by omega), show o + r + min 8 (8 - (o + r) % 8) = o2 by omega]

theorem bwd_first {M : ℕ → ℕ → ℝ} {v : S8x256.Idx → EReal} (o : ℕ) (h : S8x256.Slices ![0, 0] S1x256)
    (hv : Rp 8 256 v (fun r j => M (o + r) j)) : Rp 1 256 (extractStridedSlice S1x256 ![0, 0] v h) (fun _ j => M o j) := by
  exact rowOf 0 h hv

/-- The masks on the first and the last row. -/
theorem mk_eq (d : ℕ) (hd : d = 0 ∨ d = 63) :
    Mk 64 256 (cmpi .eq (iota .tc S64x256 32 [0] iota_S64x256_d0_w32) (broadcast S64x256 (BitVec.ofNat 32 d))) (fun i _ => i = d) := fun i j => by
  have hv : (iota .tc S64x256 32 [0] iota_S64x256_d0_w32 : IVec S64x256 32) (ix2 i j) = BitVec.ofNat 32 i := by
    pointwise
  show (IntOp.cmpi .eq (iota .tc S64x256 32 [0] iota_S64x256_d0_w32 (ix2 i j)) (BitVec.ofNat 32 d) = 1#1 ∧ _) ∨ (IntOp.cmpi .eq (iota .tc S64x256 32 [0] iota_S64x256_d0_w32 (ix2 i j)) (BitVec.ofNat 32 d) = 0#1 ∧ _)
  rw [hv]
  clear hv
  rcases hd with rfl | rfl <;> dsimp only <;> clear j <;> revert i <;> decide +kernel

/-- The co-state of a block, and what is carried to the block before. -/
theorem pay1_block {mu va vb vdh : S64x256.Idx → EReal} {acc : S1x256.Idx → EReal} (ho : o + 64 ≤ 2048) (ha : Rp 64 256 va (fun r j => I.a (o + r) (w + j)))
    (hb : Rp 64 256 vb (fun r j => I.a (o + r) (w + j) * I.dh (o + r) (w + j))) (hd : Rp 64 256 vdh (fun r j => I.dh (o + r) (w + j)))
    (hc : Rp 1 256 acc (fun _ j => I.ms (2048 - (o + 64)) (w + j))) :
    Rp 1 256 (k1_pay30 (F := Ideal) (k1_pay18 va vb (iota .tc S64x256 32 [0] iota_S64x256_d0_w32) 8#32) (k1_pay19 va (iota .tc S64x256 32 [0] iota_S64x256_d0_w32) 8#32) (k1_pay21 acc va vb (iota .tc S64x256 32 [0] iota_S64x256_d0_w32) 8#32) (k1_pay22 va (iota .tc S64x256 32 [0] iota_S64x256_d0_w32) 8#32)) (fun _ j => I.ms (2048 - o) (w + j)) ∧
    Rp 64 256 (k1_pay31 (F := Ideal) (iota .tc S64x256 32 [0] iota_S64x256_d0_w32) acc vdh (k1_pay18 va vb (iota .tc S64x256 32 [0] iota_S64x256_d0_w32) 8#32) (k1_pay19 va (iota .tc S64x256 32 [0] iota_S64x256_d0_w32) 8#32) (k1_pay20 acc va vb (iota .tc S64x256 32 [0] iota_S64x256_d0_w32) 8#32) (k1_pay21 acc va vb (iota .tc S64x256 32 [0] iota_S64x256_d0_w32) 8#32) (k1_pay22 va (iota .tc S64x256 32 [0] iota_S64x256_d0_w32) 8#32)) (fun r j => I.lam (o + r) (w + j)) := by
  obtain ⟨A, B, hA, hB, f⟩ := pay1_scan ho ha hb
  have g7 : Rp 8 256 (k1_pay20 (F := Ideal) acc va vb (iota .tc S64x256 32 [0] iota_S64x256_d0_w32) 8#32) _ := bwd_group f 56 64 (by decide) (by decide) rfl slices_S64x256_o56_0_S8x256 slices_S64x256_o56_0_S8x256 broadcasts_S1x256_S8x256 hA hB hc
  have g6 : Rp 8 256 (k1_pay23 (F := Ideal) (k1_pay18 va vb (iota .tc S64x256 32 [0] iota_S64x256_d0_w32) 8#32) (k1_pay21 acc va vb (iota .tc S64x256 32 [0] iota_S64x256_d0_w32) 8#32) (k1_pay22 va (iota .tc S64x256 32 [0] iota_S64x256_d0_w32) 8#32)) _ :=
    bwd_group f 48 56 (by decide) (by decide) rfl slices_S64x256_o48_0_S8x256 slices_S64x256_o48_0_S8x256 broadcasts_S1x256_S8x256 hA hB (bwd_first (M := fun r j => I.ms (2048 - (o + r)) (w + j)) 56 slices_S8x256_o0_0_S1x256 g7)
  have g5 : Rp 8 256 (k1_pay24 (F := Ideal) (k1_pay18 va vb (iota .tc S64x256 32 [0] iota_S64x256_d0_w32) 8#32) (k1_pay19 va (iota .tc S64x256 32 [0] iota_S64x256_d0_w32) 8#32) (k1_pay21 acc va vb (iota .tc S64x256 32 [0] iota_S64x256_d0_w32) 8#32) (k1_pay22 va (iota .tc S64x256 32 [0] iota_S64x256_d0_w32) 8#32)) _ :=
    bwd_group f 40 48 (by decide) (by decide) rfl slices_S64x256_o40_0_S8x256 slices_S64x256_o40_0_S8x256 broadcasts_S1x256_S8x256 hA hB (bwd_first (M := fun r j => I.ms (2048 - (o + r)) (w + j)) 48 slices_S8x256_o0_0_S1x256 g6)
  have g4 : Rp 8 256 (k1_pay25 (F := Ideal) (k1_pay18 va vb (iota .tc S64x256 32 [0] iota_S64x256_d0_w32) 8#32) (k1_pay19 va (iota .tc S64x256 32 [0] iota_S64x256_d0_w32) 8#32) (k1_pay21 acc va vb (iota .tc S64x256 32 [0] iota_S64x256_d0_w32) 8#32) (k1_pay22 va (iota .tc S64x256 32 [0] iota_S64x256_d0_w32) 8#32)) _ :=
    bwd_group f 32 40 (by decide) (by decide) rfl slices_S64x256_o32_0_S8x256 slices_S64x256_o32_0_S8x256 broadcasts_S1x256_S8x256 hA hB (bwd_first (M := fun r j => I.ms (2048 - (o + r)) (w + j)) 40 slices_S8x256_o0_0_S1x256 g5)
  have g3 : Rp 8 256 (k1_pay26 (F := Ideal) (k1_pay18 va vb (iota .tc S64x256 32 [0] iota_S64x256_d0_w32) 8#32) (k1_pay19 va (iota .tc S64x256 32 [0] iota_S64x256_d0_w32) 8#32) (k1_pay21 acc va vb (iota .tc S64x256 32 [0] iota_S64x256_d0_w32) 8#32) (k1_pay22 va (iota .tc S64x256 32 [0] iota_S64x256_d0_w32) 8#32)) _ :=
    bwd_group f 24 32 (by decide) (by decide) rfl slices_S64x256_o24_0_S8x256 slices_S64x256_o24_0_S8x256 broadcasts_S1x256_S8x256 hA hB (bwd_first (M := fun r j => I.ms (2048 - (o + r)) (w + j)) 32 slices_S8x256_o0_0_S1x256 g4)
  have g2 : Rp 8 256 (k1_pay27 (F := Ideal) (k1_pay18 va vb (iota .tc S64x256 32 [0] iota_S64x256_d0_w32) 8#32) (k1_pay19 va (iota .tc S64x256 32 [0] iota_S64x256_d0_w32) 8#32) (k1_pay21 acc va vb (iota .tc S64x256 32 [0] iota_S64x256_d0_w32) 8#32) (k1_pay22 va (iota .tc S64x256 32 [0] iota_S64x256_d0_w32) 8#32)) _ :=
    bwd_group f 16 24 (by decide) (by decide) rfl slices_S64x256_o16_0_S8x256 slices_S64x256_o16_0_S8x256 broadcasts_S1x256_S8x256 hA hB (bwd_first (M := fun r j => I.ms (2048 - (o + r)) (w + j)) 24 slices_S8x256_o0_0_S1x256 g3)
  have g1 : Rp 8 256 (k1_pay28 (F := Ideal) (k1_pay18 va vb (iota .tc S64x256 32 [0] iota_S64x256_d0_w32) 8#32) (k1_pay19 va (iota .tc S64x256 32 [0] iota_S64x256_d0_w32) 8#32) (k1_pay21 acc va vb (iota .tc S64x256 32 [0] iota_S64x256_d0_w32) 8#32) (k1_pay22 va (iota .tc S64x256 32 [0] iota_S64x256_d0_w32) 8#32)) _ :=
    bwd_group f 8 16 (by decide) (by decide) rfl slices_S64x256_o8_0_S8x256 slices_S64x256_o8_0_S8x256 broadcasts_S1x256_S8x256 hA hB (bwd_first (M := fun r j => I.ms (2048 - (o + r)) (w + j)) 16 slices_S8x256_o0_0_S1x256 g2)
  have g0 : Rp 8 256 (k1_pay29 (F := Ideal) (k1_pay18 va vb (iota .tc S64x256 32 [0] iota_S64x256_d0_w32) 8#32) (k1_pay19 va (iota .tc S64x256 32 [0] iota_S64x256_d0_w32) 8#32) (k1_pay21 acc va vb (iota .tc S64x256 32 [0] iota_S64x256_d0_w32) 8#32) (k1_pay22 va (iota .tc S64x256 32 [0] iota_S64x256_d0_w32) 8#32)) _ :=
    bwd_group f 0 8 (by decide) (by decide) rfl slices_S64x256_o0_0_S8x256 slices_S64x256_o0_0_S8x256 broadcasts_S1x256_S8x256 hA hB (bwd_first (M := fun r j => I.ms (2048 - (o + r)) (w + j)) 8 slices_S8x256_o0_0_S1x256 g1)
  refine ⟨bwd_first (M := fun r j => I.ms (2048 - (o + r)) (w + j)) 0 slices_S8x256_o0_0_S1x256 g0, ?_⟩
  have hm := concat8 (f := fun r j => I.ms (2048 - (o + r)) (w + j))
    concatenates_S8x256_S8x256_S8x256_S8x256_S8x256_S8x256_S8x256_S8x256_S64x256_d0 g0 g1 g2 g3 g4 g5 g6 g7
  refine Rp.of_eq (Rp.add hd (Rp.select (mk_eq 63 (by decide)) (Rp.bcRow broadcasts_S1x256_S64x256 (Rp.castSelf shapeCasts_S1x256_S1x256 hc)) (rotd (k := 63#32) 1 rfl (by decide) rotates_S64x256_d0 hm))) ?_
  intro i j hi _
  unfold In.lam
  congr 1
  by_cases c : i = 63
  · rw [if_pos c, c, show 2048 - (o + 64) = 2047 - (o + 63) by omega]
  · rw [if_neg c, show (i + 1) % 64 = i + 1 by omega, show 2048 - (o + (i + 1)) = 2047 - (o + i) by omega]

section
variable {lam gi gr a mult : S64x256.Idx → EReal} {hp : S1x256.Idx → EReal} (v40 : BitVec 32)
  (hl : Rp 64 256 lam (fun r j => I.lam (o + r) (w + j))) (hgi : Rp 64 256 gi (fun r j => I.gi (o + r) (w + j))) (hgr : Rp 64 256 gr (fun r j => I.gr (o + r) (w + j)))
  (ha : Rp 64 256 a (fun r j => I.a (o + r) (w + j))) (hmu : Rp 64 256 mult (fun r j => I.mult (o + r) (w + j)))
  (hhp : Rp 1 256 (Scalar.select (Scalar.cmpi .sgt v40 0#32) hp (broadcast S1x256 (Scalar.ofBits (F := Ideal) .f32 0x00000000#32))) (fun _ j => I.hs o (w + j)))
include hl hgi hmu

theorem pay1_drc : Rp 64 256 (k1_pay38 (F := Ideal) gi mult lam) (fun r j => I.drc (o + r) (w + j)) := by
  unfold k1_pay38
  exact Rp.castSelf _ (Rp.mul (Rp.mul hl hgi) hmu)

include hrc
theorem pay1_dgi : Rp 64 256 (k1_pay35 (F := Ideal) rc gi mult lam) (fun r j => I.dgi (o + r) (w + j)) := by
  unfold k1_pay35
  exact Rp.mul (Rp.mul (Rp.mul (Rp.mul hl hrc) hmu) hgi) (Rp.sub (Rp.cst lit_one) hgi)

include hh ha hhp
theorem pay1_dla : Rp 64 256 (k1_pay33 (F := Ideal) (iota .tc S64x256 32 [0] iota_S64x256_d0_w32) v40 rc gi a mult h lam hp) (fun r j => I.dla (o + r) (w + j)) := by
  unfold k1_pay33
  refine Rp.of_eq (Rp.sub (Rp.mul (Rp.mul hl (Rp.select (mk_eq 0 (by decide)) (Rp.bcRow broadcasts_S1x256_S64x256 (Rp.castSelf shapeCasts_S1x256_S1x256 hhp))
    (rotu (k := 1#32) 1 rfl rotates_S64x256_d0 hh))) ha) (Rp.div (Rp.mul (Rp.mul (Rp.mul hl hrc) hgi) (Rp.mul ha ha)) hmu ?_)) ?_
  · intro i j _ _; exact (mult_pos I _ _).ne'
  · intro i j hi _
    unfold In.dla
    congr 2
    by_cases c : i = 0
    · rw [if_pos c, c]; rfl
    · rw [if_neg c, show (i + 64 - 1) % 64 = i - 1 by omega, show o + (i - 1) + 1 = o + i by omega]

include hs hgr
theorem pay1_dgr : Rp 64 256 (k1_pay34 (F := Ideal) sp (iota .tc S64x256 32 [0] iota_S64x256_d0_w32) v40 rc gi gr a mult h lam hp) (fun r j => I.dgr (o + r) (w + j)) := by
  unfold k1_pay34
  exact Rp.mul (Rp.mul (Rp.mul (pay1_dla hrc hh v40 hl hgi ha hmu hhp) (Rp.bcRow _ (Rp.mul (Rp.cst lit_m8) hs))) hgr) (Rp.sub (Rp.cst lit_one) hgr)
end

/-- A carried sum takes in a block of 64 rows. -/
theorem pay1_acc {acc : S1x256.Idx → EReal} {v : S64x256.Idx → EReal} {S f : ℕ → ℕ → ℝ} (ha : Rp 1 256 acc (fun _ j => ∑ i ∈ Finset.range (2048 - (o + 64)), f (2047 - i) j))
    (ho : o + 64 ≤ 2048) (hv : Rp 64 256 v (fun r j => f (o + r) j)) :
    Rp 1 256 (k1_pay41 (F := Ideal) acc v) (fun _ j => ∑ i ∈ Finset.range (2048 - o), f (2047 - i) j) := by
  have hsum : R1 256 (multiReduction (F := Ideal) .add [0] S256 v 0x00000000#32 reduces_S64x256_S256 (.inl rfl) rfl) (fun j => ∑ r ∈ Finset.range 64, f (o + r) j) := fun j => by
    pointwise
    rw [Finset.sum_congr rfl fun k _ => hv k j, coe_sum, Fin.sum_univ_eq_sum_range (fun r => f (o + r) j)]
  unfold k1_pay41
  refine Rp.of_eq (Rp.add ha (Rp.ofRow256 _ hsum)) ?_
  intro i j _ _
  rw [show 2048 - o = (2048 - (o + 64)) + 64 by omega, Finset.sum_range_add]
  congr 1
  rw [← Finset.sum_range_reflect]
  refine Finset.sum_congr rfl fun r hr => ?_
  rw [Finset.mem_range] at hr
  congr 1; omega

theorem pay1_dl {v0 s : S1x256.Idx → EReal} (h0 : Rp 1 256 v0 (fun _ j => I.l (w + j))) (hsm : Rp 1 256 s (fun _ j => ∑ i ∈ Finset.range 2048, I.dla i (w + j) * I.gr i (w + j))) :
    Rp 1 256 (k1_pay1 (F := Ideal) (k1_pay46 s) (k1_pay47 v0)) (fun _ j => I.dl (w + j)) := by
  unfold k1_pay1 k1_pay46 k1_pay47
  refine Rp.castSelf _ (Rp.of_eq (Rp.mul (Rp.mul (Rp.cst lit_m8) hsm) (Rp.sub (Rp.cst lit_zero) (Rp.div (Rp.cst lit_one)
    (Rp.add (Rp.cst lit_one) (Rp.exp (Rp.sub (Rp.cst lit_zero) (Rp.sub (Rp.cst lit_zero) h0)))) ?_))) ?_)
  · intro i j _ _; positivity
  · intro i j _ _
    unfold In.dl sg
    simp only [zero_sub, neg_neg]

end Cert.KerVal
-- ==== Proof.Ker1Trip.lean ====
/- The backward kernel's loop: what a trip yields and stores as the payloads of the blocks it reads. -/
module

public import proofs.«01_k».proof.Proof.Ker1Pay
public import proofs.«01_k».proof.Proof.Gen.KernelIdeal.Frame

@[expose] public section

noncomputable section

namespace Cert.KerVal

open Idealize.ShloMosaic Idealize.ShloMosaic.TcCoe Cert.KernelIdeal Cert.KernelIdeal.Gen Cert.Base Cert.Spec

/-- The block of 64 rows trip `k` reads of a window. -/
abbrev blk1 (arg : Memref sig .tc .vmem S2048x256 .f32) (X : BufTy.Contents (Elt Ideal) arg.view.ty) (k : Fin k1_t1_loop.trips) : Vec Ideal S64x256 .f32 :=
  View.readAt (Elt Ideal) arg.view (Rect.unit (s := S2048x256) (k1_off1 k) S64x256.size (k1_off1_inb k)).toLoadRect X

/-- The eight rows trip `k` reads before its block. -/
abbrev blkP (arg : Memref sig .tc .vmem S2048x256 .f32) (X : BufTy.Contents (Elt Ideal) arg.view.ty) (k : Fin k1_t1_loop.trips) : Vec Ideal S8x256 .f32 :=
  View.readAt (Elt Ideal) arg.view (Rect.unit (s := S2048x256) (k1_off2 k) S8x256.size (k1_off2_inb k)).toLoadRect X

/-- The number of trip `k`'s block, as a word. -/
abbrev wrd (k : Fin k1_t1_loop.trips) : BitVec 32 := Scalar.subi 31#32 (Scf.iv 0#32 1#32 k)

/-- The co-state of a block, from the row carried in and the blocks read. -/
def lamOf (mu sp : S1x256.Idx → EReal) (grp gb dm : S64x256.Idx → EReal) : S64x256.Idx → EReal :=
  k1_pay31 (F := Ideal) (iota .tc S64x256 32 [0] iota_S64x256_d0_w32) mu (k1_pay10 gb (k1_pay7 gb) dm)
    (k1_pay18 (k1_pay5 sp grp) (k1_pay11 (k1_pay5 sp grp) gb (k1_pay7 gb) dm) (iota .tc S64x256 32 [0] iota_S64x256_d0_w32) 8#32) (k1_pay19 (k1_pay5 sp grp) (iota .tc S64x256 32 [0] iota_S64x256_d0_w32) 8#32)
    (k1_pay20 mu (k1_pay5 sp grp) (k1_pay11 (k1_pay5 sp grp) gb (k1_pay7 gb) dm) (iota .tc S64x256 32 [0] iota_S64x256_d0_w32) 8#32)
    (k1_pay21 mu (k1_pay5 sp grp) (k1_pay11 (k1_pay5 sp grp) gb (k1_pay7 gb) dm) (iota .tc S64x256 32 [0] iota_S64x256_d0_w32) 8#32) (k1_pay22 (k1_pay5 sp grp) (iota .tc S64x256 32 [0] iota_S64x256_d0_w32) 8#32)

/-- The row carried out of a block. -/
def muOf (mu sp : S1x256.Idx → EReal) (grp gb dm : S64x256.Idx → EReal) : S1x256.Idx → EReal :=
  k1_pay30 (F := Ideal)
    (k1_pay18 (k1_pay5 sp grp) (k1_pay11 (k1_pay5 sp grp) gb (k1_pay7 gb) dm) (iota .tc S64x256 32 [0] iota_S64x256_d0_w32) 8#32) (k1_pay19 (k1_pay5 sp grp) (iota .tc S64x256 32 [0] iota_S64x256_d0_w32) 8#32)
    (k1_pay21 mu (k1_pay5 sp grp) (k1_pay11 (k1_pay5 sp grp) gb (k1_pay7 gb) dm) (iota .tc S64x256 32 [0] iota_S64x256_d0_w32) 8#32) (k1_pay22 (k1_pay5 sp grp) (iota .tc S64x256 32 [0] iota_S64x256_d0_w32) 8#32)

variable (𝒱 : Variants) (c : Dev nD) (bd : Option 𝒱.V) (i : grid1.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S1x256 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (v0 : Vec Ideal S1x256 .f32) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin k1_t1_loop.trips) (acc : FVec Ideal S1x256 .f32 × FVec Ideal S1x256 .f32 × FVec Ideal S1x256 .f32 × FVec Ideal S1x256 .f32)

theorem trip1_R :
    (trip_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 (iota .tc S64x256 32 [0] iota_S64x256_d0_w32) X_arg1 X_arg2 X_arg3 X_arg4 X_arg5 X_arg6 k).1 acc =
      (let sp := k1_pay39 v0
       let rc := blk1 arg4 X_arg4 k
       let gi := k1_pay2 (blk1 arg5 X_arg5 k)
       let gr := k1_pay3 (blk1 arg6 X_arg6 k)
       let a := k1_pay5 sp (blk1 arg6 X_arg6 k)
       let mult := k1_pay6 sp (blk1 arg6 X_arg6 k)
       let gb := blk1 arg2 X_arg2 k
       let dm := blk1 arg1 X_arg1 k
       let h := blk1 arg3 X_arg3 k
       let lam := lamOf acc.1 sp (blk1 arg6 X_arg6 k) gb dm
       let hp := k1_pay32 (blkP arg3 X_arg3 k)
       (muOf acc.1 sp (blk1 arg6 X_arg6 k) gb dm, k1_pay41 acc.2.1 (k1_pay35 rc gi mult lam),
        k1_pay42 acc.2.2.1 (k1_pay34 sp (iota .tc S64x256 32 [0] iota_S64x256_d0_w32) (wrd k) rc gi gr a mult h lam hp),
        k1_pay43 acc.2.2.2 gr (k1_pay33 (iota .tc S64x256 32 [0] iota_S64x256_d0_w32) (wrd k) rc gi a mult h lam hp))) := by
  unfold trip_k1_t1
  rfl

theorem trip1_L8 :
    (trip_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 (iota .tc S64x256 32 [0] iota_S64x256_d0_w32) X_arg1 X_arg2 X_arg3 X_arg4 X_arg5 X_arg6 k).2.1 acc =
      (let sp := k1_pay39 v0
       let rc := blk1 arg4 X_arg4 k
       let gi := k1_pay2 (blk1 arg5 X_arg5 k)
       let gr := k1_pay3 (blk1 arg6 X_arg6 k)
       let a := k1_pay5 sp (blk1 arg6 X_arg6 k)
       let mult := k1_pay6 sp (blk1 arg6 X_arg6 k)
       let gb := blk1 arg2 X_arg2 k
       let dm := blk1 arg1 X_arg1 k
       let h := blk1 arg3 X_arg3 k
       let lam := lamOf acc.1 sp (blk1 arg6 X_arg6 k) gb dm
       let hp := k1_pay32 (blkP arg3 X_arg3 k)
       [⟨Rect.unit (s := S2048x256) (k1_off1 k) S64x256.size (k1_off1_inb k), k1_pay9 gb (k1_pay7 gb) dm h⟩]) := by
  unfold trip_k1_t1
  rfl

theorem trip1_L9 :
    (trip_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 (iota .tc S64x256 32 [0] iota_S64x256_d0_w32) X_arg1 X_arg2 X_arg3 X_arg4 X_arg5 X_arg6 k).2.2.1 acc =
      (let sp := k1_pay39 v0
       let rc := blk1 arg4 X_arg4 k
       let gi := k1_pay2 (blk1 arg5 X_arg5 k)
       let gr := k1_pay3 (blk1 arg6 X_arg6 k)
       let a := k1_pay5 sp (blk1 arg6 X_arg6 k)
       let mult := k1_pay6 sp (blk1 arg6 X_arg6 k)
       let gb := blk1 arg2 X_arg2 k
       let dm := blk1 arg1 X_arg1 k
       let h := blk1 arg3 X_arg3 k
       let lam := lamOf acc.1 sp (blk1 arg6 X_arg6 k) gb dm
       let hp := k1_pay32 (blkP arg3 X_arg3 k)
       [⟨Rect.unit (s := S2048x256) (k1_off1 k) S64x256.size (k1_off1_inb k), k1_pay37 rc gi mult lam⟩]) := by
  unfold trip_k1_t1
  rfl

theorem trip1_L10 :
    (trip_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 (iota .tc S64x256 32 [0] iota_S64x256_d0_w32) X_arg1 X_arg2 X_arg3 X_arg4 X_arg5 X_arg6 k).2.2.2.1 acc =
      (let sp := k1_pay39 v0
       let rc := blk1 arg4 X_arg4 k
       let gi := k1_pay2 (blk1 arg5 X_arg5 k)
       let gr := k1_pay3 (blk1 arg6 X_arg6 k)
       let a := k1_pay5 sp (blk1 arg6 X_arg6 k)
       let mult := k1_pay6 sp (blk1 arg6 X_arg6 k)
       let gb := blk1 arg2 X_arg2 k
       let dm := blk1 arg1 X_arg1 k
       let h := blk1 arg3 X_arg3 k
       let lam := lamOf acc.1 sp (blk1 arg6 X_arg6 k) gb dm
       let hp := k1_pay32 (blkP arg3 X_arg3 k)
       [⟨Rect.unit (s := S2048x256) (k1_off1 k) S64x256.size (k1_off1_inb k), k1_pay36 sp (iota .tc S64x256 32 [0] iota_S64x256_d0_w32) (wrd k) rc gi gr a mult h lam hp⟩]) := by
  unfold trip_k1_t1
  rfl

theorem trip1_L11 :
    (trip_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 (iota .tc S64x256 32 [0] iota_S64x256_d0_w32) X_arg1 X_arg2 X_arg3 X_arg4 X_arg5 X_arg6 k).2.2.2.2.1 acc =
      (let sp := k1_pay39 v0
       let rc := blk1 arg4 X_arg4 k
       let gi := k1_pay2 (blk1 arg5 X_arg5 k)
       let gr := k1_pay3 (blk1 arg6 X_arg6 k)
       let a := k1_pay5 sp (blk1 arg6 X_arg6 k)
       let mult := k1_pay6 sp (blk1 arg6 X_arg6 k)
       let gb := blk1 arg2 X_arg2 k
       let dm := blk1 arg1 X_arg1 k
       let h := blk1 arg3 X_arg3 k
       let lam := lamOf acc.1 sp (blk1 arg6 X_arg6 k) gb dm
       let hp := k1_pay32 (blkP arg3 X_arg3 k)
       [⟨Rect.unit (s := S2048x256) (k1_off1 k) S64x256.size (k1_off1_inb k), k1_pay38 gi mult lam⟩]) := by
  unfold trip_k1_t1
  rfl

end Cert.KerVal
-- ==== Proof.Ker1Val.lean ====
/- The backward kernel's value: the state before every trip, what the body leaves in its outputs' blocks. -/
module

public import proofs.«01_k».proof.Proof.Ker0Val
public import proofs.«01_k».proof.Proof.Ker1Trip

@[expose] public section

noncomputable section

namespace Cert.KerVal

open Idealize.ShloMosaic Idealize.ShloMosaic.TcCoe Cert.KernelIdeal Cert.KernelIdeal.Gen Cert.Base Cert.Spec

theorem off1_1 : ∀ k : Fin k1_t1_loop.trips, k1_off1 k = ![64 * (31 - k.val), 0] := by decide +kernel

theorem off2_1 : ∀ k : Fin k1_t1_loop.trips, k1_off2 k = ![64 * (31 - k.val) - 8, 0] := by decide +kernel

theorem wrd_pos : ∀ k : Fin k1_t1_loop.trips, Scalar.cmpi .sgt (wrd k) 0#32 = if k.val < 31 then 1#1 else 0#1 := by decide +kernel

/-- The state before the first row of trip `k`'s block. -/
theorem prevRow (I : In) (w : ℕ) {arg : Memref sig .tc .vmem S2048x256 .f32} (harg : arg.IsWhole) {x : Vec Ideal S2048x256 .f32}
    (hx : Rp 2048 256 x (fun r j => I.hs (r + 1) (w + j))) (k : Fin k1_t1_loop.trips) :
    Rp 1 256 (Scalar.select (Scalar.cmpi .sgt (wrd k) 0#32) (k1_pay32 (F := Ideal) (blkP arg (harg.unread x) k)) (broadcast S1x256 (Scalar.ofBits (F := Ideal) .f32 0x00000000#32)))
      (fun _ j => I.hs (64 * (31 - k.val)) (w + j)) := by
  rw [wrd_pos]
  by_cases hk : k.val < 31
  · rw [if_pos hk]
    have hb : Rp 8 256 (blkP arg (harg.unread x) k) (fun r j => I.hs (64 * (31 - k.val) - 8 + r + 1) (w + j)) := fun r j => by
      refine Eq.trans (congrFun (View.readAt_eq_ld _ _ _) _) ?_
      rw [Memref.IsWhole.read_unread]
      refine Eq.trans ?_ (hx ⟨64 * (31 - k.val) - 8 + r, by omega⟩ j)
      refine congrArg x ?_
      refine (eq_ix2 _).trans ?_
      refine congrArg₂ ix2 (Fin.ext ?_) (Fin.ext ?_)
      · show k1_off2 k 0 + 1 * (r : ℕ) = _
        rw [off2_1]
        show 64 * (31 - k.val) - 8 + 1 * (r : ℕ) = 64 * (31 - k.val) - 8 + r; omega
      · show k1_off2 k 1 + 1 * (j : ℕ) = _
        rw [off2_1]
        show 0 + 1 * (j : ℕ) = j; omega
    show Rp 1 256 (k1_pay32 (F := Ideal) (blkP arg (harg.unread x) k)) _
    unfold k1_pay32
    refine Rp.of_eq (rowOf 7 _ hb) fun i j _ _ => ?_
    rw [show 64 * (31 - k.val) - 8 + 7 + 1 = 64 * (31 - k.val) by omega]
  · rw [if_neg hk]
    show Rp 1 256 (broadcast S1x256 (Scalar.ofBits (F := Ideal) .f32 0x00000000#32)) _
    rw [show 64 * (31 - k.val) = 0 by omega]
    refine Rp.of_eq (Rp.cst lit_zero) fun i j _ _ => rfl

theorem acc_r {acc : S1x256.Idx → EReal} {v : S64x256.Idx → EReal} {o : ℕ} (f : ℕ → ℕ → ℝ) (ha : Rp 1 256 acc (fun _ j => ∑ i ∈ Finset.range (2048 - (o + 64)), f (2047 - i) j))
    (ho : o + 64 ≤ 2048) (hv : Rp 64 256 v (fun r j => f (o + r) j)) :
    Rp 1 256 (k1_pay42 (F := Ideal) acc v) (fun _ j => ∑ i ∈ Finset.range (2048 - o), f (2047 - i) j) := by
  have h : k1_pay42 (F := Ideal) acc v = k1_pay41 (F := Ideal) acc v := by unfold k1_pay42 k1_pay41; rfl
  rw [h]; exact pay1_acc (S := fun _ _ => 0) ha ho hv

theorem acc_sp {acc : S1x256.Idx → EReal} {gr dla : S64x256.Idx → EReal} {o : ℕ} (f g : ℕ → ℕ → ℝ) (ha : Rp 1 256 acc (fun _ j => ∑ i ∈ Finset.range (2048 - (o + 64)), (f (2047 - i) j * g (2047 - i) j)))
    (ho : o + 64 ≤ 2048) (hv : Rp 64 256 dla (fun r j => f (o + r) j)) (hg : Rp 64 256 gr (fun r j => g (o + r) j)) :
    Rp 1 256 (k1_pay43 (F := Ideal) acc gr dla) (fun _ j => ∑ i ∈ Finset.range (2048 - o), (f (2047 - i) j * g (2047 - i) j)) := by
  have h : k1_pay43 (F := Ideal) acc gr dla = k1_pay41 (F := Ideal) acc (mulf (F := Ideal) (φ := .f32) dla gr) := by unfold k1_pay43 k1_pay41; rfl
  rw [h]; exact pay1_acc (S := fun _ _ => 0) (f := fun i j => f i j * g i j) ha ho (Rp.mul hv hg)

/-- The sums carried, at a block's upper end. -/
structure Acc (I : In) (w n : ℕ) (a : FVec Ideal S1x256 .f32 × FVec Ideal S1x256 .f32 × FVec Ideal S1x256 .f32 × FVec Ideal S1x256 .f32) : Prop where
  mu : Rp 1 256 a.1 (fun _ j => I.ms n (w + j))
  gi : Rp 1 256 a.2.1 (fun _ j => ∑ i ∈ Finset.range n, I.dgi (2047 - i) (w + j))
  gr : Rp 1 256 a.2.2.1 (fun _ j => ∑ i ∈ Finset.range n, I.dgr (2047 - i) (w + j))
  la : Rp 1 256 a.2.2.2 (fun _ j => ∑ i ∈ Finset.range n, (I.dla (2047 - i) (w + j) * I.gr (2047 - i) (w + j)))

section
variable (𝒱 : Variants) (c : Dev nD) (bd : Option 𝒱.V) (i : grid1.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S1x256 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (v0 : Vec Ideal S1x256 .f32)
  (x1 x2 x3 x4 x5 x6 : Vec Ideal S2048x256 .f32)

/-- The state before trip `k` at windows whose contents are `x1 … x6`. -/
abbrev st1 (k : ℕ) := st_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 (iota .tc S64x256 32 [0] iota_S64x256_d0_w32) (harg1.unread x1) (harg2.unread x2) (harg3.unread x3) (harg4.unread x4) (harg5.unread x5) (harg6.unread x6) (k1_pay40, k1_pay40, k1_pay40, k1_pay40) k

theorem st1_all (I : In) (w : ℕ) (hv : Rp 1 256 v0 (fun _ j => I.l (w + j))) (h1 : Rp 2048 256 x1 (fun r j => I.dm r (w + j)))
    (h2 : Rp 2048 256 x2 (fun r j => I.gb r (w + j))) (h3 : Rp 2048 256 x3 (fun r j => I.hs (r + 1) (w + j))) (h4 : Rp 2048 256 x4 (fun r j => I.rc r (w + j)))
    (h5 : Rp 2048 256 x5 (fun r j => I.gip r (w + j))) (h6 : Rp 2048 256 x6 (fun r j => I.grp r (w + j)))
    {sp1 sp2 sp3 sp4 : Space} (w8 : View sig .tc sp1 S2048x256 .bf16) (w9 : View sig .tc sp2 S2048x256 .bf16) (w10 : View sig .tc sp3 S2048x256 .bf16) (w11 : View sig .tc sp4 S2048x256 .f32) :
    ∀ k : ℕ, k ≤ 32 → Acc I w (64 * k) (st1 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 x1 x2 x3 x4 x5 x6 k).1 ∧
      Part w8 (st1 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 x1 x2 x3 x4 x5 x6 k).2.1 (fun r => 2048 - 64 * k ≤ r) (fun r j => ((I.dgb r (w + j) : ℝ) : EReal)) ∧
      Part w9 (st1 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 x1 x2 x3 x4 x5 x6 k).2.2.1 (fun r => 2048 - 64 * k ≤ r) (fun r j => ((I.dgi r (w + j) : ℝ) : EReal)) ∧
      Part w10 (st1 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 x1 x2 x3 x4 x5 x6 k).2.2.2.1 (fun r => 2048 - 64 * k ≤ r) (fun r j => ((I.dgr r (w + j) : ℝ) : EReal)) ∧
      Part w11 (st1 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 x1 x2 x3 x4 x5 x6 k).2.2.2.2 (fun r => 2048 - 64 * k ≤ r) (fun r j => ((I.drc r (w + j) : ℝ) : EReal)) := by
  intro k
  induction k with
  | zero =>
    intro _
    have z : Rp 1 256 (k1_pay40 (F := Ideal)) (fun _ _ => 0) := fun r j => by
      show Ideal.ofBits .f32 0x00000000#32 = _
      rw [lit_zero]
    refine ⟨⟨z, ?_, ?_, ?_⟩, fun f r j h => absurd h (by omega), fun f r j h => absurd h (by omega), fun f r j h => absurd h (by omega), fun f r j h => absurd h (by omega)⟩
    · exact Rp.of_eq z fun a b _ _ => by simp
    · exact Rp.of_eq z fun a b _ _ => by simp
    · exact Rp.of_eq z fun a b _ _ => by simp
  | succ k ih =>
    intro hk
    obtain ⟨hacc, p8, p9, p10, p11⟩ := ih (by omega)
    have e : st1 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 x1 x2 x3 x4 x5 x6 (k + 1) = _ := st_k1_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 (iota .tc S64x256 32 [0] iota_S64x256_d0_w32) (harg1.unread x1) (harg2.unread x2) (harg3.unread x3) (harg4.unread x4) (harg5.unread x5) (harg6.unread x6) (k1_pay40, k1_pay40, k1_pay40, k1_pay40) ⟨k, hk⟩
    rw [e]
    clear e
    unfold tripR_k1_t1 tripL_k1_t1
    dsimp only
    rw [trip1_R, trip1_L8, trip1_L9, trip1_L10, trip1_L11]
    dsimp only
    have ho : 64 * (31 - k) + 64 ≤ 2048 := by omega
    have b1 := rowsAt harg1 h1 (k1_off1_inb ⟨k, hk⟩) (64 * (31 - k)) ho (off1_1 ⟨k, hk⟩)
    have b2 := rowsAt harg2 h2 (k1_off1_inb ⟨k, hk⟩) (64 * (31 - k)) ho (off1_1 ⟨k, hk⟩)
    have b3 := rowsAt harg3 h3 (k1_off1_inb ⟨k, hk⟩) (64 * (31 - k)) ho (off1_1 ⟨k, hk⟩)
    have b4 := rowsAt harg4 h4 (k1_off1_inb ⟨k, hk⟩) (64 * (31 - k)) ho (off1_1 ⟨k, hk⟩)
    have b5 := rowsAt harg5 h5 (k1_off1_inb ⟨k, hk⟩) (64 * (31 - k)) ho (off1_1 ⟨k, hk⟩)
    have b6 := rowsAt harg6 h6 (k1_off1_inb ⟨k, hk⟩) (64 * (31 - k)) ho (off1_1 ⟨k, hk⟩)
    have hp := prevRow I w harg3 h3 ⟨k, hk⟩
    have hn : 64 * k = 2048 - (64 * (31 - k) + 64) := by omega
    have hn' : 64 * (k + 1) = 2048 - 64 * (31 - k) := by omega
    rw [hn] at hacc
    have hs := pay1_sp I w hv
    have hgi := pay1_gi b5
    have hgr := pay1_gr b6
    have ha := pay1_a hs b6
    have hmu := pay1_mult hs b6
    have hdh := pay1_dh b2 b1
    have hblk := pay1_block (mu := fun _ => 0) (acc := (st1 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 x1 x2 x3 x4 x5 x6 k).1.1) ho ha (Rp.mul ha hdh) hdh hacc.mu
    have hl := hblk.2
    have hdgi := pay1_dgi b4 hl hgi hmu
    have hdgr := pay1_dgr hs b4 b3 (wrd ⟨k, hk⟩) hl hgi hgr ha hmu hp
    have hdla := pay1_dla b4 b3 (wrd ⟨k, hk⟩) hl hgi ha hmu hp
    have hdrc := pay1_drc hl hgi hmu
    have hdgb := pay1_dgb b2 b1 b3
    have hq : ∀ a, 2048 - 64 * (k + 1) ≤ a → (64 * (31 - k) ≤ a ∧ a < 64 * (31 - k) + 64) ∨ 2048 - 64 * k ≤ a := fun a h => by omega
    refine ⟨?_, ?_, ?_, ?_, ?_⟩
    · rw [hn']
      exact ⟨hblk.1, pay1_acc (S := fun _ _ => 0) (f := fun i j => I.dgi i (w + j)) hacc.gi ho hdgi, acc_r (fun i j => I.dgr i (w + j)) hacc.gr ho hdgr,
        acc_sp (fun i j => I.dla i (w + j)) (fun i j => I.gr i (w + j)) hacc.la ho hdla hgr⟩
    · exact Part.cons (64 * (31 - k)) _ (off1_1 ⟨k, hk⟩) hdgb p8 hq
    · exact Part.cons (64 * (31 - k)) _ (off1_1 ⟨k, hk⟩) (Rp.castSelf _ (Rp.trunc hdgi _)) p9 hq
    · exact Part.cons (64 * (31 - k)) _ (off1_1 ⟨k, hk⟩) (Rp.castSelf _ (Rp.trunc hdgr _)) p10 hq
    · exact Part.cons (64 * (31 - k)) _ (off1_1 ⟨k, hk⟩) hdrc p11 hq
end

end Cert.KerVal
-- ==== Proof.Ker0Arr.lean ====
/- The forward kernel's two arrays: every block of 256 columns holds the recurrence's states and its value, so the arrays do. -/
module

public import proofs.«01_k».proof.Proof.Ker0Val
public import Idealize.ShloMosaic.Lib.Pipeline.ValueKit

@[expose] public section

set_option maxRecDepth 16384

noncomputable section

namespace Cert.KerVal

open Idealize.ShloMosaic Idealize.ShloMosaic.TcCoe Cert.KernelIdeal Cert.KernelIdeal.Gen Cert.Base Cert.Spec

/-! Each window's block `t` is columns `256 t …` of its array. -/

theorem iblk0_0_Rp {V : (c : Dev nD) → (b : Ref sig .tc) → Buf (Elt Ideal) ((c : Thread nD τ).loc b)} (c : Dev nD) (t : Fin cfg0.N) {f : ℕ → ℕ → ℝ}
    (h : Rp 2048 2048 (V c main_arg1) f) : Rp 2048 256 (iblk0 V c 0 t) (fun i j => f i (256 * t.val + j)) := fun i j => by
  have hN : (t : ℕ) < 4 := t.isLt.trans_eq N_0
  refine Eq.trans ?_ (h i ⟨256 * t.val + j, by omega⟩)
  have hi : (cfg0.win 0).index t = ![0, t.val] := by
    revert t; decide +kernel
  blk_ext [iblk0, hi]

theorem iblk0_1_Rp {V : (c : Dev nD) → (b : Ref sig .tc) → Buf (Elt Ideal) ((c : Thread nD τ).loc b)} (c : Dev nD) (t : Fin cfg0.N) {f : ℕ → ℕ → ℝ}
    (h : Rp 2048 1024 (V c main_arg2) f) : Rp 2048 256 (iblk0 V c 1 t) (fun i j => f i (256 * t.val + j)) := fun i j => by
  have hN : (t : ℕ) < 4 := t.isLt.trans_eq N_0
  refine Eq.trans ?_ (h i ⟨256 * t.val + j, by omega⟩)
  have hi : (cfg0.win 1).index t = ![0, t.val] := by
    revert t; decide +kernel
  blk_ext [iblk0, hi]

theorem iblk0_2_Rp {V : (c : Dev nD) → (b : Ref sig .tc) → Buf (Elt Ideal) ((c : Thread nD τ).loc b)} (c : Dev nD) (t : Fin cfg0.N) {f : ℕ → ℕ → ℝ}
    (h : Rp 2048 1024 (V c main_arg3) f) : Rp 2048 256 (iblk0 V c 2 t) (fun i j => f i (256 * t.val + j)) := fun i j => by
  have hN : (t : ℕ) < 4 := t.isLt.trans_eq N_0
  refine Eq.trans ?_ (h i ⟨256 * t.val + j, by omega⟩)
  have hi : (cfg0.win 2).index t = ![0, t.val] := by
    revert t; decide +kernel
  blk_ext [iblk0, hi]

theorem iblk0_3_Rp {V : (c : Dev nD) → (b : Ref sig .tc) → Buf (Elt Ideal) ((c : Thread nD τ).loc b)} (c : Dev nD) (t : Fin cfg0.N) {f : ℕ → ℕ → ℝ}
    (h : Rp 2048 1024 (V c main_arg4) f) : Rp 2048 256 (iblk0 V c 3 t) (fun i j => f i (256 * t.val + j)) := fun i j => by
  have hN : (t : ℕ) < 4 := t.isLt.trans_eq N_0
  refine Eq.trans ?_ (h i ⟨256 * t.val + j, by omega⟩)
  have hi : (cfg0.win 3).index t = ![0, t.val] := by
    revert t; decide +kernel
  blk_ext [iblk0, hi]

theorem iblk0_4_Rp {V : (c : Dev nD) → (b : Ref sig .tc) → Buf (Elt Ideal) ((c : Thread nD τ).loc b)} (c : Dev nD) (t : Fin cfg0.N) {f : ℕ → ℕ → ℝ}
    (h : Rp 1 1024 (V c main_arg5) f) : Rp 1 256 (iblk0 V c 4 t) (fun i j => f i (256 * t.val + j)) := fun i j => by
  have hN : (t : ℕ) < 4 := t.isLt.trans_eq N_0
  refine Eq.trans ?_ (h i ⟨256 * t.val + j, by omega⟩)
  have hi : (cfg0.win 4).index t = ![0, t.val] := by
    revert t; decide +kernel
  blk_ext [iblk0, hi]

theorem out0_hs (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .bf16) (harg7 : arg7.IsWhole)
    (x1 x2 x3 x4 : Vec Ideal S2048x256 .f32) (x5 : Vec Ideal S1x256 .f32) (I : In) (w : ℕ) (hv : Rp 1 256 x5 (fun _ j => I.l (w + j)))
    (h1 : Rp 2048 256 x1 (fun r j => I.gb r (w + j)))
    (h2 : Rp 2048 256 x2 (fun r j => I.rc r (w + j))) (h3 : Rp 2048 256 x3 (fun r j => I.gip r (w + j))) (h4 : Rp 2048 256 x4 (fun r j => I.grp r (w + j))) :
    Rp 2048 256 (out0_A_5 c i arg1 harg1 arg2 harg2 arg3 harg3 arg4 harg4 arg5 harg5 arg6 harg6 arg7 harg7 x1 x2 x3 x4 x5) (fun r j => I.hs (r + 1) (w + j)) ∧
    Rp 2048 256 (out0_A_6 c i arg1 harg1 arg2 harg2 arg3 harg3 arg4 harg4 arg5 harg5 arg6 harg6 arg7 harg7 x1 x2 x3 x4 x5) (fun r j => I.m r (w + j)) := by
  have hv' : Rp 1 256 (View.readAt (Elt Ideal) arg5.view (Rect.unit (s := S1x256) ![0, 0] S1x256.size (by decide)).toLoadRect (harg5.unread x5)) (fun _ j => I.l (w + j)) := by
    intro r j
    rw [View.readAt_eq_ld, Memref.IsWhole.read_unread]
    refine Eq.trans ?_ (hv r j)
    refine congrArg x5 ((eq_ix2 _).trans (congrArg₂ ix2 (Fin.ext ?_) (Fin.ext ?_)))
    · show 0 + 1 * (r : ℕ) = r; omega
    · show 0 + 1 * (j : ℕ) = j; omega
  have key := (st0_all Variants.none c none i arg1 harg1 arg2 harg2 arg3 harg3 arg4 harg4 arg5 harg5 arg6 harg6 arg7 harg7 _ x1 x2 x3 x4 I w hv' h1 h2 h3 h4 VO0_5 VO0_6 32 le_rfl).2
  refine ⟨fun r j => (Eq.trans ?_ (key.1 VO0_5.junk r j (by show (r : ℕ) < 64 * 32; omega))), fun r j => (Eq.trans ?_ (key.2 VO0_6.junk r j (by show (r : ℕ) < 64 * 32; omega)))⟩
  · unfold out0_A_5 kernelRun0_A
    rfl
  · unfold out0_A_6 kernelRun0_A
    rfl

/-- After the forward kernel its first result holds the states one step on. -/
theorem arr0 {V : (c : Dev nD) → (b : Ref sig .tc) → Buf (Elt Ideal) ((c : Thread nD τ).loc b)} (c : Dev nD) (I : In) (h1 : Rp 2048 2048 (V c main_arg1) (fun i j => I.gb i j)) (h2 : Rp 2048 1024 (V c main_arg2) (fun i j => I.rc i j))
    (h3 : Rp 2048 1024 (V c main_arg3) (fun i j => I.gip i j)) (h4 : Rp 2048 1024 (V c main_arg4) (fun i j => I.grp i j))
    (h5 : Rp 1 1024 (V c main_arg5) (fun _ j => I.l j)) :
    Rp 2048 1024 ((dat0 V c).arrAt 5 cfg0.N) (fun i j => I.hs (i + 1) j) := by
  intro i j
  refine (dat0 V c).arrAt_forall_of_covers 5 (fun y v => v = ((I.hs ((y 0 : Fin 2048) + 1) (y 1 : Fin 1024) : ℝ) : EReal)) (by decide +kernel) (fun t hf y => ?_) (ix2 i j)
  rw [after0_5]
  unfold outsAt0
  have hi : (cfg0.win 5).index t = ![0, t.val] := by
    clear hf y; revert t; decide +kernel
  have key := out0_hs c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t)
    (iblk0 V c 1 t) (iblk0 V c 2 t) (iblk0 V c 3 t) (iblk0 V c 4 t) I (256 * t.val) (iblk0_4_Rp c t h5) (iblk0_0_Rp c t h1) (iblk0_1_Rp c t h2) (iblk0_2_Rp c t h3) (iblk0_3_Rp c t h4)
  refine (key.1.at _).trans ?_
  blk_simp [hi]
  rw [Nat.mul_comm 256]

/-- Its second result holds the recurrence's value. -/
theorem arr0_m {V : (c : Dev nD) → (b : Ref sig .tc) → Buf (Elt Ideal) ((c : Thread nD τ).loc b)} (c : Dev nD) (I : In) (h1 : Rp 2048 2048 (V c main_arg1) (fun i j => I.gb i j)) (h2 : Rp 2048 1024 (V c main_arg2) (fun i j => I.rc i j))
    (h3 : Rp 2048 1024 (V c main_arg3) (fun i j => I.gip i j)) (h4 : Rp 2048 1024 (V c main_arg4) (fun i j => I.grp i j))
    (h5 : Rp 1 1024 (V c main_arg5) (fun _ j => I.l j)) :
    Rp 2048 1024 ((dat0 V c).arrAt 6 cfg0.N) (fun i j => I.m i j) := by
  intro i j
  refine (dat0 V c).arrAt_forall_of_covers 6 (fun y v => v = ((I.m (y 0 : Fin 2048) (y 1 : Fin 1024) : ℝ) : EReal)) (by decide +kernel) (fun t hf y => ?_) (ix2 i j)
  rw [after0_6]
  unfold outsAt0
  have hi : (cfg0.win 6).index t = ![0, t.val] := by
    clear hf y; revert t; decide +kernel
  have key := out0_hs c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t)
    (iblk0 V c 1 t) (iblk0 V c 2 t) (iblk0 V c 3 t) (iblk0 V c 4 t) I (256 * t.val) (iblk0_4_Rp c t h5) (iblk0_0_Rp c t h1) (iblk0_1_Rp c t h2) (iblk0_2_Rp c t h3) (iblk0_3_Rp c t h4)
  refine (key.2.at _).trans ?_
  blk_simp [hi]
  rw [Nat.mul_comm 256]

end Cert.KerVal
-- ==== Proof.Ker1Arr.lean ====
/- The backward kernel's arrays: every block of 256 columns is the gradient's, so the arrays are. -/
module

public import proofs.«01_k».proof.Proof.Ker1Val
public import proofs.«01_k».proof.Proof.Ker0Arr

@[expose] public section

set_option maxRecDepth 16384

noncomputable section

namespace Cert.KerVal

open Idealize.ShloMosaic Idealize.ShloMosaic.TcCoe Cert.KernelIdeal Cert.KernelIdeal.Gen Cert.Base Cert.Spec

/-! Each window's block `t` is columns `256 t …` of its array. -/

theorem iblk1_0_Rp {V : (c : Dev nD) → (b : Ref sig .tc) → Buf (Elt Ideal) ((c : Thread nD τ).loc b)} (c : Dev nD) (t : Fin cfg1.N) {f : ℕ → ℕ → ℝ}
    (h : Rp 2048 1024 (V c main_arg0) f) : Rp 2048 256 (iblk1 V c 0 t) (fun i j => f i (256 * t.val + j)) := fun i j => by
  have hN : (t : ℕ) < 4 := t.isLt.trans_eq N_1
  refine Eq.trans ?_ (h i ⟨256 * t.val + j, by omega⟩)
  have hi : (cfg1.win 0).index t = ![0, t.val] := by
    revert t; decide +kernel
  blk_ext [iblk1, hi]

theorem iblk1_1_Rp {V : (c : Dev nD) → (b : Ref sig .tc) → Buf (Elt Ideal) ((c : Thread nD τ).loc b)} (c : Dev nD) (t : Fin cfg1.N) {f : ℕ → ℕ → ℝ}
    (h : Rp 2048 2048 (V c main_arg1) f) : Rp 2048 256 (iblk1 V c 1 t) (fun i j => f i (256 * t.val + j)) := fun i j => by
  have hN : (t : ℕ) < 4 := t.isLt.trans_eq N_1
  refine Eq.trans ?_ (h i ⟨256 * t.val + j, by omega⟩)
  have hi : (cfg1.win 1).index t = ![0, t.val] := by
    revert t; decide +kernel
  blk_ext [iblk1, hi]

theorem iblk1_2_Rp {V : (c : Dev nD) → (b : Ref sig .tc) → Buf (Elt Ideal) ((c : Thread nD τ).loc b)} (c : Dev nD) (t : Fin cfg1.N) {f : ℕ → ℕ → ℝ}
    (h : Rp 2048 1024 (V c main_v0_0) f) : Rp 2048 256 (iblk1 V c 2 t) (fun i j => f i (256 * t.val + j)) := fun i j => by
  have hN : (t : ℕ) < 4 := t.isLt.trans_eq N_1
  refine Eq.trans ?_ (h i ⟨256 * t.val + j, by omega⟩)
  have hi : (cfg1.win 2).index t = ![0, t.val] := by
    revert t; decide +kernel
  blk_ext [iblk1, hi]

theorem iblk1_3_Rp {V : (c : Dev nD) → (b : Ref sig .tc) → Buf (Elt Ideal) ((c : Thread nD τ).loc b)} (c : Dev nD) (t : Fin cfg1.N) {f : ℕ → ℕ → ℝ}
    (h : Rp 2048 1024 (V c main_arg2) f) : Rp 2048 256 (iblk1 V c 3 t) (fun i j => f i (256 * t.val + j)) := fun i j => by
  have hN : (t : ℕ) < 4 := t.isLt.trans_eq N_1
  refine Eq.trans ?_ (h i ⟨256 * t.val + j, by omega⟩)
  have hi : (cfg1.win 3).index t = ![0, t.val] := by
    revert t; decide +kernel
  blk_ext [iblk1, hi]

theorem iblk1_4_Rp {V : (c : Dev nD) → (b : Ref sig .tc) → Buf (Elt Ideal) ((c : Thread nD τ).loc b)} (c : Dev nD) (t : Fin cfg1.N) {f : ℕ → ℕ → ℝ}
    (h : Rp 2048 1024 (V c main_arg3) f) : Rp 2048 256 (iblk1 V c 4 t) (fun i j => f i (256 * t.val + j)) := fun i j => by
  have hN : (t : ℕ) < 4 := t.isLt.trans_eq N_1
  refine Eq.trans ?_ (h i ⟨256 * t.val + j, by omega⟩)
  have hi : (cfg1.win 4).index t = ![0, t.val] := by
    revert t; decide +kernel
  blk_ext [iblk1, hi]

theorem iblk1_5_Rp {V : (c : Dev nD) → (b : Ref sig .tc) → Buf (Elt Ideal) ((c : Thread nD τ).loc b)} (c : Dev nD) (t : Fin cfg1.N) {f : ℕ → ℕ → ℝ}
    (h : Rp 2048 1024 (V c main_arg4) f) : Rp 2048 256 (iblk1 V c 5 t) (fun i j => f i (256 * t.val + j)) := fun i j => by
  have hN : (t : ℕ) < 4 := t.isLt.trans_eq N_1
  refine Eq.trans ?_ (h i ⟨256 * t.val + j, by omega⟩)
  have hi : (cfg1.win 5).index t = ![0, t.val] := by
    revert t; decide +kernel
  blk_ext [iblk1, hi]

theorem iblk1_6_Rp {V : (c : Dev nD) → (b : Ref sig .tc) → Buf (Elt Ideal) ((c : Thread nD τ).loc b)} (c : Dev nD) (t : Fin cfg1.N) {f : ℕ → ℕ → ℝ}
    (h : Rp 1 1024 (V c main_arg5) f) : Rp 1 256 (iblk1 V c 6 t) (fun i j => f i (256 * t.val + j)) := fun i j => by
  have hN : (t : ℕ) < 4 := t.isLt.trans_eq N_1
  refine Eq.trans ?_ (h i ⟨256 * t.val + j, by omega⟩)
  have hi : (cfg1.win 6).index t = ![0, t.val] := by
    revert t; decide +kernel
  blk_ext [iblk1, hi]

/-- A row stored whole. -/
theorem rowStored {sp : Space} {e : EltTy} (v : View sig .tc sp S1x256 e) (f : v.ty.Contents (Elt Ideal)) (inb : ∀ a : Fin 2, (![0, 0] : Fin 2 → ℕ) a + S1x256.size a ≤ S1x256.size a)
    (w : S1x256.Idx → Elt Ideal e) (r : Fin 1) (j : Fin 256) :
    v.read (Elt Ideal) (v.writes (Elt Ideal) f [(⟨Rect.unit (s := S1x256) ![0, 0] S1x256.size inb, w⟩ : View.Piece (Elt Ideal) S1x256 e)]) (ix2 r j) = w (ix2 r j) :=
  View.read_writes_cons_rows_of_mem (o := 0) v f inb w [] (ix2 r j) (ix2 r j) rfl (Nat.zero_add _).symm rfl

section
variable (c : Dev nD) (i : grid1.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S1x256 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S2048x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (x1 x2 x3 x4 x5 x6 : Vec Ideal S2048x256 .f32) (x7 : Vec Ideal S1x256 .f32) (I : In) (w : ℕ)

/-- The blocks of the backward kernel's operands at columns `w …`. -/
structure Ops (I : In) (w : ℕ) (x1 x2 x3 x4 x5 x6 : Vec Ideal S2048x256 .f32) (x7 : Vec Ideal S1x256 .f32) : Prop where
  dm : Rp 2048 256 x1 (fun r j => I.dm r (w + j))
  gb : Rp 2048 256 x2 (fun r j => I.gb r (w + j))
  hs : Rp 2048 256 x3 (fun r j => I.hs (r + 1) (w + j))
  rc : Rp 2048 256 x4 (fun r j => I.rc r (w + j))
  gip : Rp 2048 256 x5 (fun r j => I.gip r (w + j))
  grp : Rp 2048 256 x6 (fun r j => I.grp r (w + j))
  l : Rp 1 256 x7 (fun _ j => I.l (w + j))

theorem row7 (h : Ops I w x1 x2 x3 x4 x5 x6 x7) : Rp 1 256 (View.readAt (Elt Ideal) arg7.view (Rect.unit (s := S1x256) ![0, 0] S1x256.size (by decide)).toLoadRect (harg7.unread x7)) (fun _ j => I.l (w + j)) := by
  intro r j
  rw [View.readAt_eq_ld, Memref.IsWhole.read_unread]
  refine Eq.trans ?_ (h.l r j)
  refine congrArg x7 ((eq_ix2 _).trans (congrArg₂ ix2 (Fin.ext ?_) (Fin.ext ?_)))
  · show 0 + 1 * (r : ℕ) = r; omega
  · show 0 + 1 * (j : ℕ) = j; omega

/-- The state the body ends its loop in. -/
abbrev stE := st1 Variants.none c none i arg1 harg1 arg2 harg2 arg3 harg3 arg4 harg4 arg5 harg5 arg6 harg6 arg7 harg7 arg8 harg8 arg9 harg9 arg10 harg10 arg11 harg11 arg12 harg12 arg13 harg13 arg14 harg14 (View.readAt (Elt Ideal) arg7.view (Rect.unit (s := S1x256) ![0, 0] S1x256.size (by decide)).toLoadRect (harg7.unread x7)) x1 x2 x3 x4 x5 x6 32

theorem end1 (h : Ops I w x1 x2 x3 x4 x5 x6 x7) : Acc I w 2048 (stE c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7).1 ∧
    Part VO1_7 (stE c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7).2.1 (fun r => 0 ≤ r) (fun r j => ((I.dgb r (w + j) : ℝ) : EReal)) ∧
    Part VO1_8 (stE c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7).2.2.1 (fun r => 0 ≤ r) (fun r j => ((I.dgi r (w + j) : ℝ) : EReal)) ∧
    Part VO1_9 (stE c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7).2.2.2.1 (fun r => 0 ≤ r) (fun r j => ((I.dgr r (w + j) : ℝ) : EReal)) ∧
    Part VO1_10 (stE c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7).2.2.2.2 (fun r => 0 ≤ r) (fun r j => ((I.drc r (w + j) : ℝ) : EReal)) :=
  st1_all Variants.none c none i arg1 harg1 arg2 harg2 arg3 harg3 arg4 harg4 arg5 harg5 arg6 harg6 arg7 harg7 arg8 harg8 arg9 harg9 arg10 harg10 arg11 harg11 arg12 harg12 arg13 harg13 arg14 harg14 _ x1 x2 x3 x4 x5 x6 I w (row7 arg7 harg7 x1 x2 x3 x4 x5 x6 x7 I w h) h.dm h.gb h.hs h.rc h.gip h.grp VO1_7 VO1_8 VO1_9 VO1_10 32 le_rfl

theorem out1_dgb (h : Ops I w x1 x2 x3 x4 x5 x6 x7) : Rp 2048 256 (out1_A_7 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7) (fun r j => I.dgb r (w + j)) := by
  intro r j
  refine Eq.trans ?_ ((end1 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7 I w h).2.1 VO1_7.junk r j (Nat.zero_le _))
  unfold out1_A_7 kernelRun1_A
  rfl

theorem out1_dgi (h : Ops I w x1 x2 x3 x4 x5 x6 x7) : Rp 2048 256 (out1_A_8 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7) (fun r j => I.dgi r (w + j)) := by
  intro r j
  refine Eq.trans ?_ ((end1 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7 I w h).2.2.1 VO1_8.junk r j (Nat.zero_le _))
  unfold out1_A_8 kernelRun1_A
  rfl

theorem out1_dgr (h : Ops I w x1 x2 x3 x4 x5 x6 x7) : Rp 2048 256 (out1_A_9 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7) (fun r j => I.dgr r (w + j)) := by
  intro r j
  refine Eq.trans ?_ ((end1 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7 I w h).2.2.2.1 VO1_9.junk r j (Nat.zero_le _))
  unfold out1_A_9 kernelRun1_A
  rfl

theorem out1_drc (h : Ops I w x1 x2 x3 x4 x5 x6 x7) : Rp 2048 256 (out1_A_10 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7) (fun r j => I.drc r (w + j)) := by
  intro r j
  refine Eq.trans ?_ ((end1 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7 I w h).2.2.2.2 VO1_10.junk r j (Nat.zero_le _))
  unfold out1_A_10 kernelRun1_A
  rfl

theorem out1_dbi (h : Ops I w x1 x2 x3 x4 x5 x6 x7) : Rp 1 256 (out1_A_11 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7) (fun _ j => I.dbi (w + j)) := by
  intro r j
  refine Eq.trans (b := k1_pay44 (F := Ideal) (stE c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7).1.2.1 (ix2 r j)) ?_ ?_
  · unfold out1_A_11 kernelRun1_A
    exact rowStored VO1_11 _ _ _ r j
  · unfold k1_pay44
    refine (Rp.castSelf _ (end1 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7 I w h).1.gi r j).trans ?_
    refine congrArg (fun x : ℝ => (x : EReal)) ?_
    exact Finset.sum_range_reflect (fun k => I.dgi k (w + j)) 2048

theorem out1_dbr (h : Ops I w x1 x2 x3 x4 x5 x6 x7) : Rp 1 256 (out1_A_12 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7) (fun _ j => I.dbr (w + j)) := by
  intro r j
  refine Eq.trans (b := k1_pay45 (F := Ideal) (stE c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7).1.2.2.1 (ix2 r j)) ?_ ?_
  · unfold out1_A_12 kernelRun1_A
    exact rowStored VO1_12 _ _ _ r j
  · unfold k1_pay45
    refine (Rp.castSelf _ (end1 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7 I w h).1.gr r j).trans ?_
    refine congrArg (fun x : ℝ => (x : EReal)) ?_
    exact Finset.sum_range_reflect (fun k => I.dgr k (w + j)) 2048

theorem out1_dl (h : Ops I w x1 x2 x3 x4 x5 x6 x7) : Rp 1 256 (out1_A_13 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7) (fun _ j => I.dl (w + j)) := by
  intro r j
  have hs : Rp 1 256 (stE c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7).1.2.2.2 (fun _ j => ∑ k ∈ Finset.range 2048, I.dla k (w + j) * I.gr k (w + j)) :=
    Rp.of_eq (end1 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7 I w h).1.la fun a b _ _ => Finset.sum_range_reflect (fun k => I.dla k (w + b) * I.gr k (w + b)) 2048
  refine Eq.trans ?_ (pay1_dl (row7 arg7 harg7 x1 x2 x3 x4 x5 x6 x7 I w h) hs r j)
  unfold out1_A_13 kernelRun1_A
  exact rowStored VO1_13 _ _ _ r j
end

/-- The backward kernel's operands in its arrays. -/
structure Ins (I : In) (V : (c : Dev nD) → (b : Ref sig .tc) → Buf (Elt Ideal) ((c : Thread nD τ).loc b)) (c : Dev nD) : Prop where
  dm : Rp 2048 1024 (V c main_arg0) (fun i j => I.dm i j)
  gb : Rp 2048 2048 (V c main_arg1) (fun i j => I.gb i j)
  hs : Rp 2048 1024 (V c main_v0_0) (fun i j => I.hs (i + 1) j)
  rc : Rp 2048 1024 (V c main_arg2) (fun i j => I.rc i j)
  gip : Rp 2048 1024 (V c main_arg3) (fun i j => I.gip i j)
  grp : Rp 2048 1024 (V c main_arg4) (fun i j => I.grp i j)
  l : Rp 1 1024 (V c main_arg5) (fun _ j => I.l j)

theorem Ins.ops {I : In} {V : (c : Dev nD) → (b : Ref sig .tc) → Buf (Elt Ideal) ((c : Thread nD τ).loc b)} {c : Dev nD} (h : Ins I V c) (t : Fin cfg1.N) :
    Ops I (256 * t.val) (iblk1 V c 0 t) (iblk1 V c 1 t) (iblk1 V c 2 t) (iblk1 V c 3 t) (iblk1 V c 4 t) (iblk1 V c 5 t) (iblk1 V c 6 t) :=
  ⟨iblk1_0_Rp c t h.dm, iblk1_1_Rp c t h.gb, iblk1_2_Rp c t h.hs, iblk1_3_Rp c t h.rc, iblk1_4_Rp c t h.gip, iblk1_5_Rp c t h.grp, iblk1_6_Rp c t h.l⟩

theorem arr1_dgb {I : In} {V : (c : Dev nD) → (b : Ref sig .tc) → Buf (Elt Ideal) ((c : Thread nD τ).loc b)} {c : Dev nD} (h : Ins I V c) :
    Rp 2048 1024 ((dat1 V c).arrAt 7 cfg1.N) (fun i j => I.dgb i j) := by
  intro i j
  refine (dat1 V c).arrAt_forall_of_covers 7 (fun y v => v = ((I.dgb (y 0 : Fin 2048) (y 1 : Fin 1024) : ℝ) : EReal)) (by decide +kernel) (fun t hf y => ?_) (ix2 i j)
  rw [after1_7]
  unfold outsAt1
  have hi : (cfg1.win 7).index t = ![0, t.val] := by
    clear hf y; revert t; decide +kernel
  have key := out1_dgb c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) I (256 * t.val) (h.ops t)
  refine (key.at _).trans ?_
  blk_simp [hi]
  rw [Nat.mul_comm 256]

theorem arr1_dgi {I : In} {V : (c : Dev nD) → (b : Ref sig .tc) → Buf (Elt Ideal) ((c : Thread nD τ).loc b)} {c : Dev nD} (h : Ins I V c) :
    Rp 2048 1024 ((dat1 V c).arrAt 8 cfg1.N) (fun i j => I.dgi i j) := by
  intro i j
  refine (dat1 V c).arrAt_forall_of_covers 8 (fun y v => v = ((I.dgi (y 0 : Fin 2048) (y 1 : Fin 1024) : ℝ) : EReal)) (by decide +kernel) (fun t hf y => ?_) (ix2 i j)
  rw [after1_8]
  unfold outsAt1
  have hi : (cfg1.win 8).index t = ![0, t.val] := by
    clear hf y; revert t; decide +kernel
  have key := out1_dgi c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) I (256 * t.val) (h.ops t)
  refine (key.at _).trans ?_
  blk_simp [hi]
  rw [Nat.mul_comm 256]

theorem arr1_dgr {I : In} {V : (c : Dev nD) → (b : Ref sig .tc) → Buf (Elt Ideal) ((c : Thread nD τ).loc b)} {c : Dev nD} (h : Ins I V c) :
    Rp 2048 1024 ((dat1 V c).arrAt 9 cfg1.N) (fun i j => I.dgr i j) := by
  intro i j
  refine (dat1 V c).arrAt_forall_of_covers 9 (fun y v => v = ((I.dgr (y 0 : Fin 2048) (y 1 : Fin 1024) : ℝ) : EReal)) (by decide +kernel) (fun t hf y => ?_) (ix2 i j)
  rw [after1_9]
  unfold outsAt1
  have hi : (cfg1.win 9).index t = ![0, t.val] := by
    clear hf y; revert t; decide +kernel
  have key := out1_dgr c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) I (256 * t.val) (h.ops t)
  refine (key.at _).trans ?_
  blk_simp [hi]
  rw [Nat.mul_comm 256]

theorem arr1_drc {I : In} {V : (c : Dev nD) → (b : Ref sig .tc) → Buf (Elt Ideal) ((c : Thread nD τ).loc b)} {c : Dev nD} (h : Ins I V c) :
    Rp 2048 1024 ((dat1 V c).arrAt 10 cfg1.N) (fun i j => I.drc i j) := by
  intro i j
  refine (dat1 V c).arrAt_forall_of_covers 10 (fun y v => v = ((I.drc (y 0 : Fin 2048) (y 1 : Fin 1024) : ℝ) : EReal)) (by decide +kernel) (fun t hf y => ?_) (ix2 i j)
  rw [after1_10]
  unfold outsAt1
  have hi : (cfg1.win 10).index t = ![0, t.val] := by
    clear hf y; revert t; decide +kernel
  have key := out1_drc c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) I (256 * t.val) (h.ops t)
  refine (key.at _).trans ?_
  blk_simp [hi]
  rw [Nat.mul_comm 256]

theorem arr1_dbi {I : In} {V : (c : Dev nD) → (b : Ref sig .tc) → Buf (Elt Ideal) ((c : Thread nD τ).loc b)} {c : Dev nD} (h : Ins I V c) :
    Rp 1 1024 ((dat1 V c).arrAt 11 cfg1.N) (fun _ j => I.dbi j) := by
  intro i j
  refine (dat1 V c).arrAt_forall_of_covers 11 (fun y v => v = ((I.dbi (y 1 : Fin 1024) : ℝ) : EReal)) (by decide +kernel) (fun t hf y => ?_) (ix2 i j)
  rw [after1_11]
  unfold outsAt1
  have hi : (cfg1.win 11).index t = ![0, t.val] := by
    clear hf y; revert t; decide +kernel
  have key := out1_dbi c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) I (256 * t.val) (h.ops t)
  have k2 := key.at y
  dsimp only at k2 ⊢
  rw [k2]
  blk_simp [hi]
  rw [Nat.mul_comm 256]

theorem arr1_dbr {I : In} {V : (c : Dev nD) → (b : Ref sig .tc) → Buf (Elt Ideal) ((c : Thread nD τ).loc b)} {c : Dev nD} (h : Ins I V c) :
    Rp 1 1024 ((dat1 V c).arrAt 12 cfg1.N) (fun _ j => I.dbr j) := by
  intro i j
  refine (dat1 V c).arrAt_forall_of_covers 12 (fun y v => v = ((I.dbr (y 1 : Fin 1024) : ℝ) : EReal)) (by decide +kernel) (fun t hf y => ?_) (ix2 i j)
  rw [after1_12]
  unfold outsAt1
  have hi : (cfg1.win 12).index t = ![0, t.val] := by
    clear hf y; revert t; decide +kernel
  have key := out1_dbr c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) I (256 * t.val) (h.ops t)
  have k2 := key.at y
  dsimp only at k2 ⊢
  rw [k2]
  blk_simp [hi]
  rw [Nat.mul_comm 256]

theorem arr1_dl {I : In} {V : (c : Dev nD) → (b : Ref sig .tc) → Buf (Elt Ideal) ((c : Thread nD τ).loc b)} {c : Dev nD} (h : Ins I V c) :
    Rp 1 1024 ((dat1 V c).arrAt 13 cfg1.N) (fun _ j => I.dl j) := by
  intro i j
  refine (dat1 V c).arrAt_forall_of_covers 13 (fun y v => v = ((I.dl (y 1 : Fin 1024) : ℝ) : EReal)) (by decide +kernel) (fun t hf y => ?_) (ix2 i j)
  rw [after1_13]
  unfold outsAt1
  have hi : (cfg1.win 13).index t = ![0, t.val] := by
    clear hf y; revert t; decide +kernel
  have key := out1_dl c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) I (256 * t.val) (h.ops t)
  have k2 := key.at y
  dsimp only at k2 ⊢
  rw [k2]
  blk_simp [hi]
  rw [Nat.mul_comm 256]

end Cert.KerVal
-- ==== Proof.KerRun.lean ====
/- The kernel's run with everything it leaves: every buffer of a core ends at what the two regions make of the launch memory. -/
module

public import proofs.«01_k».proof.Proof.Gen.KernelIdeal.Frame

@[expose] public section

noncomputable section

namespace Cert.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel ends with each core's buffers at the second region's exit contents. -/
theorem run : θ_run (defs (F := F)) (onTc (τ := τ) (main (F := F))) ⟨m, fun _ => 0, ρ⟩ (fun r => ∀ c : Dev nD, ∀ b ∈ Pipeline.ucRefs τ sig,
      r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun _ h _ => h)

end Cert.KerRun
-- ==== Proof.RefVal.lean ====
/- The reference's elementwise stretches over the reals: what each stretch leaves in the buffers read after it. -/
module

public import proofs.«01_k».proof.Proof.RefRun
public import proofs.«01_k».proof.Proof.Base

@[expose] public section

noncomputable section

namespace Cert.RefVal

open Idealize.ShloMosaic Idealize.ShloMosaic.TcCoe Idealize.ShloMosaic.StableHlo
open Cert.ReferenceIdeal Cert.ReferenceIdeal.Gen Cert.RefRun Cert.Base Cert.Spec

variable (I : In)

theorem p00_v0 (V : Valuation τ sig (Elt Ideal))
    (h_arg1 : Rp 2048 2048 (V (Proc.devRef .tc main_arg1)) (fun i j => I.gb i j)) :
    Rp 2048 1024 (after p00 V (Proc.devRef .tc main_v0)) (fun i j => I.gb i j) := by
  after_reads_simp
  refine Rp.of_eq (Rp.slice 0 0 _ h_arg1) ?_
  · intro i j _ _; simp only [zero_add]

theorem p00_v9 (V : Valuation τ sig (Elt Ideal))
    (h_arg3 : Rp 2048 1024 (V (Proc.devRef .tc main_arg3)) (fun i j => I.gip i j)) :
    Rp 2048 1024 (after p00 V (Proc.devRef .tc main_v9)) (fun i j => I.gi i j) := by
  after_reads_simp
  refine Rp.of_eq (Rp.hdiv (Rp.hcst _ (R0.cst lit_one)) (Rp.add (Rp.hcst _ (R0.cst lit_one)) (Rp.hexp (Rp.hneg (Rp.add h_arg3 (Rp.hbcRow _ (Rp.hcst _ (R0.cst lit_zero))))))) ?_) ?_
  · intro i j _ _
    simp only [add_zero]
    positivity
  · intro i j _ _
    simp only [add_zero, In.gi, sg]

theorem p00_v12 (V : Valuation τ sig (Elt Ideal))
    (h_arg3 : Rp 2048 1024 (V (Proc.devRef .tc main_arg3)) (fun i j => I.gip i j)) :
    Rp 2048 1024 (after p00 V (Proc.devRef .tc main_v12)) (fun i j => I.gi i j * (1 - I.gi i j)) := by
  after_reads_simp
  refine Rp.of_eq (Rp.mul (Rp.hdiv (Rp.hcst _ (R0.cst lit_one)) (Rp.add (Rp.hcst _ (R0.cst lit_one)) (Rp.hexp (Rp.hneg (Rp.add h_arg3 (Rp.hbcRow _ (Rp.hcst _ (R0.cst lit_zero))))))) ?_) (Rp.sub (Rp.hcst _ (R0.cst lit_one)) (Rp.hdiv (Rp.hcst _ (R0.cst lit_one)) (Rp.add (Rp.hcst _ (R0.cst lit_one)) (Rp.hexp (Rp.hneg (Rp.add h_arg3 (Rp.hbcRow _ (Rp.hcst _ (R0.cst lit_zero))))))) ?_))) ?_
  · intro i j _ _
    simp only [add_zero]
    positivity
  · intro i j _ _
    simp only [add_zero]
    positivity
  · intro i j _ _
    simp only [add_zero, In.gi, sg]

theorem p00_v23 (V : Valuation τ sig (Elt Ideal))
    (h_arg4 : Rp 2048 1024 (V (Proc.devRef .tc main_arg4)) (fun i j => I.grp i j)) :
    Rp 2048 1024 (after p00 V (Proc.devRef .tc main_v23)) (fun i j => I.gr i j * (1 - I.gr i j)) := by
  after_reads_simp
  refine Rp.of_eq (Rp.mul (Rp.hdiv (Rp.hcst _ (R0.cst lit_one)) (Rp.add (Rp.hcst _ (R0.cst lit_one)) (Rp.hexp (Rp.hneg (Rp.add h_arg4 (Rp.hbcRow _ (Rp.hcst _ (R0.cst lit_zero))))))) ?_) (Rp.sub (Rp.hcst _ (R0.cst lit_one)) (Rp.hdiv (Rp.hcst _ (R0.cst lit_one)) (Rp.add (Rp.hcst _ (R0.cst lit_one)) (Rp.hexp (Rp.hneg (Rp.add h_arg4 (Rp.hbcRow _ (Rp.hcst _ (R0.cst lit_zero))))))) ?_))) ?_
  · intro i j _ _
    simp only [add_zero]
    positivity
  · intro i j _ _
    simp only [add_zero]
    positivity
  · intro i j _ _
    simp only [add_zero, In.gr, sg]

theorem p00_v25 (V : Valuation τ sig (Elt Ideal))
    (h_arg4 : Rp 2048 1024 (V (Proc.devRef .tc main_arg4)) (fun i j => I.grp i j)) :
    Rp 2048 1024 (after p00 V (Proc.devRef .tc main_v25)) (fun i j => -8 * I.gr i j) := by
  after_reads_simp
  refine Rp.of_eq (Rp.mul (Rp.hcst _ (R0.cst lit_m8)) (Rp.hdiv (Rp.hcst _ (R0.cst lit_one)) (Rp.add (Rp.hcst _ (R0.cst lit_one)) (Rp.hexp (Rp.hneg (Rp.add h_arg4 (Rp.hbcRow _ (Rp.hcst _ (R0.cst lit_zero))))))) ?_)) ?_
  · intro i j _ _
    simp only [add_zero]
    positivity
  · intro i j _ _
    simp only [add_zero, In.gr, sg]

theorem p00_v26 (V : Valuation τ sig (Elt Ideal))
    (h_arg5 : Rp 1 1024 (V (Proc.devRef .tc main_arg5)) (fun _ j => I.l j)) :
    Rp 1 1024 (after p00 V (Proc.devRef .tc main_v26)) (fun _ j => -I.l j) := by
  after_reads_simp
  refine Rp.of_eq (Rp.hneg h_arg5) ?_
  · intro i j _ _; ring

theorem p01_v27_0 (V : Valuation τ sig (Elt Ideal))
    (h_v26 : Rp 1 1024 (V (Proc.devRef .tc main_v26)) (fun _ j => -I.l j)) :
    Rp 1 1024 (after p01 V (Proc.devRef .tc main_v27_0)) (fun _ j => I.sp j) := by
  after_reads_simp
  simp only [TRef.toBuf, TRef.ofBuf, cast_cast, cast_eq]
  refine Rp.of_eq (Rp.select (P := fun _ _ => False) Mk.une_self (Rp.add h_v26 (Rp.hcst _ (R0.cst lit_zero))) (Rp.add (Rp.max h_v26 (Rp.hcst _ (R0.cst lit_zero))) (Rp.hlog1p (Rp.hexp (Rp.hneg (Rp.habs (Rp.sub h_v26 (Rp.hcst _ (R0.cst lit_zero)))))) ?_))) ?_
  · intro i j _ _
    positivity
  · intro i j _ _
    simp only [In.sp, spl, if_false, sub_zero, abs_neg]

theorem p01_v27_1 (V : Valuation τ sig (Elt Ideal))
    (h_v26 : Rp 1 1024 (V (Proc.devRef .tc main_v26)) (fun _ j => -I.l j)) :
    Rp 1 1024 (after p01 V (Proc.devRef .tc main_v27_1)) (fun _ j => sg (-I.l j)) := by
  after_reads_simp
  simp only [TRef.toBuf, TRef.ofBuf, cast_cast, cast_eq]
  refine Rp.of_eq (Rp.hexp (Rp.sub (Rp.select (P := fun _ _ => False) (Mk.eq_top h_v26 _) (Rp.hcst _ (R0.cst lit_zero)) h_v26) (Rp.select (P := fun _ _ => False) (Mk.eq_top (Rp.select (P := fun _ _ => False) Mk.une_self (Rp.add h_v26 (Rp.hcst _ (R0.cst lit_zero))) (Rp.add (Rp.max h_v26 (Rp.hcst _ (R0.cst lit_zero))) (Rp.hlog1p (Rp.hexp (Rp.hneg (Rp.habs (Rp.sub h_v26 (Rp.hcst _ (R0.cst lit_zero)))))) ?_))) _) (Rp.hcst _ (R0.cst lit_zero)) (Rp.select (P := fun _ _ => False) Mk.une_self (Rp.add h_v26 (Rp.hcst _ (R0.cst lit_zero))) (Rp.add (Rp.max h_v26 (Rp.hcst _ (R0.cst lit_zero))) (Rp.hlog1p (Rp.hexp (Rp.hneg (Rp.habs (Rp.sub h_v26 (Rp.hcst _ (R0.cst lit_zero)))))) ?_)))))) ?_
  · intro i j _ _
    positivity
  · intro i j _ _
    positivity
  · intro i j _ _
    rw [← exp_sub_spl]
    simp only [spl, if_false, sub_zero, abs_neg]

theorem p02_v30 (V : Valuation τ sig (Elt Ideal))
    (h_v25 : Rp 2048 1024 (V (Proc.devRef .tc main_v25)) (fun i j => -8 * I.gr i j))
    (h_v27_0 : Rp 1 1024 (V (Proc.devRef .tc main_v27_0)) (fun _ j => I.sp j)) :
    Rp 2048 1024 (after p02 V (Proc.devRef .tc main_v30)) (fun i j => I.a i j) := by
  after_reads_simp
  refine Rp.of_eq (Rp.hexp (Rp.mul h_v25 (Rp.hbcRow _ h_v27_0))) ?_
  · intro i j _ _; rfl

theorem p02_v34 (V : Valuation τ sig (Elt Ideal))
    (h_v25 : Rp 2048 1024 (V (Proc.devRef .tc main_v25)) (fun i j => -8 * I.gr i j))
    (h_v27_0 : Rp 1 1024 (V (Proc.devRef .tc main_v27_0)) (fun _ j => I.sp j)) :
    Rp 2048 1024 (after p02 V (Proc.devRef .tc main_v34)) (fun i j => I.a i j * I.a i j) := by
  after_reads_simp
  refine Rp.of_eq (Rp.hexp (Rp.mul (Rp.hcst _ (R0.cst lit_two)) (Rp.mul h_v25 (Rp.hbcRow _ h_v27_0)))) ?_
  · intro i j _ _; exact exp_two_la I i j

theorem p02_v36 (V : Valuation τ sig (Elt Ideal))
    (h_v25 : Rp 2048 1024 (V (Proc.devRef .tc main_v25)) (fun i j => -8 * I.gr i j))
    (h_v27_0 : Rp 1 1024 (V (Proc.devRef .tc main_v27_0)) (fun _ j => I.sp j)) :
    Rp 2048 1024 (after p02 V (Proc.devRef .tc main_v36)) (fun i j => I.mult i j) := by
  after_reads_simp
  refine Rp.of_eq (Rp.hsqrt (Rp.hneg (Rp.hexpm1 (Rp.mul (Rp.hcst _ (R0.cst lit_two)) (Rp.mul h_v25 (Rp.hbcRow _ h_v27_0))))) ?_) ?_
  · intro i j _ _
    have h := (om_pos I i j).le
    rw [← exp_two_la] at h
    simp only [In.la] at h
    linarith
  · intro i j _ _
    rw [In.mult, ← exp_two_la]; rw [show ∀ x : ℝ, -(x - 1) = 1 - x from fun x => by ring]; rfl

theorem p02_v38 (V : Valuation τ sig (Elt Ideal))
    (h_v25 : Rp 2048 1024 (V (Proc.devRef .tc main_v25)) (fun i j => -8 * I.gr i j))
    (h_v27_0 : Rp 1 1024 (V (Proc.devRef .tc main_v27_0)) (fun _ j => I.sp j)) :
    Rp 2048 1024 (after p02 V (Proc.devRef .tc main_v38)) (fun i j => 1 / 2 / I.mult i j) := by
  after_reads_simp
  refine Rp.of_eq (Rp.hdiv (Rp.hcst _ (R0.cst lit_half)) (Rp.hsqrt (Rp.hneg (Rp.hexpm1 (Rp.mul (Rp.hcst _ (R0.cst lit_two)) (Rp.mul h_v25 (Rp.hbcRow _ h_v27_0))))) ?_) ?_) ?_
  · intro i j _ _
    have h := (om_pos I i j).le
    rw [← exp_two_la] at h
    simp only [In.la] at h
    linarith
  · intro i j _ _
    have h := (mult_pos I i j).ne'
    rw [In.mult, ← exp_two_la] at h
    simp only [In.la] at h
    rwa [show ∀ x : ℝ, -(x - 1) = 1 - x from fun x => by ring]
  · intro i j _ _
    rw [In.mult, ← exp_two_la]; rw [show ∀ x : ℝ, -(x - 1) = 1 - x from fun x => by ring]; rfl

theorem p02_v39 (V : Valuation τ sig (Elt Ideal))
    (h_arg2 : Rp 2048 1024 (V (Proc.devRef .tc main_arg2)) (fun i j => I.rc i j))
    (h_v9 : Rp 2048 1024 (V (Proc.devRef .tc main_v9)) (fun i j => I.gi i j)) :
    Rp 2048 1024 (after p02 V (Proc.devRef .tc main_v39)) (fun i j => I.rc i j * I.gi i j) := by
  after_reads_simp
  refine Rp.of_eq (Rp.mul h_arg2 h_v9) ?_
  · intro i j _ _; ring

theorem p02_v41 (V : Valuation τ sig (Elt Ideal)) :
    R1 1024 (after p02 V (Proc.devRef .tc main_v41)) (fun _ => 0) := by
  after_reads_simp
  exact (R1.hcst _ (R0.cst lit_zero))

theorem p02_v44_0 (V : Valuation τ sig (Elt Ideal))
    (h_v25 : Rp 2048 1024 (V (Proc.devRef .tc main_v25)) (fun i j => -8 * I.gr i j))
    (h_v27_0 : Rp 1 1024 (V (Proc.devRef .tc main_v27_0)) (fun _ j => I.sp j)) :
    Rp 2048 1024 (after p02 V (Proc.devRef .tc main_v44_0)) (fun i j => I.a i j) := by
  after_reads_simp
  refine Rp.of_eq (Rp.hexp (Rp.mul h_v25 (Rp.hbcRow _ h_v27_0))) ?_
  · intro i j _ _; rfl

theorem p02_v44_1 (V : Valuation τ sig (Elt Ideal))
    (h_arg2 : Rp 2048 1024 (V (Proc.devRef .tc main_arg2)) (fun i j => I.rc i j))
    (h_v9 : Rp 2048 1024 (V (Proc.devRef .tc main_v9)) (fun i j => I.gi i j))
    (h_v25 : Rp 2048 1024 (V (Proc.devRef .tc main_v25)) (fun i j => -8 * I.gr i j))
    (h_v27_0 : Rp 1 1024 (V (Proc.devRef .tc main_v27_0)) (fun _ j => I.sp j)) :
    Rp 2048 1024 (after p02 V (Proc.devRef .tc main_v44_1)) (fun i j => I.u i j) := by
  after_reads_simp
  refine Rp.of_eq (Rp.mul (Rp.mul h_arg2 h_v9) (Rp.hsqrt (Rp.hneg (Rp.hexpm1 (Rp.mul (Rp.hcst _ (R0.cst lit_two)) (Rp.mul h_v25 (Rp.hbcRow _ h_v27_0))))) ?_)) ?_
  · intro i j _ _
    have h := (om_pos I i j).le
    rw [← exp_two_la] at h
    simp only [In.la] at h
    linarith
  · intro i j _ _
    rw [In.u, In.mult, ← exp_two_la]; rw [show ∀ x : ℝ, -(x - 1) = 1 - x from fun x => by ring]; rfl

theorem p10_v44_3 (V : Valuation τ sig (Elt Ideal))
    (h_v41 : R1 1024 (V (Proc.devRef .tc main_v41)) (fun _ => 0)) :
    R1 1024 (after p10 V (Proc.devRef .tc main_v44_3)) (fun _ => 0) := by
  after_reads_simp
  exact h_v41

theorem p11_v67 (V : Valuation τ sig (Elt Ideal))
    (h_v0 : Rp 2048 1024 (V (Proc.devRef .tc main_v0)) (fun i j => I.gb i j))
    (h_v44_4 : Rp 2048 1024 (V (Proc.devRef .tc main_v44_4)) (fun i j => I.hs (i + 1) j)) :
    Rp 2048 1024 (after p11 V (Proc.devRef .tc main_v67)) (fun i j => I.m i j) := by
  after_reads_simp
  refine Rp.of_eq (Rp.mul (Rp.mul h_v0 (Rp.mul (Rp.hcst _ (R0.cst lit_half)) (Rp.add (Rp.hcst _ (R0.cst lit_one)) (Rp.htanh (Rp.mul (Rp.hcst _ (R0.cst lit_gc)) (Rp.add h_v0 (Rp.mul (Rp.hcst _ (R0.hdiv (R0.cst lit_num) (R0.cst lit_den) (by norm_num))) (Rp.mul (Rp.mul h_v0 h_v0) h_v0)))))))) h_v44_4) ?_
  · intro i j _ _; simp only [In.m, gel, th, kc]

theorem p11_v69 (V : Valuation τ sig (Elt Ideal))
    (h_v0 : Rp 2048 1024 (V (Proc.devRef .tc main_v0)) (fun i j => I.gb i j))
    (h_arg0 : Rp 2048 1024 (V (Proc.devRef .tc main_arg0)) (fun i j => I.dm i j)) :
    Rp 2048 1024 (after p11 V (Proc.devRef .tc main_v69)) (fun i j => I.dh i j) := by
  after_reads_simp
  refine Rp.of_eq (Rp.mul (Rp.mul h_v0 (Rp.mul (Rp.hcst _ (R0.cst lit_half)) (Rp.add (Rp.hcst _ (R0.cst lit_one)) (Rp.htanh (Rp.mul (Rp.hcst _ (R0.cst lit_gc)) (Rp.add h_v0 (Rp.mul (Rp.hcst _ (R0.hdiv (R0.cst lit_num) (R0.cst lit_den) (by norm_num))) (Rp.mul (Rp.mul h_v0 h_v0) h_v0)))))))) h_arg0) ?_
  · intro i j _ _; simp only [In.dh, gel, th, kc]; ring_nf

theorem p11_v82 (V : Valuation τ sig (Elt Ideal))
    (h_arg0 : Rp 2048 1024 (V (Proc.devRef .tc main_arg0)) (fun i j => I.dm i j))
    (h_v44_4 : Rp 2048 1024 (V (Proc.devRef .tc main_v44_4)) (fun i j => I.hs (i + 1) j))
    (h_v0 : Rp 2048 1024 (V (Proc.devRef .tc main_v0)) (fun i j => I.gb i j)) :
    Rp 2048 1024 (after p11 V (Proc.devRef .tc main_v82)) (fun i j => I.dgb i j) := by
  after_reads_simp
  refine Rp.of_eq (Rp.add (Rp.add (Rp.mul (Rp.mul h_arg0 h_v44_4) (Rp.mul (Rp.hcst _ (R0.cst lit_half)) (Rp.add (Rp.hcst _ (R0.cst lit_one)) (Rp.htanh (Rp.mul (Rp.hcst _ (R0.cst lit_gc)) (Rp.add h_v0 (Rp.mul (Rp.hcst _ (R0.hdiv (R0.cst lit_num) (R0.cst lit_den) (by norm_num))) (Rp.mul (Rp.mul h_v0 h_v0) h_v0)))))))) (Rp.mul (Rp.hcst _ (R0.cst lit_gc)) (Rp.mul (Rp.mul (Rp.hcst _ (R0.cst lit_half)) (Rp.mul h_v0 (Rp.mul h_arg0 h_v44_4))) (Rp.mul (Rp.add (Rp.hcst _ (R0.cst lit_one)) (Rp.htanh (Rp.mul (Rp.hcst _ (R0.cst lit_gc)) (Rp.add h_v0 (Rp.mul (Rp.hcst _ (R0.hdiv (R0.cst lit_num) (R0.cst lit_den) (by norm_num))) (Rp.mul (Rp.mul h_v0 h_v0) h_v0)))))) (Rp.sub (Rp.hcst _ (R0.cst lit_one)) (Rp.htanh (Rp.mul (Rp.hcst _ (R0.cst lit_gc)) (Rp.add h_v0 (Rp.mul (Rp.hcst _ (R0.hdiv (R0.cst lit_num) (R0.cst lit_den) (by norm_num))) (Rp.mul (Rp.mul h_v0 h_v0) h_v0)))))))))) (Rp.mul (Rp.mul (Rp.hcst _ (R0.hdiv (R0.cst lit_num) (R0.cst lit_den) (by norm_num))) (Rp.mul (Rp.hcst _ (R0.cst lit_gc)) (Rp.mul (Rp.mul (Rp.hcst _ (R0.cst lit_half)) (Rp.mul h_v0 (Rp.mul h_arg0 h_v44_4))) (Rp.mul (Rp.add (Rp.hcst _ (R0.cst lit_one)) (Rp.htanh (Rp.mul (Rp.hcst _ (R0.cst lit_gc)) (Rp.add h_v0 (Rp.mul (Rp.hcst _ (R0.hdiv (R0.cst lit_num) (R0.cst lit_den) (by norm_num))) (Rp.mul (Rp.mul h_v0 h_v0) h_v0)))))) (Rp.sub (Rp.hcst _ (R0.cst lit_one)) (Rp.htanh (Rp.mul (Rp.hcst _ (R0.cst lit_gc)) (Rp.add h_v0 (Rp.mul (Rp.hcst _ (R0.hdiv (R0.cst lit_num) (R0.cst lit_den) (by norm_num))) (Rp.mul (Rp.mul h_v0 h_v0) h_v0)))))))))) (Rp.mul (Rp.hcst _ (R0.cst lit_three)) (Rp.mul h_v0 h_v0)))) ?_
  · intro i j _ _; simp only [In.dgb, dgel, th]; rw [show (44715 : ℝ) / 1000000 = kc from rfl]; ring_nf

theorem p11_v83 (V : Valuation τ sig (Elt Ideal)) :
    R1 1024 (after p11 V (Proc.devRef .tc main_v83)) (fun _ => 0) := by
  after_reads_simp
  exact (R1.hcst _ (R0.cst lit_zero))

theorem p20_v86_0 (V : Valuation τ sig (Elt Ideal))
    (h_v69 : Rp 2048 1024 (V (Proc.devRef .tc main_v69)) (fun i j => I.dh i j)) :
    Rp 2048 1024 (after p20 V (Proc.devRef .tc main_v86_0)) (fun i j => I.dh i j) := by
  after_reads_simp
  refine Rp.of_eq h_v69 ?_
  · intro i j _ _; ring

theorem p20_v86_1 (V : Valuation τ sig (Elt Ideal))
    (h_v44_5 : Rp 2048 1024 (V (Proc.devRef .tc main_v44_5)) (fun i j => I.hs i j)) :
    Rp 2048 1024 (after p20 V (Proc.devRef .tc main_v86_1)) (fun i j => I.hs i j) := by
  after_reads_simp
  refine Rp.of_eq h_v44_5 ?_
  · intro i j _ _; ring

theorem p20_v86_2 (V : Valuation τ sig (Elt Ideal))
    (h_v30 : Rp 2048 1024 (V (Proc.devRef .tc main_v30)) (fun i j => I.a i j)) :
    Rp 2048 1024 (after p20 V (Proc.devRef .tc main_v86_2)) (fun i j => I.a i j) := by
  after_reads_simp
  refine Rp.of_eq h_v30 ?_
  · intro i j _ _; ring

theorem p20_v86_4 (V : Valuation τ sig (Elt Ideal))
    (h_v83 : R1 1024 (V (Proc.devRef .tc main_v83)) (fun _ => 0)) :
    R1 1024 (after p20 V (Proc.devRef .tc main_v86_4)) (fun _ => 0) := by
  after_reads_simp
  exact h_v83

theorem p21_v89 (V : Valuation τ sig (Elt Ideal))
    (h_arg2 : Rp 2048 1024 (V (Proc.devRef .tc main_arg2)) (fun i j => I.rc i j))
    (h_v86_6 : Rp 2048 1024 (V (Proc.devRef .tc main_v86_6)) (fun i j => I.lam i j))
    (h_v36 : Rp 2048 1024 (V (Proc.devRef .tc main_v36)) (fun i j => I.mult i j)) :
    Rp 2048 1024 (after p21 V (Proc.devRef .tc main_v89)) (fun i j => I.rc i j * (I.lam i j * I.mult i j)) := by
  after_reads_simp
  refine Rp.of_eq (Rp.mul h_arg2 (Rp.mul h_v86_6 h_v36)) ?_
  · intro i j _ _; ring

theorem p21_v90 (V : Valuation τ sig (Elt Ideal))
    (h_v86_6 : Rp 2048 1024 (V (Proc.devRef .tc main_v86_6)) (fun i j => I.lam i j))
    (h_v36 : Rp 2048 1024 (V (Proc.devRef .tc main_v36)) (fun i j => I.mult i j))
    (h_v9 : Rp 2048 1024 (V (Proc.devRef .tc main_v9)) (fun i j => I.gi i j)) :
    Rp 2048 1024 (after p21 V (Proc.devRef .tc main_v90)) (fun i j => I.drc i j) := by
  after_reads_simp
  refine Rp.of_eq (Rp.mul (Rp.mul h_v86_6 h_v36) h_v9) ?_
  · intro i j _ _; simp only [In.drc]; ring

theorem p21_v100 (V : Valuation τ sig (Elt Ideal))
    (h_v25 : Rp 2048 1024 (V (Proc.devRef .tc main_v25)) (fun i j => -8 * I.gr i j))
    (h_v39 : Rp 2048 1024 (V (Proc.devRef .tc main_v39)) (fun i j => I.rc i j * I.gi i j))
    (h_v86_6 : Rp 2048 1024 (V (Proc.devRef .tc main_v86_6)) (fun i j => I.lam i j))
    (h_v38 : Rp 2048 1024 (V (Proc.devRef .tc main_v38)) (fun i j => 1 / 2 / I.mult i j))
    (h_v34 : Rp 2048 1024 (V (Proc.devRef .tc main_v34)) (fun i j => I.a i j * I.a i j))
    (h_v86_5 : Rp 2048 1024 (V (Proc.devRef .tc main_v86_5)) (fun i j => I.lam i j * I.hs i j))
    (h_v30 : Rp 2048 1024 (V (Proc.devRef .tc main_v30)) (fun i j => I.a i j)) :
    Rp 1 1024 (after p21 V (Proc.devRef .tc main_v100)) (fun _ j => ∑ i ∈ Finset.range 2048, -8 * I.gr i j * I.dla i j) := by
  after_reads_simp
  refine Rp.of_eq (Rp.ofRow _ (R1.hsum _ _ (Rp.mul h_v25 (Rp.add (Rp.mul (Rp.hcst _ (R0.cst lit_two)) (Rp.mul (Rp.hneg (Rp.mul (Rp.mul h_v39 h_v86_6) h_v38)) h_v34)) (Rp.mul h_v86_5 h_v30))) (R0.cst lit_zero))) ?_
  · intro i j _ _
    refine Finset.sum_congr rfl fun i _ => ?_
    have h := (mult_pos I i j).ne'
    simp only [In.dla]; field_simp; ring

theorem p21_v102 (V : Valuation τ sig (Elt Ideal))
    (h_v39 : Rp 2048 1024 (V (Proc.devRef .tc main_v39)) (fun i j => I.rc i j * I.gi i j))
    (h_v86_6 : Rp 2048 1024 (V (Proc.devRef .tc main_v86_6)) (fun i j => I.lam i j))
    (h_v38 : Rp 2048 1024 (V (Proc.devRef .tc main_v38)) (fun i j => 1 / 2 / I.mult i j))
    (h_v34 : Rp 2048 1024 (V (Proc.devRef .tc main_v34)) (fun i j => I.a i j * I.a i j))
    (h_v86_5 : Rp 2048 1024 (V (Proc.devRef .tc main_v86_5)) (fun i j => I.lam i j * I.hs i j))
    (h_v30 : Rp 2048 1024 (V (Proc.devRef .tc main_v30)) (fun i j => I.a i j))
    (h_v27_0 : Rp 1 1024 (V (Proc.devRef .tc main_v27_0)) (fun _ j => I.sp j)) :
    Rp 2048 1024 (after p21 V (Proc.devRef .tc main_v102)) (fun i j => I.dla i j * I.sp j) := by
  after_reads_simp
  refine Rp.of_eq (Rp.mul (Rp.add (Rp.mul (Rp.hcst _ (R0.cst lit_two)) (Rp.mul (Rp.hneg (Rp.mul (Rp.mul h_v39 h_v86_6) h_v38)) h_v34)) (Rp.mul h_v86_5 h_v30)) (Rp.hbcRow _ h_v27_0)) ?_
  · intro i j _ _
    have h := (mult_pos I i j).ne'
    simp only [In.dla]; field_simp; ring

theorem p22_v103 (V : Valuation τ sig (Elt Ideal))
    (h_v100 : Rp 1 1024 (V (Proc.devRef .tc main_v100)) (fun _ j => ∑ i ∈ Finset.range 2048, -8 * I.gr i j * I.dla i j))
    (h_v27_1 : Rp 1 1024 (V (Proc.devRef .tc main_v27_1)) (fun _ j => sg (-I.l j))) :
    Rp 1 1024 (after p22 V (Proc.devRef .tc main_v103)) (fun _ j => (∑ i ∈ Finset.range 2048, -8 * I.gr i j * I.dla i j) * sg (-I.l j)) := by
  after_reads_simp
  simp only [TRef.toBuf, TRef.ofBuf, cast_cast, cast_eq]
  refine Rp.of_eq (Rp.mul h_v100 h_v27_1) ?_
  · intro i j _ _; ring

theorem p23_v104 (V : Valuation τ sig (Elt Ideal))
    (h_v103 : Rp 1 1024 (V (Proc.devRef .tc main_v103)) (fun _ j => (∑ i ∈ Finset.range 2048, -8 * I.gr i j * I.dla i j) * sg (-I.l j))) :
    Rp 1 1024 (after p23 V (Proc.devRef .tc main_v104)) (fun _ j => I.dl j) := by
  after_reads_simp
  refine Rp.of_eq (Rp.hneg h_v103) ?_
  · intro i j _ _
    simp only [In.dl]
    rw [show ∀ x y : ℝ, -(x * y) = x * -y from fun x y => by ring, Finset.mul_sum]
    congr 1
    exact Finset.sum_congr rfl fun i _ => by ring

theorem p23_v109 (V : Valuation τ sig (Elt Ideal))
    (h_v102 : Rp 2048 1024 (V (Proc.devRef .tc main_v102)) (fun i j => I.dla i j * I.sp j))
    (h_v23 : Rp 2048 1024 (V (Proc.devRef .tc main_v23)) (fun i j => I.gr i j * (1 - I.gr i j))) :
    Rp 1 1024 (after p23 V (Proc.devRef .tc main_v109)) (fun _ j => I.dbr j) := by
  after_reads_simp
  refine Rp.of_eq (Rp.ofRow _ (R1.hsum _ _ (Rp.mul (Rp.mul (Rp.hcst _ (R0.cst lit_m8)) h_v102) h_v23) (R0.cst lit_zero))) ?_
  · intro i j _ _
    exact Finset.sum_congr rfl fun i _ => by simp only [In.dgr]; ring

theorem p23_v112 (V : Valuation τ sig (Elt Ideal))
    (h_v89 : Rp 2048 1024 (V (Proc.devRef .tc main_v89)) (fun i j => I.rc i j * (I.lam i j * I.mult i j)))
    (h_v12 : Rp 2048 1024 (V (Proc.devRef .tc main_v12)) (fun i j => I.gi i j * (1 - I.gi i j))) :
    Rp 1 1024 (after p23 V (Proc.devRef .tc main_v112)) (fun _ j => I.dbi j) := by
  after_reads_simp
  refine Rp.of_eq (Rp.ofRow _ (R1.hsum _ _ (Rp.mul h_v89 h_v12) (R0.cst lit_zero))) ?_
  · intro i j _ _
    exact Finset.sum_congr rfl fun i _ => by simp only [In.dgi]; ring

theorem p23_v113 (V : Valuation τ sig (Elt Ideal))
    (h_v82 : Rp 2048 1024 (V (Proc.devRef .tc main_v82)) (fun i j => I.dgb i j)) :
    Rp 2048 1024 (after p23 V (Proc.devRef .tc main_v113)) (fun i j => I.dgb i j) := by
  after_reads_simp
  refine Rp.of_eq (Rp.trunc h_v82 _) ?_
  · intro i j _ _; ring

theorem p23_v114 (V : Valuation τ sig (Elt Ideal))
    (h_v89 : Rp 2048 1024 (V (Proc.devRef .tc main_v89)) (fun i j => I.rc i j * (I.lam i j * I.mult i j)))
    (h_v12 : Rp 2048 1024 (V (Proc.devRef .tc main_v12)) (fun i j => I.gi i j * (1 - I.gi i j))) :
    Rp 2048 1024 (after p23 V (Proc.devRef .tc main_v114)) (fun i j => I.dgi i j) := by
  after_reads_simp
  refine Rp.of_eq (Rp.trunc (Rp.mul h_v89 h_v12) _) ?_
  · intro i j _ _; simp only [In.dgi]; ring

theorem p23_v115 (V : Valuation τ sig (Elt Ideal))
    (h_v102 : Rp 2048 1024 (V (Proc.devRef .tc main_v102)) (fun i j => I.dla i j * I.sp j))
    (h_v23 : Rp 2048 1024 (V (Proc.devRef .tc main_v23)) (fun i j => I.gr i j * (1 - I.gr i j))) :
    Rp 2048 1024 (after p23 V (Proc.devRef .tc main_v115)) (fun i j => I.dgr i j) := by
  after_reads_simp
  refine Rp.of_eq (Rp.trunc (Rp.mul (Rp.mul (Rp.hcst _ (R0.cst lit_m8)) h_v102) h_v23) _) ?_
  · intro i j _ _; simp only [In.dgr]; ring

theorem p23_v116 (V : Valuation τ sig (Elt Ideal))
    (h_v67 : Rp 2048 1024 (V (Proc.devRef .tc main_v67)) (fun i j => I.m i j)) :
    Rp 2048 1024 (after p23 V (Proc.devRef .tc main_v116)) (fun i j => I.m i j) := by
  after_reads_simp
  exact Rp.trunc h_v67 _

end Cert.RefVal
-- ==== Proof.RefLoop.lean ====
/- The reference's two loops over the reals: what every trip leaves, and by induction what is held after the last one. -/
module

public import proofs.«01_k».proof.Proof.RefVal
public import Idealize.ShloMosaic.Lib.DynamicIndex

@[expose] public section

noncomputable section

namespace Cert.RefVal

open Idealize.ShloMosaic Idealize.ShloMosaic.TcCoe Idealize.ShloMosaic.StableHlo
open Cert.ReferenceIdeal Cert.ReferenceIdeal.Gen Cert.RefRun Cert.Base Cert.Spec

variable (I : In)

/-- The rows of a stack where `P` holds are `f`'s. -/
def On (P : ℕ → Prop) (v : S2048x1024.Idx → EReal) (f : ℕ → ℕ → ℝ) : Prop :=
  ∀ (i : Fin 2048) (j : Fin 1024), P i → v (ix2 i j) = ((f i j : ℝ) : EReal)

theorem dsRow {v : S2048x1024.Idx → EReal} {f : ℕ → ℕ → ℝ} (st : Fin 2 → Int) (k : ℕ) (hk : k < 2048) (h0 : st 0 = k) (h1 : st 1 = 0)
    (h : S2048x1024.Slices (fun _ => 0) S1x1024) (hc : S1x1024.ShapeCasts ⟨1, ![1024]⟩) (hv : Rp 2048 1024 v f) :
    R1 1024 (fun i => shapeCast ⟨1, ![1024]⟩ (Host.dynamicSlice S1x1024 v st h) hc i) (fun j => f k j) := by
  have e : Rp 1 1024 (Host.dynamicSlice S1x1024 v st h) (fun i j => f (k + i) j) := fun i j => by
    rw [Host.dynamicSlice_apply, hv.at]
    congr 2
    · show Host.clampedStart S2048x1024 S1x1024 h.1 st 0 + (i : ℕ) = _
      rw [Host.clampedStart_of_le h.1 st 0 k h0 (show k + 1 ≤ 2048 by omega)]
    · show Host.clampedStart S2048x1024 S1x1024 h.1 st 1 + (j : ℕ) = _
      rw [Host.clampedStart_of_le h.1 st 1 0 h1 (show 0 + 1024 ≤ 1024 by omega)]; omega
  exact (R1.toRow hc e).of_eq fun j _ => by simp only [add_zero]

theorem dusRow {v : S2048x1024.Idx → EReal} {r : (⟨1, ![1024]⟩ : Shape).Idx → EReal} {f : ℕ → ℕ → ℝ} {g : ℕ → ℝ} {P : ℕ → Prop} (st : Fin 2 → Int)
    (k : ℕ) (hk : k < 2048) (h0 : st 0 = k) (h1 : st 1 = 0) (h : S2048x1024.Slices (fun _ => 0) S1x1024)
    (hb : (⟨1, ![1024]⟩ : Shape).BroadcastsInDim S1x1024 ![1]) (hv : On P v f) (hr : R1 1024 r g) (Q : ℕ → Prop)
    (hg : ∀ j, g j = f k j) (hQ : ∀ i, Q i → i = k ∨ P i) :
    On Q (Host.dynamicUpdateSlice v (broadcastInDim S1x1024 ![1] hb r) st h) f := fun i j hi => by
  rw [Host.dynamicUpdateSlice_apply]
  have c0 := Host.clampedStart_of_le h.1 st 0 k h0 (show k + 1 ≤ 2048 by omega)
  have c1 := Host.clampedStart_of_le h.1 st 1 0 h1 (show 0 + 1024 ≤ 1024 by omega)
  split_ifs with hin
  · have hi0 := hin 0
    rw [c0] at hi0
    have hik : (i : ℕ) = k := by
      have a1 : k ≤ (i : ℕ) := hi0.1
      have a2 : (i : ℕ) < k + 1 := hi0.2
      omega
    rw [hik, ← hg, ← hr j]
    show r _ = r _
    congr 1
    funext d
    have : d = 0 := Subsingleton.elim _ _
    subst this
    apply Fin.ext
    show (j : ℕ) - Host.clampedStart S2048x1024 S1x1024 h.1 st 1 = j
    rw [c1]; omega
  · refine hv i j ((hQ i hi).resolve_left fun e => hin fun a => ?_)
    match a with
    | 0 => rw [c0]; exact ⟨show k ≤ (i : ℕ) by omega, show (i : ℕ) < k + 1 by omega⟩
    | 1 => rw [c1]; exact ⟨show 0 ≤ (j : ℕ) by omega, show (j : ℕ) < 0 + 1024 by have := j.2; omega⟩

theorem toInt_small (k : ℕ) (hk : k < 4096) : (BitVec.ofNat 32 k).toInt = k := by
  rw [BitVec.toInt_eq_toNat_cond, BitVec.toNat_ofNat, Nat.mod_eq_of_lt (by omega), if_pos (by omega)]

theorem iv_toInt (k : ℕ) (hk : k < 2048) : (Scf.iv 0#32 1#32 k).toInt = k := by
  rw [show Scf.iv 0#32 1#32 k = BitVec.ofNat 32 k from by simp [Scf.iv], toInt_small _ (by omega)]

theorem iv_rev (k : ℕ) (hk : k < 2048) : (2048#32 - Scf.iv 0#32 1#32 k - 1#32).toInt = ((2047 - k : ℕ) : Int) := by
  rw [show 2048#32 - Scf.iv 0#32 1#32 k - 1#32 = BitVec.ofNat 32 (2047 - k) from by
    rw [show Scf.iv 0#32 1#32 k = BitVec.ofNat 32 k from by simp [Scf.iv]]
    apply BitVec.eq_of_toNat_eq
    simp only [BitVec.toNat_sub, BitVec.toNat_ofNat]
    omega, toInt_small _ (by omega)]

theorem body0_3 (V : Valuation τ sig (Elt Ideal)) (k : ℕ) (hk : k < 2048)
    (hc : V (Proc.devRef .tc main_v44_2) = fun _ => Scf.iv 0#32 1#32 k)
    (h0 : Rp 2048 1024 (V (Proc.devRef .tc main_v44_0)) (fun i j => I.a i j))
    (h1 : Rp 2048 1024 (V (Proc.devRef .tc main_v44_1)) (fun i j => I.u i j))
    (h3 : R1 1024 (V (Proc.devRef .tc main_v44_3)) (fun j => I.hs k j)) :
    R1 1024 (afterL bodyI0 V (Proc.devRef .tc main_v44_3)) (fun j => I.hs (k + 1) j) := by
  simp only [afterL_cons, afterL_nil]
  after_reads_simp
  simp only [TRef.toBuf, TRef.ofBuf, cast_cast, cast_eq]
  refine R1.of_eq (R1.add (R1.mul (dsRow _ k hk ?_ ?_ _ _ h0) h3) (dsRow _ k hk ?_ ?_ _ _ h1)) fun j _ => rfl
  · show BitVec.toInt (upto b00 V 1 (Proc.devRef .tc main_v44_2) _) = _
    after_reads_simp
    rw [hc]; exact iv_toInt k hk
  · show BitVec.toInt (upto b00 V 1 (Proc.devRef .tc main_while0b_call1_c) _) = _
    after_reads_simp
    rfl
  · show BitVec.toInt (upto b01 (after b00 V) 1 (Proc.devRef .tc main_v44_2) _) = _
    after_reads_simp
    rw [hc]; exact iv_toInt k hk
  · show BitVec.toInt (upto b01 (after b00 V) 1 (Proc.devRef .tc main_while0b_call2_c) _) = _
    after_reads_simp
    rfl

theorem body0_4 (V : Valuation τ sig (Elt Ideal)) (k : ℕ) (hk : k < 2048)
    (hc : V (Proc.devRef .tc main_v44_2) = fun _ => Scf.iv 0#32 1#32 k)
    (h0 : Rp 2048 1024 (V (Proc.devRef .tc main_v44_0)) (fun i j => I.a i j))
    (h1 : Rp 2048 1024 (V (Proc.devRef .tc main_v44_1)) (fun i j => I.u i j))
    (h3 : R1 1024 (V (Proc.devRef .tc main_v44_3)) (fun j => I.hs k j))
    (h4 : On (fun i => i < k) (V (Proc.devRef .tc main_v44_4)) (fun i j => I.hs (i + 1) j)) :
    On (fun i => i < k + 1) (afterL bodyI0 V (Proc.devRef .tc main_v44_4)) (fun i j => I.hs (i + 1) j) := by
  simp only [afterL_cons, afterL_nil]
  after_reads_simp
  simp only [TRef.toBuf, TRef.ofBuf, cast_cast, cast_eq]
  refine dusRow (f := fun i j => I.hs (i + 1) j) _ k hk ?_ ?_ _ _ h4 (R1.add (R1.mul (dsRow _ k hk ?_ ?_ _ _ h0) h3) (dsRow _ k hk ?_ ?_ _ _ h1)) (fun i => i < k + 1) (fun j => rfl) (fun i hi => by omega)
  · show BitVec.toInt (upto b03 (after b02 (after b01 (after b00 V))) 2 (Proc.devRef .tc main_v44_2) _) = _
    after_reads_simp
    rw [hc]; exact iv_toInt k hk
  · show BitVec.toInt (upto b03 (after b02 (after b01 (after b00 V))) 2 (Proc.devRef .tc main_while0b_call3_c) _) = _
    after_reads_simp
    rfl
  · show BitVec.toInt (upto b00 V 1 (Proc.devRef .tc main_v44_2) _) = _
    after_reads_simp
    rw [hc]; exact iv_toInt k hk
  · show BitVec.toInt (upto b00 V 1 (Proc.devRef .tc main_while0b_call1_c) _) = _
    after_reads_simp
    rfl
  · show BitVec.toInt (upto b01 (after b00 V) 1 (Proc.devRef .tc main_v44_2) _) = _
    after_reads_simp
    rw [hc]; exact iv_toInt k hk
  · show BitVec.toInt (upto b01 (after b00 V) 1 (Proc.devRef .tc main_while0b_call2_c) _) = _
    after_reads_simp
    rfl

theorem body0_5 (V : Valuation τ sig (Elt Ideal)) (k : ℕ) (hk : k < 2048)
    (hc : V (Proc.devRef .tc main_v44_2) = fun _ => Scf.iv 0#32 1#32 k)
    (h3 : R1 1024 (V (Proc.devRef .tc main_v44_3)) (fun j => I.hs k j))
    (h5 : On (fun i => i < k) (V (Proc.devRef .tc main_v44_5)) (fun i j => I.hs i j)) :
    On (fun i => i < k + 1) (afterL bodyI0 V (Proc.devRef .tc main_v44_5)) (fun i j => I.hs i j) := by
  simp only [afterL_cons, afterL_nil]
  after_reads_simp
  simp only [TRef.toBuf, TRef.ofBuf, cast_cast, cast_eq]
  refine dusRow (f := fun i j => I.hs i j) _ k hk ?_ ?_ _ _ h5 h3 (fun i => i < k + 1) (fun j => rfl) (fun i hi => by omega)
  · show BitVec.toInt (upto b04 (after b03 (after b02 (after b01 (after b00 V)))) 2 (Proc.devRef .tc main_v44_2) _) = _
    after_reads_simp
    rw [hc]; exact iv_toInt k hk
  · show BitVec.toInt (upto b04 (after b03 (after b02 (after b01 (after b00 V)))) 2 (Proc.devRef .tc main_while0b_call4_c) _) = _
    after_reads_simp
    rfl

theorem body1_4 (V : Valuation τ sig (Elt Ideal)) (k q : ℕ) (hk : k < 2048) (hq : q = 2047 - k) (hq2 : q < 2048)
    (hc : V (Proc.devRef .tc main_v86_3) = fun _ => Scf.iv 0#32 1#32 k)
    (h0 : Rp 2048 1024 (V (Proc.devRef .tc main_v86_0)) (fun i j => I.dh i j))
    (h1 : Rp 2048 1024 (V (Proc.devRef .tc main_v86_1)) (fun i j => I.hs i j))
    (h2 : Rp 2048 1024 (V (Proc.devRef .tc main_v86_2)) (fun i j => I.a i j))
    (h4 : R1 1024 (V (Proc.devRef .tc main_v86_4)) (fun j => I.ms k j))
    : R1 1024 (afterL bodyI1 V (Proc.devRef .tc main_v86_4)) (fun j => I.ms (k + 1) j) := by
  simp only [afterL_cons, afterL_nil]
  after_reads_simp
  simp only [TRef.toBuf, TRef.ofBuf, cast_cast, cast_eq]
  refine R1.of_eq (R1.mul (dsRow _ q hq2 ?_ ?_ _ _ h2) (R1.add h4 (dsRow _ q hq2 ?_ ?_ _ _ h0))) fun j _ => by
    simp only [hq, In.ms, add_comm]
  · show BitVec.toInt (upto b13 (after b12 (after b11 (after b10 V))) 1 (Proc.devRef .tc main_while1b_v118) _) = _
    after_reads_simp
    rw [hc, hq]; exact iv_rev k hk
  · show BitVec.toInt (upto b13 (after b12 (after b11 (after b10 V))) 1 (Proc.devRef .tc main_while1b_call7_c) _) = _
    after_reads_simp
    rfl
  · show BitVec.toInt (upto b11 (after b10 V) 1 (Proc.devRef .tc main_while1b_v118) _) = _
    after_reads_simp
    rw [hc, hq]; exact iv_rev k hk
  · show BitVec.toInt (upto b11 (after b10 V) 1 (Proc.devRef .tc main_while1b_call5_c) _) = _
    after_reads_simp
    rfl

theorem body1_5 (V : Valuation τ sig (Elt Ideal)) (k q : ℕ) (hk : k < 2048) (hq : q = 2047 - k) (hq2 : q < 2048)
    (hc : V (Proc.devRef .tc main_v86_3) = fun _ => Scf.iv 0#32 1#32 k)
    (h0 : Rp 2048 1024 (V (Proc.devRef .tc main_v86_0)) (fun i j => I.dh i j))
    (h1 : Rp 2048 1024 (V (Proc.devRef .tc main_v86_1)) (fun i j => I.hs i j))
    (h2 : Rp 2048 1024 (V (Proc.devRef .tc main_v86_2)) (fun i j => I.a i j))
    (h4 : R1 1024 (V (Proc.devRef .tc main_v86_4)) (fun j => I.ms k j))
    (P Q : ℕ → Prop) (hQ : ∀ i, Q i → i = q ∨ P i) (h5 : On P (V (Proc.devRef .tc main_v86_5)) (fun i j => I.lam i j * I.hs i j))
    : On Q (afterL bodyI1 V (Proc.devRef .tc main_v86_5)) (fun i j => I.lam i j * I.hs i j) := by
  simp only [afterL_cons, afterL_nil]
  after_reads_simp
  simp only [TRef.toBuf, TRef.ofBuf, cast_cast, cast_eq]
  rw [id_eq]
  refine dusRow (f := fun i j => I.lam i j * I.hs i j) (g := fun j => (I.ms k j + I.dh q j) * I.hs q j) _ q hq2 ?_ ?_ _ _ h5 ?_ Q (fun j => ?_) hQ
  · show BitVec.toInt (upto b15 (after b14 (after b13 (after b12 (after b11 (after b10 V))))) 2 (Proc.devRef .tc main_while1b_v118) _) = _
    after_reads_simp
    rw [hc, hq]; exact iv_rev k hk
  · show BitVec.toInt (upto b15 (after b14 (after b13 (after b12 (after b11 (after b10 V))))) 2 (Proc.devRef .tc main_while1b_call8_c) _) = _
    after_reads_simp
    rfl
  · refine R1.mul (R1.add h4 (dsRow _ q hq2 ?_ ?_ _ _ h0)) (dsRow _ q hq2 ?_ ?_ _ _ h1)
    · show BitVec.toInt (upto b11 (after b10 V) 1 (Proc.devRef .tc main_while1b_v118) _) = _
      after_reads_simp
      rw [hc, hq]; exact iv_rev k hk
    · show BitVec.toInt (upto b11 (after b10 V) 1 (Proc.devRef .tc main_while1b_call5_c) _) = _
      after_reads_simp
      rfl
    · show BitVec.toInt (upto b12 (after b11 (after b10 V)) 1 (Proc.devRef .tc main_while1b_v118) _) = _
      after_reads_simp
      rw [hc, hq]; exact iv_rev k hk
    · show BitVec.toInt (upto b12 (after b11 (after b10 V)) 1 (Proc.devRef .tc main_while1b_call6_c) _) = _
      after_reads_simp
      rfl
  · simp only [In.lam, show 2047 - q = k by omega, add_comm]

theorem body1_6 (V : Valuation τ sig (Elt Ideal)) (k q : ℕ) (hk : k < 2048) (hq : q = 2047 - k) (hq2 : q < 2048)
    (hc : V (Proc.devRef .tc main_v86_3) = fun _ => Scf.iv 0#32 1#32 k)
    (h0 : Rp 2048 1024 (V (Proc.devRef .tc main_v86_0)) (fun i j => I.dh i j))
    (h1 : Rp 2048 1024 (V (Proc.devRef .tc main_v86_1)) (fun i j => I.hs i j))
    (h2 : Rp 2048 1024 (V (Proc.devRef .tc main_v86_2)) (fun i j => I.a i j))
    (h4 : R1 1024 (V (Proc.devRef .tc main_v86_4)) (fun j => I.ms k j))
    (P Q : ℕ → Prop) (hQ : ∀ i, Q i → i = q ∨ P i) (h6 : On P (V (Proc.devRef .tc main_v86_6)) (fun i j => I.lam i j))
    : On Q (afterL bodyI1 V (Proc.devRef .tc main_v86_6)) (fun i j => I.lam i j) := by
  simp only [afterL_cons, afterL_nil]
  after_reads_simp
  simp only [TRef.toBuf, TRef.ofBuf, cast_cast, cast_eq]
  rw [id_eq]
  refine dusRow (f := fun i j => I.lam i j) (g := fun j => I.ms k j + I.dh q j) _ q hq2 ?_ ?_ _ _ h6 ?_ Q (fun j => ?_) hQ
  · show BitVec.toInt (upto b16 (after b15 (after b14 (after b13 (after b12 (after b11 (after b10 V)))))) 2 (Proc.devRef .tc main_while1b_v118) _) = _
    after_reads_simp
    rw [hc, hq]; exact iv_rev k hk
  · show BitVec.toInt (upto b16 (after b15 (after b14 (after b13 (after b12 (after b11 (after b10 V)))))) 2 (Proc.devRef .tc main_while1b_call9_c) _) = _
    after_reads_simp
    rfl
  · refine R1.add h4 (dsRow _ q hq2 ?_ ?_ _ _ h0)
    · show BitVec.toInt (upto b11 (after b10 V) 1 (Proc.devRef .tc main_while1b_v118) _) = _
      after_reads_simp
      rw [hc, hq]; exact iv_rev k hk
    · show BitVec.toInt (upto b11 (after b10 V) 1 (Proc.devRef .tc main_while1b_call5_c) _) = _
      after_reads_simp
      rfl
  · simp only [In.lam, show 2047 - q = k by omega, add_comm]

theorem On.weaken {P Q : ℕ → Prop} {v : S2048x1024.Idx → EReal} {f : ℕ → ℕ → ℝ} (h : On P v f) (e : ∀ i, i < 2048 → Q i → P i) : On Q v f :=
  fun i j hi => h i j (e i i.2 hi)

theorem On.full {P : ℕ → Prop} {v : S2048x1024.Idx → EReal} {f : ℕ → ℕ → ℝ} (h : On P v f) (e : ∀ i, i < 2048 → P i) : Rp 2048 1024 v f :=
  fun i j => h i j (e i i.2)

variable (m : (b : Loc nD τ sig) → b.ty.Contents (Elt Ideal)) (c : Dev nD)

/-- What the first loop holds before trip `k`. -/
structure Inv0 (k : ℕ) : Prop where
  h0 : Rp 2048 1024 (at0 m k c (Proc.devRef .tc main_v44_0)) (fun i j => I.a i j)
  h1 : Rp 2048 1024 (at0 m k c (Proc.devRef .tc main_v44_1)) (fun i j => I.u i j)
  h3 : R1 1024 (at0 m k c (Proc.devRef .tc main_v44_3)) (fun j => I.hs k j)
  h4 : On (fun i => i < k) (at0 m k c (Proc.devRef .tc main_v44_4)) (fun i j => I.hs (i + 1) j)
  h5 : On (fun i => i < k) (at0 m k c (Proc.devRef .tc main_v44_5)) (fun i j => I.hs i j)

theorem inv0_step (k : ℕ) (hk : k < 2048) (h : Inv0 I m c k) : Inv0 I m c (k + 1) := by
  have hV : ∀ r : Ref sig .tc, r ∉ cond0_W → after cond0 (at0 m k c) (Proc.devRef .tc r) = at0 m k c (Proc.devRef .tc r) := fun r hr => cond0_keep hr _
  have e : at0 m (k + 1) c = afterL bodyI0 (after cond0 (at0 m k c)) := rfl
  have hc : after cond0 (at0 m k c) (Proc.devRef .tc main_v44_2) = fun _ => Scf.iv 0#32 1#32 k := by rw [hV _ (by decide +kernel), at0_ctr]
  have h0 := h.h0; have h1 := h.h1; have h3 := h.h3; have h4 := h.h4; have h5 := h.h5
  rw [← hV _ (by decide +kernel)] at h0 h1 h3 h4 h5
  refine ⟨?_, ?_, ?_, ?_, ?_⟩ <;> rw [e]
  · rw [bodyI0_keep (by decide +kernel)]; exact h0
  · rw [bodyI0_keep (by decide +kernel)]; exact h1
  · exact body0_3 I _ k hk hc h0 h1 h3
  · exact body0_4 I _ k hk hc h0 h1 h3 h4
  · exact body0_5 I _ k hk hc h3 h5

theorem inv0_all (h : Inv0 I m c 0) : ∀ k, k ≤ 2048 → Inv0 I m c k
  | 0, _ => h
  | k + 1, hk => inv0_step I m c k (by omega) (inv0_all h k (by omega))

/-- What the second loop holds before trip `k`. -/
structure Inv1 (k : ℕ) : Prop where
  h0 : Rp 2048 1024 (at1 m k c (Proc.devRef .tc main_v86_0)) (fun i j => I.dh i j)
  h1 : Rp 2048 1024 (at1 m k c (Proc.devRef .tc main_v86_1)) (fun i j => I.hs i j)
  h2 : Rp 2048 1024 (at1 m k c (Proc.devRef .tc main_v86_2)) (fun i j => I.a i j)
  h4 : R1 1024 (at1 m k c (Proc.devRef .tc main_v86_4)) (fun j => I.ms k j)
  h5 : On (fun i => 2047 - i < k) (at1 m k c (Proc.devRef .tc main_v86_5)) (fun i j => I.lam i j * I.hs i j)
  h6 : On (fun i => 2047 - i < k) (at1 m k c (Proc.devRef .tc main_v86_6)) (fun i j => I.lam i j)

theorem inv1_step (k : ℕ) (hk : k < 2048) (h : Inv1 I m c k) : Inv1 I m c (k + 1) := by
  have hV : ∀ r : Ref sig .tc, r ∉ cond1_W → after cond1 (at1 m k c) (Proc.devRef .tc r) = at1 m k c (Proc.devRef .tc r) := fun r hr => cond1_keep hr _
  have e : at1 m (k + 1) c = afterL bodyI1 (after cond1 (at1 m k c)) := rfl
  have hc : after cond1 (at1 m k c) (Proc.devRef .tc main_v86_3) = fun _ => Scf.iv 0#32 1#32 k := by rw [hV _ (by decide +kernel), at1_ctr]
  have h0 := h.h0; have h1 := h.h1; have h2 := h.h2; have h4 := h.h4; have h5 := h.h5; have h6 := h.h6
  rw [← hV _ (by decide +kernel)] at h0 h1 h2 h4 h5 h6
  refine ⟨?_, ?_, ?_, ?_, ?_, ?_⟩ <;> rw [e]
  · rw [bodyI1_keep (by decide +kernel)]; exact h0
  · rw [bodyI1_keep (by decide +kernel)]; exact h1
  · rw [bodyI1_keep (by decide +kernel)]; exact h2
  · exact body1_4 I _ k (2047 - k) hk rfl (by omega) hc h0 h1 h2 h4
  · exact (body1_5 I _ k (2047 - k) hk rfl (by omega) hc h0 h1 h2 h4 _ (fun i => i ≤ 2047 ∧ 2047 - i < k + 1) (fun i hi => by omega) h5).weaken fun i _ _ => by omega
  · exact (body1_6 I _ k (2047 - k) hk rfl (by omega) hc h0 h1 h2 h4 _ (fun i => i ≤ 2047 ∧ 2047 - i < k + 1) (fun i hi => by omega) h6).weaken fun i _ _ => by omega

theorem inv1_all (h : Inv1 I m c 0) : ∀ k, k ≤ 2048 → Inv1 I m c k
  | 0, _ => h
  | k + 1, hk => inv1_step I m c k (by omega) (inv1_all h k (by omega))

end Cert.RefVal
-- ==== Proof.RefValue.lean ====
/- The reference's results over the reals, stretch after stretch and loop after loop. -/
module

public import proofs.«01_k».proof.Proof.RefLoop

@[expose] public section

noncomputable section

namespace Cert.RefVal

open Idealize.ShloMosaic Idealize.ShloMosaic.TcCoe Idealize.ShloMosaic.StableHlo
open Idealize.ShloMosaic.StableHlo renaming after_of_writes_sub → keep
open Cert.ReferenceIdeal Cert.ReferenceIdeal.Gen Cert.RefRun Cert.Base Cert.Spec

variable (I : In)

theorem pre_value (V : Valuation τ sig (Elt Ideal))
    (h_arg0 : Rp 2048 1024 (V (Proc.devRef .tc main_arg0)) (fun i j => I.dm i j))
    (h_arg1 : Rp 2048 2048 (V (Proc.devRef .tc main_arg1)) (fun i j => I.gb i j))
    (h_arg2 : Rp 2048 1024 (V (Proc.devRef .tc main_arg2)) (fun i j => I.rc i j))
    (h_arg3 : Rp 2048 1024 (V (Proc.devRef .tc main_arg3)) (fun i j => I.gip i j))
    (h_arg4 : Rp 2048 1024 (V (Proc.devRef .tc main_arg4)) (fun i j => I.grp i j))
    (h_arg5 : Rp 1 1024 (V (Proc.devRef .tc main_arg5)) (fun _ j => I.l j)) :
    (Rp 2048 1024 (afterL preI V (Proc.devRef .tc main_arg0)) (fun i j => I.dm i j)) ∧
    (Rp 2048 1024 (afterL preI V (Proc.devRef .tc main_arg2)) (fun i j => I.rc i j)) ∧
    (Rp 2048 1024 (afterL preI V (Proc.devRef .tc main_v0)) (fun i j => I.gb i j)) ∧
    (Rp 2048 1024 (afterL preI V (Proc.devRef .tc main_v12)) (fun i j => I.gi i j * (1 - I.gi i j))) ∧
    (Rp 2048 1024 (afterL preI V (Proc.devRef .tc main_v23)) (fun i j => I.gr i j * (1 - I.gr i j))) ∧
    (Rp 2048 1024 (afterL preI V (Proc.devRef .tc main_v25)) (fun i j => -8 * I.gr i j)) ∧
    (Rp 1 1024 (afterL preI V (Proc.devRef .tc main_v27_0)) (fun _ j => I.sp j)) ∧
    (Rp 1 1024 (afterL preI V (Proc.devRef .tc main_v27_1)) (fun _ j => sg (-I.l j))) ∧
    (Rp 2048 1024 (afterL preI V (Proc.devRef .tc main_v30)) (fun i j => I.a i j)) ∧
    (Rp 2048 1024 (afterL preI V (Proc.devRef .tc main_v34)) (fun i j => I.a i j * I.a i j)) ∧
    (Rp 2048 1024 (afterL preI V (Proc.devRef .tc main_v36)) (fun i j => I.mult i j)) ∧
    (Rp 2048 1024 (afterL preI V (Proc.devRef .tc main_v38)) (fun i j => 1 / 2 / I.mult i j)) ∧
    (Rp 2048 1024 (afterL preI V (Proc.devRef .tc main_v39)) (fun i j => I.rc i j * I.gi i j)) ∧
    (Rp 2048 1024 (afterL preI V (Proc.devRef .tc main_v44_0)) (fun i j => I.a i j)) ∧
    (Rp 2048 1024 (afterL preI V (Proc.devRef .tc main_v44_1)) (fun i j => I.u i j)) ∧
    (R1 1024 (afterL preI V (Proc.devRef .tc main_v44_3)) (fun _ => 0)) ∧
    (Rp 2048 1024 (afterL preI V (Proc.devRef .tc main_v9)) (fun i j => I.gi i j)) := by
  simp only [afterL_cons, afterL_nil]
  have p00_v0' := p00_v0 I V h_arg1
  have p00_v9' := p00_v9 I V h_arg3
  have p00_v12' := p00_v12 I V h_arg3
  have p00_v23' := p00_v23 I V h_arg4
  have p00_v25' := p00_v25 I V h_arg4
  have p00_v26' := p00_v26 I V h_arg5
  have p00k_arg0 : Rp 2048 1024 ((after p00 V) (Proc.devRef .tc main_arg0)) (fun i j => I.dm i j) := by
    rw [keep p00 _ p00_writes (by decide +kernel)]; exact h_arg0
  have p00k_arg2 : Rp 2048 1024 ((after p00 V) (Proc.devRef .tc main_arg2)) (fun i j => I.rc i j) := by
    rw [keep p00 _ p00_writes (by decide +kernel)]; exact h_arg2
  have p01_v27_0' := p01_v27_0 I (after p00 V) p00_v26'
  have p01_v27_1' := p01_v27_1 I (after p00 V) p00_v26'
  have p01k_arg0 : Rp 2048 1024 ((after p01 (after p00 V)) (Proc.devRef .tc main_arg0)) (fun i j => I.dm i j) := by
    rw [keep p01 _ p01_writes (by decide +kernel)]; exact p00k_arg0
  have p01k_arg2 : Rp 2048 1024 ((after p01 (after p00 V)) (Proc.devRef .tc main_arg2)) (fun i j => I.rc i j) := by
    rw [keep p01 _ p01_writes (by decide +kernel)]; exact p00k_arg2
  have p01k_v0 : Rp 2048 1024 ((after p01 (after p00 V)) (Proc.devRef .tc main_v0)) (fun i j => I.gb i j) := by
    rw [keep p01 _ p01_writes (by decide +kernel)]; exact p00_v0'
  have p01k_v12 : Rp 2048 1024 ((after p01 (after p00 V)) (Proc.devRef .tc main_v12)) (fun i j => I.gi i j * (1 - I.gi i j)) := by
    rw [keep p01 _ p01_writes (by decide +kernel)]; exact p00_v12'
  have p01k_v23 : Rp 2048 1024 ((after p01 (after p00 V)) (Proc.devRef .tc main_v23)) (fun i j => I.gr i j * (1 - I.gr i j)) := by
    rw [keep p01 _ p01_writes (by decide +kernel)]; exact p00_v23'
  have p01k_v25 : Rp 2048 1024 ((after p01 (after p00 V)) (Proc.devRef .tc main_v25)) (fun i j => -8 * I.gr i j) := by
    rw [keep p01 _ p01_writes (by decide +kernel)]; exact p00_v25'
  have p01k_v9 : Rp 2048 1024 ((after p01 (after p00 V)) (Proc.devRef .tc main_v9)) (fun i j => I.gi i j) := by
    rw [keep p01 _ p01_writes (by decide +kernel)]; exact p00_v9'
  have p02_v30' := p02_v30 I (after p01 (after p00 V)) p01k_v25 p01_v27_0'
  have p02_v34' := p02_v34 I (after p01 (after p00 V)) p01k_v25 p01_v27_0'
  have p02_v36' := p02_v36 I (after p01 (after p00 V)) p01k_v25 p01_v27_0'
  have p02_v38' := p02_v38 I (after p01 (after p00 V)) p01k_v25 p01_v27_0'
  have p02_v39' := p02_v39 I (after p01 (after p00 V)) p01k_arg2 p01k_v9
  have p02_v41' := p02_v41 (after p01 (after p00 V))
  have p02_v44_0' := p02_v44_0 I (after p01 (after p00 V)) p01k_v25 p01_v27_0'
  have p02_v44_1' := p02_v44_1 I (after p01 (after p00 V)) p01k_arg2 p01k_v9 p01k_v25 p01_v27_0'
  have p02k_arg0 : Rp 2048 1024 ((after p02 (after p01 (after p00 V))) (Proc.devRef .tc main_arg0)) (fun i j => I.dm i j) := by
    rw [keep p02 _ p02_writes (by decide +kernel)]; exact p01k_arg0
  have p02k_arg2 : Rp 2048 1024 ((after p02 (after p01 (after p00 V))) (Proc.devRef .tc main_arg2)) (fun i j => I.rc i j) := by
    rw [keep p02 _ p02_writes (by decide +kernel)]; exact p01k_arg2
  have p02k_v0 : Rp 2048 1024 ((after p02 (after p01 (after p00 V))) (Proc.devRef .tc main_v0)) (fun i j => I.gb i j) := by
    rw [keep p02 _ p02_writes (by decide +kernel)]; exact p01k_v0
  have p02k_v12 : Rp 2048 1024 ((after p02 (after p01 (after p00 V))) (Proc.devRef .tc main_v12)) (fun i j => I.gi i j * (1 - I.gi i j)) := by
    rw [keep p02 _ p02_writes (by decide +kernel)]; exact p01k_v12
  have p02k_v23 : Rp 2048 1024 ((after p02 (after p01 (after p00 V))) (Proc.devRef .tc main_v23)) (fun i j => I.gr i j * (1 - I.gr i j)) := by
    rw [keep p02 _ p02_writes (by decide +kernel)]; exact p01k_v23
  have p02k_v25 : Rp 2048 1024 ((after p02 (after p01 (after p00 V))) (Proc.devRef .tc main_v25)) (fun i j => -8 * I.gr i j) := by
    rw [keep p02 _ p02_writes (by decide +kernel)]; exact p01k_v25
  have p02k_v27_0 : Rp 1 1024 ((after p02 (after p01 (after p00 V))) (Proc.devRef .tc main_v27_0)) (fun _ j => I.sp j) := by
    rw [keep p02 _ p02_writes (by decide +kernel)]; exact p01_v27_0'
  have p02k_v27_1 : Rp 1 1024 ((after p02 (after p01 (after p00 V))) (Proc.devRef .tc main_v27_1)) (fun _ j => sg (-I.l j)) := by
    rw [keep p02 _ p02_writes (by decide +kernel)]; exact p01_v27_1'
  have p02k_v9 : Rp 2048 1024 ((after p02 (after p01 (after p00 V))) (Proc.devRef .tc main_v9)) (fun i j => I.gi i j) := by
    rw [keep p02 _ p02_writes (by decide +kernel)]; exact p01k_v9
  have p10_v44_3' := p10_v44_3 (after p02 (after p01 (after p00 V))) p02_v41'
  have p10k_arg0 : Rp 2048 1024 ((after p10 (after p02 (after p01 (after p00 V)))) (Proc.devRef .tc main_arg0)) (fun i j => I.dm i j) := by
    rw [keep p10 _ p10_writes (by decide +kernel)]; exact p02k_arg0
  have p10k_arg2 : Rp 2048 1024 ((after p10 (after p02 (after p01 (after p00 V)))) (Proc.devRef .tc main_arg2)) (fun i j => I.rc i j) := by
    rw [keep p10 _ p10_writes (by decide +kernel)]; exact p02k_arg2
  have p10k_v0 : Rp 2048 1024 ((after p10 (after p02 (after p01 (after p00 V)))) (Proc.devRef .tc main_v0)) (fun i j => I.gb i j) := by
    rw [keep p10 _ p10_writes (by decide +kernel)]; exact p02k_v0
  have p10k_v12 : Rp 2048 1024 ((after p10 (after p02 (after p01 (after p00 V)))) (Proc.devRef .tc main_v12)) (fun i j => I.gi i j * (1 - I.gi i j)) := by
    rw [keep p10 _ p10_writes (by decide +kernel)]; exact p02k_v12
  have p10k_v23 : Rp 2048 1024 ((after p10 (after p02 (after p01 (after p00 V)))) (Proc.devRef .tc main_v23)) (fun i j => I.gr i j * (1 - I.gr i j)) := by
    rw [keep p10 _ p10_writes (by decide +kernel)]; exact p02k_v23
  have p10k_v25 : Rp 2048 1024 ((after p10 (after p02 (after p01 (after p00 V)))) (Proc.devRef .tc main_v25)) (fun i j => -8 * I.gr i j) := by
    rw [keep p10 _ p10_writes (by decide +kernel)]; exact p02k_v25
  have p10k_v27_0 : Rp 1 1024 ((after p10 (after p02 (after p01 (after p00 V)))) (Proc.devRef .tc main_v27_0)) (fun _ j => I.sp j) := by
    rw [keep p10 _ p10_writes (by decide +kernel)]; exact p02k_v27_0
  have p10k_v27_1 : Rp 1 1024 ((after p10 (after p02 (after p01 (after p00 V)))) (Proc.devRef .tc main_v27_1)) (fun _ j => sg (-I.l j)) := by
    rw [keep p10 _ p10_writes (by decide +kernel)]; exact p02k_v27_1
  have p10k_v30 : Rp 2048 1024 ((after p10 (after p02 (after p01 (after p00 V)))) (Proc.devRef .tc main_v30)) (fun i j => I.a i j) := by
    rw [keep p10 _ p10_writes (by decide +kernel)]; exact p02_v30'
  have p10k_v34 : Rp 2048 1024 ((after p10 (after p02 (after p01 (after p00 V)))) (Proc.devRef .tc main_v34)) (fun i j => I.a i j * I.a i j) := by
    rw [keep p10 _ p10_writes (by decide +kernel)]; exact p02_v34'
  have p10k_v36 : Rp 2048 1024 ((after p10 (after p02 (after p01 (after p00 V)))) (Proc.devRef .tc main_v36)) (fun i j => I.mult i j) := by
    rw [keep p10 _ p10_writes (by decide +kernel)]; exact p02_v36'
  have p10k_v38 : Rp 2048 1024 ((after p10 (after p02 (after p01 (after p00 V)))) (Proc.devRef .tc main_v38)) (fun i j => 1 / 2 / I.mult i j) := by
    rw [keep p10 _ p10_writes (by decide +kernel)]; exact p02_v38'
  have p10k_v39 : Rp 2048 1024 ((after p10 (after p02 (after p01 (after p00 V)))) (Proc.devRef .tc main_v39)) (fun i j => I.rc i j * I.gi i j) := by
    rw [keep p10 _ p10_writes (by decide +kernel)]; exact p02_v39'
  have p10k_v44_0 : Rp 2048 1024 ((after p10 (after p02 (after p01 (after p00 V)))) (Proc.devRef .tc main_v44_0)) (fun i j => I.a i j) := by
    rw [keep p10 _ p10_writes (by decide +kernel)]; exact p02_v44_0'
  have p10k_v44_1 : Rp 2048 1024 ((after p10 (after p02 (after p01 (after p00 V)))) (Proc.devRef .tc main_v44_1)) (fun i j => I.u i j) := by
    rw [keep p10 _ p10_writes (by decide +kernel)]; exact p02_v44_1'
  have p10k_v9 : Rp 2048 1024 ((after p10 (after p02 (after p01 (after p00 V)))) (Proc.devRef .tc main_v9)) (fun i j => I.gi i j) := by
    rw [keep p10 _ p10_writes (by decide +kernel)]; exact p02k_v9
  exact ⟨p10k_arg0, p10k_arg2, p10k_v0, p10k_v12, p10k_v23, p10k_v25, p10k_v27_0, p10k_v27_1, p10k_v30, p10k_v34, p10k_v36, p10k_v38, p10k_v39, p10k_v44_0, p10k_v44_1, p10_v44_3', p10k_v9⟩

theorem mid_value (V : Valuation τ sig (Elt Ideal))
    (h_arg0 : Rp 2048 1024 (V (Proc.devRef .tc main_arg0)) (fun i j => I.dm i j))
    (h_arg2 : Rp 2048 1024 (V (Proc.devRef .tc main_arg2)) (fun i j => I.rc i j))
    (h_v0 : Rp 2048 1024 (V (Proc.devRef .tc main_v0)) (fun i j => I.gb i j))
    (h_v12 : Rp 2048 1024 (V (Proc.devRef .tc main_v12)) (fun i j => I.gi i j * (1 - I.gi i j)))
    (h_v23 : Rp 2048 1024 (V (Proc.devRef .tc main_v23)) (fun i j => I.gr i j * (1 - I.gr i j)))
    (h_v25 : Rp 2048 1024 (V (Proc.devRef .tc main_v25)) (fun i j => -8 * I.gr i j))
    (h_v27_0 : Rp 1 1024 (V (Proc.devRef .tc main_v27_0)) (fun _ j => I.sp j))
    (h_v27_1 : Rp 1 1024 (V (Proc.devRef .tc main_v27_1)) (fun _ j => sg (-I.l j)))
    (h_v30 : Rp 2048 1024 (V (Proc.devRef .tc main_v30)) (fun i j => I.a i j))
    (h_v34 : Rp 2048 1024 (V (Proc.devRef .tc main_v34)) (fun i j => I.a i j * I.a i j))
    (h_v36 : Rp 2048 1024 (V (Proc.devRef .tc main_v36)) (fun i j => I.mult i j))
    (h_v38 : Rp 2048 1024 (V (Proc.devRef .tc main_v38)) (fun i j => 1 / 2 / I.mult i j))
    (h_v39 : Rp 2048 1024 (V (Proc.devRef .tc main_v39)) (fun i j => I.rc i j * I.gi i j))
    (h_v44_4 : Rp 2048 1024 (V (Proc.devRef .tc main_v44_4)) (fun i j => I.hs (i + 1) j))
    (h_v44_5 : Rp 2048 1024 (V (Proc.devRef .tc main_v44_5)) (fun i j => I.hs i j))
    (h_v9 : Rp 2048 1024 (V (Proc.devRef .tc main_v9)) (fun i j => I.gi i j)) :
    (Rp 2048 1024 (afterL midI V (Proc.devRef .tc main_arg2)) (fun i j => I.rc i j)) ∧
    (Rp 2048 1024 (afterL midI V (Proc.devRef .tc main_v12)) (fun i j => I.gi i j * (1 - I.gi i j))) ∧
    (Rp 2048 1024 (afterL midI V (Proc.devRef .tc main_v23)) (fun i j => I.gr i j * (1 - I.gr i j))) ∧
    (Rp 2048 1024 (afterL midI V (Proc.devRef .tc main_v25)) (fun i j => -8 * I.gr i j)) ∧
    (Rp 1 1024 (afterL midI V (Proc.devRef .tc main_v27_0)) (fun _ j => I.sp j)) ∧
    (Rp 1 1024 (afterL midI V (Proc.devRef .tc main_v27_1)) (fun _ j => sg (-I.l j))) ∧
    (Rp 2048 1024 (afterL midI V (Proc.devRef .tc main_v30)) (fun i j => I.a i j)) ∧
    (Rp 2048 1024 (afterL midI V (Proc.devRef .tc main_v34)) (fun i j => I.a i j * I.a i j)) ∧
    (Rp 2048 1024 (afterL midI V (Proc.devRef .tc main_v36)) (fun i j => I.mult i j)) ∧
    (Rp 2048 1024 (afterL midI V (Proc.devRef .tc main_v38)) (fun i j => 1 / 2 / I.mult i j)) ∧
    (Rp 2048 1024 (afterL midI V (Proc.devRef .tc main_v39)) (fun i j => I.rc i j * I.gi i j)) ∧
    (Rp 2048 1024 (afterL midI V (Proc.devRef .tc main_v82)) (fun i j => I.dgb i j)) ∧
    (Rp 2048 1024 (afterL midI V (Proc.devRef .tc main_v67)) (fun i j => I.m i j)) ∧
    (Rp 2048 1024 (afterL midI V (Proc.devRef .tc main_v86_0)) (fun i j => I.dh i j)) ∧
    (Rp 2048 1024 (afterL midI V (Proc.devRef .tc main_v86_1)) (fun i j => I.hs i j)) ∧
    (Rp 2048 1024 (afterL midI V (Proc.devRef .tc main_v86_2)) (fun i j => I.a i j)) ∧
    (R1 1024 (afterL midI V (Proc.devRef .tc main_v86_4)) (fun _ => 0)) ∧
    (Rp 2048 1024 (afterL midI V (Proc.devRef .tc main_v9)) (fun i j => I.gi i j)) := by
  simp only [afterL_cons, afterL_nil]
  have p11_v69' := p11_v69 I V h_v0 h_arg0
  have p11_v82' := p11_v82 I V h_arg0 h_v44_4 h_v0
  have p11_v67' := p11_v67 I V h_v0 h_v44_4
  have p11_v83' := p11_v83 V
  have p11k_arg2 : Rp 2048 1024 ((after p11 V) (Proc.devRef .tc main_arg2)) (fun i j => I.rc i j) := by
    rw [keep p11 _ p11_writes (by decide +kernel)]; exact h_arg2
  have p11k_v12 : Rp 2048 1024 ((after p11 V) (Proc.devRef .tc main_v12)) (fun i j => I.gi i j * (1 - I.gi i j)) := by
    rw [keep p11 _ p11_writes (by decide +kernel)]; exact h_v12
  have p11k_v23 : Rp 2048 1024 ((after p11 V) (Proc.devRef .tc main_v23)) (fun i j => I.gr i j * (1 - I.gr i j)) := by
    rw [keep p11 _ p11_writes (by decide +kernel)]; exact h_v23
  have p11k_v25 : Rp 2048 1024 ((after p11 V) (Proc.devRef .tc main_v25)) (fun i j => -8 * I.gr i j) := by
    rw [keep p11 _ p11_writes (by decide +kernel)]; exact h_v25
  have p11k_v27_0 : Rp 1 1024 ((after p11 V) (Proc.devRef .tc main_v27_0)) (fun _ j => I.sp j) := by
    rw [keep p11 _ p11_writes (by decide +kernel)]; exact h_v27_0
  have p11k_v27_1 : Rp 1 1024 ((after p11 V) (Proc.devRef .tc main_v27_1)) (fun _ j => sg (-I.l j)) := by
    rw [keep p11 _ p11_writes (by decide +kernel)]; exact h_v27_1
  have p11k_v30 : Rp 2048 1024 ((after p11 V) (Proc.devRef .tc main_v30)) (fun i j => I.a i j) := by
    rw [keep p11 _ p11_writes (by decide +kernel)]; exact h_v30
  have p11k_v34 : Rp 2048 1024 ((after p11 V) (Proc.devRef .tc main_v34)) (fun i j => I.a i j * I.a i j) := by
    rw [keep p11 _ p11_writes (by decide +kernel)]; exact h_v34
  have p11k_v36 : Rp 2048 1024 ((after p11 V) (Proc.devRef .tc main_v36)) (fun i j => I.mult i j) := by
    rw [keep p11 _ p11_writes (by decide +kernel)]; exact h_v36
  have p11k_v38 : Rp 2048 1024 ((after p11 V) (Proc.devRef .tc main_v38)) (fun i j => 1 / 2 / I.mult i j) := by
    rw [keep p11 _ p11_writes (by decide +kernel)]; exact h_v38
  have p11k_v39 : Rp 2048 1024 ((after p11 V) (Proc.devRef .tc main_v39)) (fun i j => I.rc i j * I.gi i j) := by
    rw [keep p11 _ p11_writes (by decide +kernel)]; exact h_v39
  have p11k_v44_5 : Rp 2048 1024 ((after p11 V) (Proc.devRef .tc main_v44_5)) (fun i j => I.hs i j) := by
    rw [keep p11 _ p11_writes (by decide +kernel)]; exact h_v44_5
  have p11k_v9 : Rp 2048 1024 ((after p11 V) (Proc.devRef .tc main_v9)) (fun i j => I.gi i j) := by
    rw [keep p11 _ p11_writes (by decide +kernel)]; exact h_v9
  have p20_v86_0' := p20_v86_0 I (after p11 V) p11_v69'
  have p20_v86_1' := p20_v86_1 I (after p11 V) p11k_v44_5
  have p20_v86_2' := p20_v86_2 I (after p11 V) p11k_v30
  have p20_v86_4' := p20_v86_4 (after p11 V) p11_v83'
  have p20k_arg2 : Rp 2048 1024 ((after p20 (after p11 V)) (Proc.devRef .tc main_arg2)) (fun i j => I.rc i j) := by
    rw [keep p20 _ p20_writes (by decide +kernel)]; exact p11k_arg2
  have p20k_v12 : Rp 2048 1024 ((after p20 (after p11 V)) (Proc.devRef .tc main_v12)) (fun i j => I.gi i j * (1 - I.gi i j)) := by
    rw [keep p20 _ p20_writes (by decide +kernel)]; exact p11k_v12
  have p20k_v23 : Rp 2048 1024 ((after p20 (after p11 V)) (Proc.devRef .tc main_v23)) (fun i j => I.gr i j * (1 - I.gr i j)) := by
    rw [keep p20 _ p20_writes (by decide +kernel)]; exact p11k_v23
  have p20k_v25 : Rp 2048 1024 ((after p20 (after p11 V)) (Proc.devRef .tc main_v25)) (fun i j => -8 * I.gr i j) := by
    rw [keep p20 _ p20_writes (by decide +kernel)]; exact p11k_v25
  have p20k_v27_0 : Rp 1 1024 ((after p20 (after p11 V)) (Proc.devRef .tc main_v27_0)) (fun _ j => I.sp j) := by
    rw [keep p20 _ p20_writes (by decide +kernel)]; exact p11k_v27_0
  have p20k_v27_1 : Rp 1 1024 ((after p20 (after p11 V)) (Proc.devRef .tc main_v27_1)) (fun _ j => sg (-I.l j)) := by
    rw [keep p20 _ p20_writes (by decide +kernel)]; exact p11k_v27_1
  have p20k_v30 : Rp 2048 1024 ((after p20 (after p11 V)) (Proc.devRef .tc main_v30)) (fun i j => I.a i j) := by
    rw [keep p20 _ p20_writes (by decide +kernel)]; exact p11k_v30
  have p20k_v34 : Rp 2048 1024 ((after p20 (after p11 V)) (Proc.devRef .tc main_v34)) (fun i j => I.a i j * I.a i j) := by
    rw [keep p20 _ p20_writes (by decide +kernel)]; exact p11k_v34
  have p20k_v36 : Rp 2048 1024 ((after p20 (after p11 V)) (Proc.devRef .tc main_v36)) (fun i j => I.mult i j) := by
    rw [keep p20 _ p20_writes (by decide +kernel)]; exact p11k_v36
  have p20k_v38 : Rp 2048 1024 ((after p20 (after p11 V)) (Proc.devRef .tc main_v38)) (fun i j => 1 / 2 / I.mult i j) := by
    rw [keep p20 _ p20_writes (by decide +kernel)]; exact p11k_v38
  have p20k_v39 : Rp 2048 1024 ((after p20 (after p11 V)) (Proc.devRef .tc main_v39)) (fun i j => I.rc i j * I.gi i j) := by
    rw [keep p20 _ p20_writes (by decide +kernel)]; exact p11k_v39
  have p20k_v82 : Rp 2048 1024 ((after p20 (after p11 V)) (Proc.devRef .tc main_v82)) (fun i j => I.dgb i j) := by
    rw [keep p20 _ p20_writes (by decide +kernel)]; exact p11_v82'
  have p20k_v67 : Rp 2048 1024 ((after p20 (after p11 V)) (Proc.devRef .tc main_v67)) (fun i j => I.m i j) := by
    rw [keep p20 _ p20_writes (by decide +kernel)]; exact p11_v67'
  have p20k_v9 : Rp 2048 1024 ((after p20 (after p11 V)) (Proc.devRef .tc main_v9)) (fun i j => I.gi i j) := by
    rw [keep p20 _ p20_writes (by decide +kernel)]; exact p11k_v9
  exact ⟨p20k_arg2, p20k_v12, p20k_v23, p20k_v25, p20k_v27_0, p20k_v27_1, p20k_v30, p20k_v34, p20k_v36, p20k_v38, p20k_v39, p20k_v82, p20k_v67, p20_v86_0', p20_v86_1', p20_v86_2', p20_v86_4', p20k_v9⟩

theorem post_value (V : Valuation τ sig (Elt Ideal))
    (h_arg2 : Rp 2048 1024 (V (Proc.devRef .tc main_arg2)) (fun i j => I.rc i j))
    (h_v12 : Rp 2048 1024 (V (Proc.devRef .tc main_v12)) (fun i j => I.gi i j * (1 - I.gi i j)))
    (h_v23 : Rp 2048 1024 (V (Proc.devRef .tc main_v23)) (fun i j => I.gr i j * (1 - I.gr i j)))
    (h_v25 : Rp 2048 1024 (V (Proc.devRef .tc main_v25)) (fun i j => -8 * I.gr i j))
    (h_v27_0 : Rp 1 1024 (V (Proc.devRef .tc main_v27_0)) (fun _ j => I.sp j))
    (h_v27_1 : Rp 1 1024 (V (Proc.devRef .tc main_v27_1)) (fun _ j => sg (-I.l j)))
    (h_v30 : Rp 2048 1024 (V (Proc.devRef .tc main_v30)) (fun i j => I.a i j))
    (h_v34 : Rp 2048 1024 (V (Proc.devRef .tc main_v34)) (fun i j => I.a i j * I.a i j))
    (h_v36 : Rp 2048 1024 (V (Proc.devRef .tc main_v36)) (fun i j => I.mult i j))
    (h_v38 : Rp 2048 1024 (V (Proc.devRef .tc main_v38)) (fun i j => 1 / 2 / I.mult i j))
    (h_v39 : Rp 2048 1024 (V (Proc.devRef .tc main_v39)) (fun i j => I.rc i j * I.gi i j))
    (h_v82 : Rp 2048 1024 (V (Proc.devRef .tc main_v82)) (fun i j => I.dgb i j))
    (h_v67 : Rp 2048 1024 (V (Proc.devRef .tc main_v67)) (fun i j => I.m i j))
    (h_v86_5 : Rp 2048 1024 (V (Proc.devRef .tc main_v86_5)) (fun i j => I.lam i j * I.hs i j))
    (h_v86_6 : Rp 2048 1024 (V (Proc.devRef .tc main_v86_6)) (fun i j => I.lam i j))
    (h_v9 : Rp 2048 1024 (V (Proc.devRef .tc main_v9)) (fun i j => I.gi i j)) :
    (Rp 1 1024 (afterL postI V (Proc.devRef .tc main_v104)) (fun _ j => I.dl j)) ∧
    (Rp 1 1024 (afterL postI V (Proc.devRef .tc main_v109)) (fun _ j => I.dbr j)) ∧
    (Rp 1 1024 (afterL postI V (Proc.devRef .tc main_v112)) (fun _ j => I.dbi j)) ∧
    (Rp 2048 1024 (afterL postI V (Proc.devRef .tc main_v113)) (fun i j => I.dgb i j)) ∧
    (Rp 2048 1024 (afterL postI V (Proc.devRef .tc main_v114)) (fun i j => I.dgi i j)) ∧
    (Rp 2048 1024 (afterL postI V (Proc.devRef .tc main_v115)) (fun i j => I.dgr i j)) ∧
    (Rp 2048 1024 (afterL postI V (Proc.devRef .tc main_v116)) (fun i j => I.m i j)) ∧
    (Rp 2048 1024 (afterL postI V (Proc.devRef .tc main_v90)) (fun i j => I.drc i j)) := by
  simp only [afterL_cons, afterL_nil]
  have p21_v89' := p21_v89 I V h_arg2 h_v86_6 h_v36
  have p21_v90' := p21_v90 I V h_v86_6 h_v36 h_v9
  have p21_v100' := p21_v100 I V h_v25 h_v39 h_v86_6 h_v38 h_v34 h_v86_5 h_v30
  have p21_v102' := p21_v102 I V h_v39 h_v86_6 h_v38 h_v34 h_v86_5 h_v30 h_v27_0
  have p21k_v12 : Rp 2048 1024 ((after p21 V) (Proc.devRef .tc main_v12)) (fun i j => I.gi i j * (1 - I.gi i j)) := by
    rw [keep p21 _ p21_writes (by decide +kernel)]; exact h_v12
  have p21k_v23 : Rp 2048 1024 ((after p21 V) (Proc.devRef .tc main_v23)) (fun i j => I.gr i j * (1 - I.gr i j)) := by
    rw [keep p21 _ p21_writes (by decide +kernel)]; exact h_v23
  have p21k_v27_1 : Rp 1 1024 ((after p21 V) (Proc.devRef .tc main_v27_1)) (fun _ j => sg (-I.l j)) := by
    rw [keep p21 _ p21_writes (by decide +kernel)]; exact h_v27_1
  have p21k_v82 : Rp 2048 1024 ((after p21 V) (Proc.devRef .tc main_v82)) (fun i j => I.dgb i j) := by
    rw [keep p21 _ p21_writes (by decide +kernel)]; exact h_v82
  have p21k_v67 : Rp 2048 1024 ((after p21 V) (Proc.devRef .tc main_v67)) (fun i j => I.m i j) := by
    rw [keep p21 _ p21_writes (by decide +kernel)]; exact h_v67
  have p22_v103' := p22_v103 I (after p21 V) p21_v100' p21k_v27_1
  have p22k_v102 : Rp 2048 1024 ((after p22 (after p21 V)) (Proc.devRef .tc main_v102)) (fun i j => I.dla i j * I.sp j) := by
    rw [keep p22 _ p22_writes (by decide +kernel)]; exact p21_v102'
  have p22k_v12 : Rp 2048 1024 ((after p22 (after p21 V)) (Proc.devRef .tc main_v12)) (fun i j => I.gi i j * (1 - I.gi i j)) := by
    rw [keep p22 _ p22_writes (by decide +kernel)]; exact p21k_v12
  have p22k_v23 : Rp 2048 1024 ((after p22 (after p21 V)) (Proc.devRef .tc main_v23)) (fun i j => I.gr i j * (1 - I.gr i j)) := by
    rw [keep p22 _ p22_writes (by decide +kernel)]; exact p21k_v23
  have p22k_v82 : Rp 2048 1024 ((after p22 (after p21 V)) (Proc.devRef .tc main_v82)) (fun i j => I.dgb i j) := by
    rw [keep p22 _ p22_writes (by decide +kernel)]; exact p21k_v82
  have p22k_v67 : Rp 2048 1024 ((after p22 (after p21 V)) (Proc.devRef .tc main_v67)) (fun i j => I.m i j) := by
    rw [keep p22 _ p22_writes (by decide +kernel)]; exact p21k_v67
  have p22k_v89 : Rp 2048 1024 ((after p22 (after p21 V)) (Proc.devRef .tc main_v89)) (fun i j => I.rc i j * (I.lam i j * I.mult i j)) := by
    rw [keep p22 _ p22_writes (by decide +kernel)]; exact p21_v89'
  have p22k_v90 : Rp 2048 1024 ((after p22 (after p21 V)) (Proc.devRef .tc main_v90)) (fun i j => I.drc i j) := by
    rw [keep p22 _ p22_writes (by decide +kernel)]; exact p21_v90'
  have p23_v104' := p23_v104 I (after p22 (after p21 V)) p22_v103'
  have p23_v109' := p23_v109 I (after p22 (after p21 V)) p22k_v102 p22k_v23
  have p23_v112' := p23_v112 I (after p22 (after p21 V)) p22k_v89 p22k_v12
  have p23_v113' := p23_v113 I (after p22 (after p21 V)) p22k_v82
  have p23_v114' := p23_v114 I (after p22 (after p21 V)) p22k_v89 p22k_v12
  have p23_v115' := p23_v115 I (after p22 (after p21 V)) p22k_v102 p22k_v23
  have p23_v116' := p23_v116 I (after p22 (after p21 V)) p22k_v67
  have p23k_v90 : Rp 2048 1024 ((after p23 (after p22 (after p21 V))) (Proc.devRef .tc main_v90)) (fun i j => I.drc i j) := by
    rw [keep p23 _ p23_writes (by decide +kernel)]; exact p22k_v90
  exact ⟨p23_v104', p23_v109', p23_v112', p23_v113', p23_v114', p23_v115', p23_v116', p23k_v90⟩

variable (m : (b : Loc nD τ sig) → b.ty.Contents (Elt Ideal)) (c : Dev nD)

theorem out0_keep {r : Ref sig .tc} (hc : r ∉ cond0_W) (hb : ∀ W ∈ bodyI0_Ws, r ∉ W) : out0 m c (Proc.devRef .tc r) = in0 m c (Proc.devRef .tc r) := by
  rw [out0, cond0_keep hc, at0, atTrip_keep (in0 m) (cond0_keep hc) (bodyI0_keep hb)]

theorem out1_keep {r : Ref sig .tc} (hc : r ∉ cond1_W) (hb : ∀ W ∈ bodyI1_Ws, r ∉ W) : out1 m c (Proc.devRef .tc r) = in1 m c (Proc.devRef .tc r) := by
  rw [out1, cond1_keep hc, at1, atTrip_keep (in1 m) (cond1_keep hc) (bodyI1_keep hb)]

/-- The reference's eight results over the reals. -/
theorem end_value
    (h_arg0 : Rp 2048 1024 (launchContents m c (Proc.devRef .tc main_arg0)) (fun i j => I.dm i j))
    (h_arg1 : Rp 2048 2048 (launchContents m c (Proc.devRef .tc main_arg1)) (fun i j => I.gb i j))
    (h_arg2 : Rp 2048 1024 (launchContents m c (Proc.devRef .tc main_arg2)) (fun i j => I.rc i j))
    (h_arg3 : Rp 2048 1024 (launchContents m c (Proc.devRef .tc main_arg3)) (fun i j => I.gip i j))
    (h_arg4 : Rp 2048 1024 (launchContents m c (Proc.devRef .tc main_arg4)) (fun i j => I.grp i j))
    (h_arg5 : Rp 1 1024 (launchContents m c (Proc.devRef .tc main_arg5)) (fun _ j => I.l j)) :
    (Rp 2048 1024 (endV m c (Proc.devRef .tc main_v113)) (fun i j => I.dgb i j)) ∧
    (Rp 2048 1024 (endV m c (Proc.devRef .tc main_v114)) (fun i j => I.dgi i j)) ∧
    (Rp 2048 1024 (endV m c (Proc.devRef .tc main_v115)) (fun i j => I.dgr i j)) ∧
    (Rp 2048 1024 (endV m c (Proc.devRef .tc main_v90)) (fun i j => I.drc i j)) ∧
    (Rp 1 1024 (endV m c (Proc.devRef .tc main_v112)) (fun _ j => I.dbi j)) ∧
    (Rp 1 1024 (endV m c (Proc.devRef .tc main_v109)) (fun _ j => I.dbr j)) ∧
    (Rp 1 1024 (endV m c (Proc.devRef .tc main_v104)) (fun _ j => I.dl j)) ∧
    (Rp 2048 1024 (endV m c (Proc.devRef .tc main_v116)) (fun i j => I.m i j)) := by
  obtain ⟨i_arg0, i_arg2, i_v0, i_v12, i_v23, i_v25, i_v27_0, i_v27_1, i_v30, i_v34, i_v36, i_v38, i_v39, i_v44_0, i_v44_1, i_v44_3, i_v9⟩ := pre_value I (launchContents m c) h_arg0 h_arg1 h_arg2 h_arg3 h_arg4 h_arg5
  have v0 : Inv0 I m c 2048 := inv0_all I m c ⟨i_v44_0, i_v44_1, i_v44_3, fun i j h => absurd h (by omega), fun i j h => absurd h (by omega)⟩ 2048 le_rfl
  have o_v44_4 : Rp 2048 1024 (out0 m c (Proc.devRef .tc main_v44_4)) (fun i j => I.hs (i + 1) j) := by
    rw [out0, cond0_keep (by decide +kernel)]; exact v0.h4.full fun i hi => hi
  have o_v44_5 : Rp 2048 1024 (out0 m c (Proc.devRef .tc main_v44_5)) (fun i j => I.hs i j) := by
    rw [out0, cond0_keep (by decide +kernel)]; exact v0.h5.full fun i hi => hi
  have o_arg0 : Rp 2048 1024 (out0 m c (Proc.devRef .tc main_arg0)) (fun i j => I.dm i j) := by
    rw [out0_keep m c (by decide +kernel) (by decide +kernel)]; exact i_arg0
  have o_arg2 : Rp 2048 1024 (out0 m c (Proc.devRef .tc main_arg2)) (fun i j => I.rc i j) := by
    rw [out0_keep m c (by decide +kernel) (by decide +kernel)]; exact i_arg2
  have o_v0 : Rp 2048 1024 (out0 m c (Proc.devRef .tc main_v0)) (fun i j => I.gb i j) := by
    rw [out0_keep m c (by decide +kernel) (by decide +kernel)]; exact i_v0
  have o_v12 : Rp 2048 1024 (out0 m c (Proc.devRef .tc main_v12)) (fun i j => I.gi i j * (1 - I.gi i j)) := by
    rw [out0_keep m c (by decide +kernel) (by decide +kernel)]; exact i_v12
  have o_v23 : Rp 2048 1024 (out0 m c (Proc.devRef .tc main_v23)) (fun i j => I.gr i j * (1 - I.gr i j)) := by
    rw [out0_keep m c (by decide +kernel) (by decide +kernel)]; exact i_v23
  have o_v25 : Rp 2048 1024 (out0 m c (Proc.devRef .tc main_v25)) (fun i j => -8 * I.gr i j) := by
    rw [out0_keep m c (by decide +kernel) (by decide +kernel)]; exact i_v25
  have o_v27_0 : Rp 1 1024 (out0 m c (Proc.devRef .tc main_v27_0)) (fun _ j => I.sp j) := by
    rw [out0_keep m c (by decide +kernel) (by decide +kernel)]; exact i_v27_0
  have o_v27_1 : Rp 1 1024 (out0 m c (Proc.devRef .tc main_v27_1)) (fun _ j => sg (-I.l j)) := by
    rw [out0_keep m c (by decide +kernel) (by decide +kernel)]; exact i_v27_1
  have o_v30 : Rp 2048 1024 (out0 m c (Proc.devRef .tc main_v30)) (fun i j => I.a i j) := by
    rw [out0_keep m c (by decide +kernel) (by decide +kernel)]; exact i_v30
  have o_v34 : Rp 2048 1024 (out0 m c (Proc.devRef .tc main_v34)) (fun i j => I.a i j * I.a i j) := by
    rw [out0_keep m c (by decide +kernel) (by decide +kernel)]; exact i_v34
  have o_v36 : Rp 2048 1024 (out0 m c (Proc.devRef .tc main_v36)) (fun i j => I.mult i j) := by
    rw [out0_keep m c (by decide +kernel) (by decide +kernel)]; exact i_v36
  have o_v38 : Rp 2048 1024 (out0 m c (Proc.devRef .tc main_v38)) (fun i j => 1 / 2 / I.mult i j) := by
    rw [out0_keep m c (by decide +kernel) (by decide +kernel)]; exact i_v38
  have o_v39 : Rp 2048 1024 (out0 m c (Proc.devRef .tc main_v39)) (fun i j => I.rc i j * I.gi i j) := by
    rw [out0_keep m c (by decide +kernel) (by decide +kernel)]; exact i_v39
  have o_v9 : Rp 2048 1024 (out0 m c (Proc.devRef .tc main_v9)) (fun i j => I.gi i j) := by
    rw [out0_keep m c (by decide +kernel) (by decide +kernel)]; exact i_v9
  obtain ⟨j_arg2, j_v12, j_v23, j_v25, j_v27_0, j_v27_1, j_v30, j_v34, j_v36, j_v38, j_v39, j_v82, j_v67, j_v86_0, j_v86_1, j_v86_2, j_v86_4, j_v9⟩ := mid_value I (out0 m c) o_arg0 o_arg2 o_v0 o_v12 o_v23 o_v25 o_v27_0 o_v27_1 o_v30 o_v34 o_v36 o_v38 o_v39 o_v44_4 o_v44_5 o_v9
  have v1 : Inv1 I m c 2048 := inv1_all I m c ⟨j_v86_0, j_v86_1, j_v86_2, j_v86_4, fun i j h => absurd h (by omega), fun i j h => absurd h (by omega)⟩ 2048 le_rfl
  have q_v86_5 : Rp 2048 1024 (out1 m c (Proc.devRef .tc main_v86_5)) (fun i j => I.lam i j * I.hs i j) := by
    rw [out1, cond1_keep (by decide +kernel)]; exact v1.h5.full fun i hi => by omega
  have q_v86_6 : Rp 2048 1024 (out1 m c (Proc.devRef .tc main_v86_6)) (fun i j => I.lam i j) := by
    rw [out1, cond1_keep (by decide +kernel)]; exact v1.h6.full fun i hi => by omega
  have q_arg2 : Rp 2048 1024 (out1 m c (Proc.devRef .tc main_arg2)) (fun i j => I.rc i j) := by
    rw [out1_keep m c (by decide +kernel) (by decide +kernel)]; exact j_arg2
  have q_v12 : Rp 2048 1024 (out1 m c (Proc.devRef .tc main_v12)) (fun i j => I.gi i j * (1 - I.gi i j)) := by
    rw [out1_keep m c (by decide +kernel) (by decide +kernel)]; exact j_v12
  have q_v23 : Rp 2048 1024 (out1 m c (Proc.devRef .tc main_v23)) (fun i j => I.gr i j * (1 - I.gr i j)) := by
    rw [out1_keep m c (by decide +kernel) (by decide +kernel)]; exact j_v23
  have q_v25 : Rp 2048 1024 (out1 m c (Proc.devRef .tc main_v25)) (fun i j => -8 * I.gr i j) := by
    rw [out1_keep m c (by decide +kernel) (by decide +kernel)]; exact j_v25
  have q_v27_0 : Rp 1 1024 (out1 m c (Proc.devRef .tc main_v27_0)) (fun _ j => I.sp j) := by
    rw [out1_keep m c (by decide +kernel) (by decide +kernel)]; exact j_v27_0
  have q_v27_1 : Rp 1 1024 (out1 m c (Proc.devRef .tc main_v27_1)) (fun _ j => sg (-I.l j)) := by
    rw [out1_keep m c (by decide +kernel) (by decide +kernel)]; exact j_v27_1
  have q_v30 : Rp 2048 1024 (out1 m c (Proc.devRef .tc main_v30)) (fun i j => I.a i j) := by
    rw [out1_keep m c (by decide +kernel) (by decide +kernel)]; exact j_v30
  have q_v34 : Rp 2048 1024 (out1 m c (Proc.devRef .tc main_v34)) (fun i j => I.a i j * I.a i j) := by
    rw [out1_keep m c (by decide +kernel) (by decide +kernel)]; exact j_v34
  have q_v36 : Rp 2048 1024 (out1 m c (Proc.devRef .tc main_v36)) (fun i j => I.mult i j) := by
    rw [out1_keep m c (by decide +kernel) (by decide +kernel)]; exact j_v36
  have q_v38 : Rp 2048 1024 (out1 m c (Proc.devRef .tc main_v38)) (fun i j => 1 / 2 / I.mult i j) := by
    rw [out1_keep m c (by decide +kernel) (by decide +kernel)]; exact j_v38
  have q_v39 : Rp 2048 1024 (out1 m c (Proc.devRef .tc main_v39)) (fun i j => I.rc i j * I.gi i j) := by
    rw [out1_keep m c (by decide +kernel) (by decide +kernel)]; exact j_v39
  have q_v82 : Rp 2048 1024 (out1 m c (Proc.devRef .tc main_v82)) (fun i j => I.dgb i j) := by
    rw [out1_keep m c (by decide +kernel) (by decide +kernel)]; exact j_v82
  have q_v67 : Rp 2048 1024 (out1 m c (Proc.devRef .tc main_v67)) (fun i j => I.m i j) := by
    rw [out1_keep m c (by decide +kernel) (by decide +kernel)]; exact j_v67
  have q_v9 : Rp 2048 1024 (out1 m c (Proc.devRef .tc main_v9)) (fun i j => I.gi i j) := by
    rw [out1_keep m c (by decide +kernel) (by decide +kernel)]; exact j_v9
  obtain ⟨e_v104, e_v109, e_v112, e_v113, e_v114, e_v115, e_v116, e_v90⟩ := post_value I (out1 m c) q_arg2 q_v12 q_v23 q_v25 q_v27_0 q_v27_1 q_v30 q_v34 q_v36 q_v38 q_v39 q_v82 q_v67 q_v86_5 q_v86_6 q_v9
  exact ⟨e_v113, e_v114, e_v115, e_v90, e_v112, e_v109, e_v104, e_v116⟩

end Cert.RefVal
-- ==== Proof.Finite.lean ====
/- What the precondition states: every entry of every argument is a real number. -/
module

public import proofs.«01_k».proof.Pre_pre
public import proofs.«01_k».proof.Proof.Base
public import Idealize.ShloMosaic.Lib.ReduceAll

@[expose] public section

noncomputable section

namespace Cert.Finite

open Idealize.ShloMosaic Cert.Base Cert.Pre_pre Cert.Pre_pre.Facts

instance : Subsingleton S_.Idx := ⟨fun a b => funext fun k => k.elim0⟩

/-- An extended real whose absolute value is below the top is a real. -/
theorem real_of_abs (x : EReal) (h : FloatOps.cmpf (F := Ideal) (φ := .f32) .olt (FloatOps.absf (F := Ideal) (φ := .f32) x) (Ideal.ofBits .f32 0x7F800000#32) = 1#1) :
    x = ((x.toReal : ℝ) : EReal) := by
  have hx : max x (-x) < (⊤ : EReal) := by
    have ht : Ideal.ofBits .f32 0x7F800000#32 = (⊤ : EReal) := by simp [Ideal.ofBits, Ideal.ieee]
    rw [ht] at h
    by_contra hn
    have : FloatOps.cmpf (F := Ideal) (φ := .f32) .olt (FloatOps.absf (F := Ideal) (φ := .f32) x) (⊤ : EReal) = 0#1 := by
      show BitVec.ofBool (decide (max x (-x) < (⊤ : EReal))) = 0#1
      rw [decide_eq_false hn]; rfl
    rw [this] at h
    exact absurd h (by decide)
  induction x using EReal.rec with
  | bot => exact absurd hx (by simp)
  | top => exact absurd hx (by simp)
  | coe r => rfl

/-- The real function an array of reals is. -/
def re {M N : ℕ} (v : (⟨2, ![M, N]⟩ : Shape).Idx → EReal) (i j : ℕ) : ℝ :=
  if h : i < M ∧ j < N then (v (ix2 ⟨i, h.1⟩ ⟨j, h.2⟩)).toReal else 0

theorem re_Rp {M N : ℕ} {v : (⟨2, ![M, N]⟩ : Shape).Idx → EReal} (h : ∀ y, v y = (((v y).toReal : ℝ) : EReal)) : Rp M N v (fun i j => re v i j) := fun i j => by
  refine (h _).trans (congrArg (fun x : ℝ => (x : EReal)) ?_)
  show _ = re v i j
  unfold re
  rw [dif_pos ⟨i.isLt, j.isLt⟩]

variable [Facts]

theorem finite (a0 : FVec Ideal S2048x1024 .f32) (a1 : FVec Ideal S2048x2048 .f32) (a2 a3 a4 : FVec Ideal S2048x1024 .f32) (a5 : FVec Ideal S1x1024 .f32)
    (h : fn (F := Ideal) a0 a1 a2 a3 a4 a5 = fun _ => 1#1) :
    (∀ y, a0 y = (((a0 y).toReal : ℝ) : EReal)) ∧ (∀ y, a1 y = (((a1 y).toReal : ℝ) : EReal)) ∧ (∀ y, a2 y = (((a2 y).toReal : ℝ) : EReal)) ∧
      (∀ y, a3 y = (((a3 y).toReal : ℝ) : EReal)) ∧ (∀ y, a4 y = (((a4 y).toReal : ℝ) : EReal)) ∧ (∀ y, a5 y = (((a5 y).toReal : ℝ) : EReal)) := by
  have e := congrFun h (fun k => k.elim0)
  unfold fn fn_part1 at e
  dsimp only at e
  have s : ∀ (p q : IVec S_ 1) (j : S_.Idx), andi p q j = 1#1 → p j = 1#1 ∧ q j = 1#1 := fun p q j hj => by
    have : ∀ x y : BitVec 1, x &&& y = 1#1 → x = 1#1 ∧ y = 1#1 := by decide
    exact this _ _ hj
  obtain ⟨e, e5⟩ := s _ _ _ e
  obtain ⟨e, e4⟩ := s _ _ _ e
  obtain ⟨e, e3⟩ := s _ _ _ e
  obtain ⟨e, e2⟩ := s _ _ _ e
  obtain ⟨e0, e1⟩ := s _ _ _ e
  exact ⟨fun y => real_of_abs _ (Host.reduce_andi_all _ _ _ _ _ e0 y), fun y => real_of_abs _ (Host.reduce_andi_all _ _ _ _ _ e1 y),
    fun y => real_of_abs _ (Host.reduce_andi_all _ _ _ _ _ e2 y), fun y => real_of_abs _ (Host.reduce_andi_all _ _ _ _ _ e3 y),
    fun y => real_of_abs _ (Host.reduce_andi_all _ _ _ _ _ e4 y), fun y => real_of_abs _ (Host.reduce_andi_all _ _ _ _ _ e5 y)⟩

end Cert.Finite
-- ==== Proof.Algebraic.lean ====
/- Both programs' results are the same real arrays. -/
module

public import proofs.«01_k».proof.Defs
public import proofs.«01_k».proof.Proof.Ker1Arr
public import proofs.«01_k».proof.Proof.KerRun
public import proofs.«01_k».proof.Proof.RefValue
public import proofs.«01_k».proof.Proof.Finite

@[expose] public section

noncomputable section

namespace Cert.Algebraic

open Idealize.ShloMosaic Idealize.ShloMosaic.TcCoe Idealize.SL.Sem Cert.Base Cert.Spec Cert.Finite

theorem preFacts : Cert.Pre_pre.Facts where
  bcast_S_S2048x1024 := by decide
  reducesTo_S2048x1024_S_d0_1 := by decide
  h_S_ := by decide
  bcast_S_S2048x2048 := by decide
  reducesTo_S2048x2048_S_d0_1 := by decide
  bcast_S_S1x1024 := by decide
  reducesTo_S1x1024_S_d0_1 := by decide

theorem row_Rp {N : ℕ} {v : (⟨2, ![1, N]⟩ : Shape).Idx → EReal} (h : ∀ y, v y = (((v y).toReal : ℝ) : EReal)) : Rp 1 N v (fun _ j => re v 0 j) := fun i j => by
  have e : ∀ k : Fin 1, (k : ℕ) = 0 := fun k => by omega
  refine (re_Rp h i j).trans ?_
  show ((re v i j : ℝ) : EReal) = ((re v 0 j : ℝ) : EReal)
  rw [e i]

/-- Two arrays with the same real entries are one array. -/
theorem eq_of_Rp {M N : ℕ} {a b : (⟨2, ![M, N]⟩ : Shape).Idx → EReal} {f : ℕ → ℕ → ℝ} (ha : Rp M N a f) (hb : Rp M N b f) : a = b := funext fun y =>
  (ha.at y).trans (hb.at y).symm

/-- The real operands a core's memory holds. -/
def inOf (m : (ℓ : Loc KernelIdeal.nD KernelIdeal.τ KernelIdeal.sig) → Buf (Elt Ideal) ℓ) (c : Dev KernelIdeal.nD) : In where
  dm := re (M := 2048) (N := 1024) (m ((c.tc : Thread KernelIdeal.nD KernelIdeal.τ).loc KernelIdeal.main_arg0))
  gb := re (M := 2048) (N := 2048) (m ((c.tc : Thread KernelIdeal.nD KernelIdeal.τ).loc KernelIdeal.main_arg1))
  rc := re (M := 2048) (N := 1024) (m ((c.tc : Thread KernelIdeal.nD KernelIdeal.τ).loc KernelIdeal.main_arg2))
  gip := re (M := 2048) (N := 1024) (m ((c.tc : Thread KernelIdeal.nD KernelIdeal.τ).loc KernelIdeal.main_arg3))
  grp := re (M := 2048) (N := 1024) (m ((c.tc : Thread KernelIdeal.nD KernelIdeal.τ).loc KernelIdeal.main_arg4))
  l := re (M := 1) (N := 1024) (m ((c.tc : Thread KernelIdeal.nD KernelIdeal.τ).loc KernelIdeal.main_arg5)) 0

/-- The arguments of a core hold its operands. -/
structure Held (I : In) (m : (ℓ : Loc KernelIdeal.nD KernelIdeal.τ KernelIdeal.sig) → Buf (Elt Ideal) ℓ) (c : Dev KernelIdeal.nD) : Prop where
  dm : Rp 2048 1024 (m ((c.tc : Thread KernelIdeal.nD KernelIdeal.τ).loc KernelIdeal.main_arg0)) (fun i j => I.dm i j)
  gb : Rp 2048 2048 (m ((c.tc : Thread KernelIdeal.nD KernelIdeal.τ).loc KernelIdeal.main_arg1)) (fun i j => I.gb i j)
  rc : Rp 2048 1024 (m ((c.tc : Thread KernelIdeal.nD KernelIdeal.τ).loc KernelIdeal.main_arg2)) (fun i j => I.rc i j)
  gip : Rp 2048 1024 (m ((c.tc : Thread KernelIdeal.nD KernelIdeal.τ).loc KernelIdeal.main_arg3)) (fun i j => I.gip i j)
  grp : Rp 2048 1024 (m ((c.tc : Thread KernelIdeal.nD KernelIdeal.τ).loc KernelIdeal.main_arg4)) (fun i j => I.grp i j)
  l : Rp 1 1024 (m ((c.tc : Thread KernelIdeal.nD KernelIdeal.τ).loc KernelIdeal.main_arg5)) (fun _ j => I.l j)

theorem held (m : (ℓ : Loc KernelIdeal.nD KernelIdeal.τ KernelIdeal.sig) → Buf (Elt Ideal) ℓ) (h : Pre_KernelIdeal_pre (hPre_pre := preFacts) m) (c : Dev KernelIdeal.nD) : Held (inOf m c) m c := by
  obtain ⟨h0, h1, h2, h3, h4, h5⟩ := @finite preFacts _ _ _ _ _ _ (h c)
  exact ⟨re_Rp h0, re_Rp h1, re_Rp h2, re_Rp h3, re_Rp h4, row_Rp h5⟩

section
open Cert.KernelIdeal KernelIdeal.Gen Cert.KerVal

theorem ins (m : (ℓ : Loc nD τ sig) → Buf (Elt Ideal) ℓ) (ρ : Dev nD → PrngReg) (c : Dev nD) (I : In) (h : Held I m c) : Ins I (V1 m ρ) c := by
  have e : ∀ a ∈ argRefs, V1 m ρ c a = m ((c : Thread nD τ).loc a) := fun a ha => W1_args m ρ c a ha
  have e0 := e main_arg0 (by decide)
  have e1 := e main_arg1 (by decide)
  have e2 := e main_arg2 (by decide)
  have e3 := e main_arg3 (by decide)
  have e4 := e main_arg4 (by decide)
  have e5 := e main_arg5 (by decide)
  refine ⟨?_, ?_, ?_, ?_, ?_, ?_, ?_⟩
  · rw [e0]; exact h.dm
  · rw [e1]; exact h.gb
  · have e6 : V1 m ρ c main_v0_0 = (dat0 (V0 m ρ) c).arrAt 5 cfg0.N := W1_arr m ρ c 5
    rw [e6]; exact arr0 c I h.gb h.rc h.gip h.grp h.l
  · rw [e2]; exact h.rc
  · rw [e3]; exact h.gip
  · rw [e4]; exact h.grp
  · rw [e5]; exact h.l

theorem ker_dgb (m : (ℓ : Loc nD τ sig) → Buf (Elt Ideal) ℓ) (ρ : Dev nD → PrngReg) (c : Dev nD) (I : In) (h : Held I m c) :
    Rp 2048 1024 (W2 m ρ c (Proc.devRef .tc main_v1_0)) (fun i j => I.dgb i j) := by
  have e : W2 m ρ c (Proc.devRef .tc main_v1_0) = (dat1 (V1 m ρ) c).arrAt 7 cfg1.N := W2_arr m ρ c 7
  rw [e]; exact arr1_dgb (ins m ρ c I h)

theorem ker_m (m : (ℓ : Loc nD τ sig) → Buf (Elt Ideal) ℓ) (ρ : Dev nD → PrngReg) (c : Dev nD) (I : In) (h : Held I m c) :
    Rp 2048 1024 (W2 m ρ c (Proc.devRef .tc main_v0_1)) (fun i j => I.m i j) := by
  have e : W1 m ρ c (Proc.devRef .tc main_v0_1) = (dat0 (V0 m ρ) c).arrAt 6 cfg0.N := W1_arr m ρ c 6
  rw [W2_of m ρ c main_v0_1 (by decide +kernel), e]; exact arr0_m c I h.gb h.rc h.gip h.grp h.l

theorem ker_dgi (m : (ℓ : Loc nD τ sig) → Buf (Elt Ideal) ℓ) (ρ : Dev nD → PrngReg) (c : Dev nD) (I : In) (h : Held I m c) :
    Rp 2048 1024 (W2 m ρ c (Proc.devRef .tc main_v1_1)) (fun i j => I.dgi i j) := by
  have e : W2 m ρ c (Proc.devRef .tc main_v1_1) = (dat1 (V1 m ρ) c).arrAt 8 cfg1.N := W2_arr m ρ c 8
  rw [e]; exact arr1_dgi (ins m ρ c I h)

theorem ker_dgr (m : (ℓ : Loc nD τ sig) → Buf (Elt Ideal) ℓ) (ρ : Dev nD → PrngReg) (c : Dev nD) (I : In) (h : Held I m c) :
    Rp 2048 1024 (W2 m ρ c (Proc.devRef .tc main_v1_2)) (fun i j => I.dgr i j) := by
  have e : W2 m ρ c (Proc.devRef .tc main_v1_2) = (dat1 (V1 m ρ) c).arrAt 9 cfg1.N := W2_arr m ρ c 9
  rw [e]; exact arr1_dgr (ins m ρ c I h)

theorem ker_drc (m : (ℓ : Loc nD τ sig) → Buf (Elt Ideal) ℓ) (ρ : Dev nD → PrngReg) (c : Dev nD) (I : In) (h : Held I m c) :
    Rp 2048 1024 (W2 m ρ c (Proc.devRef .tc main_v1_3)) (fun i j => I.drc i j) := by
  have e : W2 m ρ c (Proc.devRef .tc main_v1_3) = (dat1 (V1 m ρ) c).arrAt 10 cfg1.N := W2_arr m ρ c 10
  rw [e]; exact arr1_drc (ins m ρ c I h)

theorem ker_dbi (m : (ℓ : Loc nD τ sig) → Buf (Elt Ideal) ℓ) (ρ : Dev nD → PrngReg) (c : Dev nD) (I : In) (h : Held I m c) :
    Rp 1 1024 (W2 m ρ c (Proc.devRef .tc main_v1_4)) (fun _ j => I.dbi j) := by
  have e : W2 m ρ c (Proc.devRef .tc main_v1_4) = (dat1 (V1 m ρ) c).arrAt 11 cfg1.N := W2_arr m ρ c 11
  rw [e]; exact arr1_dbi (ins m ρ c I h)

theorem ker_dbr (m : (ℓ : Loc nD τ sig) → Buf (Elt Ideal) ℓ) (ρ : Dev nD → PrngReg) (c : Dev nD) (I : In) (h : Held I m c) :
    Rp 1 1024 (W2 m ρ c (Proc.devRef .tc main_v1_5)) (fun _ j => I.dbr j) := by
  have e : W2 m ρ c (Proc.devRef .tc main_v1_5) = (dat1 (V1 m ρ) c).arrAt 12 cfg1.N := W2_arr m ρ c 12
  rw [e]; exact arr1_dbr (ins m ρ c I h)

theorem ker_dl (m : (ℓ : Loc nD τ sig) → Buf (Elt Ideal) ℓ) (ρ : Dev nD → PrngReg) (c : Dev nD) (I : In) (h : Held I m c) :
    Rp 1 1024 (W2 m ρ c (Proc.devRef .tc main_v1_6)) (fun _ j => I.dl j) := by
  have e : W2 m ρ c (Proc.devRef .tc main_v1_6) = (dat1 (V1 m ρ) c).arrAt 13 cfg1.N := W2_arr m ρ c 13
  rw [e]; exact arr1_dl (ins m ρ c I h)

end

open KernelIdeal.Gen (W2 mem_uc W2_main_arg0 W2_main_arg1 W2_main_arg2 W2_main_arg3 W2_main_arg4 W2_main_arg5) in
theorem algebraic : algebraic_KernelIdeal_ReferenceIdeal_pre_pre (hKernelIdeal := KernelIdeal.Gen.facts) (hReferenceIdeal := ReferenceIdeal.Gen.facts) (hPre_pre := preFacts) := by
  intro m g m' g' hpre hargs
  refine ⟨fun c => W2 m g c (Proc.devRef .tc KernelIdeal.main_v1_0), fun c => W2 m g c (Proc.devRef .tc KernelIdeal.main_v1_1), fun c => W2 m g c (Proc.devRef .tc KernelIdeal.main_v1_2), fun c => W2 m g c (Proc.devRef .tc KernelIdeal.main_v1_3), fun c => W2 m g c (Proc.devRef .tc KernelIdeal.main_v1_4), fun c => W2 m g c (Proc.devRef .tc KernelIdeal.main_v1_5), fun c => W2 m g c (Proc.devRef .tc KernelIdeal.main_v1_6), fun c => W2 m g c (Proc.devRef .tc KernelIdeal.main_v0_1), ?_, ?_⟩
  · refine (θ_run _ _ _).mono (fun r h c => ?_) (KerRun.run m g)
    exact ⟨h c _ (mem_uc KernelIdeal.main_v1_0 (by decide)), h c _ (mem_uc KernelIdeal.main_v1_1 (by decide)), h c _ (mem_uc KernelIdeal.main_v1_2 (by decide)), h c _ (mem_uc KernelIdeal.main_v1_3 (by decide)), h c _ (mem_uc KernelIdeal.main_v1_4 (by decide)), h c _ (mem_uc KernelIdeal.main_v1_5 (by decide)), h c _ (mem_uc KernelIdeal.main_v1_6 (by decide)), h c _ (mem_uc KernelIdeal.main_v0_1 (by decide)),
      (h c _ (mem_uc KernelIdeal.main_arg0 (by decide))).trans (W2_main_arg0 m g c), (h c _ (mem_uc KernelIdeal.main_arg1 (by decide))).trans (W2_main_arg1 m g c), (h c _ (mem_uc KernelIdeal.main_arg2 (by decide))).trans (W2_main_arg2 m g c), (h c _ (mem_uc KernelIdeal.main_arg3 (by decide))).trans (W2_main_arg3 m g c), (h c _ (mem_uc KernelIdeal.main_arg4 (by decide))).trans (W2_main_arg4 m g c), (h c _ (mem_uc KernelIdeal.main_arg5 (by decide))).trans (W2_main_arg5 m g c)⟩
  · refine (θ_run _ _ _).mono (fun r h c => ?_) (RefRun.run m' g')
    obtain ⟨a0, a1, a2, a3, a4, a5⟩ := hargs c
    have hh := held m hpre c
    obtain ⟨r0, r1, r2, r3, r4, r5, r6, r7⟩ := RefVal.end_value (inOf m c) m' c
      (fun i j => (congrFun a0 _).trans (hh.dm i j)) (fun i j => (congrFun a1 _).trans (hh.gb i j)) (fun i j => (congrFun a2 _).trans (hh.rc i j)) (fun i j => (congrFun a3 _).trans (hh.gip i j)) (fun i j => (congrFun a4 _).trans (hh.grp i j)) (fun i j => (congrFun a5 _).trans (hh.l i j))
    exact ⟨(h.1 c _ rfl).trans (eq_of_Rp r0 (ker_dgb m g c _ hh)), (h.1 c _ rfl).trans (eq_of_Rp r1 (ker_dgi m g c _ hh)), (h.1 c _ rfl).trans (eq_of_Rp r2 (ker_dgr m g c _ hh)), (h.1 c _ rfl).trans (eq_of_Rp r3 (ker_drc m g c _ hh)), (h.1 c _ rfl).trans (eq_of_Rp r4 (ker_dbi m g c _ hh)), (h.1 c _ rfl).trans (eq_of_Rp r5 (ker_dbr m g c _ hh)), (h.1 c _ rfl).trans (eq_of_Rp r6 (ker_dl m g c _ hh)), (h.1 c _ rfl).trans (eq_of_Rp r7 (ker_m m g c _ hh)),
      (h.1 c _ rfl).trans (RefRun.end_arg0 m' c), (h.1 c _ rfl).trans (RefRun.end_arg1 m' c), (h.1 c _ rfl).trans (RefRun.end_arg2 m' c), (h.1 c _ rfl).trans (RefRun.end_arg3 m' c), (h.1 c _ rfl).trans (RefRun.end_arg4 m' c), (h.1 c _ rfl).trans (RefRun.end_arg5 m' c)⟩

end Cert.Algebraic
-- ==== Proof.Lin.lean ====
/- Matrix products, row sums and three-axis arrays over the reals. -/
module

public import proofs.«01_k».proof.Proof.Base

@[expose] public section

noncomputable section

namespace Cert.Base

open Idealize.ShloMosaic

/-- A three-axis array holds the real entries `f`. -/
def R3 (p m n : ℕ) (v : (⟨3, ![p, m, n]⟩ : Shape).Idx → EReal) (f : ℕ → ℕ → ℕ → ℝ) : Prop :=
  ∀ (a : Fin p) (i : Fin m) (j : Fin n), v (ix3 a i j) = ((f a i j : ℝ) : EReal)

section
variable {p m n K : ℕ} {c : EReal}

theorem R3.of_eq {a : (⟨3, ![p, m, n]⟩ : Shape).Idx → EReal} {f g : ℕ → ℕ → ℕ → ℝ} (h : R3 p m n a f)
    (e : ∀ k i j, k < p → i < m → j < n → f k i j = g k i j) : R3 p m n a g := fun k i j => by
  rw [h k i j, e k i j k.2 i.2 j.2]

theorem R3.at {a : (⟨3, ![p, m, n]⟩ : Shape).Idx → EReal} {f : ℕ → ℕ → ℕ → ℝ} (h : R3 p m n a f) (x : (⟨3, ![p, m, n]⟩ : Shape).Idx) :
    a x = ((f (x 0 : Fin p) (x 1 : Fin m) (x 2 : Fin n) : ℝ) : EReal) := by
  rw [eq_ix3 x]; exact h _ _ _

/-- A sum of products of reals, in the order the first operand's second axis is met with the second's first. -/
theorem dot_nn {v : (⟨2, ![m, n]⟩ : Shape).Idx → EReal} {a : (⟨2, ![m, K]⟩ : Shape).Idx → EReal} {b : (⟨2, ![K, n]⟩ : Shape).Idx → EReal} {f g : ℕ → ℕ → ℝ}
    (hv : ∀ (i : Fin m) (j : Fin n), v (ix2 i j) = ∑ k : Fin K, a (ix2 i k) * b (ix2 k j)) (ha : Rp m K a f) (hb : Rp K n b g) :
    Rp m n v (fun i j => ∑ k ∈ Finset.range K, f i k * g k j) := fun i j => by
  rw [hv]
  show _ = ((∑ k ∈ Finset.range K, f i k * g k j : ℝ) : EReal)
  rw [Finset.sum_range fun k => f i k * g k j, ← coe_sum]
  exact Finset.sum_congr rfl fun k _ => by rw [ha i k, hb k j, EReal.coe_mul]

/-- The same with the second operand transposed. -/
theorem dot_nt {v : (⟨2, ![m, n]⟩ : Shape).Idx → EReal} {a : (⟨2, ![m, K]⟩ : Shape).Idx → EReal} {b : (⟨2, ![n, K]⟩ : Shape).Idx → EReal} {f g : ℕ → ℕ → ℝ}
    (hv : ∀ (i : Fin m) (j : Fin n), v (ix2 i j) = ∑ k : Fin K, a (ix2 i k) * b (ix2 j k)) (ha : Rp m K a f) (hb : Rp n K b g) :
    Rp m n v (fun i j => ∑ k ∈ Finset.range K, f i k * g j k) := fun i j => by
  rw [hv]
  show _ = ((∑ k ∈ Finset.range K, f i k * g j k : ℝ) : EReal)
  rw [Finset.sum_range fun k => f i k * g j k, ← coe_sum]
  exact Finset.sum_congr rfl fun k _ => by rw [ha i k, hb j k, EReal.coe_mul]

/-- The same with the first operand transposed. -/
theorem dot_tn {v : (⟨2, ![m, n]⟩ : Shape).Idx → EReal} {a : (⟨2, ![K, m]⟩ : Shape).Idx → EReal} {b : (⟨2, ![K, n]⟩ : Shape).Idx → EReal} {f g : ℕ → ℕ → ℝ}
    (hv : ∀ (i : Fin m) (j : Fin n), v (ix2 i j) = ∑ k : Fin K, a (ix2 k i) * b (ix2 k j)) (ha : Rp K m a f) (hb : Rp K n b g) :
    Rp m n v (fun i j => ∑ k ∈ Finset.range K, f k i * g k j) := fun i j => by
  rw [hv]
  show _ = ((∑ k ∈ Finset.range K, f k i * g k j : ℝ) : EReal)
  rw [Finset.sum_range fun k => f k i * g k j, ← coe_sum]
  exact Finset.sum_congr rfl fun k _ => by rw [ha k i, hb k j, EReal.coe_mul]

variable {a b : (⟨2, ![m, n]⟩ : Shape).Idx → EReal} {f g : ℕ → ℕ → ℝ}

theorem Rp.rsqrt (ha : Rp m n a f) (h : ∀ i j, i < m → j < n → 0 < f i j) :
    Rp m n (Idealize.ShloMosaic.rsqrt (F := Ideal) (φ := .f32) a) (fun i j => (Real.sqrt (f i j))⁻¹) := fun i j => by
  show Ideal.rsqrt (a _) = _
  rw [ha i j, Ideal.rsqrt_coe, if_neg (not_lt.mpr (h i j i.2 j.2).le), if_neg (h i j i.2 j.2).ne']

theorem Rp.hrsqrt (ha : Rp m n a f) (h : ∀ i j, i < m → j < n → 0 < f i j) :
    Rp m n (Host.rsqrt (F := Ideal) (φ := .f32) a) (fun i j => (Real.sqrt (f i j))⁻¹) := fun i j => by
  show Ideal.rsqrt (a _) = _
  rw [ha i j, Ideal.rsqrt_coe, if_neg (not_lt.mpr (h i j i.2 j.2).le), if_neg (h i j i.2 j.2).ne']

theorem Rp.ext (ha : Rp m n a f) (h : FTy.bf16.bits < FTy.f32.bits) :
    Rp m n (Idealize.ShloMosaic.extf (F := Ideal) .f32 (φ := .bf16) a h) f := fun i j => ha i j

theorem Rp.colAt {r : (⟨2, ![m, 1]⟩ : Shape).Idx → EReal} {q : ℕ → ℕ → ℝ} (hr : Rp m 1 r q) (x : (⟨2, ![m, 1]⟩ : Shape).Idx) :
    r x = ((q (x 0 : Fin m) 0 : ℝ) : EReal) := by
  have e : ∀ k : Fin 1, (k : ℕ) = 0 := fun k => by omega
  exact (hr.at x).trans (by rw [e (x 1)])

theorem R1.at {r : (⟨1, ![m]⟩ : Shape).Idx → EReal} {q : ℕ → ℝ} (hr : R1 m r q) (x : (⟨1, ![m]⟩ : Shape).Idx) :
    r x = ((q (x 0 : Fin m) : ℝ) : EReal) := by
  rw [eq_ix1 x]; exact hr _

theorem Rp.bcCol {r : (⟨2, ![m, 1]⟩ : Shape).Idx → EReal} {q : ℕ → ℕ → ℝ} (h : (⟨2, ![m, 1]⟩ : Shape).Broadcasts ⟨2, ![m, n]⟩)
    (hr : Rp m 1 r q) : Rp m n (broadcastTo ⟨2, ![m, n]⟩ r h) (fun i _ => q i 0) := fun i j => by
  pointwise
  rw [Shape.Idx.norm_def, hr.colAt]
  congr 2
  by_cases h1 : m = 1
  · subst h1; simp
  · simp [h1]

theorem Rp.hbcCol {r : (⟨2, ![m, 1]⟩ : Shape).Idx → EReal} {q : ℕ → ℕ → ℝ}
    (h : (⟨2, ![m, 1]⟩ : Shape).BroadcastsInDim ⟨2, ![m, n]⟩ ![0, 1])
    (hr : Rp m 1 r q) : Rp m n (broadcastInDim ⟨2, ![m, n]⟩ ![0, 1] h r) (fun i _ => q i 0) := fun i j => by
  pointwise
  rw [Shape.Idx.norm_def, hr.colAt]
  congr 2
  by_cases h1 : m = 1
  · subst h1; simp
  · simp [h1]

theorem Rp.hbcVec {r : (⟨1, ![m]⟩ : Shape).Idx → EReal} {q : ℕ → ℝ}
    (h : (⟨1, ![m]⟩ : Shape).BroadcastsInDim ⟨2, ![m, n]⟩ ![0])
    (hr : R1 m r q) : Rp m n (broadcastInDim ⟨2, ![m, n]⟩ ![0] h r) (fun i _ => q i) := fun i j => by
  pointwise
  rw [Shape.Idx.norm_def, hr.at]
  congr 2
  by_cases h1 : m = 1
  · subst h1; simp
  · simp [h1]

theorem R1.rowSum {m n : ℕ} {a : (⟨2, ![m, n]⟩ : Shape).Idx → EReal} {f : ℕ → ℕ → ℝ}
    (h : (⟨2, ![m, n]⟩ : Shape).Reduces [1] ⟨1, ![m]⟩)  (h1) (h2)
    (ha : Rp m n a f) : R1 m (multiReduction (F := Ideal) (φ := .f32) .add [1] ⟨1, ![m]⟩ a 0x00000000#32 h h1 h2) (fun i => ∑ j ∈ Finset.range n, f i j) := fun i => by
  pointwise
  rw [Finset.sum_range fun j => f i j, ← coe_sum]
  exact Finset.sum_congr rfl fun j _ => ha i j

theorem R1.hrowSum {c : (⟨0, ![]⟩ : Shape).Idx → EReal} (h : (⟨2, ![m, n]⟩ : Shape).ReducesTo [1] ⟨1, ![m]⟩) (h0 : 0 < (⟨0, ![]⟩ : Shape).numel)
    (ha : Rp m n a f) (hc : R0 c 0) :
    R1 m (Host.reduceAdd (F := Ideal) (φ := .f32) a c h h0) (fun i => ∑ j ∈ Finset.range n, f i j) := fun j => by
  pointwise
  rw [hc, EReal.coe_zero, zero_add, Finset.sum_range fun k => f j k, ← coe_sum]
  exact Finset.sum_congr rfl fun k _ => ha j k
end

end Cert.Base
-- ==== Proof.Ffn.lean ====
/- The end of a layer and its gradient over the reals: an output projection on the residual stream, the normed gated
   feed-forward on top of it, and the gradients of both, in the order the kernels work them out. -/
module

public import proofs.«01_k».proof.Proof.Spec
public import proofs.«01_k».proof.Proof.Lin

@[expose] public section

noncomputable section

namespace Cert.Ffn

open Cert.Spec Cert.Base Idealize.ShloMosaic

/-- The constant added under a norm's root. -/
def eps : ℝ := 8796093 / 8796093022208

theorem eps_pos : 0 < eps := by unfold eps; norm_num

theorem lit_eps : Ideal.ofBits .f32 0x358637BD#32 = ((eps : ℝ) : EReal) := by
  unfold eps; simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_mhalf : Ideal.ofBits .f32 0xBF000000#32 = ((-(1 / 2) : ℝ) : EReal) := by
  simp [Ideal.ofBits, Ideal.ieee, -EReal.coe_mul]; norm_num

/-- The mean square of a row, plus the constant. -/
def ms (x : ℕ → ℝ) : ℝ := (∑ k ∈ Finset.range 1024, x k * x k) / 1024 + eps

theorem ms_pos (x : ℕ → ℝ) : 0 < ms x := by
  have : 0 ≤ ∑ k ∈ Finset.range 1024, x k * x k := Finset.sum_nonneg fun k _ => mul_self_nonneg _
  have := eps_pos
  unfold ms; positivity

/-- A row's scale under the norm. -/
def rn (x : ℕ → ℝ) : ℝ := (Real.sqrt (ms x))⁻¹

theorem rn_sq (x : ℕ → ℝ) : rn x * rn x * ms x = 1 := by
  have h := ms_pos x
  have hs : Real.sqrt (ms x) * Real.sqrt (ms x) = ms x := Real.mul_self_sqrt h.le
  have hp : Real.sqrt (ms x) ≠ 0 := (Real.sqrt_pos.mpr h).ne'
  unfold rn
  rw [← mul_inv, hs, inv_mul_cancel₀ h.ne']

/-- The operands: the mixer's output, the residual stream, the output projection, the norm's gain, the feed-forward's two
    weights (the first in four shards of columns), the next norm's gain, and the gradient that comes back. -/
structure In where
  m : ℕ → ℕ → ℝ
  h : ℕ → ℕ → ℝ
  wo : ℕ → ℕ → ℝ
  g : ℕ → ℝ
  wi : ℕ → ℕ → ℕ → ℝ
  w2 : ℕ → ℕ → ℝ
  gx : ℕ → ℝ
  dh : ℕ → ℕ → ℝ

variable (I : In)

/-- The residual stream after the output projection. -/
def In.hm (i j : ℕ) : ℝ := I.h i j + ∑ k ∈ Finset.range 1024, I.m i k * I.wo k j
def In.hn (i j : ℕ) : ℝ := I.hm i j * rn (I.hm i) * I.g j
/-- The gate and the other half of the first product, by shard. -/
def In.zg (i f : ℕ) : ℝ := ∑ k ∈ Finset.range 1024, I.hn i k * I.wi (f / 1408) k (f % 1408)
def In.zu (i f : ℕ) : ℝ := ∑ k ∈ Finset.range 1024, I.hn i k * I.wi (f / 1408 + 2) k (f % 1408)
/-- What the backward pass multiplies by: the derivative in the gate, and the gate's value. -/
def In.z (c i f : ℕ) : ℝ := if c = 0 then I.zu i f * (sg (I.zg i f) * (1 + I.zg i f * (1 - sg (I.zg i f)))) else I.zg i f * sg (I.zg i f)
def In.act (i f : ℕ) : ℝ := I.zg i f * sg (I.zg i f) * I.zu i f
def In.ho (i j : ℕ) : ℝ := I.hm i j + ∑ k ∈ Finset.range 2816, I.act i k * I.w2 k j
def In.xn (i j : ℕ) : ℝ := I.ho i j * rn (I.ho i) * I.gx j
def In.dw2 (f j : ℕ) : ℝ := ∑ i ∈ Finset.range 2048, I.act i f * I.dh i j
def In.d (i f : ℕ) : ℝ := ∑ j ∈ Finset.range 1024, I.dh i j * I.w2 f j
def In.dz (c i f : ℕ) : ℝ := I.d i f * I.z c i f
def In.dwi (q k f : ℕ) : ℝ := ∑ i ∈ Finset.range 2048, I.hn i k * I.dz (q / 2) i (q % 2 * 1408 + f)
/-- The gradient of the normed stream, one product per shard. -/
def In.dxq (q i j : ℕ) : ℝ := ∑ f ∈ Finset.range 1408, I.dz (q / 2) i (q % 2 * 1408 + f) * I.wi q j f
def In.dx (i j : ℕ) : ℝ := I.dxq 0 i j + I.dxq 1 i j + I.dxq 2 i j + I.dxq 3 i j
def In.xr (i j : ℕ) : ℝ := I.hm i j * rn (I.hm i)
def In.dhm (i j : ℕ) : ℝ := I.dh i j + (rn (I.hm i) * (I.dx i j * I.g j)
  - I.xr i j * (rn (I.hm i) * ((∑ k ∈ Finset.range 1024, I.dx i k * I.g k * I.xr i k) / 1024)))
/-- The gain's gradient over one tile of 256 rows. -/
def In.dgt (t j : ℕ) : ℝ := ∑ i ∈ Finset.range 256, I.dx (256 * t + i) j * I.xr (256 * t + i) j
def In.dg (j : ℕ) : ℝ := ∑ t ∈ Finset.range 8, I.dgt t j
def In.dwo (k j : ℕ) : ℝ := ∑ i ∈ Finset.range 2048, I.m i k * I.dhm i j
def In.dm (i j : ℕ) : ℝ := ∑ k ∈ Finset.range 1024, I.dhm i k * I.wo j k

end Cert.Ffn
-- ==== Proof.FfnPay.lean ====
/- What each kernel's arithmetic makes of blocks of reals. -/
module

public import proofs.«01_k».proof.Proof.Ffn
public import proofs.«01_k».proof.Proof.Gen.Kernel2Ideal.Skeleton

@[expose] public section

set_option maxRecDepth 16384

noncomputable section

namespace Cert.FfnPay

open Idealize.ShloMosaic Cert.Kernel2Ideal Cert.Kernel2Ideal.Gen Cert.Base Cert.Spec Cert.Ffn

/-! Each product's dimension numbers, read as a sum. -/

theorem dot_nn_512_1024_1024 {a : S512x1024.Idx → EReal} {b : S1024x1024.Idx → EReal} {f g : ℕ → ℕ → ℝ} (ha : Rp 512 1024 a f) (hb : Rp 1024 1024 b g) :
    Rp 512 1024 (matmul (F := Ideal) (φ₁ := .bf16) (φ₂ := .bf16) dot_S512x1024_S1024x1024_S512x1024_1_0_0_1_n_n none a b (constant (F := Ideal) S512x1024 .f32 0x00000000#32)) (fun i j => ∑ k ∈ Finset.range 1024, f i k * g k j) :=
  dot_nn (fun i j => by pointwise) ha hb

theorem dot_nn_512_1024_1408 {a : S512x1024.Idx → EReal} {b : S1024x1408.Idx → EReal} {f g : ℕ → ℕ → ℝ} (ha : Rp 512 1024 a f) (hb : Rp 1024 1408 b g) :
    Rp 512 1408 (matmul (F := Ideal) (φ₁ := .bf16) (φ₂ := .bf16) dot_S512x1024_S1024x1408_S512x1408_1_0_0_1_n_n none a b (constant (F := Ideal) S512x1408 .f32 0x00000000#32)) (fun i j => ∑ k ∈ Finset.range 1024, f i k * g k j) :=
  dot_nn (fun i j => by pointwise) ha hb

theorem dot_nn_512_2816_1024 {a : S512x2816.Idx → EReal} {b : S2816x1024.Idx → EReal} {f g : ℕ → ℕ → ℝ} (ha : Rp 512 2816 a f) (hb : Rp 2816 1024 b g) :
    Rp 512 1024 (matmul (F := Ideal) (φ₁ := .bf16) (φ₂ := .bf16) dot_S512x2816_S2816x1024_S512x1024_1_0_0_1_n_n none a b (constant (F := Ideal) S512x1024 .f32 0x00000000#32)) (fun i j => ∑ k ∈ Finset.range 2816, f i k * g k j) :=
  dot_nn (fun i j => by pointwise) ha hb

theorem dot_tn_256_2048_1024 {a : S2048x256.Idx → EReal} {b : S2048x1024.Idx → EReal} {f g : ℕ → ℕ → ℝ} (ha : Rp 2048 256 a f) (hb : Rp 2048 1024 b g) :
    Rp 256 1024 (matmul (F := Ideal) (φ₁ := .bf16) (φ₂ := .bf16) dot_S2048x256_S2048x1024_S256x1024_0_0_1_1_n_n none a b (constant (F := Ideal) S256x1024 .f32 0x00000000#32)) (fun i j => ∑ k ∈ Finset.range 2048, f k i * g k j) :=
  dot_tn (fun i j => by pointwise) ha hb

theorem dot_nt_512_1024_1408 {a : S512x1024.Idx → EReal} {b : S1408x1024.Idx → EReal} {f g : ℕ → ℕ → ℝ} (ha : Rp 512 1024 a f) (hb : Rp 1408 1024 b g) :
    Rp 512 1408 (matmul (F := Ideal) (φ₁ := .bf16) (φ₂ := .bf16) dot_S512x1024_S1408x1024_S512x1408_1_1_0_0_n_n none a b (constant (F := Ideal) S512x1408 .f32 0x00000000#32)) (fun i j => ∑ k ∈ Finset.range 1024, f i k * g j k) :=
  dot_nt (fun i j => by pointwise) ha hb

theorem dot_tn_1024_2048_1408 {a : S2048x1024.Idx → EReal} {b : S2048x1408.Idx → EReal} {f g : ℕ → ℕ → ℝ} (ha : Rp 2048 1024 a f) (hb : Rp 2048 1408 b g) :
    Rp 1024 1408 (matmul (F := Ideal) (φ₁ := .bf16) (φ₂ := .bf16) dot_S2048x1024_S2048x1408_S1024x1408_0_0_1_1_n_n none a b (constant (F := Ideal) S1024x1408 .f32 0x00000000#32)) (fun i j => ∑ k ∈ Finset.range 2048, f k i * g k j) :=
  dot_tn (fun i j => by pointwise) ha hb

theorem dot_nt_256_1408_1024 {a : S256x1408.Idx → EReal} {b : S1024x1408.Idx → EReal} {f g : ℕ → ℕ → ℝ} (ha : Rp 256 1408 a f) (hb : Rp 1024 1408 b g) :
    Rp 256 1024 (matmul (F := Ideal) (φ₁ := .bf16) (φ₂ := .bf16) dot_S256x1408_S1024x1408_S256x1024_1_1_0_0_n_n none a b (constant (F := Ideal) S256x1024 .f32 0x00000000#32)) (fun i j => ∑ k ∈ Finset.range 1408, f i k * g j k) :=
  dot_nt (fun i j => by pointwise) ha hb

theorem dot_tn_512_2048_1024 {a : S2048x512.Idx → EReal} {b : S2048x1024.Idx → EReal} {f g : ℕ → ℕ → ℝ} (ha : Rp 2048 512 a f) (hb : Rp 2048 1024 b g) :
    Rp 512 1024 (matmul (F := Ideal) (φ₁ := .bf16) (φ₂ := .bf16) dot_S2048x512_S2048x1024_S512x1024_0_0_1_1_n_n none a b (constant (F := Ideal) S512x1024 .f32 0x00000000#32)) (fun i j => ∑ k ∈ Finset.range 2048, f k i * g k j) :=
  dot_tn (fun i j => by pointwise) ha hb

theorem dot_nt_512_1024_1024 {a : S512x1024.Idx → EReal} {b : S1024x1024.Idx → EReal} {f g : ℕ → ℕ → ℝ} (ha : Rp 512 1024 a f) (hb : Rp 1024 1024 b g) :
    Rp 512 1024 (matmul (F := Ideal) (φ₁ := .bf16) (φ₂ := .bf16) dot_S512x1024_S1024x1024_S512x1024_1_1_0_0_n_n none a b (constant (F := Ideal) S512x1024 .f32 0x00000000#32)) (fun i j => ∑ k ∈ Finset.range 1024, f i k * g j k) :=
  dot_nt (fun i j => by pointwise) ha hb

/-! Row sums put back in a column, and arrays with a leading axis of one. -/

theorem col512 {r : (⟨1, ![512]⟩ : Shape).Idx → EReal} {q : ℕ → ℝ} (h : (⟨1, ![512]⟩ : Shape).ShapeCasts ⟨2, ![512, 1]⟩)
    (hr : R1 512 r q) : Rp 512 1 (shapeCast ⟨2, ![512, 1]⟩ r h) (fun i _ => q i) := fun i j => by
  pointwise
  exact hr i

theorem col256 {r : (⟨1, ![256]⟩ : Shape).Idx → EReal} {q : ℕ → ℝ} (h : (⟨1, ![256]⟩ : Shape).ShapeCasts ⟨2, ![256, 1]⟩)
    (hr : R1 256 r q) : Rp 256 1 (shapeCast ⟨2, ![256, 1]⟩ r h) (fun i _ => q i) := fun i j => by
  pointwise
  exact hr i

theorem drop_1024_1408 {r : (⟨3, ![1, 1024, 1408]⟩ : Shape).Idx → EReal} {q : ℕ → ℕ → ℕ → ℝ} (h : (⟨3, ![1, 1024, 1408]⟩ : Shape).ShapeCasts ⟨2, ![1024, 1408]⟩)
    (hr : R3 1 1024 1408 r q) : Rp 1024 1408 (shapeCast ⟨2, ![1024, 1408]⟩ r h) (fun i j => q 0 i j) := fun i j => by
  pointwise
  exact hr 0 i j

theorem drop_512_1408 {r : (⟨3, ![1, 512, 1408]⟩ : Shape).Idx → EReal} {q : ℕ → ℕ → ℕ → ℝ} (h : (⟨3, ![1, 512, 1408]⟩ : Shape).ShapeCasts ⟨2, ![512, 1408]⟩)
    (hr : R3 1 512 1408 r q) : Rp 512 1408 (shapeCast ⟨2, ![512, 1408]⟩ r h) (fun i j => q 0 i j) := fun i j => by
  pointwise
  exact hr 0 i j

theorem drop_2048_1408 {r : (⟨3, ![1, 2048, 1408]⟩ : Shape).Idx → EReal} {q : ℕ → ℕ → ℕ → ℝ} (h : (⟨3, ![1, 2048, 1408]⟩ : Shape).ShapeCasts ⟨2, ![2048, 1408]⟩)
    (hr : R3 1 2048 1408 r q) : Rp 2048 1408 (shapeCast ⟨2, ![2048, 1408]⟩ r h) (fun i j => q 0 i j) := fun i j => by
  pointwise
  exact hr 0 i j

theorem drop_256_1408 {r : (⟨3, ![1, 256, 1408]⟩ : Shape).Idx → EReal} {q : ℕ → ℕ → ℕ → ℝ} (h : (⟨3, ![1, 256, 1408]⟩ : Shape).ShapeCasts ⟨2, ![256, 1408]⟩)
    (hr : R3 1 256 1408 r q) : Rp 256 1408 (shapeCast ⟨2, ![256, 1408]⟩ r h) (fun i j => q 0 i j) := fun i j => by
  pointwise
  exact hr 0 i j

theorem lift_1024_1408 {r : (⟨2, ![1024, 1408]⟩ : Shape).Idx → EReal} {q : ℕ → ℕ → ℝ} (h : (⟨2, ![1024, 1408]⟩ : Shape).ShapeCasts ⟨3, ![1, 1024, 1408]⟩)
    (hr : Rp 1024 1408 r q) : R3 1 1024 1408 (shapeCast ⟨3, ![1, 1024, 1408]⟩ r h) (fun _ i j => q i j) := fun a i j => by
  pointwise
  exact hr i j

theorem lift_512_1408 {r : (⟨2, ![512, 1408]⟩ : Shape).Idx → EReal} {q : ℕ → ℕ → ℝ} (h : (⟨2, ![512, 1408]⟩ : Shape).ShapeCasts ⟨3, ![1, 512, 1408]⟩)
    (hr : Rp 512 1408 r q) : R3 1 512 1408 (shapeCast ⟨3, ![1, 512, 1408]⟩ r h) (fun _ i j => q i j) := fun a i j => by
  pointwise
  exact hr i j

theorem lift_1_1024 {r : (⟨2, ![1, 1024]⟩ : Shape).Idx → EReal} {q : ℕ → ℕ → ℝ} (h : (⟨2, ![1, 1024]⟩ : Shape).ShapeCasts ⟨3, ![1, 1, 1024]⟩)
    (hr : Rp 1 1024 r q) : R3 1 1 1024 (shapeCast ⟨3, ![1, 1, 1024]⟩ r h) (fun _ i j => q i j) := fun a i j => by
  pointwise
  rw [hr 0 j]; obtain rfl : i = 0 := Subsingleton.elim i 0; rfl

theorem colSum {a : (⟨2, ![256, 1024]⟩ : Shape).Idx → EReal} {f : ℕ → ℕ → ℝ} (h : (⟨2, ![256, 1024]⟩ : Shape).Reduces [0] ⟨1, ![1024]⟩) (h1) (h2)
    (ha : Rp 256 1024 a f) : R1 1024 (multiReduction (F := Ideal) (φ := .f32) .add [0] ⟨1, ![1024]⟩ a 0x00000000#32 h h1 h2) (fun j => ∑ i ∈ Finset.range 256, f i j) := fun j => by
  pointwise
  rw [Finset.sum_range fun i => f i j, ← coe_sum]
  exact Finset.sum_congr rfl fun i _ => ha i j

/-! The kernels' values. -/

variable {a1 : S1x1024.Idx → EReal} {g : ℕ → ℕ → ℝ}

section
variable {a : S512x1024.Idx → EReal} {b : S1024x1024.Idx → EReal} {r : S512x1024.Idx → EReal} {fa fb fr X : ℕ → ℕ → ℝ}

theorem k0_1 (ha : Rp 512 1024 a fa) (hb : Rp 1024 1024 b fb) (hr : Rp 512 1024 r fr)
    (hX : ∀ i j, i < 512 → j < 1024 → fr i j + ∑ k ∈ Finset.range 1024, fa i k * fb k j = X i j) : Rp 512 1024 (k0_pay1 (F := Ideal) a b r) X := by
  unfold k0_pay1
  exact Rp.of_eq (Rp.add hr (dot_nn_512_1024_1024 ha hb)) hX

theorem k0_3 (ha : Rp 512 1024 a fa) (hb : Rp 1024 1024 b fb) (hr : Rp 512 1024 r fr)
    (hX : ∀ i j, i < 512 → j < 1024 → fr i j + ∑ k ∈ Finset.range 1024, fa i k * fb k j = X i j) : Rp 512 1024 (k0_pay3 (F := Ideal) a b r) X := by
  unfold k0_pay3
  exact Rp.castSelf _ (k0_1 ha hb hr hX)

theorem k0_2 (ha : Rp 512 1024 a fa) (hb : Rp 1024 1024 b fb) (hr : Rp 512 1024 r fr) (hg : Rp 1 1024 a1 g)
    (hX : ∀ i j, i < 512 → j < 1024 → fr i j + ∑ k ∈ Finset.range 1024, fa i k * fb k j = X i j) :
    Rp 512 1024 (k0_pay2 (F := Ideal) a b r a1) (fun i j => X i j * rn (X i) * g 0 j) := by
  have h1 := k0_1 ha hb hr hX
  unfold k0_pay2
  refine Rp.castSelf _ (Rp.trunc (Rp.of_eq (Rp.mul (Rp.mul h1 (Rp.bcCol _ (Rp.rsqrt (Rp.add (Rp.div (col512 _ (R1.rowSum _ _ _ (Rp.mul h1 h1))) (Rp.cst lit_1024) fun _ _ _ _ => by norm_num) (Rp.cst lit_eps)) fun i _ _ _ => ms_pos (X i)))) (Rp.bcRow _ hg)) ?_) _)
  intro i j _ _; rfl
end

section
variable {a : S512x2816.Idx → EReal} {b : S2816x1024.Idx → EReal} {r : S512x1024.Idx → EReal} {fa fb fr X : ℕ → ℕ → ℝ}

theorem k2_1 (ha : Rp 512 2816 a fa) (hb : Rp 2816 1024 b fb) (hr : Rp 512 1024 r fr)
    (hX : ∀ i j, i < 512 → j < 1024 → fr i j + ∑ k ∈ Finset.range 2816, fa i k * fb k j = X i j) : Rp 512 1024 (k2_pay1 (F := Ideal) a b r) X := by
  unfold k2_pay1
  exact Rp.of_eq (Rp.add hr (dot_nn_512_2816_1024 ha hb)) hX

theorem k2_3 (ha : Rp 512 2816 a fa) (hb : Rp 2816 1024 b fb) (hr : Rp 512 1024 r fr)
    (hX : ∀ i j, i < 512 → j < 1024 → fr i j + ∑ k ∈ Finset.range 2816, fa i k * fb k j = X i j) : Rp 512 1024 (k2_pay3 (F := Ideal) a b r) X := by
  unfold k2_pay3
  exact Rp.castSelf _ (k2_1 ha hb hr hX)

theorem k2_2 (ha : Rp 512 2816 a fa) (hb : Rp 2816 1024 b fb) (hr : Rp 512 1024 r fr) (hg : Rp 1 1024 a1 g)
    (hX : ∀ i j, i < 512 → j < 1024 → fr i j + ∑ k ∈ Finset.range 2816, fa i k * fb k j = X i j) :
    Rp 512 1024 (k2_pay2 (F := Ideal) a b r a1) (fun i j => X i j * rn (X i) * g 0 j) := by
  have h1 := k2_1 ha hb hr hX
  unfold k2_pay2
  refine Rp.castSelf _ (Rp.trunc (Rp.of_eq (Rp.mul (Rp.mul h1 (Rp.bcCol _ (Rp.rsqrt (Rp.add (Rp.div (col512 _ (R1.rowSum _ _ _ (Rp.mul h1 h1))) (Rp.cst lit_1024) fun _ _ _ _ => by norm_num) (Rp.cst lit_eps)) fun i _ _ _ => ms_pos (X i)))) (Rp.bcRow _ hg)) ?_) _)
  intro i j _ _; rfl
end

section
variable {a : S512x1024.Idx → EReal} {b c : S1x1024x1408.Idx → EReal} {fa G U : ℕ → ℕ → ℝ} {fb fc : ℕ → ℕ → ℕ → ℝ}

theorem k1_2 (ha : Rp 512 1024 a fa) (hb : R3 1 1024 1408 b fb)
    (hG : ∀ i j, i < 512 → j < 1408 → ∑ k ∈ Finset.range 1024, fa i k * fb 0 k j = G i j) : Rp 512 1408 (k1_pay2 (F := Ideal) a b) G := by
  unfold k1_pay2
  exact Rp.of_eq (dot_nn_512_1024_1408 ha (drop_1024_1408 _ hb)) hG

theorem k1_3 (ha : Rp 512 1024 a fa) (hb : R3 1 1024 1408 b fb)
    (hG : ∀ i j, i < 512 → j < 1408 → ∑ k ∈ Finset.range 1024, fa i k * fb 0 k j = G i j) : Rp 512 1408 (k1_pay3 (F := Ideal) a b) G := by
  unfold k1_pay3
  exact Rp.of_eq (dot_nn_512_1024_1408 ha (drop_1024_1408 _ hb)) hG

theorem k1_4 (ha : Rp 512 1024 a fa) (hb : R3 1 1024 1408 b fb)
    (hG : ∀ i j, i < 512 → j < 1408 → ∑ k ∈ Finset.range 1024, fa i k * fb 0 k j = G i j) : Rp 512 1408 (k1_pay4 (F := Ideal) a b) (fun i j => sg (G i j)) := by
  unfold k1_pay4
  refine Rp.of_eq (Rp.add (Rp.mul (Rp.cst lit_half) (Rp.tanh (Rp.mul (Rp.cst lit_half) (k1_2 ha hb hG)))) (Rp.cst lit_half)) ?_
  intro i j _ _; simp only [sg_tanh]

theorem k1_5 (ha : Rp 512 1024 a fa) (hb : R3 1 1024 1408 b fb)
    (hG : ∀ i j, i < 512 → j < 1408 → ∑ k ∈ Finset.range 1024, fa i k * fb 0 k j = G i j) : Rp 512 1408 (k1_pay5 (F := Ideal) a b) (fun i j => G i j * sg (G i j)) := by
  unfold k1_pay5
  exact Rp.mul (k1_2 ha hb hG) (k1_4 ha hb hG)

theorem k1_7 (ha : Rp 512 1024 a fa) (hb : R3 1 1024 1408 b fb)
    (hG : ∀ i j, i < 512 → j < 1408 → ∑ k ∈ Finset.range 1024, fa i k * fb 0 k j = G i j) : R3 1 512 1408 (k1_pay7 (F := Ideal) a b) (fun _ i j => G i j * sg (G i j)) := by
  unfold k1_pay7
  exact lift_512_1408 _ (Rp.trunc (k1_5 ha hb hG) _)

theorem k1_6 (ha : Rp 512 1024 a fa) (hb : R3 1 1024 1408 b fb) (hc : R3 1 1024 1408 c fc)
    (hG : ∀ i j, i < 512 → j < 1408 → ∑ k ∈ Finset.range 1024, fa i k * fb 0 k j = G i j)
    (hU : ∀ i j, i < 512 → j < 1408 → ∑ k ∈ Finset.range 1024, fa i k * fc 0 k j = U i j) :
    R3 1 512 1408 (k1_pay6 (F := Ideal) a b c) (fun _ i j => U i j * (sg (G i j) * (1 + G i j * (1 - sg (G i j))))) := by
  have h4 := k1_4 ha hb hG
  unfold k1_pay6
  exact lift_512_1408 _ (Rp.trunc (Rp.mul (k1_3 ha hc hU) (Rp.mul h4 (Rp.add (Rp.cst lit_one) (Rp.mul (k1_2 ha hb hG) (Rp.sub (Rp.cst lit_one) h4))))) _)

theorem k1_1 (ha : Rp 512 1024 a fa) (hb : R3 1 1024 1408 b fb) (hc : R3 1 1024 1408 c fc)
    (hG : ∀ i j, i < 512 → j < 1408 → ∑ k ∈ Finset.range 1024, fa i k * fb 0 k j = G i j)
    (hU : ∀ i j, i < 512 → j < 1408 → ∑ k ∈ Finset.range 1024, fa i k * fc 0 k j = U i j) :
    Rp 512 1408 (k1_pay1 (F := Ideal) (k1_pay8 (F := Ideal) a b c)) (fun i j => G i j * sg (G i j) * U i j) := by
  unfold k1_pay1 k1_pay8
  exact Rp.castSelf _ (Rp.trunc (Rp.mul (k1_5 ha hb hG) (k1_3 ha hc hU)) _)
end

theorem k3_1 {a : S2048x256.Idx → EReal} {b : S2048x1024.Idx → EReal} {fa fb : ℕ → ℕ → ℝ} (ha : Rp 2048 256 a fa) (hb : Rp 2048 1024 b fb) :
    Rp 256 1024 (k3_pay1 (F := Ideal) a b) (fun i j => ∑ k ∈ Finset.range 2048, fa k i * fb k j) := by
  unfold k3_pay1
  exact Rp.castSelf _ (Rp.trunc (dot_tn_256_2048_1024 ha (Rp.castSelf _ hb)) _)

section
variable {a : S512x1024.Idx → EReal} {b : S1408x1024.Idx → EReal} {z : S1x512x1408.Idx → EReal} {fa fb : ℕ → ℕ → ℝ} {fz : ℕ → ℕ → ℕ → ℝ}

theorem k4_1 (ha : Rp 512 1024 a fa) (hb : Rp 1408 1024 b fb) :
    Rp 512 1408 (k4_pay1 (F := Ideal) a b) (fun i j => ∑ k ∈ Finset.range 1024, fa i k * fb j k) := by
  unfold k4_pay1
  exact dot_nt_512_1024_1408 (Rp.castSelf _ ha) hb

theorem k4_2 (ha : Rp 512 1024 a fa) (hb : Rp 1408 1024 b fb) (hz : R3 1 512 1408 z fz) :
    R3 1 512 1408 (k4_pay2 (F := Ideal) a b z) (fun _ i j => (∑ k ∈ Finset.range 1024, fa i k * fb j k) * fz 0 i j) := by
  unfold k4_pay2
  exact lift_512_1408 _ (Rp.trunc (Rp.mul (k4_1 ha hb) (Rp.ext (drop_512_1408 _ hz) _)) _)

theorem k4_3 (ha : Rp 512 1024 a fa) (hb : Rp 1408 1024 b fb) (hz : R3 1 512 1408 z fz) :
    R3 1 512 1408 (k4_pay3 (F := Ideal) a b z) (fun _ i j => (∑ k ∈ Finset.range 1024, fa i k * fb j k) * fz 0 i j) := by
  unfold k4_pay3
  exact lift_512_1408 _ (Rp.trunc (Rp.mul (k4_1 ha hb) (Rp.ext (drop_512_1408 _ hz) _)) _)
end

theorem k5_1 {a : S2048x1024.Idx → EReal} {b : S1x2048x1408.Idx → EReal} {fa : ℕ → ℕ → ℝ} {fb : ℕ → ℕ → ℕ → ℝ} (ha : Rp 2048 1024 a fa) (hb : R3 1 2048 1408 b fb) :
    R3 1 1024 1408 (k5_pay1 (F := Ideal) a b) (fun _ i j => ∑ k ∈ Finset.range 2048, fa k i * fb 0 k j) := by
  unfold k5_pay1
  exact lift_1024_1408 _ (Rp.trunc (dot_tn_1024_2048_1408 ha (drop_2048_1408 _ hb)) _)

section
variable {d h e : S256x1024.Idx → EReal} {q : S256x1024.Idx → EReal} {D H E : ℕ → ℕ → ℝ}

theorem k6_1 (hh : Rp 256 1024 h H) : Rp 256 1 (k6_pay1 (F := Ideal) (k6_pay8 (F := Ideal) h)) (fun i _ => rn (H i)) := by
  unfold k6_pay1 k6_pay8
  exact Rp.rsqrt (Rp.add (Rp.div (col256 _ (R1.rowSum _ _ _ (Rp.mul hh hh))) (Rp.cst lit_1024) fun _ _ _ _ => by norm_num) (Rp.cst lit_eps)) fun i _ _ _ => ms_pos (H i)

theorem k6_2 (hh : Rp 256 1024 h H) : Rp 256 1024 (k6_pay2 (F := Ideal) h (k6_pay8 (F := Ideal) h)) (fun i j => H i j * rn (H i)) := by
  unfold k6_pay2
  exact Rp.mul hh (Rp.bcCol _ (k6_1 hh))

theorem k6_3 (hd : Rp 256 1024 d D) (hh : Rp 256 1024 h H) (hg : Rp 1 1024 a1 g) (he : Rp 256 1024 e E) :
    Rp 256 1024 (k6_pay3 (F := Ideal) d h a1 (k6_pay8 (F := Ideal) h) e) (fun i j => E i j + (rn (H i) * (D i j * g 0 j)
      - H i j * rn (H i) * (rn (H i) * ((∑ k ∈ Finset.range 1024, D i k * g 0 k * (H i k * rn (H i))) / 1024)))) := by
  have h1 := k6_1 hh
  have h2 := k6_2 hh
  have hdg := Rp.mul hd (Rp.bcRow broadcasts_S1x1024_S256x1024 hg)
  unfold k6_pay3
  exact Rp.add he (Rp.sub (Rp.mul (Rp.bcCol _ h1) hdg) (Rp.mul h2 (Rp.bcCol _ (Rp.mul h1 (Rp.div (col256 _ (R1.rowSum _ _ _ (Rp.mul hdg h2))) (Rp.cst lit_1024) fun _ _ _ _ => by norm_num)))))

theorem k6_4 (hd : Rp 256 1024 d D) (hh : Rp 256 1024 h H) (hg : Rp 1 1024 a1 g) (he : Rp 256 1024 e E) :
    Rp 256 1024 (k6_pay4 (F := Ideal) d h a1 (k6_pay8 (F := Ideal) h) e) (fun i j => E i j + (rn (H i) * (D i j * g 0 j)
      - H i j * rn (H i) * (rn (H i) * ((∑ k ∈ Finset.range 1024, D i k * g 0 k * (H i k * rn (H i))) / 1024)))) := by
  unfold k6_pay4
  exact Rp.castSelf _ (Rp.trunc (k6_3 hd hh hg he) _)

theorem k6_6 (hd : Rp 256 1024 d D) (hh : Rp 256 1024 h H) (hg : Rp 1 1024 a1 g) (he : Rp 256 1024 e E) :
    Rp 256 1024 (k6_pay6 (F := Ideal) d h a1 (k6_pay8 (F := Ideal) h) e) (fun i j => E i j + (rn (H i) * (D i j * g 0 j)
      - H i j * rn (H i) * (rn (H i) * ((∑ k ∈ Finset.range 1024, D i k * g 0 k * (H i k * rn (H i))) / 1024)))) := by
  unfold k6_pay6
  exact Rp.castSelf _ (k6_3 hd hh hg he)

theorem k6_5 (hd : Rp 256 1024 d D) (hh : Rp 256 1024 h H) :
    R3 1 1 1024 (k6_pay5 (F := Ideal) d h (k6_pay8 (F := Ideal) h)) (fun _ _ j => ∑ i ∈ Finset.range 256, D i j * (H i j * rn (H i))) := by
  unfold k6_pay5
  exact lift_1_1024 _ (Rp.ofRow _ (colSum _ _ _ (Rp.mul hd (k6_2 hh))))
end

theorem k6_7 {a b c d : S1x256x1408.Idx → EReal} {p q r s : S1x1024x1408.Idx → EReal} {A B C D P Q R S : ℕ → ℕ → ℕ → ℝ}
    (ha : R3 1 256 1408 a A) (hp : R3 1 1024 1408 p P) (hb : R3 1 256 1408 b B) (hq : R3 1 1024 1408 q Q)
    (hc : R3 1 256 1408 c C) (hr : R3 1 1024 1408 r R) (hd : R3 1 256 1408 d D) (hs : R3 1 1024 1408 s S) :
    Rp 256 1024 (k6_pay7 (F := Ideal) a p b q c r d s) (fun i j => (∑ k ∈ Finset.range 1408, A 0 i k * P 0 j k) + (∑ k ∈ Finset.range 1408, B 0 i k * Q 0 j k)
      + (∑ k ∈ Finset.range 1408, C 0 i k * R 0 j k) + (∑ k ∈ Finset.range 1408, D 0 i k * S 0 j k)) := by
  unfold k6_pay7
  exact Rp.add (Rp.add (Rp.add (dot_nt_256_1408_1024 (drop_256_1408 _ ha) (drop_1024_1408 _ hp)) (dot_nt_256_1408_1024 (drop_256_1408 _ hb) (drop_1024_1408 _ hq)))
    (dot_nt_256_1408_1024 (drop_256_1408 _ hc) (drop_1024_1408 _ hr))) (dot_nt_256_1408_1024 (drop_256_1408 _ hd) (drop_1024_1408 _ hs))

theorem k7_1 {a : S2048x512.Idx → EReal} {b : S2048x1024.Idx → EReal} {fa fb : ℕ → ℕ → ℝ} (ha : Rp 2048 512 a fa) (hb : Rp 2048 1024 b fb) :
    Rp 512 1024 (k7_pay1 (F := Ideal) a b) (fun i j => ∑ k ∈ Finset.range 2048, fa k i * fb k j) := by
  unfold k7_pay1
  exact Rp.castSelf _ (Rp.trunc (dot_tn_512_2048_1024 ha hb) _)

theorem k8_1 {a : S512x1024.Idx → EReal} {b : S1024x1024.Idx → EReal} {fa fb : ℕ → ℕ → ℝ} (ha : Rp 512 1024 a fa) (hb : Rp 1024 1024 b fb) :
    Rp 512 1024 (k8_pay1 (F := Ideal) a b) (fun i j => ∑ k ∈ Finset.range 1024, fa i k * fb j k) := by
  unfold k8_pay1
  exact Rp.castSelf _ (dot_nt_512_1024_1024 ha hb)

end Cert.FfnPay
-- ==== Proof.FfnBlk.lean ====
/- Each kernel's input blocks, at coordinates. -/
module

public import proofs.«01_k».proof.Proof.FfnPay
public import proofs.«01_k».proof.Proof.Gen.Kernel2Ideal.Frame
public import Idealize.ShloMosaic.Lib.Pipeline.ValueKit

@[expose] public section

set_option maxRecDepth 16384

noncomputable section

namespace Cert.FfnArr

open Idealize.ShloMosaic Idealize.ShloMosaic.TcCoe Cert.Kernel2Ideal Cert.Kernel2Ideal.Gen Cert.Base Cert.Spec Cert.Ffn Cert.FfnPay

variable {V : (c : Dev nD) → (b : Ref sig .tc) → Buf (Elt Ideal) ((c : Thread nD τ).loc b)} (c : Dev nD)

theorem ib0_0 (t : Fin cfg0.N) {f : ℕ → ℕ → ℝ} (h : Rp 2048 1024 (V c main_arg0) f) :
    Rp 512 1024 (iblk0 V c 0 t) (fun i j => f (512 * t.val + i) j) := fun i j => by
  have hN : (t : ℕ) < 4 := t.isLt.trans_eq N_0
  refine Eq.trans ?_ (h ⟨512 * t.val + i, by omega⟩ j)
  have hi : (cfg0.win 0).index t = ![t.val, 0] := by
    revert t; decide +kernel
  blk_ext [iblk0, hi]

theorem ib0_1 (t : Fin cfg0.N) {f : ℕ → ℕ → ℝ} (h : Rp 1024 1024 (V c main_arg2) f) :
    Rp 1024 1024 (iblk0 V c 1 t) (fun i j => f i j) := fun i j => by
  have hN : (t : ℕ) < 4 := t.isLt.trans_eq N_0
  refine Eq.trans ?_ (h i j)
  have hi : (cfg0.win 1).index t = ![0, 0] := by
    revert t; decide +kernel
  blk_ext [iblk0, hi]

theorem ib0_2 (t : Fin cfg0.N) {f : ℕ → ℕ → ℝ} (h : Rp 2048 1024 (V c main_arg1) f) :
    Rp 512 1024 (iblk0 V c 2 t) (fun i j => f (512 * t.val + i) j) := fun i j => by
  have hN : (t : ℕ) < 4 := t.isLt.trans_eq N_0
  refine Eq.trans ?_ (h ⟨512 * t.val + i, by omega⟩ j)
  have hi : (cfg0.win 2).index t = ![t.val, 0] := by
    revert t; decide +kernel
  blk_ext [iblk0, hi]

theorem ib0_3 (t : Fin cfg0.N) {f : ℕ → ℕ → ℝ} (h : Rp 1 1024 (V c main_arg3) f) :
    Rp 1 1024 (iblk0 V c 3 t) (fun i j => f i j) := fun i j => by
  have hN : (t : ℕ) < 4 := t.isLt.trans_eq N_0
  refine Eq.trans ?_ (h i j)
  have hi : (cfg0.win 3).index t = ![0, 0] := by
    revert t; decide +kernel
  blk_ext [iblk0, hi]

theorem ib1_0 (t : Fin cfg1.N) {f : ℕ → ℕ → ℝ} (h : Rp 2048 1024 (V c main_v1_1) f) :
    Rp 512 1024 (iblk1 V c 0 t) (fun i j => f (512 * (t.val % 4) + i) j) := fun i j => by
  have hN : (t : ℕ) < 8 := t.isLt.trans_eq N_1
  refine Eq.trans ?_ (h ⟨512 * (t.val % 4) + i, by omega⟩ j)
  have hi : (cfg1.win 0).index t = ![t.val % 4, 0] := by
    revert t; decide +kernel
  blk_ext [iblk1, hi]

theorem ib1_1 (t : Fin cfg1.N) {f : ℕ → ℕ → ℕ → ℝ} (h : R3 4 1024 1408 (V c main_arg4) f) :
    R3 1 1024 1408 (iblk1 V c 1 t) (fun k i j => f ((t.val / 4) + k) i j) := fun k i j => by
  have hN : (t : ℕ) < 8 := t.isLt.trans_eq N_1
  refine Eq.trans ?_ (h ⟨(t.val / 4) + k, by omega⟩ i j)
  have hi : (cfg1.win 1).index t = ![t.val / 4, 0, 0] := by
    revert t; decide +kernel
  blk_ext [iblk1, hi]

theorem ib1_2 (t : Fin cfg1.N) {f : ℕ → ℕ → ℕ → ℝ} (h : R3 4 1024 1408 (V c main_arg4) f) :
    R3 1 1024 1408 (iblk1 V c 2 t) (fun k i j => f ((t.val / 4 + 2) + k) i j) := fun k i j => by
  have hN : (t : ℕ) < 8 := t.isLt.trans_eq N_1
  refine Eq.trans ?_ (h ⟨(t.val / 4 + 2) + k, by omega⟩ i j)
  have hi : (cfg1.win 2).index t = ![t.val / 4 + 2, 0, 0] := by
    revert t; decide +kernel
  blk_ext [iblk1, hi]

theorem ib2_0 (t : Fin cfg2.N) {f : ℕ → ℕ → ℝ} (h : Rp 2048 2816 (V c main_v2_1) f) :
    Rp 512 2816 (iblk2 V c 0 t) (fun i j => f (512 * t.val + i) j) := fun i j => by
  have hN : (t : ℕ) < 4 := t.isLt.trans_eq N_2
  refine Eq.trans ?_ (h ⟨512 * t.val + i, by omega⟩ j)
  have hi : (cfg2.win 0).index t = ![t.val, 0] := by
    revert t; decide +kernel
  blk_ext [iblk2, hi]

theorem ib2_1 (t : Fin cfg2.N) {f : ℕ → ℕ → ℝ} (h : Rp 2816 1024 (V c main_arg5) f) :
    Rp 2816 1024 (iblk2 V c 1 t) (fun i j => f i j) := fun i j => by
  have hN : (t : ℕ) < 4 := t.isLt.trans_eq N_2
  refine Eq.trans ?_ (h i j)
  have hi : (cfg2.win 1).index t = ![0, 0] := by
    revert t; decide +kernel
  blk_ext [iblk2, hi]

theorem ib2_2 (t : Fin cfg2.N) {f : ℕ → ℕ → ℝ} (h : Rp 2048 1024 (V c main_v1_0) f) :
    Rp 512 1024 (iblk2 V c 2 t) (fun i j => f (512 * t.val + i) j) := fun i j => by
  have hN : (t : ℕ) < 4 := t.isLt.trans_eq N_2
  refine Eq.trans ?_ (h ⟨512 * t.val + i, by omega⟩ j)
  have hi : (cfg2.win 2).index t = ![t.val, 0] := by
    revert t; decide +kernel
  blk_ext [iblk2, hi]

theorem ib2_3 (t : Fin cfg2.N) {f : ℕ → ℕ → ℝ} (h : Rp 1 1024 (V c main_arg6) f) :
    Rp 1 1024 (iblk2 V c 3 t) (fun i j => f i j) := fun i j => by
  have hN : (t : ℕ) < 4 := t.isLt.trans_eq N_2
  refine Eq.trans ?_ (h i j)
  have hi : (cfg2.win 3).index t = ![0, 0] := by
    revert t; decide +kernel
  blk_ext [iblk2, hi]

theorem ib3_0 (t : Fin cfg3.N) {f : ℕ → ℕ → ℝ} (h : Rp 2048 2816 (V c main_v2_1) f) :
    Rp 2048 256 (iblk3 V c 0 t) (fun i j => f i (256 * t.val + j)) := fun i j => by
  have hN : (t : ℕ) < 11 := t.isLt.trans_eq N_3
  refine Eq.trans ?_ (h i ⟨256 * t.val + j, by omega⟩)
  have hi : (cfg3.win 0).index t = ![0, t.val] := by
    revert t; decide +kernel
  blk_ext [iblk3, hi]

theorem ib3_1 (t : Fin cfg3.N) {f : ℕ → ℕ → ℝ} (h : Rp 2048 1024 (V c main_v0) f) :
    Rp 2048 1024 (iblk3 V c 1 t) (fun i j => f i j) := fun i j => by
  have hN : (t : ℕ) < 11 := t.isLt.trans_eq N_3
  refine Eq.trans ?_ (h i j)
  have hi : (cfg3.win 1).index t = ![0, 0] := by
    revert t; decide +kernel
  blk_ext [iblk3, hi]

theorem ib4_0 (t : Fin cfg4.N) {f : ℕ → ℕ → ℝ} (h : Rp 2048 1024 (V c main_v0) f) :
    Rp 512 1024 (iblk4 V c 0 t) (fun i j => f (512 * (t.val % 4) + i) j) := fun i j => by
  have hN : (t : ℕ) < 8 := t.isLt.trans_eq N_4
  refine Eq.trans ?_ (h ⟨512 * (t.val % 4) + i, by omega⟩ j)
  have hi : (cfg4.win 0).index t = ![t.val % 4, 0] := by
    revert t; decide +kernel
  blk_ext [iblk4, hi]

theorem ib4_1 (t : Fin cfg4.N) {f : ℕ → ℕ → ℝ} (h : Rp 2816 1024 (V c main_arg5) f) :
    Rp 1408 1024 (iblk4 V c 1 t) (fun i j => f (1408 * (t.val / 4) + i) j) := fun i j => by
  have hN : (t : ℕ) < 8 := t.isLt.trans_eq N_4
  refine Eq.trans ?_ (h ⟨1408 * (t.val / 4) + i, by omega⟩ j)
  have hi : (cfg4.win 1).index t = ![t.val / 4, 0] := by
    revert t; decide +kernel
  blk_ext [iblk4, hi]

theorem ib4_2 (t : Fin cfg4.N) {f : ℕ → ℕ → ℕ → ℝ} (h : R3 2 2048 2816 (V c main_v2_0) f) :
    R3 2 512 1408 (iblk4 V c 2 t) (fun k i j => f k (512 * (t.val % 4) + i) (1408 * (t.val / 4) + j)) := fun k i j => by
  have hN : (t : ℕ) < 8 := t.isLt.trans_eq N_4
  refine Eq.trans ?_ (h k ⟨512 * (t.val % 4) + i, by omega⟩ ⟨1408 * (t.val / 4) + j, by omega⟩)
  have hi : (cfg4.win 2).index t = ![0, t.val % 4, t.val / 4] := by
    revert t; decide +kernel
  blk_ext [iblk4, hi]

theorem ib5_0 (t : Fin cfg5.N) {f : ℕ → ℕ → ℝ} (h : Rp 2048 1024 (V c main_v1_1) f) :
    Rp 2048 1024 (iblk5 V c 0 t) (fun i j => f i j) := fun i j => by
  have hN : (t : ℕ) < 4 := t.isLt.trans_eq N_5
  refine Eq.trans ?_ (h i j)
  have hi : (cfg5.win 0).index t = ![0, 0] := by
    revert t; decide +kernel
  blk_ext [iblk5, hi]

theorem ib5_1 (t : Fin cfg5.N) {f : ℕ → ℕ → ℕ → ℝ} (h : R3 2 2048 2816 (V c main_v5) f) :
    R3 1 2048 1408 (iblk5 V c 1 t) (fun k i j => f ((t.val / 2) + k) i (1408 * (t.val % 2) + j)) := fun k i j => by
  have hN : (t : ℕ) < 4 := t.isLt.trans_eq N_5
  refine Eq.trans ?_ (h ⟨(t.val / 2) + k, by omega⟩ i ⟨1408 * (t.val % 2) + j, by omega⟩)
  have hi : (cfg5.win 1).index t = ![t.val / 2, 0, t.val % 2] := by
    revert t; decide +kernel
  blk_ext [iblk5, hi]

theorem ib6_0 (t : Fin cfg6.N) {f : ℕ → ℕ → ℕ → ℝ} (h : R3 2 2048 2816 (V c main_v5) f) :
    R3 1 256 1408 (iblk6 V c 0 t) (fun k i j => f k (256 * t.val + i) j) := fun k i j => by
  have hN : (t : ℕ) < 8 := t.isLt.trans_eq N_6
  refine Eq.trans ?_ (h ⟨k, by omega⟩ ⟨256 * t.val + i, by omega⟩ ⟨j, by omega⟩)
  have hi : (cfg6.win 0).index t = ![0, t.val, 0] := by
    revert t; decide +kernel
  blk_ext [iblk6, hi]

theorem ib6_1 (t : Fin cfg6.N) {f : ℕ → ℕ → ℕ → ℝ} (h : R3 2 2048 2816 (V c main_v5) f) :
    R3 1 256 1408 (iblk6 V c 1 t) (fun k i j => f k (256 * t.val + i) (1408 + j)) := fun k i j => by
  have hN : (t : ℕ) < 8 := t.isLt.trans_eq N_6
  refine Eq.trans ?_ (h ⟨k, by omega⟩ ⟨256 * t.val + i, by omega⟩ ⟨1408 + j, by omega⟩)
  have hi : (cfg6.win 1).index t = ![0, t.val, 1] := by
    revert t; decide +kernel
  blk_ext [iblk6, hi]

theorem ib6_2 (t : Fin cfg6.N) {f : ℕ → ℕ → ℕ → ℝ} (h : R3 2 2048 2816 (V c main_v5) f) :
    R3 1 256 1408 (iblk6 V c 2 t) (fun k i j => f (1 + k) (256 * t.val + i) j) := fun k i j => by
  have hN : (t : ℕ) < 8 := t.isLt.trans_eq N_6
  refine Eq.trans ?_ (h ⟨1 + k, by omega⟩ ⟨256 * t.val + i, by omega⟩ ⟨j, by omega⟩)
  have hi : (cfg6.win 2).index t = ![1, t.val, 0] := by
    revert t; decide +kernel
  blk_ext [iblk6, hi]

theorem ib6_3 (t : Fin cfg6.N) {f : ℕ → ℕ → ℕ → ℝ} (h : R3 2 2048 2816 (V c main_v5) f) :
    R3 1 256 1408 (iblk6 V c 3 t) (fun k i j => f (1 + k) (256 * t.val + i) (1408 + j)) := fun k i j => by
  have hN : (t : ℕ) < 8 := t.isLt.trans_eq N_6
  refine Eq.trans ?_ (h ⟨1 + k, by omega⟩ ⟨256 * t.val + i, by omega⟩ ⟨1408 + j, by omega⟩)
  have hi : (cfg6.win 3).index t = ![1, t.val, 1] := by
    revert t; decide +kernel
  blk_ext [iblk6, hi]

theorem ib6_4 (t : Fin cfg6.N) {f : ℕ → ℕ → ℕ → ℝ} (h : R3 4 1024 1408 (V c main_arg4) f) :
    R3 1 1024 1408 (iblk6 V c 4 t) (fun k i j => f k i j) := fun k i j => by
  have hN : (t : ℕ) < 8 := t.isLt.trans_eq N_6
  refine Eq.trans ?_ (h ⟨k, by omega⟩ i j)
  have hi : (cfg6.win 4).index t = ![0, 0, 0] := by
    revert t; decide +kernel
  blk_ext [iblk6, hi]

theorem ib6_5 (t : Fin cfg6.N) {f : ℕ → ℕ → ℕ → ℝ} (h : R3 4 1024 1408 (V c main_arg4) f) :
    R3 1 1024 1408 (iblk6 V c 5 t) (fun k i j => f (1 + k) i j) := fun k i j => by
  have hN : (t : ℕ) < 8 := t.isLt.trans_eq N_6
  refine Eq.trans ?_ (h ⟨1 + k, by omega⟩ i j)
  have hi : (cfg6.win 5).index t = ![1, 0, 0] := by
    revert t; decide +kernel
  blk_ext [iblk6, hi]

theorem ib6_6 (t : Fin cfg6.N) {f : ℕ → ℕ → ℕ → ℝ} (h : R3 4 1024 1408 (V c main_arg4) f) :
    R3 1 1024 1408 (iblk6 V c 6 t) (fun k i j => f (2 + k) i j) := fun k i j => by
  have hN : (t : ℕ) < 8 := t.isLt.trans_eq N_6
  refine Eq.trans ?_ (h ⟨2 + k, by omega⟩ i j)
  have hi : (cfg6.win 6).index t = ![2, 0, 0] := by
    revert t; decide +kernel
  blk_ext [iblk6, hi]

theorem ib6_7 (t : Fin cfg6.N) {f : ℕ → ℕ → ℕ → ℝ} (h : R3 4 1024 1408 (V c main_arg4) f) :
    R3 1 1024 1408 (iblk6 V c 7 t) (fun k i j => f (3 + k) i j) := fun k i j => by
  have hN : (t : ℕ) < 8 := t.isLt.trans_eq N_6
  refine Eq.trans ?_ (h ⟨3 + k, by omega⟩ i j)
  have hi : (cfg6.win 7).index t = ![3, 0, 0] := by
    revert t; decide +kernel
  blk_ext [iblk6, hi]

theorem ib6_8 (t : Fin cfg6.N) {f : ℕ → ℕ → ℝ} (h : Rp 2048 1024 (V c main_v1_0) f) :
    Rp 256 1024 (iblk6 V c 8 t) (fun i j => f (256 * t.val + i) j) := fun i j => by
  have hN : (t : ℕ) < 8 := t.isLt.trans_eq N_6
  refine Eq.trans ?_ (h ⟨256 * t.val + i, by omega⟩ j)
  have hi : (cfg6.win 8).index t = ![t.val, 0] := by
    revert t; decide +kernel
  blk_ext [iblk6, hi]

theorem ib6_9 (t : Fin cfg6.N) {f : ℕ → ℕ → ℝ} (h : Rp 1 1024 (V c main_arg3) f) :
    Rp 1 1024 (iblk6 V c 9 t) (fun i j => f i j) := fun i j => by
  have hN : (t : ℕ) < 8 := t.isLt.trans_eq N_6
  refine Eq.trans ?_ (h i j)
  have hi : (cfg6.win 9).index t = ![0, 0] := by
    revert t; decide +kernel
  blk_ext [iblk6, hi]

theorem ib6_10 (t : Fin cfg6.N) {f : ℕ → ℕ → ℝ} (h : Rp 2048 1024 (V c main_arg7) f) :
    Rp 256 1024 (iblk6 V c 10 t) (fun i j => f (256 * t.val + i) j) := fun i j => by
  have hN : (t : ℕ) < 8 := t.isLt.trans_eq N_6
  refine Eq.trans ?_ (h ⟨256 * t.val + i, by omega⟩ j)
  have hi : (cfg6.win 10).index t = ![t.val, 0] := by
    revert t; decide +kernel
  blk_ext [iblk6, hi]

theorem ib7_0 (t : Fin cfg7.N) {f : ℕ → ℕ → ℝ} (h : Rp 2048 1024 (V c main_arg0) f) :
    Rp 2048 512 (iblk7 V c 0 t) (fun i j => f i (512 * t.val + j)) := fun i j => by
  have hN : (t : ℕ) < 2 := t.isLt.trans_eq N_7
  refine Eq.trans ?_ (h i ⟨512 * t.val + j, by omega⟩)
  have hi : (cfg7.win 0).index t = ![0, t.val] := by
    revert t; decide +kernel
  blk_ext [iblk7, hi]

theorem ib7_1 (t : Fin cfg7.N) {f : ℕ → ℕ → ℝ} (h : Rp 2048 1024 (V c main_v7_1) f) :
    Rp 2048 1024 (iblk7 V c 1 t) (fun i j => f i j) := fun i j => by
  have hN : (t : ℕ) < 2 := t.isLt.trans_eq N_7
  refine Eq.trans ?_ (h i j)
  have hi : (cfg7.win 1).index t = ![0, 0] := by
    revert t; decide +kernel
  blk_ext [iblk7, hi]

theorem ib8_0 (t : Fin cfg8.N) {f : ℕ → ℕ → ℝ} (h : Rp 2048 1024 (V c main_v7_1) f) :
    Rp 512 1024 (iblk8 V c 0 t) (fun i j => f (512 * t.val + i) j) := fun i j => by
  have hN : (t : ℕ) < 4 := t.isLt.trans_eq N_8
  refine Eq.trans ?_ (h ⟨512 * t.val + i, by omega⟩ j)
  have hi : (cfg8.win 0).index t = ![t.val, 0] := by
    revert t; decide +kernel
  blk_ext [iblk8, hi]

theorem ib8_1 (t : Fin cfg8.N) {f : ℕ → ℕ → ℝ} (h : Rp 1024 1024 (V c main_arg2) f) :
    Rp 1024 1024 (iblk8 V c 1 t) (fun i j => f i j) := fun i j => by
  have hN : (t : ℕ) < 4 := t.isLt.trans_eq N_8
  refine Eq.trans ?_ (h i j)
  have hi : (cfg8.win 1).index t = ![0, 0] := by
    revert t; decide +kernel
  blk_ext [iblk8, hi]

end Cert.FfnArr
-- ==== Proof.FfnOut.lean ====
/- What each kernel leaves in an output block, as its arithmetic of the blocks it was given. -/
module

public import proofs.«01_k».proof.Proof.FfnPay
public import proofs.«01_k».proof.Proof.Gen.Kernel2Ideal.Frame
public import Idealize.ShloMosaic.Lib.Pipeline.ValueKit

@[expose] public section

set_option maxRecDepth 16384

noncomputable section

namespace Cert.FfnArr

open Idealize.ShloMosaic Idealize.ShloMosaic.TcCoe Cert.Kernel2Ideal Cert.Kernel2Ideal.Gen Cert.Base Cert.Spec Cert.Ffn Cert.FfnPay
open Idealize.ShloMosaic.View renaming ld_unit_lit → ld1, canon_cons_unit_lit → canon1

theorem o0_4 (x0 : Vec Ideal S512x1024 .bf16) (x1 : Vec Ideal S1024x1024 .bf16) (x2 : Vec Ideal S512x1024 .f32) (x3 : Vec Ideal S1x1024 .f32) :
    out0_4 x0 x1 x2 x3 = k0_pay3 (F := Ideal) x0 x1 x2 := by
  unfold out0_4
  rw [canon1 _ _ _ (by decide), ld1 _ x0 (by decide), ld1 _ x1 (by decide), ld1 _ x2 (by decide)]

theorem o0_5 (x0 : Vec Ideal S512x1024 .bf16) (x1 : Vec Ideal S1024x1024 .bf16) (x2 : Vec Ideal S512x1024 .f32) (x3 : Vec Ideal S1x1024 .f32) :
    out0_5 x0 x1 x2 x3 = k0_pay2 (F := Ideal) x0 x1 x2 x3 := by
  unfold out0_5
  rw [canon1 _ _ _ (by decide), ld1 _ x0 (by decide), ld1 _ x1 (by decide), ld1 _ x2 (by decide), ld1 _ x3 (by decide)]

theorem o1_4 (x0 : Vec Ideal S512x1024 .bf16) (x1 : Vec Ideal S1x1024x1408 .bf16) (x2 : Vec Ideal S1x1024x1408 .bf16) :
    out1_4 x0 x1 x2 = k1_pay1 (F := Ideal) (k1_pay8 (F := Ideal) x0 x1 x2) := by
  unfold out1_4
  rw [canon1 _ _ _ (by decide), ld1 _ x0 (by decide), ld1 _ x1 (by decide), ld1 _ x2 (by decide)]

theorem o2_4 (x0 : Vec Ideal S512x2816 .bf16) (x1 : Vec Ideal S2816x1024 .bf16) (x2 : Vec Ideal S512x1024 .f32) (x3 : Vec Ideal S1x1024 .f32) :
    out2_4 x0 x1 x2 x3 = k2_pay3 (F := Ideal) x0 x1 x2 := by
  unfold out2_4
  rw [canon1 _ _ _ (by decide), ld1 _ x0 (by decide), ld1 _ x1 (by decide), ld1 _ x2 (by decide)]

theorem o2_5 (x0 : Vec Ideal S512x2816 .bf16) (x1 : Vec Ideal S2816x1024 .bf16) (x2 : Vec Ideal S512x1024 .f32) (x3 : Vec Ideal S1x1024 .f32) :
    out2_5 x0 x1 x2 x3 = k2_pay2 (F := Ideal) x0 x1 x2 x3 := by
  unfold out2_5
  rw [canon1 _ _ _ (by decide), ld1 _ x0 (by decide), ld1 _ x1 (by decide), ld1 _ x2 (by decide), ld1 _ x3 (by decide)]

theorem o3_2 (x0 : Vec Ideal S2048x256 .bf16) (x1 : Vec Ideal S2048x1024 .bf16) :
    out3_2 x0 x1 = k3_pay1 (F := Ideal) x0 x1 := by
  unfold out3_2
  rw [canon1 _ _ _ (by decide), ld1 _ x0 (by decide), ld1 _ x1 (by decide)]

theorem o5_2 (x0 : Vec Ideal S2048x1024 .bf16) (x1 : Vec Ideal S1x2048x1408 .bf16) :
    out5_2 x0 x1 = k5_pay1 (F := Ideal) x0 x1 := by
  unfold out5_2
  rw [canon1 _ _ _ (by decide), ld1 _ x0 (by decide), ld1 _ x1 (by decide)]

theorem o6_11 (x0 : Vec Ideal S1x256x1408 .bf16) (x1 : Vec Ideal S1x256x1408 .bf16) (x2 : Vec Ideal S1x256x1408 .bf16) (x3 : Vec Ideal S1x256x1408 .bf16) (x4 : Vec Ideal S1x1024x1408 .bf16) (x5 : Vec Ideal S1x1024x1408 .bf16) (x6 : Vec Ideal S1x1024x1408 .bf16) (x7 : Vec Ideal S1x1024x1408 .bf16) (x8 : Vec Ideal S256x1024 .f32) (x9 : Vec Ideal S1x1024 .f32) (x10 : Vec Ideal S256x1024 .f32) :
    out6_11 x0 x1 x2 x3 x4 x5 x6 x7 x8 x9 x10 = k6_pay6 (F := Ideal) (k6_pay7 (F := Ideal) x0 x4 x1 x5 x2 x6 x3 x7) x8 x9 (k6_pay8 (F := Ideal) x8) x10 := by
  unfold out6_11 k6_pay9 k6_pay10
  rw [canon1 _ _ _ (by decide), ld1 _ x0 (by decide), ld1 _ x1 (by decide), ld1 _ x2 (by decide), ld1 _ x3 (by decide), ld1 _ x4 (by decide), ld1 _ x5 (by decide), ld1 _ x6 (by decide), ld1 _ x7 (by decide), ld1 _ x8 (by decide), ld1 _ x9 (by decide), ld1 _ x10 (by decide)]

theorem o6_12 (x0 : Vec Ideal S1x256x1408 .bf16) (x1 : Vec Ideal S1x256x1408 .bf16) (x2 : Vec Ideal S1x256x1408 .bf16) (x3 : Vec Ideal S1x256x1408 .bf16) (x4 : Vec Ideal S1x1024x1408 .bf16) (x5 : Vec Ideal S1x1024x1408 .bf16) (x6 : Vec Ideal S1x1024x1408 .bf16) (x7 : Vec Ideal S1x1024x1408 .bf16) (x8 : Vec Ideal S256x1024 .f32) (x9 : Vec Ideal S1x1024 .f32) (x10 : Vec Ideal S256x1024 .f32) :
    out6_12 x0 x1 x2 x3 x4 x5 x6 x7 x8 x9 x10 = k6_pay4 (F := Ideal) (k6_pay7 (F := Ideal) x0 x4 x1 x5 x2 x6 x3 x7) x8 x9 (k6_pay8 (F := Ideal) x8) x10 := by
  unfold out6_12 k6_pay9 k6_pay10
  rw [canon1 _ _ _ (by decide), ld1 _ x0 (by decide), ld1 _ x1 (by decide), ld1 _ x2 (by decide), ld1 _ x3 (by decide), ld1 _ x4 (by decide), ld1 _ x5 (by decide), ld1 _ x6 (by decide), ld1 _ x7 (by decide), ld1 _ x8 (by decide), ld1 _ x9 (by decide), ld1 _ x10 (by decide)]

theorem o6_13 (x0 : Vec Ideal S1x256x1408 .bf16) (x1 : Vec Ideal S1x256x1408 .bf16) (x2 : Vec Ideal S1x256x1408 .bf16) (x3 : Vec Ideal S1x256x1408 .bf16) (x4 : Vec Ideal S1x1024x1408 .bf16) (x5 : Vec Ideal S1x1024x1408 .bf16) (x6 : Vec Ideal S1x1024x1408 .bf16) (x7 : Vec Ideal S1x1024x1408 .bf16) (x8 : Vec Ideal S256x1024 .f32) (x9 : Vec Ideal S1x1024 .f32) (x10 : Vec Ideal S256x1024 .f32) :
    out6_13 x0 x1 x2 x3 x4 x5 x6 x7 x8 x9 x10 = k6_pay5 (F := Ideal) (k6_pay7 (F := Ideal) x0 x4 x1 x5 x2 x6 x3 x7) x8 (k6_pay8 (F := Ideal) x8) := by
  unfold out6_13 k6_pay9 k6_pay10
  rw [canon1 _ _ _ (by decide), ld1 _ x0 (by decide), ld1 _ x1 (by decide), ld1 _ x2 (by decide), ld1 _ x3 (by decide), ld1 _ x4 (by decide), ld1 _ x5 (by decide), ld1 _ x6 (by decide), ld1 _ x7 (by decide), ld1 _ x8 (by decide)]

theorem o7_2 (x0 : Vec Ideal S2048x512 .bf16) (x1 : Vec Ideal S2048x1024 .bf16) :
    out7_2 x0 x1 = k7_pay1 (F := Ideal) x0 x1 := by
  unfold out7_2
  rw [canon1 _ _ _ (by decide), ld1 _ x0 (by decide), ld1 _ x1 (by decide)]

theorem o8_2 (x0 : Vec Ideal S512x1024 .bf16) (x1 : Vec Ideal S1024x1024 .bf16) :
    out8_2 x0 x1 = k8_pay1 (F := Ideal) x0 x1 := by
  unfold out8_2
  rw [canon1 _ _ _ (by decide), ld1 _ x0 (by decide), ld1 _ x1 (by decide)]

/-! Windows of two planes, each stored and loaded by itself. -/

theorem two_canon {p q : S1x512x1408.Idx → EReal} {P Q : ℕ → ℕ → ℝ} (hp : R3 1 512 1408 p (fun _ => P)) (hq : R3 1 512 1408 q (fun _ => Q)) :
    R3 2 512 1408 (View.canon (Val := Elt Ideal) (e := .bf16) [⟨r1_3, p⟩, ⟨r1_2, q⟩]) (fun k i j => if k = 0 then Q i j else P i j) := fun k i j => by
  refine View.canon_eq_of_allAt _ _ _ (cover1_3 (F := Ideal) p q _) (View.allAt_cons_unit _ _ _ _ _ (fun x hx => ?_) (View.allAt_cons_unit _ _ _ _ _ (fun x hx => ?_) (View.allAt_nil _ _)))
  · have h0 : (k : ℕ) = 1 + ((x 0 : Fin 1) : ℕ) := hx 0
    have h1 : (i : ℕ) = 0 + ((x 1 : Fin 512) : ℕ) := hx 1
    have h2 : (j : ℕ) = 0 + ((x 2 : Fin 1408) : ℕ) := hx 2
    refine (hp.at x).trans ?_
    show _ = (((if (k : ℕ) = 0 then Q i j else P i j) : ℝ) : EReal)
    rw [if_neg (by omega), h1, h2, Nat.zero_add, Nat.zero_add]
  · have h0 : (k : ℕ) = 0 + ((x 0 : Fin 1) : ℕ) := hx 0
    have h1 : (i : ℕ) = 0 + ((x 1 : Fin 512) : ℕ) := hx 1
    have h2 : (j : ℕ) = 0 + ((x 2 : Fin 1408) : ℕ) := hx 2
    refine (hq.at x).trans ?_
    have hx0 : ((x 0 : Fin 1) : ℕ) < 1 := (x 0 : Fin 1).isLt
    show _ = (((if (k : ℕ) = 0 then Q i j else P i j) : ℝ) : EReal)
    rw [if_pos (by omega), h1, h2, Nat.zero_add, Nat.zero_add]

theorem plane0 {x : S2x512x1408.Idx → EReal} {f : ℕ → ℕ → ℕ → ℝ} (h : R3 2 512 1408 x f) :
    R3 1 512 1408 (View.ld (Val := Elt Ideal) (e' := .bf16) x r4_2) (fun _ i j => f 0 i j) := fun k i j => by
  refine Eq.trans (congrArg x ?_) (h 0 i j)
  refine (eq_ix3 _).trans (congr (congrArg₂ ix3 (Fin.ext ?_) (Fin.ext ?_)) (Fin.ext ?_))
  · show 0 + 1 * (k : ℕ) = 0; omega
  · show 0 + 1 * (i : ℕ) = i; omega
  · show 0 + 1 * (j : ℕ) = j; omega

theorem plane1 {x : S2x512x1408.Idx → EReal} {f : ℕ → ℕ → ℕ → ℝ} (h : R3 2 512 1408 x f) :
    R3 1 512 1408 (View.ld (Val := Elt Ideal) (e' := .bf16) x r4_3) (fun _ i j => f 1 i j) := fun k i j => by
  refine Eq.trans (congrArg x ?_) (h 1 i j)
  refine (eq_ix3 _).trans (congr (congrArg₂ ix3 (Fin.ext ?_) (Fin.ext ?_)) (Fin.ext ?_))
  · show 1 + 1 * (k : ℕ) = 1; omega
  · show 0 + 1 * (i : ℕ) = i; omega
  · show 0 + 1 * (j : ℕ) = j; omega

theorem o1_3 (x0 : Vec Ideal S512x1024 .bf16) (x1 : Vec Ideal S1x1024x1408 .bf16) (x2 : Vec Ideal S1x1024x1408 .bf16) :
    out1_3 x0 x1 x2 = View.canon (Val := Elt Ideal) (e := .bf16) [⟨r1_3, k1_pay7 (F := Ideal) x0 x1⟩, ⟨r1_2, k1_pay6 (F := Ideal) x0 x1 x2⟩] := by
  unfold out1_3
  rw [ld1 _ x0 (by decide), ld1 _ x1 (by decide), ld1 _ x2 (by decide)]

theorem o4_3 (x0 : Vec Ideal S512x1024 .bf16) (x1 : Vec Ideal S1408x1024 .bf16) (x2 : Vec Ideal S2x512x1408 .bf16) :
    out4_3 x0 x1 x2 = View.canon (Val := Elt Ideal) (e := .bf16) [⟨r1_3, k4_pay3 (F := Ideal) x0 x1 (View.ld x2 r4_3)⟩, ⟨r1_2, k4_pay2 (F := Ideal) x0 x1 (View.ld x2 r4_2)⟩] := by
  unfold out4_3
  rw [ld1 _ x0 (by decide), ld1 _ x1 (by decide)]

end Cert.FfnArr
-- ==== Proof.FfnArr.lean ====
/- What each kernel leaves in its arrays: every block is the reals of Ffn.lean, so the array is. -/
module

public import proofs.«01_k».proof.Proof.FfnBlk
public import proofs.«01_k».proof.Proof.FfnOut
public import Idealize.ShloMosaic.Lib.Pipeline.ValueKit

@[expose] public section

set_option maxRecDepth 16384

noncomputable section

namespace Cert.FfnArr

open Idealize.ShloMosaic Idealize.ShloMosaic.TcCoe Cert.Kernel2Ideal Cert.Kernel2Ideal.Gen Cert.Base Cert.Spec Cert.Ffn Cert.FfnPay

variable {V : (c : Dev nD) → (b : Ref sig .tc) → Buf (Elt Ideal) ((c : Thread nD τ).loc b)} (c : Dev nD) (I : Ffn.In)
theorem arr0_4 (h_arg0 : Rp 2048 1024 (V c main_arg0) I.m) (h_arg2 : Rp 1024 1024 (V c main_arg2) I.wo) (h_arg1 : Rp 2048 1024 (V c main_arg1) I.h) (h_arg3 : Rp 1 1024 (V c main_arg3) (fun _ j => I.g j)) :
    Rp 2048 1024 ((dat0 V c).arrAt 4 cfg0.N) I.hm := by
  intro i j
  refine (dat0 V c).arrAt_forall_of_covers 4 (fun y v => v = ((I.hm (y 0 : Fin 2048) (y 1 : Fin 1024) : ℝ) : EReal)) (by decide +kernel) (fun t hf y => ?_) (ix2 i j)
  rw [after0_4]
  have hN : (t : ℕ) < 4 := t.isLt.trans_eq N_0
  have hi : (cfg0.win 4).index t = ![t.val, 0] := by
    clear hf y hN; revert t; decide +kernel
  have key : Rp 512 1024 (out0_4 (iblk0 V c 0 t) (iblk0 V c 1 t) (iblk0 V c 2 t) (iblk0 V c 3 t)) (fun i j => I.hm (512 * t.val + i) j) := by
    rw [o0_4]
    exact k0_3 (ib0_0 c t h_arg0) (ib0_1 c t h_arg2) (ib0_2 c t h_arg1) fun i j _ _ => rfl
  generalize iblk0 V c 0 t = x0, iblk0 V c 1 t = x1, iblk0 V c 2 t = x2, iblk0 V c 3 t = x3 at key ⊢
  rw [key.at y]
  blk_simp [hi]
  rw [Nat.mul_comm 512]

theorem arr0_5 (h_arg0 : Rp 2048 1024 (V c main_arg0) I.m) (h_arg2 : Rp 1024 1024 (V c main_arg2) I.wo) (h_arg1 : Rp 2048 1024 (V c main_arg1) I.h) (h_arg3 : Rp 1 1024 (V c main_arg3) (fun _ j => I.g j)) :
    Rp 2048 1024 ((dat0 V c).arrAt 5 cfg0.N) I.hn := by
  intro i j
  refine (dat0 V c).arrAt_forall_of_covers 5 (fun y v => v = ((I.hn (y 0 : Fin 2048) (y 1 : Fin 1024) : ℝ) : EReal)) (by decide +kernel) (fun t hf y => ?_) (ix2 i j)
  rw [after0_5]
  have hN : (t : ℕ) < 4 := t.isLt.trans_eq N_0
  have hi : (cfg0.win 5).index t = ![t.val, 0] := by
    clear hf y hN; revert t; decide +kernel
  have key : Rp 512 1024 (out0_5 (iblk0 V c 0 t) (iblk0 V c 1 t) (iblk0 V c 2 t) (iblk0 V c 3 t)) (fun i j => I.hn (512 * t.val + i) j) := by
    rw [o0_5]
    exact k0_2 (X := fun i j => I.hm (512 * t.val + i) j) (ib0_0 c t h_arg0) (ib0_1 c t h_arg2) (ib0_2 c t h_arg1) (ib0_3 c t h_arg3) fun i j _ _ => rfl
  generalize iblk0 V c 0 t = x0, iblk0 V c 1 t = x1, iblk0 V c 2 t = x2, iblk0 V c 3 t = x3 at key ⊢
  rw [key.at y]
  blk_simp [hi]
  rw [Nat.mul_comm 512]

theorem arr2_4 (h_v2_1 : Rp 2048 2816 (V c main_v2_1) I.act) (h_arg5 : Rp 2816 1024 (V c main_arg5) I.w2) (h_v1_0 : Rp 2048 1024 (V c main_v1_0) I.hm) (h_arg6 : Rp 1 1024 (V c main_arg6) (fun _ j => I.gx j)) :
    Rp 2048 1024 ((dat2 V c).arrAt 4 cfg2.N) I.ho := by
  intro i j
  refine (dat2 V c).arrAt_forall_of_covers 4 (fun y v => v = ((I.ho (y 0 : Fin 2048) (y 1 : Fin 1024) : ℝ) : EReal)) (by decide +kernel) (fun t hf y => ?_) (ix2 i j)
  rw [after2_4]
  have hN : (t : ℕ) < 4 := t.isLt.trans_eq N_2
  have hi : (cfg2.win 4).index t = ![t.val, 0] := by
    clear hf y hN; revert t; decide +kernel
  have key : Rp 512 1024 (out2_4 (iblk2 V c 0 t) (iblk2 V c 1 t) (iblk2 V c 2 t) (iblk2 V c 3 t)) (fun i j => I.ho (512 * t.val + i) j) := by
    rw [o2_4]
    exact k2_3 (ib2_0 c t h_v2_1) (ib2_1 c t h_arg5) (ib2_2 c t h_v1_0) fun i j _ _ => rfl
  generalize iblk2 V c 0 t = x0, iblk2 V c 1 t = x1, iblk2 V c 2 t = x2, iblk2 V c 3 t = x3 at key ⊢
  rw [key.at y]
  blk_simp [hi]
  rw [Nat.mul_comm 512]

theorem arr2_5 (h_v2_1 : Rp 2048 2816 (V c main_v2_1) I.act) (h_arg5 : Rp 2816 1024 (V c main_arg5) I.w2) (h_v1_0 : Rp 2048 1024 (V c main_v1_0) I.hm) (h_arg6 : Rp 1 1024 (V c main_arg6) (fun _ j => I.gx j)) :
    Rp 2048 1024 ((dat2 V c).arrAt 5 cfg2.N) I.xn := by
  intro i j
  refine (dat2 V c).arrAt_forall_of_covers 5 (fun y v => v = ((I.xn (y 0 : Fin 2048) (y 1 : Fin 1024) : ℝ) : EReal)) (by decide +kernel) (fun t hf y => ?_) (ix2 i j)
  rw [after2_5]
  have hN : (t : ℕ) < 4 := t.isLt.trans_eq N_2
  have hi : (cfg2.win 5).index t = ![t.val, 0] := by
    clear hf y hN; revert t; decide +kernel
  have key : Rp 512 1024 (out2_5 (iblk2 V c 0 t) (iblk2 V c 1 t) (iblk2 V c 2 t) (iblk2 V c 3 t)) (fun i j => I.xn (512 * t.val + i) j) := by
    rw [o2_5]
    exact k2_2 (X := fun i j => I.ho (512 * t.val + i) j) (ib2_0 c t h_v2_1) (ib2_1 c t h_arg5) (ib2_2 c t h_v1_0) (ib2_3 c t h_arg6) fun i j _ _ => rfl
  generalize iblk2 V c 0 t = x0, iblk2 V c 1 t = x1, iblk2 V c 2 t = x2, iblk2 V c 3 t = x3 at key ⊢
  rw [key.at y]
  blk_simp [hi]
  rw [Nat.mul_comm 512]

theorem arr1_3 (h_v1_1 : Rp 2048 1024 (V c main_v1_1) I.hn) (h_arg4 : R3 4 1024 1408 (V c main_arg4) I.wi) :
    R3 2 2048 2816 ((dat1 V c).arrAt 3 cfg1.N) I.z := by
  intro k i j
  refine (dat1 V c).arrAt_forall_of_covers 3 (fun y v => v = ((I.z (y 0 : Fin 2) (y 1 : Fin 2048) (y 2 : Fin 2816) : ℝ) : EReal)) (by decide +kernel) (fun t hf y => ?_) (ix3 k i j)
  rw [after1_3]
  have hN : (t : ℕ) < 8 := t.isLt.trans_eq N_1
  have hi : (cfg1.win 3).index t = ![0, t.val % 4, t.val / 4] := by
    clear hf y hN; revert t; decide +kernel
  have key : R3 2 512 1408 (out1_3 (iblk1 V c 0 t) (iblk1 V c 1 t) (iblk1 V c 2 t)) (fun k i j => I.z k (512 * (t.val % 4) + i) (1408 * (t.val / 4) + j)) := by
    rw [o1_3]
    have e1 : ∀ j, j < 1408 → (1408 * (t.val / 4) + j) / 1408 = t.val / 4 := fun j hj => by omega
    have e2 : ∀ j, j < 1408 → (1408 * (t.val / 4) + j) % 1408 = j := fun j hj => by omega
    have hG : ∀ i j, i < 512 → j < 1408 → ∑ k ∈ Finset.range 1024, I.hn (512 * (t.val % 4) + i) k * I.wi ((t.val / 4) + 0) k j = I.zg (512 * (t.val % 4) + i) (1408 * (t.val / 4) + j) := by
      intro i j _ hj
      simp only [In.zg, e1 j hj, e2 j hj, Nat.add_zero]
    have hU : ∀ i j, i < 512 → j < 1408 → ∑ k ∈ Finset.range 1024, I.hn (512 * (t.val % 4) + i) k * I.wi ((t.val / 4 + 2) + 0) k j = I.zu (512 * (t.val % 4) + i) (1408 * (t.val / 4) + j) := by
      intro i j _ hj
      simp only [In.zu, e1 j hj, e2 j hj, Nat.add_zero]
    exact R3.of_eq (two_canon (k1_7 (ib1_0 c t h_v1_1) (ib1_1 c t h_arg4) (G := fun i j => I.zg (512 * (t.val % 4) + i) (1408 * (t.val / 4) + j)) hG) (k1_6 (ib1_0 c t h_v1_1) (ib1_1 c t h_arg4) (ib1_2 c t h_arg4) (G := fun i j => I.zg (512 * (t.val % 4) + i) (1408 * (t.val / 4) + j)) (U := fun i j => I.zu (512 * (t.val % 4) + i) (1408 * (t.val / 4) + j)) hG hU)) fun k i j _ _ _ => rfl
  generalize iblk1 V c 0 t = x0, iblk1 V c 1 t = x1, iblk1 V c 2 t = x2 at key ⊢
  rw [key.at y]
  blk_simp [hi]
  rw [Nat.mul_comm 512, Nat.mul_comm 1408]

theorem arr1_4 (h_v1_1 : Rp 2048 1024 (V c main_v1_1) I.hn) (h_arg4 : R3 4 1024 1408 (V c main_arg4) I.wi) :
    Rp 2048 2816 ((dat1 V c).arrAt 4 cfg1.N) I.act := by
  intro i j
  refine (dat1 V c).arrAt_forall_of_covers 4 (fun y v => v = ((I.act (y 0 : Fin 2048) (y 1 : Fin 2816) : ℝ) : EReal)) (by decide +kernel) (fun t hf y => ?_) (ix2 i j)
  rw [after1_4]
  have hN : (t : ℕ) < 8 := t.isLt.trans_eq N_1
  have hi : (cfg1.win 4).index t = ![t.val % 4, t.val / 4] := by
    clear hf y hN; revert t; decide +kernel
  have key : Rp 512 1408 (out1_4 (iblk1 V c 0 t) (iblk1 V c 1 t) (iblk1 V c 2 t)) (fun i j => I.act (512 * (t.val % 4) + i) (1408 * (t.val / 4) + j)) := by
    rw [o1_4]
    have e1 : ∀ j, j < 1408 → (1408 * (t.val / 4) + j) / 1408 = t.val / 4 := fun j hj => by omega
    have e2 : ∀ j, j < 1408 → (1408 * (t.val / 4) + j) % 1408 = j := fun j hj => by omega
    have hG : ∀ i j, i < 512 → j < 1408 → ∑ k ∈ Finset.range 1024, I.hn (512 * (t.val % 4) + i) k * I.wi ((t.val / 4) + 0) k j = I.zg (512 * (t.val % 4) + i) (1408 * (t.val / 4) + j) := by
      intro i j _ hj
      simp only [In.zg, e1 j hj, e2 j hj, Nat.add_zero]
    have hU : ∀ i j, i < 512 → j < 1408 → ∑ k ∈ Finset.range 1024, I.hn (512 * (t.val % 4) + i) k * I.wi ((t.val / 4 + 2) + 0) k j = I.zu (512 * (t.val % 4) + i) (1408 * (t.val / 4) + j) := by
      intro i j _ hj
      simp only [In.zu, e1 j hj, e2 j hj, Nat.add_zero]
    exact Rp.of_eq (k1_1 (ib1_0 c t h_v1_1) (ib1_1 c t h_arg4) (ib1_2 c t h_arg4) (G := fun i j => I.zg (512 * (t.val % 4) + i) (1408 * (t.val / 4) + j)) (U := fun i j => I.zu (512 * (t.val % 4) + i) (1408 * (t.val / 4) + j)) hG hU) fun i j _ _ => rfl
  generalize iblk1 V c 0 t = x0, iblk1 V c 1 t = x1, iblk1 V c 2 t = x2 at key ⊢
  rw [key.at y]
  blk_simp [hi]
  rw [Nat.mul_comm 512, Nat.mul_comm 1408]

theorem arr3_2 (h_v2_1 : Rp 2048 2816 (V c main_v2_1) I.act) (h_v0 : Rp 2048 1024 (V c main_v0) I.dh) :
    Rp 2816 1024 ((dat3 V c).arrAt 2 cfg3.N) I.dw2 := by
  intro i j
  refine (dat3 V c).arrAt_forall_of_covers 2 (fun y v => v = ((I.dw2 (y 0 : Fin 2816) (y 1 : Fin 1024) : ℝ) : EReal)) (by decide +kernel) (fun t hf y => ?_) (ix2 i j)
  rw [after3_2]
  have hN : (t : ℕ) < 11 := t.isLt.trans_eq N_3
  have hi : (cfg3.win 2).index t = ![t.val, 0] := by
    clear hf y hN; revert t; decide +kernel
  have key : Rp 256 1024 (out3_2 (iblk3 V c 0 t) (iblk3 V c 1 t)) (fun i j => I.dw2 (256 * t.val + i) j) := by
    rw [o3_2]
    exact Rp.of_eq (k3_1 (ib3_0 c t h_v2_1) (ib3_1 c t h_v0)) fun i j _ _ => rfl
  generalize iblk3 V c 0 t = x0, iblk3 V c 1 t = x1 at key ⊢
  rw [key.at y]
  blk_simp [hi]
  rw [Nat.mul_comm 256]

theorem arr4_3 (h_v0 : Rp 2048 1024 (V c main_v0) I.dh) (h_arg5 : Rp 2816 1024 (V c main_arg5) I.w2) (h_v2_0 : R3 2 2048 2816 (V c main_v2_0) I.z) :
    R3 2 2048 2816 ((dat4 V c).arrAt 3 cfg4.N) I.dz := by
  intro k i j
  refine (dat4 V c).arrAt_forall_of_covers 3 (fun y v => v = ((I.dz (y 0 : Fin 2) (y 1 : Fin 2048) (y 2 : Fin 2816) : ℝ) : EReal)) (by decide +kernel) (fun t hf y => ?_) (ix3 k i j)
  rw [after4_3]
  have hN : (t : ℕ) < 8 := t.isLt.trans_eq N_4
  have hi : (cfg4.win 3).index t = ![0, t.val % 4, t.val / 4] := by
    clear hf y hN; revert t; decide +kernel
  have key : R3 2 512 1408 (out4_3 (iblk4 V c 0 t) (iblk4 V c 1 t) (iblk4 V c 2 t)) (fun k i j => I.dz k (512 * (t.val % 4) + i) (1408 * (t.val / 4) + j)) := by
    rw [o4_3]
    refine R3.of_eq (two_canon (k4_3 (ib4_0 c t h_v0) (ib4_1 c t h_arg5) (plane1 (ib4_2 c t h_v2_0))) (k4_2 (ib4_0 c t h_v0) (ib4_1 c t h_arg5) (plane0 (ib4_2 c t h_v2_0)))) fun k i j hk _ _ => ?_
    rcases (show k = 0 ∨ k = 1 by omega) with rfl | rfl
    · exact if_pos rfl
    · exact if_neg (by omega)
  generalize iblk4 V c 0 t = x0, iblk4 V c 1 t = x1, iblk4 V c 2 t = x2 at key ⊢
  rw [key.at y]
  blk_simp [hi]
  rw [Nat.mul_comm 512, Nat.mul_comm 1408]

theorem arr5_2 (h_v1_1 : Rp 2048 1024 (V c main_v1_1) I.hn) (h_v5 : R3 2 2048 2816 (V c main_v5) I.dz) :
    R3 4 1024 1408 ((dat5 V c).arrAt 2 cfg5.N) I.dwi := by
  intro k i j
  refine (dat5 V c).arrAt_forall_of_covers 2 (fun y v => v = ((I.dwi (y 0 : Fin 4) (y 1 : Fin 1024) (y 2 : Fin 1408) : ℝ) : EReal)) (by decide +kernel) (fun t hf y => ?_) (ix3 k i j)
  rw [after5_2]
  have hN : (t : ℕ) < 4 := t.isLt.trans_eq N_5
  have hi : (cfg5.win 2).index t = ![t.val, 0, 0] := by
    clear hf y hN; revert t; decide +kernel
  have key : R3 1 1024 1408 (out5_2 (iblk5 V c 0 t) (iblk5 V c 1 t)) (fun k i j => I.dwi (t.val + k) i j) := by
    rw [o5_2]
    refine R3.of_eq (k5_1 (ib5_0 c t h_v1_1) (ib5_1 c t h_v5)) fun k i j hk _ _ => ?_
    obtain rfl : k = 0 := by omega
    simp only [In.dwi, Nat.add_zero, Nat.mul_comm 1408]
  generalize iblk5 V c 0 t = x0, iblk5 V c 1 t = x1 at key ⊢
  rw [key.at y]
  blk_simp [hi]

theorem arr6_11 (h_v5 : R3 2 2048 2816 (V c main_v5) I.dz) (h_arg4 : R3 4 1024 1408 (V c main_arg4) I.wi) (h_v1_0 : Rp 2048 1024 (V c main_v1_0) I.hm) (h_arg3 : Rp 1 1024 (V c main_arg3) (fun _ j => I.g j)) (h_arg7 : Rp 2048 1024 (V c main_arg7) I.dh) :
    Rp 2048 1024 ((dat6 V c).arrAt 11 cfg6.N) I.dhm := by
  intro i j
  refine (dat6 V c).arrAt_forall_of_covers 11 (fun y v => v = ((I.dhm (y 0 : Fin 2048) (y 1 : Fin 1024) : ℝ) : EReal)) (by decide +kernel) (fun t hf y => ?_) (ix2 i j)
  rw [after6_11]
  have hN : (t : ℕ) < 8 := t.isLt.trans_eq N_6
  have hi : (cfg6.win 11).index t = ![t.val, 0] := by
    clear hf y hN; revert t; decide +kernel
  have key : Rp 256 1024 (out6_11 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t)) (fun i j => I.dhm (256 * t.val + i) j) := by
    rw [o6_11]
    have hdx := Rp.of_eq (k6_7 (ib6_0 c t h_v5) (ib6_4 c t h_arg4) (ib6_1 c t h_v5) (ib6_5 c t h_arg4) (ib6_2 c t h_v5) (ib6_6 c t h_arg4) (ib6_3 c t h_v5) (ib6_7 c t h_arg4)) (g := fun i j => I.dx (256 * t.val + i) j) fun i j _ _ => by
      simp [In.dx, In.dxq]
    exact Rp.of_eq (k6_6 hdx (ib6_8 c t h_v1_0) (ib6_9 c t h_arg3) (ib6_10 c t h_arg7)) fun i j _ _ => rfl
  generalize iblk6 V c 0 t = x0, iblk6 V c 1 t = x1, iblk6 V c 2 t = x2, iblk6 V c 3 t = x3, iblk6 V c 4 t = x4, iblk6 V c 5 t = x5, iblk6 V c 6 t = x6, iblk6 V c 7 t = x7, iblk6 V c 8 t = x8, iblk6 V c 9 t = x9, iblk6 V c 10 t = x10 at key ⊢
  rw [key.at y]
  blk_simp [hi]
  rw [Nat.mul_comm 256]

theorem arr6_12 (h_v5 : R3 2 2048 2816 (V c main_v5) I.dz) (h_arg4 : R3 4 1024 1408 (V c main_arg4) I.wi) (h_v1_0 : Rp 2048 1024 (V c main_v1_0) I.hm) (h_arg3 : Rp 1 1024 (V c main_arg3) (fun _ j => I.g j)) (h_arg7 : Rp 2048 1024 (V c main_arg7) I.dh) :
    Rp 2048 1024 ((dat6 V c).arrAt 12 cfg6.N) I.dhm := by
  intro i j
  refine (dat6 V c).arrAt_forall_of_covers 12 (fun y v => v = ((I.dhm (y 0 : Fin 2048) (y 1 : Fin 1024) : ℝ) : EReal)) (by decide +kernel) (fun t hf y => ?_) (ix2 i j)
  rw [after6_12]
  have hN : (t : ℕ) < 8 := t.isLt.trans_eq N_6
  have hi : (cfg6.win 12).index t = ![t.val, 0] := by
    clear hf y hN; revert t; decide +kernel
  have key : Rp 256 1024 (out6_12 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t)) (fun i j => I.dhm (256 * t.val + i) j) := by
    rw [o6_12]
    have hdx := Rp.of_eq (k6_7 (ib6_0 c t h_v5) (ib6_4 c t h_arg4) (ib6_1 c t h_v5) (ib6_5 c t h_arg4) (ib6_2 c t h_v5) (ib6_6 c t h_arg4) (ib6_3 c t h_v5) (ib6_7 c t h_arg4)) (g := fun i j => I.dx (256 * t.val + i) j) fun i j _ _ => by
      simp [In.dx, In.dxq]
    exact Rp.of_eq (k6_4 hdx (ib6_8 c t h_v1_0) (ib6_9 c t h_arg3) (ib6_10 c t h_arg7)) fun i j _ _ => rfl
  generalize iblk6 V c 0 t = x0, iblk6 V c 1 t = x1, iblk6 V c 2 t = x2, iblk6 V c 3 t = x3, iblk6 V c 4 t = x4, iblk6 V c 5 t = x5, iblk6 V c 6 t = x6, iblk6 V c 7 t = x7, iblk6 V c 8 t = x8, iblk6 V c 9 t = x9, iblk6 V c 10 t = x10 at key ⊢
  rw [key.at y]
  blk_simp [hi]
  rw [Nat.mul_comm 256]

theorem arr6_13 (h_v5 : R3 2 2048 2816 (V c main_v5) I.dz) (h_arg4 : R3 4 1024 1408 (V c main_arg4) I.wi) (h_v1_0 : Rp 2048 1024 (V c main_v1_0) I.hm) (h_arg3 : Rp 1 1024 (V c main_arg3) (fun _ j => I.g j)) (h_arg7 : Rp 2048 1024 (V c main_arg7) I.dh) :
    R3 8 1 1024 ((dat6 V c).arrAt 13 cfg6.N) (fun t _ j => I.dgt t j) := by
  intro k i j
  refine (dat6 V c).arrAt_forall_of_covers 13 (fun y v => v = (((fun t _ j => I.dgt t j) (y 0 : Fin 8) (y 1 : Fin 1) (y 2 : Fin 1024) : ℝ) : EReal)) (by decide +kernel) (fun t hf y => ?_) (ix3 k i j)
  rw [after6_13]
  have hN : (t : ℕ) < 8 := t.isLt.trans_eq N_6
  have hi : (cfg6.win 13).index t = ![t.val, 0, 0] := by
    clear hf y hN; revert t; decide +kernel
  have key : R3 1 1 1024 (out6_13 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t)) (fun k i j => (fun t _ j => I.dgt t j) (t.val + k) i j) := by
    rw [o6_13]
    have hdx := Rp.of_eq (k6_7 (ib6_0 c t h_v5) (ib6_4 c t h_arg4) (ib6_1 c t h_v5) (ib6_5 c t h_arg4) (ib6_2 c t h_v5) (ib6_6 c t h_arg4) (ib6_3 c t h_v5) (ib6_7 c t h_arg4)) (g := fun i j => I.dx (256 * t.val + i) j) fun i j _ _ => by
      simp [In.dx, In.dxq]
    exact R3.of_eq (k6_5 hdx (ib6_8 c t h_v1_0)) fun k i j hk _ _ => by
      obtain rfl : k = 0 := by omega
      rfl
  generalize iblk6 V c 0 t = x0, iblk6 V c 1 t = x1, iblk6 V c 2 t = x2, iblk6 V c 3 t = x3, iblk6 V c 4 t = x4, iblk6 V c 5 t = x5, iblk6 V c 6 t = x6, iblk6 V c 7 t = x7, iblk6 V c 8 t = x8, iblk6 V c 9 t = x9, iblk6 V c 10 t = x10 at key ⊢
  rw [key.at y]
  blk_simp [hi]

theorem arr7_2 (h_arg0 : Rp 2048 1024 (V c main_arg0) I.m) (h_v7_1 : Rp 2048 1024 (V c main_v7_1) I.dhm) :
    Rp 1024 1024 ((dat7 V c).arrAt 2 cfg7.N) I.dwo := by
  intro i j
  refine (dat7 V c).arrAt_forall_of_covers 2 (fun y v => v = ((I.dwo (y 0 : Fin 1024) (y 1 : Fin 1024) : ℝ) : EReal)) (by decide +kernel) (fun t hf y => ?_) (ix2 i j)
  rw [after7_2]
  have hN : (t : ℕ) < 2 := t.isLt.trans_eq N_7
  have hi : (cfg7.win 2).index t = ![t.val, 0] := by
    clear hf y hN; revert t; decide +kernel
  have key : Rp 512 1024 (out7_2 (iblk7 V c 0 t) (iblk7 V c 1 t)) (fun i j => I.dwo (512 * t.val + i) j) := by
    rw [o7_2]
    exact Rp.of_eq (k7_1 (ib7_0 c t h_arg0) (ib7_1 c t h_v7_1)) fun i j _ _ => rfl
  generalize iblk7 V c 0 t = x0, iblk7 V c 1 t = x1 at key ⊢
  rw [key.at y]
  blk_simp [hi]
  rw [Nat.mul_comm 512]

theorem arr8_2 (h_v7_1 : Rp 2048 1024 (V c main_v7_1) I.dhm) (h_arg2 : Rp 1024 1024 (V c main_arg2) I.wo) :
    Rp 2048 1024 ((dat8 V c).arrAt 2 cfg8.N) I.dm := by
  intro i j
  refine (dat8 V c).arrAt_forall_of_covers 2 (fun y v => v = ((I.dm (y 0 : Fin 2048) (y 1 : Fin 1024) : ℝ) : EReal)) (by decide +kernel) (fun t hf y => ?_) (ix2 i j)
  rw [after8_2]
  have hN : (t : ℕ) < 4 := t.isLt.trans_eq N_8
  have hi : (cfg8.win 2).index t = ![t.val, 0] := by
    clear hf y hN; revert t; decide +kernel
  have key : Rp 512 1024 (out8_2 (iblk8 V c 0 t) (iblk8 V c 1 t)) (fun i j => I.dm (512 * t.val + i) j) := by
    rw [o8_2]
    exact Rp.of_eq (k8_1 (ib8_0 c t h_v7_1) (ib8_1 c t h_arg2)) fun i j _ _ => rfl
  generalize iblk8 V c 0 t = x0, iblk8 V c 1 t = x1 at key ⊢
  rw [key.at y]
  blk_simp [hi]
  rw [Nat.mul_comm 512]

end Cert.FfnArr
-- ==== Proof.FfnKer.lean ====
/- The second kernel's results over the reals: each array as it stands when the last region ends. -/
module

public import proofs.«01_k».proof.Proof.FfnArr
public import Idealize.ShloMosaic.Lib.StableHlo.RunRead

@[expose] public section

set_option maxRecDepth 16384

noncomputable section

namespace Cert.FfnKer

open Idealize.ShloMosaic Idealize.ShloMosaic.TcCoe Idealize.ShloMosaic.StableHlo
open Cert.Kernel2Ideal Cert.Kernel2Ideal.Gen Cert.Base Cert.Spec Cert.Ffn Cert.FfnArr

/-- What a core is launched with. -/
structure Held (I : Ffn.In) (m : (ℓ : Loc nD τ sig) → Buf (Elt Ideal) ℓ) (c : Dev nD) : Prop where
  a0 : Rp 2048 1024 (m ((c : Thread nD τ).loc main_arg0)) I.m
  a1 : Rp 2048 1024 (m ((c : Thread nD τ).loc main_arg1)) I.h
  a2 : Rp 1024 1024 (m ((c : Thread nD τ).loc main_arg2)) I.wo
  a3 : Rp 1 1024 (m ((c : Thread nD τ).loc main_arg3)) (fun _ j => I.g j)
  a4 : R3 4 1024 1408 (m ((c : Thread nD τ).loc main_arg4)) I.wi
  a5 : Rp 2816 1024 (m ((c : Thread nD τ).loc main_arg5)) I.w2
  a6 : Rp 1 1024 (m ((c : Thread nD τ).loc main_arg6)) (fun _ j => I.gx j)
  a7 : Rp 2048 1024 (m ((c : Thread nD τ).loc main_arg7)) I.dh

variable (m : (ℓ : Loc nD τ sig) → Buf (Elt Ideal) ℓ) (ρ : Dev nD → PrngReg) (c : Dev nD) (I : Ffn.In) (h : Held I m c)

theorem sumTiles {a : (⟨3, ![8, 1, 1024]⟩ : Shape).Idx → EReal} {f : ℕ → ℕ → ℕ → ℝ} {z : (⟨0, ![]⟩ : Shape).Idx → EReal}
    (hr : (⟨3, ![8, 1, 1024]⟩ : Shape).ReducesTo [0] ⟨2, ![1, 1024]⟩) (h0 : 0 < (⟨0, ![]⟩ : Shape).numel) (ha : R3 8 1 1024 a f) (hz : R0 z 0) :
    Rp 1 1024 (Host.reduceAdd (F := Ideal) (φ := .f32) a z hr h0) (fun i j => ∑ t ∈ Finset.range 8, f t i j) := fun i j => by
  pointwise
  rw [hz, EReal.coe_zero, zero_add, Finset.sum_range fun t => f t 0 j, ← coe_sum]
  exact Finset.sum_congr rfl fun k _ => ha k 0 j

include h

theorem w0_arg7 : Rp 2048 1024 (W0 m ρ c (Proc.devRef .tc main_arg7)) I.dh := by
  rw [W0_args m ρ c main_arg7 (by decide)]
  exact h.a7

theorem w1_v0 : Rp 2048 1024 (W1 m ρ c (Proc.devRef .tc main_v0)) I.dh := by
  after_reads_simp
  exact Rp.trunc (w0_arg7 m ρ c I h) _

theorem w1_arg0 : Rp 2048 1024 (W1 m ρ c (Proc.devRef .tc main_arg0)) I.m := by
  rw [W1_args m ρ c main_arg0 (by decide)]
  exact h.a0

theorem w1_arg2 : Rp 1024 1024 (W1 m ρ c (Proc.devRef .tc main_arg2)) I.wo := by
  rw [W1_args m ρ c main_arg2 (by decide)]
  exact h.a2

theorem w1_arg1 : Rp 2048 1024 (W1 m ρ c (Proc.devRef .tc main_arg1)) I.h := by
  rw [W1_args m ρ c main_arg1 (by decide)]
  exact h.a1

theorem w1_arg3 : Rp 1 1024 (W1 m ρ c (Proc.devRef .tc main_arg3)) (fun _ j => I.g j) := by
  rw [W1_args m ρ c main_arg3 (by decide)]
  exact h.a3

theorem w2_v1_0 : Rp 2048 1024 (W2 m ρ c (Proc.devRef .tc main_v1_0)) I.hm := by
  have e : W2 m ρ c (Proc.devRef .tc main_v1_0) = (dat0 (V1 m ρ) c).arrAt 4 cfg0.N := W2_arr m ρ c 4
  rw [e]
  exact arr0_4 c I (w1_arg0 m ρ c I h) (w1_arg2 m ρ c I h) (w1_arg1 m ρ c I h) (w1_arg3 m ρ c I h)

theorem w2_v1_1 : Rp 2048 1024 (W2 m ρ c (Proc.devRef .tc main_v1_1)) I.hn := by
  have e : W2 m ρ c (Proc.devRef .tc main_v1_1) = (dat0 (V1 m ρ) c).arrAt 5 cfg0.N := W2_arr m ρ c 5
  rw [e]
  exact arr0_5 c I (w1_arg0 m ρ c I h) (w1_arg2 m ρ c I h) (w1_arg1 m ρ c I h) (w1_arg3 m ρ c I h)

theorem w2_arg4 : R3 4 1024 1408 (W2 m ρ c (Proc.devRef .tc main_arg4)) I.wi := by
  rw [W2_args m ρ c main_arg4 (by decide)]
  exact h.a4

theorem w3_v2_0 : R3 2 2048 2816 (W3 m ρ c (Proc.devRef .tc main_v2_0)) I.z := by
  have e : W3 m ρ c (Proc.devRef .tc main_v2_0) = (dat1 (V2 m ρ) c).arrAt 3 cfg1.N := W3_arr m ρ c 3
  rw [e]
  exact arr1_3 c I (w2_v1_1 m ρ c I h) (w2_arg4 m ρ c I h)

theorem w3_v2_1 : Rp 2048 2816 (W3 m ρ c (Proc.devRef .tc main_v2_1)) I.act := by
  have e : W3 m ρ c (Proc.devRef .tc main_v2_1) = (dat1 (V2 m ρ) c).arrAt 4 cfg1.N := W3_arr m ρ c 4
  rw [e]
  exact arr1_4 c I (w2_v1_1 m ρ c I h) (w2_arg4 m ρ c I h)

theorem w3_arg5 : Rp 2816 1024 (W3 m ρ c (Proc.devRef .tc main_arg5)) I.w2 := by
  rw [W3_args m ρ c main_arg5 (by decide)]
  exact h.a5

theorem w3_v1_0 : Rp 2048 1024 (W3 m ρ c (Proc.devRef .tc main_v1_0)) I.hm := by
  rw [W3_of m ρ c main_v1_0 (by decide)]
  exact w2_v1_0 m ρ c I h

theorem w3_arg6 : Rp 1 1024 (W3 m ρ c (Proc.devRef .tc main_arg6)) (fun _ j => I.gx j) := by
  rw [W3_args m ρ c main_arg6 (by decide)]
  exact h.a6

theorem w4_v3_0 : Rp 2048 1024 (W4 m ρ c (Proc.devRef .tc main_v3_0)) I.ho := by
  have e : W4 m ρ c (Proc.devRef .tc main_v3_0) = (dat2 (V3 m ρ) c).arrAt 4 cfg2.N := W4_arr m ρ c 4
  rw [e]
  exact arr2_4 c I (w3_v2_1 m ρ c I h) (w3_arg5 m ρ c I h) (w3_v1_0 m ρ c I h) (w3_arg6 m ρ c I h)

theorem w4_v3_1 : Rp 2048 1024 (W4 m ρ c (Proc.devRef .tc main_v3_1)) I.xn := by
  have e : W4 m ρ c (Proc.devRef .tc main_v3_1) = (dat2 (V3 m ρ) c).arrAt 5 cfg2.N := W4_arr m ρ c 5
  rw [e]
  exact arr2_5 c I (w3_v2_1 m ρ c I h) (w3_arg5 m ρ c I h) (w3_v1_0 m ρ c I h) (w3_arg6 m ρ c I h)

theorem w4_v2_1 : Rp 2048 2816 (W4 m ρ c (Proc.devRef .tc main_v2_1)) I.act := by
  rw [W4_of m ρ c main_v2_1 (by decide)]
  exact w3_v2_1 m ρ c I h

theorem w4_v0 : Rp 2048 1024 (W4 m ρ c (Proc.devRef .tc main_v0)) I.dh := by
  rw [W4_of m ρ c main_v0 (by decide), W3_of m ρ c main_v0 (by decide), W2_of m ρ c main_v0 (by decide)]
  exact w1_v0 m ρ c I h

theorem w5_v4 : Rp 2816 1024 (W5 m ρ c (Proc.devRef .tc main_v4)) I.dw2 := by
  have e : W5 m ρ c (Proc.devRef .tc main_v4) = (dat3 (V4 m ρ) c).arrAt 2 cfg3.N := W5_arr m ρ c 2
  rw [e]
  exact arr3_2 c I (w4_v2_1 m ρ c I h) (w4_v0 m ρ c I h)

theorem w5_v0 : Rp 2048 1024 (W5 m ρ c (Proc.devRef .tc main_v0)) I.dh := by
  rw [W5_of m ρ c main_v0 (by decide), W4_of m ρ c main_v0 (by decide), W3_of m ρ c main_v0 (by decide), W2_of m ρ c main_v0 (by decide)]
  exact w1_v0 m ρ c I h

theorem w5_arg5 : Rp 2816 1024 (W5 m ρ c (Proc.devRef .tc main_arg5)) I.w2 := by
  rw [W5_args m ρ c main_arg5 (by decide)]
  exact h.a5

theorem w5_v2_0 : R3 2 2048 2816 (W5 m ρ c (Proc.devRef .tc main_v2_0)) I.z := by
  rw [W5_of m ρ c main_v2_0 (by decide), W4_of m ρ c main_v2_0 (by decide)]
  exact w3_v2_0 m ρ c I h

theorem w6_v5 : R3 2 2048 2816 (W6 m ρ c (Proc.devRef .tc main_v5)) I.dz := by
  have e : W6 m ρ c (Proc.devRef .tc main_v5) = (dat4 (V5 m ρ) c).arrAt 3 cfg4.N := W6_arr m ρ c 3
  rw [e]
  exact arr4_3 c I (w5_v0 m ρ c I h) (w5_arg5 m ρ c I h) (w5_v2_0 m ρ c I h)

theorem w6_v1_1 : Rp 2048 1024 (W6 m ρ c (Proc.devRef .tc main_v1_1)) I.hn := by
  rw [W6_of m ρ c main_v1_1 (by decide), W5_of m ρ c main_v1_1 (by decide), W4_of m ρ c main_v1_1 (by decide), W3_of m ρ c main_v1_1 (by decide)]
  exact w2_v1_1 m ρ c I h

theorem w7_v6 : R3 4 1024 1408 (W7 m ρ c (Proc.devRef .tc main_v6)) I.dwi := by
  have e : W7 m ρ c (Proc.devRef .tc main_v6) = (dat5 (V6 m ρ) c).arrAt 2 cfg5.N := W7_arr m ρ c 2
  rw [e]
  exact arr5_2 c I (w6_v1_1 m ρ c I h) (w6_v5 m ρ c I h)

theorem w7_v5 : R3 2 2048 2816 (W7 m ρ c (Proc.devRef .tc main_v5)) I.dz := by
  rw [W7_of m ρ c main_v5 (by decide)]
  exact w6_v5 m ρ c I h

theorem w7_arg4 : R3 4 1024 1408 (W7 m ρ c (Proc.devRef .tc main_arg4)) I.wi := by
  rw [W7_args m ρ c main_arg4 (by decide)]
  exact h.a4

theorem w7_v1_0 : Rp 2048 1024 (W7 m ρ c (Proc.devRef .tc main_v1_0)) I.hm := by
  rw [W7_of m ρ c main_v1_0 (by decide), W6_of m ρ c main_v1_0 (by decide), W5_of m ρ c main_v1_0 (by decide), W4_of m ρ c main_v1_0 (by decide), W3_of m ρ c main_v1_0 (by decide)]
  exact w2_v1_0 m ρ c I h

theorem w7_arg3 : Rp 1 1024 (W7 m ρ c (Proc.devRef .tc main_arg3)) (fun _ j => I.g j) := by
  rw [W7_args m ρ c main_arg3 (by decide)]
  exact h.a3

theorem w7_arg7 : Rp 2048 1024 (W7 m ρ c (Proc.devRef .tc main_arg7)) I.dh := by
  rw [W7_args m ρ c main_arg7 (by decide)]
  exact h.a7

theorem w8_v7_0 : Rp 2048 1024 (W8 m ρ c (Proc.devRef .tc main_v7_0)) I.dhm := by
  have e : W8 m ρ c (Proc.devRef .tc main_v7_0) = (dat6 (V7 m ρ) c).arrAt 11 cfg6.N := W8_arr m ρ c 11
  rw [e]
  exact arr6_11 c I (w7_v5 m ρ c I h) (w7_arg4 m ρ c I h) (w7_v1_0 m ρ c I h) (w7_arg3 m ρ c I h) (w7_arg7 m ρ c I h)

theorem w8_v7_1 : Rp 2048 1024 (W8 m ρ c (Proc.devRef .tc main_v7_1)) I.dhm := by
  have e : W8 m ρ c (Proc.devRef .tc main_v7_1) = (dat6 (V7 m ρ) c).arrAt 12 cfg6.N := W8_arr m ρ c 12
  rw [e]
  exact arr6_12 c I (w7_v5 m ρ c I h) (w7_arg4 m ρ c I h) (w7_v1_0 m ρ c I h) (w7_arg3 m ρ c I h) (w7_arg7 m ρ c I h)

theorem w8_v7_2 : R3 8 1 1024 (W8 m ρ c (Proc.devRef .tc main_v7_2)) (fun t _ j => I.dgt t j) := by
  have e : W8 m ρ c (Proc.devRef .tc main_v7_2) = (dat6 (V7 m ρ) c).arrAt 13 cfg6.N := W8_arr m ρ c 13
  rw [e]
  exact arr6_13 c I (w7_v5 m ρ c I h) (w7_arg4 m ρ c I h) (w7_v1_0 m ρ c I h) (w7_arg3 m ρ c I h) (w7_arg7 m ρ c I h)

theorem w9_v8 : Rp 1 1024 (W9 m ρ c (Proc.devRef .tc main_v8)) (fun _ j => I.dg j) := by
  after_reads_simp
  exact Rp.of_eq (sumTiles _ _ (w8_v7_2 m ρ c I h) (R0.cst lit_zero)) fun _ _ _ _ => rfl

theorem w9_arg0 : Rp 2048 1024 (W9 m ρ c (Proc.devRef .tc main_arg0)) I.m := by
  rw [W9_args m ρ c main_arg0 (by decide)]
  exact h.a0

theorem w9_v7_1 : Rp 2048 1024 (W9 m ρ c (Proc.devRef .tc main_v7_1)) I.dhm := by
  rw [W9_of m ρ c main_v7_1 (by decide)]
  exact w8_v7_1 m ρ c I h

theorem w10_v9 : Rp 1024 1024 (W10 m ρ c (Proc.devRef .tc main_v9)) I.dwo := by
  have e : W10 m ρ c (Proc.devRef .tc main_v9) = (dat7 (V9 m ρ) c).arrAt 2 cfg7.N := W10_arr m ρ c 2
  rw [e]
  exact arr7_2 c I (w9_arg0 m ρ c I h) (w9_v7_1 m ρ c I h)

theorem w10_v7_1 : Rp 2048 1024 (W10 m ρ c (Proc.devRef .tc main_v7_1)) I.dhm := by
  rw [W10_of m ρ c main_v7_1 (by decide), W9_of m ρ c main_v7_1 (by decide)]
  exact w8_v7_1 m ρ c I h

theorem w10_arg2 : Rp 1024 1024 (W10 m ρ c (Proc.devRef .tc main_arg2)) I.wo := by
  rw [W10_args m ρ c main_arg2 (by decide)]
  exact h.a2

theorem w11_v10 : Rp 2048 1024 (W11 m ρ c (Proc.devRef .tc main_v10)) I.dm := by
  have e : W11 m ρ c (Proc.devRef .tc main_v10) = (dat8 (V10 m ρ) c).arrAt 2 cfg8.N := W11_arr m ρ c 2
  rw [e]
  exact arr8_2 c I (w10_v7_1 m ρ c I h) (w10_arg2 m ρ c I h)

theorem w11_v3_0 : Rp 2048 1024 (W11 m ρ c (Proc.devRef .tc main_v3_0)) I.ho := by
  rw [W11_of m ρ c main_v3_0 (by decide), W10_of m ρ c main_v3_0 (by decide), W9_of m ρ c main_v3_0 (by decide), W8_of m ρ c main_v3_0 (by decide), W7_of m ρ c main_v3_0 (by decide), W6_of m ρ c main_v3_0 (by decide), W5_of m ρ c main_v3_0 (by decide)]
  exact w4_v3_0 m ρ c I h

theorem w11_v3_1 : Rp 2048 1024 (W11 m ρ c (Proc.devRef .tc main_v3_1)) I.xn := by
  rw [W11_of m ρ c main_v3_1 (by decide), W10_of m ρ c main_v3_1 (by decide), W9_of m ρ c main_v3_1 (by decide), W8_of m ρ c main_v3_1 (by decide), W7_of m ρ c main_v3_1 (by decide), W6_of m ρ c main_v3_1 (by decide), W5_of m ρ c main_v3_1 (by decide)]
  exact w4_v3_1 m ρ c I h

theorem w11_v4 : Rp 2816 1024 (W11 m ρ c (Proc.devRef .tc main_v4)) I.dw2 := by
  rw [W11_of m ρ c main_v4 (by decide), W10_of m ρ c main_v4 (by decide), W9_of m ρ c main_v4 (by decide), W8_of m ρ c main_v4 (by decide), W7_of m ρ c main_v4 (by decide), W6_of m ρ c main_v4 (by decide)]
  exact w5_v4 m ρ c I h

theorem w11_v6 : R3 4 1024 1408 (W11 m ρ c (Proc.devRef .tc main_v6)) I.dwi := by
  rw [W11_of m ρ c main_v6 (by decide), W10_of m ρ c main_v6 (by decide), W9_of m ρ c main_v6 (by decide), W8_of m ρ c main_v6 (by decide)]
  exact w7_v6 m ρ c I h

theorem w11_v7_0 : Rp 2048 1024 (W11 m ρ c (Proc.devRef .tc main_v7_0)) I.dhm := by
  rw [W11_of m ρ c main_v7_0 (by decide), W10_of m ρ c main_v7_0 (by decide), W9_of m ρ c main_v7_0 (by decide)]
  exact w8_v7_0 m ρ c I h

theorem w11_v7_1 : Rp 2048 1024 (W11 m ρ c (Proc.devRef .tc main_v7_1)) I.dhm := by
  rw [W11_of m ρ c main_v7_1 (by decide), W10_of m ρ c main_v7_1 (by decide), W9_of m ρ c main_v7_1 (by decide)]
  exact w8_v7_1 m ρ c I h

theorem w11_v8 : Rp 1 1024 (W11 m ρ c (Proc.devRef .tc main_v8)) (fun _ j => I.dg j) := by
  rw [W11_of m ρ c main_v8 (by decide), W10_of m ρ c main_v8 (by decide)]
  exact w9_v8 m ρ c I h

theorem w11_v9 : Rp 1024 1024 (W11 m ρ c (Proc.devRef .tc main_v9)) I.dwo := by
  rw [W11_of m ρ c main_v9 (by decide)]
  exact w10_v9 m ρ c I h

end Cert.FfnKer
-- ==== Proof.FfnRun.lean ====
/- The second kernel's run with everything it leaves: every buffer of a core ends at what the nine regions make of the launch memory. -/
module

public import proofs.«01_k».proof.Proof.Gen.Kernel2Ideal.Frame

@[expose] public section

noncomputable section

namespace Cert.FfnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel ends with each core's buffers at the last region's exit contents. -/
theorem run : θ_run (defs (F := F)) (onTc (τ := τ) (main (F := F))) ⟨m, fun _ => 0, ρ⟩ (fun r => ∀ c : Dev nD, ∀ b ∈ Pipeline.ucRefs τ sig,
      r.2.mem (((c : Thread nD τ)).1, b) = W11 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h _ => h)

end Cert.FfnRun
-- ==== Proof.FfnRefOps.lean ====
/- The reference of the feed-forward program, its operations stretch by stretch, and its run: every buffer ends at the
   fold of the stretches over the launch contents. -/
module

public import proofs.«01_k».proof.Proof.Gen.Reference2Ideal
public import Idealize.ShloMosaic.Lib.StableHlo.Run
public import Idealize.ShloMosaic.Lib.StableHlo.RunRead
public import Idealize.ShloMosaic.Lib.Quiescent

@[expose] public section

noncomputable section

namespace Cert.FfnRef

open Idealize.ShloMosaic Idealize.ShloMosaic.TcCoe Idealize.ShloMosaic.StableHlo Idealize.SL.Sem
open Idealize.ShloMosaic.StableHlo renaming unary_bufs_sub → us, binary_bufs_sub → bs, nullary_bufs_sub → ns, reshape_bufs_sub → rs
open Cert.Reference2Ideal Cert.Reference2Ideal.Gen

/-- The contents of a buffer of 32-bit floats. -/
abbrev Fv (F : FTy → Type) (s : Shape) : Type := (⟨s, .f32⟩ : BufTy).Contents (Elt F)

/-- The contents of a buffer of 16-bit floats. -/
abbrev Hv (F : FTy → Type) (s : Shape) : Type := (⟨s, .bf16⟩ : BufTy).Contents (Elt F)

/-- Maps of one array, and of two, of the shape. -/
abbrev Un (F : FTy → Type) (s : Shape) : Type := Fv F s → Fv F s
abbrev Bin (F : FTy → Type) (s : Shape) : Type := Fv F s → Fv F s → Fv F s

variable {F : FTy → Type} [FloatOps F]

/-- The lines of a program. -/
abbrev Ops (F : FTy → Type) [FloatOps F] := List (HloOp τ sig (Elt F))

/-- The two halves of the pre-activations' gradients side by side. -/
def joined (a b : Fv F S2048x2816) : Fv F S2048x5632 :=
  concatenate S2048x5632 1 [⟨S2048x2816, a⟩, ⟨S2048x2816, b⟩] concatenates_S2048x2816_S2048x2816_S2048x5632_d1

abbrev p00 : Ops F :=
  ( unary main_arg0 main_v0 ((extf .f32 · bitsLt_bf16_f32) : Hv F S2048x1024 → Fv F S2048x1024)
  :: unary main_arg2 main_v1 ((extf .f32 · bitsLt_bf16_f32) : Hv F S1024x1024 → Fv F S1024x1024)
  :: unary main_arg4 main_v2 ((extf .f32 · bitsLt_bf16_f32) : Hv F S4x1024x1408 → Fv F S4x1024x1408)
  :: unary main_arg5 main_v3 ((extf .f32 · bitsLt_bf16_f32) : Hv F S2816x1024 → Fv F S2816x1024)
  :: unary main_v2 main_v4 ((transpose S1024x4x1408 [1, 0, 2] · transposes_S4x1024x1408_S1024x4x1408_1_0_2) : Fv F S4x1024x1408 → Fv F S1024x4x1408)
  :: reshape main_v4 main_v5 (rfl : (.f32 : EltTy) = .f32) shapeCasts_S1024x4x1408_S1024x5632
  :: [] )

abbrev p01 : Ops F :=
  ( binary main_v0 main_v1 main_v6 ((fun l r => Host.dotGeneral dot_S2048x1024_S1024x1024_S2048x1024_1_0_0_1_n_n none l r) : Fv F S2048x1024 → Fv F S1024x1024 → Fv F S2048x1024)
  :: binary main_arg1 main_v6 main_v7 (addf : Bin F S2048x1024)
  :: [] )

abbrev p02 : Ops F :=
  ( binary main_v7 main_v7 main_v8 (mulf : Bin F S2048x1024)
  :: nullary main_cst (constant S_ .f32 0x00000000#32)
  :: binary main_v8 main_cst main_v9 ((fun x v => Host.reduceAdd x v reducesTo_S2048x1024_S2048_d1 h_S_) : Fv F S2048x1024 → Fv F S_ → Fv F S2048)
  :: unary main_v9 main_v10 (broadcastInDim S2048x1 ![0] bcast_S2048_S2048x1_0 : Fv F S2048 → Fv F S2048x1)
  :: nullary main_cst_0 (constant S_ .f32 0x44800000#32)
  :: unary main_cst_0 main_v11 (broadcastInDim S2048x1 ![] bcast_S_S2048x1 : Fv F S_ → Fv F S2048x1)
  :: binary main_v10 main_v11 main_v12 (Host.divf : Bin F S2048x1)
  :: nullary main_cst_1 (constant S_ .f32 0x358637BD#32)
  :: unary main_cst_1 main_v13 (broadcastInDim S2048x1 ![] bcast_S_S2048x1 : Fv F S_ → Fv F S2048x1)
  :: binary main_v12 main_v13 main_v14 (addf : Bin F S2048x1)
  :: [] )

abbrev p03 : Ops F :=
  ( unary main_v14 main_v15 (Host.rsqrt : Un F S2048x1)
  :: binary main_v15 main_v14 main_v16 (Host.divf : Bin F S2048x1)
  :: nullary main_cst_2 (constant S_ .f32 0xBF000000#32)
  :: unary main_cst_2 main_v17 (broadcastInDim S2048x1 ![] bcast_S_S2048x1 : Fv F S_ → Fv F S2048x1)
  :: binary main_v17 main_v16 main_v18 (mulf : Bin F S2048x1)
  :: unary main_v15 main_v19 (broadcastInDim S2048x1024 ![0, 1] bcast_S2048x1_S2048x1024_0_1 : Fv F S2048x1 → Fv F S2048x1024)
  :: binary main_v7 main_v19 main_v20 (mulf : Bin F S2048x1024)
  :: unary main_arg3 main_v21 (broadcastInDim S2048x1024 ![0, 1] bcast_S1x1024_S2048x1024_0_1 : Fv F S1x1024 → Fv F S2048x1024)
  :: binary main_v20 main_v21 main_v22 (mulf : Bin F S2048x1024)
  :: [] )

abbrev p04 : Ops F :=
  ( binary main_v22 main_v5 main_v23 ((fun l r => Host.dotGeneral dot_S2048x1024_S1024x5632_S2048x5632_1_0_0_1_n_n none l r) : Fv F S2048x1024 → Fv F S1024x5632 → Fv F S2048x5632)
  :: unary main_v23 main_v24 ((extractStridedSlice S2048x2816 ![0, 0] · slices_S2048x5632_S2048x2816_0_0) : Fv F S2048x5632 → Fv F S2048x2816)
  :: unary main_v23 main_v25 ((extractStridedSlice S2048x2816 ![0, 2816] · slices_S2048x5632_S2048x2816_0_2816) : Fv F S2048x5632 → Fv F S2048x2816)
  :: [] )

abbrev p05 : Ops F :=
  ( TRef.unary (TRef.of (T := ⟨S2048x2816, .f32⟩) main_v24) (TRef.of (T := ⟨S2048x2816, .f32⟩) main_call0_v0) Host.negf
  :: TRef.unary (TRef.of (T := ⟨S2048x2816, .f32⟩) main_call0_v0) (TRef.of (T := ⟨S2048x2816, .f32⟩) main_call0_v1) Host.exp
  :: TRef.nullary (TRef.of (T := ⟨S_, .f32⟩) main_call0_cst) (constant S_ .f32 0x3F800000#32)
  :: TRef.unary (TRef.of (T := ⟨S_, .f32⟩) main_call0_cst) (TRef.of (T := ⟨S2048x2816, .f32⟩) main_call0_v2) (broadcastInDim S2048x2816 ![] bcast_S_S2048x2816)
  :: TRef.binary (TRef.of (T := ⟨S2048x2816, .f32⟩) main_call0_v2) (TRef.of (T := ⟨S2048x2816, .f32⟩) main_call0_v1) (TRef.of (T := ⟨S2048x2816, .f32⟩) main_call0_v3) addf
  :: TRef.nullary (TRef.of (T := ⟨S_, .f32⟩) main_call0_cst_0) (constant S_ .f32 0x3F800000#32)
  :: TRef.unary (TRef.of (T := ⟨S_, .f32⟩) main_call0_cst_0) (TRef.of (T := ⟨S2048x2816, .f32⟩) main_call0_v4) (broadcastInDim S2048x2816 ![] bcast_S_S2048x2816)
  :: TRef.binary (TRef.of (T := ⟨S2048x2816, .f32⟩) main_call0_v4) (TRef.of (T := ⟨S2048x2816, .f32⟩) main_call0_v3) (TRef.of (T := ⟨S2048x2816, .f32⟩) main_v26_2) Host.divf
  :: TRef.nullary (TRef.of (T := ⟨S_, .f32⟩) main_call0_cst_1) (constant S_ .f32 0x3F800000#32)
  :: TRef.unary (TRef.of (T := ⟨S_, .f32⟩) main_call0_cst_1) (TRef.of (T := ⟨S2048x2816, .f32⟩) main_call0_v6) (broadcastInDim S2048x2816 ![] bcast_S_S2048x2816)
  :: TRef.binary (TRef.of (T := ⟨S2048x2816, .f32⟩) main_call0_v6) (TRef.of (T := ⟨S2048x2816, .f32⟩) main_v26_2) (TRef.of (T := ⟨S2048x2816, .f32⟩) main_call0_v7) subf
  :: TRef.binary (TRef.of (T := ⟨S2048x2816, .f32⟩) main_v26_2) (TRef.of (T := ⟨S2048x2816, .f32⟩) main_call0_v7) (TRef.of (T := ⟨S2048x2816, .f32⟩) main_v26_1) mulf
  :: TRef.binary (TRef.of (T := ⟨S2048x2816, .f32⟩) main_v24) (TRef.of (T := ⟨S2048x2816, .f32⟩) main_v26_2) (TRef.of (T := ⟨S2048x2816, .f32⟩) main_v26_0) mulf
  :: [] )

abbrev p06 : Ops F :=
  ( binary main_v26_0 main_v25 main_v27 (mulf : Bin F S2048x2816)
  :: binary main_v27 main_v3 main_v28 ((fun l r => Host.dotGeneral dot_S2048x2816_S2816x1024_S2048x1024_1_0_0_1_n_n none l r) : Fv F S2048x2816 → Fv F S2816x1024 → Fv F S2048x1024)
  :: binary main_v7 main_v28 main_v29 (addf : Bin F S2048x1024)
  :: [] )

abbrev p07 : Ops F :=
  ( reshape main_arg7 main_v30 (rfl : (.f32 : EltTy) = .f32) shapeCasts_S2048x1024_S2048x1024
  :: reshape main_arg7 main_v31 (rfl : (.f32 : EltTy) = .f32) shapeCasts_S2048x1024_S2048x1024
  :: [] )

abbrev p08 : Ops F :=
  ( binary main_v31 main_v27 main_v32 ((fun l r => Host.dotGeneral dot_S2048x1024_S2048x2816_S1024x2816_0_0_1_1_n_n none l r) : Fv F S2048x1024 → Fv F S2048x2816 → Fv F S1024x2816)
  :: unary main_v32 main_v33 ((transpose S2816x1024 [1, 0] · transposes_S1024x2816_S2816x1024_1_0) : Fv F S1024x2816 → Fv F S2816x1024)
  :: binary main_v31 main_v3 main_v34 ((fun l r => Host.dotGeneral dot_S2048x1024_S2816x1024_S2048x2816_1_1_0_0_n_n none l r) : Fv F S2048x1024 → Fv F S2816x1024 → Fv F S2048x2816)
  :: [] )

abbrev p09 : Ops F :=
  ( binary main_v26_0 main_v34 main_v35 (mulf : Bin F S2048x2816)
  :: binary main_v34 main_v25 main_v36 (mulf : Bin F S2048x2816)
  :: TRef.binary (TRef.of (T := ⟨S2048x2816, .f32⟩) main_v24) (TRef.of (T := ⟨S2048x2816, .f32⟩) main_v36) (TRef.of (T := ⟨S2048x2816, .f32⟩) main_call1_v0) mulf
  :: TRef.binary (TRef.of (T := ⟨S2048x2816, .f32⟩) main_v36) (TRef.of (T := ⟨S2048x2816, .f32⟩) main_v26_2) (TRef.of (T := ⟨S2048x2816, .f32⟩) main_call1_v1) mulf
  :: TRef.binary (TRef.of (T := ⟨S2048x2816, .f32⟩) main_call1_v0) (TRef.of (T := ⟨S2048x2816, .f32⟩) main_v26_1) (TRef.of (T := ⟨S2048x2816, .f32⟩) main_call1_v2) mulf
  :: TRef.binary (TRef.of (T := ⟨S2048x2816, .f32⟩) main_call1_v1) (TRef.of (T := ⟨S2048x2816, .f32⟩) main_call1_v2) (TRef.of (T := ⟨S2048x2816, .f32⟩) main_v37) addf
  :: binary main_v37 main_v35 main_v38 (joined (F := F))
  :: [] )

abbrev p10 : Ops F :=
  ( binary main_v38 main_v22 main_v39 ((fun l r => Host.dotGeneral dot_S2048x5632_S2048x1024_S5632x1024_0_0_1_1_n_n none l r) : Fv F S2048x5632 → Fv F S2048x1024 → Fv F S5632x1024)
  :: unary main_v39 main_v40 ((transpose S1024x5632 [1, 0] · transposes_S5632x1024_S1024x5632_1_0) : Fv F S5632x1024 → Fv F S1024x5632)
  :: binary main_v38 main_v5 main_v41 ((fun l r => Host.dotGeneral dot_S2048x5632_S1024x5632_S2048x1024_1_1_0_0_n_n none l r) : Fv F S2048x5632 → Fv F S1024x5632 → Fv F S2048x1024)
  :: [] )

abbrev p11 : Ops F :=
  ( binary main_v20 main_v41 main_v42 (mulf : Bin F S2048x1024)
  :: nullary main_cst_3 (constant S_ .f32 0x00000000#32)
  :: binary main_v42 main_cst_3 main_v43 ((fun x v => Host.reduceAdd x v reducesTo_S2048x1024_S1024_d0 h_S_) : Fv F S2048x1024 → Fv F S_ → Fv F S1024)
  :: reshape main_v43 main_v44 (rfl : (.f32 : EltTy) = .f32) shapeCasts_S1024_S1x1024
  :: [] )

abbrev p12 : Ops F :=
  ( unary main_arg3 main_v45 (broadcastInDim S2048x1024 ![0, 1] bcast_S1x1024_S2048x1024_0_1 : Fv F S1x1024 → Fv F S2048x1024)
  :: binary main_v41 main_v45 main_v46 (mulf : Bin F S2048x1024)
  :: binary main_v7 main_v46 main_v47 (mulf : Bin F S2048x1024)
  :: nullary main_cst_4 (constant S_ .f32 0x00000000#32)
  :: binary main_v47 main_cst_4 main_v48 ((fun x v => Host.reduceAdd x v reducesTo_S2048x1024_S2048_d1 h_S_) : Fv F S2048x1024 → Fv F S_ → Fv F S2048)
  :: reshape main_v48 main_v49 (rfl : (.f32 : EltTy) = .f32) shapeCasts_S2048_S2048x1
  :: [] )

abbrev p13 : Ops F :=
  ( unary main_v15 main_v50 (broadcastInDim S2048x1024 ![0, 1] bcast_S2048x1_S2048x1024_0_1 : Fv F S2048x1 → Fv F S2048x1024)
  :: binary main_v46 main_v50 main_v51 (mulf : Bin F S2048x1024)
  :: binary main_v30 main_v51 main_v52 (addf : Bin F S2048x1024)
  :: binary main_v49 main_v18 main_v53 (mulf : Bin F S2048x1)
  :: nullary main_cst_5 (constant S_ .f32 0x44800000#32)
  :: unary main_cst_5 main_v54 (broadcastInDim S2048x1 ![] bcast_S_S2048x1 : Fv F S_ → Fv F S2048x1)
  :: binary main_v53 main_v54 main_v55 (Host.divf : Bin F S2048x1)
  :: nullary main_cst_6 (constant S_ .f32 0x00000000#32)
  :: binary main_v55 main_cst_6 main_v56 ((fun x v => Host.reduceAdd x v reducesTo_S2048x1_S2048_d1 h_S_) : Fv F S2048x1 → Fv F S_ → Fv F S2048)
  :: unary main_v56 main_v57 (broadcastInDim S2048x1024 ![0] bcast_S2048_S2048x1024_0 : Fv F S2048 → Fv F S2048x1024)
  :: [] )

abbrev p14 : Ops F :=
  ( binary main_v7 main_v57 main_v58 (mulf : Bin F S2048x1024)
  :: binary main_v52 main_v58 main_v59 (addf : Bin F S2048x1024)
  :: binary main_v57 main_v7 main_v60 (mulf : Bin F S2048x1024)
  :: binary main_v59 main_v60 main_v61 (addf : Bin F S2048x1024)
  :: [] )

abbrev p15 : Ops F :=
  ( binary main_v61 main_v0 main_v62 ((fun l r => Host.dotGeneral dot_S2048x1024_S2048x1024_S1024x1024_0_0_1_1_n_n none l r) : Fv F S2048x1024 → Fv F S2048x1024 → Fv F S1024x1024)
  :: unary main_v62 main_v63 ((transpose S1024x1024 [1, 0] · transposes_S1024x1024_S1024x1024_1_0) : Un F S1024x1024)
  :: binary main_v61 main_v1 main_v64 ((fun l r => Host.dotGeneral dot_S2048x1024_S1024x1024_S2048x1024_1_1_0_0_n_n none l r) : Fv F S2048x1024 → Fv F S1024x1024 → Fv F S2048x1024)
  :: [] )

abbrev p16 : Ops F :=
  ( reshape main_v40 main_v65 (rfl : (.f32 : EltTy) = .f32) shapeCasts_S1024x5632_S1024x4x1408
  :: unary main_v65 main_v66 ((transpose S4x1024x1408 [1, 0, 2] · transposes_S1024x4x1408_S4x1024x1408_1_0_2) : Fv F S1024x4x1408 → Fv F S4x1024x1408)
  :: [] )

abbrev p17 : Ops F :=
  ( binary main_v29 main_v29 main_v67 (mulf : Bin F S2048x1024)
  :: nullary main_cst_7 (constant S_ .f32 0x00000000#32)
  :: binary main_v67 main_cst_7 main_v68 ((fun x v => Host.reduceAdd x v reducesTo_S2048x1024_S2048_d1 h_S_) : Fv F S2048x1024 → Fv F S_ → Fv F S2048)
  :: unary main_v68 main_v69 (broadcastInDim S2048x1 ![0] bcast_S2048_S2048x1_0 : Fv F S2048 → Fv F S2048x1)
  :: nullary main_cst_8 (constant S_ .f32 0x44800000#32)
  :: unary main_cst_8 main_v70 (broadcastInDim S2048x1 ![] bcast_S_S2048x1 : Fv F S_ → Fv F S2048x1)
  :: binary main_v69 main_v70 main_v71 (Host.divf : Bin F S2048x1)
  :: nullary main_cst_9 (constant S_ .f32 0x358637BD#32)
  :: unary main_cst_9 main_v72 (broadcastInDim S2048x1 ![] bcast_S_S2048x1 : Fv F S_ → Fv F S2048x1)
  :: binary main_v71 main_v72 main_v73 (addf : Bin F S2048x1)
  :: [] )

abbrev p18 : Ops F :=
  ( unary main_v73 main_v74 (Host.rsqrt : Un F S2048x1)
  :: unary main_v74 main_v75 (broadcastInDim S2048x1024 ![0, 1] bcast_S2048x1_S2048x1024_0_1 : Fv F S2048x1 → Fv F S2048x1024)
  :: binary main_v29 main_v75 main_v76 (mulf : Bin F S2048x1024)
  :: unary main_arg6 main_v77 (broadcastInDim S2048x1024 ![0, 1] bcast_S1x1024_S2048x1024_0_1 : Fv F S1x1024 → Fv F S2048x1024)
  :: binary main_v76 main_v77 main_v78 (mulf : Bin F S2048x1024)
  :: [] )

abbrev p19 : Ops F :=
  ( unary main_v78 main_v79 ((truncf .bf16 · bitsLt_bf16_f32) : Fv F S2048x1024 → Hv F S2048x1024)
  :: unary main_v33 main_v80 ((truncf .bf16 · bitsLt_bf16_f32) : Fv F S2816x1024 → Hv F S2816x1024)
  :: unary main_v66 main_v81 ((truncf .bf16 · bitsLt_bf16_f32) : Fv F S4x1024x1408 → Hv F S4x1024x1408)
  :: unary main_v61 main_v82 ((truncf .bf16 · bitsLt_bf16_f32) : Fv F S2048x1024 → Hv F S2048x1024)
  :: unary main_v63 main_v83 ((truncf .bf16 · bitsLt_bf16_f32) : Fv F S1024x1024 → Hv F S1024x1024)
  :: [] )

abbrev ops : Ops F :=
  p00 ++ (p01 ++ (p02 ++ (p03 ++ (p04 ++ (p05 ++ (p06 ++ (p07 ++ (p08 ++ (p09 ++ (p10 ++ (p11 ++ (p12 ++ (p13 ++ (p14 ++ (p15 ++ (p16 ++ (p17 ++ (p18 ++ (p19)))))))))))))))))))

set_option maxRecDepth 8192 in
set_option maxHeartbeats 4000000 in
theorem main_eq (c : Dev nD) : main (F := F) c = seq ops := rfl
theorem scoped_refs : (Finset.univ.filter fun b : Ref sig .tc => b.isScoped) = ∅ := by decide
theorem scoped_sems : (Finset.univ.filter fun sm : SemLoc sig => sm.isScoped .tc) = ∅ := by decide
set_option maxRecDepth 8192 in
theorem ops_sub : (ops : Ops F).Forall fun op => op.bufs ⊆ tcRefs τ sig :=
  ⟨us .., us .., us .., us .., us .., rs .., bs .., bs .., bs .., ns .., bs .., us .., ns .., us .., bs .., ns .., us .., bs .., us .., bs .., ns .., us .., bs .., us .., bs .., us .., bs .., bs .., us .., us .., us .., us .., ns .., us .., bs .., ns .., us .., bs .., ns .., us .., bs .., bs .., bs .., bs .., bs .., bs .., rs .., rs .., bs .., us .., bs .., bs .., bs .., bs .., bs .., bs .., bs .., bs .., bs .., us .., bs .., bs .., ns .., bs .., rs .., us .., bs .., bs .., ns .., bs .., rs .., us .., bs .., bs .., bs .., ns .., us .., bs .., ns .., bs .., us .., bs .., bs .., bs .., bs .., bs .., us .., bs .., rs .., us .., bs .., ns .., bs .., us .., ns .., us .., bs .., ns .., us .., bs .., us .., us .., bs .., us .., bs .., us .., us .., us .., us .., us ..⟩

variable (m : (ℓ : Loc nD τ sig) → Buf (Elt F) ℓ) (ρ : Dev nD → PrngReg)

def V00 (c : Dev nD) : Valuation τ sig (Elt F) := after p00 (launchContents m c)
def V01 (c : Dev nD) : Valuation τ sig (Elt F) := after p01 (V00 m c)
def V02 (c : Dev nD) : Valuation τ sig (Elt F) := after p02 (V01 m c)
def V03 (c : Dev nD) : Valuation τ sig (Elt F) := after p03 (V02 m c)
def V04 (c : Dev nD) : Valuation τ sig (Elt F) := after p04 (V03 m c)
def V05 (c : Dev nD) : Valuation τ sig (Elt F) := after p05 (V04 m c)
def V06 (c : Dev nD) : Valuation τ sig (Elt F) := after p06 (V05 m c)
def V07 (c : Dev nD) : Valuation τ sig (Elt F) := after p07 (V06 m c)
def V08 (c : Dev nD) : Valuation τ sig (Elt F) := after p08 (V07 m c)
def V09 (c : Dev nD) : Valuation τ sig (Elt F) := after p09 (V08 m c)
def V10 (c : Dev nD) : Valuation τ sig (Elt F) := after p10 (V09 m c)
def V11 (c : Dev nD) : Valuation τ sig (Elt F) := after p11 (V10 m c)
def V12 (c : Dev nD) : Valuation τ sig (Elt F) := after p12 (V11 m c)
def V13 (c : Dev nD) : Valuation τ sig (Elt F) := after p13 (V12 m c)
def V14 (c : Dev nD) : Valuation τ sig (Elt F) := after p14 (V13 m c)
def V15 (c : Dev nD) : Valuation τ sig (Elt F) := after p15 (V14 m c)
def V16 (c : Dev nD) : Valuation τ sig (Elt F) := after p16 (V15 m c)
def V17 (c : Dev nD) : Valuation τ sig (Elt F) := after p17 (V16 m c)
def V18 (c : Dev nD) : Valuation τ sig (Elt F) := after p18 (V17 m c)
def V19 (c : Dev nD) : Valuation τ sig (Elt F) := after p19 (V18 m c)

/-! A stretch leaves every buffer it does not write. -/

section
variable {m : (ℓ : Loc nD τ sig) → Buf (Elt F) ℓ} {c : Dev nD} {b : Ref sig .tc}
theorem k00 (h : b ∉ ([main_v0, main_v1, main_v2, main_v3, main_v4, main_v5] : List (Ref sig .tc)) := by decide) : V00 m c (Proc.devRef .tc b) = launchContents m c (Proc.devRef .tc b) := after_of_writes_sub p00 _ (forall_writes_sub_of_map rfl) h
theorem k01 (h : b ∉ ([main_v6, main_v7] : List (Ref sig .tc)) := by decide) : V01 m c (Proc.devRef .tc b) = V00 m c (Proc.devRef .tc b) := after_of_writes_sub p01 _ (forall_writes_sub_of_map rfl) h
theorem k02 (h : b ∉ ([main_v8, main_cst, main_v9, main_v10, main_cst_0, main_v11, main_v12, main_cst_1, main_v13, main_v14] : List (Ref sig .tc)) := by decide) : V02 m c (Proc.devRef .tc b) = V01 m c (Proc.devRef .tc b) := after_of_writes_sub p02 _ (forall_writes_sub_of_map rfl) h
theorem k03 (h : b ∉ ([main_v15, main_v16, main_cst_2, main_v17, main_v18, main_v19, main_v20, main_v21, main_v22] : List (Ref sig .tc)) := by decide) : V03 m c (Proc.devRef .tc b) = V02 m c (Proc.devRef .tc b) := after_of_writes_sub p03 _ (forall_writes_sub_of_map rfl) h
theorem k04 (h : b ∉ ([main_v23, main_v24, main_v25] : List (Ref sig .tc)) := by decide) : V04 m c (Proc.devRef .tc b) = V03 m c (Proc.devRef .tc b) := after_of_writes_sub p04 _ (forall_writes_sub_of_map rfl) h
theorem k05 (h : b ∉ ([main_call0_v0, main_call0_v1, main_call0_cst, main_call0_v2, main_call0_v3, main_call0_cst_0, main_call0_v4, main_v26_2, main_call0_cst_1, main_call0_v6, main_call0_v7, main_v26_1, main_v26_0] : List (Ref sig .tc)) := by decide) : V05 m c (Proc.devRef .tc b) = V04 m c (Proc.devRef .tc b) := after_of_writes_sub p05 _ (forall_writes_sub_of_map rfl) h
theorem k06 (h : b ∉ ([main_v27, main_v28, main_v29] : List (Ref sig .tc)) := by decide) : V06 m c (Proc.devRef .tc b) = V05 m c (Proc.devRef .tc b) := after_of_writes_sub p06 _ (forall_writes_sub_of_map rfl) h
theorem k07 (h : b ∉ ([main_v30, main_v31] : List (Ref sig .tc)) := by decide) : V07 m c (Proc.devRef .tc b) = V06 m c (Proc.devRef .tc b) := after_of_writes_sub p07 _ (forall_writes_sub_of_map rfl) h
theorem k08 (h : b ∉ ([main_v32, main_v33, main_v34] : List (Ref sig .tc)) := by decide) : V08 m c (Proc.devRef .tc b) = V07 m c (Proc.devRef .tc b) := after_of_writes_sub p08 _ (forall_writes_sub_of_map rfl) h
theorem k09 (h : b ∉ ([main_v35, main_v36, main_call1_v0, main_call1_v1, main_call1_v2, main_v37, main_v38] : List (Ref sig .tc)) := by decide) : V09 m c (Proc.devRef .tc b) = V08 m c (Proc.devRef .tc b) := after_of_writes_sub p09 _ (forall_writes_sub_of_map rfl) h
theorem k10 (h : b ∉ ([main_v39, main_v40, main_v41] : List (Ref sig .tc)) := by decide) : V10 m c (Proc.devRef .tc b) = V09 m c (Proc.devRef .tc b) := after_of_writes_sub p10 _ (forall_writes_sub_of_map rfl) h
theorem k11 (h : b ∉ ([main_v42, main_cst_3, main_v43, main_v44] : List (Ref sig .tc)) := by decide) : V11 m c (Proc.devRef .tc b) = V10 m c (Proc.devRef .tc b) := after_of_writes_sub p11 _ (forall_writes_sub_of_map rfl) h
theorem k12 (h : b ∉ ([main_v45, main_v46, main_v47, main_cst_4, main_v48, main_v49] : List (Ref sig .tc)) := by decide) : V12 m c (Proc.devRef .tc b) = V11 m c (Proc.devRef .tc b) := after_of_writes_sub p12 _ (forall_writes_sub_of_map rfl) h
theorem k13 (h : b ∉ ([main_v50, main_v51, main_v52, main_v53, main_cst_5, main_v54, main_v55, main_cst_6, main_v56, main_v57] : List (Ref sig .tc)) := by decide) : V13 m c (Proc.devRef .tc b) = V12 m c (Proc.devRef .tc b) := after_of_writes_sub p13 _ (forall_writes_sub_of_map rfl) h
theorem k14 (h : b ∉ ([main_v58, main_v59, main_v60, main_v61] : List (Ref sig .tc)) := by decide) : V14 m c (Proc.devRef .tc b) = V13 m c (Proc.devRef .tc b) := after_of_writes_sub p14 _ (forall_writes_sub_of_map rfl) h
theorem k15 (h : b ∉ ([main_v62, main_v63, main_v64] : List (Ref sig .tc)) := by decide) : V15 m c (Proc.devRef .tc b) = V14 m c (Proc.devRef .tc b) := after_of_writes_sub p15 _ (forall_writes_sub_of_map rfl) h
theorem k16 (h : b ∉ ([main_v65, main_v66] : List (Ref sig .tc)) := by decide) : V16 m c (Proc.devRef .tc b) = V15 m c (Proc.devRef .tc b) := after_of_writes_sub p16 _ (forall_writes_sub_of_map rfl) h
theorem k17 (h : b ∉ ([main_v67, main_cst_7, main_v68, main_v69, main_cst_8, main_v70, main_v71, main_cst_9, main_v72, main_v73] : List (Ref sig .tc)) := by decide) : V17 m c (Proc.devRef .tc b) = V16 m c (Proc.devRef .tc b) := after_of_writes_sub p17 _ (forall_writes_sub_of_map rfl) h
theorem k18 (h : b ∉ ([main_v74, main_v75, main_v76, main_v77, main_v78] : List (Ref sig .tc)) := by decide) : V18 m c (Proc.devRef .tc b) = V17 m c (Proc.devRef .tc b) := after_of_writes_sub p18 _ (forall_writes_sub_of_map rfl) h
theorem k19 (h : b ∉ ([main_v79, main_v80, main_v81, main_v82, main_v83] : List (Ref sig .tc)) := by decide) : V19 m c (Proc.devRef .tc b) = V18 m c (Proc.devRef .tc b) := after_of_writes_sub p19 _ (forall_writes_sub_of_map rfl) h
end

theorem after_two (a b : Ops F) (V : Valuation τ sig (Elt F)) : after (a ++ b) V = after b (after a V) := by
  induction a generalizing V with
  | nil => rfl
  | cons x a ih => exact ih _

theorem after_ops (c : Dev nD) : after ops (launchContents m c) = V19 m c := by
  simp only [ops, after_two]
  rfl

set_option maxRecDepth 8192 in
theorem run : θ_run defs (onTc (τ := τ) main) ⟨m, fun _ => 0, ρ⟩ fun r =>
    (∀ (c : Dev nD) (b : Ref sig .tc), r.2.mem ((c.tc : Thread nD τ).loc b) = V19 m c (Proc.devRef .tc b)) ∧ r.2.sem = fun _ => 0 :=
  (θ_run _ _ _).mono (fun _ h => ⟨fun c b => (h c b).trans (congrFun (after_ops m c) _), sem_eq_zero_of_no_sems (by decide) _⟩)
    (run_seq scoped_refs scoped_sems defs main (fun _ => ops) main_eq (fun _ => ops_sub) m ρ)

theorem end_arg0 (c : Dev nD) : V19 m c (Proc.devRef .tc main_arg0) = launchContents m c (Proc.devRef .tc main_arg0) := by
  rw [k19, k18, k17, k16, k15, k14, k13, k12, k11, k10, k09, k08, k07, k06, k05, k04, k03, k02, k01, k00]
theorem end_arg1 (c : Dev nD) : V19 m c (Proc.devRef .tc main_arg1) = launchContents m c (Proc.devRef .tc main_arg1) := by
  rw [k19, k18, k17, k16, k15, k14, k13, k12, k11, k10, k09, k08, k07, k06, k05, k04, k03, k02, k01, k00]
theorem end_arg2 (c : Dev nD) : V19 m c (Proc.devRef .tc main_arg2) = launchContents m c (Proc.devRef .tc main_arg2) := by
  rw [k19, k18, k17, k16, k15, k14, k13, k12, k11, k10, k09, k08, k07, k06, k05, k04, k03, k02, k01, k00]
theorem end_arg3 (c : Dev nD) : V19 m c (Proc.devRef .tc main_arg3) = launchContents m c (Proc.devRef .tc main_arg3) := by
  rw [k19, k18, k17, k16, k15, k14, k13, k12, k11, k10, k09, k08, k07, k06, k05, k04, k03, k02, k01, k00]
theorem end_arg4 (c : Dev nD) : V19 m c (Proc.devRef .tc main_arg4) = launchContents m c (Proc.devRef .tc main_arg4) := by
  rw [k19, k18, k17, k16, k15, k14, k13, k12, k11, k10, k09, k08, k07, k06, k05, k04, k03, k02, k01, k00]
theorem end_arg5 (c : Dev nD) : V19 m c (Proc.devRef .tc main_arg5) = launchContents m c (Proc.devRef .tc main_arg5) := by
  rw [k19, k18, k17, k16, k15, k14, k13, k12, k11, k10, k09, k08, k07, k06, k05, k04, k03, k02, k01, k00]
theorem end_arg6 (c : Dev nD) : V19 m c (Proc.devRef .tc main_arg6) = launchContents m c (Proc.devRef .tc main_arg6) := by
  rw [k19, k18, k17, k16, k15, k14, k13, k12, k11, k10, k09, k08, k07, k06, k05, k04, k03, k02, k01, k00]
theorem end_arg7 (c : Dev nD) : V19 m c (Proc.devRef .tc main_arg7) = launchContents m c (Proc.devRef .tc main_arg7) := by
  rw [k19, k18, k17, k16, k15, k14, k13, k12, k11, k10, k09, k08, k07, k06, k05, k04, k03, k02, k01, k00]

end Cert.FfnRef
-- ==== Proof.FfnRef.lean ====
/- What the reference of the feed-forward program computes, stretch by stretch, and at its end: over real operands, the
   functions of `Ffn.In`. -/
module

public import proofs.«01_k».proof.Proof.FfnRefOps
public import proofs.«01_k».proof.Proof.Ffn

@[expose] public section

noncomputable section

namespace Cert.FfnRef

open Idealize.ShloMosaic Idealize.ShloMosaic.TcCoe Idealize.ShloMosaic.StableHlo
open Cert.Reference2Ideal Cert.Reference2Ideal.Gen Cert.Base Cert.Ffn
open Cert.Spec (sg)

/-! ## The real identities -/

/-- A sum taken in blocks. -/
theorem sum_blocks {M : Type} [AddCommMonoid M] (f : ℕ → M) (b : ℕ) : ∀ a, ∑ i ∈ Finset.range (b * a), f i = ∑ t ∈ Finset.range a, ∑ i ∈ Finset.range b, f (b * t + i)
  | 0 => by simp
  | a + 1 => by rw [Nat.mul_succ, Finset.sum_range_add, sum_blocks f b a, Finset.sum_range_succ]

section
variable (I : Ffn.In)

theorem _root_.Cert.Ffn.In.dx_of (i j : ℕ) : ∑ n ∈ Finset.range 5632, I.dz (n / 2816) i (n % 2816) * I.wi (n / 1408) j (n % 1408) = I.dx i j := by
  rw [show (5632 : ℕ) = 1408 * 4 from rfl, sum_blocks]
  have e : ∀ q, ∑ f ∈ Finset.range 1408, I.dz ((1408 * q + f) / 2816) i ((1408 * q + f) % 2816) * I.wi ((1408 * q + f) / 1408) j ((1408 * q + f) % 1408) = I.dxq q i j := fun q => by
    refine Finset.sum_congr rfl fun f hf => ?_
    have hf : f < 1408 := Finset.mem_range.mp hf
    rw [show (1408 * q + f) / 2816 = q / 2 by omega, show (1408 * q + f) % 2816 = q % 2 * 1408 + f by omega, show (1408 * q + f) / 1408 = q by omega,
      show (1408 * q + f) % 1408 = f by omega]
  simp only [e, Finset.sum_range_succ, Finset.sum_range_zero, zero_add]
  rfl

theorem _root_.Cert.Ffn.In.dg_of (j : ℕ) : ∑ i ∈ Finset.range 2048, I.xr i j * I.dx i j = I.dg j := by
  rw [show (2048 : ℕ) = 256 * 8 from rfl, sum_blocks]
  exact Finset.sum_congr rfl fun t _ => Finset.sum_congr rfl fun i _ => mul_comm _ _

theorem _root_.Cert.Ffn.In.dwi_of (q k f : ℕ) (hq : q < 4) (hf : f < 1408) :
    ∑ i ∈ Finset.range 2048, I.dz ((q * 1408 + f) / 2816) i ((q * 1408 + f) % 2816) * I.hn i k = I.dwi q k f := by
  refine Finset.sum_congr rfl fun i _ => ?_
  rw [show (q * 1408 + f) / 2816 = q / 2 by omega, show (q * 1408 + f) % 2816 = q % 2 * 1408 + f by omega, mul_comm]

/-- The norm's gradient through the inverse root, in the two forms. -/
theorem _root_.Cert.Ffn.In.dhm_of (i j : ℕ) :
    I.dh i j + I.dx i j * I.g j * rn (I.hm i)
      + I.hm i j * ((∑ k ∈ Finset.range 1024, I.hm i k * (I.dx i k * I.g k)) * (-(1 / 2) * (rn (I.hm i) / ms (I.hm i))) / 1024)
      + (∑ k ∈ Finset.range 1024, I.hm i k * (I.dx i k * I.g k)) * (-(1 / 2) * (rn (I.hm i) / ms (I.hm i))) / 1024 * I.hm i j = I.dhm i j := by
  have hs : ∑ k ∈ Finset.range 1024, I.dx i k * I.g k * I.xr i k = rn (I.hm i) * ∑ k ∈ Finset.range 1024, I.hm i k * (I.dx i k * I.g k) := by
    rw [Finset.mul_sum]
    exact Finset.sum_congr rfl fun k _ => by unfold In.xr; ring
  have hr : rn (I.hm i) / ms (I.hm i) = rn (I.hm i) * rn (I.hm i) * rn (I.hm i) := by
    rw [div_eq_iff (ms_pos _).ne']
    linear_combination (-rn (I.hm i)) * rn_sq (I.hm i)
  unfold In.dhm
  rw [hs, hr, In.xr]
  ring
end

/-! ## Shapes -/

theorem side_by_side {v : (⟨3, ![4, 1024, 1408]⟩ : Shape).Idx → EReal} {f : ℕ → ℕ → ℕ → ℝ} (h : R3 4 1024 1408 v f) :
    Rp 1024 5632 (shapeCast S1024x5632 (transpose S1024x4x1408 [1, 0, 2] v transposes_S4x1024x1408_S1024x4x1408_1_0_2) shapeCasts_S1024x4x1408_S1024x5632)
      (fun k n => f (n / 1408) k (n % 1408)) := fun i j => by
  pointwise
  exact h _ _ _

theorem shards_of {v : (⟨2, ![1024, 5632]⟩ : Shape).Idx → EReal} {f : ℕ → ℕ → ℝ} (h : Rp 1024 5632 v f) :
    R3 4 1024 1408 (transpose S4x1024x1408 [1, 0, 2] (shapeCast S1024x4x1408 v shapeCasts_S1024x5632_S1024x4x1408) transposes_S1024x4x1408_S4x1024x1408_1_0_2)
      (fun q k j => f k (q * 1408 + j)) := fun q k j => by
  pointwise
  exact h _ _

theorem turned {m n : ℕ} {v : (⟨2, ![m, n]⟩ : Shape).Idx → EReal} {f : ℕ → ℕ → ℝ} {h : (⟨2, ![m, n]⟩ : Shape).Transposes [1, 0] ⟨2, ![n, m]⟩}
    (hv : Rp m n v f) : Rp n m (transpose ⟨2, ![n, m]⟩ [1, 0] v h) (fun j i => f i j) := fun j i => by
  pointwise
  rw [Shape.Idx.norm_def, hv.at]
  rfl

theorem joined_of {a b : (⟨2, ![2048, 2816]⟩ : Shape).Idx → EReal} {f g : ℕ → ℕ → ℝ} (ha : Rp 2048 2816 a f) (hb : Rp 2048 2816 b g) :
    Rp 2048 5632 (joined (F := Ideal) a b) (fun i n => if n < 2816 then f i n else g i (n - 2816)) := fun i n => by
  unfold joined
  pointwise
  by_cases h : (n : ℕ) < 2816
  · rw [dif_pos h, if_pos h]; exact ha i ⟨n, h⟩
  · rw [dif_neg h, if_neg h]; exact hb i ⟨(n : ℕ) - 2816, by omega⟩

theorem col_of {m : ℕ} {r : (⟨1, ![m]⟩ : Shape).Idx → EReal} {q : ℕ → ℝ} {h : (⟨1, ![m]⟩ : Shape).BroadcastsInDim ⟨2, ![m, 1]⟩ ![0]}
    (hr : R1 m r q) : Rp m 1 (broadcastInDim ⟨2, ![m, 1]⟩ ![0] h r) (fun i _ => q i) := Rp.hbcVec h hr

theorem castCol {r : (⟨1, ![2048]⟩ : Shape).Idx → EReal} {q : ℕ → ℝ} {h : (⟨1, ![2048]⟩ : Shape).ShapeCasts ⟨2, ![2048, 1]⟩}
    (hr : R1 2048 r q) : Rp 2048 1 (shapeCast ⟨2, ![2048, 1]⟩ r h) (fun i _ => q i) := fun i j => by
  pointwise
  exact hr i

theorem row_of {r : (⟨1, ![1024]⟩ : Shape).Idx → EReal} {q : ℕ → ℝ} {h : (⟨1, ![1024]⟩ : Shape).ShapeCasts ⟨2, ![1, 1024]⟩}
    (hr : R1 1024 r q) : Rp 1 1024 (shapeCast ⟨2, ![1, 1024]⟩ r h) (fun _ j => q j) := fun i j => by
  pointwise
  exact hr j

theorem sig_of {v : (⟨2, ![2048, 2816]⟩ : Shape).Idx → EReal} {f : ℕ → ℕ → ℝ} (h : Rp 2048 2816 v f) :
    Rp 2048 2816 (Host.divf (F := Ideal) (φ := .f32) (broadcastInDim S2048x2816 ![] bcast_S_S2048x2816 (constant (F := Ideal) S_ .f32 0x3F800000#32))
      (addf (F := Ideal) (φ := .f32) (broadcastInDim S2048x2816 ![] bcast_S_S2048x2816 (constant (F := Ideal) S_ .f32 0x3F800000#32))
        (Host.exp (F := Ideal) (φ := .f32) (Host.negf (F := Ideal) (φ := .f32) v)))) (fun i j => sg (f i j)) := by
  refine Rp.of_eq (Rp.hdiv (Rp.hcst _ (R0.cst lit_one)) (Rp.add (Rp.hcst _ (R0.cst lit_one)) (Rp.hexp (Rp.hneg h))) fun i j _ _ => ?_) fun i j _ _ => ?_
  · positivity
  · rfl

/-! ## The stretches -/

section
variable {I : Ffn.In} (V : Valuation τ sig (Elt Ideal))

theorem p00_v0
    (h_arg0 : Rp 2048 1024 (V (Proc.devRef .tc main_arg0)) (fun i j => I.m i j)) :
    Rp 2048 1024 (after p00 V (Proc.devRef .tc main_v0)) (fun i j => I.m i j) := by
  after_reads_simp
  exact Rp.ext h_arg0 _

theorem p00_v1
    (h_arg2 : Rp 1024 1024 (V (Proc.devRef .tc main_arg2)) (fun i j => I.wo i j)) :
    Rp 1024 1024 (after p00 V (Proc.devRef .tc main_v1)) (fun i j => I.wo i j) := by
  after_reads_simp
  exact Rp.ext h_arg2 _

theorem p00_v3
    (h_arg5 : Rp 2816 1024 (V (Proc.devRef .tc main_arg5)) (fun i j => I.w2 i j)) :
    Rp 2816 1024 (after p00 V (Proc.devRef .tc main_v3)) (fun i j => I.w2 i j) := by
  after_reads_simp
  exact Rp.ext h_arg5 _

theorem p00_v5
    (h_arg4 : R3 4 1024 1408 (V (Proc.devRef .tc main_arg4)) (fun q k f => I.wi q k f)) :
    Rp 1024 5632 (after p00 V (Proc.devRef .tc main_v5)) (fun k n => I.wi (n / 1408) k (n % 1408)) := by
  after_reads_simp
  exact side_by_side h_arg4

theorem p01_v7
    (h_v0 : Rp 2048 1024 (V (Proc.devRef .tc main_v0)) (fun i j => I.m i j))
    (h_v1 : Rp 1024 1024 (V (Proc.devRef .tc main_v1)) (fun i j => I.wo i j))
    (h_arg1 : Rp 2048 1024 (V (Proc.devRef .tc main_arg1)) (fun i j => I.h i j)) :
    Rp 2048 1024 (after p01 V (Proc.devRef .tc main_v7)) (fun i j => I.hm i j) := by
  after_reads_simp
  exact Rp.add h_arg1 (dot_nn (fun i j => by pointwise) h_v0 h_v1)

theorem p02_v14
    (h_v7 : Rp 2048 1024 (V (Proc.devRef .tc main_v7)) (fun i j => I.hm i j)) :
    Rp 2048 1 (after p02 V (Proc.devRef .tc main_v14)) (fun i _ => ms (I.hm i)) := by
  after_reads_simp
  exact Rp.of_eq (Rp.add (Rp.hdiv (col_of (R1.hrowSum _ _ (Rp.mul h_v7 h_v7) (R0.cst lit_zero))) (Rp.hcst _ (R0.cst lit_1024)) (fun _ _ _ _ => by norm_num))
    (Rp.hcst _ (R0.cst lit_eps))) fun i _ _ _ => rfl

theorem p03_v15
    (h_v14 : Rp 2048 1 (V (Proc.devRef .tc main_v14)) (fun i _ => ms (I.hm i))) :
    Rp 2048 1 (after p03 V (Proc.devRef .tc main_v15)) (fun i _ => rn (I.hm i)) := by
  after_reads_simp
  exact Rp.hrsqrt h_v14 fun i _ _ _ => ms_pos _

theorem p03_v18
    (h_v14 : Rp 2048 1 (V (Proc.devRef .tc main_v14)) (fun i _ => ms (I.hm i))) :
    Rp 2048 1 (after p03 V (Proc.devRef .tc main_v18)) (fun i _ => -(1 / 2) * (rn (I.hm i) / ms (I.hm i))) := by
  after_reads_simp
  exact Rp.mul (Rp.hcst _ (R0.cst lit_mhalf)) (Rp.hdiv (Rp.hrsqrt h_v14 fun i _ _ _ => ms_pos _) h_v14 fun i _ _ _ => (ms_pos _).ne')

theorem p03_v20
    (h_v14 : Rp 2048 1 (V (Proc.devRef .tc main_v14)) (fun i _ => ms (I.hm i)))
    (h_v7 : Rp 2048 1024 (V (Proc.devRef .tc main_v7)) (fun i j => I.hm i j)) :
    Rp 2048 1024 (after p03 V (Proc.devRef .tc main_v20)) (fun i j => I.xr i j) := by
  after_reads_simp
  exact Rp.mul h_v7 (Rp.hbcCol _ (Rp.hrsqrt h_v14 fun i _ _ _ => ms_pos _))

theorem p03_v22
    (h_v14 : Rp 2048 1 (V (Proc.devRef .tc main_v14)) (fun i _ => ms (I.hm i)))
    (h_v7 : Rp 2048 1024 (V (Proc.devRef .tc main_v7)) (fun i j => I.hm i j))
    (h_arg3 : Rp 1 1024 (V (Proc.devRef .tc main_arg3)) (fun _ j => I.g j)) :
    Rp 2048 1024 (after p03 V (Proc.devRef .tc main_v22)) (fun i j => I.hn i j) := by
  after_reads_simp
  exact Rp.mul (Rp.mul h_v7 (Rp.hbcCol _ (Rp.hrsqrt h_v14 fun i _ _ _ => ms_pos _))) (Rp.hbcRow _ h_arg3)

theorem p04_v24
    (h_v22 : Rp 2048 1024 (V (Proc.devRef .tc main_v22)) (fun i j => I.hn i j))
    (h_v5 : Rp 1024 5632 (V (Proc.devRef .tc main_v5)) (fun k n => I.wi (n / 1408) k (n % 1408))) :
    Rp 2048 2816 (after p04 V (Proc.devRef .tc main_v24)) (fun i f => I.zg i f) := by
  after_reads_simp
  refine Rp.of_eq (Rp.slice 0 0 _ (dot_nn (fun i j => by pointwise) h_v22 h_v5)) fun i f _ _ => ?_
  simp only [Nat.zero_add, In.zg]

theorem p04_v25
    (h_v22 : Rp 2048 1024 (V (Proc.devRef .tc main_v22)) (fun i j => I.hn i j))
    (h_v5 : Rp 1024 5632 (V (Proc.devRef .tc main_v5)) (fun k n => I.wi (n / 1408) k (n % 1408))) :
    Rp 2048 2816 (after p04 V (Proc.devRef .tc main_v25)) (fun i f => I.zu i f) := by
  after_reads_simp
  refine Rp.of_eq (Rp.slice 0 2816 _ (dot_nn (fun i j => by pointwise) h_v22 h_v5)) fun i f _ _ => ?_
  rw [Nat.zero_add, show (2816 + f) / 1408 = f / 1408 + 2 by omega, show (2816 + f) % 1408 = f % 1408 by omega]
  rfl

theorem p05_v26_2
    (h_v24 : Rp 2048 2816 (V (Proc.devRef .tc main_v24)) (fun i f => I.zg i f)) :
    Rp 2048 2816 (after p05 V (Proc.devRef .tc main_v26_2)) (fun i f => sg (I.zg i f)) := by
  after_reads_simp
  simp only [TRef.toBuf, TRef.ofBuf, cast_cast, cast_eq]
  exact sig_of h_v24

theorem p05_v26_1
    (h_v24 : Rp 2048 2816 (V (Proc.devRef .tc main_v24)) (fun i f => I.zg i f)) :
    Rp 2048 2816 (after p05 V (Proc.devRef .tc main_v26_1)) (fun i f => sg (I.zg i f) * (1 - sg (I.zg i f))) := by
  after_reads_simp
  simp only [TRef.toBuf, TRef.ofBuf, cast_cast, cast_eq]
  exact Rp.mul (sig_of h_v24) (Rp.sub (Rp.hcst _ (R0.cst lit_one)) (sig_of h_v24))

theorem p05_v26_0
    (h_v24 : Rp 2048 2816 (V (Proc.devRef .tc main_v24)) (fun i f => I.zg i f)) :
    Rp 2048 2816 (after p05 V (Proc.devRef .tc main_v26_0)) (fun i f => I.zg i f * sg (I.zg i f)) := by
  after_reads_simp
  simp only [TRef.toBuf, TRef.ofBuf, cast_cast, cast_eq]
  exact Rp.mul h_v24 (sig_of h_v24)

theorem p06_v27
    (h_v26_0 : Rp 2048 2816 (V (Proc.devRef .tc main_v26_0)) (fun i f => I.zg i f * sg (I.zg i f)))
    (h_v25 : Rp 2048 2816 (V (Proc.devRef .tc main_v25)) (fun i f => I.zu i f)) :
    Rp 2048 2816 (after p06 V (Proc.devRef .tc main_v27)) (fun i f => I.act i f) := by
  after_reads_simp
  exact Rp.mul h_v26_0 h_v25

theorem p06_v29
    (h_v26_0 : Rp 2048 2816 (V (Proc.devRef .tc main_v26_0)) (fun i f => I.zg i f * sg (I.zg i f)))
    (h_v25 : Rp 2048 2816 (V (Proc.devRef .tc main_v25)) (fun i f => I.zu i f))
    (h_v7 : Rp 2048 1024 (V (Proc.devRef .tc main_v7)) (fun i j => I.hm i j))
    (h_v3 : Rp 2816 1024 (V (Proc.devRef .tc main_v3)) (fun i j => I.w2 i j)) :
    Rp 2048 1024 (after p06 V (Proc.devRef .tc main_v29)) (fun i j => I.ho i j) := by
  after_reads_simp
  exact Rp.add h_v7 (dot_nn (fun i j => by pointwise) (Rp.mul h_v26_0 h_v25) h_v3)

theorem p07_v30
    (h_arg7 : Rp 2048 1024 (V (Proc.devRef .tc main_arg7)) (fun i j => I.dh i j)) :
    Rp 2048 1024 (after p07 V (Proc.devRef .tc main_v30)) (fun i j => I.dh i j) := by
  after_reads_simp
  exact Rp.castSelf _ h_arg7

theorem p07_v31
    (h_arg7 : Rp 2048 1024 (V (Proc.devRef .tc main_arg7)) (fun i j => I.dh i j)) :
    Rp 2048 1024 (after p07 V (Proc.devRef .tc main_v31)) (fun i j => I.dh i j) := by
  after_reads_simp
  exact Rp.castSelf _ h_arg7

theorem p08_v33
    (h_v31 : Rp 2048 1024 (V (Proc.devRef .tc main_v31)) (fun i j => I.dh i j))
    (h_v27 : Rp 2048 2816 (V (Proc.devRef .tc main_v27)) (fun i f => I.act i f)) :
    Rp 2816 1024 (after p08 V (Proc.devRef .tc main_v33)) (fun f j => I.dw2 f j) := by
  after_reads_simp
  exact Rp.of_eq (turned (dot_tn (fun i j => by pointwise) h_v31 h_v27)) fun f j _ _ => Finset.sum_congr rfl fun i _ => mul_comm _ _

theorem p08_v34
    (h_v31 : Rp 2048 1024 (V (Proc.devRef .tc main_v31)) (fun i j => I.dh i j))
    (h_v3 : Rp 2816 1024 (V (Proc.devRef .tc main_v3)) (fun i j => I.w2 i j)) :
    Rp 2048 2816 (after p08 V (Proc.devRef .tc main_v34)) (fun i f => I.d i f) := by
  after_reads_simp
  exact dot_nt (fun i j => by pointwise) h_v31 h_v3

theorem p09_v38
    (h_v34 : Rp 2048 2816 (V (Proc.devRef .tc main_v34)) (fun i f => I.d i f))
    (h_v25 : Rp 2048 2816 (V (Proc.devRef .tc main_v25)) (fun i f => I.zu i f))
    (h_v24 : Rp 2048 2816 (V (Proc.devRef .tc main_v24)) (fun i f => I.zg i f))
    (h_v26_0 : Rp 2048 2816 (V (Proc.devRef .tc main_v26_0)) (fun i f => I.zg i f * sg (I.zg i f)))
    (h_v26_1 : Rp 2048 2816 (V (Proc.devRef .tc main_v26_1)) (fun i f => sg (I.zg i f) * (1 - sg (I.zg i f))))
    (h_v26_2 : Rp 2048 2816 (V (Proc.devRef .tc main_v26_2)) (fun i f => sg (I.zg i f))) :
    Rp 2048 5632 (after p09 V (Proc.devRef .tc main_v38)) (fun i n => I.dz (n / 2816) i (n % 2816)) := by
  after_reads_simp
  simp only [TRef.toBuf, TRef.ofBuf, cast_cast, cast_eq]
  refine Rp.of_eq (joined_of (Rp.add (Rp.mul (Rp.mul h_v34 h_v25) h_v26_2) (Rp.mul (Rp.mul h_v24 (Rp.mul h_v34 h_v25)) h_v26_1)) (Rp.mul h_v26_0 h_v34)) fun i n _ hn => ?_
  by_cases h : n < 2816
  · rw [if_pos h, Nat.div_eq_of_lt h, Nat.mod_eq_of_lt h, In.dz, In.z, if_pos rfl]; ring
  · rw [if_neg h, show n / 2816 = 1 by omega, show n % 2816 = n - 2816 by omega, In.dz, In.z, if_neg one_ne_zero]; ring

theorem p10_v40
    (h_v38 : Rp 2048 5632 (V (Proc.devRef .tc main_v38)) (fun i n => I.dz (n / 2816) i (n % 2816)))
    (h_v22 : Rp 2048 1024 (V (Proc.devRef .tc main_v22)) (fun i j => I.hn i j)) :
    Rp 1024 5632 (after p10 V (Proc.devRef .tc main_v40)) (fun k n => ∑ i ∈ Finset.range 2048, I.dz (n / 2816) i (n % 2816) * I.hn i k) := by
  after_reads_simp
  exact turned (dot_tn (fun i j => by pointwise) h_v38 h_v22)

theorem p10_v41
    (h_v38 : Rp 2048 5632 (V (Proc.devRef .tc main_v38)) (fun i n => I.dz (n / 2816) i (n % 2816)))
    (h_v5 : Rp 1024 5632 (V (Proc.devRef .tc main_v5)) (fun k n => I.wi (n / 1408) k (n % 1408))) :
    Rp 2048 1024 (after p10 V (Proc.devRef .tc main_v41)) (fun i j => I.dx i j) := by
  after_reads_simp
  exact Rp.of_eq (dot_nt (fun i j => by pointwise) h_v38 h_v5) fun i j _ _ => I.dx_of i j

theorem p11_v44
    (h_v20 : Rp 2048 1024 (V (Proc.devRef .tc main_v20)) (fun i j => I.xr i j))
    (h_v41 : Rp 2048 1024 (V (Proc.devRef .tc main_v41)) (fun i j => I.dx i j)) :
    Rp 1 1024 (after p11 V (Proc.devRef .tc main_v44)) (fun _ j => I.dg j) := by
  after_reads_simp
  exact Rp.of_eq (row_of (R1.hsum _ _ (Rp.mul h_v20 h_v41) (R0.cst lit_zero))) fun _ j _ _ => I.dg_of j

theorem p12_v46
    (h_v41 : Rp 2048 1024 (V (Proc.devRef .tc main_v41)) (fun i j => I.dx i j))
    (h_arg3 : Rp 1 1024 (V (Proc.devRef .tc main_arg3)) (fun _ j => I.g j)) :
    Rp 2048 1024 (after p12 V (Proc.devRef .tc main_v46)) (fun i j => I.dx i j * I.g j) := by
  after_reads_simp
  exact Rp.mul h_v41 (Rp.hbcRow _ h_arg3)

theorem p12_v49
    (h_v7 : Rp 2048 1024 (V (Proc.devRef .tc main_v7)) (fun i j => I.hm i j))
    (h_v41 : Rp 2048 1024 (V (Proc.devRef .tc main_v41)) (fun i j => I.dx i j))
    (h_arg3 : Rp 1 1024 (V (Proc.devRef .tc main_arg3)) (fun _ j => I.g j)) :
    Rp 2048 1 (after p12 V (Proc.devRef .tc main_v49)) (fun i _ => ∑ k ∈ Finset.range 1024, I.hm i k * (I.dx i k * I.g k)) := by
  after_reads_simp
  exact castCol (R1.hrowSum _ _ (Rp.mul h_v7 (Rp.mul h_v41 (Rp.hbcRow _ h_arg3))) (R0.cst lit_zero))

theorem p13_v52
    (h_v30 : Rp 2048 1024 (V (Proc.devRef .tc main_v30)) (fun i j => I.dh i j))
    (h_v46 : Rp 2048 1024 (V (Proc.devRef .tc main_v46)) (fun i j => I.dx i j * I.g j))
    (h_v15 : Rp 2048 1 (V (Proc.devRef .tc main_v15)) (fun i _ => rn (I.hm i))) :
    Rp 2048 1024 (after p13 V (Proc.devRef .tc main_v52)) (fun i j => I.dh i j + I.dx i j * I.g j * rn (I.hm i)) := by
  after_reads_simp
  exact Rp.add h_v30 (Rp.mul h_v46 (Rp.hbcCol _ h_v15))

theorem p13_v57
    (h_v49 : Rp 2048 1 (V (Proc.devRef .tc main_v49)) (fun i _ => ∑ k ∈ Finset.range 1024, I.hm i k * (I.dx i k * I.g k)))
    (h_v18 : Rp 2048 1 (V (Proc.devRef .tc main_v18)) (fun i _ => -(1 / 2) * (rn (I.hm i) / ms (I.hm i)))) :
    Rp 2048 1024 (after p13 V (Proc.devRef .tc main_v57)) (fun i _ => (∑ k ∈ Finset.range 1024, I.hm i k * (I.dx i k * I.g k)) * (-(1 / 2) * (rn (I.hm i) / ms (I.hm i))) / 1024) := by
  after_reads_simp
  refine Rp.of_eq (Rp.hbcVec _ (R1.hrowSum _ _ (Rp.hdiv (Rp.mul h_v49 h_v18) (Rp.hcst _ (R0.cst lit_1024)) (fun _ _ _ _ => by norm_num)) (R0.cst lit_zero))) fun i j _ _ => ?_
  rw [Finset.sum_range_one]

theorem p14_v61
    (h_v7 : Rp 2048 1024 (V (Proc.devRef .tc main_v7)) (fun i j => I.hm i j))
    (h_v52 : Rp 2048 1024 (V (Proc.devRef .tc main_v52)) (fun i j => I.dh i j + I.dx i j * I.g j * rn (I.hm i)))
    (h_v57 : Rp 2048 1024 (V (Proc.devRef .tc main_v57)) (fun i _ => (∑ k ∈ Finset.range 1024, I.hm i k * (I.dx i k * I.g k)) * (-(1 / 2) * (rn (I.hm i) / ms (I.hm i))) / 1024)) :
    Rp 2048 1024 (after p14 V (Proc.devRef .tc main_v61)) (fun i j => I.dhm i j) := by
  after_reads_simp
  exact Rp.of_eq (Rp.add (Rp.add h_v52 (Rp.mul h_v7 h_v57)) (Rp.mul h_v57 h_v7)) fun i j _ _ => I.dhm_of i j

theorem p15_v63
    (h_v61 : Rp 2048 1024 (V (Proc.devRef .tc main_v61)) (fun i j => I.dhm i j))
    (h_v0 : Rp 2048 1024 (V (Proc.devRef .tc main_v0)) (fun i j => I.m i j)) :
    Rp 1024 1024 (after p15 V (Proc.devRef .tc main_v63)) (fun k j => I.dwo k j) := by
  after_reads_simp
  exact Rp.of_eq (turned (dot_tn (fun i j => by pointwise) h_v61 h_v0)) fun k j _ _ => Finset.sum_congr rfl fun i _ => mul_comm _ _

theorem p15_v64
    (h_v61 : Rp 2048 1024 (V (Proc.devRef .tc main_v61)) (fun i j => I.dhm i j))
    (h_v1 : Rp 1024 1024 (V (Proc.devRef .tc main_v1)) (fun i j => I.wo i j)) :
    Rp 2048 1024 (after p15 V (Proc.devRef .tc main_v64)) (fun i j => I.dm i j) := by
  after_reads_simp
  exact dot_nt (fun i j => by pointwise) h_v61 h_v1

theorem p16_v66
    (h_v40 : Rp 1024 5632 (V (Proc.devRef .tc main_v40)) (fun k n => ∑ i ∈ Finset.range 2048, I.dz (n / 2816) i (n % 2816) * I.hn i k)) :
    R3 4 1024 1408 (after p16 V (Proc.devRef .tc main_v66)) (fun q k f => I.dwi q k f) := by
  after_reads_simp
  exact R3.of_eq (shards_of h_v40) fun q k f hq _ hf => I.dwi_of q k f hq hf

theorem p17_v73
    (h_v29 : Rp 2048 1024 (V (Proc.devRef .tc main_v29)) (fun i j => I.ho i j)) :
    Rp 2048 1 (after p17 V (Proc.devRef .tc main_v73)) (fun i _ => ms (I.ho i)) := by
  after_reads_simp
  exact Rp.of_eq (Rp.add (Rp.hdiv (col_of (R1.hrowSum _ _ (Rp.mul h_v29 h_v29) (R0.cst lit_zero))) (Rp.hcst _ (R0.cst lit_1024)) (fun _ _ _ _ => by norm_num))
    (Rp.hcst _ (R0.cst lit_eps))) fun i _ _ _ => rfl

theorem p18_v78
    (h_v29 : Rp 2048 1024 (V (Proc.devRef .tc main_v29)) (fun i j => I.ho i j))
    (h_v73 : Rp 2048 1 (V (Proc.devRef .tc main_v73)) (fun i _ => ms (I.ho i)))
    (h_arg6 : Rp 1 1024 (V (Proc.devRef .tc main_arg6)) (fun _ j => I.gx j)) :
    Rp 2048 1024 (after p18 V (Proc.devRef .tc main_v78)) (fun i j => I.xn i j) := by
  after_reads_simp
  exact Rp.mul (Rp.mul h_v29 (Rp.hbcCol _ (Rp.hrsqrt h_v73 fun i _ _ _ => ms_pos _))) (Rp.hbcRow _ h_arg6)

theorem p19_v79
    (h_v78 : Rp 2048 1024 (V (Proc.devRef .tc main_v78)) (fun i j => I.xn i j)) :
    Rp 2048 1024 (after p19 V (Proc.devRef .tc main_v79)) (fun i j => I.xn i j) := by
  after_reads_simp
  exact Rp.trunc h_v78 _

theorem p19_v80
    (h_v33 : Rp 2816 1024 (V (Proc.devRef .tc main_v33)) (fun f j => I.dw2 f j)) :
    Rp 2816 1024 (after p19 V (Proc.devRef .tc main_v80)) (fun f j => I.dw2 f j) := by
  after_reads_simp
  exact Rp.trunc h_v33 _

theorem p19_v81
    (h_v66 : R3 4 1024 1408 (V (Proc.devRef .tc main_v66)) (fun q k f => I.dwi q k f)) :
    R3 4 1024 1408 (after p19 V (Proc.devRef .tc main_v81)) (fun q k f => I.dwi q k f) := by
  after_reads_simp
  exact fun a i j => h_v66 a i j

theorem p19_v82
    (h_v61 : Rp 2048 1024 (V (Proc.devRef .tc main_v61)) (fun i j => I.dhm i j)) :
    Rp 2048 1024 (after p19 V (Proc.devRef .tc main_v82)) (fun i j => I.dhm i j) := by
  after_reads_simp
  exact Rp.trunc h_v61 _

theorem p19_v83
    (h_v63 : Rp 1024 1024 (V (Proc.devRef .tc main_v63)) (fun k j => I.dwo k j)) :
    Rp 1024 1024 (after p19 V (Proc.devRef .tc main_v83)) (fun k j => I.dwo k j) := by
  after_reads_simp
  exact Rp.trunc h_v63 _

end

/-! ## The end -/

theorem end_value (I : Ffn.In) (m : (ℓ : Loc nD τ sig) → Buf (Elt Ideal) ℓ) (c : Dev nD)
    (arg0 : Rp 2048 1024 (launchContents m c (Proc.devRef .tc main_arg0)) (fun i j => I.m i j))
    (arg1 : Rp 2048 1024 (launchContents m c (Proc.devRef .tc main_arg1)) (fun i j => I.h i j))
    (arg2 : Rp 1024 1024 (launchContents m c (Proc.devRef .tc main_arg2)) (fun i j => I.wo i j))
    (arg3 : Rp 1 1024 (launchContents m c (Proc.devRef .tc main_arg3)) (fun _ j => I.g j))
    (arg4 : R3 4 1024 1408 (launchContents m c (Proc.devRef .tc main_arg4)) (fun q k f => I.wi q k f))
    (arg5 : Rp 2816 1024 (launchContents m c (Proc.devRef .tc main_arg5)) (fun i j => I.w2 i j))
    (arg6 : Rp 1 1024 (launchContents m c (Proc.devRef .tc main_arg6)) (fun _ j => I.gx j))
    (arg7 : Rp 2048 1024 (launchContents m c (Proc.devRef .tc main_arg7)) (fun i j => I.dh i j)) :
    Rp 2048 1024 (V19 m c (Proc.devRef .tc main_v29)) (fun i j => I.ho i j) ∧
    Rp 2048 1024 (V19 m c (Proc.devRef .tc main_v79)) (fun i j => I.xn i j) ∧
    Rp 2816 1024 (V19 m c (Proc.devRef .tc main_v80)) (fun f j => I.dw2 f j) ∧
    R3 4 1024 1408 (V19 m c (Proc.devRef .tc main_v81)) (fun q k f => I.dwi q k f) ∧
    Rp 2048 1024 (V19 m c (Proc.devRef .tc main_v61)) (fun i j => I.dhm i j) ∧
    Rp 2048 1024 (V19 m c (Proc.devRef .tc main_v82)) (fun i j => I.dhm i j) ∧
    Rp 1 1024 (V19 m c (Proc.devRef .tc main_v44)) (fun _ j => I.dg j) ∧
    Rp 1024 1024 (V19 m c (Proc.devRef .tc main_v83)) (fun k j => I.dwo k j) ∧
    Rp 2048 1024 (V19 m c (Proc.devRef .tc main_v64)) (fun i j => I.dm i j) := by
  have v0_0 : Rp 2048 1024 (V00 m c (Proc.devRef .tc main_v0)) (fun i j => I.m i j) := p00_v0 _ arg0
  have v1_0 : Rp 1024 1024 (V00 m c (Proc.devRef .tc main_v1)) (fun i j => I.wo i j) := p00_v1 _ arg2
  have v3_0 : Rp 2816 1024 (V00 m c (Proc.devRef .tc main_v3)) (fun i j => I.w2 i j) := p00_v3 _ arg5
  have v5_0 : Rp 1024 5632 (V00 m c (Proc.devRef .tc main_v5)) (fun k n => I.wi (n / 1408) k (n % 1408)) := p00_v5 _ arg4
  have arg1_0 : Rp 2048 1024 (V00 m c (Proc.devRef .tc main_arg1)) (fun i j => I.h i j) := by
    rw [k00]; exact arg1
  have v7_1 : Rp 2048 1024 (V01 m c (Proc.devRef .tc main_v7)) (fun i j => I.hm i j) := p01_v7 _ v0_0 v1_0 arg1_0
  have v14_2 : Rp 2048 1 (V02 m c (Proc.devRef .tc main_v14)) (fun i _ => ms (I.hm i)) := p02_v14 _ v7_1
  have v15_3 : Rp 2048 1 (V03 m c (Proc.devRef .tc main_v15)) (fun i _ => rn (I.hm i)) := p03_v15 _ v14_2
  have v18_3 : Rp 2048 1 (V03 m c (Proc.devRef .tc main_v18)) (fun i _ => -(1 / 2) * (rn (I.hm i) / ms (I.hm i))) := p03_v18 _ v14_2
  have v7_2 : Rp 2048 1024 (V02 m c (Proc.devRef .tc main_v7)) (fun i j => I.hm i j) := by
    rw [k02]; exact v7_1
  have v20_3 : Rp 2048 1024 (V03 m c (Proc.devRef .tc main_v20)) (fun i j => I.xr i j) := p03_v20 _ v14_2 v7_2
  have arg3_2 : Rp 1 1024 (V02 m c (Proc.devRef .tc main_arg3)) (fun _ j => I.g j) := by
    rw [k02, k01, k00]; exact arg3
  have v22_3 : Rp 2048 1024 (V03 m c (Proc.devRef .tc main_v22)) (fun i j => I.hn i j) := p03_v22 _ v14_2 v7_2 arg3_2
  have v5_3 : Rp 1024 5632 (V03 m c (Proc.devRef .tc main_v5)) (fun k n => I.wi (n / 1408) k (n % 1408)) := by
    rw [k03, k02, k01]; exact v5_0
  have v24_4 : Rp 2048 2816 (V04 m c (Proc.devRef .tc main_v24)) (fun i f => I.zg i f) := p04_v24 _ v22_3 v5_3
  have v25_4 : Rp 2048 2816 (V04 m c (Proc.devRef .tc main_v25)) (fun i f => I.zu i f) := p04_v25 _ v22_3 v5_3
  have v26_2_5 : Rp 2048 2816 (V05 m c (Proc.devRef .tc main_v26_2)) (fun i f => sg (I.zg i f)) := p05_v26_2 _ v24_4
  have v26_1_5 : Rp 2048 2816 (V05 m c (Proc.devRef .tc main_v26_1)) (fun i f => sg (I.zg i f) * (1 - sg (I.zg i f))) := p05_v26_1 _ v24_4
  have v26_0_5 : Rp 2048 2816 (V05 m c (Proc.devRef .tc main_v26_0)) (fun i f => I.zg i f * sg (I.zg i f)) := p05_v26_0 _ v24_4
  have v25_5 : Rp 2048 2816 (V05 m c (Proc.devRef .tc main_v25)) (fun i f => I.zu i f) := by
    rw [k05]; exact v25_4
  have v27_6 : Rp 2048 2816 (V06 m c (Proc.devRef .tc main_v27)) (fun i f => I.act i f) := p06_v27 _ v26_0_5 v25_5
  have v7_5 : Rp 2048 1024 (V05 m c (Proc.devRef .tc main_v7)) (fun i j => I.hm i j) := by
    rw [k05, k04, k03]; exact v7_2
  have v3_5 : Rp 2816 1024 (V05 m c (Proc.devRef .tc main_v3)) (fun i j => I.w2 i j) := by
    rw [k05, k04, k03, k02, k01]; exact v3_0
  have v29_6 : Rp 2048 1024 (V06 m c (Proc.devRef .tc main_v29)) (fun i j => I.ho i j) := p06_v29 _ v26_0_5 v25_5 v7_5 v3_5
  have arg7_6 : Rp 2048 1024 (V06 m c (Proc.devRef .tc main_arg7)) (fun i j => I.dh i j) := by
    rw [k06, k05, k04, k03, k02, k01, k00]; exact arg7
  have v30_7 : Rp 2048 1024 (V07 m c (Proc.devRef .tc main_v30)) (fun i j => I.dh i j) := p07_v30 _ arg7_6
  have v31_7 : Rp 2048 1024 (V07 m c (Proc.devRef .tc main_v31)) (fun i j => I.dh i j) := p07_v31 _ arg7_6
  have v27_7 : Rp 2048 2816 (V07 m c (Proc.devRef .tc main_v27)) (fun i f => I.act i f) := by
    rw [k07]; exact v27_6
  have v33_8 : Rp 2816 1024 (V08 m c (Proc.devRef .tc main_v33)) (fun f j => I.dw2 f j) := p08_v33 _ v31_7 v27_7
  have v3_7 : Rp 2816 1024 (V07 m c (Proc.devRef .tc main_v3)) (fun i j => I.w2 i j) := by
    rw [k07, k06]; exact v3_5
  have v34_8 : Rp 2048 2816 (V08 m c (Proc.devRef .tc main_v34)) (fun i f => I.d i f) := p08_v34 _ v31_7 v3_7
  have v25_8 : Rp 2048 2816 (V08 m c (Proc.devRef .tc main_v25)) (fun i f => I.zu i f) := by
    rw [k08, k07, k06]; exact v25_5
  have v24_8 : Rp 2048 2816 (V08 m c (Proc.devRef .tc main_v24)) (fun i f => I.zg i f) := by
    rw [k08, k07, k06, k05]; exact v24_4
  have v26_0_8 : Rp 2048 2816 (V08 m c (Proc.devRef .tc main_v26_0)) (fun i f => I.zg i f * sg (I.zg i f)) := by
    rw [k08, k07, k06]; exact v26_0_5
  have v26_1_8 : Rp 2048 2816 (V08 m c (Proc.devRef .tc main_v26_1)) (fun i f => sg (I.zg i f) * (1 - sg (I.zg i f))) := by
    rw [k08, k07, k06]; exact v26_1_5
  have v26_2_8 : Rp 2048 2816 (V08 m c (Proc.devRef .tc main_v26_2)) (fun i f => sg (I.zg i f)) := by
    rw [k08, k07, k06]; exact v26_2_5
  have v38_9 : Rp 2048 5632 (V09 m c (Proc.devRef .tc main_v38)) (fun i n => I.dz (n / 2816) i (n % 2816)) := p09_v38 _ v34_8 v25_8 v24_8 v26_0_8 v26_1_8 v26_2_8
  have v22_9 : Rp 2048 1024 (V09 m c (Proc.devRef .tc main_v22)) (fun i j => I.hn i j) := by
    rw [k09, k08, k07, k06, k05, k04]; exact v22_3
  have v40_10 : Rp 1024 5632 (V10 m c (Proc.devRef .tc main_v40)) (fun k n => ∑ i ∈ Finset.range 2048, I.dz (n / 2816) i (n % 2816) * I.hn i k) := p10_v40 _ v38_9 v22_9
  have v5_9 : Rp 1024 5632 (V09 m c (Proc.devRef .tc main_v5)) (fun k n => I.wi (n / 1408) k (n % 1408)) := by
    rw [k09, k08, k07, k06, k05, k04]; exact v5_3
  have v41_10 : Rp 2048 1024 (V10 m c (Proc.devRef .tc main_v41)) (fun i j => I.dx i j) := p10_v41 _ v38_9 v5_9
  have v20_10 : Rp 2048 1024 (V10 m c (Proc.devRef .tc main_v20)) (fun i j => I.xr i j) := by
    rw [k10, k09, k08, k07, k06, k05, k04]; exact v20_3
  have v44_11 : Rp 1 1024 (V11 m c (Proc.devRef .tc main_v44)) (fun _ j => I.dg j) := p11_v44 _ v20_10 v41_10
  have v41_11 : Rp 2048 1024 (V11 m c (Proc.devRef .tc main_v41)) (fun i j => I.dx i j) := by
    rw [k11]; exact v41_10
  have arg3_11 : Rp 1 1024 (V11 m c (Proc.devRef .tc main_arg3)) (fun _ j => I.g j) := by
    rw [k11, k10, k09, k08, k07, k06, k05, k04, k03]; exact arg3_2
  have v46_12 : Rp 2048 1024 (V12 m c (Proc.devRef .tc main_v46)) (fun i j => I.dx i j * I.g j) := p12_v46 _ v41_11 arg3_11
  have v7_11 : Rp 2048 1024 (V11 m c (Proc.devRef .tc main_v7)) (fun i j => I.hm i j) := by
    rw [k11, k10, k09, k08, k07, k06]; exact v7_5
  have v49_12 : Rp 2048 1 (V12 m c (Proc.devRef .tc main_v49)) (fun i _ => ∑ k ∈ Finset.range 1024, I.hm i k * (I.dx i k * I.g k)) := p12_v49 _ v7_11 v41_11 arg3_11
  have v30_12 : Rp 2048 1024 (V12 m c (Proc.devRef .tc main_v30)) (fun i j => I.dh i j) := by
    rw [k12, k11, k10, k09, k08]; exact v30_7
  have v15_12 : Rp 2048 1 (V12 m c (Proc.devRef .tc main_v15)) (fun i _ => rn (I.hm i)) := by
    rw [k12, k11, k10, k09, k08, k07, k06, k05, k04]; exact v15_3
  have v52_13 : Rp 2048 1024 (V13 m c (Proc.devRef .tc main_v52)) (fun i j => I.dh i j + I.dx i j * I.g j * rn (I.hm i)) := p13_v52 _ v30_12 v46_12 v15_12
  have v18_12 : Rp 2048 1 (V12 m c (Proc.devRef .tc main_v18)) (fun i _ => -(1 / 2) * (rn (I.hm i) / ms (I.hm i))) := by
    rw [k12, k11, k10, k09, k08, k07, k06, k05, k04]; exact v18_3
  have v57_13 : Rp 2048 1024 (V13 m c (Proc.devRef .tc main_v57)) (fun i _ => (∑ k ∈ Finset.range 1024, I.hm i k * (I.dx i k * I.g k)) * (-(1 / 2) * (rn (I.hm i) / ms (I.hm i))) / 1024) := p13_v57 _ v49_12 v18_12
  have v7_13 : Rp 2048 1024 (V13 m c (Proc.devRef .tc main_v7)) (fun i j => I.hm i j) := by
    rw [k13, k12]; exact v7_11
  have v61_14 : Rp 2048 1024 (V14 m c (Proc.devRef .tc main_v61)) (fun i j => I.dhm i j) := p14_v61 _ v7_13 v52_13 v57_13
  have v0_14 : Rp 2048 1024 (V14 m c (Proc.devRef .tc main_v0)) (fun i j => I.m i j) := by
    rw [k14, k13, k12, k11, k10, k09, k08, k07, k06, k05, k04, k03, k02, k01]; exact v0_0
  have v63_15 : Rp 1024 1024 (V15 m c (Proc.devRef .tc main_v63)) (fun k j => I.dwo k j) := p15_v63 _ v61_14 v0_14
  have v1_14 : Rp 1024 1024 (V14 m c (Proc.devRef .tc main_v1)) (fun i j => I.wo i j) := by
    rw [k14, k13, k12, k11, k10, k09, k08, k07, k06, k05, k04, k03, k02, k01]; exact v1_0
  have v64_15 : Rp 2048 1024 (V15 m c (Proc.devRef .tc main_v64)) (fun i j => I.dm i j) := p15_v64 _ v61_14 v1_14
  have v40_15 : Rp 1024 5632 (V15 m c (Proc.devRef .tc main_v40)) (fun k n => ∑ i ∈ Finset.range 2048, I.dz (n / 2816) i (n % 2816) * I.hn i k) := by
    rw [k15, k14, k13, k12, k11]; exact v40_10
  have v66_16 : R3 4 1024 1408 (V16 m c (Proc.devRef .tc main_v66)) (fun q k f => I.dwi q k f) := p16_v66 _ v40_15
  have v29_16 : Rp 2048 1024 (V16 m c (Proc.devRef .tc main_v29)) (fun i j => I.ho i j) := by
    rw [k16, k15, k14, k13, k12, k11, k10, k09, k08, k07]; exact v29_6
  have v73_17 : Rp 2048 1 (V17 m c (Proc.devRef .tc main_v73)) (fun i _ => ms (I.ho i)) := p17_v73 _ v29_16
  have v29_17 : Rp 2048 1024 (V17 m c (Proc.devRef .tc main_v29)) (fun i j => I.ho i j) := by
    rw [k17]; exact v29_16
  have arg6_17 : Rp 1 1024 (V17 m c (Proc.devRef .tc main_arg6)) (fun _ j => I.gx j) := by
    rw [k17, k16, k15, k14, k13, k12, k11, k10, k09, k08, k07, k06, k05, k04, k03, k02, k01, k00]; exact arg6
  have v78_18 : Rp 2048 1024 (V18 m c (Proc.devRef .tc main_v78)) (fun i j => I.xn i j) := p18_v78 _ v29_17 v73_17 arg6_17
  have v79_19 : Rp 2048 1024 (V19 m c (Proc.devRef .tc main_v79)) (fun i j => I.xn i j) := p19_v79 _ v78_18
  have v33_18 : Rp 2816 1024 (V18 m c (Proc.devRef .tc main_v33)) (fun f j => I.dw2 f j) := by
    rw [k18, k17, k16, k15, k14, k13, k12, k11, k10, k09]; exact v33_8
  have v80_19 : Rp 2816 1024 (V19 m c (Proc.devRef .tc main_v80)) (fun f j => I.dw2 f j) := p19_v80 _ v33_18
  have v66_18 : R3 4 1024 1408 (V18 m c (Proc.devRef .tc main_v66)) (fun q k f => I.dwi q k f) := by
    rw [k18, k17]; exact v66_16
  have v81_19 : R3 4 1024 1408 (V19 m c (Proc.devRef .tc main_v81)) (fun q k f => I.dwi q k f) := p19_v81 _ v66_18
  have v61_18 : Rp 2048 1024 (V18 m c (Proc.devRef .tc main_v61)) (fun i j => I.dhm i j) := by
    rw [k18, k17, k16, k15]; exact v61_14
  have v82_19 : Rp 2048 1024 (V19 m c (Proc.devRef .tc main_v82)) (fun i j => I.dhm i j) := p19_v82 _ v61_18
  have v63_18 : Rp 1024 1024 (V18 m c (Proc.devRef .tc main_v63)) (fun k j => I.dwo k j) := by
    rw [k18, k17, k16]; exact v63_15
  have v83_19 : Rp 1024 1024 (V19 m c (Proc.devRef .tc main_v83)) (fun k j => I.dwo k j) := p19_v83 _ v63_18
  have v29_19 : Rp 2048 1024 (V19 m c (Proc.devRef .tc main_v29)) (fun i j => I.ho i j) := by
    rw [k19, k18]; exact v29_17
  have v61_19 : Rp 2048 1024 (V19 m c (Proc.devRef .tc main_v61)) (fun i j => I.dhm i j) := by
    rw [k19]; exact v61_18
  have v44_19 : Rp 1 1024 (V19 m c (Proc.devRef .tc main_v44)) (fun _ j => I.dg j) := by
    rw [k19, k18, k17, k16, k15, k14, k13, k12]; exact v44_11
  have v64_19 : Rp 2048 1024 (V19 m c (Proc.devRef .tc main_v64)) (fun i j => I.dm i j) := by
    rw [k19, k18, k17, k16]; exact v64_15
  exact ⟨v29_19, v79_19, v80_19, v81_19, v61_19, v82_19, v44_19, v83_19, v64_19⟩

end Cert.FfnRef
-- ==== Proof.FfnAlg.lean ====
/- Both feed-forward programs' results are the same real arrays, where every argument is an array of real numbers. -/
module

public import proofs.«01_k».proof.Defs
public import proofs.«01_k».proof.Proof.FfnKer
public import proofs.«01_k».proof.Proof.FfnRun
public import proofs.«01_k».proof.Proof.FfnRef
public import proofs.«01_k».proof.Proof.Algebraic

@[expose] public section

noncomputable section

namespace Cert.FfnAlg

open Idealize.ShloMosaic Idealize.ShloMosaic.TcCoe Idealize.SL.Sem Cert.Base Cert.Finite
open Cert.Algebraic (row_Rp eq_of_Rp)

theorem preFacts : Cert.Pre_pre2.Facts where
  bcast_S_S2048x1024 := by decide
  reducesTo_S2048x1024_S_d0_1 := by decide
  h_S_ := by decide
  bcast_S_S1024x1024 := by decide
  reducesTo_S1024x1024_S_d0_1 := by decide
  bcast_S_S1x1024 := by decide
  reducesTo_S1x1024_S_d0_1 := by decide
  bcast_S_S4x1024x1408 := by decide
  reducesTo_S4x1024x1408_S_d0_1_2 := by decide
  bcast_S_S2816x1024 := by decide
  reducesTo_S2816x1024_S_d0_1 := by decide

/-- An extended real whose absolute value is below the top is a real; the top spelt in sixteen bits. -/
theorem real_of_abs16 (x : EReal) (h : FloatOps.cmpf (F := Ideal) (φ := .bf16) .olt (FloatOps.absf (F := Ideal) (φ := .bf16) x) (Ideal.ofBits .bf16 0x7F80#16) = 1#1) :
    x = ((x.toReal : ℝ) : EReal) := by
  have h16 : Ideal.ofBits .bf16 0x7F80#16 = (⊤ : EReal) := by simp [Ideal.ofBits, Ideal.ieee]
  have h32 : Ideal.ofBits .f32 0x7F800000#32 = (⊤ : EReal) := by simp [Ideal.ofBits, Ideal.ieee]
  refine real_of_abs x ?_
  rw [h32]
  rw [h16] at h
  exact h

/-- The real function a three-axis array of reals is. -/
def re3 {P M N : ℕ} (v : (⟨3, ![P, M, N]⟩ : Shape).Idx → EReal) (q i j : ℕ) : ℝ :=
  if h : q < P ∧ i < M ∧ j < N then (v (ix3 ⟨q, h.1⟩ ⟨i, h.2.1⟩ ⟨j, h.2.2⟩)).toReal else 0

theorem re3_R3 {P M N : ℕ} {v : (⟨3, ![P, M, N]⟩ : Shape).Idx → EReal} (h : ∀ y, v y = (((v y).toReal : ℝ) : EReal)) : R3 P M N v (fun q i j => re3 v q i j) := fun q i j => by
  refine (h _).trans (congrArg (fun x : ℝ => (x : EReal)) ?_)
  show _ = re3 v q i j
  unfold re3
  rw [dif_pos ⟨q.isLt, i.isLt, j.isLt⟩]

/-- Two three-axis arrays with the same real entries are one array. -/
theorem eq_of_R3 {P M N : ℕ} {a b : (⟨3, ![P, M, N]⟩ : Shape).Idx → EReal} {f : ℕ → ℕ → ℕ → ℝ} (ha : R3 P M N a f) (hb : R3 P M N b f) : a = b := funext fun y =>
  (ha.at y).trans (hb.at y).symm

section
open Cert.Pre_pre2 Cert.Pre_pre2.Facts
variable [Cert.Pre_pre2.Facts]

instance : Subsingleton Cert.Pre_pre2.S_.Idx := ⟨fun a b => funext fun k => k.elim0⟩

/-- What the precondition states: every entry of every argument is a real number. -/
theorem finite (a0 : FVec Ideal S2048x1024 .bf16) (a1 : FVec Ideal S2048x1024 .f32) (a2 : FVec Ideal S1024x1024 .bf16) (a3 : FVec Ideal S1x1024 .f32) (a4 : FVec Ideal S4x1024x1408 .bf16) (a5 : FVec Ideal S2816x1024 .bf16) (a6 : FVec Ideal S1x1024 .f32) (a7 : FVec Ideal S2048x1024 .f32)
    (h : fn (F := Ideal) a0 a1 a2 a3 a4 a5 a6 a7 = fun _ => 1#1) :
    (∀ y, a0 y = (((a0 y).toReal : ℝ) : EReal)) ∧ (∀ y, a1 y = (((a1 y).toReal : ℝ) : EReal)) ∧ (∀ y, a2 y = (((a2 y).toReal : ℝ) : EReal)) ∧ (∀ y, a3 y = (((a3 y).toReal : ℝ) : EReal)) ∧ (∀ y, a4 y = (((a4 y).toReal : ℝ) : EReal)) ∧ (∀ y, a5 y = (((a5 y).toReal : ℝ) : EReal)) ∧ (∀ y, a6 y = (((a6 y).toReal : ℝ) : EReal)) ∧ (∀ y, a7 y = (((a7 y).toReal : ℝ) : EReal)) := by
  have e := congrFun h (fun k => k.elim0)
  unfold fn fn_part1 fn_part2 at e
  dsimp only at e
  have s : ∀ (p q : IVec S_ 1) (j : S_.Idx), andi p q j = 1#1 → p j = 1#1 ∧ q j = 1#1 := fun p q j hj => by
    have : ∀ x y : BitVec 1, x &&& y = 1#1 → x = 1#1 ∧ y = 1#1 := by decide
    exact this _ _ hj
  obtain ⟨e, e7⟩ := s _ _ _ e
  obtain ⟨e, e6⟩ := s _ _ _ e
  obtain ⟨e, e5⟩ := s _ _ _ e
  obtain ⟨e, e4⟩ := s _ _ _ e
  obtain ⟨e, e3⟩ := s _ _ _ e
  obtain ⟨e, e2⟩ := s _ _ _ e
  obtain ⟨e0, e1⟩ := s _ _ _ e
  exact ⟨fun y => real_of_abs16 _ (Host.reduce_andi_all _ _ _ _ _ e0 y), fun y => real_of_abs _ (Host.reduce_andi_all _ _ _ _ _ e1 y), fun y => real_of_abs16 _ (Host.reduce_andi_all _ _ _ _ _ e2 y), fun y => real_of_abs _ (Host.reduce_andi_all _ _ _ _ _ e3 y), fun y => real_of_abs16 _ (Host.reduce_andi_all _ _ _ _ _ e4 y), fun y => real_of_abs16 _ (Host.reduce_andi_all _ _ _ _ _ e5 y), fun y => real_of_abs _ (Host.reduce_andi_all _ _ _ _ _ e6 y), fun y => real_of_abs _ (Host.reduce_andi_all _ _ _ _ _ e7 y)⟩
end

open Kernel2Ideal Kernel2Ideal.Gen

/-- The real operands a core's memory holds. -/
def inOf (m : (ℓ : Loc nD τ sig) → Buf (Elt Ideal) ℓ) (c : Dev nD) : Ffn.In where
  m := re (M := 2048) (N := 1024) (m ((c.tc : Thread nD τ).loc main_arg0))
  h := re (M := 2048) (N := 1024) (m ((c.tc : Thread nD τ).loc main_arg1))
  wo := re (M := 1024) (N := 1024) (m ((c.tc : Thread nD τ).loc main_arg2))
  g := re (M := 1) (N := 1024) (m ((c.tc : Thread nD τ).loc main_arg3)) 0
  wi := re3 (P := 4) (M := 1024) (N := 1408) (m ((c.tc : Thread nD τ).loc main_arg4))
  w2 := re (M := 2816) (N := 1024) (m ((c.tc : Thread nD τ).loc main_arg5))
  gx := re (M := 1) (N := 1024) (m ((c.tc : Thread nD τ).loc main_arg6)) 0
  dh := re (M := 2048) (N := 1024) (m ((c.tc : Thread nD τ).loc main_arg7))

theorem held (m : (ℓ : Loc nD τ sig) → Buf (Elt Ideal) ℓ) (h : Pre_Kernel2Ideal_pre2 (hPre_pre2 := preFacts) m) (c : Dev nD) : FfnKer.Held (inOf m c) m c := by
  obtain ⟨h0, h1, h2, h3, h4, h5, h6, h7⟩ := @finite preFacts _ _ _ _ _ _ _ _ (h c)
  exact ⟨re_Rp h0, re_Rp h1, re_Rp h2, row_Rp h3, re3_R3 h4, re_Rp h5, row_Rp h6, re_Rp h7⟩

set_option maxHeartbeats 1000000 in
theorem algebraic : algebraic_Kernel2Ideal_Reference2Ideal_pre_pre2 (hKernel2Ideal := facts) (hReference2Ideal := Reference2Ideal.Gen.facts) (hPre_pre2 := preFacts) := by
  intro m g m' g' hpre hargs
  refine ⟨fun c => W11 m g c (Proc.devRef .tc main_v3_0), fun c => W11 m g c (Proc.devRef .tc main_v3_1), fun c => W11 m g c (Proc.devRef .tc main_v4), fun c => W11 m g c (Proc.devRef .tc main_v6), fun c => W11 m g c (Proc.devRef .tc main_v7_0), fun c => W11 m g c (Proc.devRef .tc main_v7_1), fun c => W11 m g c (Proc.devRef .tc main_v8), fun c => W11 m g c (Proc.devRef .tc main_v9), fun c => W11 m g c (Proc.devRef .tc main_v10), ?_, ?_⟩
  · refine (θ_run _ _ _).mono (fun r h c => ?_) (FfnRun.run m g)
    have u := fun b hb => h c _ (mem_uc b hb)
    exact ⟨u main_v3_0 (by decide), u main_v3_1 (by decide), u main_v4 (by decide), u main_v6 (by decide), u main_v7_0 (by decide), u main_v7_1 (by decide), u main_v8 (by decide), u main_v9 (by decide), u main_v10 (by decide),
      (u main_arg0 (by decide)).trans (W11_main_arg0 m g c), (u main_arg1 (by decide)).trans (W11_main_arg1 m g c), (u main_arg2 (by decide)).trans (W11_main_arg2 m g c), (u main_arg3 (by decide)).trans (W11_main_arg3 m g c), (u main_arg4 (by decide)).trans (W11_main_arg4 m g c), (u main_arg5 (by decide)).trans (W11_main_arg5 m g c), (u main_arg6 (by decide)).trans (W11_main_arg6 m g c), (u main_arg7 (by decide)).trans (W11_main_arg7 m g c)⟩
  · refine (θ_run _ _ _).mono (fun r h c => ?_) (FfnRef.run m' g')
    obtain ⟨a0, a1, a2, a3, a4, a5, a6, a7⟩ := hargs c
    have hh := held m hpre c
    obtain ⟨r0, r1, r2, r3, r4, r5, r6, r7, r8⟩ := FfnRef.end_value (inOf m c) m' c
      (fun i j => (congrFun a0 _).trans (hh.a0 i j)) (fun i j => (congrFun a1 _).trans (hh.a1 i j)) (fun i j => (congrFun a2 _).trans (hh.a2 i j)) (fun i j => (congrFun a3 _).trans (hh.a3 i j)) (fun k i j => (congrFun a4 _).trans (hh.a4 k i j)) (fun i j => (congrFun a5 _).trans (hh.a5 i j)) (fun i j => (congrFun a6 _).trans (hh.a6 i j)) (fun i j => (congrFun a7 _).trans (hh.a7 i j))
    exact ⟨(h.1 c _).trans (eq_of_Rp r0 (FfnKer.w11_v3_0 m g c _ hh)), (h.1 c _).trans (eq_of_Rp r1 (FfnKer.w11_v3_1 m g c _ hh)), (h.1 c _).trans (eq_of_Rp r2 (FfnKer.w11_v4 m g c _ hh)), (h.1 c _).trans (eq_of_R3 r3 (FfnKer.w11_v6 m g c _ hh)), (h.1 c _).trans (eq_of_Rp r4 (FfnKer.w11_v7_0 m g c _ hh)), (h.1 c _).trans (eq_of_Rp r5 (FfnKer.w11_v7_1 m g c _ hh)), (h.1 c _).trans (eq_of_Rp r6 (FfnKer.w11_v8 m g c _ hh)), (h.1 c _).trans (eq_of_Rp r7 (FfnKer.w11_v9 m g c _ hh)), (h.1 c _).trans (eq_of_Rp r8 (FfnKer.w11_v10 m g c _ hh)),
      (h.1 c _).trans (FfnRef.end_arg0 m' c), (h.1 c _).trans (FfnRef.end_arg1 m' c), (h.1 c _).trans (FfnRef.end_arg2 m' c), (h.1 c _).trans (FfnRef.end_arg3 m' c), (h.1 c _).trans (FfnRef.end_arg4 m' c), (h.1 c _).trans (FfnRef.end_arg5 m' c), (h.1 c _).trans (FfnRef.end_arg6 m' c), (h.1 c _).trans (FfnRef.end_arg7 m' c)⟩

end Cert.FfnAlg
-- ==== Proof.Ext.lean ====
/- Arrays of extended reals: what every operation of the two programs does to their entries, with no entry supposed to
   be finite. -/
module

public import proofs.«01_k».proof.Proof.Ffn

@[expose] public section

noncomputable section

namespace Cert.Ext

open Cert.Base (Mk)
open Cert.Ffn (eps)
open Idealize.ShloMosaic

/-- A matrix of two dimensions, a row, a scalar and an array of three dimensions have the entries `f`. -/
def Rp (m n : ℕ) (v : (⟨2, ![m, n]⟩ : Shape).Idx → EReal) (f : ℕ → ℕ → EReal) : Prop := ∀ (i : Fin m) (j : Fin n), v (ix2 i j) = f i j
def R1 (n : ℕ) (v : (⟨1, ![n]⟩ : Shape).Idx → EReal) (f : ℕ → EReal) : Prop := ∀ j : Fin n, v (ix1 j) = f j
def R0 (v : (⟨0, ![]⟩ : Shape).Idx → EReal) (x : EReal) : Prop := ∀ i, v i = x
def R3 (p m n : ℕ) (v : (⟨3, ![p, m, n]⟩ : Shape).Idx → EReal) (f : ℕ → ℕ → ℕ → EReal) : Prop :=
  ∀ (a : Fin p) (i : Fin m) (j : Fin n), v (ix3 a i j) = f a i j

theorem lit_zero : Ideal.ofBits .f32 0x00000000#32 = (0 : EReal) := Cert.Base.lit_zero

theorem R0.cst {x : EReal} {b : BitVec 32} (h : Ideal.ofBits .f32 b = x) : R0 (constant (F := Ideal) ⟨0, ![]⟩ .f32 b) x := fun _ => h

theorem R3.of_eq {p m n : ℕ} {a : (⟨3, ![p, m, n]⟩ : Shape).Idx → EReal} {f g : ℕ → ℕ → ℕ → EReal} (h : R3 p m n a f)
    (e : ∀ k i j, k < p → i < m → j < n → f k i j = g k i j) : R3 p m n a g := fun k i j => (h k i j).trans (e k i j k.2 i.2 j.2)

theorem R3.at {p m n : ℕ} {a : (⟨3, ![p, m, n]⟩ : Shape).Idx → EReal} {f : ℕ → ℕ → ℕ → EReal} (h : R3 p m n a f) (x : (⟨3, ![p, m, n]⟩ : Shape).Idx) :
    a x = f (x 0 : Fin p) (x 1 : Fin m) (x 2 : Fin n) := by
  rw [eq_ix3 x]; exact h _ _ _

section
variable {m n : ℕ} {a b : (⟨2, ![m, n]⟩ : Shape).Idx → EReal} {f g : ℕ → ℕ → EReal}
  {r : (⟨2, ![1, n]⟩ : Shape).Idx → EReal} {k : (⟨2, ![m, 1]⟩ : Shape).Idx → EReal} {q : ℕ → ℕ → EReal}
  {c : (⟨0, ![]⟩ : Shape).Idx → EReal} {x : EReal} {u : (⟨1, ![m]⟩ : Shape).Idx → EReal} {w : ℕ → EReal}

theorem Rp.of_eq (h : Rp m n a f) (e : ∀ i j, i < m → j < n → f i j = g i j) : Rp m n a g := fun i j => (h i j).trans (e i j i.2 j.2)

theorem Rp.mul (ha : Rp m n a f) (hb : Rp m n b g) : Rp m n (mulf (F := Ideal) (φ := .f32) a b) (fun i j => f i j * g i j) :=
  fun i j => congrArg₂ (fun x y : EReal => x * y) (ha i j) (hb i j)

theorem Rp.add (ha : Rp m n a f) (hb : Rp m n b g) : Rp m n (addf (F := Ideal) (φ := .f32) a b) (fun i j => f i j + g i j) :=
  fun i j => congrArg₂ (fun x y : EReal => x + y) (ha i j) (hb i j)

theorem Rp.sub (ha : Rp m n a f) (hb : Rp m n b g) : Rp m n (subf (F := Ideal) (φ := .f32) a b) (fun i j => f i j - g i j) :=
  fun i j => congrArg₂ (fun x y : EReal => x - y) (ha i j) (hb i j)

theorem Rp.div (ha : Rp m n a f) (hb : Rp m n b g) :
    Rp m n (Idealize.ShloMosaic.divf (F := Ideal) (φ := .f32) a b) (fun i j => Ideal.div (f i j) (g i j)) :=
  fun i j => congrArg₂ Ideal.div (ha i j) (hb i j)

theorem Rp.hdiv (ha : Rp m n a f) (hb : Rp m n b g) :
    Rp m n (Host.divf (F := Ideal) (φ := .f32) a b) (fun i j => Ideal.div (f i j) (g i j)) :=
  fun i j => congrArg₂ Ideal.div (ha i j) (hb i j)

theorem Rp.rsqrt (ha : Rp m n a f) : Rp m n (Idealize.ShloMosaic.rsqrt (F := Ideal) (φ := .f32) a) (fun i j => Ideal.rsqrt (f i j)) :=
  fun i j => congrArg Ideal.rsqrt (ha i j)

theorem Rp.hrsqrt (ha : Rp m n a f) : Rp m n (Host.rsqrt (F := Ideal) (φ := .f32) a) (fun i j => Ideal.rsqrt (f i j)) :=
  fun i j => congrArg Ideal.rsqrt (ha i j)

theorem Rp.trunc (ha : Rp m n a f) (h : FTy.bf16.bits < FTy.f32.bits) :
    Rp m n (Idealize.ShloMosaic.truncf (F := Ideal) .bf16 (φ := .f32) a h) f := fun i j => ha i j

theorem Rp.ext (ha : Rp m n a f) (h : FTy.bf16.bits < FTy.f32.bits) :
    Rp m n (Idealize.ShloMosaic.extf (F := Ideal) .f32 (φ := .bf16) a h) f := fun i j => ha i j

theorem Rp.cst {c : EReal} (h : c = x) : Rp m n (broadcast ⟨2, ![m, n]⟩ c) (fun _ _ => x) := fun _ _ => h

theorem Rp.hcst (h : (⟨0, ![]⟩ : Shape).BroadcastsInDim ⟨2, ![m, n]⟩ ![]) (hc : R0 c x) :
    Rp m n (broadcastInDim ⟨2, ![m, n]⟩ ![] h c) (fun _ _ => x) := fun i j => hc _

theorem Rp.select {c : (⟨2, ![m, n]⟩ : Shape).Idx → BitVec 1} {P : ℕ → ℕ → Prop} [∀ i j, Decidable (P i j)]
    (hc : Mk m n c P) (ha : Rp m n a f) (hb : Rp m n b g) :
    Rp m n (Idealize.ShloMosaic.select c a b) (fun i j => if P i j then f i j else g i j) := fun i j => by
  show (if c _ = 1#1 then a _ else b _) = _
  rcases hc i j with ⟨h, p⟩ | ⟨h, p⟩
  · rw [if_pos h]; dsimp only; rw [if_pos p, ha i j]
  · rw [if_neg (by rw [h]; decide)]; dsimp only; rw [if_neg p, hb i j]

theorem Rp.at (ha : Rp m n a f) (x : (⟨2, ![m, n]⟩ : Shape).Idx) : a x = f (x 0 : Fin m) (x 1 : Fin n) := by
  rw [eq_ix2 x]; exact ha _ _

theorem Rp.rowAt (hr : Rp 1 n r q) (x : (⟨2, ![1, n]⟩ : Shape).Idx) : r x = q 0 (x 1 : Fin n) := by
  have e : ∀ k : Fin 1, (k : ℕ) = 0 := fun k => by omega
  exact (hr.at x).trans (by rw [e (x 0)])

theorem Rp.colAt (hr : Rp m 1 k q) (x : (⟨2, ![m, 1]⟩ : Shape).Idx) : k x = q (x 0 : Fin m) 0 := by
  have e : ∀ k : Fin 1, (k : ℕ) = 0 := fun k => by omega
  exact (hr.at x).trans (by rw [e (x 1)])

theorem Rp.bcRow (h : (⟨2, ![1, n]⟩ : Shape).Broadcasts ⟨2, ![m, n]⟩) (hr : Rp 1 n r q) :
    Rp m n (broadcastTo ⟨2, ![m, n]⟩ r h) (fun _ j => q 0 j) := fun i j => by
  pointwise
  rw [Shape.Idx.norm_def, hr.rowAt]
  congr 1
  by_cases h1 : n = 1
  · subst h1; simp
  · simp [h1]

theorem Rp.hbcRow (h : (⟨2, ![1, n]⟩ : Shape).BroadcastsInDim ⟨2, ![m, n]⟩ ![0, 1]) (hr : Rp 1 n r q) :
    Rp m n (broadcastInDim ⟨2, ![m, n]⟩ ![0, 1] h r) (fun _ j => q 0 j) := fun i j => by
  pointwise
  rw [Shape.Idx.norm_def, hr.rowAt]
  congr 1
  by_cases h1 : n = 1
  · subst h1; simp
  · simp [h1]

theorem Rp.bcCol (h : (⟨2, ![m, 1]⟩ : Shape).Broadcasts ⟨2, ![m, n]⟩) (hr : Rp m 1 k q) :
    Rp m n (broadcastTo ⟨2, ![m, n]⟩ k h) (fun i _ => q i 0) := fun i j => by
  pointwise
  rw [Shape.Idx.norm_def, hr.colAt]
  congr 1
  by_cases h1 : m = 1
  · subst h1; simp
  · simp [h1]

theorem Rp.hbcCol (h : (⟨2, ![m, 1]⟩ : Shape).BroadcastsInDim ⟨2, ![m, n]⟩ ![0, 1]) (hr : Rp m 1 k q) :
    Rp m n (broadcastInDim ⟨2, ![m, n]⟩ ![0, 1] h k) (fun i _ => q i 0) := fun i j => by
  pointwise
  rw [Shape.Idx.norm_def, hr.colAt]
  congr 1
  by_cases h1 : m = 1
  · subst h1; simp
  · simp [h1]

theorem Rp.hbcVec (h : (⟨1, ![m]⟩ : Shape).BroadcastsInDim ⟨2, ![m, n]⟩ ![0]) (hr : R1 m u w) :
    Rp m n (broadcastInDim ⟨2, ![m, n]⟩ ![0] h u) (fun i _ => w i) := fun i j => by
  pointwise
  have hu : ∀ x : (⟨1, ![m]⟩ : Shape).Idx, u x = w (x 0 : Fin m) := fun x => by rw [eq_ix1 x]; exact hr _
  rw [Shape.Idx.norm_def, hu]
  congr 1
  by_cases h1 : m = 1
  · subst h1; simp
  · simp [h1]

theorem Rp.castSelf (h : (⟨2, ![m, n]⟩ : Shape).ShapeCasts ⟨2, ![m, n]⟩) (ha : Rp m n a f) :
    Rp m n (shapeCast ⟨2, ![m, n]⟩ a h) f := fun i j => by
  pointwise; exact ha i j

theorem Rp.slice {p q : ℕ} (o w : ℕ) (h : (⟨2, ![m, n]⟩ : Shape).Slices ![o, w] ⟨2, ![p, q]⟩) (ha : Rp m n a f) :
    Rp p q (extractStridedSlice ⟨2, ![p, q]⟩ ![o, w] a h) (fun i j => f (o + i) (w + j)) := fun i j => by
  pointwise
  rw [Shape.Idx.norm_def, ha.at]; rfl

theorem Rp.rot {k : BitVec 32} (h : (⟨2, ![m, n]⟩ : Shape).Rotates 0 none) (ha : Rp m n a f) :
    Rp m n (dynamicRotate 0 k none a h) (fun i j => f ((i + m - k.toNat % m) % m) j) := fun i j => by
  pointwise
  rw [Shape.Idx.norm_def, ha.at]; rfl

theorem turned {h : (⟨2, ![m, n]⟩ : Shape).Transposes [1, 0] ⟨2, ![n, m]⟩}
    (hv : Rp m n a f) : Rp n m (transpose ⟨2, ![n, m]⟩ [1, 0] a h) (fun j i => f i j) := fun j i => by
  pointwise
  rw [Shape.Idx.norm_def, hv.at]; rfl

theorem R1.hsum (h : (⟨2, ![m, n]⟩ : Shape).ReducesTo [0] ⟨1, ![n]⟩) (h0 : 0 < (⟨0, ![]⟩ : Shape).numel)
    (ha : Rp m n a f) (hc : R0 c 0) :
    R1 n (Host.reduceAdd (F := Ideal) (φ := .f32) a c h h0) (fun j => ∑ i ∈ Finset.range m, f i j) := fun j => by
  pointwise
  rw [hc, zero_add, Finset.sum_range fun k => f k j]
  exact Finset.sum_congr rfl fun k _ => ha k j

theorem R1.hrowSum (h : (⟨2, ![m, n]⟩ : Shape).ReducesTo [1] ⟨1, ![m]⟩) (h0 : 0 < (⟨0, ![]⟩ : Shape).numel)
    (ha : Rp m n a f) (hc : R0 c 0) :
    R1 m (Host.reduceAdd (F := Ideal) (φ := .f32) a c h h0) (fun i => ∑ j ∈ Finset.range n, f i j) := fun j => by
  pointwise
  rw [hc, zero_add, Finset.sum_range fun k => f j k]
  exact Finset.sum_congr rfl fun k _ => ha j k

theorem R1.rowSum (h : (⟨2, ![m, n]⟩ : Shape).Reduces [1] ⟨1, ![m]⟩) (h1) (h2) (ha : Rp m n a f) :
    R1 m (multiReduction (F := Ideal) (φ := .f32) .add [1] ⟨1, ![m]⟩ a 0x00000000#32 h h1 h2) (fun i => ∑ j ∈ Finset.range n, f i j) := fun i => by
  pointwise
  rw [Finset.sum_range fun j => f i j]
  exact Finset.sum_congr rfl fun j _ => ha i j

theorem colSum (h : (⟨2, ![m, n]⟩ : Shape).Reduces [0] ⟨1, ![n]⟩) (h1) (h2) (ha : Rp m n a f) :
    R1 n (multiReduction (F := Ideal) (φ := .f32) .add [0] ⟨1, ![n]⟩ a 0x00000000#32 h h1 h2) (fun j => ∑ i ∈ Finset.range m, f i j) := fun j => by
  pointwise
  rw [Finset.sum_range fun i => f i j]
  exact Finset.sum_congr rfl fun i _ => ha i j

/-- A matrix of sums of products, with neither operand, the second, or the first of them transposed. -/
theorem dot_nn {K : ℕ} {v : (⟨2, ![m, n]⟩ : Shape).Idx → EReal} {a : (⟨2, ![m, K]⟩ : Shape).Idx → EReal} {b : (⟨2, ![K, n]⟩ : Shape).Idx → EReal}
    (hv : ∀ (i : Fin m) (j : Fin n), v (ix2 i j) = ∑ k : Fin K, a (ix2 i k) * b (ix2 k j)) (ha : Rp m K a f) (hb : Rp K n b g) :
    Rp m n v (fun i j => ∑ k ∈ Finset.range K, f i k * g k j) := fun i j => by
  refine (hv i j).trans (Eq.trans ?_ (Finset.sum_range fun k => f i k * g k j).symm)
  exact Finset.sum_congr rfl fun k _ => by rw [ha i k, hb k j]

theorem dot_nt {K : ℕ} {v : (⟨2, ![m, n]⟩ : Shape).Idx → EReal} {a : (⟨2, ![m, K]⟩ : Shape).Idx → EReal} {b : (⟨2, ![n, K]⟩ : Shape).Idx → EReal}
    (hv : ∀ (i : Fin m) (j : Fin n), v (ix2 i j) = ∑ k : Fin K, a (ix2 i k) * b (ix2 j k)) (ha : Rp m K a f) (hb : Rp n K b g) :
    Rp m n v (fun i j => ∑ k ∈ Finset.range K, f i k * g j k) := fun i j => by
  refine (hv i j).trans (Eq.trans ?_ (Finset.sum_range fun k => f i k * g j k).symm)
  exact Finset.sum_congr rfl fun k _ => by rw [ha i k, hb j k]

theorem dot_tn {K : ℕ} {v : (⟨2, ![m, n]⟩ : Shape).Idx → EReal} {a : (⟨2, ![K, m]⟩ : Shape).Idx → EReal} {b : (⟨2, ![K, n]⟩ : Shape).Idx → EReal}
    (hv : ∀ (i : Fin m) (j : Fin n), v (ix2 i j) = ∑ k : Fin K, a (ix2 k i) * b (ix2 k j)) (ha : Rp K m a f) (hb : Rp K n b g) :
    Rp m n v (fun i j => ∑ k ∈ Finset.range K, f k i * g k j) := fun i j => by
  refine (hv i j).trans (Eq.trans ?_ (Finset.sum_range fun k => f k i * g k j).symm)
  exact Finset.sum_congr rfl fun k _ => by rw [ha k i, hb k j]
end

section
variable {q : ℕ → EReal}

theorem Rp.ofRow256 {r : (⟨1, ![256]⟩ : Shape).Idx → EReal} (h : (⟨1, ![256]⟩ : Shape).ShapeCasts ⟨2, ![1, 256]⟩)
    (hr : R1 256 r q) : Rp 1 256 (shapeCast ⟨2, ![1, 256]⟩ r h) (fun _ j => q j) := fun i j => by
  pointwise; exact hr j

theorem row_of {r : (⟨1, ![1024]⟩ : Shape).Idx → EReal} {h : (⟨1, ![1024]⟩ : Shape).ShapeCasts ⟨2, ![1, 1024]⟩}
    (hr : R1 1024 r q) : Rp 1 1024 (shapeCast ⟨2, ![1, 1024]⟩ r h) (fun _ j => q j) := fun i j => by
  pointwise; exact hr j

theorem col256 {r : (⟨1, ![256]⟩ : Shape).Idx → EReal} (h : (⟨1, ![256]⟩ : Shape).ShapeCasts ⟨2, ![256, 1]⟩)
    (hr : R1 256 r q) : Rp 256 1 (shapeCast ⟨2, ![256, 1]⟩ r h) (fun i _ => q i) := fun i j => by
  pointwise; exact hr i

theorem castCol {r : (⟨1, ![2048]⟩ : Shape).Idx → EReal} {h : (⟨1, ![2048]⟩ : Shape).ShapeCasts ⟨2, ![2048, 1]⟩}
    (hr : R1 2048 r q) : Rp 2048 1 (shapeCast ⟨2, ![2048, 1]⟩ r h) (fun i _ => q i) := fun i j => by
  pointwise; exact hr i

theorem lift_1_1024 {r : (⟨2, ![1, 1024]⟩ : Shape).Idx → EReal} {q : ℕ → ℕ → EReal} (h : (⟨2, ![1, 1024]⟩ : Shape).ShapeCasts ⟨3, ![1, 1, 1024]⟩)
    (hr : Rp 1 1024 r q) : R3 1 1 1024 (shapeCast ⟨3, ![1, 1, 1024]⟩ r h) (fun _ i j => q i j) := fun a i j => by
  pointwise; exact hr 0 j

theorem sumTiles {a : (⟨3, ![8, 1, 1024]⟩ : Shape).Idx → EReal} {f : ℕ → ℕ → ℕ → EReal} {z : (⟨0, ![]⟩ : Shape).Idx → EReal}
    (hr : (⟨3, ![8, 1, 1024]⟩ : Shape).ReducesTo [0] ⟨2, ![1, 1024]⟩) (h0 : 0 < (⟨0, ![]⟩ : Shape).numel) (ha : R3 8 1 1024 a f) (hz : R0 z 0) :
    Rp 1 1024 (Host.reduceAdd (F := Ideal) (φ := .f32) a z hr h0) (fun i j => ∑ t ∈ Finset.range 8, f t i j) := fun i j => by
  pointwise
  rw [hz, zero_add, Finset.sum_range fun t => f t 0 j]
  exact Finset.sum_congr rfl fun k _ => ha k 0 j
end

/-- The mean square of a row, plus the constant; and the row's scale under the norm. -/
def ms (x : ℕ → EReal) : EReal := Ideal.div (∑ k ∈ Finset.range 1024, x k * x k) ((1024 : ℝ) : EReal) + ((eps : ℝ) : EReal)
def rn (x : ℕ → EReal) : EReal := Ideal.rsqrt (ms x)

theorem sq_nonneg (x : EReal) : 0 ≤ x * x := by
  induction x with
  | bot => simp
  | top => simp
  | coe x => exact_mod_cast mul_self_nonneg x

theorem div_1024 (x : EReal) : Ideal.div x ((1024 : ℝ) : EReal) = x * ((1024⁻¹ : ℝ) : EReal) := by
  rw [Ideal.div, if_neg (by norm_cast), ← EReal.coe_inv]

/-- A row of reals has the scale the reals give it. -/
theorem ms_coe {x : ℕ → EReal} {y : ℕ → ℝ} (h : ∀ k < 1024, x k = ((y k : ℝ) : EReal)) : ms x = ((Ffn.ms y : ℝ) : EReal) := by
  have e : ∑ k ∈ Finset.range 1024, x k * x k = ((∑ k ∈ Finset.range 1024, y k * y k : ℝ) : EReal) := by
    rw [← Cert.Base.coe_sum]
    exact Finset.sum_congr rfl fun k hk => by rw [h k (Finset.mem_range.mp hk), EReal.coe_mul]
  rw [ms, e, div_1024, ← EReal.coe_mul, ← EReal.coe_add, Ffn.ms, div_eq_mul_inv]

/-- A row with an infinite entry has the scale zero. -/
theorem ms_top {x : ℕ → EReal} {k : ℕ} (hk : k < 1024) (h : x k = ⊤ ∨ x k = ⊥) : ms x = ⊤ := by
  have e : ∑ k ∈ Finset.range 1024, x k * x k = ⊤ := by
    refine top_le_iff.mp (le_trans ?_ (Finset.single_le_sum (f := fun k => x k * x k) (fun k _ => sq_nonneg (x k)) (Finset.mem_range.mpr hk)))
    rcases h with h | h <;> simp [h]
  rw [ms, e, div_1024, EReal.top_mul_coe_of_pos (by norm_num), EReal.top_add_coe]

/-- The gradient through the norm in the two forms, for one row `x` with gradient `a` at the norm. -/
theorem norm_grad (x a : ℕ → EReal) (j : ℕ) (hj : j < 1024) :
    (a j * rn x + x j * Ideal.div ((∑ k ∈ Finset.range 1024, x k * a k) * (((-(1 / 2) : ℝ) : EReal) * Ideal.div (rn x) (ms x))) ((1024 : ℝ) : EReal))
      + Ideal.div ((∑ k ∈ Finset.range 1024, x k * a k) * (((-(1 / 2) : ℝ) : EReal) * Ideal.div (rn x) (ms x))) ((1024 : ℝ) : EReal) * x j =
    rn x * a j - x j * rn x * (rn x * Ideal.div (∑ k ∈ Finset.range 1024, a k * (x k * rn x)) ((1024 : ℝ) : EReal)) := by
  by_cases hx : ∃ k < 1024, x k = ⊤ ∨ x k = ⊥
  · obtain ⟨k, hk, h⟩ := hx
    have hr : rn x = 0 := by rw [rn, ms_top hk h]; rfl
    have hd : Ideal.div 0 ⊤ = 0 := by simp [Ideal.div]
    simp only [hr, ms_top hk h, hd, div_1024, mul_zero, zero_mul, add_zero, sub_zero]
  · have hy : ∀ k < 1024, x k = (((x k).toReal : ℝ) : EReal) := fun k hk =>
      (EReal.coe_toReal (fun h => hx ⟨k, hk, .inl h⟩) (fun h => hx ⟨k, hk, .inr h⟩)).symm
    obtain ⟨y, hy⟩ : ∃ y : ℕ → ℝ, ∀ k < 1024, x k = ((y k : ℝ) : EReal) := ⟨fun k => (x k).toReal, hy⟩
    have hm := ms_coe hy
    have hp := Ffn.ms_pos y
    have hr : rn x = ((Ffn.rn y : ℝ) : EReal) := by
      rw [rn, hm, Ideal.rsqrt_coe, if_neg (not_lt.mpr hp.le), if_neg hp.ne']; rfl
    have hr0 : (0 : EReal) ≤ ((Ffn.rn y : ℝ) : EReal) := EReal.coe_nonneg.mpr (inv_nonneg.mpr (Real.sqrt_nonneg _))
    have hs : ∀ n, ∑ k ∈ Finset.range n, a k * (x k * rn x) = rn x * ∑ k ∈ Finset.range n, x k * a k := fun n => by
      induction n with
      | zero => simp
      | succ n ih =>
        rw [Finset.sum_range_succ, Finset.sum_range_succ, ih, hr, EReal.left_distrib_of_nonneg_of_ne_top hr0 (EReal.coe_ne_top _)]
        congr 1
        rw [← mul_assoc, mul_comm (a n), mul_comm]
    have hd : Ideal.div (rn x) (ms x) = ((Ffn.rn y * (Ffn.ms y)⁻¹ : ℝ) : EReal) := by
      rw [hr, hm, Ideal.div, if_neg (by exact_mod_cast hp.ne'), ← EReal.coe_inv, EReal.coe_mul]
    rw [hs, hd, div_1024, div_1024, hr, hy j hj]
    generalize ∑ k ∈ Finset.range 1024, x k * a k = S
    have e2 : ∀ z : EReal, z + z = ((2 : ℝ) : EReal) * z := fun z => by
      rw [show ((2 : ℝ) : EReal) = 1 + 1 by norm_cast, EReal.right_distrib_of_nonneg zero_le_one zero_le_one, one_mul]
    rw [add_assoc, mul_comm _ ((y j : ℝ) : EReal), e2, sub_eq_add_neg, mul_comm (a j)]
    congr 1
    have e : ∀ c d : ℝ, c = -d → S * ((c : ℝ) : EReal) = -(S * ((d : ℝ) : EReal)) := fun c d h => by rw [h, EReal.coe_neg, mul_neg]
    have := e (2 * y j * (-(1 / 2) * (Ffn.rn y * (Ffn.ms y)⁻¹)) * 1024⁻¹) (y j * Ffn.rn y * (Ffn.rn y * Ffn.rn y * 1024⁻¹)) (by
      have hq := Ffn.rn_sq y
      have : (Ffn.ms y)⁻¹ = Ffn.rn y * Ffn.rn y := by rw [inv_eq_one_div, ← hq]; field_simp
      rw [this]; ring)
    simp only [EReal.coe_mul] at this ⊢
    rw [show ∀ A B C D : EReal, A * (B * (S * C * D)) = S * (A * B * C * D) by intros; ac_rfl, this]
    congr 1
    ac_rfl

end Cert.Ext
-- ==== Proof.Start.lean ====
/- The start of a recurrent layer and its gradient over the extended reals: a norm, the projection into two branches, a short
   causal convolution of one branch and the gates computed from it, and the gradients of all of them, in the order the
   kernels work them out. -/
module

public import proofs.«01_k».proof.Proof.Ext

@[expose] public section

noncomputable section

namespace Cert.Start

open Cert.Ext Idealize.ShloMosaic

/-- The operands: the residual stream, the norm's gain, the projection in four shards of 512 columns, the convolution's
    taps and bias, the gates' block-diagonal weights and bias, the gradients of the gate branch, of the two gates and of
    the convolved branch, and the gradient of the stream. -/
structure In where
  h : ℕ → ℕ → EReal
  g : ℕ → EReal
  wi : ℕ → ℕ → ℕ → EReal
  cw : ℕ → ℕ → EReal
  cb : ℕ → EReal
  wg : ℕ → ℕ → ℕ → EReal
  bg : ℕ → ℕ → EReal
  dgb : ℕ → ℕ → EReal
  dgi : ℕ → ℕ → EReal
  dgr : ℕ → ℕ → EReal
  d1 : ℕ → ℕ → EReal
  dh : ℕ → ℕ → EReal

/-- A sequence `k` steps later, zero before its start. -/
def sh (k : ℕ) (f : ℕ → ℕ → EReal) (i c : ℕ) : EReal := if k ≤ i then f (i - k) c else 0
/-- A sequence of 2048 `k` steps earlier, zero after its end. -/
def up (k : ℕ) (f : ℕ → ℕ → EReal) (i c : ℕ) : EReal := if i < 2048 - k then f (i + k) c else 0

variable (I : In)

def In.xr (i j : ℕ) : EReal := I.h i j * rn (I.h i)
def In.xn (i j : ℕ) : EReal := I.h i j * rn (I.h i) * I.g j
/-- Both branches side by side. -/
def In.pj (i c : ℕ) : EReal := ∑ k ∈ Finset.range 1024, I.xn i k * I.wi (c / 512) k (c % 512)
def In.x (i c : ℕ) : EReal := I.pj i (1024 + c)
def In.rc (i c : ℕ) : EReal := I.cb c + I.cw 3 c * I.x i c + I.cw 2 c * sh 1 I.x i c + I.cw 1 c * sh 2 I.x i c + I.cw 0 c * sh 3 I.x i c
def In.gt (i n b : ℕ) : EReal := (∑ k ∈ Finset.range 256, I.rc i (256 * n + k) * I.wg n k b) + I.bg n b
def In.gi (i c : ℕ) : EReal := I.gt i (c / 256) (c % 256)
def In.gr (i c : ℕ) : EReal := I.gt i (c / 256) (256 + c % 256)
/-- The gradient of the convolved branch. -/
def In.dr (i c : ℕ) : EReal := I.d1 i c + (∑ k ∈ Finset.range 256, I.dgi i (256 * (c / 256) + k) * I.wg (c / 256) (c % 256) k)
  + ∑ k ∈ Finset.range 256, I.dgr i (256 * (c / 256) + k) * I.wg (c / 256) (c % 256) (256 + k)
def In.dwg (n a b : ℕ) : EReal := if b < 256 then ∑ i ∈ Finset.range 2048, I.rc i (256 * n + a) * I.dgi i (256 * n + b)
  else ∑ i ∈ Finset.range 2048, I.rc i (256 * n + a) * I.dgr i (256 * n + (b - 256))
def In.dx (i c : ℕ) : EReal := I.cw 3 c * I.dr i c + I.cw 2 c * up 1 I.dr i c + I.cw 1 c * up 2 I.dr i c + I.cw 0 c * up 3 I.dr i c
def In.dcw (r c : ℕ) : EReal := ∑ i ∈ Finset.range 2048, I.dr i c * sh (3 - r) I.x i c
def In.dcb (c : ℕ) : EReal := ∑ i ∈ Finset.range 2048, I.dr i c
/-- The gradient of both branches side by side. -/
def In.dp (i c : ℕ) : EReal := if c < 1024 then I.dgb i c else I.dx i (c - 1024)
def In.dwi (q k f : ℕ) : EReal := ∑ i ∈ Finset.range 2048, I.xn i k * I.dp i (512 * q + f)
def In.dnq (q i j : ℕ) : EReal := ∑ f ∈ Finset.range 512, I.dp i (512 * q + f) * I.wi q j f
/-- The gradient of the normed stream. -/
def In.dn (i j : ℕ) : EReal := I.dnq 0 i j + I.dnq 1 i j + I.dnq 2 i j + I.dnq 3 i j
def In.dhm (i j : ℕ) : EReal := I.dh i j + (rn (I.h i) * (I.dn i j * I.g j)
  - I.xr i j * (rn (I.h i) * Ideal.div (∑ k ∈ Finset.range 1024, I.dn i k * I.g k * I.xr i k) ((1024 : ℝ) : EReal)))
/-- The gain's gradient over one tile of 256 rows. -/
def In.dgt (t j : ℕ) : EReal := ∑ i ∈ Finset.range 256, I.dn (256 * t + i) j * I.xr (256 * t + i) j
def In.dg (j : ℕ) : EReal := ∑ t ∈ Finset.range 8, I.dgt t j

end Cert.Start
-- ==== Proof.StartPay.lean ====
/- What each kernel's arithmetic makes of blocks of extended reals. -/
module

public import proofs.«01_k».proof.Proof.Start
public import proofs.«01_k».proof.Proof.Gen.Kernel3Ideal.Skeleton

@[expose] public section

set_option maxRecDepth 16384

noncomputable section

namespace Cert.StartPay

open Cert.Base (Mk)
open Cert.Ffn (lit_eps lit_1024)
open Idealize.ShloMosaic Cert.Kernel3Ideal Cert.Kernel3Ideal.Gen Cert.Ext Cert.Start

/-! Rows before the start and after the end of a sequence. -/

theorem mask (p : CmpIPredicate) (d : ℕ) (P : ℕ → Prop)
    (h : ∀ i : Fin 2048, (IntOp.cmpi p (BitVec.ofNat 32 i) (BitVec.ofNat 32 d) = 1#1 ∧ P i) ∨ (IntOp.cmpi p (BitVec.ofNat 32 i) (BitVec.ofNat 32 d) = 0#1 ∧ ¬ P i)) :
    Mk 2048 256 (cmpi p (iota .tc S2048x256 32 [0] iota_S2048x256_d0_w32) (broadcast S2048x256 (BitVec.ofNat 32 d))) (fun i _ => P i) := fun i j => by
  have hv : (iota .tc S2048x256 32 [0] iota_S2048x256_d0_w32 : IVec S2048x256 32) (ix2 i j) = BitVec.ofNat 32 i := by
    pointwise
  show (IntOp.cmpi p (iota .tc S2048x256 32 [0] iota_S2048x256_d0_w32 (ix2 i j)) (BitVec.ofNat 32 d) = 1#1 ∧ _) ∨ (IntOp.cmpi p (iota .tc S2048x256 32 [0] iota_S2048x256_d0_w32 (ix2 i j)) (BitVec.ofNat 32 d) = 0#1 ∧ _)
  rw [hv]
  exact h i

theorem toNat_small (i : ℕ) (h : i < 2048) : (BitVec.ofNat 32 i).toInt = (i : ℤ) := by
  rw [BitVec.toInt_eq_toNat_of_lt] <;> simp [BitVec.toNat_ofNat] <;> omega

theorem ge (d : ℕ) (hd : d < 2048) : Mk 2048 256 (cmpi .sge (iota .tc S2048x256 32 [0] iota_S2048x256_d0_w32) (broadcast S2048x256 (BitVec.ofNat 32 d))) (fun i _ => d ≤ i) :=
  mask .sge d (fun i => d ≤ i) fun i => by
    have e : IntOp.cmpi .sge (BitVec.ofNat 32 i) (BitVec.ofNat 32 d) = BitVec.ofBool (decide (d ≤ i)) := by
      show BitVec.ofBool ((BitVec.ofNat 32 d).sle (BitVec.ofNat 32 i)) = _
      rw [BitVec.sle, toNat_small _ hd, toNat_small _ i.2]; congr 1; simp
    rw [e]
    by_cases h : d ≤ i <;> simp [h]

theorem lt (d : ℕ) (hd : d < 2048) : Mk 2048 256 (cmpi .slt (iota .tc S2048x256 32 [0] iota_S2048x256_d0_w32) (broadcast S2048x256 (BitVec.ofNat 32 d))) (fun i _ => i < d) :=
  mask .slt d (fun i => i < d) fun i => by
    have e : IntOp.cmpi .slt (BitVec.ofNat 32 i) (BitVec.ofNat 32 d) = BitVec.ofBool (decide ((i : ℕ) < d)) := by
      show BitVec.ofBool ((BitVec.ofNat 32 i).slt (BitVec.ofNat 32 d)) = _
      rw [BitVec.slt, toNat_small _ hd, toNat_small _ i.2]; congr 1; simp
    rw [e]
    by_cases h : (i : ℕ) < d <;> simp [h]

variable {x y : S2048x256.Idx → EReal} {f g : ℕ → ℕ → EReal}

theorem late (k : ℕ) (hk : k < 2048) (hr) (hx : Rp 2048 256 x f) :
    Rp 2048 256 (select (cmpi .sge (iota .tc S2048x256 32 [0] iota_S2048x256_d0_w32) (broadcast S2048x256 (BitVec.ofNat 32 k)))
      (dynamicRotate 0 (BitVec.ofNat 32 k) none x hr) (broadcast S2048x256 (Ideal.ofBits .f32 0x00000000#32))) (sh k f) := by
  refine Rp.of_eq (Rp.select (ge k hk) (Rp.rot hr hx) (Rp.cst lit_zero)) fun i j hi _ => ?_
  have e : (BitVec.ofNat 32 k).toNat = k := by simp [BitVec.toNat_ofNat]; omega
  simp only [sh, e, Nat.mod_eq_of_lt hk]
  split
  · congr 1; omega
  · rfl

theorem early (k d : ℕ) (hk : k < 2048) (hd : d = 2048 - k) (h0 : 0 < k) (hr) (hx : Rp 2048 256 x f) :
    Rp 2048 256 (select (cmpi .slt (iota .tc S2048x256 32 [0] iota_S2048x256_d0_w32) (broadcast S2048x256 (BitVec.ofNat 32 d)))
      (dynamicRotate 0 (BitVec.ofNat 32 d) none x hr) (broadcast S2048x256 (Ideal.ofBits .f32 0x00000000#32))) (up k f) := by
  subst hd
  refine Rp.of_eq (Rp.select (lt (2048 - k) (by omega)) (Rp.rot hr hx) (Rp.cst lit_zero)) fun i j hi _ => ?_
  have e : (BitVec.ofNat 32 (2048 - k)).toNat = 2048 - k := by simp [BitVec.toNat_ofNat]; omega
  simp only [up, e, Nat.mod_eq_of_lt (show 2048 - k < 2048 by omega)]
  split
  · congr 1; omega
  · rfl

/-! Blocks with a leading axis of one. -/

theorem drop_1024_512 {r : (⟨3, ![1, 1024, 512]⟩ : Shape).Idx → EReal} {q : ℕ → ℕ → ℕ → EReal} (h : (⟨3, ![1, 1024, 512]⟩ : Shape).ShapeCasts ⟨2, ![1024, 512]⟩)
    (hr : R3 1 1024 512 r q) : Rp 1024 512 (shapeCast ⟨2, ![1024, 512]⟩ r h) (fun i j => q 0 i j) := fun i j => by
  pointwise
  exact hr 0 i j

theorem drop_256_512 {r : (⟨3, ![1, 256, 512]⟩ : Shape).Idx → EReal} {q : ℕ → ℕ → ℕ → EReal} (h : (⟨3, ![1, 256, 512]⟩ : Shape).ShapeCasts ⟨2, ![256, 512]⟩)
    (hr : R3 1 256 512 r q) : Rp 256 512 (shapeCast ⟨2, ![256, 512]⟩ r h) (fun i j => q 0 i j) := fun i j => by
  pointwise
  exact hr 0 i j

theorem drop_1_512 {r : (⟨3, ![1, 1, 512]⟩ : Shape).Idx → EReal} {q : ℕ → ℕ → ℕ → EReal} (h : (⟨3, ![1, 1, 512]⟩ : Shape).ShapeCasts ⟨2, ![1, 512]⟩)
    (hr : R3 1 1 512 r q) : Rp 1 512 (shapeCast ⟨2, ![1, 512]⟩ r h) (fun _ j => q 0 0 j) := fun i j => by
  pointwise
  exact hr 0 0 j

theorem lift_1024_512 {r : (⟨2, ![1024, 512]⟩ : Shape).Idx → EReal} {q : ℕ → ℕ → EReal} (h : (⟨2, ![1024, 512]⟩ : Shape).ShapeCasts ⟨3, ![1, 1024, 512]⟩)
    (hr : Rp 1024 512 r q) : R3 1 1024 512 (shapeCast ⟨3, ![1, 1024, 512]⟩ r h) (fun _ i j => q i j) := fun a i j => by
  pointwise
  exact hr i j

theorem lift_256_256 {r : (⟨2, ![256, 256]⟩ : Shape).Idx → EReal} {q : ℕ → ℕ → EReal} (h : (⟨2, ![256, 256]⟩ : Shape).ShapeCasts ⟨3, ![1, 256, 256]⟩)
    (hr : Rp 256 256 r q) : R3 1 256 256 (shapeCast ⟨3, ![1, 256, 256]⟩ r h) (fun _ i j => q i j) := fun a i j => by
  pointwise
  exact hr i j

/-! The kernels' values. -/

theorem k0_1 {a : S256x1024.Idx → EReal} {b : S1x1024.Idx → EReal} {H G : ℕ → ℕ → EReal} (ha : Rp 256 1024 a H) (hb : Rp 1 1024 b G) :
    Rp 256 1024 (k0_pay1 (F := Ideal) a b) (fun i j => H i j * rn (H i) * G 0 j) := by
  unfold k0_pay1
  exact Rp.castSelf _ (Rp.trunc (Rp.mul (Rp.mul ha (Rp.bcCol _ (Rp.rsqrt (Rp.add (Rp.div (col256 _ (R1.rowSum _ _ _ (Rp.mul ha ha))) (Rp.cst lit_1024)) (Rp.cst lit_eps))))) (Rp.bcRow _ hb)) _)

theorem k1_1 {a : S2048x1024.Idx → EReal} {b : S1x1024x512.Idx → EReal} {A : ℕ → ℕ → EReal} {B : ℕ → ℕ → ℕ → EReal} (ha : Rp 2048 1024 a A) (hb : R3 1 1024 512 b B) :
    Rp 2048 512 (k1_pay1 (F := Ideal) a b) (fun i j => ∑ k ∈ Finset.range 1024, A i k * B 0 k j) := by
  unfold k1_pay1
  have hb' := drop_1024_512 shapeCasts_S1x1024x512_S1024x512 hb
  have hd : Rp 2048 512 (matmul (F := Ideal) (φ₁ := .bf16) (φ₂ := .bf16) dot_S2048x1024_S1024x512_S2048x512_1_0_0_1_n_n none a (shapeCast S1024x512 b shapeCasts_S1x1024x512_S1024x512) (constant (F := Ideal) S2048x512 .f32 0x00000000#32)) _ :=
    dot_nn (fun i j => by pointwise) ha hb'
  exact Rp.castSelf _ hd

section
variable {b w0 w1 w2 w3 : S1x256.Idx → EReal} {B W0 W1 W2 W3 : ℕ → ℕ → EReal}

theorem k2_3 (hx : Rp 2048 256 x f) (hb : Rp 1 256 b B) (h3 : Rp 1 256 w3 W3) (h2 : Rp 1 256 w2 W2) (h1 : Rp 1 256 w1 W1) (h0 : Rp 1 256 w0 W0) :
    Rp 2048 256 (k2_pay3 (F := Ideal) x b w3 w2 w1 w0) (fun i j => B 0 j + W3 0 j * f i j + W2 0 j * sh 1 f i j + W1 0 j * sh 2 f i j + W0 0 j * sh 3 f i j) := by
  unfold k2_pay3
  exact Rp.add (Rp.add (Rp.add (Rp.add (Rp.bcRow _ hb) (Rp.mul (Rp.bcRow _ h3) hx))
    (Rp.mul (Rp.bcRow _ h2) (late 1 (by decide) _ hx))) (Rp.mul (Rp.bcRow _ h1) (late 2 (by decide) _ hx))) (Rp.mul (Rp.bcRow _ h0) (late 3 (by decide) _ hx))

theorem k2_1 (hx : Rp 2048 256 x f) : Rp 2048 256 (k2_pay1 (F := Ideal) x) f := by
  unfold k2_pay1
  exact Rp.castSelf _ hx

theorem k2_2 (hx : Rp 2048 256 x f) : Rp 2048 256 (k2_pay2 (F := Ideal) x) f := by
  unfold k2_pay2
  exact Rp.castSelf _ (Rp.trunc hx _)

theorem k5_8 (hx : Rp 2048 256 x f) (h3 : Rp 1 256 w3 W3) (h2 : Rp 1 256 w2 W2) (h1 : Rp 1 256 w1 W1) (h0 : Rp 1 256 w0 W0) :
    Rp 2048 256 (k5_pay2 (F := Ideal) (k5_pay8 (F := Ideal) x (k5_pay5 (F := Ideal) x w3 w2) w1 (iota .tc S2048x256 32 [0] iota_S2048x256_d0_w32) w0))
      (fun i j => W3 0 j * f i j + W2 0 j * up 1 f i j + W1 0 j * up 2 f i j + W0 0 j * up 3 f i j) := by
  unfold k5_pay2 k5_pay8 k5_pay5
  exact Rp.castSelf _ (Rp.trunc (Rp.add (Rp.add (Rp.add (Rp.mul (Rp.bcRow _ h3) hx)
    (Rp.mul (Rp.bcRow _ h2) (early 1 2047 (by decide) rfl (by decide) _ hx))) (Rp.mul (Rp.bcRow _ h1) (early 2 2046 (by decide) rfl (by decide) _ hx)))
    (Rp.mul (Rp.bcRow _ h0) (early 3 2045 (by decide) rfl (by decide) _ hx))) _)
end

theorem k5_3 (hx : Rp 2048 256 x f) : Rp 1 256 (k5_pay3 (F := Ideal) x) (fun _ j => ∑ i ∈ Finset.range 2048, f i j) := by
  unfold k5_pay3
  exact Rp.castSelf _ (Rp.ofRow256 _ (colSum _ _ _ hx))

theorem k5_4 (hx : Rp 2048 256 x f) (hy : Rp 2048 256 y g) : Rp 1 256 (k5_pay4 (F := Ideal) x y) (fun _ j => ∑ i ∈ Finset.range 2048, f i j * g i j) := by
  unfold k5_pay4
  exact Rp.castSelf _ (Rp.ofRow256 _ (colSum _ _ _ (Rp.mul hx hy)))

theorem k5_6 (hx : Rp 2048 256 x f) (hy : Rp 2048 256 y g) : Rp 1 256 (k5_pay6 (F := Ideal) x y) (fun _ j => ∑ i ∈ Finset.range 2048, f i j * sh 1 g i j) := by
  unfold k5_pay6
  exact Rp.castSelf _ (Rp.ofRow256 _ (colSum _ _ _ (Rp.mul hx (late 1 (by decide) _ hy))))

theorem k5_7 (hx : Rp 2048 256 x f) (hy : Rp 2048 256 y g) : Rp 1 256 (k5_pay7 (F := Ideal) x y) (fun _ j => ∑ i ∈ Finset.range 2048, f i j * sh 2 g i j) := by
  unfold k5_pay7
  exact Rp.castSelf _ (Rp.ofRow256 _ (colSum _ _ _ (Rp.mul hx (late 2 (by decide) _ hy))))

theorem k5_9 (hx : Rp 2048 256 x f) (hy : Rp 2048 256 y g) :
    Rp 1 256 (k5_pay1 (F := Ideal) (k5_pay9 (F := Ideal) x y)) (fun _ j => ∑ i ∈ Finset.range 2048, f i j * sh 3 g i j) := by
  unfold k5_pay1 k5_pay9
  exact Rp.castSelf _ (Rp.ofRow256 _ (colSum _ _ _ (Rp.mul hx (late 3 (by decide) _ hy))))

section
variable {w : S1x256x512.Idx → EReal} {b : S1x1x512.Idx → EReal} {d : S2048x256.Idx → EReal} {W B : ℕ → ℕ → ℕ → EReal} {e : ℕ → ℕ → EReal}

theorem k3_1 (hx : Rp 2048 256 x f) (hw : R3 1 256 512 w W) (hb : R3 1 1 512 b B) :
    Rp 2048 512 (k3_pay1 (F := Ideal) x w b) (fun i j => (∑ k ∈ Finset.range 256, f i k * W 0 k j) + B 0 0 j) := by
  unfold k3_pay1
  have hw' := drop_256_512 shapeCasts_S1x256x512_S256x512 hw
  have hd : Rp 2048 512 (matmul (F := Ideal) (φ₁ := .bf16) (φ₂ := .bf16) dot_S2048x256_S256x512_S2048x512_1_0_0_1_n_n none x (shapeCast S256x512 w shapeCasts_S1x256x512_S256x512) (constant (F := Ideal) S2048x512 .f32 0x00000000#32)) _ :=
    dot_nn (fun i j => by pointwise) hx hw'
  exact Rp.add hd (Rp.bcRow (q := fun _ j => B 0 0 j) _ (drop_1_512 _ hb))

theorem k3_2 (hx : Rp 2048 256 x f) (hw : R3 1 256 512 w W) (hb : R3 1 1 512 b B) :
    Rp 2048 256 (k3_pay2 (F := Ideal) x w b) (fun i j => (∑ k ∈ Finset.range 256, f i k * W 0 k j) + B 0 0 j) := by
  unfold k3_pay2
  exact Rp.castSelf _ (Rp.of_eq (Rp.slice 0 0 _ (k3_1 hx hw hb)) fun i j _ _ => by simp only [Nat.zero_add])

theorem k3_3 (hx : Rp 2048 256 x f) (hw : R3 1 256 512 w W) (hb : R3 1 1 512 b B) :
    Rp 2048 256 (k3_pay3 (F := Ideal) x w b) (fun i j => (∑ k ∈ Finset.range 256, f i k * W 0 k (256 + j)) + B 0 0 (256 + j)) := by
  unfold k3_pay3
  exact Rp.castSelf _ (Rp.of_eq (Rp.slice 0 256 _ (k3_1 hx hw hb)) fun i j _ _ => by simp only [Nat.zero_add])

theorem dot_nt_gates {a : S2048x256.Idx → EReal} {c : S256x256.Idx → EReal} {p q : ℕ → ℕ → EReal} (ha : Rp 2048 256 a p) (hc : Rp 256 256 c q) :
    Rp 2048 256 (matmul (F := Ideal) (φ₁ := .bf16) (φ₂ := .bf16) dot_S2048x256_S256x256_S2048x256_1_1_0_0_n_n none a c (constant (F := Ideal) S2048x256 .f32 0x00000000#32)) (fun i j => ∑ k ∈ Finset.range 256, p i k * q j k) :=
  dot_nt (fun i j => by pointwise) ha hc

theorem k4_1 (hw : R3 1 256 512 w W) (hx : Rp 2048 256 x f) (hy : Rp 2048 256 y g) (hd : Rp 2048 256 d e) :
    Rp 2048 256 (k4_pay1 (F := Ideal) w x y d) (fun i j => e i j + (∑ k ∈ Finset.range 256, f i k * W 0 j k) + ∑ k ∈ Finset.range 256, g i k * W 0 j (256 + k)) := by
  unfold k4_pay1
  have hw' := drop_256_512 shapeCasts_S1x256x512_S256x512 hw
  refine Rp.castSelf _ (Rp.of_eq (Rp.add (Rp.add hd (dot_nt_gates hx (Rp.slice 0 0 _ hw'))) (dot_nt_gates hy (Rp.slice 0 256 _ hw'))) fun i j _ _ => ?_)
  simp only [Nat.zero_add]

theorem dot_tn_gates {a c : S2048x256.Idx → EReal} {p q : ℕ → ℕ → EReal} (ha : Rp 2048 256 a p) (hc : Rp 2048 256 c q) :
    Rp 256 256 (matmul (F := Ideal) (φ₁ := .bf16) (φ₂ := .bf16) dot_S2048x256_S2048x256_S256x256_0_0_1_1_n_n none a c (constant (F := Ideal) S256x256 .f32 0x00000000#32)) (fun i j => ∑ k ∈ Finset.range 2048, p k i * q k j) :=
  dot_tn (fun i j => by pointwise) ha hc

theorem k4_2 (hx : Rp 2048 256 x f) (hy : Rp 2048 256 y g) :
    R3 1 256 256 (k4_pay2 (F := Ideal) x y) (fun _ i j => ∑ k ∈ Finset.range 2048, f k i * g k j) := by
  unfold k4_pay2
  exact lift_256_256 _ (Rp.trunc (dot_tn_gates hx hy) _)

theorem k4_3 (hx : Rp 2048 256 x f) (hy : Rp 2048 256 y g) :
    R3 1 256 256 (k4_pay3 (F := Ideal) x y) (fun _ i j => ∑ k ∈ Finset.range 2048, f k i * g k j) := by
  unfold k4_pay3
  exact lift_256_256 _ (Rp.trunc (dot_tn_gates hx hy) _)
end

theorem k6_1 {a : S2048x1024.Idx → EReal} {b : S2048x512.Idx → EReal} {A B : ℕ → ℕ → EReal} (ha : Rp 2048 1024 a A) (hb : Rp 2048 512 b B) :
    R3 1 1024 512 (k6_pay1 (F := Ideal) a b) (fun _ i j => ∑ k ∈ Finset.range 2048, A k i * B k j) := by
  unfold k6_pay1
  have hb' := Rp.castSelf shapeCasts_S2048x512_S2048x512 hb
  have hd : Rp 1024 512 (matmul (F := Ideal) (φ₁ := .bf16) (φ₂ := .bf16) dot_S2048x1024_S2048x512_S1024x512_0_0_1_1_n_n none a (shapeCast S2048x512 b shapeCasts_S2048x512_S2048x512) (constant (F := Ideal) S1024x512 .f32 0x00000000#32)) _ :=
    dot_tn (fun i j => by pointwise) ha hb'
  exact lift_1024_512 _ (Rp.trunc hd _)

theorem dot_nt_256_512_1024 {a : S256x512.Idx → EReal} {b : S1x1024x512.Idx → EReal} {p : ℕ → ℕ → EReal} {q : ℕ → ℕ → ℕ → EReal} (h1) (h2) (ha : Rp 256 512 a p) (hb : R3 1 1024 512 b q) :
    Rp 256 1024 (matmul (F := Ideal) (φ₁ := .bf16) (φ₂ := .bf16) dot_S256x512_S1024x512_S256x1024_1_1_0_0_n_n none (shapeCast S256x512 a h1) (shapeCast S1024x512 b h2) (constant (F := Ideal) S256x1024 .f32 0x00000000#32)) (fun i j => ∑ k ∈ Finset.range 512, p i k * q 0 j k) := by
  have ha' := Rp.castSelf h1 ha
  have hb' := drop_1024_512 h2 hb
  exact dot_nt (fun i j => by pointwise) ha' hb'

theorem k7_7 {a b c d : S256x512.Idx → EReal} {p q r s : S1x1024x512.Idx → EReal} {A B C D : ℕ → ℕ → EReal} {P Q R S : ℕ → ℕ → ℕ → EReal}
    (ha : Rp 256 512 a A) (hp : R3 1 1024 512 p P) (hb : Rp 256 512 b B) (hq : R3 1 1024 512 q Q)
    (hc : Rp 256 512 c C) (hr : R3 1 1024 512 r R) (hd : Rp 256 512 d D) (hs : R3 1 1024 512 s S) :
    Rp 256 1024 (k7_pay7 (F := Ideal) a p b q c r d s) (fun i j => (∑ k ∈ Finset.range 512, A i k * P 0 j k) + (∑ k ∈ Finset.range 512, B i k * Q 0 j k)
      + (∑ k ∈ Finset.range 512, C i k * R 0 j k) + (∑ k ∈ Finset.range 512, D i k * S 0 j k)) := by
  unfold k7_pay7
  exact Rp.add (Rp.add (Rp.add (dot_nt_256_512_1024 _ _ ha hp) (dot_nt_256_512_1024 _ _ hb hq)) (dot_nt_256_512_1024 _ _ hc hr)) (dot_nt_256_512_1024 _ _ hd hs)

section
variable {d h e : S256x1024.Idx → EReal} {r : S1x1024.Idx → EReal} {D H E G : ℕ → ℕ → EReal}

theorem k7_1 (hh : Rp 256 1024 h H) : Rp 256 1 (k7_pay1 (F := Ideal) (k7_pay8 (F := Ideal) h) (Ideal.ofBits .f32 0x44800000#32)) (fun i _ => rn (H i)) := by
  unfold k7_pay1 k7_pay8
  exact Rp.rsqrt (Rp.add (Rp.div (col256 _ (R1.rowSum _ _ _ (Rp.mul hh hh))) (Rp.cst lit_1024)) (Rp.cst lit_eps))

theorem k7_2 (hh : Rp 256 1024 h H) : Rp 256 1024 (k7_pay2 (F := Ideal) h (k7_pay8 (F := Ideal) h) (Ideal.ofBits .f32 0x44800000#32)) (fun i j => H i j * rn (H i)) := by
  unfold k7_pay2
  exact Rp.mul hh (Rp.bcCol _ (k7_1 hh))

theorem k7_3 (hd : Rp 256 1024 d D) (hh : Rp 256 1024 h H) (hg : Rp 1 1024 r G) (he : Rp 256 1024 e E) :
    Rp 256 1024 (k7_pay3 (F := Ideal) d h r (k7_pay8 (F := Ideal) h) (Ideal.ofBits .f32 0x44800000#32) e) (fun i j => E i j + (rn (H i) * (D i j * G 0 j)
      - H i j * rn (H i) * (rn (H i) * Ideal.div (∑ k ∈ Finset.range 1024, D i k * G 0 k * (H i k * rn (H i))) ((1024 : ℝ) : EReal)))) := by
  have h1 := k7_1 hh
  have h2 := k7_2 hh
  have hdg := Rp.mul hd (Rp.bcRow broadcasts_S1x1024_S256x1024 hg)
  unfold k7_pay3
  exact Rp.add he (Rp.sub (Rp.mul (Rp.bcCol _ h1) hdg) (Rp.mul h2 (Rp.bcCol _ (Rp.mul h1 (Rp.div (col256 _ (R1.rowSum _ _ _ (Rp.mul hdg h2))) (Rp.cst lit_1024))))))

theorem k7_4 (hd : Rp 256 1024 d D) (hh : Rp 256 1024 h H) (hg : Rp 1 1024 r G) (he : Rp 256 1024 e E) :
    Rp 256 1024 (k7_pay4 (F := Ideal) d h r (k7_pay8 (F := Ideal) h) (Ideal.ofBits .f32 0x44800000#32) e) (fun i j => E i j + (rn (H i) * (D i j * G 0 j)
      - H i j * rn (H i) * (rn (H i) * Ideal.div (∑ k ∈ Finset.range 1024, D i k * G 0 k * (H i k * rn (H i))) ((1024 : ℝ) : EReal)))) := by
  unfold k7_pay4
  exact Rp.castSelf _ (Rp.trunc (k7_3 hd hh hg he) _)

theorem k7_6 (hd : Rp 256 1024 d D) (hh : Rp 256 1024 h H) (hg : Rp 1 1024 r G) (he : Rp 256 1024 e E) :
    Rp 256 1024 (k7_pay6 (F := Ideal) d h r (k7_pay8 (F := Ideal) h) (Ideal.ofBits .f32 0x44800000#32) e) (fun i j => E i j + (rn (H i) * (D i j * G 0 j)
      - H i j * rn (H i) * (rn (H i) * Ideal.div (∑ k ∈ Finset.range 1024, D i k * G 0 k * (H i k * rn (H i))) ((1024 : ℝ) : EReal)))) := by
  unfold k7_pay6
  exact Rp.castSelf _ (k7_3 hd hh hg he)

theorem k7_5 (hd : Rp 256 1024 d D) (hh : Rp 256 1024 h H) :
    R3 1 1 1024 (k7_pay5 (F := Ideal) d h (k7_pay8 (F := Ideal) h) (Ideal.ofBits .f32 0x44800000#32)) (fun _ _ j => ∑ i ∈ Finset.range 256, D i j * (H i j * rn (H i))) := by
  unfold k7_pay5
  exact lift_1_1024 _ (row_of (colSum _ _ _ (Rp.mul hd (k7_2 hh))))
end

end Cert.StartPay
-- ==== Proof.StartBlk.lean ====
/- Each kernel's input blocks, at coordinates. -/
module

public import proofs.«01_k».proof.Proof.StartPay
public import proofs.«01_k».proof.Proof.Gen.Kernel3Ideal.Frame
public import Idealize.ShloMosaic.Lib.Pipeline.ValueKit

@[expose] public section

set_option maxRecDepth 16384

noncomputable section

namespace Cert.StartArr

open Idealize.ShloMosaic Idealize.ShloMosaic.TcCoe Cert.Kernel3Ideal Cert.Kernel3Ideal.Gen Cert.Ext Cert.Start Cert.StartPay

variable {V : (c : Dev nD) → (b : Ref sig .tc) → Buf (Elt Ideal) ((c : Thread nD τ).loc b)} (c : Dev nD)

theorem ib0_0 (t : Fin cfg0.N) {f : ℕ → ℕ → EReal} (h : Rp 2048 1024 (V c main_arg0) f) :
    Rp 256 1024 (iblk0 V c 0 t) (fun i j => f (256 * t.val + i) j) := fun i j => by
  have hN : (t : ℕ) < 8 := t.isLt.trans_eq N_0
  refine Eq.trans ?_ (h ⟨256 * t.val + i, by omega⟩ j)
  have hi : (cfg0.win 0).index t = ![t.val, 0] := by
    revert t; decide +kernel
  blk_ext [iblk0, hi]

theorem ib0_1 (t : Fin cfg0.N) {f : ℕ → ℕ → EReal} (h : Rp 1 1024 (V c main_arg1) f) :
    Rp 1 1024 (iblk0 V c 1 t) (fun i j => f i j) := fun i j => by
  have hN : (t : ℕ) < 8 := t.isLt.trans_eq N_0
  refine Eq.trans ?_ (h i j)
  have hi : (cfg0.win 1).index t = ![0, 0] := by
    revert t; decide +kernel
  blk_ext [iblk0, hi]

theorem ib1_0 (t : Fin cfg1.N) {f : ℕ → ℕ → EReal} (h : Rp 2048 1024 (V c main_v0) f) :
    Rp 2048 1024 (iblk1 V c 0 t) (fun i j => f i j) := fun i j => by
  have hN : (t : ℕ) < 4 := t.isLt.trans_eq N_1
  refine Eq.trans ?_ (h i j)
  have hi : (cfg1.win 0).index t = ![0, 0] := by
    revert t; decide +kernel
  blk_ext [iblk1, hi]

theorem ib1_1 (t : Fin cfg1.N) {f : ℕ → ℕ → ℕ → EReal} (h : R3 4 1024 512 (V c main_arg2) f) :
    R3 1 1024 512 (iblk1 V c 1 t) (fun k i j => f (t.val + k) i j) := fun k i j => by
  have hN : (t : ℕ) < 4 := t.isLt.trans_eq N_1
  refine Eq.trans ?_ (h ⟨t.val + k, by omega⟩ i j)
  have hi : (cfg1.win 1).index t = ![t.val, 0, 0] := by
    revert t; decide +kernel
  blk_ext [iblk1, hi]

theorem ib2_0 (t : Fin cfg2.N) {f : ℕ → ℕ → EReal} (h : Rp 2048 2048 (V c main_v1) f) :
    Rp 2048 256 (iblk2 V c 0 t) (fun i j => f i (256 * (t.val + 4) + j)) := fun i j => by
  have hN : (t : ℕ) < 4 := t.isLt.trans_eq N_2
  refine Eq.trans ?_ (h i ⟨256 * (t.val + 4) + j, by omega⟩)
  have hi : (cfg2.win 0).index t = ![0, t.val + 4] := by
    revert t; decide +kernel
  blk_ext [iblk2, hi]

theorem ib2_1 (t : Fin cfg2.N) {f : ℕ → ℕ → EReal} (h : Rp 4 1024 (V c main_arg3) f) :
    Rp 4 256 (iblk2 V c 1 t) (fun i j => f i (256 * t.val + j)) := fun i j => by
  have hN : (t : ℕ) < 4 := t.isLt.trans_eq N_2
  refine Eq.trans ?_ (h i ⟨256 * t.val + j, by omega⟩)
  have hi : (cfg2.win 1).index t = ![0, t.val] := by
    revert t; decide +kernel
  blk_ext [iblk2, hi]

theorem ib2_2 (t : Fin cfg2.N) {f : ℕ → ℕ → EReal} (h : Rp 1 1024 (V c main_arg4) f) :
    Rp 1 256 (iblk2 V c 2 t) (fun i j => f i (256 * t.val + j)) := fun i j => by
  have hN : (t : ℕ) < 4 := t.isLt.trans_eq N_2
  refine Eq.trans ?_ (h i ⟨256 * t.val + j, by omega⟩)
  have hi : (cfg2.win 2).index t = ![0, t.val] := by
    revert t; decide +kernel
  blk_ext [iblk2, hi]

theorem ib3_0 (t : Fin cfg3.N) {f : ℕ → ℕ → EReal} (h : Rp 2048 1024 (V c main_v2_1) f) :
    Rp 2048 256 (iblk3 V c 0 t) (fun i j => f i (256 * t.val + j)) := fun i j => by
  have hN : (t : ℕ) < 4 := t.isLt.trans_eq N_3
  refine Eq.trans ?_ (h i ⟨256 * t.val + j, by omega⟩)
  have hi : (cfg3.win 0).index t = ![0, t.val] := by
    revert t; decide +kernel
  blk_ext [iblk3, hi]

theorem ib3_1 (t : Fin cfg3.N) {f : ℕ → ℕ → ℕ → EReal} (h : R3 4 256 512 (V c main_arg5) f) :
    R3 1 256 512 (iblk3 V c 1 t) (fun k i j => f (t.val + k) i j) := fun k i j => by
  have hN : (t : ℕ) < 4 := t.isLt.trans_eq N_3
  refine Eq.trans ?_ (h ⟨t.val + k, by omega⟩ i j)
  have hi : (cfg3.win 1).index t = ![t.val, 0, 0] := by
    revert t; decide +kernel
  blk_ext [iblk3, hi]

theorem ib3_2 (t : Fin cfg3.N) {f : ℕ → ℕ → ℕ → EReal} (h : R3 4 1 512 (V c main_arg6) f) :
    R3 1 1 512 (iblk3 V c 2 t) (fun k i j => f (t.val + k) i j) := fun k i j => by
  have hN : (t : ℕ) < 4 := t.isLt.trans_eq N_3
  refine Eq.trans ?_ (h ⟨t.val + k, by omega⟩ i j)
  have hi : (cfg3.win 2).index t = ![t.val, 0, 0] := by
    revert t; decide +kernel
  blk_ext [iblk3, hi]

theorem ib4_0 (t : Fin cfg4.N) {f : ℕ → ℕ → EReal} (h : Rp 2048 1024 (V c main_arg8) f) :
    Rp 2048 256 (iblk4 V c 0 t) (fun i j => f i (256 * t.val + j)) := fun i j => by
  have hN : (t : ℕ) < 4 := t.isLt.trans_eq N_4
  refine Eq.trans ?_ (h i ⟨256 * t.val + j, by omega⟩)
  have hi : (cfg4.win 0).index t = ![0, t.val] := by
    revert t; decide +kernel
  blk_ext [iblk4, hi]

theorem ib4_1 (t : Fin cfg4.N) {f : ℕ → ℕ → EReal} (h : Rp 2048 1024 (V c main_arg9) f) :
    Rp 2048 256 (iblk4 V c 1 t) (fun i j => f i (256 * t.val + j)) := fun i j => by
  have hN : (t : ℕ) < 4 := t.isLt.trans_eq N_4
  refine Eq.trans ?_ (h i ⟨256 * t.val + j, by omega⟩)
  have hi : (cfg4.win 1).index t = ![0, t.val] := by
    revert t; decide +kernel
  blk_ext [iblk4, hi]

theorem ib4_2 (t : Fin cfg4.N) {f : ℕ → ℕ → EReal} (h : Rp 2048 1024 (V c main_v2_1) f) :
    Rp 2048 256 (iblk4 V c 2 t) (fun i j => f i (256 * t.val + j)) := fun i j => by
  have hN : (t : ℕ) < 4 := t.isLt.trans_eq N_4
  refine Eq.trans ?_ (h i ⟨256 * t.val + j, by omega⟩)
  have hi : (cfg4.win 2).index t = ![0, t.val] := by
    revert t; decide +kernel
  blk_ext [iblk4, hi]

theorem ib4_3 (t : Fin cfg4.N) {f : ℕ → ℕ → ℕ → EReal} (h : R3 4 256 512 (V c main_arg5) f) :
    R3 1 256 512 (iblk4 V c 3 t) (fun k i j => f (t.val + k) i j) := fun k i j => by
  have hN : (t : ℕ) < 4 := t.isLt.trans_eq N_4
  refine Eq.trans ?_ (h ⟨t.val + k, by omega⟩ i j)
  have hi : (cfg4.win 3).index t = ![t.val, 0, 0] := by
    revert t; decide +kernel
  blk_ext [iblk4, hi]

theorem ib4_4 (t : Fin cfg4.N) {f : ℕ → ℕ → EReal} (h : Rp 2048 1024 (V c main_arg10) f) :
    Rp 2048 256 (iblk4 V c 4 t) (fun i j => f i (256 * t.val + j)) := fun i j => by
  have hN : (t : ℕ) < 4 := t.isLt.trans_eq N_4
  refine Eq.trans ?_ (h i ⟨256 * t.val + j, by omega⟩)
  have hi : (cfg4.win 4).index t = ![0, t.val] := by
    revert t; decide +kernel
  blk_ext [iblk4, hi]

theorem ib5_0 (t : Fin cfg5.N) {f : ℕ → ℕ → EReal} (h : Rp 2048 1024 (V c main_v4_0) f) :
    Rp 2048 256 (iblk5 V c 0 t) (fun i j => f i (256 * t.val + j)) := fun i j => by
  have hN : (t : ℕ) < 4 := t.isLt.trans_eq N_5
  refine Eq.trans ?_ (h i ⟨256 * t.val + j, by omega⟩)
  have hi : (cfg5.win 0).index t = ![0, t.val] := by
    revert t; decide +kernel
  blk_ext [iblk5, hi]

theorem ib5_1 (t : Fin cfg5.N) {f : ℕ → ℕ → EReal} (h : Rp 2048 2048 (V c main_v1) f) :
    Rp 2048 256 (iblk5 V c 1 t) (fun i j => f i (256 * (t.val + 4) + j)) := fun i j => by
  have hN : (t : ℕ) < 4 := t.isLt.trans_eq N_5
  refine Eq.trans ?_ (h i ⟨256 * (t.val + 4) + j, by omega⟩)
  have hi : (cfg5.win 1).index t = ![0, t.val + 4] := by
    revert t; decide +kernel
  blk_ext [iblk5, hi]

theorem ib5_2 (t : Fin cfg5.N) {f : ℕ → ℕ → EReal} (h : Rp 4 1024 (V c main_arg3) f) :
    Rp 4 256 (iblk5 V c 2 t) (fun i j => f i (256 * t.val + j)) := fun i j => by
  have hN : (t : ℕ) < 4 := t.isLt.trans_eq N_5
  refine Eq.trans ?_ (h i ⟨256 * t.val + j, by omega⟩)
  have hi : (cfg5.win 2).index t = ![0, t.val] := by
    revert t; decide +kernel
  blk_ext [iblk5, hi]

theorem ib6_0 (t : Fin cfg6.N) {f : ℕ → ℕ → EReal} (h : Rp 2048 1024 (V c main_v0) f) :
    Rp 2048 1024 (iblk6 V c 0 t) (fun i j => f i j) := fun i j => by
  have hN : (t : ℕ) < 4 := t.isLt.trans_eq N_6
  refine Eq.trans ?_ (h i j)
  have hi : (cfg6.win 0).index t = ![0, 0] := by
    revert t; decide +kernel
  blk_ext [iblk6, hi]

theorem ib6_1 (t : Fin cfg6.N) {f : ℕ → ℕ → EReal} (h : Rp 2048 2048 (V c main_v6) f) :
    Rp 2048 512 (iblk6 V c 1 t) (fun i j => f i (512 * t.val + j)) := fun i j => by
  have hN : (t : ℕ) < 4 := t.isLt.trans_eq N_6
  refine Eq.trans ?_ (h i ⟨512 * t.val + j, by omega⟩)
  have hi : (cfg6.win 1).index t = ![0, t.val] := by
    revert t; decide +kernel
  blk_ext [iblk6, hi]

theorem ib7_0 (t : Fin cfg7.N) {f : ℕ → ℕ → EReal} (h : Rp 2048 2048 (V c main_v6) f) :
    Rp 256 512 (iblk7 V c 0 t) (fun i j => f (256 * t.val + i) j) := fun i j => by
  have hN : (t : ℕ) < 8 := t.isLt.trans_eq N_7
  refine Eq.trans ?_ (h ⟨256 * t.val + i, by omega⟩ ⟨j, by omega⟩)
  have hi : (cfg7.win 0).index t = ![t.val, 0] := by
    revert t; decide +kernel
  blk_ext [iblk7, hi]

theorem ib7_1 (t : Fin cfg7.N) {f : ℕ → ℕ → EReal} (h : Rp 2048 2048 (V c main_v6) f) :
    Rp 256 512 (iblk7 V c 1 t) (fun i j => f (256 * t.val + i) (512 + j)) := fun i j => by
  have hN : (t : ℕ) < 8 := t.isLt.trans_eq N_7
  refine Eq.trans ?_ (h ⟨256 * t.val + i, by omega⟩ ⟨512 + j, by omega⟩)
  have hi : (cfg7.win 1).index t = ![t.val, 1] := by
    revert t; decide +kernel
  blk_ext [iblk7, hi]

theorem ib7_2 (t : Fin cfg7.N) {f : ℕ → ℕ → EReal} (h : Rp 2048 2048 (V c main_v6) f) :
    Rp 256 512 (iblk7 V c 2 t) (fun i j => f (256 * t.val + i) (1024 + j)) := fun i j => by
  have hN : (t : ℕ) < 8 := t.isLt.trans_eq N_7
  refine Eq.trans ?_ (h ⟨256 * t.val + i, by omega⟩ ⟨1024 + j, by omega⟩)
  have hi : (cfg7.win 2).index t = ![t.val, 2] := by
    revert t; decide +kernel
  blk_ext [iblk7, hi]

theorem ib7_3 (t : Fin cfg7.N) {f : ℕ → ℕ → EReal} (h : Rp 2048 2048 (V c main_v6) f) :
    Rp 256 512 (iblk7 V c 3 t) (fun i j => f (256 * t.val + i) (1536 + j)) := fun i j => by
  have hN : (t : ℕ) < 8 := t.isLt.trans_eq N_7
  refine Eq.trans ?_ (h ⟨256 * t.val + i, by omega⟩ ⟨1536 + j, by omega⟩)
  have hi : (cfg7.win 3).index t = ![t.val, 3] := by
    revert t; decide +kernel
  blk_ext [iblk7, hi]

theorem ib7_4 (t : Fin cfg7.N) {f : ℕ → ℕ → ℕ → EReal} (h : R3 4 1024 512 (V c main_arg2) f) :
    R3 1 1024 512 (iblk7 V c 4 t) (fun k i j => f k i j) := fun k i j => by
  have hN : (t : ℕ) < 8 := t.isLt.trans_eq N_7
  refine Eq.trans ?_ (h ⟨k, by omega⟩ i j)
  have hi : (cfg7.win 4).index t = ![0, 0, 0] := by
    revert t; decide +kernel
  blk_ext [iblk7, hi]

theorem ib7_5 (t : Fin cfg7.N) {f : ℕ → ℕ → ℕ → EReal} (h : R3 4 1024 512 (V c main_arg2) f) :
    R3 1 1024 512 (iblk7 V c 5 t) (fun k i j => f (1 + k) i j) := fun k i j => by
  have hN : (t : ℕ) < 8 := t.isLt.trans_eq N_7
  refine Eq.trans ?_ (h ⟨1 + k, by omega⟩ i j)
  have hi : (cfg7.win 5).index t = ![1, 0, 0] := by
    revert t; decide +kernel
  blk_ext [iblk7, hi]

theorem ib7_6 (t : Fin cfg7.N) {f : ℕ → ℕ → ℕ → EReal} (h : R3 4 1024 512 (V c main_arg2) f) :
    R3 1 1024 512 (iblk7 V c 6 t) (fun k i j => f (2 + k) i j) := fun k i j => by
  have hN : (t : ℕ) < 8 := t.isLt.trans_eq N_7
  refine Eq.trans ?_ (h ⟨2 + k, by omega⟩ i j)
  have hi : (cfg7.win 6).index t = ![2, 0, 0] := by
    revert t; decide +kernel
  blk_ext [iblk7, hi]

theorem ib7_7 (t : Fin cfg7.N) {f : ℕ → ℕ → ℕ → EReal} (h : R3 4 1024 512 (V c main_arg2) f) :
    R3 1 1024 512 (iblk7 V c 7 t) (fun k i j => f (3 + k) i j) := fun k i j => by
  have hN : (t : ℕ) < 8 := t.isLt.trans_eq N_7
  refine Eq.trans ?_ (h ⟨3 + k, by omega⟩ i j)
  have hi : (cfg7.win 7).index t = ![3, 0, 0] := by
    revert t; decide +kernel
  blk_ext [iblk7, hi]

theorem ib7_8 (t : Fin cfg7.N) {f : ℕ → ℕ → EReal} (h : Rp 2048 1024 (V c main_arg0) f) :
    Rp 256 1024 (iblk7 V c 8 t) (fun i j => f (256 * t.val + i) j) := fun i j => by
  have hN : (t : ℕ) < 8 := t.isLt.trans_eq N_7
  refine Eq.trans ?_ (h ⟨256 * t.val + i, by omega⟩ j)
  have hi : (cfg7.win 8).index t = ![t.val, 0] := by
    revert t; decide +kernel
  blk_ext [iblk7, hi]

theorem ib7_9 (t : Fin cfg7.N) {f : ℕ → ℕ → EReal} (h : Rp 1 1024 (V c main_arg1) f) :
    Rp 1 1024 (iblk7 V c 9 t) (fun i j => f i j) := fun i j => by
  have hN : (t : ℕ) < 8 := t.isLt.trans_eq N_7
  refine Eq.trans ?_ (h i j)
  have hi : (cfg7.win 9).index t = ![0, 0] := by
    revert t; decide +kernel
  blk_ext [iblk7, hi]

theorem ib7_10 (t : Fin cfg7.N) {f : ℕ → ℕ → EReal} (h : Rp 2048 1024 (V c main_arg11) f) :
    Rp 256 1024 (iblk7 V c 10 t) (fun i j => f (256 * t.val + i) j) := fun i j => by
  have hN : (t : ℕ) < 8 := t.isLt.trans_eq N_7
  refine Eq.trans ?_ (h ⟨256 * t.val + i, by omega⟩ j)
  have hi : (cfg7.win 10).index t = ![t.val, 0] := by
    revert t; decide +kernel
  blk_ext [iblk7, hi]

end Cert.StartArr
-- ==== Proof.StartOut.lean ====
/- What each kernel leaves in an output block, as its arithmetic of the blocks it was given. -/
module

public import proofs.«01_k».proof.Proof.StartPay
public import proofs.«01_k».proof.Proof.Gen.Kernel3Ideal.Frame
public import Idealize.ShloMosaic.Lib.Pipeline.ValueKit

@[expose] public section

set_option maxRecDepth 16384

noncomputable section

namespace Cert.StartArr

open Idealize.ShloMosaic Idealize.ShloMosaic.TcCoe Cert.Kernel3Ideal Cert.Kernel3Ideal.Gen Cert.Ext Cert.Start Cert.StartPay
open Idealize.ShloMosaic.View renaming ld_unit_lit → ld1, canon_cons_unit_lit → canon1

theorem o0_2 (x0 : Vec Ideal S256x1024 .f32) (x1 : Vec Ideal S1x1024 .f32) :
    out0_2 x0 x1 = k0_pay1 (F := Ideal) x0 x1 := by
  unfold out0_2
  rw [canon1 _ _ _ (by decide), ld1 _ x0 (by decide), ld1 _ x1 (by decide)]

theorem o1_2 (x0 : Vec Ideal S2048x1024 .bf16) (x1 : Vec Ideal S1x1024x512 .bf16) :
    out1_2 x0 x1 = k1_pay1 (F := Ideal) x0 x1 := by
  unfold out1_2
  rw [canon1 _ _ _ (by decide), ld1 _ x0 (by decide), ld1 _ x1 (by decide)]

theorem o2_3 (x0 : Vec Ideal S2048x256 .f32) (x1 : Vec Ideal S4x256 .f32) (x2 : Vec Ideal S1x256 .f32) :
    out2_3 x0 x1 x2 = k2_pay1 (F := Ideal) (k2_pay3 (F := Ideal) x0 x2 (View.ld x1 r2_2) (View.ld x1 r2_3) (View.ld x1 r2_4) (View.ld x1 r2_5)) := by
  unfold out2_3 k2_pay4
  rw [canon1 _ _ _ (by decide), ld1 _ x0 (by decide), ld1 _ x2 (by decide)]

theorem o2_4 (x0 : Vec Ideal S2048x256 .f32) (x1 : Vec Ideal S4x256 .f32) (x2 : Vec Ideal S1x256 .f32) :
    out2_4 x0 x1 x2 = k2_pay2 (F := Ideal) (k2_pay3 (F := Ideal) x0 x2 (View.ld x1 r2_2) (View.ld x1 r2_3) (View.ld x1 r2_4) (View.ld x1 r2_5)) := by
  unfold out2_4 k2_pay4
  rw [canon1 _ _ _ (by decide), ld1 _ x0 (by decide), ld1 _ x2 (by decide)]

theorem o3_3 (x0 : Vec Ideal S2048x256 .bf16) (x1 : Vec Ideal S1x256x512 .bf16) (x2 : Vec Ideal S1x1x512 .f32) :
    out3_3 x0 x1 x2 = k3_pay2 (F := Ideal) x0 x1 x2 := by
  unfold out3_3
  rw [canon1 _ _ _ (by decide), ld1 _ x0 (by decide), ld1 _ x1 (by decide), ld1 _ x2 (by decide)]

theorem o3_4 (x0 : Vec Ideal S2048x256 .bf16) (x1 : Vec Ideal S1x256x512 .bf16) (x2 : Vec Ideal S1x1x512 .f32) :
    out3_4 x0 x1 x2 = k3_pay3 (F := Ideal) x0 x1 x2 := by
  unfold out3_4
  rw [canon1 _ _ _ (by decide), ld1 _ x0 (by decide), ld1 _ x1 (by decide), ld1 _ x2 (by decide)]

theorem o4_5 (x0 : Vec Ideal S2048x256 .bf16) (x1 : Vec Ideal S2048x256 .bf16) (x2 : Vec Ideal S2048x256 .bf16) (x3 : Vec Ideal S1x256x512 .bf16) (x4 : Vec Ideal S2048x256 .f32) :
    out4_5 x0 x1 x2 x3 x4 = k4_pay1 (F := Ideal) x3 x0 x1 x4 := by
  unfold out4_5
  rw [canon1 _ _ _ (by decide), ld1 _ x3 (by decide), ld1 _ x0 (by decide), ld1 _ x1 (by decide), ld1 _ x4 (by decide)]

theorem o4_6 (x0 : Vec Ideal S2048x256 .bf16) (x1 : Vec Ideal S2048x256 .bf16) (x2 : Vec Ideal S2048x256 .bf16) (x3 : Vec Ideal S1x256x512 .bf16) (x4 : Vec Ideal S2048x256 .f32) :
    out4_6 x0 x1 x2 x3 x4 = View.canon (Val := Elt Ideal) (e := .bf16) [⟨r4_3, k4_pay3 (F := Ideal) x2 x1⟩, ⟨r4_2, k4_pay2 (F := Ideal) x2 x0⟩] := by
  unfold out4_6
  rw [ld1 _ x0 (by decide), ld1 _ x1 (by decide), ld1 _ x2 (by decide)]

theorem o5_3 (x0 : Vec Ideal S2048x256 .f32) (x1 : Vec Ideal S2048x256 .f32) (x2 : Vec Ideal S4x256 .f32) :
    out5_3 x0 x1 x2 = k5_pay2 (F := Ideal) (k5_pay8 (F := Ideal) x0 (k5_pay5 (F := Ideal) x0 (View.ld x2 r5_1) (View.ld x2 r5_2)) (View.ld x2 r5_3) (iota .tc S2048x256 32 [0] iota_S2048x256_d0_w32) (View.ld x2 r5_4)) := by
  unfold out5_3
  rw [canon1 _ _ _ (by decide), ld1 _ x0 (by decide)]

theorem o5_4 (x0 : Vec Ideal S2048x256 .f32) (x1 : Vec Ideal S2048x256 .f32) (x2 : Vec Ideal S4x256 .f32) :
    out5_4 x0 x1 x2 = View.canon (Val := Elt Ideal) (e := .f32) [⟨r5_4, k5_pay1 (F := Ideal) (k5_pay9 (F := Ideal) x0 x1)⟩, ⟨r5_3, k5_pay7 (F := Ideal) x0 x1⟩, ⟨r5_2, k5_pay6 (F := Ideal) x0 x1⟩, ⟨r5_1, k5_pay4 (F := Ideal) x0 x1⟩] := by
  unfold out5_4
  rw [ld1 _ x0 (by decide), ld1 _ x1 (by decide)]

theorem o5_5 (x0 : Vec Ideal S2048x256 .f32) (x1 : Vec Ideal S2048x256 .f32) (x2 : Vec Ideal S4x256 .f32) :
    out5_5 x0 x1 x2 = k5_pay3 (F := Ideal) x0 := by
  unfold out5_5
  rw [canon1 _ _ _ (by decide), ld1 _ x0 (by decide)]

theorem o6_2 (x0 : Vec Ideal S2048x1024 .bf16) (x1 : Vec Ideal S2048x512 .bf16) :
    out6_2 x0 x1 = k6_pay1 (F := Ideal) x0 x1 := by
  unfold out6_2
  rw [canon1 _ _ _ (by decide), ld1 _ x0 (by decide), ld1 _ x1 (by decide)]

theorem o7_11 (x0 : Vec Ideal S256x512 .bf16) (x1 : Vec Ideal S256x512 .bf16) (x2 : Vec Ideal S256x512 .bf16) (x3 : Vec Ideal S256x512 .bf16) (x4 : Vec Ideal S1x1024x512 .bf16) (x5 : Vec Ideal S1x1024x512 .bf16) (x6 : Vec Ideal S1x1024x512 .bf16) (x7 : Vec Ideal S1x1024x512 .bf16) (x8 : Vec Ideal S256x1024 .f32) (x9 : Vec Ideal S1x1024 .f32) (x10 : Vec Ideal S256x1024 .f32) :
    out7_11 x0 x1 x2 x3 x4 x5 x6 x7 x8 x9 x10 = k7_pay6 (F := Ideal) (k7_pay7 (F := Ideal) x0 x4 x1 x5 x2 x6 x3 x7) x8 x9 (k7_pay8 (F := Ideal) x8) (Scalar.ofBits .f32 0x44800000#32 : Ideal .f32) x10 := by
  unfold out7_11 k7_pay9 k7_pay10
  rw [canon1 _ _ _ (by decide), ld1 _ x0 (by decide), ld1 _ x1 (by decide), ld1 _ x2 (by decide), ld1 _ x3 (by decide), ld1 _ x4 (by decide), ld1 _ x5 (by decide), ld1 _ x6 (by decide), ld1 _ x7 (by decide), ld1 _ x8 (by decide), ld1 _ x9 (by decide), ld1 _ x10 (by decide)]

theorem o7_12 (x0 : Vec Ideal S256x512 .bf16) (x1 : Vec Ideal S256x512 .bf16) (x2 : Vec Ideal S256x512 .bf16) (x3 : Vec Ideal S256x512 .bf16) (x4 : Vec Ideal S1x1024x512 .bf16) (x5 : Vec Ideal S1x1024x512 .bf16) (x6 : Vec Ideal S1x1024x512 .bf16) (x7 : Vec Ideal S1x1024x512 .bf16) (x8 : Vec Ideal S256x1024 .f32) (x9 : Vec Ideal S1x1024 .f32) (x10 : Vec Ideal S256x1024 .f32) :
    out7_12 x0 x1 x2 x3 x4 x5 x6 x7 x8 x9 x10 = k7_pay4 (F := Ideal) (k7_pay7 (F := Ideal) x0 x4 x1 x5 x2 x6 x3 x7) x8 x9 (k7_pay8 (F := Ideal) x8) (Scalar.ofBits .f32 0x44800000#32 : Ideal .f32) x10 := by
  unfold out7_12 k7_pay9 k7_pay10
  rw [canon1 _ _ _ (by decide), ld1 _ x0 (by decide), ld1 _ x1 (by decide), ld1 _ x2 (by decide), ld1 _ x3 (by decide), ld1 _ x4 (by decide), ld1 _ x5 (by decide), ld1 _ x6 (by decide), ld1 _ x7 (by decide), ld1 _ x8 (by decide), ld1 _ x9 (by decide), ld1 _ x10 (by decide)]

theorem o7_13 (x0 : Vec Ideal S256x512 .bf16) (x1 : Vec Ideal S256x512 .bf16) (x2 : Vec Ideal S256x512 .bf16) (x3 : Vec Ideal S256x512 .bf16) (x4 : Vec Ideal S1x1024x512 .bf16) (x5 : Vec Ideal S1x1024x512 .bf16) (x6 : Vec Ideal S1x1024x512 .bf16) (x7 : Vec Ideal S1x1024x512 .bf16) (x8 : Vec Ideal S256x1024 .f32) (x9 : Vec Ideal S1x1024 .f32) (x10 : Vec Ideal S256x1024 .f32) :
    out7_13 x0 x1 x2 x3 x4 x5 x6 x7 x8 x9 x10 = k7_pay5 (F := Ideal) (k7_pay7 (F := Ideal) x0 x4 x1 x5 x2 x6 x3 x7) x8 (k7_pay8 (F := Ideal) x8) (Scalar.ofBits .f32 0x44800000#32 : Ideal .f32) := by
  unfold out7_13 k7_pay9 k7_pay10
  rw [canon1 _ _ _ (by decide), ld1 _ x0 (by decide), ld1 _ x1 (by decide), ld1 _ x2 (by decide), ld1 _ x3 (by decide), ld1 _ x4 (by decide), ld1 _ x5 (by decide), ld1 _ x6 (by decide), ld1 _ x7 (by decide), ld1 _ x8 (by decide)]

/-! Windows stored and loaded by parts. -/

theorem two_canon {p q : S1x256x256.Idx → EReal} {P Q : ℕ → ℕ → EReal} (hp : R3 1 256 256 p (fun _ => P)) (hq : R3 1 256 256 q (fun _ => Q)) :
    R3 1 256 512 (View.canon (Val := Elt Ideal) (e := .bf16) [⟨r4_3, p⟩, ⟨r4_2, q⟩]) (fun _ i j => if j < 256 then Q i j else P i (j - 256)) := fun k i j => by
  refine View.canon_eq_of_allAt _ _ _ (cover4_6 (F := Ideal) p q _) (View.allAt_cons_unit _ _ _ _ _ (fun x hx => ?_) (View.allAt_cons_unit _ _ _ _ _ (fun x hx => ?_) (View.allAt_nil _ _)))
  · have h1 : (i : ℕ) = 0 + ((x 1 : Fin 256) : ℕ) := hx 1
    have h2 : (j : ℕ) = 256 + ((x 2 : Fin 256) : ℕ) := hx 2
    refine (hp.at x).trans ?_
    show _ = (if (j : ℕ) < 256 then Q i j else P i (j - 256) : EReal)
    rw [if_neg (by omega), h1, h2, Nat.zero_add, Nat.add_sub_cancel_left]
  · have h1 : (i : ℕ) = 0 + ((x 1 : Fin 256) : ℕ) := hx 1
    have h2 : (j : ℕ) = 0 + ((x 2 : Fin 256) : ℕ) := hx 2
    have hx2 : ((x 2 : Fin 256) : ℕ) < 256 := (x 2 : Fin 256).isLt
    refine (hq.at x).trans ?_
    show _ = (if (j : ℕ) < 256 then Q i j else P i (j - 256) : EReal)
    rw [if_pos (by omega), h1, h2, Nat.zero_add, Nat.zero_add]

theorem four_canon {p q r s : S1x256.Idx → EReal} {f : ℕ → ℕ → EReal} (hp : Rp 1 256 p (fun _ => f 0)) (hq : Rp 1 256 q (fun _ => f 1)) (hr : Rp 1 256 r (fun _ => f 2)) (hs : Rp 1 256 s (fun _ => f 3)) :
    Rp 4 256 (View.canon (Val := Elt Ideal) (e := .f32) [⟨r5_4, p⟩, ⟨r5_3, q⟩, ⟨r5_2, r⟩, ⟨r5_1, s⟩]) f := fun i j => by
  have row : ∀ (o : ℕ) (x : S1x256.Idx) (v : S1x256.Idx → EReal), Rp 1 256 v (fun _ => f o) → (i : ℕ) = o + ((x 0 : Fin 1) : ℕ) → (j : ℕ) = 0 + ((x 1 : Fin 256) : ℕ) →
      v x = f i j := fun o x v hv h0 h1 => by
    have hx0 : ((x 0 : Fin 1) : ℕ) < 1 := (x 0 : Fin 1).isLt
    rw [hv.at x, h1, Nat.zero_add, show (i : ℕ) = o by omega]
  exact View.canon_eq_of_allAt _ _ _ (cover5_4 (F := Ideal) p q r s _) (View.allAt_cons_unit _ _ _ _ _ (fun x hx => row 0 x p hp (hx 0) (hx 1)) (View.allAt_cons_unit _ _ _ _ _ (fun x hx => row 1 x q hq (hx 0) (hx 1))
    (View.allAt_cons_unit _ _ _ _ _ (fun x hx => row 2 x r hr (hx 0) (hx 1)) (View.allAt_cons_unit _ _ _ _ _ (fun x hx => row 3 x s hs (hx 0) (hx 1)) (View.allAt_nil _ _)))))

theorem tap0 {x : S4x256.Idx → EReal} {f : ℕ → ℕ → EReal} (h : Rp 4 256 x f) :
    Rp 1 256 (View.ld (Val := Elt Ideal) (e' := .f32) x r5_4) (fun _ j => f 0 j) := fun i j => by
  refine Eq.trans (congrArg x ?_) (h 0 j)
  refine (eq_ix2 _).trans (congrArg₂ ix2 (Fin.ext ?_) (Fin.ext ?_))
  · show 0 + 1 * (i : ℕ) = 0; omega
  · show 0 + 1 * (j : ℕ) = j; omega

theorem tap1 {x : S4x256.Idx → EReal} {f : ℕ → ℕ → EReal} (h : Rp 4 256 x f) :
    Rp 1 256 (View.ld (Val := Elt Ideal) (e' := .f32) x r5_3) (fun _ j => f 1 j) := fun i j => by
  refine Eq.trans (congrArg x ?_) (h 1 j)
  refine (eq_ix2 _).trans (congrArg₂ ix2 (Fin.ext ?_) (Fin.ext ?_))
  · show 1 + 1 * (i : ℕ) = 1; omega
  · show 0 + 1 * (j : ℕ) = j; omega

theorem tap2 {x : S4x256.Idx → EReal} {f : ℕ → ℕ → EReal} (h : Rp 4 256 x f) :
    Rp 1 256 (View.ld (Val := Elt Ideal) (e' := .f32) x r5_2) (fun _ j => f 2 j) := fun i j => by
  refine Eq.trans (congrArg x ?_) (h 2 j)
  refine (eq_ix2 _).trans (congrArg₂ ix2 (Fin.ext ?_) (Fin.ext ?_))
  · show 2 + 1 * (i : ℕ) = 2; omega
  · show 0 + 1 * (j : ℕ) = j; omega

theorem tap3 {x : S4x256.Idx → EReal} {f : ℕ → ℕ → EReal} (h : Rp 4 256 x f) :
    Rp 1 256 (View.ld (Val := Elt Ideal) (e' := .f32) x r5_1) (fun _ j => f 3 j) := fun i j => by
  refine Eq.trans (congrArg x ?_) (h 3 j)
  refine (eq_ix2 _).trans (congrArg₂ ix2 (Fin.ext ?_) (Fin.ext ?_))
  · show 3 + 1 * (i : ℕ) = 3; omega
  · show 0 + 1 * (j : ℕ) = j; omega

end Cert.StartArr
-- ==== Proof.StartArr.lean ====
/- What each kernel leaves in its arrays: every block is the reals of Start.lean, so the array is. -/
module

public import proofs.«01_k».proof.Proof.StartBlk
public import proofs.«01_k».proof.Proof.StartOut
public import Idealize.ShloMosaic.Lib.Pipeline.ValueKit

@[expose] public section

set_option maxRecDepth 16384

noncomputable section

namespace Cert.StartArr

open Idealize.ShloMosaic Idealize.ShloMosaic.TcCoe Cert.Kernel3Ideal Cert.Kernel3Ideal.Gen Cert.Ext Cert.Start Cert.StartPay

variable {V : (c : Dev nD) → (b : Ref sig .tc) → Buf (Elt Ideal) ((c : Thread nD τ).loc b)} (c : Dev nD) (I : Start.In)
theorem arr0_2 (h_arg0 : Rp 2048 1024 (V c main_arg0) I.h) (h_arg1 : Rp 1 1024 (V c main_arg1) (fun _ j => I.g j)) :
    Rp 2048 1024 ((dat0 V c).arrAt 2 cfg0.N) I.xn := by
  intro i j
  refine (dat0 V c).arrAt_forall_of_covers 2 (fun y v => v = I.xn (y 0 : Fin 2048) (y 1 : Fin 1024)) (by decide +kernel) (fun t hf y => ?_) (ix2 i j)
  rw [after0_2]
  have hN : (t : ℕ) < 8 := t.isLt.trans_eq N_0
  have hi : (cfg0.win 2).index t = ![t.val, 0] := by
    clear hf y hN; revert t; decide +kernel
  have key : Rp 256 1024 (out0_2 (iblk0 V c 0 t) (iblk0 V c 1 t)) (fun i j => I.xn (256 * t.val + i) j) := by
    rw [o0_2]
    exact Rp.of_eq (k0_1 (ib0_0 c t h_arg0) (ib0_1 c t h_arg1)) fun i j _ _ => rfl
  generalize iblk0 V c 0 t = x0, iblk0 V c 1 t = x1 at key ⊢
  rw [key.at y]
  blk_simp [hi]
  rw [Nat.mul_comm 256]

theorem arr1_2 (h_v0 : Rp 2048 1024 (V c main_v0) I.xn) (h_arg2 : R3 4 1024 512 (V c main_arg2) I.wi) :
    Rp 2048 2048 ((dat1 V c).arrAt 2 cfg1.N) I.pj := by
  intro i j
  refine (dat1 V c).arrAt_forall_of_covers 2 (fun y v => v = I.pj (y 0 : Fin 2048) (y 1 : Fin 2048)) (by decide +kernel) (fun t hf y => ?_) (ix2 i j)
  rw [after1_2]
  have hN : (t : ℕ) < 4 := t.isLt.trans_eq N_1
  have hi : (cfg1.win 2).index t = ![0, t.val] := by
    clear hf y hN; revert t; decide +kernel
  have key : Rp 2048 512 (out1_2 (iblk1 V c 0 t) (iblk1 V c 1 t)) (fun i j => I.pj i (512 * t.val + j)) := by
    rw [o1_2]
    refine Rp.of_eq (k1_1 (ib1_0 c t h_v0) (ib1_1 c t h_arg2)) fun i j _ hj => ?_
    simp only [Start.In.pj, Nat.add_zero, show (512 * t.val + j) / 512 = t.val by omega, show (512 * t.val + j) % 512 = j by omega]
  generalize iblk1 V c 0 t = x0, iblk1 V c 1 t = x1 at key ⊢
  rw [key.at y]
  blk_simp [hi]
  rw [Nat.mul_comm 512]

theorem arr2_3 (h_v1 : Rp 2048 2048 (V c main_v1) I.pj) (h_arg3 : Rp 4 1024 (V c main_arg3) I.cw) (h_arg4 : Rp 1 1024 (V c main_arg4) (fun _ j => I.cb j)) :
    Rp 2048 1024 ((dat2 V c).arrAt 3 cfg2.N) I.rc := by
  intro i j
  refine (dat2 V c).arrAt_forall_of_covers 3 (fun y v => v = I.rc (y 0 : Fin 2048) (y 1 : Fin 1024)) (by decide +kernel) (fun t hf y => ?_) (ix2 i j)
  rw [after2_3]
  have hN : (t : ℕ) < 4 := t.isLt.trans_eq N_2
  have hi : (cfg2.win 3).index t = ![0, t.val] := by
    clear hf y hN; revert t; decide +kernel
  have key : Rp 2048 256 (out2_3 (iblk2 V c 0 t) (iblk2 V c 1 t) (iblk2 V c 2 t)) (fun i j => I.rc i (256 * t.val + j)) := by
    rw [o2_3]
    have hx := Rp.of_eq (ib2_0 c t h_v1) (g := fun i j => I.x i (256 * t.val + j)) fun i j _ _ => by show I.pj i _ = I.pj i _; congr 1; omega
    exact Rp.of_eq (k2_1 (k2_3 hx (ib2_2 c t h_arg4) (tap3 (ib2_1 c t h_arg3)) (tap2 (ib2_1 c t h_arg3)) (tap1 (ib2_1 c t h_arg3)) (tap0 (ib2_1 c t h_arg3)))) fun i j _ _ => rfl
  generalize iblk2 V c 0 t = x0, iblk2 V c 1 t = x1, iblk2 V c 2 t = x2 at key ⊢
  rw [key.at y]
  blk_simp [hi]
  rw [Nat.mul_comm 256]

theorem arr2_4 (h_v1 : Rp 2048 2048 (V c main_v1) I.pj) (h_arg3 : Rp 4 1024 (V c main_arg3) I.cw) (h_arg4 : Rp 1 1024 (V c main_arg4) (fun _ j => I.cb j)) :
    Rp 2048 1024 ((dat2 V c).arrAt 4 cfg2.N) I.rc := by
  intro i j
  refine (dat2 V c).arrAt_forall_of_covers 4 (fun y v => v = I.rc (y 0 : Fin 2048) (y 1 : Fin 1024)) (by decide +kernel) (fun t hf y => ?_) (ix2 i j)
  rw [after2_4]
  have hN : (t : ℕ) < 4 := t.isLt.trans_eq N_2
  have hi : (cfg2.win 4).index t = ![0, t.val] := by
    clear hf y hN; revert t; decide +kernel
  have key : Rp 2048 256 (out2_4 (iblk2 V c 0 t) (iblk2 V c 1 t) (iblk2 V c 2 t)) (fun i j => I.rc i (256 * t.val + j)) := by
    rw [o2_4]
    have hx := Rp.of_eq (ib2_0 c t h_v1) (g := fun i j => I.x i (256 * t.val + j)) fun i j _ _ => by show I.pj i _ = I.pj i _; congr 1; omega
    exact Rp.of_eq (k2_2 (k2_3 hx (ib2_2 c t h_arg4) (tap3 (ib2_1 c t h_arg3)) (tap2 (ib2_1 c t h_arg3)) (tap1 (ib2_1 c t h_arg3)) (tap0 (ib2_1 c t h_arg3)))) fun i j _ _ => rfl
  generalize iblk2 V c 0 t = x0, iblk2 V c 1 t = x1, iblk2 V c 2 t = x2 at key ⊢
  rw [key.at y]
  blk_simp [hi]
  rw [Nat.mul_comm 256]

theorem arr3_3 (h_v2_1 : Rp 2048 1024 (V c main_v2_1) I.rc) (h_arg5 : R3 4 256 512 (V c main_arg5) I.wg) (h_arg6 : R3 4 1 512 (V c main_arg6) (fun n _ j => I.bg n j)) :
    Rp 2048 1024 ((dat3 V c).arrAt 3 cfg3.N) I.gi := by
  intro i j
  refine (dat3 V c).arrAt_forall_of_covers 3 (fun y v => v = I.gi (y 0 : Fin 2048) (y 1 : Fin 1024)) (by decide +kernel) (fun t hf y => ?_) (ix2 i j)
  rw [after3_3]
  have hN : (t : ℕ) < 4 := t.isLt.trans_eq N_3
  have hi : (cfg3.win 3).index t = ![0, t.val] := by
    clear hf y hN; revert t; decide +kernel
  have key : Rp 2048 256 (out3_3 (iblk3 V c 0 t) (iblk3 V c 1 t) (iblk3 V c 2 t)) (fun i j => I.gi i (256 * t.val + j)) := by
    rw [o3_3]
    refine Rp.of_eq (k3_2 (ib3_0 c t h_v2_1) (ib3_1 c t h_arg5) (ib3_2 c t h_arg6)) fun i j _ hj => ?_
    simp only [Start.In.gi, Start.In.gt, Nat.add_zero, show (256 * t.val + j) / 256 = t.val by omega, show (256 * t.val + j) % 256 = j by omega]
  generalize iblk3 V c 0 t = x0, iblk3 V c 1 t = x1, iblk3 V c 2 t = x2 at key ⊢
  rw [key.at y]
  blk_simp [hi]
  rw [Nat.mul_comm 256]

theorem arr3_4 (h_v2_1 : Rp 2048 1024 (V c main_v2_1) I.rc) (h_arg5 : R3 4 256 512 (V c main_arg5) I.wg) (h_arg6 : R3 4 1 512 (V c main_arg6) (fun n _ j => I.bg n j)) :
    Rp 2048 1024 ((dat3 V c).arrAt 4 cfg3.N) I.gr := by
  intro i j
  refine (dat3 V c).arrAt_forall_of_covers 4 (fun y v => v = I.gr (y 0 : Fin 2048) (y 1 : Fin 1024)) (by decide +kernel) (fun t hf y => ?_) (ix2 i j)
  rw [after3_4]
  have hN : (t : ℕ) < 4 := t.isLt.trans_eq N_3
  have hi : (cfg3.win 4).index t = ![0, t.val] := by
    clear hf y hN; revert t; decide +kernel
  have key : Rp 2048 256 (out3_4 (iblk3 V c 0 t) (iblk3 V c 1 t) (iblk3 V c 2 t)) (fun i j => I.gr i (256 * t.val + j)) := by
    rw [o3_4]
    refine Rp.of_eq (k3_3 (ib3_0 c t h_v2_1) (ib3_1 c t h_arg5) (ib3_2 c t h_arg6)) fun i j _ hj => ?_
    simp only [Start.In.gr, Start.In.gt, Nat.add_zero, show (256 * t.val + j) / 256 = t.val by omega, show (256 * t.val + j) % 256 = j by omega]
  generalize iblk3 V c 0 t = x0, iblk3 V c 1 t = x1, iblk3 V c 2 t = x2 at key ⊢
  rw [key.at y]
  blk_simp [hi]
  rw [Nat.mul_comm 256]

theorem arr4_5 (h_arg8 : Rp 2048 1024 (V c main_arg8) I.dgi) (h_arg9 : Rp 2048 1024 (V c main_arg9) I.dgr) (h_v2_1 : Rp 2048 1024 (V c main_v2_1) I.rc) (h_arg5 : R3 4 256 512 (V c main_arg5) I.wg) (h_arg10 : Rp 2048 1024 (V c main_arg10) I.d1) :
    Rp 2048 1024 ((dat4 V c).arrAt 5 cfg4.N) I.dr := by
  intro i j
  refine (dat4 V c).arrAt_forall_of_covers 5 (fun y v => v = I.dr (y 0 : Fin 2048) (y 1 : Fin 1024)) (by decide +kernel) (fun t hf y => ?_) (ix2 i j)
  rw [after4_5]
  have hN : (t : ℕ) < 4 := t.isLt.trans_eq N_4
  have hi : (cfg4.win 5).index t = ![0, t.val] := by
    clear hf y hN; revert t; decide +kernel
  have key : Rp 2048 256 (out4_5 (iblk4 V c 0 t) (iblk4 V c 1 t) (iblk4 V c 2 t) (iblk4 V c 3 t) (iblk4 V c 4 t)) (fun i j => I.dr i (256 * t.val + j)) := by
    rw [o4_5]
    refine Rp.of_eq (k4_1 (ib4_3 c t h_arg5) (ib4_0 c t h_arg8) (ib4_1 c t h_arg9) (ib4_4 c t h_arg10)) fun i j _ hj => ?_
    simp only [Start.In.dr, Nat.add_zero, show (256 * t.val + j) / 256 = t.val by omega, show (256 * t.val + j) % 256 = j by omega]
  generalize iblk4 V c 0 t = x0, iblk4 V c 1 t = x1, iblk4 V c 2 t = x2, iblk4 V c 3 t = x3, iblk4 V c 4 t = x4 at key ⊢
  rw [key.at y]
  blk_simp [hi]
  rw [Nat.mul_comm 256]

theorem arr4_6 (h_arg8 : Rp 2048 1024 (V c main_arg8) I.dgi) (h_arg9 : Rp 2048 1024 (V c main_arg9) I.dgr) (h_v2_1 : Rp 2048 1024 (V c main_v2_1) I.rc) (h_arg5 : R3 4 256 512 (V c main_arg5) I.wg) (h_arg10 : Rp 2048 1024 (V c main_arg10) I.d1) :
    R3 4 256 512 ((dat4 V c).arrAt 6 cfg4.N) I.dwg := by
  intro k i j
  refine (dat4 V c).arrAt_forall_of_covers 6 (fun y v => v = I.dwg (y 0 : Fin 4) (y 1 : Fin 256) (y 2 : Fin 512)) (by decide +kernel) (fun t hf y => ?_) (ix3 k i j)
  rw [after4_6]
  have hN : (t : ℕ) < 4 := t.isLt.trans_eq N_4
  have hi : (cfg4.win 6).index t = ![t.val, 0, 0] := by
    clear hf y hN; revert t; decide +kernel
  have key : R3 1 256 512 (out4_6 (iblk4 V c 0 t) (iblk4 V c 1 t) (iblk4 V c 2 t) (iblk4 V c 3 t) (iblk4 V c 4 t)) (fun k i j => I.dwg (t.val + k) i j) := by
    rw [o4_6]
    refine R3.of_eq (two_canon (k4_3 (ib4_2 c t h_v2_1) (ib4_1 c t h_arg9)) (k4_2 (ib4_2 c t h_v2_1) (ib4_0 c t h_arg8))) fun k i j hk _ _ => ?_
    obtain rfl : k = 0 := by omega
    rfl
  generalize iblk4 V c 0 t = x0, iblk4 V c 1 t = x1, iblk4 V c 2 t = x2, iblk4 V c 3 t = x3, iblk4 V c 4 t = x4 at key ⊢
  rw [key.at y]
  blk_simp [hi]

theorem arr5_3 (h_v4_0 : Rp 2048 1024 (V c main_v4_0) I.dr) (h_v1 : Rp 2048 2048 (V c main_v1) I.pj) (h_arg3 : Rp 4 1024 (V c main_arg3) I.cw) :
    Rp 2048 1024 ((dat5 V c).arrAt 3 cfg5.N) I.dx := by
  intro i j
  refine (dat5 V c).arrAt_forall_of_covers 3 (fun y v => v = I.dx (y 0 : Fin 2048) (y 1 : Fin 1024)) (by decide +kernel) (fun t hf y => ?_) (ix2 i j)
  rw [after5_3]
  have hN : (t : ℕ) < 4 := t.isLt.trans_eq N_5
  have hi : (cfg5.win 3).index t = ![0, t.val] := by
    clear hf y hN; revert t; decide +kernel
  have key : Rp 2048 256 (out5_3 (iblk5 V c 0 t) (iblk5 V c 1 t) (iblk5 V c 2 t)) (fun i j => I.dx i (256 * t.val + j)) := by
    rw [o5_3]
    exact Rp.of_eq (k5_8 (ib5_0 c t h_v4_0) (tap3 (ib5_2 c t h_arg3)) (tap2 (ib5_2 c t h_arg3)) (tap1 (ib5_2 c t h_arg3)) (tap0 (ib5_2 c t h_arg3))) fun i j _ _ => rfl
  generalize iblk5 V c 0 t = x0, iblk5 V c 1 t = x1, iblk5 V c 2 t = x2 at key ⊢
  rw [key.at y]
  blk_simp [hi]
  rw [Nat.mul_comm 256]

theorem arr5_4 (h_v4_0 : Rp 2048 1024 (V c main_v4_0) I.dr) (h_v1 : Rp 2048 2048 (V c main_v1) I.pj) (h_arg3 : Rp 4 1024 (V c main_arg3) I.cw) :
    Rp 4 1024 ((dat5 V c).arrAt 4 cfg5.N) I.dcw := by
  intro i j
  refine (dat5 V c).arrAt_forall_of_covers 4 (fun y v => v = I.dcw (y 0 : Fin 4) (y 1 : Fin 1024)) (by decide +kernel) (fun t hf y => ?_) (ix2 i j)
  rw [after5_4]
  have hN : (t : ℕ) < 4 := t.isLt.trans_eq N_5
  have hi : (cfg5.win 4).index t = ![0, t.val] := by
    clear hf y hN; revert t; decide +kernel
  have key : Rp 4 256 (out5_4 (iblk5 V c 0 t) (iblk5 V c 1 t) (iblk5 V c 2 t)) (fun i j => I.dcw i (256 * t.val + j)) := by
    rw [o5_4]
    have hx := Rp.of_eq (ib5_1 c t h_v1) (g := fun i j => I.x i (256 * t.val + j)) fun i j _ _ => by show I.pj i _ = I.pj i _; congr 1; omega
    exact four_canon (f := fun i j => I.dcw i (256 * t.val + j)) (Rp.of_eq (k5_9 (ib5_0 c t h_v4_0) hx) fun i j _ _ => rfl) (Rp.of_eq (k5_7 (ib5_0 c t h_v4_0) hx) fun i j _ _ => rfl) (Rp.of_eq (k5_6 (ib5_0 c t h_v4_0) hx) fun i j _ _ => rfl)
      (Rp.of_eq (k5_4 (ib5_0 c t h_v4_0) hx) fun i j _ _ => by simp only [Start.In.dcw, sh, Nat.zero_le, if_true, Nat.sub_zero, Nat.sub_self])
  generalize iblk5 V c 0 t = x0, iblk5 V c 1 t = x1, iblk5 V c 2 t = x2 at key ⊢
  rw [key.at y]
  blk_simp [hi]
  rw [Nat.mul_comm 256]

theorem arr5_5 (h_v4_0 : Rp 2048 1024 (V c main_v4_0) I.dr) (h_v1 : Rp 2048 2048 (V c main_v1) I.pj) (h_arg3 : Rp 4 1024 (V c main_arg3) I.cw) :
    Rp 1 1024 ((dat5 V c).arrAt 5 cfg5.N) (fun _ j => I.dcb j) := by
  intro i j
  refine (dat5 V c).arrAt_forall_of_covers 5 (fun y v => v = (fun _ j => I.dcb j) (y 0 : Fin 1) (y 1 : Fin 1024)) (by decide +kernel) (fun t hf y => ?_) (ix2 i j)
  rw [after5_5]
  have hN : (t : ℕ) < 4 := t.isLt.trans_eq N_5
  have hi : (cfg5.win 5).index t = ![0, t.val] := by
    clear hf y hN; revert t; decide +kernel
  have key : Rp 1 256 (out5_5 (iblk5 V c 0 t) (iblk5 V c 1 t) (iblk5 V c 2 t)) (fun i j => (fun _ j => I.dcb j) i (256 * t.val + j)) := by
    rw [o5_5]
    exact Rp.of_eq (k5_3 (ib5_0 c t h_v4_0)) fun i j _ _ => rfl
  generalize iblk5 V c 0 t = x0, iblk5 V c 1 t = x1, iblk5 V c 2 t = x2 at key ⊢
  rw [key.at y]
  blk_simp [hi]
  rw [Nat.mul_comm 256]

theorem arr6_2 (h_v0 : Rp 2048 1024 (V c main_v0) I.xn) (h_v6 : Rp 2048 2048 (V c main_v6) I.dp) :
    R3 4 1024 512 ((dat6 V c).arrAt 2 cfg6.N) I.dwi := by
  intro k i j
  refine (dat6 V c).arrAt_forall_of_covers 2 (fun y v => v = I.dwi (y 0 : Fin 4) (y 1 : Fin 1024) (y 2 : Fin 512)) (by decide +kernel) (fun t hf y => ?_) (ix3 k i j)
  rw [after6_2]
  have hN : (t : ℕ) < 4 := t.isLt.trans_eq N_6
  have hi : (cfg6.win 2).index t = ![t.val, 0, 0] := by
    clear hf y hN; revert t; decide +kernel
  have key : R3 1 1024 512 (out6_2 (iblk6 V c 0 t) (iblk6 V c 1 t)) (fun k i j => I.dwi (t.val + k) i j) := by
    rw [o6_2]
    refine R3.of_eq (k6_1 (ib6_0 c t h_v0) (ib6_1 c t h_v6)) fun k i j hk _ _ => ?_
    obtain rfl : k = 0 := by omega
    simp only [Start.In.dwi, Nat.add_zero]
  generalize iblk6 V c 0 t = x0, iblk6 V c 1 t = x1 at key ⊢
  rw [key.at y]
  blk_simp [hi]

theorem arr7_11 (h_v6 : Rp 2048 2048 (V c main_v6) I.dp) (h_arg2 : R3 4 1024 512 (V c main_arg2) I.wi) (h_arg0 : Rp 2048 1024 (V c main_arg0) I.h) (h_arg1 : Rp 1 1024 (V c main_arg1) (fun _ j => I.g j)) (h_arg11 : Rp 2048 1024 (V c main_arg11) I.dh) :
    Rp 2048 1024 ((dat7 V c).arrAt 11 cfg7.N) I.dhm := by
  intro i j
  refine (dat7 V c).arrAt_forall_of_covers 11 (fun y v => v = I.dhm (y 0 : Fin 2048) (y 1 : Fin 1024)) (by decide +kernel) (fun t hf y => ?_) (ix2 i j)
  rw [after7_11]
  have hN : (t : ℕ) < 8 := t.isLt.trans_eq N_7
  have hi : (cfg7.win 11).index t = ![t.val, 0] := by
    clear hf y hN; revert t; decide +kernel
  have key : Rp 256 1024 (out7_11 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t)) (fun i j => I.dhm (256 * t.val + i) j) := by
    rw [o7_11]
    have hdx := Rp.of_eq (k7_7 (ib7_0 c t h_v6) (ib7_4 c t h_arg2) (ib7_1 c t h_v6) (ib7_5 c t h_arg2) (ib7_2 c t h_v6) (ib7_6 c t h_arg2) (ib7_3 c t h_v6) (ib7_7 c t h_arg2)) (g := fun i j => I.dn (256 * t.val + i) j) fun i j _ _ => by
      simp [Start.In.dn, Start.In.dnq]
    exact Rp.of_eq (k7_6 hdx (ib7_8 c t h_arg0) (ib7_9 c t h_arg1) (ib7_10 c t h_arg11)) fun i j _ _ => rfl
  generalize iblk7 V c 0 t = x0, iblk7 V c 1 t = x1, iblk7 V c 2 t = x2, iblk7 V c 3 t = x3, iblk7 V c 4 t = x4, iblk7 V c 5 t = x5, iblk7 V c 6 t = x6, iblk7 V c 7 t = x7, iblk7 V c 8 t = x8, iblk7 V c 9 t = x9, iblk7 V c 10 t = x10 at key ⊢
  rw [key.at y]
  blk_simp [hi]
  rw [Nat.mul_comm 256]

theorem arr7_12 (h_v6 : Rp 2048 2048 (V c main_v6) I.dp) (h_arg2 : R3 4 1024 512 (V c main_arg2) I.wi) (h_arg0 : Rp 2048 1024 (V c main_arg0) I.h) (h_arg1 : Rp 1 1024 (V c main_arg1) (fun _ j => I.g j)) (h_arg11 : Rp 2048 1024 (V c main_arg11) I.dh) :
    Rp 2048 1024 ((dat7 V c).arrAt 12 cfg7.N) I.dhm := by
  intro i j
  refine (dat7 V c).arrAt_forall_of_covers 12 (fun y v => v = I.dhm (y 0 : Fin 2048) (y 1 : Fin 1024)) (by decide +kernel) (fun t hf y => ?_) (ix2 i j)
  rw [after7_12]
  have hN : (t : ℕ) < 8 := t.isLt.trans_eq N_7
  have hi : (cfg7.win 12).index t = ![t.val, 0] := by
    clear hf y hN; revert t; decide +kernel
  have key : Rp 256 1024 (out7_12 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t)) (fun i j => I.dhm (256 * t.val + i) j) := by
    rw [o7_12]
    have hdx := Rp.of_eq (k7_7 (ib7_0 c t h_v6) (ib7_4 c t h_arg2) (ib7_1 c t h_v6) (ib7_5 c t h_arg2) (ib7_2 c t h_v6) (ib7_6 c t h_arg2) (ib7_3 c t h_v6) (ib7_7 c t h_arg2)) (g := fun i j => I.dn (256 * t.val + i) j) fun i j _ _ => by
      simp [Start.In.dn, Start.In.dnq]
    exact Rp.of_eq (k7_4 hdx (ib7_8 c t h_arg0) (ib7_9 c t h_arg1) (ib7_10 c t h_arg11)) fun i j _ _ => rfl
  generalize iblk7 V c 0 t = x0, iblk7 V c 1 t = x1, iblk7 V c 2 t = x2, iblk7 V c 3 t = x3, iblk7 V c 4 t = x4, iblk7 V c 5 t = x5, iblk7 V c 6 t = x6, iblk7 V c 7 t = x7, iblk7 V c 8 t = x8, iblk7 V c 9 t = x9, iblk7 V c 10 t = x10 at key ⊢
  rw [key.at y]
  blk_simp [hi]
  rw [Nat.mul_comm 256]

theorem arr7_13 (h_v6 : Rp 2048 2048 (V c main_v6) I.dp) (h_arg2 : R3 4 1024 512 (V c main_arg2) I.wi) (h_arg0 : Rp 2048 1024 (V c main_arg0) I.h) (h_arg1 : Rp 1 1024 (V c main_arg1) (fun _ j => I.g j)) (h_arg11 : Rp 2048 1024 (V c main_arg11) I.dh) :
    R3 8 1 1024 ((dat7 V c).arrAt 13 cfg7.N) (fun t _ j => I.dgt t j) := by
  intro k i j
  refine (dat7 V c).arrAt_forall_of_covers 13 (fun y v => v = (fun t _ j => I.dgt t j) (y 0 : Fin 8) (y 1 : Fin 1) (y 2 : Fin 1024)) (by decide +kernel) (fun t hf y => ?_) (ix3 k i j)
  rw [after7_13]
  have hN : (t : ℕ) < 8 := t.isLt.trans_eq N_7
  have hi : (cfg7.win 13).index t = ![t.val, 0, 0] := by
    clear hf y hN; revert t; decide +kernel
  have key : R3 1 1 1024 (out7_13 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t)) (fun k i j => (fun t _ j => I.dgt t j) (t.val + k) i j) := by
    rw [o7_13]
    have hdx := Rp.of_eq (k7_7 (ib7_0 c t h_v6) (ib7_4 c t h_arg2) (ib7_1 c t h_v6) (ib7_5 c t h_arg2) (ib7_2 c t h_v6) (ib7_6 c t h_arg2) (ib7_3 c t h_v6) (ib7_7 c t h_arg2)) (g := fun i j => I.dn (256 * t.val + i) j) fun i j _ _ => by
      simp [Start.In.dn, Start.In.dnq]
    exact R3.of_eq (k7_5 hdx (ib7_8 c t h_arg0)) fun k i j hk _ _ => by
      obtain rfl : k = 0 := by omega
      rfl
  generalize iblk7 V c 0 t = x0, iblk7 V c 1 t = x1, iblk7 V c 2 t = x2, iblk7 V c 3 t = x3, iblk7 V c 4 t = x4, iblk7 V c 5 t = x5, iblk7 V c 6 t = x6, iblk7 V c 7 t = x7, iblk7 V c 8 t = x8, iblk7 V c 9 t = x9, iblk7 V c 10 t = x10 at key ⊢
  rw [key.at y]
  blk_simp [hi]

end Cert.StartArr
-- ==== Proof.StartKer.lean ====
/- The third kernel's results over the reals: each array as it stands when the last host line ends. -/
module

public import proofs.«01_k».proof.Proof.StartArr
public import Idealize.ShloMosaic.Lib.StableHlo.RunRead

@[expose] public section

set_option maxRecDepth 16384

noncomputable section

namespace Cert.StartKer

open Idealize.ShloMosaic Idealize.ShloMosaic.TcCoe Idealize.ShloMosaic.StableHlo
open Cert.Kernel3Ideal Cert.Kernel3Ideal.Gen Cert.Ext Cert.Start Cert.StartArr

/-- What a core is launched with. -/
structure Held (I : Start.In) (m : (ℓ : Loc nD τ sig) → Buf (Elt Ideal) ℓ) (c : Dev nD) : Prop where
  a0 : Rp 2048 1024 (m ((c : Thread nD τ).loc main_arg0)) I.h
  a1 : Rp 1 1024 (m ((c : Thread nD τ).loc main_arg1)) (fun _ j => I.g j)
  a2 : R3 4 1024 512 (m ((c : Thread nD τ).loc main_arg2)) I.wi
  a3 : Rp 4 1024 (m ((c : Thread nD τ).loc main_arg3)) I.cw
  a4 : Rp 1 1024 (m ((c : Thread nD τ).loc main_arg4)) (fun _ j => I.cb j)
  a5 : R3 4 256 512 (m ((c : Thread nD τ).loc main_arg5)) I.wg
  a6 : R3 4 1 512 (m ((c : Thread nD τ).loc main_arg6)) (fun n _ j => I.bg n j)
  a7 : Rp 2048 1024 (m ((c : Thread nD τ).loc main_arg7)) I.dgb
  a8 : Rp 2048 1024 (m ((c : Thread nD τ).loc main_arg8)) I.dgi
  a9 : Rp 2048 1024 (m ((c : Thread nD τ).loc main_arg9)) I.dgr
  a10 : Rp 2048 1024 (m ((c : Thread nD τ).loc main_arg10)) I.d1
  a11 : Rp 2048 1024 (m ((c : Thread nD τ).loc main_arg11)) I.dh

theorem beside {a b : S2048x1024.Idx → EReal} {f g : ℕ → ℕ → EReal} (hc : Shape.Concatenates [S2048x1024, S2048x1024] S2048x2048 1) (ha : Rp 2048 1024 a f) (hb : Rp 2048 1024 b g) :
    Rp 2048 2048 (concatenate S2048x2048 1 [⟨S2048x1024, a⟩, ⟨S2048x1024, b⟩] hc) (fun i j => if j < 1024 then f i j else g i (j - 1024)) := fun i j => by
  by_cases hj : (j : ℕ) < 1024
  · show _ = (if (j : ℕ) < 1024 then f i j else g i (j - 1024) : EReal)
    rw [if_pos hj]
    pointwise
    rw [dif_pos hj]
    exact ha i ⟨j, hj⟩
  · show _ = (if (j : ℕ) < 1024 then f i j else g i (j - 1024) : EReal)
    rw [if_neg hj]
    pointwise
    rw [dif_neg hj]
    exact hb i ⟨j - 1024, by omega⟩

variable (m : (ℓ : Loc nD τ sig) → Buf (Elt Ideal) ℓ) (ρ : Dev nD → PrngReg) (c : Dev nD) (I : Start.In) (h : Held I m c)

include h

theorem w0_arg0 : Rp 2048 1024 (W0 m ρ c (Proc.devRef .tc main_arg0)) I.h := by
  rw [W0_args m ρ c main_arg0 (by decide)]
  exact h.a0

theorem w0_arg1 : Rp 1 1024 (W0 m ρ c (Proc.devRef .tc main_arg1)) (fun _ j => I.g j) := by
  rw [W0_args m ρ c main_arg1 (by decide)]
  exact h.a1

theorem w1_v0 : Rp 2048 1024 (W1 m ρ c (Proc.devRef .tc main_v0)) I.xn := by
  have e : W1 m ρ c (Proc.devRef .tc main_v0) = (dat0 (V0 m ρ) c).arrAt 2 cfg0.N := W1_arr m ρ c 2
  rw [e]
  exact arr0_2 c I (w0_arg0 m ρ c I h) (w0_arg1 m ρ c I h)

theorem w1_arg2 : R3 4 1024 512 (W1 m ρ c (Proc.devRef .tc main_arg2)) I.wi := by
  rw [W1_args m ρ c main_arg2 (by decide)]
  exact h.a2

theorem w2_v1 : Rp 2048 2048 (W2 m ρ c (Proc.devRef .tc main_v1)) I.pj := by
  have e : W2 m ρ c (Proc.devRef .tc main_v1) = (dat1 (V1 m ρ) c).arrAt 2 cfg1.N := W2_arr m ρ c 2
  rw [e]
  exact arr1_2 c I (w1_v0 m ρ c I h) (w1_arg2 m ρ c I h)

theorem w2_arg3 : Rp 4 1024 (W2 m ρ c (Proc.devRef .tc main_arg3)) I.cw := by
  rw [W2_args m ρ c main_arg3 (by decide)]
  exact h.a3

theorem w2_arg4 : Rp 1 1024 (W2 m ρ c (Proc.devRef .tc main_arg4)) (fun _ j => I.cb j) := by
  rw [W2_args m ρ c main_arg4 (by decide)]
  exact h.a4

theorem w3_v2_0 : Rp 2048 1024 (W3 m ρ c (Proc.devRef .tc main_v2_0)) I.rc := by
  have e : W3 m ρ c (Proc.devRef .tc main_v2_0) = (dat2 (V2 m ρ) c).arrAt 3 cfg2.N := W3_arr m ρ c 3
  rw [e]
  exact arr2_3 c I (w2_v1 m ρ c I h) (w2_arg3 m ρ c I h) (w2_arg4 m ρ c I h)

theorem w3_v2_1 : Rp 2048 1024 (W3 m ρ c (Proc.devRef .tc main_v2_1)) I.rc := by
  have e : W3 m ρ c (Proc.devRef .tc main_v2_1) = (dat2 (V2 m ρ) c).arrAt 4 cfg2.N := W3_arr m ρ c 4
  rw [e]
  exact arr2_4 c I (w2_v1 m ρ c I h) (w2_arg3 m ρ c I h) (w2_arg4 m ρ c I h)

theorem w3_arg5 : R3 4 256 512 (W3 m ρ c (Proc.devRef .tc main_arg5)) I.wg := by
  rw [W3_args m ρ c main_arg5 (by decide)]
  exact h.a5

theorem w3_arg6 : R3 4 1 512 (W3 m ρ c (Proc.devRef .tc main_arg6)) (fun n _ j => I.bg n j) := by
  rw [W3_args m ρ c main_arg6 (by decide)]
  exact h.a6

theorem w4_v3_0 : Rp 2048 1024 (W4 m ρ c (Proc.devRef .tc main_v3_0)) I.gi := by
  have e : W4 m ρ c (Proc.devRef .tc main_v3_0) = (dat3 (V3 m ρ) c).arrAt 3 cfg3.N := W4_arr m ρ c 3
  rw [e]
  exact arr3_3 c I (w3_v2_1 m ρ c I h) (w3_arg5 m ρ c I h) (w3_arg6 m ρ c I h)

theorem w4_v3_1 : Rp 2048 1024 (W4 m ρ c (Proc.devRef .tc main_v3_1)) I.gr := by
  have e : W4 m ρ c (Proc.devRef .tc main_v3_1) = (dat3 (V3 m ρ) c).arrAt 4 cfg3.N := W4_arr m ρ c 4
  rw [e]
  exact arr3_4 c I (w3_v2_1 m ρ c I h) (w3_arg5 m ρ c I h) (w3_arg6 m ρ c I h)

theorem w4_arg8 : Rp 2048 1024 (W4 m ρ c (Proc.devRef .tc main_arg8)) I.dgi := by
  rw [W4_args m ρ c main_arg8 (by decide)]
  exact h.a8

theorem w4_arg9 : Rp 2048 1024 (W4 m ρ c (Proc.devRef .tc main_arg9)) I.dgr := by
  rw [W4_args m ρ c main_arg9 (by decide)]
  exact h.a9

theorem w4_v2_1 : Rp 2048 1024 (W4 m ρ c (Proc.devRef .tc main_v2_1)) I.rc := by
  rw [W4_of m ρ c main_v2_1 (by decide)]
  exact w3_v2_1 m ρ c I h

theorem w4_arg5 : R3 4 256 512 (W4 m ρ c (Proc.devRef .tc main_arg5)) I.wg := by
  rw [W4_args m ρ c main_arg5 (by decide)]
  exact h.a5

theorem w4_arg10 : Rp 2048 1024 (W4 m ρ c (Proc.devRef .tc main_arg10)) I.d1 := by
  rw [W4_args m ρ c main_arg10 (by decide)]
  exact h.a10

theorem w5_v4_0 : Rp 2048 1024 (W5 m ρ c (Proc.devRef .tc main_v4_0)) I.dr := by
  have e : W5 m ρ c (Proc.devRef .tc main_v4_0) = (dat4 (V4 m ρ) c).arrAt 5 cfg4.N := W5_arr m ρ c 5
  rw [e]
  exact arr4_5 c I (w4_arg8 m ρ c I h) (w4_arg9 m ρ c I h) (w4_v2_1 m ρ c I h) (w4_arg5 m ρ c I h) (w4_arg10 m ρ c I h)

theorem w5_v4_1 : R3 4 256 512 (W5 m ρ c (Proc.devRef .tc main_v4_1)) I.dwg := by
  have e : W5 m ρ c (Proc.devRef .tc main_v4_1) = (dat4 (V4 m ρ) c).arrAt 6 cfg4.N := W5_arr m ρ c 6
  rw [e]
  exact arr4_6 c I (w4_arg8 m ρ c I h) (w4_arg9 m ρ c I h) (w4_v2_1 m ρ c I h) (w4_arg5 m ρ c I h) (w4_arg10 m ρ c I h)

theorem w5_v1 : Rp 2048 2048 (W5 m ρ c (Proc.devRef .tc main_v1)) I.pj := by
  rw [W5_of m ρ c main_v1 (by decide), W4_of m ρ c main_v1 (by decide), W3_of m ρ c main_v1 (by decide)]
  exact w2_v1 m ρ c I h

theorem w5_arg3 : Rp 4 1024 (W5 m ρ c (Proc.devRef .tc main_arg3)) I.cw := by
  rw [W5_args m ρ c main_arg3 (by decide)]
  exact h.a3

theorem w6_v5_0 : Rp 2048 1024 (W6 m ρ c (Proc.devRef .tc main_v5_0)) I.dx := by
  have e : W6 m ρ c (Proc.devRef .tc main_v5_0) = (dat5 (V5 m ρ) c).arrAt 3 cfg5.N := W6_arr m ρ c 3
  rw [e]
  exact arr5_3 c I (w5_v4_0 m ρ c I h) (w5_v1 m ρ c I h) (w5_arg3 m ρ c I h)

theorem w6_v5_1 : Rp 4 1024 (W6 m ρ c (Proc.devRef .tc main_v5_1)) I.dcw := by
  have e : W6 m ρ c (Proc.devRef .tc main_v5_1) = (dat5 (V5 m ρ) c).arrAt 4 cfg5.N := W6_arr m ρ c 4
  rw [e]
  exact arr5_4 c I (w5_v4_0 m ρ c I h) (w5_v1 m ρ c I h) (w5_arg3 m ρ c I h)

theorem w6_v5_2 : Rp 1 1024 (W6 m ρ c (Proc.devRef .tc main_v5_2)) (fun _ j => I.dcb j) := by
  have e : W6 m ρ c (Proc.devRef .tc main_v5_2) = (dat5 (V5 m ρ) c).arrAt 5 cfg5.N := W6_arr m ρ c 5
  rw [e]
  exact arr5_5 c I (w5_v4_0 m ρ c I h) (w5_v1 m ρ c I h) (w5_arg3 m ρ c I h)

theorem w6_arg7 : Rp 2048 1024 (W6 m ρ c (Proc.devRef .tc main_arg7)) I.dgb := by
  rw [W6_args m ρ c main_arg7 (by decide)]
  exact h.a7

theorem w7_v6 : Rp 2048 2048 (W7 m ρ c (Proc.devRef .tc main_v6)) I.dp := by
  after_reads_simp
  exact Rp.of_eq (beside _ (w6_arg7 m ρ c I h) (w6_v5_0 m ρ c I h)) fun _ _ _ _ => rfl

theorem w7_v0 : Rp 2048 1024 (W7 m ρ c (Proc.devRef .tc main_v0)) I.xn := by
  rw [W7_of m ρ c main_v0 (by decide), W6_of m ρ c main_v0 (by decide), W5_of m ρ c main_v0 (by decide), W4_of m ρ c main_v0 (by decide), W3_of m ρ c main_v0 (by decide), W2_of m ρ c main_v0 (by decide)]
  exact w1_v0 m ρ c I h

theorem w8_v7 : R3 4 1024 512 (W8 m ρ c (Proc.devRef .tc main_v7)) I.dwi := by
  have e : W8 m ρ c (Proc.devRef .tc main_v7) = (dat6 (V7 m ρ) c).arrAt 2 cfg6.N := W8_arr m ρ c 2
  rw [e]
  exact arr6_2 c I (w7_v0 m ρ c I h) (w7_v6 m ρ c I h)

theorem w8_v6 : Rp 2048 2048 (W8 m ρ c (Proc.devRef .tc main_v6)) I.dp := by
  rw [W8_of m ρ c main_v6 (by decide)]
  exact w7_v6 m ρ c I h

theorem w8_arg2 : R3 4 1024 512 (W8 m ρ c (Proc.devRef .tc main_arg2)) I.wi := by
  rw [W8_args m ρ c main_arg2 (by decide)]
  exact h.a2

theorem w8_arg0 : Rp 2048 1024 (W8 m ρ c (Proc.devRef .tc main_arg0)) I.h := by
  rw [W8_args m ρ c main_arg0 (by decide)]
  exact h.a0

theorem w8_arg1 : Rp 1 1024 (W8 m ρ c (Proc.devRef .tc main_arg1)) (fun _ j => I.g j) := by
  rw [W8_args m ρ c main_arg1 (by decide)]
  exact h.a1

theorem w8_arg11 : Rp 2048 1024 (W8 m ρ c (Proc.devRef .tc main_arg11)) I.dh := by
  rw [W8_args m ρ c main_arg11 (by decide)]
  exact h.a11

theorem w9_v8_0 : Rp 2048 1024 (W9 m ρ c (Proc.devRef .tc main_v8_0)) I.dhm := by
  have e : W9 m ρ c (Proc.devRef .tc main_v8_0) = (dat7 (V8 m ρ) c).arrAt 11 cfg7.N := W9_arr m ρ c 11
  rw [e]
  exact arr7_11 c I (w8_v6 m ρ c I h) (w8_arg2 m ρ c I h) (w8_arg0 m ρ c I h) (w8_arg1 m ρ c I h) (w8_arg11 m ρ c I h)

theorem w9_v8_1 : Rp 2048 1024 (W9 m ρ c (Proc.devRef .tc main_v8_1)) I.dhm := by
  have e : W9 m ρ c (Proc.devRef .tc main_v8_1) = (dat7 (V8 m ρ) c).arrAt 12 cfg7.N := W9_arr m ρ c 12
  rw [e]
  exact arr7_12 c I (w8_v6 m ρ c I h) (w8_arg2 m ρ c I h) (w8_arg0 m ρ c I h) (w8_arg1 m ρ c I h) (w8_arg11 m ρ c I h)

theorem w9_v8_2 : R3 8 1 1024 (W9 m ρ c (Proc.devRef .tc main_v8_2)) (fun t _ j => I.dgt t j) := by
  have e : W9 m ρ c (Proc.devRef .tc main_v8_2) = (dat7 (V8 m ρ) c).arrAt 13 cfg7.N := W9_arr m ρ c 13
  rw [e]
  exact arr7_13 c I (w8_v6 m ρ c I h) (w8_arg2 m ρ c I h) (w8_arg0 m ρ c I h) (w8_arg1 m ρ c I h) (w8_arg11 m ρ c I h)

theorem w9_v1 : Rp 2048 2048 (W9 m ρ c (Proc.devRef .tc main_v1)) I.pj := by
  rw [W9_of m ρ c main_v1 (by decide), W8_of m ρ c main_v1 (by decide), W7_of m ρ c main_v1 (by decide), W6_of m ρ c main_v1 (by decide), W5_of m ρ c main_v1 (by decide), W4_of m ρ c main_v1 (by decide), W3_of m ρ c main_v1 (by decide)]
  exact w2_v1 m ρ c I h

theorem w10_v9 : Rp 1 1024 (W10 m ρ c (Proc.devRef .tc main_v9)) (fun _ j => I.dg j) := by
  after_reads_simp
  exact Rp.of_eq (sumTiles _ _ (w9_v8_2 m ρ c I h) (R0.cst lit_zero)) fun _ _ _ _ => rfl

theorem w10_v10 : Rp 2048 1024 (W10 m ρ c (Proc.devRef .tc main_v10)) I.pj := by
  after_reads_simp
  exact Rp.of_eq (Rp.slice 0 0 _ (w9_v1 m ρ c I h)) fun _ _ _ _ => by simp only [Nat.zero_add]

theorem w10_v0 : Rp 2048 1024 (W10 m ρ c (Proc.devRef .tc main_v0)) I.xn := by
  rw [W10_of m ρ c main_v0 (by decide), W9_of m ρ c main_v0 (by decide), W8_of m ρ c main_v0 (by decide), W7_of m ρ c main_v0 (by decide), W6_of m ρ c main_v0 (by decide), W5_of m ρ c main_v0 (by decide), W4_of m ρ c main_v0 (by decide), W3_of m ρ c main_v0 (by decide), W2_of m ρ c main_v0 (by decide)]
  exact w1_v0 m ρ c I h

theorem w10_v2_0 : Rp 2048 1024 (W10 m ρ c (Proc.devRef .tc main_v2_0)) I.rc := by
  rw [W10_of m ρ c main_v2_0 (by decide), W9_of m ρ c main_v2_0 (by decide), W8_of m ρ c main_v2_0 (by decide), W7_of m ρ c main_v2_0 (by decide), W6_of m ρ c main_v2_0 (by decide), W5_of m ρ c main_v2_0 (by decide), W4_of m ρ c main_v2_0 (by decide)]
  exact w3_v2_0 m ρ c I h

theorem w10_v3_0 : Rp 2048 1024 (W10 m ρ c (Proc.devRef .tc main_v3_0)) I.gi := by
  rw [W10_of m ρ c main_v3_0 (by decide), W9_of m ρ c main_v3_0 (by decide), W8_of m ρ c main_v3_0 (by decide), W7_of m ρ c main_v3_0 (by decide), W6_of m ρ c main_v3_0 (by decide), W5_of m ρ c main_v3_0 (by decide)]
  exact w4_v3_0 m ρ c I h

theorem w10_v3_1 : Rp 2048 1024 (W10 m ρ c (Proc.devRef .tc main_v3_1)) I.gr := by
  rw [W10_of m ρ c main_v3_1 (by decide), W9_of m ρ c main_v3_1 (by decide), W8_of m ρ c main_v3_1 (by decide), W7_of m ρ c main_v3_1 (by decide), W6_of m ρ c main_v3_1 (by decide), W5_of m ρ c main_v3_1 (by decide)]
  exact w4_v3_1 m ρ c I h

theorem w10_v4_1 : R3 4 256 512 (W10 m ρ c (Proc.devRef .tc main_v4_1)) I.dwg := by
  rw [W10_of m ρ c main_v4_1 (by decide), W9_of m ρ c main_v4_1 (by decide), W8_of m ρ c main_v4_1 (by decide), W7_of m ρ c main_v4_1 (by decide), W6_of m ρ c main_v4_1 (by decide)]
  exact w5_v4_1 m ρ c I h

theorem w10_v5_1 : Rp 4 1024 (W10 m ρ c (Proc.devRef .tc main_v5_1)) I.dcw := by
  rw [W10_of m ρ c main_v5_1 (by decide), W9_of m ρ c main_v5_1 (by decide), W8_of m ρ c main_v5_1 (by decide), W7_of m ρ c main_v5_1 (by decide)]
  exact w6_v5_1 m ρ c I h

theorem w10_v5_2 : Rp 1 1024 (W10 m ρ c (Proc.devRef .tc main_v5_2)) (fun _ j => I.dcb j) := by
  rw [W10_of m ρ c main_v5_2 (by decide), W9_of m ρ c main_v5_2 (by decide), W8_of m ρ c main_v5_2 (by decide), W7_of m ρ c main_v5_2 (by decide)]
  exact w6_v5_2 m ρ c I h

theorem w10_v7 : R3 4 1024 512 (W10 m ρ c (Proc.devRef .tc main_v7)) I.dwi := by
  rw [W10_of m ρ c main_v7 (by decide), W9_of m ρ c main_v7 (by decide)]
  exact w8_v7 m ρ c I h

theorem w10_v8_0 : Rp 2048 1024 (W10 m ρ c (Proc.devRef .tc main_v8_0)) I.dhm := by
  rw [W10_of m ρ c main_v8_0 (by decide)]
  exact w9_v8_0 m ρ c I h

theorem w10_v8_1 : Rp 2048 1024 (W10 m ρ c (Proc.devRef .tc main_v8_1)) I.dhm := by
  rw [W10_of m ρ c main_v8_1 (by decide)]
  exact w9_v8_1 m ρ c I h

end Cert.StartKer
-- ==== Proof.StartRun.lean ====
/- The third kernel's run with everything it leaves: every buffer of a core ends at what the eight regions make of the launch memory. -/
module

public import proofs.«01_k».proof.Proof.Gen.Kernel3Ideal.Frame

@[expose] public section

noncomputable section

namespace Cert.StartRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel ends with each core's buffers at the last host line's contents. -/
theorem run : θ_run (defs (F := F)) (onTc (τ := τ) (main (F := F))) ⟨m, fun _ => 0, ρ⟩ (fun r => ∀ c : Dev nD, ∀ b ∈ Pipeline.ucRefs τ sig,
      r.2.mem (((c : Thread nD τ)).1, b) = W10 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun _ h _ => h)

end Cert.StartRun
-- ==== Proof.StartRef.lean ====
/- What the reference of the third program computes: over real operands, the functions of `Start.In`. -/
module

public import proofs.«01_k».proof.Proof.Gen.Reference3Ideal.Run
public import proofs.«01_k».proof.Proof.FfnRef
public import proofs.«01_k».proof.Proof.Start
public import Idealize.ShloMosaic.Lib.KernelVsHost

@[expose] public section

set_option maxRecDepth 16384

noncomputable section

namespace Cert.StartRef

open Idealize.ShloMosaic Idealize.ShloMosaic.TcCoe Idealize.ShloMosaic.StableHlo
open Cert.Reference3Ideal Cert.Reference3Ideal.Gen Cert.Reference3Ideal.Value Cert.Ext Cert.Start
open Cert.FfnRef (sum_blocks)
open Cert.Ffn (lit_eps lit_1024 lit_mhalf)

/-! ## Shapes -/

theorem pad2 {m n p q lo w hi hw : ℕ} {v : (⟨2, ![m, n]⟩ : Shape).Idx → EReal} {f : ℕ → ℕ → EReal} {z : (⟨0, ![]⟩ : Shape).Idx → EReal}
    (h : (⟨2, ![m, n]⟩ : Shape).Pads ![lo, w] ![hi, hw] ![0, 0] ⟨2, ![p, q]⟩) (h0 : 0 < (⟨0, ![]⟩ : Shape).numel) (hv : Rp m n v f) (hz : R0 z 0) :
    Rp p q (pad ⟨2, ![p, q]⟩ ![lo, w] ![hi, hw] ![0, 0] v z h h0) (fun i j => if (lo ≤ i ∧ i - lo < m) ∧ (w ≤ j ∧ j - w < n) then f (i - lo) (j - w) else 0) := fun i j => by
  show _ = (if (lo ≤ (i : ℕ) ∧ (i : ℕ) - lo < m) ∧ (w ≤ (j : ℕ) ∧ (j : ℕ) - w < n) then f (i - lo) (j - w) else 0 : EReal)
  by_cases hi : lo ≤ (i : ℕ) ∧ (i : ℕ) - lo < m
  · by_cases hj : w ≤ (j : ℕ) ∧ (j : ℕ) - w < n
    · rw [if_pos ⟨hi, hj⟩, pad_apply_of_inside _ _ _ v z h h0 _ (ix2 ⟨i - lo, hi.2⟩ ⟨j - w, hj.2⟩)
        (Fin.forall_fin_two.mpr ⟨by show (i : ℕ) = lo + (i - lo) * (0 + 1); omega, by show (j : ℕ) = w + (j - w) * (0 + 1); omega⟩)]
      exact hv _ _
    · rw [if_neg fun e => hj e.2, pad_apply_of_not_inside _ _ _ v z h h0 _ (1 : Fin 2)
        (by show ¬(w ≤ (j : ℕ) ∧ ((j : ℕ) - w) % (0 + 1) = 0 ∧ ((j : ℕ) - w) / (0 + 1) < n); rw [zero_add, Nat.div_one]; exact fun e => hj ⟨e.1, e.2.2⟩)]
      exact hz _
  · rw [if_neg fun e => hi e.1, pad_apply_of_not_inside _ _ _ v z h h0 _ (0 : Fin 2)
      (by show ¬(lo ≤ (i : ℕ) ∧ ((i : ℕ) - lo) % (0 + 1) = 0 ∧ ((i : ℕ) - lo) / (0 + 1) < m); rw [zero_add, Nat.div_one]; exact fun e => hi ⟨e.1, e.2.2⟩)]
    exact hz _

theorem pad3 {a b n q w hw : ℕ} {v : (⟨3, ![a, b, n]⟩ : Shape).Idx → EReal} {f : ℕ → ℕ → ℕ → EReal} {z : (⟨0, ![]⟩ : Shape).Idx → EReal}
    (h : (⟨3, ![a, b, n]⟩ : Shape).Pads ![0, 0, w] ![0, 0, hw] ![0, 0, 0] ⟨3, ![a, b, q]⟩) (h0 : 0 < (⟨0, ![]⟩ : Shape).numel) (hv : R3 a b n v f) (hz : R0 z 0) :
    R3 a b q (pad ⟨3, ![a, b, q]⟩ ![0, 0, w] ![0, 0, hw] ![0, 0, 0] v z h h0) (fun k i j => if w ≤ j ∧ j - w < n then f k i (j - w) else 0) := fun k i j => by
  show _ = (if w ≤ (j : ℕ) ∧ (j : ℕ) - w < n then f k i (j - w) else 0 : EReal)
  by_cases hj : w ≤ (j : ℕ) ∧ (j : ℕ) - w < n
  · rw [if_pos hj, pad_apply_of_inside _ _ _ v z h h0 _ (ix3 k i ⟨j - w, hj.2⟩)
      (Fin.forall_fin_succ.mpr ⟨by show (k : ℕ) = 0 + k * (0 + 1); omega, Fin.forall_fin_two.mpr ⟨by show (i : ℕ) = 0 + i * (0 + 1); omega, by show (j : ℕ) = w + (j - w) * (0 + 1); omega⟩⟩)]
    exact hv _ _ _
  · rw [if_neg hj, pad_apply_of_not_inside _ _ _ v z h h0 _ (2 : Fin 3)
      (by show ¬(w ≤ (j : ℕ) ∧ ((j : ℕ) - w) % (0 + 1) = 0 ∧ ((j : ℕ) - w) / (0 + 1) < n); rw [zero_add, Nat.div_one]; exact fun e => hj ⟨e.1, e.2.2⟩)]
    exact hz _

theorem below {a : S3x1024.Idx → EReal} {b : S2048x1024.Idx → EReal} {f g : ℕ → ℕ → EReal} (hc : Shape.Concatenates [S3x1024, S2048x1024] S2051x1024 0) (ha : Rp 3 1024 a f) (hb : Rp 2048 1024 b g) :
    Rp 2051 1024 (concatenate S2051x1024 0 [⟨S3x1024, a⟩, ⟨S2048x1024, b⟩] hc) (fun i j => if i < 3 then f i j else g (i - 3) j) := fun i j => by
  by_cases hi : (i : ℕ) < 3
  · show _ = (if (i : ℕ) < 3 then f i j else g (i - 3) j : EReal)
    rw [if_pos hi]
    pointwise
    rw [dif_pos hi]
    exact ha ⟨i, hi⟩ j
  · show _ = (if (i : ℕ) < 3 then f i j else g (i - 3) j : EReal)
    rw [if_neg hi]
    pointwise
    rw [dif_neg hi]
    exact hb ⟨i - 3, by omega⟩ j

theorem wide {v : S4x1024x512.Idx → EReal} {f : ℕ → ℕ → ℕ → EReal} (h : R3 4 1024 512 v f) :
    Rp 1024 2048 (shapeCast S1024x2048 (transpose S1024x4x512 [1, 0, 2] v transposes_S4x1024x512_S1024x4x512_1_0_2) shapeCasts_S1024x4x512_S1024x2048)
      (fun k n => f (n / 512) k (n % 512)) := fun i j => by
  pointwise
  exact h _ _ _

theorem shards {v : S1024x2048.Idx → EReal} {f : ℕ → ℕ → EReal} (h : Rp 1024 2048 v f) :
    R3 4 1024 512 (transpose S4x1024x512 [1, 0, 2] (shapeCast S1024x4x512 v shapeCasts_S1024x2048_S1024x4x512) transposes_S1024x4x512_S4x1024x512_1_0_2)
      (fun q k j => f k (q * 512 + j)) := fun q k j => by
  pointwise
  exact h _ _

theorem blocks {v : S2048x1024.Idx → EReal} {f : ℕ → ℕ → EReal} (h : Rp 2048 1024 v f) :
    R3 2048 4 256 (shapeCast S2048x4x256 v shapeCasts_S2048x1024_S2048x4x256) (fun i n k => f i (n * 256 + k)) := fun i n k => by
  pointwise
  exact h _ _

theorem flat {v : S2048x4x256.Idx → EReal} {f : ℕ → ℕ → ℕ → EReal} (h : R3 2048 4 256 v f) :
    Rp 2048 1024 (shapeCast S2048x1024 v shapeCasts_S2048x4x256_S2048x1024) (fun i c => f i (c / 256) (c % 256)) := fun i c => by
  pointwise
  exact h _ _ _

theorem gate_in {v : S2048x4x512.Idx → EReal} {f : ℕ → ℕ → ℕ → EReal} (h : R3 2048 4 512 v f) :
    R3 2048 4 256 (extractStridedSlice S2048x4x256 ![0, 0, 0] v slices_S2048x4x512_S2048x4x256_0_0_0) f := fun i n k => by
  pointwise
  exact h i n ⟨k, by omega⟩

theorem gate_rec {v : S2048x4x512.Idx → EReal} {f : ℕ → ℕ → ℕ → EReal} (h : R3 2048 4 512 v f) :
    R3 2048 4 256 (extractStridedSlice S2048x4x256 ![0, 0, 256] v slices_S2048x4x512_S2048x4x256_0_0_256) (fun i n k => f i n (256 + k)) := fun i n k => by
  pointwise
  exact h i n ⟨256 + k, by omega⟩

theorem bias_of {v : S4x1x512.Idx → EReal} {f : ℕ → ℕ → ℕ → EReal} (h : R3 4 1 512 v f) :
    R3 2048 4 512 (broadcastInDim S2048x4x512 ![0, 1, 2] bcast_S1x4x512_S2048x4x512_0_1_2 (broadcastInDim S1x4x512 ![1, 2] bcast_S4x512_S1x4x512_1_2 (shapeCast S4x512 v shapeCasts_S4x1x512_S4x512)))
      (fun _ n b => f n 0 b) := fun i n b => by
  pointwise
  exact h n 0 b

theorem add3 {p m n : ℕ} {a b : (⟨3, ![p, m, n]⟩ : Shape).Idx → EReal} {f g : ℕ → ℕ → ℕ → EReal} (ha : R3 p m n a f) (hb : R3 p m n b g) :
    R3 p m n (addf (F := Ideal) (φ := .f32) a b) (fun k i j => f k i j + g k i j) := fun k i j => by
  show a _ + b _ = _
  rw [ha k i j, hb k i j]

theorem sum3 {p m n K : ℕ} {v : (⟨3, ![p, m, n]⟩ : Shape).Idx → EReal} {f g : ℕ → ℕ → ℕ → ℕ → EReal}
    (hv : ∀ (k : Fin p) (i : Fin m) (j : Fin n), v (ix3 k i j) = ∑ l : Fin K, f k i j l * g k i j l) :
    R3 p m n v (fun k i j => ∑ l ∈ Finset.range K, f k i j l * g k i j l) := fun k i j => by
  rw [hv]
  exact (Finset.sum_range fun l => f k i j l * g k i j l).symm

theorem gates_of {a : S4x256x512.Idx → EReal} {b : S2048x4x256.Idx → EReal} {f g : ℕ → ℕ → ℕ → EReal} (ha : R3 4 256 512 a f) (hb : R3 2048 4 256 b g) :
    R3 2048 4 512 (transpose S2048x4x512 [2, 0, 1] (Host.dotGeneral (F := Ideal) (φ₁ := .f32) (φ₂ := .f32) dot_S4x256x512_S2048x4x256_S4x512x2048_1_2_2_0_0_1 none a b) transposes_S4x512x2048_S2048x4x512_2_0_1)
      (fun i n b => ∑ k ∈ Finset.range 256, f n k b * g i n k) := sum3 fun i n l => by
  pointwise
  exact Finset.sum_congr rfl fun k _ => congrArg₂ _ (ha n k l) (hb i n k)

theorem branch_of {a : S4x512x2048.Idx → EReal} {b : S4x256x512.Idx → EReal} {f g : ℕ → ℕ → ℕ → EReal} (ha : R3 4 512 2048 a f) (hb : R3 4 256 512 b g) :
    R3 2048 4 256 (transpose S2048x4x256 [1, 0, 2] (Host.dotGeneral (F := Ideal) (φ₁ := .f32) (φ₂ := .f32) dot_S4x512x2048_S4x256x512_S4x2048x256_1_2_2_1_0_0 none a b) transposes_S4x2048x256_S2048x4x256_1_0_2)
      (fun i n k => ∑ l ∈ Finset.range 512, f n l i * g n k l) := sum3 fun i n k => by
  pointwise
  exact Finset.sum_congr rfl fun l _ => congrArg₂ _ (ha n l i) (hb n k l)

theorem weights_of {a : S4x512x2048.Idx → EReal} {b : S2048x4x256.Idx → EReal} {f g : ℕ → ℕ → ℕ → EReal} (ha : R3 4 512 2048 a f) (hb : R3 2048 4 256 b g) :
    R3 4 256 512 (transpose S4x256x512 [0, 2, 1] (Host.dotGeneral (F := Ideal) (φ₁ := .f32) (φ₂ := .f32) dot_S4x512x2048_S2048x4x256_S4x512x256_2_0_1_2_0_1 none a b) transposes_S4x512x256_S4x256x512_0_2_1)
      (fun n k l => ∑ i ∈ Finset.range 2048, f n l i * g i n k) := sum3 fun n k l => by
  pointwise
  exact Finset.sum_congr rfl fun i _ => congrArg₂ _ (ha n l i) (hb i n k)

theorem gate_turn {v : S2048x4x512.Idx → EReal} {f : ℕ → ℕ → ℕ → EReal} (h : R3 2048 4 512 v f) :
    R3 4 512 2048 (transpose S4x512x2048 [1, 2, 0] v transposes_S2048x4x512_S4x512x2048_1_2_0) (fun n l i => f i n l) := fun n l i => by
  pointwise
  exact h i n l

/-! ## The identities -/

section
variable (I : Start.In)

theorem dr_of (i c : ℕ) : I.d1 i c + ∑ l ∈ Finset.range 512, ((if 256 ≤ l ∧ l - 256 < 256 then I.dgr i (c / 256 * 256 + (l - 256)) else 0) + (if 0 ≤ l ∧ l - 0 < 256 then I.dgi i (c / 256 * 256 + (l - 0)) else 0)) * I.wg (c / 256) (c % 256) l = I.dr i c := by
  have e1 : ∀ l ∈ Finset.range 256, ((if 256 ≤ l ∧ l - 256 < 256 then I.dgr i (c / 256 * 256 + (l - 256)) else 0) + (if 0 ≤ l ∧ l - 0 < 256 then I.dgi i (c / 256 * 256 + (l - 0)) else 0)) * I.wg (c / 256) (c % 256) l = I.dgi i (256 * (c / 256) + l) * I.wg (c / 256) (c % 256) l := fun l hl => by
    have hl := Finset.mem_range.mp hl
    rw [if_neg (by omega), if_pos (by omega), zero_add, Nat.sub_zero, mul_comm (c / 256)]
  have e2 : ∀ l ∈ Finset.range 256, ((if 256 ≤ 256 + l ∧ 256 + l - 256 < 256 then I.dgr i (c / 256 * 256 + (256 + l - 256)) else 0) + (if 0 ≤ 256 + l ∧ 256 + l - 0 < 256 then I.dgi i (c / 256 * 256 + (256 + l - 0)) else 0)) * I.wg (c / 256) (c % 256) (256 + l) = I.dgr i (256 * (c / 256) + l) * I.wg (c / 256) (c % 256) (256 + l) := fun l hl => by
    have hl := Finset.mem_range.mp hl
    rw [if_pos (by omega), if_neg (by omega), add_zero, Nat.add_sub_cancel_left, mul_comm (c / 256)]
  rw [show (512 : ℕ) = 256 + 256 from rfl, Finset.sum_range_add, Finset.sum_congr rfl e1, Finset.sum_congr rfl e2, ← add_assoc]
  rfl

theorem dwg_of (n a b : ℕ) : ∑ i ∈ Finset.range 2048, ((if 256 ≤ b ∧ b - 256 < 256 then I.dgr i (n * 256 + (b - 256)) else 0) + (if 0 ≤ b ∧ b - 0 < 256 then I.dgi i (n * 256 + (b - 0)) else 0)) * I.rc i (n * 256 + a) =
    if b < 512 then I.dwg n a b else 0 := by
  unfold Start.In.dwg
  by_cases h : b < 256
  · rw [if_pos (by omega), if_pos h]
    exact Finset.sum_congr rfl fun i _ => by rw [if_neg (by omega), if_pos (by omega), zero_add, Nat.sub_zero, mul_comm n, mul_comm]
  · by_cases h' : b < 512
    · rw [if_pos h', if_neg h]
      exact Finset.sum_congr rfl fun i _ => by rw [if_pos (by omega), if_neg (by omega), add_zero, mul_comm n, mul_comm]
    · rw [if_neg h']
      exact Finset.sum_eq_zero fun i _ => by rw [if_neg (by omega), if_neg (by omega), add_zero, zero_mul]

theorem dn_of (i j : ℕ) : ∑ n ∈ Finset.range 2048, I.dp i n * I.wi (n / 512) j (n % 512) = I.dn i j := by
  rw [show (2048 : ℕ) = 512 * 4 from rfl, sum_blocks]
  have e : ∀ q, ∑ f ∈ Finset.range 512, I.dp i (512 * q + f) * I.wi ((512 * q + f) / 512) j ((512 * q + f) % 512) = I.dnq q i j := fun q => by
    refine Finset.sum_congr rfl fun f hf => ?_
    have hf : f < 512 := Finset.mem_range.mp hf
    rw [show (512 * q + f) / 512 = q by omega, show (512 * q + f) % 512 = f by omega]
  simp only [e, Finset.sum_range_succ, Finset.sum_range_zero, zero_add]
  rfl

theorem dg_of (j : ℕ) : ∑ i ∈ Finset.range 2048, I.xr i j * I.dn i j = I.dg j := by
  rw [show (2048 : ℕ) = 256 * 8 from rfl, sum_blocks]
  exact Finset.sum_congr rfl fun t _ => Finset.sum_congr rfl fun i _ => mul_comm _ _

/-- A row's term of the norm's gradient through the inverse root. -/
def through (i : ℕ) : EReal := Ideal.div ((∑ k ∈ Finset.range 1024, I.h i k * (I.dn i k * I.g k)) * (((-(1 / 2) : ℝ) : EReal) * Ideal.div (rn (I.h i)) (ms (I.h i)))) ((1024 : ℝ) : EReal)

theorem dhm_of (i j : ℕ) (hj : j < 1024) :
    I.dh i j + ((I.dn i j * I.g j * rn (I.h i) + I.h i j * through I i) + through I i * I.h i j) = I.dhm i j :=
  congrArg (I.dh i j + ·) (norm_grad (I.h i) (fun k => I.dn i k * I.g k) j hj)
end

/-- A sum, a product, the zero an array is summed from or filled up with, a row repeated down an array, and the column
    sums of an array, as the reference spells them. -/
abbrev ad {s : Shape} (a b : FVec Ideal s .f32) : FVec Ideal s .f32 := addf a b
abbrev ml {s : Shape} (a b : FVec Ideal s .f32) : FVec Ideal s .f32 := mulf a b
abbrev zero : FVec Ideal S_ .f32 := constant S_ .f32 0x00000000#32
abbrev rows (r : FVec Ideal S1x1024 .f32) : FVec Ideal S2048x1024 .f32 := broadcastInDim S2048x1024 ![0, 1] bcast_S1x1024_S2048x1024_0_1 r
abbrev colSum (a : FVec Ideal S2048x1024 .f32) : FVec Ideal S1x1024 .f32 :=
  shapeCast S1x1024 (Host.reduceAdd a zero reducesTo_S2048x1024_S1024_d0 h_S_) shapeCasts_S1024_S1x1024

/-! ## The values -/

/-- What the arguments hold. -/
structure Held (I : Start.In) (V : Valuation τ sig (Elt Ideal)) : Prop where
  a0 : Rp 2048 1024 (V (Proc.devRef .tc main_arg0)) I.h
  a1 : Rp 1 1024 (V (Proc.devRef .tc main_arg1)) (fun _ j => I.g j)
  a2 : R3 4 1024 512 (V (Proc.devRef .tc main_arg2)) I.wi
  a3 : Rp 4 1024 (V (Proc.devRef .tc main_arg3)) I.cw
  a4 : Rp 1 1024 (V (Proc.devRef .tc main_arg4)) (fun _ j => I.cb j)
  a5 : R3 4 256 512 (V (Proc.devRef .tc main_arg5)) I.wg
  a6 : R3 4 1 512 (V (Proc.devRef .tc main_arg6)) (fun n _ j => I.bg n j)
  a7 : Rp 2048 1024 (V (Proc.devRef .tc main_arg7)) I.dgb
  a8 : Rp 2048 1024 (V (Proc.devRef .tc main_arg8)) I.dgi
  a9 : Rp 2048 1024 (V (Proc.devRef .tc main_arg9)) I.dgr
  a10 : Rp 2048 1024 (V (Proc.devRef .tc main_arg10)) I.d1
  a11 : Rp 2048 1024 (V (Proc.devRef .tc main_arg11)) I.dh

section
variable {I : Start.In} {V : Valuation τ sig (Elt Ideal)} (h : Held I V)
include h

theorem v1 : R3 4 256 512 (res_main_v1 V) I.wg := fun n a b => h.a5 n a b

theorem v11 : Rp 2048 1 (res_main_v11 V) (fun i _ => ms (I.h i)) :=
  Rp.of_eq (Rp.add (Rp.hdiv (Rp.hbcVec _ (R1.hrowSum _ _ (Rp.mul h.a0 h.a0) (R0.cst lit_zero))) (Rp.hcst _ (R0.cst lit_1024)))
    (Rp.hcst _ (R0.cst lit_eps))) fun i _ _ _ => rfl

theorem v12 : Rp 2048 1 (res_main_v12 V) (fun i _ => rn (I.h i)) := Rp.hrsqrt (v11 h)

theorem v17 : Rp 2048 1024 (res_main_v17 V) I.xr := Rp.mul h.a0 (Rp.hbcCol _ (v12 h))

theorem v19 : Rp 2048 1024 (res_main_v19 V) I.xn := Rp.mul (v17 h) (Rp.hbcRow _ h.a1)

theorem v21 : Rp 1024 2048 (res_main_v21 V) (fun k n => I.wi (n / 512) k (n % 512)) := wide fun q k j => h.a2 q k j

theorem v22 : Rp 2048 2048 (res_main_v22 V) I.pj := dot_nn (fun i j => by unfold res_main_v22; pointwise) (v19 h) (v21 h)

theorem v23 : Rp 2048 1024 (extractStridedSlice S2048x1024 ![0, 0] (res_main_v22 V) slices_S2048x2048_S2048x1024_0_0) I.pj :=
  Rp.of_eq (Rp.slice 0 0 _ (v22 h)) fun i j _ _ => by rw [Nat.zero_add, Nat.zero_add]

theorem v26 : Rp 2051 1024 (res_main_v26 V) (fun i j => if i < 3 then 0 else I.x (i - 3) j) :=
  below _ (Rp.hcst _ (R0.cst lit_zero)) (Rp.of_eq (Rp.slice 0 1024 _ (v22 h)) fun i j _ _ => by rw [Nat.zero_add]; rfl)

theorem v28 : Rp 2048 1024 (res_main_v28 V) (sh 3 I.x) := Rp.of_eq (Rp.slice 0 0 _ (v26 h)) fun i j _ _ => by
  simp only [Nat.zero_add, sh]; split_ifs <;> first | rfl | omega
theorem v34 : Rp 2048 1024 (res_main_v34 V) (sh 2 I.x) := Rp.of_eq (Rp.slice 1 0 _ (v26 h)) fun i j _ _ => by
  simp only [Nat.zero_add, sh, show 1 + i - 3 = i - 2 by omega]; split_ifs <;> first | rfl | omega
theorem v39 : Rp 2048 1024 (res_main_v39 V) (sh 1 I.x) := Rp.of_eq (Rp.slice 2 0 _ (v26 h)) fun i j _ _ => by
  simp only [Nat.zero_add, sh, show 2 + i - 3 = i - 1 by omega]; split_ifs <;> first | rfl | omega
theorem v44 : Rp 2048 1024 (res_main_v44 V) I.x := Rp.of_eq (Rp.slice 3 0 _ (v26 h)) fun i j _ _ => by
  simp only [Nat.zero_add, show 3 + i - 3 = i by omega]; split_ifs <;> first | rfl | omega

theorem v29 : Rp 1 1024 (res_main_v29 V) (fun _ j => I.cw 0 j) := Rp.of_eq (Rp.slice 0 0 _ h.a3) fun i j hi _ => by rw [show 0 + i = 0 by omega, Nat.zero_add]
theorem v35 : Rp 1 1024 (res_main_v35 V) (fun _ j => I.cw 1 j) := Rp.of_eq (Rp.slice 1 0 _ h.a3) fun i j hi _ => by rw [show 1 + i = 1 by omega, Nat.zero_add]
theorem v40 : Rp 1 1024 (res_main_v40 V) (fun _ j => I.cw 2 j) := Rp.of_eq (Rp.slice 2 0 _ h.a3) fun i j hi _ => by rw [show 2 + i = 2 by omega, Nat.zero_add]
theorem v45 : Rp 1 1024 (res_main_v45 V) (fun _ j => I.cw 3 j) := Rp.of_eq (Rp.slice 3 0 _ h.a3) fun i j hi _ => by rw [show 3 + i = 3 by omega, Nat.zero_add]

theorem v48 : Rp 2048 1024 (ad (ad (ad (ad (rows (V (Proc.devRef .tc main_arg4)))
      (ml (res_main_v28 V) (rows (res_main_v29 V))))
      (ml (res_main_v34 V) (rows (res_main_v35 V))))
      (ml (res_main_v39 V) (rows (res_main_v40 V))))
      (ml (res_main_v44 V) (rows (res_main_v45 V)))) I.rc :=
  Rp.of_eq (Rp.add (Rp.add (Rp.add (Rp.add (Rp.hbcRow _ h.a4) (Rp.mul (v28 h) (Rp.hbcRow _ (v29 h)))) (Rp.mul (v34 h) (Rp.hbcRow _ (v35 h)))) (Rp.mul (v39 h) (Rp.hbcRow _ (v40 h))))
    (Rp.mul (v44 h) (Rp.hbcRow _ (v45 h)))) fun i j _ _ => by unfold Start.In.rc; ac_rfl

theorem v49 : R3 2048 4 256 (res_main_v49 V) (fun i n k => I.rc i (n * 256 + k)) := blocks (v48 h)

theorem v55 : R3 2048 4 512 (res_main_v55 V) I.gt := R3.of_eq (add3 (gates_of (v1 h) (v49 h)) (bias_of h.a6)) fun i n b _ _ _ => by
  unfold Start.In.gt
  exact congrArg (· + _) (Finset.sum_congr rfl fun k _ => by rw [mul_comm n, mul_comm])

theorem v57 : Rp 2048 1024 (shapeCast S2048x1024 (extractStridedSlice S2048x4x256 ![0, 0, 0] (res_main_v55 V) slices_S2048x4x512_S2048x4x256_0_0_0) shapeCasts_S2048x4x256_S2048x1024) I.gi :=
  flat (gate_in (v55 h))
theorem v59 : Rp 2048 1024 (shapeCast S2048x1024 (extractStridedSlice S2048x4x256 ![0, 0, 256] (res_main_v55 V) slices_S2048x4x512_S2048x4x256_0_0_256) shapeCasts_S2048x4x256_S2048x1024) I.gr :=
  flat (gate_rec (v55 h))

theorem v65 : R3 4 512 2048 (res_main_v65 V) (fun n b i => (if 256 ≤ b ∧ b - 256 < 256 then I.dgr i (n * 256 + (b - 256)) else 0) + (if 0 ≤ b ∧ b - 0 < 256 then I.dgi i (n * 256 + (b - 0)) else 0)) :=
  gate_turn (add3 (pad3 _ _ (blocks (Rp.ext h.a9 _)) (R0.cst lit_zero)) (pad3 _ _ (blocks (Rp.ext h.a8 _)) (R0.cst lit_zero)))

theorem v71 : Rp 2048 1024 (res_main_v71 V) I.dr := Rp.of_eq (Rp.add h.a10 (flat (branch_of (v65 h) (v1 h)))) fun i c _ _ => dr_of I i c

theorem v72 : Rp 2048 1024 (res_main_v72 V) I.dr := Rp.castSelf _ (v71 h)
theorem v73 : Rp 2048 1024 (res_main_v73 V) I.dr := Rp.castSelf _ (v71 h)

theorem v109 : Rp 2051 1024 (res_main_v109 V) (fun i j => if 3 ≤ i then I.dx (i - 3) j else
    (((0 + if 2 ≤ i then I.dr (i - 2) j * I.cw 2 j else 0) + if 1 ≤ i then I.dr (i - 1) j * I.cw 1 j else 0) + I.dr i j * I.cw 0 j)) := by
  refine Rp.of_eq (Rp.add (Rp.add (Rp.add (pad2 _ _ (Rp.mul (v73 h) (Rp.hbcRow _ (v45 h))) (R0.cst lit_zero)) (pad2 _ _ (Rp.mul (v72 h) (Rp.hbcRow _ (v40 h))) (R0.cst lit_zero)))
    (pad2 _ _ (Rp.mul (v72 h) (Rp.hbcRow _ (v35 h))) (R0.cst lit_zero))) (pad2 _ _ (Rp.mul (v72 h) (Rp.hbcRow _ (v29 h))) (R0.cst lit_zero))) fun i j hi hj => ?_
  by_cases h3 : 3 ≤ i
  · rw [if_pos h3, if_pos (by omega)]
    obtain ⟨t, rfl⟩ : ∃ t, i = t + 3 := ⟨i - 3, by omega⟩
    simp only [Start.In.dx, up, Nat.add_sub_cancel, Nat.sub_zero, show t + 3 - 2 = t + 1 by omega, show t + 3 - 1 = t + 2 by omega]
    have e2 : ((2 ≤ t + 3 ∧ t + 1 < 2048) ∧ 0 ≤ j ∧ j < 1024) = (t < 2048 - 1) := propext ⟨fun _ => by omega, fun _ => by omega⟩
    have e1 : ((1 ≤ t + 3 ∧ t + 2 < 2048) ∧ 0 ≤ j ∧ j < 1024) = (t < 2048 - 2) := propext ⟨fun _ => by omega, fun _ => by omega⟩
    have e0 : ((0 ≤ t + 3 ∧ t + 3 < 2048) ∧ 0 ≤ j ∧ j < 1024) = (t < 2048 - 3) := propext ⟨fun _ => by omega, fun _ => by omega⟩
    simp only [e2, e1, e0]
    split_ifs <;> simp only [mul_comm, mul_zero, zero_mul]
  · have e3 : ¬((3 ≤ i ∧ i - 3 < 2048) ∧ 0 ≤ j ∧ j - 0 < 1024) := by omega
    have e2 : ((2 ≤ i ∧ i - 2 < 2048) ∧ 0 ≤ j ∧ j - 0 < 1024) = (2 ≤ i) := propext ⟨fun _ => by omega, fun _ => by omega⟩
    have e1 : ((1 ≤ i ∧ i - 1 < 2048) ∧ 0 ≤ j ∧ j - 0 < 1024) = (1 ≤ i) := propext ⟨fun _ => by omega, fun _ => by omega⟩
    rw [if_neg h3, if_neg e3, if_pos (show (0 ≤ i ∧ i - 0 < 2048) ∧ 0 ≤ j ∧ j - 0 < 1024 by omega)]
    simp only [e2, e1]
    rw [Nat.sub_zero, Nat.sub_zero]

theorem v114 : Rp 2048 2048 (res_main_v114 V) I.dp := by
  have e : Rp 2048 1024 (extractStridedSlice S2048x1024 ![3, 0] (res_main_v109 V) slices_S2051x1024_S2048x1024_3_0) I.dx :=
    Rp.of_eq (Rp.slice 3 0 _ (v109 h)) fun i j _ _ => by
      rw [if_pos (by omega), Nat.add_sub_cancel_left, Nat.zero_add]
  refine Rp.of_eq (Rp.add (pad2 _ _ e (R0.cst lit_zero)) (pad2 _ _ (Rp.ext h.a7 _) (R0.cst lit_zero))) fun i j hi hj => ?_
  unfold Start.In.dp
  by_cases hc : j < 1024
  · rw [if_pos hc, if_neg (by omega), if_pos (by omega), zero_add, Nat.sub_zero, Nat.sub_zero]
  · rw [if_neg hc, if_pos (by omega), if_neg (by omega), add_zero, Nat.sub_zero]

theorem v117 : Rp 2048 1024 (res_main_v117 V) I.dn :=
  Rp.of_eq (dot_nt (fun i j => by unfold res_main_v117; pointwise) (v114 h) (v21 h)) fun i j _ _ => dn_of I i j

theorem v124 : Rp 2048 1024 (res_main_v124 V) (fun i j => I.dn i j * I.g j) := Rp.mul (v117 h) (Rp.hbcRow _ h.a1)

theorem v134 : Rp 2048 1024 (res_main_v134 V) (fun i _ => through I i) := by
  refine Rp.of_eq (Rp.hbcVec _ (R1.hrowSum _ _ (Rp.hdiv (Rp.mul (castCol (R1.hrowSum _ _ (Rp.mul h.a0 (v124 h)) (R0.cst lit_zero)))
    (Rp.mul (Rp.hcst _ (R0.cst lit_mhalf)) (Rp.hdiv (v12 h) (v11 h)))) (Rp.hcst _ (R0.cst lit_1024))) (R0.cst lit_zero))) fun i j _ _ => ?_
  rw [Finset.sum_range_one, through]

theorem v153 : R3 4 256 512 (truncf (F := Ideal) (φ := .f32) .bf16 (transpose S4x256x512 [0, 2, 1] (Host.dotGeneral (F := Ideal) (φ₁ := .f32) (φ₂ := .f32) dot_S4x512x2048_S2048x4x256_S4x512x256_2_0_1_2_0_1 none (res_main_v65 V) (res_main_v49 V)) transposes_S4x512x256_S4x256x512_0_2_1) bitsLt_bf16_f32) I.dwg := by
  have e := R3.of_eq (weights_of (v65 h) (v49 h)) fun n a b _ _ hb => (dwg_of I n a b).trans (if_pos hb)
  exact fun n a b => e n a b

theorem tap {a b : (⟨2, ![2048, 1024]⟩ : Shape).Idx → EReal} {f g : ℕ → ℕ → EReal} (ha : Rp 2048 1024 a f) (hb : Rp 2048 1024 b g) :
    Rp 1 1024 (colSum (ml a b))
      (fun _ c => ∑ i ∈ Finset.range 2048, f i c * g i c) := row_of (R1.hsum _ _ (Rp.mul ha hb) (R0.cst lit_zero))

theorem v100 : Rp 1 1024 (colSum (res_main_v72 V)) (fun _ j => I.dcb j) :=
  row_of (R1.hsum _ _ (v72 h) (R0.cst lit_zero))

theorem v122 : Rp 1 1024 (colSum (ml (res_main_v17 V) (res_main_v117 V))) (fun _ j => I.dg j) :=
  Rp.of_eq (tap h (v17 h) (v117 h)) fun _ j _ _ => dg_of I j

theorem v107 : Rp 4 1024 (ad (ad (ad (pad S4x1024 ![3, 0] ![0, 0] ![0, 0] (colSum (ml (res_main_v44 V) (res_main_v73 V))) zero pads_S1x1024_S4x1024_300_000 h_S_)
      (pad S4x1024 ![2, 0] ![1, 0] ![0, 0] (colSum (ml (res_main_v39 V) (res_main_v72 V))) zero pads_S1x1024_S4x1024_210_000 h_S_))
      (pad S4x1024 ![1, 0] ![2, 0] ![0, 0] (colSum (ml (res_main_v34 V) (res_main_v72 V))) zero pads_S1x1024_S4x1024_120_000 h_S_))
      (pad S4x1024 ![0, 0] ![3, 0] ![0, 0] (colSum (ml (res_main_v28 V) (res_main_v72 V))) zero pads_S1x1024_S4x1024_030_000 h_S_)) I.dcw := by
  refine Rp.of_eq (Rp.add (Rp.add (Rp.add (pad2 _ _ (tap h (v44 h) (v73 h)) (R0.cst lit_zero)) (pad2 _ _ (tap h (v39 h) (v72 h)) (R0.cst lit_zero)))
    (pad2 _ _ (tap h (v34 h) (v72 h)) (R0.cst lit_zero))) (pad2 _ _ (tap h (v28 h) (v72 h)) (R0.cst lit_zero))) fun r j hr hj => ?_
  have hs : ∀ i, sh 0 I.x i j = I.x i j := fun i => by rw [sh, if_pos (Nat.zero_le _), Nat.sub_zero]
  unfold Start.In.dcw
  interval_cases r
  · rw [if_neg (by omega), if_neg (by omega), if_neg (by omega), if_pos (by omega)]
    simp only [zero_add, mul_comm, Nat.sub_zero]
  · rw [if_neg (by omega), if_neg (by omega), if_pos (by omega), if_neg (by omega)]
    simp only [zero_add, add_zero, mul_comm, Nat.sub_zero]
  · rw [if_neg (by omega), if_pos (by omega), if_neg (by omega), if_neg (by omega)]
    simp only [zero_add, add_zero, mul_comm, Nat.sub_zero]
  · rw [if_pos (by omega), if_neg (by omega), if_neg (by omega), if_neg (by omega)]
    simp only [add_zero, mul_comm, Nat.sub_zero, hs, Nat.sub_self]

theorem v139 : Rp 2048 1024 (ad (V (Proc.devRef .tc main_arg11)) (ad (ad (ml (res_main_v124 V) (broadcastInDim S2048x1024 ![0, 1] bcast_S2048x1_S2048x1024_0_1 (res_main_v12 V)))
      (ml (V (Proc.devRef .tc main_arg0)) (res_main_v134 V))) (ml (res_main_v134 V) (V (Proc.devRef .tc main_arg0))))) I.dhm :=
  Rp.of_eq (Rp.add h.a11 (Rp.add (Rp.add (Rp.mul (v124 h) (Rp.hbcCol _ (v12 h))) (Rp.mul h.a0 (v134 h))) (Rp.mul (v134 h) h.a0))) fun i j _ hj => dhm_of I i j hj

theorem v154 : R3 4 1024 512 (truncf (F := Ideal) (φ := .f32) .bf16 (transpose S4x1024x512 [1, 0, 2] (shapeCast S1024x4x512 (transpose S1024x2048 [1, 0] (Host.dotGeneral (F := Ideal) (φ₁ := .f32) (φ₂ := .f32) dot_S2048x2048_S2048x1024_S2048x1024_0_0_1_1_n_n none (res_main_v114 V) (res_main_v19 V)) transposes_S2048x1024_S1024x2048_1_0) shapeCasts_S1024x2048_S1024x4x512) transposes_S1024x4x512_S4x1024x512_1_0_2) bitsLt_bf16_f32) I.dwi := by
  have e := R3.of_eq (shards (turned (h := transposes_S2048x1024_S1024x2048_1_0) (dot_tn (v := Host.dotGeneral (F := Ideal) (φ₁ := .f32) (φ₂ := .f32) dot_S2048x2048_S2048x1024_S2048x1024_0_0_1_1_n_n none (res_main_v114 V) (res_main_v19 V)) (fun i j => by pointwise) (v114 h) (v19 h))))
    (g := I.dwi) fun q k f _ _ _ => Finset.sum_congr rfl fun i _ => by rw [mul_comm q, mul_comm]
  exact fun q k f => e q k f

theorem v152 : Rp 2048 1024 (truncf (F := Ideal) (φ := .f32) .bf16 (res_main_v19 V) bitsLt_bf16_f32) I.xn := Rp.trunc (v19 h) _

end

end Cert.StartRef
-- ==== Proof.StartAlg.lean ====
/- The third pair of programs' results are the same arrays of extended reals, whatever the arguments hold. -/
module

public import proofs.«01_k».proof.Defs
public import proofs.«01_k».proof.Proof.StartKer
public import proofs.«01_k».proof.Proof.StartRun
public import proofs.«01_k».proof.Proof.StartRef
public import Idealize.ShloMosaic.Lib.Quiescent

@[expose] public section

noncomputable section

namespace Cert.StartAlg

open Idealize.ShloMosaic Idealize.ShloMosaic.TcCoe Idealize.SL.Sem Cert.Ext
open Kernel3Ideal Kernel3Ideal.Gen

/-- The entries of an array, and zero outside it. -/
def en {M N : ℕ} (v : (⟨2, ![M, N]⟩ : Shape).Idx → EReal) (i j : ℕ) : EReal := if h : i < M ∧ j < N then v (ix2 ⟨i, h.1⟩ ⟨j, h.2⟩) else 0
def en3 {P M N : ℕ} (v : (⟨3, ![P, M, N]⟩ : Shape).Idx → EReal) (k i j : ℕ) : EReal :=
  if h : k < P ∧ i < M ∧ j < N then v (ix3 ⟨k, h.1⟩ ⟨i, h.2.1⟩ ⟨j, h.2.2⟩) else 0

theorem en_Rp {M N : ℕ} (v : (⟨2, ![M, N]⟩ : Shape).Idx → EReal) : Rp M N v (en v) := fun i j => by rw [en, dif_pos (And.intro i.2 j.2)]
theorem en_R3 {P M N : ℕ} (v : (⟨3, ![P, M, N]⟩ : Shape).Idx → EReal) : R3 P M N v (en3 v) := fun k i j => by
  rw [en3, dif_pos (And.intro k.2 (And.intro i.2 j.2))]
theorem row_Rp {N : ℕ} (v : (⟨2, ![1, N]⟩ : Shape).Idx → EReal) : Rp 1 N v (fun _ j => en v 0 j) :=
  Rp.of_eq (en_Rp v) fun i j hi _ => by rw [Nat.lt_one_iff.mp hi]

theorem eq_of_Rp {M N : ℕ} {a b : (⟨2, ![M, N]⟩ : Shape).Idx → EReal} {f : ℕ → ℕ → EReal} (ha : Rp M N a f) (hb : Rp M N b f) : a = b :=
  funext fun y => (ha.at y).trans (hb.at y).symm
theorem eq_of_R3 {P M N : ℕ} {a b : (⟨3, ![P, M, N]⟩ : Shape).Idx → EReal} {f : ℕ → ℕ → ℕ → EReal} (ha : R3 P M N a f) (hb : R3 P M N b f) : a = b :=
  funext fun y => (ha.at y).trans (hb.at y).symm

variable (m : (ℓ : Loc nD τ sig) → Buf (Elt Ideal) ℓ) (c : Dev nD)

/-- The operands a core's memory holds. -/
def inOf : Start.In where
  h := en (M := 2048) (N := 1024) (m ((c.tc : Thread nD τ).loc main_arg0))
  g := en (M := 1) (N := 1024) (m ((c.tc : Thread nD τ).loc main_arg1)) 0
  wi := en3 (P := 4) (M := 1024) (N := 512) (m ((c.tc : Thread nD τ).loc main_arg2))
  cw := en (M := 4) (N := 1024) (m ((c.tc : Thread nD τ).loc main_arg3))
  cb := en (M := 1) (N := 1024) (m ((c.tc : Thread nD τ).loc main_arg4)) 0
  wg := en3 (P := 4) (M := 256) (N := 512) (m ((c.tc : Thread nD τ).loc main_arg5))
  bg := fun n j => en3 (P := 4) (M := 1) (N := 512) (m ((c.tc : Thread nD τ).loc main_arg6)) n 0 j
  dgb := en (M := 2048) (N := 1024) (m ((c.tc : Thread nD τ).loc main_arg7))
  dgi := en (M := 2048) (N := 1024) (m ((c.tc : Thread nD τ).loc main_arg8))
  dgr := en (M := 2048) (N := 1024) (m ((c.tc : Thread nD τ).loc main_arg9))
  d1 := en (M := 2048) (N := 1024) (m ((c.tc : Thread nD τ).loc main_arg10))
  dh := en (M := 2048) (N := 1024) (m ((c.tc : Thread nD τ).loc main_arg11))

theorem held : StartKer.Held (inOf m c) m c :=
  ⟨en_Rp _, row_Rp _, en_R3 _, en_Rp _, row_Rp _, en_R3 _, R3.of_eq (en_R3 _) fun n i j _ hi _ => by rw [Nat.lt_one_iff.mp hi]; rfl, en_Rp _, en_Rp _, en_Rp _, en_Rp _, en_Rp _⟩

set_option maxHeartbeats 1000000 in
theorem algebraic : algebraic_Kernel3Ideal_Reference3Ideal (hKernel3Ideal := facts) (hReference3Ideal := Reference3Ideal.Gen.facts) := by
  intro m g m' g' _ hargs
  refine ⟨fun c => W10 m g c (Proc.devRef .tc main_v0), fun c => W10 m g c (Proc.devRef .tc main_v10), fun c => W10 m g c (Proc.devRef .tc main_v2_0), fun c => W10 m g c (Proc.devRef .tc main_v3_0), fun c => W10 m g c (Proc.devRef .tc main_v3_1), fun c => W10 m g c (Proc.devRef .tc main_v4_1), fun c => W10 m g c (Proc.devRef .tc main_v5_1), fun c => W10 m g c (Proc.devRef .tc main_v5_2), fun c => W10 m g c (Proc.devRef .tc main_v7), fun c => W10 m g c (Proc.devRef .tc main_v8_0), fun c => W10 m g c (Proc.devRef .tc main_v8_1), fun c => W10 m g c (Proc.devRef .tc main_v9), ?_, ?_⟩
  · refine (θ_run _ _ _).mono (fun r h c => ?_) (StartRun.run m g)
    have u := fun b hb => h c _ (mem_uc b hb)
    exact ⟨u main_v0 (by decide), u main_v10 (by decide), u main_v2_0 (by decide), u main_v3_0 (by decide), u main_v3_1 (by decide), u main_v4_1 (by decide), u main_v5_1 (by decide), u main_v5_2 (by decide), u main_v7 (by decide), u main_v8_0 (by decide), u main_v8_1 (by decide), u main_v9 (by decide),
      (u main_arg0 (by decide)).trans (W10_main_arg0 m g c), (u main_arg1 (by decide)).trans (W10_main_arg1 m g c), (u main_arg2 (by decide)).trans (W10_main_arg2 m g c), (u main_arg3 (by decide)).trans (W10_main_arg3 m g c), (u main_arg4 (by decide)).trans (W10_main_arg4 m g c), (u main_arg5 (by decide)).trans (W10_main_arg5 m g c), (u main_arg6 (by decide)).trans (W10_main_arg6 m g c), (u main_arg7 (by decide)).trans (W10_main_arg7 m g c), (u main_arg8 (by decide)).trans (W10_main_arg8 m g c), (u main_arg9 (by decide)).trans (W10_main_arg9 m g c), (u main_arg10 (by decide)).trans (W10_main_arg10 m g c), (u main_arg11 (by decide)).trans (W10_main_arg11 m g c)⟩
  · refine (θ_run _ _ _).mono (fun r h c => ?_) (Reference3Ideal.Value.run m' g')
    obtain ⟨a0, a1, a2, a3, a4, a5, a6, a7, a8, a9, a10, a11⟩ := hargs c
    have hh := held m c
    have hv : StartRef.Held (inOf m c) (StableHlo.launchContents m' c) := ⟨fun i j => (congrFun a0 _).trans (hh.a0 i j), fun i j => (congrFun a1 _).trans (hh.a1 i j), fun k i j => (congrFun a2 _).trans (hh.a2 k i j), fun i j => (congrFun a3 _).trans (hh.a3 i j), fun i j => (congrFun a4 _).trans (hh.a4 i j), fun k i j => (congrFun a5 _).trans (hh.a5 k i j), fun k i j => (congrFun a6 _).trans (hh.a6 k i j), fun i j => (congrFun a7 _).trans (hh.a7 i j), fun i j => (congrFun a8 _).trans (hh.a8 i j), fun i j => (congrFun a9 _).trans (hh.a9 i j), fun i j => (congrFun a10 _).trans (hh.a10 i j), fun i j => (congrFun a11 _).trans (hh.a11 i j)⟩
    obtain ⟨r0, r1, r2, r3, r4, r5, r6, r7, r8, r9, r10, r11, hr⟩ := h c
    exact ⟨r0.trans (eq_of_Rp (StartRef.v152 hv) (StartKer.w10_v0 m g c _ hh)), r1.trans (eq_of_Rp (StartRef.v23 hv) (StartKer.w10_v10 m g c _ hh)), r2.trans (eq_of_Rp (StartRef.v48 hv) (StartKer.w10_v2_0 m g c _ hh)), r3.trans (eq_of_Rp (StartRef.v57 hv) (StartKer.w10_v3_0 m g c _ hh)), r4.trans (eq_of_Rp (StartRef.v59 hv) (StartKer.w10_v3_1 m g c _ hh)), r5.trans (eq_of_R3 (StartRef.v153 hv) (StartKer.w10_v4_1 m g c _ hh)), r6.trans (eq_of_Rp (StartRef.v107 hv) (StartKer.w10_v5_1 m g c _ hh)), r7.trans (eq_of_Rp (StartRef.v100 hv) (StartKer.w10_v5_2 m g c _ hh)), r8.trans (eq_of_R3 (StartRef.v154 hv) (StartKer.w10_v7 m g c _ hh)), r9.trans (eq_of_Rp (StartRef.v139 hv) (StartKer.w10_v8_0 m g c _ hh)), r10.trans (eq_of_Rp (Rp.trunc (StartRef.v139 hv) Reference3Ideal.Gen.bitsLt_bf16_f32) (StartKer.w10_v8_1 m g c _ hh)), r11.trans (eq_of_Rp (StartRef.v122 hv) (StartKer.w10_v9 m g c _ hh)), hr⟩

/-- The reference ends with its arguments unchanged and no semaphore raised. -/
theorem frameRef : quiescent_Reference3Ideal (hReference3Ideal := Reference3Ideal.Gen.facts) := fun m ρ _ =>
  (θ_run _ _ _).mono (fun _ h => ⟨fun c => (h c).2.2.2.2.2.2.2.2.2.2.2.2, sem_eq_zero_of_no_sems (by decide) _⟩) (Reference3Ideal.Value.run m ρ)

end Cert.StartAlg
-- ==== Proof.Query.lean ====
/- An attention layer's queries and their gradient over the extended reals: a norm and a projection, and the gradients of
   both, in the order the kernels work them out. -/
module

public import proofs.«01_k».proof.Proof.Ext

@[expose] public section

noncomputable section

namespace Cert.Query

open Cert.Ext Idealize.ShloMosaic

/-- The operands: the residual stream, the norm's gain, the projection, the gradient of the queries before their scale,
    and the gradient of the stream. -/
structure In where
  h : ℕ → ℕ → EReal
  g : ℕ → EReal
  w : ℕ → ℕ → EReal
  dq : ℕ → ℕ → EReal
  dh : ℕ → ℕ → EReal

variable (I : In)

def In.xr (i j : ℕ) : EReal := I.h i j * rn (I.h i)
def In.xn (i j : ℕ) : EReal := I.h i j * rn (I.h i) * I.g j
/-- The queries with their scale, an eighth. -/
def In.q (i j : ℕ) : EReal := (∑ k ∈ Finset.range 1024, I.xn i k * I.w k j) * Ideal.ofBits .f32 0x3E000000#32
def In.dw (k j : ℕ) : EReal := ∑ i ∈ Finset.range 2048, I.xn i k * I.dq i j
/-- The gradient of the normed stream. -/
def In.dn (i j : ℕ) : EReal := ∑ k ∈ Finset.range 1024, I.dq i k * I.w j k
def In.dhm (i j : ℕ) : EReal := I.dh i j + (rn (I.h i) * (I.dn i j * I.g j)
  - I.xr i j * (rn (I.h i) * Ideal.div (∑ k ∈ Finset.range 1024, I.dn i k * I.g k * I.xr i k) ((1024 : ℝ) : EReal)))
/-- The gain's gradient over one tile of 512 rows. -/
def In.dgt (t j : ℕ) : EReal := ∑ i ∈ Finset.range 512, I.dn (512 * t + i) j * I.xr (512 * t + i) j
def In.dg (j : ℕ) : EReal := ∑ t ∈ Finset.range 4, I.dgt t j

end Cert.Query
-- ==== Proof.QueryKer.lean ====
/- The fourth kernel's results: what its four kernels make of blocks, the arrays they leave, and what a core holds when
   the last host line ends. -/
module

public import proofs.«01_k».proof.Proof.Query
public import proofs.«01_k».proof.Proof.StartPay
public import proofs.«01_k».proof.Proof.Gen.Kernel4Ideal.Frame
public import Idealize.ShloMosaic.Lib.Pipeline.ValueKit
public import Idealize.ShloMosaic.Lib.StableHlo.RunRead

@[expose] public section

set_option maxRecDepth 16384

noncomputable section

namespace Cert.QueryKer

open Cert.Ffn (lit_eps lit_1024)
open Idealize.ShloMosaic Idealize.ShloMosaic.TcCoe Idealize.ShloMosaic.StableHlo
open Cert.Kernel4Ideal Cert.Kernel4Ideal.Gen Cert.Ext

/-! The kernels' values. -/

theorem col512 {r : (⟨1, ![512]⟩ : Shape).Idx → EReal} {q : ℕ → EReal} (h : (⟨1, ![512]⟩ : Shape).ShapeCasts ⟨2, ![512, 1]⟩)
    (hr : R1 512 r q) : Rp 512 1 (shapeCast ⟨2, ![512, 1]⟩ r h) (fun i _ => q i) := fun i j => by
  pointwise; exact hr i

theorem sumTiles {a : (⟨3, ![4, 1, 1024]⟩ : Shape).Idx → EReal} {f : ℕ → ℕ → ℕ → EReal} {z : (⟨0, ![]⟩ : Shape).Idx → EReal}
    (hr : (⟨3, ![4, 1, 1024]⟩ : Shape).ReducesTo [0] ⟨2, ![1, 1024]⟩) (h0 : 0 < (⟨0, ![]⟩ : Shape).numel) (ha : R3 4 1 1024 a f) (hz : R0 z 0) :
    Rp 1 1024 (Host.reduceAdd (F := Ideal) (φ := .f32) a z hr h0) (fun i j => ∑ t ∈ Finset.range 4, f t i j) := fun i j => by
  pointwise
  rw [hz, zero_add, Finset.sum_range fun t => f t 0 j]
  exact Finset.sum_congr rfl fun k _ => ha k 0 j

section
variable {a b : S1024x1024.Idx → EReal} {A B : ℕ → ℕ → EReal}

theorem k1_1 (ha : Rp 1024 1024 a A) (hb : Rp 1024 1024 b B) :
    Rp 1024 1024 (k1_pay1 (F := Ideal) a b) (fun i j => (∑ k ∈ Finset.range 1024, A i k * B k j) * Ideal.ofBits .f32 0x3E000000#32) := by
  unfold k1_pay1
  have hd : Rp 1024 1024 (matmul (F := Ideal) (φ₁ := .bf16) (φ₂ := .bf16) dot_S1024x1024_S1024x1024_S1024x1024_1_0_0_1_n_n none a b (constant (F := Ideal) S1024x1024 .f32 0x00000000#32)) _ :=
    dot_nn (fun i j => by pointwise) ha hb
  exact Rp.castSelf _ (Rp.trunc (Rp.mul hd (Rp.cst rfl)) _)
end

theorem k2_1 {a : S2048x512.Idx → EReal} {b : S2048x1024.Idx → EReal} {A B : ℕ → ℕ → EReal} (ha : Rp 2048 512 a A) (hb : Rp 2048 1024 b B) :
    Rp 512 1024 (k2_pay1 (F := Ideal) a b) (fun i j => ∑ k ∈ Finset.range 2048, A k i * B k j) := by
  unfold k2_pay1
  have hd : Rp 512 1024 (matmul (F := Ideal) (φ₁ := .bf16) (φ₂ := .bf16) dot_S2048x512_S2048x1024_S512x1024_0_0_1_1_n_n none a b (constant (F := Ideal) S512x1024 .f32 0x00000000#32)) _ :=
    dot_tn (fun i j => by pointwise) ha hb
  exact Rp.castSelf _ (Rp.trunc hd _)

section
variable {d h e : S512x1024.Idx → EReal} {w : S1024x1024.Idx → EReal} {r : S1x1024.Idx → EReal} {D H E G W : ℕ → ℕ → EReal}

theorem k3_3 (hd : Rp 512 1024 d D) (hw : Rp 1024 1024 w W) :
    Rp 512 1024 (k3_pay3 (F := Ideal) d w) (fun i j => ∑ k ∈ Finset.range 1024, D i k * W j k) := by
  unfold k3_pay3
  exact dot_nt (fun i j => by pointwise) hd hw

theorem k3_4 (hh : Rp 512 1024 h H) : Rp 512 1 (k3_pay4 (F := Ideal) h) (fun i _ => rn (H i)) := by
  unfold k3_pay4
  exact Rp.rsqrt (Rp.add (Rp.div (col512 _ (R1.rowSum _ _ _ (Rp.mul hh hh))) (Rp.cst lit_1024)) (Rp.cst lit_eps))

theorem k3_5 (hh : Rp 512 1024 h H) : Rp 512 1024 (k3_pay5 (F := Ideal) h) (fun i j => H i j * rn (H i)) := by
  unfold k3_pay5
  exact Rp.mul hh (Rp.bcCol _ (k3_4 hh))

/-- The stream's gradient: what it was, and what comes through the norm. -/
def through (E H G D : ℕ → ℕ → EReal) (i j : ℕ) : EReal := E i j + (rn (H i) * (D i j * G 0 j)
  - H i j * rn (H i) * (rn (H i) * Ideal.div (∑ k ∈ Finset.range 1024, D i k * G 0 k * (H i k * rn (H i))) ((1024 : ℝ) : EReal)))

theorem k3_7 (hd : Rp 512 1024 d D) (hw : Rp 1024 1024 w W) (hh : Rp 512 1024 h H) (hg : Rp 1 1024 r G) (he : Rp 512 1024 e E) :
    Rp 512 1024 (k3_pay7 (F := Ideal) d w h r e) (through E H G fun i j => ∑ k ∈ Finset.range 1024, D i k * W j k) := by
  have h1 := k3_4 hh
  have h2 := k3_5 hh
  have hdg := Rp.mul (k3_3 hd hw) (Rp.bcRow broadcasts_S1x1024_S512x1024 hg)
  unfold k3_pay7
  exact Rp.add he (Rp.sub (Rp.mul (Rp.bcCol _ h1) hdg) (Rp.mul h2 (Rp.bcCol _ (Rp.mul h1 (Rp.div (col512 _ (R1.rowSum _ _ _ (Rp.mul hdg h2))) (Rp.cst lit_1024))))))

theorem k3_6 (hd : Rp 512 1024 d D) (hw : Rp 1024 1024 w W) (hh : Rp 512 1024 h H) :
    R3 1 1 1024 (k3_pay1 (F := Ideal) (k3_pay6 (F := Ideal) d w h)) (fun _ _ j => ∑ i ∈ Finset.range 512, (∑ k ∈ Finset.range 1024, D i k * W j k) * (H i j * rn (H i))) := by
  unfold k3_pay1 k3_pay6
  exact lift_1_1024 _ (row_of (colSum _ _ _ (Rp.mul (k3_3 hd hw) (k3_5 hh))))
end

/-! The blocks the kernels are given. -/

variable {V : (c : Dev nD) → (b : Ref sig .tc) → Buf (Elt Ideal) ((c : Thread nD τ).loc b)} (c : Dev nD)

theorem ib0_0 (t : Fin cfg0.N) {f : ℕ → ℕ → EReal} (h : Rp 2048 1024 (V c main_arg0) f) :
    Rp 256 1024 (iblk0 V c 0 t) (fun i j => f (256 * t.val + i) j) := fun i j => by
  have hN : (t : ℕ) < 8 := t.isLt.trans_eq N_0
  refine Eq.trans ?_ (h ⟨256 * t.val + i, by omega⟩ j)
  have hi : (cfg0.win 0).index t = ![t.val, 0] := by
    revert t; decide +kernel
  blk_ext [iblk0, hi]

theorem ib0_1 (t : Fin cfg0.N) {f : ℕ → ℕ → EReal} (h : Rp 1 1024 (V c main_arg1) f) :
    Rp 1 1024 (iblk0 V c 1 t) (fun i j => f i j) := fun i j => by
  have hN : (t : ℕ) < 8 := t.isLt.trans_eq N_0
  refine Eq.trans ?_ (h i j)
  have hi : (cfg0.win 1).index t = ![0, 0] := by
    revert t; decide +kernel
  blk_ext [iblk0, hi]

theorem ib1_0 (t : Fin cfg1.N) {f : ℕ → ℕ → EReal} (h : Rp 2048 1024 (V c main_v0) f) :
    Rp 1024 1024 (iblk1 V c 0 t) (fun i j => f (1024 * t.val + i) j) := fun i j => by
  have hN : (t : ℕ) < 2 := t.isLt.trans_eq N_1
  refine Eq.trans ?_ (h ⟨1024 * t.val + i, by omega⟩ j)
  have hi : (cfg1.win 0).index t = ![t.val, 0] := by
    revert t; decide +kernel
  blk_ext [iblk1, hi]

theorem ib1_1 (t : Fin cfg1.N) {f : ℕ → ℕ → EReal} (h : Rp 1024 1024 (V c main_arg2) f) :
    Rp 1024 1024 (iblk1 V c 1 t) (fun i j => f i j) := fun i j => by
  have hN : (t : ℕ) < 2 := t.isLt.trans_eq N_1
  refine Eq.trans ?_ (h i j)
  have hi : (cfg1.win 1).index t = ![0, 0] := by
    revert t; decide +kernel
  blk_ext [iblk1, hi]

theorem ib2_0 (t : Fin cfg2.N) {f : ℕ → ℕ → EReal} (h : Rp 2048 1024 (V c main_v0) f) :
    Rp 2048 512 (iblk2 V c 0 t) (fun i j => f i (512 * t.val + j)) := fun i j => by
  have hN : (t : ℕ) < 2 := t.isLt.trans_eq N_2
  refine Eq.trans ?_ (h i ⟨512 * t.val + j, by omega⟩)
  have hi : (cfg2.win 0).index t = ![0, t.val] := by
    revert t; decide +kernel
  blk_ext [iblk2, hi]

theorem ib2_1 (t : Fin cfg2.N) {f : ℕ → ℕ → EReal} (h : Rp 2048 1024 (V c main_arg3) f) :
    Rp 2048 1024 (iblk2 V c 1 t) (fun i j => f i j) := fun i j => by
  have hN : (t : ℕ) < 2 := t.isLt.trans_eq N_2
  refine Eq.trans ?_ (h i j)
  have hi : (cfg2.win 1).index t = ![0, 0] := by
    revert t; decide +kernel
  blk_ext [iblk2, hi]

theorem ib3_0 (t : Fin cfg3.N) {f : ℕ → ℕ → EReal} (h : Rp 2048 1024 (V c main_arg3) f) :
    Rp 512 1024 (iblk3 V c 0 t) (fun i j => f (512 * t.val + i) j) := fun i j => by
  have hN : (t : ℕ) < 4 := t.isLt.trans_eq N_3
  refine Eq.trans ?_ (h ⟨512 * t.val + i, by omega⟩ j)
  have hi : (cfg3.win 0).index t = ![t.val, 0] := by
    revert t; decide +kernel
  blk_ext [iblk3, hi]

theorem ib3_1 (t : Fin cfg3.N) {f : ℕ → ℕ → EReal} (h : Rp 1024 1024 (V c main_arg2) f) :
    Rp 1024 1024 (iblk3 V c 1 t) (fun i j => f i j) := fun i j => by
  have hN : (t : ℕ) < 4 := t.isLt.trans_eq N_3
  refine Eq.trans ?_ (h i j)
  have hi : (cfg3.win 1).index t = ![0, 0] := by
    revert t; decide +kernel
  blk_ext [iblk3, hi]

theorem ib3_2 (t : Fin cfg3.N) {f : ℕ → ℕ → EReal} (h : Rp 2048 1024 (V c main_arg0) f) :
    Rp 512 1024 (iblk3 V c 2 t) (fun i j => f (512 * t.val + i) j) := fun i j => by
  have hN : (t : ℕ) < 4 := t.isLt.trans_eq N_3
  refine Eq.trans ?_ (h ⟨512 * t.val + i, by omega⟩ j)
  have hi : (cfg3.win 2).index t = ![t.val, 0] := by
    revert t; decide +kernel
  blk_ext [iblk3, hi]

theorem ib3_3 (t : Fin cfg3.N) {f : ℕ → ℕ → EReal} (h : Rp 1 1024 (V c main_arg1) f) :
    Rp 1 1024 (iblk3 V c 3 t) (fun i j => f i j) := fun i j => by
  have hN : (t : ℕ) < 4 := t.isLt.trans_eq N_3
  refine Eq.trans ?_ (h i j)
  have hi : (cfg3.win 3).index t = ![0, 0] := by
    revert t; decide +kernel
  blk_ext [iblk3, hi]

theorem ib3_4 (t : Fin cfg3.N) {f : ℕ → ℕ → EReal} (h : Rp 2048 1024 (V c main_arg4) f) :
    Rp 512 1024 (iblk3 V c 4 t) (fun i j => f (512 * t.val + i) j) := fun i j => by
  have hN : (t : ℕ) < 4 := t.isLt.trans_eq N_3
  refine Eq.trans ?_ (h ⟨512 * t.val + i, by omega⟩ j)
  have hi : (cfg3.win 4).index t = ![t.val, 0] := by
    revert t; decide +kernel
  blk_ext [iblk3, hi]

/-! What the kernels leave in an output block. -/

theorem o0_2 (x0 : Vec Ideal S256x1024 .f32) (x1 : Vec Ideal S1x1024 .f32) :
    out0_2 x0 x1 = k0_pay1 x0 x1 := by
  unfold out0_2
  rw [View.canon_cons_unit_lit _ _ _ (by decide), View.ld_unit_lit _ x0 (by decide), View.ld_unit_lit _ x1 (by decide)]

theorem o1_2 (x0 : Vec Ideal S1024x1024 .bf16) (x1 : Vec Ideal S1024x1024 .bf16) :
    out1_2 x0 x1 = k1_pay1 x0 x1 := by
  unfold out1_2
  rw [View.canon_cons_unit_lit _ _ _ (by decide), View.ld_unit_lit _ x0 (by decide), View.ld_unit_lit _ x1 (by decide)]

theorem o2_2 (x0 : Vec Ideal S2048x512 .bf16) (x1 : Vec Ideal S2048x1024 .bf16) :
    out2_2 x0 x1 = k2_pay1 x0 x1 := by
  unfold out2_2
  rw [View.canon_cons_unit_lit _ _ _ (by decide), View.ld_unit_lit _ x0 (by decide), View.ld_unit_lit _ x1 (by decide)]

theorem o3_5 (x0 : Vec Ideal S512x1024 .bf16) (x1 : Vec Ideal S1024x1024 .bf16) (x2 : Vec Ideal S512x1024 .f32) (x3 : Vec Ideal S1x1024 .f32) (x4 : Vec Ideal S512x1024 .f32) :
    out3_5 x0 x1 x2 x3 x4 = k3_pay2 (k3_pay7 x0 x1 x2 x3 x4) := by
  unfold out3_5
  rw [View.canon_cons_unit_lit _ _ _ (by decide), View.ld_unit_lit _ x0 (by decide), View.ld_unit_lit _ x1 (by decide), View.ld_unit_lit _ x2 (by decide), View.ld_unit_lit _ x3 (by decide), View.ld_unit_lit _ x4 (by decide)]

theorem o3_6 (x0 : Vec Ideal S512x1024 .bf16) (x1 : Vec Ideal S1024x1024 .bf16) (x2 : Vec Ideal S512x1024 .f32) (x3 : Vec Ideal S1x1024 .f32) (x4 : Vec Ideal S512x1024 .f32) :
    out3_6 x0 x1 x2 x3 x4 = k3_pay8 x0 x1 x2 x3 x4 := by
  unfold out3_6
  rw [View.canon_cons_unit_lit _ _ _ (by decide), View.ld_unit_lit _ x0 (by decide), View.ld_unit_lit _ x1 (by decide), View.ld_unit_lit _ x2 (by decide), View.ld_unit_lit _ x3 (by decide), View.ld_unit_lit _ x4 (by decide)]

theorem o3_7 (x0 : Vec Ideal S512x1024 .bf16) (x1 : Vec Ideal S1024x1024 .bf16) (x2 : Vec Ideal S512x1024 .f32) (x3 : Vec Ideal S1x1024 .f32) (x4 : Vec Ideal S512x1024 .f32) :
    out3_7 x0 x1 x2 x3 x4 = k3_pay1 (k3_pay6 x0 x1 x2) := by
  unfold out3_7
  rw [View.canon_cons_unit_lit _ _ _ (by decide), View.ld_unit_lit _ x0 (by decide), View.ld_unit_lit _ x1 (by decide), View.ld_unit_lit _ x2 (by decide)]

/-! The arrays the kernels leave. -/

variable (I : Query.In)

theorem arr0_2 (h0 : Rp 2048 1024 (V c main_arg0) I.h) (h1 : Rp 1 1024 (V c main_arg1) (fun _ j => I.g j)) :
    Rp 2048 1024 ((dat0 V c).arrAt 2 cfg0.N) I.xn := by
  intro i j
  refine (dat0 V c).arrAt_forall_of_covers 2 (fun y v => v = I.xn (y 0 : Fin 2048) (y 1 : Fin 1024)) (by decide +kernel) (fun t hf y => ?_) (ix2 i j)
  rw [after0_2]
  have hN : (t : ℕ) < 8 := t.isLt.trans_eq N_0
  have hi : (cfg0.win 2).index t = ![t.val, 0] := by
    clear hf y hN; revert t; decide +kernel
  have key : Rp 256 1024 (out0_2 (iblk0 V c 0 t) (iblk0 V c 1 t)) (fun i j => I.xn (256 * t.val + i) j) := by
    have e := StartPay.k0_1 (ib0_0 c t h0) (ib0_1 c t h1)
    rw [o0_2]
    exact e
  generalize iblk0 V c 0 t = x0, iblk0 V c 1 t = x1 at key ⊢
  rw [key.at y]
  blk_simp [hi]
  rw [Nat.mul_comm 256]

theorem arr1_2 (hx : Rp 2048 1024 (V c main_v0) I.xn) (h2 : Rp 1024 1024 (V c main_arg2) I.w) :
    Rp 2048 1024 ((dat1 V c).arrAt 2 cfg1.N) I.q := by
  intro i j
  refine (dat1 V c).arrAt_forall_of_covers 2 (fun y v => v = I.q (y 0 : Fin 2048) (y 1 : Fin 1024)) (by decide +kernel) (fun t hf y => ?_) (ix2 i j)
  rw [after1_2]
  have hN : (t : ℕ) < 2 := t.isLt.trans_eq N_1
  have hi : (cfg1.win 2).index t = ![t.val, 0] := by
    clear hf y hN; revert t; decide +kernel
  have key : Rp 1024 1024 (out1_2 (iblk1 V c 0 t) (iblk1 V c 1 t)) (fun i j => I.q (1024 * t.val + i) j) := by
    have e := k1_1 (ib1_0 c t hx) (ib1_1 c t h2)
    rw [o1_2]
    exact e
  generalize iblk1 V c 0 t = x0, iblk1 V c 1 t = x1 at key ⊢
  rw [key.at y]
  blk_simp [hi]
  rw [Nat.mul_comm 1024]

theorem arr2_2 (hx : Rp 2048 1024 (V c main_v0) I.xn) (h3 : Rp 2048 1024 (V c main_arg3) I.dq) :
    Rp 1024 1024 ((dat2 V c).arrAt 2 cfg2.N) I.dw := by
  intro i j
  refine (dat2 V c).arrAt_forall_of_covers 2 (fun y v => v = I.dw (y 0 : Fin 1024) (y 1 : Fin 1024)) (by decide +kernel) (fun t hf y => ?_) (ix2 i j)
  rw [after2_2]
  have hN : (t : ℕ) < 2 := t.isLt.trans_eq N_2
  have hi : (cfg2.win 2).index t = ![t.val, 0] := by
    clear hf y hN; revert t; decide +kernel
  have key : Rp 512 1024 (out2_2 (iblk2 V c 0 t) (iblk2 V c 1 t)) (fun i j => I.dw (512 * t.val + i) j) := by
    have e := k2_1 (ib2_0 c t hx) (ib2_1 c t h3)
    rw [o2_2]
    exact e
  generalize iblk2 V c 0 t = x0, iblk2 V c 1 t = x1 at key ⊢
  rw [key.at y]
  blk_simp [hi]
  rw [Nat.mul_comm 512]

theorem arr3_5 (h3 : Rp 2048 1024 (V c main_arg3) I.dq) (h2 : Rp 1024 1024 (V c main_arg2) I.w) (h0 : Rp 2048 1024 (V c main_arg0) I.h) (h1 : Rp 1 1024 (V c main_arg1) (fun _ j => I.g j)) (h4 : Rp 2048 1024 (V c main_arg4) I.dh) :
    Rp 2048 1024 ((dat3 V c).arrAt 5 cfg3.N) I.dhm := by
  intro i j
  refine (dat3 V c).arrAt_forall_of_covers 5 (fun y v => v = I.dhm (y 0 : Fin 2048) (y 1 : Fin 1024)) (by decide +kernel) (fun t hf y => ?_) (ix2 i j)
  rw [after3_5]
  have hN : (t : ℕ) < 4 := t.isLt.trans_eq N_3
  have hi : (cfg3.win 5).index t = ![t.val, 0] := by
    clear hf y hN; revert t; decide +kernel
  have key : Rp 512 1024 (out3_5 (iblk3 V c 0 t) (iblk3 V c 1 t) (iblk3 V c 2 t) (iblk3 V c 3 t) (iblk3 V c 4 t)) (fun i j => I.dhm (512 * t.val + i) j) := by
    have e := Rp.castSelf shapeCasts_S512x1024_S512x1024 (k3_7 (ib3_0 c t h3) (ib3_1 c t h2) (ib3_2 c t h0) (ib3_3 c t h1) (ib3_4 c t h4))
    rw [o3_5]
    exact e
  generalize iblk3 V c 0 t = x0, iblk3 V c 1 t = x1, iblk3 V c 2 t = x2, iblk3 V c 3 t = x3, iblk3 V c 4 t = x4 at key ⊢
  rw [key.at y]
  blk_simp [hi]
  rw [Nat.mul_comm 512]

theorem arr3_6 (h3 : Rp 2048 1024 (V c main_arg3) I.dq) (h2 : Rp 1024 1024 (V c main_arg2) I.w) (h0 : Rp 2048 1024 (V c main_arg0) I.h) (h1 : Rp 1 1024 (V c main_arg1) (fun _ j => I.g j)) (h4 : Rp 2048 1024 (V c main_arg4) I.dh) :
    Rp 2048 1024 ((dat3 V c).arrAt 6 cfg3.N) I.dhm := by
  intro i j
  refine (dat3 V c).arrAt_forall_of_covers 6 (fun y v => v = I.dhm (y 0 : Fin 2048) (y 1 : Fin 1024)) (by decide +kernel) (fun t hf y => ?_) (ix2 i j)
  rw [after3_6]
  have hN : (t : ℕ) < 4 := t.isLt.trans_eq N_3
  have hi : (cfg3.win 6).index t = ![t.val, 0] := by
    clear hf y hN; revert t; decide +kernel
  have key : Rp 512 1024 (out3_6 (iblk3 V c 0 t) (iblk3 V c 1 t) (iblk3 V c 2 t) (iblk3 V c 3 t) (iblk3 V c 4 t)) (fun i j => I.dhm (512 * t.val + i) j) := by
    have e := Rp.castSelf shapeCasts_S512x1024_S512x1024 (Rp.trunc (k3_7 (ib3_0 c t h3) (ib3_1 c t h2) (ib3_2 c t h0) (ib3_3 c t h1) (ib3_4 c t h4)) bitsLt_bf16_f32)
    rw [o3_6]
    exact e
  generalize iblk3 V c 0 t = x0, iblk3 V c 1 t = x1, iblk3 V c 2 t = x2, iblk3 V c 3 t = x3, iblk3 V c 4 t = x4 at key ⊢
  rw [key.at y]
  blk_simp [hi]
  rw [Nat.mul_comm 512]

theorem arr3_7 (h3 : Rp 2048 1024 (V c main_arg3) I.dq) (h2 : Rp 1024 1024 (V c main_arg2) I.w) (h0 : Rp 2048 1024 (V c main_arg0) I.h) :
    R3 4 1 1024 ((dat3 V c).arrAt 7 cfg3.N) (fun t _ j => I.dgt t j) := by
  intro k i j
  refine (dat3 V c).arrAt_forall_of_covers 7 (fun y v => v = I.dgt (y 0 : Fin 4) (y 2 : Fin 1024)) (by decide +kernel) (fun t hf y => ?_) (ix3 k i j)
  rw [after3_7]
  have hN : (t : ℕ) < 4 := t.isLt.trans_eq N_3
  have hi : (cfg3.win 7).index t = ![t.val, 0, 0] := by
    clear hf y hN; revert t; decide +kernel
  have key : R3 1 1 1024 (out3_7 (iblk3 V c 0 t) (iblk3 V c 1 t) (iblk3 V c 2 t) (iblk3 V c 3 t) (iblk3 V c 4 t)) (fun k _ j => I.dgt (t.val + k) j) := by
    have e := R3.of_eq (k3_6 (ib3_0 c t h3) (ib3_1 c t h2) (ib3_2 c t h0)) (g := fun k _ j => I.dgt (t.val + k) j) fun k i j hk _ _ => by
      obtain rfl : k = 0 := by omega
      rfl
    rw [o3_7]
    exact e
  generalize iblk3 V c 0 t = x0, iblk3 V c 1 t = x1, iblk3 V c 2 t = x2, iblk3 V c 3 t = x3, iblk3 V c 4 t = x4 at key ⊢
  rw [key.at y]
  blk_simp [hi]

/-! What a core holds. -/

/-- What a core is launched with. -/
structure Held (I : Query.In) (m : (ℓ : Loc nD τ sig) → Buf (Elt Ideal) ℓ) (c : Dev nD) : Prop where
  a0 : Rp 2048 1024 (m ((c : Thread nD τ).loc main_arg0)) I.h
  a1 : Rp 1 1024 (m ((c : Thread nD τ).loc main_arg1)) (fun _ j => I.g j)
  a2 : Rp 1024 1024 (m ((c : Thread nD τ).loc main_arg2)) I.w
  a3 : Rp 2048 1024 (m ((c : Thread nD τ).loc main_arg3)) I.dq
  a4 : Rp 2048 1024 (m ((c : Thread nD τ).loc main_arg4)) I.dh

variable (m : (ℓ : Loc nD τ sig) → Buf (Elt Ideal) ℓ) (ρ : Dev nD → PrngReg) (h : Held I m c)

include h

theorem w0_arg0 : Rp 2048 1024 (W0 m ρ c (Proc.devRef .tc main_arg0)) I.h := by
  rw [W0_args m ρ c main_arg0 (by decide)]
  exact h.a0

theorem w0_arg1 : Rp 1 1024 (W0 m ρ c (Proc.devRef .tc main_arg1)) (fun _ j => I.g j) := by
  rw [W0_args m ρ c main_arg1 (by decide)]
  exact h.a1

theorem w1_v0 : Rp 2048 1024 (W1 m ρ c (Proc.devRef .tc main_v0)) I.xn := by
  have e : W1 m ρ c (Proc.devRef .tc main_v0) = (dat0 (V0 m ρ) c).arrAt 2 cfg0.N := W1_arr m ρ c 2
  rw [e]
  exact arr0_2 c I (w0_arg0 c I m ρ h) (w0_arg1 c I m ρ h)

theorem w1_arg2 : Rp 1024 1024 (W1 m ρ c (Proc.devRef .tc main_arg2)) I.w := by
  rw [W1_args m ρ c main_arg2 (by decide)]
  exact h.a2

theorem w2_v1 : Rp 2048 1024 (W2 m ρ c (Proc.devRef .tc main_v1)) I.q := by
  have e : W2 m ρ c (Proc.devRef .tc main_v1) = (dat1 (V1 m ρ) c).arrAt 2 cfg1.N := W2_arr m ρ c 2
  rw [e]
  exact arr1_2 c I (w1_v0 c I m ρ h) (w1_arg2 c I m ρ h)

theorem w2_v0 : Rp 2048 1024 (W2 m ρ c (Proc.devRef .tc main_v0)) I.xn := by
  rw [W2_of m ρ c main_v0 (by decide)]
  exact w1_v0 c I m ρ h

theorem w2_arg3 : Rp 2048 1024 (W2 m ρ c (Proc.devRef .tc main_arg3)) I.dq := by
  rw [W2_args m ρ c main_arg3 (by decide)]
  exact h.a3

theorem w3_v2 : Rp 1024 1024 (W3 m ρ c (Proc.devRef .tc main_v2)) I.dw := by
  have e : W3 m ρ c (Proc.devRef .tc main_v2) = (dat2 (V2 m ρ) c).arrAt 2 cfg2.N := W3_arr m ρ c 2
  rw [e]
  exact arr2_2 c I (w2_v0 c I m ρ h) (w2_arg3 c I m ρ h)

theorem w3_arg3 : Rp 2048 1024 (W3 m ρ c (Proc.devRef .tc main_arg3)) I.dq := by
  rw [W3_args m ρ c main_arg3 (by decide)]
  exact h.a3

theorem w3_arg2 : Rp 1024 1024 (W3 m ρ c (Proc.devRef .tc main_arg2)) I.w := by
  rw [W3_args m ρ c main_arg2 (by decide)]
  exact h.a2

theorem w3_arg0 : Rp 2048 1024 (W3 m ρ c (Proc.devRef .tc main_arg0)) I.h := by
  rw [W3_args m ρ c main_arg0 (by decide)]
  exact h.a0

theorem w3_arg1 : Rp 1 1024 (W3 m ρ c (Proc.devRef .tc main_arg1)) (fun _ j => I.g j) := by
  rw [W3_args m ρ c main_arg1 (by decide)]
  exact h.a1

theorem w3_arg4 : Rp 2048 1024 (W3 m ρ c (Proc.devRef .tc main_arg4)) I.dh := by
  rw [W3_args m ρ c main_arg4 (by decide)]
  exact h.a4

theorem w4_v3_0 : Rp 2048 1024 (W4 m ρ c (Proc.devRef .tc main_v3_0)) I.dhm := by
  have e : W4 m ρ c (Proc.devRef .tc main_v3_0) = (dat3 (V3 m ρ) c).arrAt 5 cfg3.N := W4_arr m ρ c 5
  rw [e]
  exact arr3_5 c I (w3_arg3 c I m ρ h) (w3_arg2 c I m ρ h) (w3_arg0 c I m ρ h) (w3_arg1 c I m ρ h) (w3_arg4 c I m ρ h)

theorem w4_v3_1 : Rp 2048 1024 (W4 m ρ c (Proc.devRef .tc main_v3_1)) I.dhm := by
  have e : W4 m ρ c (Proc.devRef .tc main_v3_1) = (dat3 (V3 m ρ) c).arrAt 6 cfg3.N := W4_arr m ρ c 6
  rw [e]
  exact arr3_6 c I (w3_arg3 c I m ρ h) (w3_arg2 c I m ρ h) (w3_arg0 c I m ρ h) (w3_arg1 c I m ρ h) (w3_arg4 c I m ρ h)

theorem w4_v3_2 : R3 4 1 1024 (W4 m ρ c (Proc.devRef .tc main_v3_2)) (fun t _ j => I.dgt t j) := by
  have e : W4 m ρ c (Proc.devRef .tc main_v3_2) = (dat3 (V3 m ρ) c).arrAt 7 cfg3.N := W4_arr m ρ c 7
  rw [e]
  exact arr3_7 c I (w3_arg3 c I m ρ h) (w3_arg2 c I m ρ h) (w3_arg0 c I m ρ h)

theorem w5_v4 : Rp 1 1024 (W5 m ρ c (Proc.devRef .tc main_v4)) (fun _ j => I.dg j) := by
  after_reads_simp
  exact Rp.of_eq (sumTiles _ _ (w4_v3_2 c I m ρ h) (R0.cst lit_zero)) fun _ _ _ _ => rfl

theorem w5_v1 : Rp 2048 1024 (W5 m ρ c (Proc.devRef .tc main_v1)) I.q := by
  rw [W5_of m ρ c main_v1 (by decide), W4_of m ρ c main_v1 (by decide), W3_of m ρ c main_v1 (by decide)]
  exact w2_v1 c I m ρ h

theorem w5_v2 : Rp 1024 1024 (W5 m ρ c (Proc.devRef .tc main_v2)) I.dw := by
  rw [W5_of m ρ c main_v2 (by decide), W4_of m ρ c main_v2 (by decide)]
  exact w3_v2 c I m ρ h

theorem w5_v3_0 : Rp 2048 1024 (W5 m ρ c (Proc.devRef .tc main_v3_0)) I.dhm := by
  rw [W5_of m ρ c main_v3_0 (by decide)]
  exact w4_v3_0 c I m ρ h

theorem w5_v3_1 : Rp 2048 1024 (W5 m ρ c (Proc.devRef .tc main_v3_1)) I.dhm := by
  rw [W5_of m ρ c main_v3_1 (by decide)]
  exact w4_v3_1 c I m ρ h

end Cert.QueryKer
-- ==== Proof.QueryRef.lean ====
/- What the reference of the fourth program computes: the functions of `Query.In`. -/
module

public import proofs.«01_k».proof.Proof.Gen.Reference4Ideal.Run
public import proofs.«01_k».proof.Proof.FfnRef
public import proofs.«01_k».proof.Proof.Query

@[expose] public section

set_option maxRecDepth 16384

noncomputable section

namespace Cert.QueryRef

open Idealize.ShloMosaic Idealize.ShloMosaic.TcCoe Idealize.ShloMosaic.StableHlo
open Cert.Reference4Ideal Cert.Reference4Ideal.Gen Cert.Reference4Ideal.Value Cert.Ext
open Cert.FfnRef (sum_blocks)
open Cert.Ffn (lit_eps lit_1024 lit_mhalf)

/-! The reference's lines, as functions of its arguments: a literal, the mean square of a row, its scale, the stream in
    that scale and normed, the gradient of the normed stream and that times the gain, and the two terms of the norm's
    gradient that come through the scale. -/

abbrev lit (b : BitVec 32) : FVec Ideal S_ .f32 := constant S_ .f32 b
abbrev col (b : BitVec 32) : FVec Ideal S2048x1 .f32 := broadcastInDim S2048x1 ![] bcast_S_S2048x1 (lit b)
abbrev rowSum (x : FVec Ideal S2048x1024 .f32) : FVec Ideal S2048 .f32 := Host.reduceAdd x (lit 0x00000000#32) reducesTo_S2048x1024_S2048_d1 h_S_
abbrev down (x : FVec Ideal S2048x1 .f32) : FVec Ideal S2048x1024 .f32 := broadcastInDim S2048x1024 ![0, 1] bcast_S2048x1_S2048x1024_0_1 x

variable (h dh : FVec Ideal S2048x1024 .f32) (g : FVec Ideal S1x1024 .f32) (w : FVec Ideal S1024x1024 .bf16) (dq : FVec Ideal S2048x1024 .bf16)

abbrev sq : FVec Ideal S2048x1 .f32 := addf (Host.divf (broadcastInDim S2048x1 ![0] bcast_S2048_S2048x1_0 (rowSum (mulf h h))) (col 0x44800000#32)) (col 0x358637BD#32)
abbrev sc : FVec Ideal S2048x1 .f32 := Host.rsqrt (sq h)
abbrev xr : FVec Ideal S2048x1024 .f32 := mulf h (down (sc h))
abbrev gain : FVec Ideal S2048x1024 .f32 := broadcastInDim S2048x1024 ![0, 1] bcast_S1x1024_S2048x1024_0_1 g
abbrev xn : FVec Ideal S2048x1024 .f32 := mulf (xr h) (gain g)
abbrev dn : FVec Ideal S2048x1024 .f32 := Host.dotGeneral (φ₁ := .f32) (φ₂ := .f32) dot_S2048x1024_S1024x1024_S2048x1024_1_1_0_0_n_n none (extf .f32 dq bitsLt_bf16_f32) (extf .f32 w bitsLt_bf16_f32)
abbrev dx : FVec Ideal S2048x1024 .f32 := mulf (dn w dq) (gain g)
abbrev thr : FVec Ideal S2048x1024 .f32 := broadcastInDim S2048x1024 ![0] bcast_S2048_S2048x1024_0 (Host.reduceAdd
  (Host.divf (mulf (shapeCast S2048x1 (rowSum (mulf h (dx g w dq))) shapeCasts_S2048_S2048x1) (mulf (col 0xBF000000#32) (Host.divf (sc h) (sq h)))) (col 0x44800000#32))
  (lit 0x00000000#32) reducesTo_S2048x1_S2048_d1 h_S_)

variable {h dh g w dq} {I : Query.In} (h0 : Rp 2048 1024 h I.h) (h1 : Rp 1 1024 g (fun _ j => I.g j)) (h2 : Rp 1024 1024 w I.w) (h3 : Rp 2048 1024 dq I.dq)
  (h4 : Rp 2048 1024 dh I.dh)

section
include h0

theorem sq_Rp : Rp 2048 1 (sq h) (fun i _ => ms (I.h i)) :=
  Rp.of_eq (Rp.add (Rp.hdiv (Rp.hbcVec _ (R1.hrowSum _ _ (Rp.mul h0 h0) (R0.cst lit_zero))) (Rp.hcst _ (R0.cst lit_1024)))
    (Rp.hcst _ (R0.cst lit_eps))) fun i _ _ _ => rfl

theorem sc_Rp : Rp 2048 1 (sc h) (fun i _ => rn (I.h i)) := Rp.hrsqrt (sq_Rp h0)

theorem xr_Rp : Rp 2048 1024 (xr h) I.xr := Rp.mul h0 (Rp.hbcCol _ (sc_Rp h0))

include h1
theorem xn_Rp : Rp 2048 1024 (xn h g) I.xn := Rp.mul (xr_Rp h0) (Rp.hbcRow _ h1)

include h2
theorem q_Rp : Rp 2048 1024 (truncf (F := Ideal) (φ := .f32) .bf16 (mulf (Host.dotGeneral (F := Ideal) (φ₁ := .f32) (φ₂ := .f32) dot_S2048x1024_S1024x1024_S2048x1024_1_0_0_1_n_n none (xn h g) (extf .f32 w bitsLt_bf16_f32))
    (broadcastInDim S2048x1024 ![] bcast_S_S2048x1024 (lit 0x3E000000#32))) bitsLt_bf16_f32) I.q :=
  Rp.trunc (Rp.mul (dot_nn (fun i j => by pointwise) (xn_Rp h0 h1) (Rp.ext h2 bitsLt_bf16_f32)) (Rp.hcst _ (R0.cst rfl))) _
end

include h2 h3 in
theorem dn_Rp : Rp 2048 1024 (dn w dq) I.dn := dot_nt (fun i j => by pointwise) (Rp.ext h3 bitsLt_bf16_f32) (Rp.ext h2 bitsLt_bf16_f32)

include h0 h1 h3 in
theorem dw_Rp : Rp 1024 1024 (truncf (F := Ideal) (φ := .f32) .bf16 (transpose S1024x1024 [1, 0] (Host.dotGeneral (F := Ideal) (φ₁ := .f32) (φ₂ := .f32) dot_S2048x1024_S2048x1024_S1024x1024_0_0_1_1_n_n none
    (extf .f32 dq bitsLt_bf16_f32) (xn h g)) transposes_S1024x1024_S1024x1024_1_0) bitsLt_bf16_f32) I.dw := by
  have e : Rp 1024 1024 (Host.dotGeneral (F := Ideal) (φ₁ := .f32) (φ₂ := .f32) dot_S2048x1024_S2048x1024_S1024x1024_0_0_1_1_n_n none (extf .f32 dq bitsLt_bf16_f32) (xn h g)) _ :=
    dot_tn (fun i j => by pointwise) (Rp.ext h3 bitsLt_bf16_f32) (xn_Rp h0 h1)
  exact Rp.of_eq (Rp.trunc (turned e) _) fun k j _ _ => Finset.sum_congr rfl fun i _ => mul_comm _ _

include h0 h2 h3 in
theorem dg_Rp : Rp 1 1024 (shapeCast S1x1024 (Host.reduceAdd (mulf (xr h) (dn w dq)) (lit 0x00000000#32) reducesTo_S2048x1024_S1024_d0 h_S_) shapeCasts_S1024_S1x1024) (fun _ j => I.dg j) :=
  Rp.of_eq (row_of (R1.hsum _ _ (Rp.mul (xr_Rp h0) (dn_Rp h2 h3)) (R0.cst lit_zero))) fun _ j _ _ => by
    rw [show (2048 : ℕ) = 512 * 4 from rfl, sum_blocks]
    exact Finset.sum_congr rfl fun t _ => Finset.sum_congr rfl fun i _ => mul_comm _ _

section
include h0 h1 h2 h3

theorem dx_Rp : Rp 2048 1024 (dx g w dq) (fun i j => I.dn i j * I.g j) := Rp.mul (dn_Rp h2 h3) (Rp.hbcRow _ h1)

theorem thr_Rp : Rp 2048 1024 (thr h g w dq) (fun i _ => Ideal.div ((∑ k ∈ Finset.range 1024, I.h i k * (I.dn i k * I.g k)) * (((-(1 / 2) : ℝ) : EReal) * Ideal.div (rn (I.h i)) (ms (I.h i)))) ((1024 : ℝ) : EReal)) :=
  Rp.of_eq (Rp.hbcVec _ (R1.hrowSum _ _ (Rp.hdiv (Rp.mul (castCol (R1.hrowSum _ _ (Rp.mul h0 (dx_Rp h0 h1 h2 h3)) (R0.cst lit_zero)))
    (Rp.mul (Rp.hcst _ (R0.cst lit_mhalf)) (Rp.hdiv (sc_Rp h0) (sq_Rp h0)))) (Rp.hcst _ (R0.cst lit_1024))) (R0.cst lit_zero))) fun i j _ _ => Finset.sum_range_one _

include h4
theorem dhm_Rp : Rp 2048 1024 (addf dh (addf (addf (mulf (dx g w dq) (down (sc h))) (mulf h (thr h g w dq))) (mulf (thr h g w dq) h))) I.dhm :=
  Rp.of_eq (Rp.add h4 (Rp.add (Rp.add (Rp.mul (dx_Rp h0 h1 h2 h3) (Rp.hbcCol _ (sc_Rp h0))) (Rp.mul h0 (thr_Rp h0 h1 h2 h3))) (Rp.mul (thr_Rp h0 h1 h2 h3) h0))) fun i j _ hj =>
    congrArg (I.dh i j + ·) (norm_grad (I.h i) (fun k => I.dn i k * I.g k) j hj)
end

end Cert.QueryRef
-- ==== Proof.QueryAlg.lean ====
/- The fourth pair of programs' results are the same arrays of extended reals, whatever the arguments hold. -/
module

public import proofs.«01_k».proof.Defs
public import proofs.«01_k».proof.Proof.QueryKer
public import proofs.«01_k».proof.Proof.QueryRef
public import proofs.«01_k».proof.Proof.StartAlg
public import Idealize.ShloMosaic.Lib.Quiescent

@[expose] public section

noncomputable section

namespace Cert.QueryAlg

open Idealize.ShloMosaic Idealize.ShloMosaic.TcCoe Idealize.ShloMosaic.Tactic Cert.Ext
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen
open Cert.StartAlg (en en_Rp row_Rp eq_of_Rp)

section
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel ends with each core's buffers at the last host line's contents. -/
theorem run : θ_run (defs (F := F)) (onTc (τ := τ) (main (F := F))) ⟨m, fun _ => 0, ρ⟩ (fun r => ∀ c : Dev nD, ∀ b ∈ Pipeline.ucRefs τ sig,
      r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

end

/-- The operands a core's memory holds. -/
def inOf (m : (ℓ : Loc nD τ sig) → Buf (Elt Ideal) ℓ) (c : Dev nD) : Query.In where
  h := en (M := 2048) (N := 1024) (m ((c.tc : Thread nD τ).loc main_arg0))
  g := en (M := 1) (N := 1024) (m ((c.tc : Thread nD τ).loc main_arg1)) 0
  w := en (M := 1024) (N := 1024) (m ((c.tc : Thread nD τ).loc main_arg2))
  dq := en (M := 2048) (N := 1024) (m ((c.tc : Thread nD τ).loc main_arg3))
  dh := en (M := 2048) (N := 1024) (m ((c.tc : Thread nD τ).loc main_arg4))

theorem held (m : (ℓ : Loc nD τ sig) → Buf (Elt Ideal) ℓ) (c : Dev nD) : QueryKer.Held (inOf m c) m c := ⟨en_Rp _, row_Rp _, en_Rp _, en_Rp _, en_Rp _⟩

theorem algebraic : algebraic_Kernel4Ideal_Reference4Ideal (hKernel4Ideal := facts) (hReference4Ideal := Reference4Ideal.Gen.facts) := by
  intro m g m' g' _ hargs
  refine ⟨fun c => W5 m g c (Proc.devRef .tc main_v1), fun c => W5 m g c (Proc.devRef .tc main_v2), fun c => W5 m g c (Proc.devRef .tc main_v3_0), fun c => W5 m g c (Proc.devRef .tc main_v3_1), fun c => W5 m g c (Proc.devRef .tc main_v4), ?_, ?_⟩
  · refine (θ_run _ _ _).mono (fun r h c => ?_) (run m g)
    have u := fun b hb => h c _ (mem_uc b hb)
    exact ⟨u main_v1 (by decide), u main_v2 (by decide), u main_v3_0 (by decide), u main_v3_1 (by decide), u main_v4 (by decide),
      (u main_arg0 (by decide)).trans (W5_main_arg0 m g c), (u main_arg1 (by decide)).trans (W5_main_arg1 m g c), (u main_arg2 (by decide)).trans (W5_main_arg2 m g c), (u main_arg3 (by decide)).trans (W5_main_arg3 m g c), (u main_arg4 (by decide)).trans (W5_main_arg4 m g c)⟩
  · refine (θ_run _ _ _).mono (fun r h c => ?_) (Reference4Ideal.Value.run m' g')
    obtain ⟨a0, a1, a2, a3, a4⟩ := hargs c
    have hh := held m c
    have h0 : Rp 2048 1024 (m' ((c.tc : Thread nD τ).loc Reference4Ideal.main_arg0)) _ := fun i j => (congrFun a0 _).trans (hh.a0 i j)
    have h1 : Rp 1 1024 (m' ((c.tc : Thread nD τ).loc Reference4Ideal.main_arg1)) (fun _ j => (inOf m c).g j) := fun i j => (congrFun a1 _).trans (hh.a1 i j)
    have h2 : Rp 1024 1024 (m' ((c.tc : Thread nD τ).loc Reference4Ideal.main_arg2)) _ := fun i j => (congrFun a2 _).trans (hh.a2 i j)
    have h3 : Rp 2048 1024 (m' ((c.tc : Thread nD τ).loc Reference4Ideal.main_arg3)) _ := fun i j => (congrFun a3 _).trans (hh.a3 i j)
    have h4 : Rp 2048 1024 (m' ((c.tc : Thread nD τ).loc Reference4Ideal.main_arg4)) _ := fun i j => (congrFun a4 _).trans (hh.a4 i j)
    have d := QueryRef.dhm_Rp h0 h1 h2 h3 h4
    obtain ⟨r0, r1, r2, r3, r4, hr⟩ := h c
    exact ⟨r0.trans (eq_of_Rp (QueryRef.q_Rp h0 h1 h2) (QueryKer.w5_v1 c _ m g hh)), r1.trans (eq_of_Rp (QueryRef.dw_Rp h0 h1 h3) (QueryKer.w5_v2 c _ m g hh)),
      r2.trans (eq_of_Rp d (QueryKer.w5_v3_0 c _ m g hh)), r3.trans (eq_of_Rp (Rp.trunc d _) (QueryKer.w5_v3_1 c _ m g hh)),
      r4.trans (eq_of_Rp (QueryRef.dg_Rp h0 h2 h3) (QueryKer.w5_v4 c _ m g hh)), hr⟩

/-- The reference ends with its arguments unchanged and no semaphore raised. -/
theorem frameRef : quiescent_Reference4Ideal (hReference4Ideal := Reference4Ideal.Gen.facts) := fun m ρ _ =>
  (θ_run _ _ _).mono (fun _ h => ⟨fun c => (h c).2.2.2.2.2, sem_eq_zero_of_no_sems (by decide) _⟩) (Reference4Ideal.Value.run m ρ)

end Cert.QueryAlg
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefRun
public import proofs.«01_k».proof.Proof.Algebraic
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.FfnAlg
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.StartAlg
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.QueryAlg

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Algebraic.preFacts, Cert.FfnAlg.preFacts,
  fun m ρ _ => Cert.Kernel.Gen.frame m ρ, fun m ρ _ => Cert.KernelIdeal.Gen.frame m ρ, fun m ρ _ => Cert.KernelIdeal.Gen.frame m ρ,
  fun m ρ _ => (θ_run _ _ _).mono (fun _ h => ⟨fun c => ⟨(h.1 c _ rfl).trans (RefRun.end_arg0 m c), (h.1 c _ rfl).trans (RefRun.end_arg1 m c),
    (h.1 c _ rfl).trans (RefRun.end_arg2 m c), (h.1 c _ rfl).trans (RefRun.end_arg3 m c), (h.1 c _ rfl).trans (RefRun.end_arg4 m c),
    (h.1 c _ rfl).trans (RefRun.end_arg5 m c)⟩, h.2⟩) (RefRun.run m ρ),
  fun m ρ _ => (θ_run _ _ _).mono (fun _ h => ⟨fun c => ⟨(h.1 c _ rfl).trans (RefRun.end_arg0 m c), (h.1 c _ rfl).trans (RefRun.end_arg1 m c),
    (h.1 c _ rfl).trans (RefRun.end_arg2 m c), (h.1 c _ rfl).trans (RefRun.end_arg3 m c), (h.1 c _ rfl).trans (RefRun.end_arg4 m c),
    (h.1 c _ rfl).trans (RefRun.end_arg5 m c)⟩, h.2⟩) (RefRun.run m ρ),
  fun m ρ _ => Cert.Kernel2.Gen.frame m ρ, fun m ρ _ => Cert.Kernel2Ideal.Gen.frame m ρ, fun m ρ _ => Cert.Kernel2Ideal.Gen.frame m ρ,
  fun m ρ _ => (θ_run _ _ _).mono (fun _ h => ⟨fun c => ⟨(h.1 c _).trans (FfnRef.end_arg0 m c), (h.1 c _).trans (FfnRef.end_arg1 m c), (h.1 c _).trans (FfnRef.end_arg2 m c), (h.1 c _).trans (FfnRef.end_arg3 m c),
    (h.1 c _).trans (FfnRef.end_arg4 m c), (h.1 c _).trans (FfnRef.end_arg5 m c), (h.1 c _).trans (FfnRef.end_arg6 m c), (h.1 c _).trans (FfnRef.end_arg7 m c)⟩, h.2⟩) (FfnRef.run m ρ),
  fun m ρ _ => (θ_run _ _ _).mono (fun _ h => ⟨fun c => ⟨(h.1 c _).trans (FfnRef.end_arg0 m c), (h.1 c _).trans (FfnRef.end_arg1 m c), (h.1 c _).trans (FfnRef.end_arg2 m c), (h.1 c _).trans (FfnRef.end_arg3 m c),
    (h.1 c _).trans (FfnRef.end_arg4 m c), (h.1 c _).trans (FfnRef.end_arg5 m c), (h.1 c _).trans (FfnRef.end_arg6 m c), (h.1 c _).trans (FfnRef.end_arg7 m c)⟩, h.2⟩) (FfnRef.run m ρ),
  fun m ρ _ => Cert.Kernel3.Gen.frame m ρ, fun m ρ _ => Cert.Kernel3Ideal.Gen.frame m ρ,
  Cert.StartAlg.frameRef, fun m ρ _ => Cert.Kernel4.Gen.frame m ρ, fun m ρ _ => Cert.Kernel4Ideal.Gen.frame m ρ, Cert.QueryAlg.frameRef,
  ⟨IdealRules.named_const.statement _ _ _ _ _ rfl, IdealRules.named_const.statement _ _ _ _ _ rfl⟩,
  Cert.Algebraic.algebraic, trivial, Cert.FfnAlg.algebraic, trivial, Cert.StartAlg.algebraic, trivial, Cert.QueryAlg.algebraic⟩

end Cert.Proof

end
